-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_WeightKernel (m : (ℓ : Loc Cert.WeightKernel.nD Cert.WeightKernel.τ Cert.WeightKernel.sig) → Buf (Elt Bits) ℓ) : Prop :=
  True

def Pre_WeightKernelIdeal (m : (ℓ : Loc Cert.WeightKernelIdeal.nD Cert.WeightKernelIdeal.τ Cert.WeightKernelIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DownWeightKernel (m : (ℓ : Loc Cert.DownWeightKernel.nD Cert.DownWeightKernel.τ Cert.DownWeightKernel.sig) → Buf (Elt Bits) ℓ) : Prop :=
  True

def Pre_DownWeightKernelIdeal (m : (ℓ : Loc Cert.DownWeightKernelIdeal.nD Cert.DownWeightKernelIdeal.τ Cert.DownWeightKernelIdeal.sig) → Buf (Elt Ideal) ℓ) : Prop :=
  True

def Pre_DownWeightReferenceIdeal (m : (ℓ : Loc Cert.DownWeightReferenceIdeal.nD Cert.DownWeightReferenceIdeal.τ Cert.DownWeightReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_MixWeightKernel (m : (ℓ : Loc Cert.MixWeightKernel.nD Cert.MixWeightKernel.τ Cert.MixWeightKernel.sig) → Buf (Elt Bits) ℓ) : Prop :=
  True

def Pre_MixWeightKernelIdeal (m : (ℓ : Loc Cert.MixWeightKernelIdeal.nD Cert.MixWeightKernelIdeal.τ Cert.MixWeightKernelIdeal.sig) → Buf (Elt Ideal) ℓ) : Prop :=
  True

def Pre_MixWeightReferenceIdeal (m : (ℓ : Loc Cert.MixWeightReferenceIdeal.nD Cert.MixWeightReferenceIdeal.τ Cert.MixWeightReferenceIdeal.sig) → Buf (Elt Ideal) ℓ) : Prop :=
  True

def Pre_ConvWeightKernel (m : (ℓ : Loc Cert.ConvWeightKernel.nD Cert.ConvWeightKernel.τ Cert.ConvWeightKernel.sig) → Buf (Elt Bits) ℓ) : Prop :=
  True

def Pre_ConvWeightKernelIdeal (m : (ℓ : Loc Cert.ConvWeightKernelIdeal.nD Cert.ConvWeightKernelIdeal.τ Cert.ConvWeightKernelIdeal.sig) → Buf (Elt Ideal) ℓ) : Prop :=
  True

def Pre_ConvWeightReferenceIdeal (m : (ℓ : Loc Cert.ConvWeightReferenceIdeal.nD Cert.ConvWeightReferenceIdeal.τ Cert.ConvWeightReferenceIdeal.sig) → Buf (Elt Ideal) ℓ) : Prop :=
  True

def Pre_SquareWeightKernel (m : (ℓ : Loc Cert.SquareWeightKernel.nD Cert.SquareWeightKernel.τ Cert.SquareWeightKernel.sig) → Buf (Elt Bits) ℓ) : Prop :=
  True

def Pre_SquareWeightKernelIdeal (m : (ℓ : Loc Cert.SquareWeightKernelIdeal.nD Cert.SquareWeightKernelIdeal.τ Cert.SquareWeightKernelIdeal.sig) → Buf (Elt Ideal) ℓ) : Prop :=
  True

def Pre_SquareWeightReferenceIdeal (m : (ℓ : Loc Cert.SquareWeightReferenceIdeal.nD Cert.SquareWeightReferenceIdeal.τ Cert.SquareWeightReferenceIdeal.sig) → Buf (Elt Ideal) ℓ) : Prop :=
  True

def Pre_ConvInputKernel (m : (ℓ : Loc Cert.ConvInputKernel.nD Cert.ConvInputKernel.τ Cert.ConvInputKernel.sig) → Buf (Elt Bits) ℓ) : Prop :=
  True

def Pre_ConvInputKernelIdeal (m : (ℓ : Loc Cert.ConvInputKernelIdeal.nD Cert.ConvInputKernelIdeal.τ Cert.ConvInputKernelIdeal.sig) → Buf (Elt Ideal) ℓ) : Prop :=
  True

def Pre_ConvInputReferenceIdeal (m : (ℓ : Loc Cert.ConvInputReferenceIdeal.nD Cert.ConvInputReferenceIdeal.τ Cert.ConvInputReferenceIdeal.sig) → Buf (Elt Ideal) ℓ) : Prop :=
  True

def Pre_AttnBackKernel (m : (ℓ : Loc Cert.AttnBackKernel.nD Cert.AttnBackKernel.τ Cert.AttnBackKernel.sig) → Buf (Elt Bits) ℓ) : Prop :=
  True

def Pre_AttnBackKernelIdeal (m : (ℓ : Loc Cert.AttnBackKernelIdeal.nD Cert.AttnBackKernelIdeal.τ Cert.AttnBackKernelIdeal.sig) → Buf (Elt Ideal) ℓ) : Prop :=
  True

def Pre_AttnBackReferenceIdeal (m : (ℓ : Loc Cert.AttnBackReferenceIdeal.nD Cert.AttnBackReferenceIdeal.τ Cert.AttnBackReferenceIdeal.sig) → Buf (Elt Ideal) ℓ) : Prop :=
  True

def Pre_ConvBackKernel (m : (ℓ : Loc Cert.ConvBackKernel.nD Cert.ConvBackKernel.τ Cert.ConvBackKernel.sig) → Buf (Elt Bits) ℓ) : Prop :=
  True

def Pre_ConvBackKernelIdeal (m : (ℓ : Loc Cert.ConvBackKernelIdeal.nD Cert.ConvBackKernelIdeal.τ Cert.ConvBackKernelIdeal.sig) → Buf (Elt Ideal) ℓ) : Prop :=
  True

def Pre_ConvBackReferenceIdeal (m : (ℓ : Loc Cert.ConvBackReferenceIdeal.nD Cert.ConvBackReferenceIdeal.τ Cert.ConvBackReferenceIdeal.sig) → Buf (Elt Ideal) ℓ) : Prop :=
  True

def Pre_AttnInKernel (m : (ℓ : Loc Cert.AttnInKernel.nD Cert.AttnInKernel.τ Cert.AttnInKernel.sig) → Buf (Elt Bits) ℓ) : Prop :=
  True

def Pre_AttnInKernelIdeal (m : (ℓ : Loc Cert.AttnInKernelIdeal.nD Cert.AttnInKernelIdeal.τ Cert.AttnInKernelIdeal.sig) → Buf (Elt Ideal) ℓ) : Prop :=
  True

def Pre_AttnInReferenceIdeal (m : (ℓ : Loc Cert.AttnInReferenceIdeal.nD Cert.AttnInReferenceIdeal.τ Cert.AttnInReferenceIdeal.sig) → Buf (Elt Ideal) ℓ) : Prop :=
  True

def Pre_ConvInKernel (m : (ℓ : Loc Cert.ConvInKernel.nD Cert.ConvInKernel.τ Cert.ConvInKernel.sig) → Buf (Elt Bits) ℓ) : Prop :=
  True

def Pre_ConvInKernelIdeal (m : (ℓ : Loc Cert.ConvInKernelIdeal.nD Cert.ConvInKernelIdeal.τ Cert.ConvInKernelIdeal.sig) → Buf (Elt Ideal) ℓ) : Prop :=
  True

def Pre_ConvInReferenceIdeal (m : (ℓ : Loc Cert.ConvInReferenceIdeal.nD Cert.ConvInReferenceIdeal.τ Cert.ConvInReferenceIdeal.sig) → Buf (Elt Ideal) ℓ) : Prop :=
  True

def Pre_AttnOutKernel (m : (ℓ : Loc Cert.AttnOutKernel.nD Cert.AttnOutKernel.τ Cert.AttnOutKernel.sig) → Buf (Elt Bits) ℓ) : Prop :=
  True

def Pre_AttnOutKernelIdeal (m : (ℓ : Loc Cert.AttnOutKernelIdeal.nD Cert.AttnOutKernelIdeal.τ Cert.AttnOutKernelIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_ConvOutKernel (m : (ℓ : Loc Cert.ConvOutKernel.nD Cert.ConvOutKernel.τ Cert.ConvOutKernel.sig) → Buf (Elt Bits) ℓ) : Prop :=
  True

def Pre_ConvOutKernelIdeal (m : (ℓ : Loc Cert.ConvOutKernelIdeal.nD Cert.ConvOutKernelIdeal.τ Cert.ConvOutKernelIdeal.sig) → Buf (Elt Ideal) ℓ) : Prop :=
  True

def Pre_ConvOutReferenceIdeal (m : (ℓ : Loc Cert.ConvOutReferenceIdeal.nD Cert.ConvOutReferenceIdeal.τ Cert.ConvOutReferenceIdeal.sig) → Buf (Elt Ideal) ℓ) : Prop :=
  True

def Pre_LastKernel (m : (ℓ : Loc Cert.LastKernel.nD Cert.LastKernel.τ Cert.LastKernel.sig) → Buf (Elt Bits) ℓ) : Prop :=
  True

def Pre_LastKernelIdeal (m : (ℓ : Loc Cert.LastKernelIdeal.nD Cert.LastKernelIdeal.τ Cert.LastKernelIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_UpStepKernel (m : (ℓ : Loc Cert.UpStepKernel.nD Cert.UpStepKernel.τ Cert.UpStepKernel.sig) → Buf (Elt Bits) ℓ) : Prop :=
  True

def Pre_UpStepKernelIdeal (m : (ℓ : Loc Cert.UpStepKernelIdeal.nD Cert.UpStepKernelIdeal.τ Cert.UpStepKernelIdeal.sig) → Buf (Elt Ideal) ℓ) : Prop :=
  True

def Pre_UpStepReferenceIdeal (m : (ℓ : Loc Cert.UpStepReferenceIdeal.nD Cert.UpStepReferenceIdeal.τ Cert.UpStepReferenceIdeal.sig) → Buf (Elt Ideal) ℓ) : Prop :=
  True

def Pre_DownStepKernel (m : (ℓ : Loc Cert.DownStepKernel.nD Cert.DownStepKernel.τ Cert.DownStepKernel.sig) → Buf (Elt Bits) ℓ) : Prop :=
  True

def Pre_DownStepKernelIdeal (m : (ℓ : Loc Cert.DownStepKernelIdeal.nD Cert.DownStepKernelIdeal.τ Cert.DownStepKernelIdeal.sig) → Buf (Elt Ideal) ℓ) : Prop :=
  True

def Pre_DownStepReferenceIdeal (m : (ℓ : Loc Cert.DownStepReferenceIdeal.nD Cert.DownStepReferenceIdeal.τ Cert.DownStepReferenceIdeal.sig) → Buf (Elt Ideal) ℓ) : Prop :=
  True

def Pre_FirstConvInputKernel (m : (ℓ : Loc Cert.FirstConvInputKernel.nD Cert.FirstConvInputKernel.τ Cert.FirstConvInputKernel.sig) → Buf (Elt Bits) ℓ) : Prop :=
  True

def Pre_FirstConvInputKernelIdeal (m : (ℓ : Loc Cert.FirstConvInputKernelIdeal.nD Cert.FirstConvInputKernelIdeal.τ Cert.FirstConvInputKernelIdeal.sig) → Buf (Elt Ideal) ℓ) : Prop :=
  True

def Pre_FirstConvInputReferenceIdeal (m : (ℓ : Loc Cert.FirstConvInputReferenceIdeal.nD Cert.FirstConvInputReferenceIdeal.τ Cert.FirstConvInputReferenceIdeal.sig) → Buf (Elt Ideal) ℓ) : Prop :=
  True

def Pre_FirstAttnBackKernel (m : (ℓ : Loc Cert.FirstAttnBackKernel.nD Cert.FirstAttnBackKernel.τ Cert.FirstAttnBackKernel.sig) → Buf (Elt Bits) ℓ) : Prop :=
  True

def Pre_FirstAttnBackKernelIdeal (m : (ℓ : Loc Cert.FirstAttnBackKernelIdeal.nD Cert.FirstAttnBackKernelIdeal.τ Cert.FirstAttnBackKernelIdeal.sig) → Buf (Elt Ideal) ℓ) : Prop :=
  True

def Pre_FirstAttnBackReferenceIdeal (m : (ℓ : Loc Cert.FirstAttnBackReferenceIdeal.nD Cert.FirstAttnBackReferenceIdeal.τ Cert.FirstAttnBackReferenceIdeal.sig) → Buf (Elt Ideal) ℓ) : Prop :=
  True

def Pre_FirstConvBackKernel (m : (ℓ : Loc Cert.FirstConvBackKernel.nD Cert.FirstConvBackKernel.τ Cert.FirstConvBackKernel.sig) → Buf (Elt Bits) ℓ) : Prop :=
  True

def Pre_FirstConvBackKernelIdeal (m : (ℓ : Loc Cert.FirstConvBackKernelIdeal.nD Cert.FirstConvBackKernelIdeal.τ Cert.FirstConvBackKernelIdeal.sig) → Buf (Elt Ideal) ℓ) : Prop :=
  True

def Pre_FirstConvBackReferenceIdeal (m : (ℓ : Loc Cert.FirstConvBackReferenceIdeal.nD Cert.FirstConvBackReferenceIdeal.τ Cert.FirstConvBackReferenceIdeal.sig) → Buf (Elt Ideal) ℓ) : Prop :=
  True

def Pre_FirstConvInKernel (m : (ℓ : Loc Cert.FirstConvInKernel.nD Cert.FirstConvInKernel.τ Cert.FirstConvInKernel.sig) → Buf (Elt Bits) ℓ) : Prop :=
  True

def Pre_FirstConvInKernelIdeal (m : (ℓ : Loc Cert.FirstConvInKernelIdeal.nD Cert.FirstConvInKernelIdeal.τ Cert.FirstConvInKernelIdeal.sig) → Buf (Elt Ideal) ℓ) : Prop :=
  True

def Pre_FirstConvInReferenceIdeal (m : (ℓ : Loc Cert.FirstConvInReferenceIdeal.nD Cert.FirstConvInReferenceIdeal.τ Cert.FirstConvInReferenceIdeal.sig) → Buf (Elt Ideal) ℓ) : Prop :=
  True

def Pre_FirstAttnOutKernel (m : (ℓ : Loc Cert.FirstAttnOutKernel.nD Cert.FirstAttnOutKernel.τ Cert.FirstAttnOutKernel.sig) → Buf (Elt Bits) ℓ) : Prop :=
  True

def Pre_FirstAttnOutKernelIdeal (m : (ℓ : Loc Cert.FirstAttnOutKernelIdeal.nD Cert.FirstAttnOutKernelIdeal.τ Cert.FirstAttnOutKernelIdeal.sig) → Buf (Elt Ideal) ℓ) : Prop :=
  True

def Pre_FirstAttnOutReferenceIdeal (m : (ℓ : Loc Cert.FirstAttnOutReferenceIdeal.nD Cert.FirstAttnOutReferenceIdeal.τ Cert.FirstAttnOutReferenceIdeal.sig) → Buf (Elt Ideal) ℓ) : Prop :=
  True

def Pre_FirstConvOutKernel (m : (ℓ : Loc Cert.FirstConvOutKernel.nD Cert.FirstConvOutKernel.τ Cert.FirstConvOutKernel.sig) → Buf (Elt Bits) ℓ) : Prop :=
  True

def Pre_FirstConvOutKernelIdeal (m : (ℓ : Loc Cert.FirstConvOutKernelIdeal.nD Cert.FirstConvOutKernelIdeal.τ Cert.FirstConvOutKernelIdeal.sig) → Buf (Elt Ideal) ℓ) : Prop :=
  True

def Pre_FirstConvOutReferenceIdeal (m : (ℓ : Loc Cert.FirstConvOutReferenceIdeal.nD Cert.FirstConvOutReferenceIdeal.τ Cert.FirstConvOutReferenceIdeal.sig) → Buf (Elt Ideal) ℓ) : Prop :=
  True

def Pre_MixStepKernel (m : (ℓ : Loc Cert.MixStepKernel.nD Cert.MixStepKernel.τ Cert.MixStepKernel.sig) → Buf (Elt Bits) ℓ) : Prop :=
  True

def Pre_MixStepKernelIdeal (m : (ℓ : Loc Cert.MixStepKernelIdeal.nD Cert.MixStepKernelIdeal.τ Cert.MixStepKernelIdeal.sig) → Buf (Elt Ideal) ℓ) : Prop :=
  True

def Pre_MixStepReferenceIdeal (m : (ℓ : Loc Cert.MixStepReferenceIdeal.nD Cert.MixStepReferenceIdeal.τ Cert.MixStepReferenceIdeal.sig) → Buf (Elt Ideal) ℓ) : Prop :=
  True

def Pre_ConvStepKernel (m : (ℓ : Loc Cert.ConvStepKernel.nD Cert.ConvStepKernel.τ Cert.ConvStepKernel.sig) → Buf (Elt Bits) ℓ) : Prop :=
  True

def Pre_ConvStepKernelIdeal (m : (ℓ : Loc Cert.ConvStepKernelIdeal.nD Cert.ConvStepKernelIdeal.τ Cert.ConvStepKernelIdeal.sig) → Buf (Elt Ideal) ℓ) : Prop :=
  True

def Pre_ConvStepReferenceIdeal (m : (ℓ : Loc Cert.ConvStepReferenceIdeal.nD Cert.ConvStepReferenceIdeal.τ Cert.ConvStepReferenceIdeal.sig) → Buf (Elt Ideal) ℓ) : Prop :=
  True

def Pre_SquareStepKernel (m : (ℓ : Loc Cert.SquareStepKernel.nD Cert.SquareStepKernel.τ Cert.SquareStepKernel.sig) → Buf (Elt Bits) ℓ) : Prop :=
  True

def Pre_SquareStepKernelIdeal (m : (ℓ : Loc Cert.SquareStepKernelIdeal.nD Cert.SquareStepKernelIdeal.τ Cert.SquareStepKernelIdeal.sig) → Buf (Elt Ideal) ℓ) : Prop :=
  True

def Pre_SquareStepReferenceIdeal (m : (ℓ : Loc Cert.SquareStepReferenceIdeal.nD Cert.SquareStepReferenceIdeal.τ Cert.SquareStepReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_SmallStepKernel (m : (ℓ : Loc Cert.SmallStepKernel.nD Cert.SmallStepKernel.τ Cert.SmallStepKernel.sig) → Buf (Elt Bits) ℓ) : Prop :=
  True

def Pre_SmallStepKernelIdeal (m : (ℓ : Loc Cert.SmallStepKernelIdeal.nD Cert.SmallStepKernelIdeal.τ Cert.SmallStepKernelIdeal.sig) → Buf (Elt Ideal) ℓ) : Prop :=
  True

def Pre_SmallStepReferenceIdeal (m : (ℓ : Loc Cert.SmallStepReferenceIdeal.nD Cert.SmallStepReferenceIdeal.τ Cert.SmallStepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_WeightKernel [hWeightKernel : Cert.WeightKernel.Facts] : Prop :=
  ∀ (m : (ℓ : Loc Cert.WeightKernel.nD Cert.WeightKernel.τ Cert.WeightKernel.sig) → Buf (Elt Bits) ℓ) (g : Dev Cert.WeightKernel.nD → PrngReg), Pre_WeightKernel m →
    θ_run (Cert.WeightKernel.defs (F := Bits)) (onTc (τ := Cert.WeightKernel.τ) (Cert.WeightKernel.main (F := Bits))) ⟨m, fun _ => 0, g⟩ (fun r => (∀ c : Dev Cert.WeightKernel.nD,
      r.2.mem ((c.tc : Thread Cert.WeightKernel.nD Cert.WeightKernel.τ).loc Cert.WeightKernel.main_arg0) = m ((c.tc : Thread Cert.WeightKernel.nD Cert.WeightKernel.τ).loc Cert.WeightKernel.main_arg0)
      ∧ r.2.mem ((c.tc : Thread Cert.WeightKernel.nD Cert.WeightKernel.τ).loc Cert.WeightKernel.main_arg1) = m ((c.tc : Thread Cert.WeightKernel.nD Cert.WeightKernel.τ).loc Cert.WeightKernel.main_arg1)
      ∧ r.2.mem ((c.tc : Thread Cert.WeightKernel.nD Cert.WeightKernel.τ).loc Cert.WeightKernel.main_arg2) = m ((c.tc : Thread Cert.WeightKernel.nD Cert.WeightKernel.τ).loc Cert.WeightKernel.main_arg2))
      ∧ r.2.sem = fun _ => 0)

def quiescent_WeightKernelIdeal [hWeightKernelIdeal : Cert.WeightKernelIdeal.Facts] : Prop :=
  ∀ (m : (ℓ : Loc Cert.WeightKernelIdeal.nD Cert.WeightKernelIdeal.τ Cert.WeightKernelIdeal.sig) → Buf (Elt Ideal) ℓ) (g : Dev Cert.WeightKernelIdeal.nD → PrngReg), Pre_WeightKernelIdeal m →
    θ_run (Cert.WeightKernelIdeal.defs (F := Ideal)) (onTc (τ := Cert.WeightKernelIdeal.τ) (Cert.WeightKernelIdeal.main (F := Ideal))) ⟨m, fun _ => 0, g⟩ (fun r => (∀ c : Dev Cert.WeightKernelIdeal.nD,
      r.2.mem ((c.tc : Thread Cert.WeightKernelIdeal.nD Cert.WeightKernelIdeal.τ).loc Cert.WeightKernelIdeal.main_arg0) = m ((c.tc : Thread Cert.WeightKernelIdeal.nD Cert.WeightKernelIdeal.τ).loc Cert.WeightKernelIdeal.main_arg0)
      ∧ r.2.mem ((c.tc : Thread Cert.WeightKernelIdeal.nD Cert.WeightKernelIdeal.τ).loc Cert.WeightKernelIdeal.main_arg1) = m ((c.tc : Thread Cert.WeightKernelIdeal.nD Cert.WeightKernelIdeal.τ).loc Cert.WeightKernelIdeal.main_arg1)
      ∧ r.2.mem ((c.tc : Thread Cert.WeightKernelIdeal.nD Cert.WeightKernelIdeal.τ).loc Cert.WeightKernelIdeal.main_arg2) = m ((c.tc : Thread Cert.WeightKernelIdeal.nD Cert.WeightKernelIdeal.τ).loc Cert.WeightKernelIdeal.main_arg2))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1)
      ∧ r.2.mem ((c.tc : Thread Cert.WeightReferenceIdeal.nD Cert.WeightReferenceIdeal.τ).loc Cert.WeightReferenceIdeal.main_arg2) = m ((c.tc : Thread Cert.WeightReferenceIdeal.nD Cert.WeightReferenceIdeal.τ).loc Cert.WeightReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_DownWeightKernel [hDownWeightKernel : Cert.DownWeightKernel.Facts] : Prop :=
  ∀ (m : (ℓ : Loc Cert.DownWeightKernel.nD Cert.DownWeightKernel.τ Cert.DownWeightKernel.sig) → Buf (Elt Bits) ℓ) (g : Dev Cert.DownWeightKernel.nD → PrngReg), Pre_DownWeightKernel m →
    θ_run (Cert.DownWeightKernel.defs (F := Bits)) (onTc (τ := Cert.DownWeightKernel.τ) (Cert.DownWeightKernel.main (F := Bits))) ⟨m, fun _ => 0, g⟩ (fun r => (∀ c : Dev Cert.DownWeightKernel.nD,
      r.2.mem ((c.tc : Thread Cert.DownWeightKernel.nD Cert.DownWeightKernel.τ).loc Cert.DownWeightKernel.main_arg0) = m ((c.tc : Thread Cert.DownWeightKernel.nD Cert.DownWeightKernel.τ).loc Cert.DownWeightKernel.main_arg0)
      ∧ r.2.mem ((c.tc : Thread Cert.DownWeightKernel.nD Cert.DownWeightKernel.τ).loc Cert.DownWeightKernel.main_arg1) = m ((c.tc : Thread Cert.DownWeightKernel.nD Cert.DownWeightKernel.τ).loc Cert.DownWeightKernel.main_arg1))
      ∧ r.2.sem = fun _ => 0)

def quiescent_DownWeightKernelIdeal [hDownWeightKernelIdeal : Cert.DownWeightKernelIdeal.Facts] : Prop :=
  ∀ (m : (ℓ : Loc Cert.DownWeightKernelIdeal.nD Cert.DownWeightKernelIdeal.τ Cert.DownWeightKernelIdeal.sig) → Buf (Elt Ideal) ℓ) (g : Dev Cert.DownWeightKernelIdeal.nD → PrngReg), Pre_DownWeightKernelIdeal m →
    θ_run (Cert.DownWeightKernelIdeal.defs (F := Ideal)) (onTc (τ := Cert.DownWeightKernelIdeal.τ) (Cert.DownWeightKernelIdeal.main (F := Ideal))) ⟨m, fun _ => 0, g⟩ (fun r => (∀ c : Dev Cert.DownWeightKernelIdeal.nD,
      r.2.mem ((c.tc : Thread Cert.DownWeightKernelIdeal.nD Cert.DownWeightKernelIdeal.τ).loc Cert.DownWeightKernelIdeal.main_arg0) = m ((c.tc : Thread Cert.DownWeightKernelIdeal.nD Cert.DownWeightKernelIdeal.τ).loc Cert.DownWeightKernelIdeal.main_arg0)
      ∧ r.2.mem ((c.tc : Thread Cert.DownWeightKernelIdeal.nD Cert.DownWeightKernelIdeal.τ).loc Cert.DownWeightKernelIdeal.main_arg1) = m ((c.tc : Thread Cert.DownWeightKernelIdeal.nD Cert.DownWeightKernelIdeal.τ).loc Cert.DownWeightKernelIdeal.main_arg1))
      ∧ r.2.sem = fun _ => 0)

def quiescent_DownWeightReferenceIdeal [hDownWeightReferenceIdeal : Cert.DownWeightReferenceIdeal.Facts] : Prop :=
  ∀ (m : (ℓ : Loc Cert.DownWeightReferenceIdeal.nD Cert.DownWeightReferenceIdeal.τ Cert.DownWeightReferenceIdeal.sig) → Buf (Elt Ideal) ℓ) (g : Dev Cert.DownWeightReferenceIdeal.nD → PrngReg), Pre_DownWeightReferenceIdeal m →
    θ_run (Cert.DownWeightReferenceIdeal.defs (F := Ideal)) (onTc (τ := Cert.DownWeightReferenceIdeal.τ) (Cert.DownWeightReferenceIdeal.main (F := Ideal))) ⟨m, fun _ => 0, g⟩ (fun r => (∀ c : Dev Cert.DownWeightReferenceIdeal.nD,
      r.2.mem ((c.tc : Thread Cert.DownWeightReferenceIdeal.nD Cert.DownWeightReferenceIdeal.τ).loc Cert.DownWeightReferenceIdeal.main_arg0) = m ((c.tc : Thread Cert.DownWeightReferenceIdeal.nD Cert.DownWeightReferenceIdeal.τ).loc Cert.DownWeightReferenceIdeal.main_arg0)
      ∧ r.2.mem ((c.tc : Thread Cert.DownWeightReferenceIdeal.nD Cert.DownWeightReferenceIdeal.τ).loc Cert.DownWeightReferenceIdeal.main_arg1) = m ((c.tc : Thread Cert.DownWeightReferenceIdeal.nD Cert.DownWeightReferenceIdeal.τ).loc Cert.DownWeightReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_MixWeightKernel [hMixWeightKernel : Cert.MixWeightKernel.Facts] : Prop :=
  ∀ (m : (ℓ : Loc Cert.MixWeightKernel.nD Cert.MixWeightKernel.τ Cert.MixWeightKernel.sig) → Buf (Elt Bits) ℓ) (g : Dev Cert.MixWeightKernel.nD → PrngReg), Pre_MixWeightKernel m →
    θ_run (Cert.MixWeightKernel.defs (F := Bits)) (onTc (τ := Cert.MixWeightKernel.τ) (Cert.MixWeightKernel.main (F := Bits))) ⟨m, fun _ => 0, g⟩ (fun r => (∀ c : Dev Cert.MixWeightKernel.nD,
      r.2.mem ((c.tc : Thread Cert.MixWeightKernel.nD Cert.MixWeightKernel.τ).loc Cert.MixWeightKernel.main_arg0) = m ((c.tc : Thread Cert.MixWeightKernel.nD Cert.MixWeightKernel.τ).loc Cert.MixWeightKernel.main_arg0)
      ∧ r.2.mem ((c.tc : Thread Cert.MixWeightKernel.nD Cert.MixWeightKernel.τ).loc Cert.MixWeightKernel.main_arg1) = m ((c.tc : Thread Cert.MixWeightKernel.nD Cert.MixWeightKernel.τ).loc Cert.MixWeightKernel.main_arg1)
      ∧ r.2.mem ((c.tc : Thread Cert.MixWeightKernel.nD Cert.MixWeightKernel.τ).loc Cert.MixWeightKernel.main_arg2) = m ((c.tc : Thread Cert.MixWeightKernel.nD Cert.MixWeightKernel.τ).loc Cert.MixWeightKernel.main_arg2))
      ∧ r.2.sem = fun _ => 0)

def quiescent_MixWeightKernelIdeal [hMixWeightKernelIdeal : Cert.MixWeightKernelIdeal.Facts] : Prop :=
  ∀ (m : (ℓ : Loc Cert.MixWeightKernelIdeal.nD Cert.MixWeightKernelIdeal.τ Cert.MixWeightKernelIdeal.sig) → Buf (Elt Ideal) ℓ) (g : Dev Cert.MixWeightKernelIdeal.nD → PrngReg), Pre_MixWeightKernelIdeal m →
    θ_run (Cert.MixWeightKernelIdeal.defs (F := Ideal)) (onTc (τ := Cert.MixWeightKernelIdeal.τ) (Cert.MixWeightKernelIdeal.main (F := Ideal))) ⟨m, fun _ => 0, g⟩ (fun r => (∀ c : Dev Cert.MixWeightKernelIdeal.nD,
      r.2.mem ((c.tc : Thread Cert.MixWeightKernelIdeal.nD Cert.MixWeightKernelIdeal.τ).loc Cert.MixWeightKernelIdeal.main_arg0) = m ((c.tc : Thread Cert.MixWeightKernelIdeal.nD Cert.MixWeightKernelIdeal.τ).loc Cert.MixWeightKernelIdeal.main_arg0)
      ∧ r.2.mem ((c.tc : Thread Cert.MixWeightKernelIdeal.nD Cert.MixWeightKernelIdeal.τ).loc Cert.MixWeightKernelIdeal.main_arg1) = m ((c.tc : Thread Cert.MixWeightKernelIdeal.nD Cert.MixWeightKernelIdeal.τ).loc Cert.MixWeightKernelIdeal.main_arg1)
      ∧ r.2.mem ((c.tc : Thread Cert.MixWeightKernelIdeal.nD Cert.MixWeightKernelIdeal.τ).loc Cert.MixWeightKernelIdeal.main_arg2) = m ((c.tc : Thread Cert.MixWeightKernelIdeal.nD Cert.MixWeightKernelIdeal.τ).loc Cert.MixWeightKernelIdeal.main_arg2))
      ∧ r.2.sem = fun _ => 0)

def quiescent_MixWeightReferenceIdeal [hMixWeightReferenceIdeal : Cert.MixWeightReferenceIdeal.Facts] : Prop :=
  ∀ (m : (ℓ : Loc Cert.MixWeightReferenceIdeal.nD Cert.MixWeightReferenceIdeal.τ Cert.MixWeightReferenceIdeal.sig) → Buf (Elt Ideal) ℓ) (g : Dev Cert.MixWeightReferenceIdeal.nD → PrngReg), Pre_MixWeightReferenceIdeal m →
    θ_run (Cert.MixWeightReferenceIdeal.defs (F := Ideal)) (onTc (τ := Cert.MixWeightReferenceIdeal.τ) (Cert.MixWeightReferenceIdeal.main (F := Ideal))) ⟨m, fun _ => 0, g⟩ (fun r => (∀ c : Dev Cert.MixWeightReferenceIdeal.nD,
      r.2.mem ((c.tc : Thread Cert.MixWeightReferenceIdeal.nD Cert.MixWeightReferenceIdeal.τ).loc Cert.MixWeightReferenceIdeal.main_arg0) = m ((c.tc : Thread Cert.MixWeightReferenceIdeal.nD Cert.MixWeightReferenceIdeal.τ).loc Cert.MixWeightReferenceIdeal.main_arg0)
      ∧ r.2.mem ((c.tc : Thread Cert.MixWeightReferenceIdeal.nD Cert.MixWeightReferenceIdeal.τ).loc Cert.MixWeightReferenceIdeal.main_arg1) = m ((c.tc : Thread Cert.MixWeightReferenceIdeal.nD Cert.MixWeightReferenceIdeal.τ).loc Cert.MixWeightReferenceIdeal.main_arg1)
      ∧ r.2.mem ((c.tc : Thread Cert.MixWeightReferenceIdeal.nD Cert.MixWeightReferenceIdeal.τ).loc Cert.MixWeightReferenceIdeal.main_arg2) = m ((c.tc : Thread Cert.MixWeightReferenceIdeal.nD Cert.MixWeightReferenceIdeal.τ).loc Cert.MixWeightReferenceIdeal.main_arg2))
      ∧ r.2.sem = fun _ => 0)

def quiescent_ConvWeightKernel [hConvWeightKernel : Cert.ConvWeightKernel.Facts] : Prop :=
  ∀ (m : (ℓ : Loc Cert.ConvWeightKernel.nD Cert.ConvWeightKernel.τ Cert.ConvWeightKernel.sig) → Buf (Elt Bits) ℓ) (g : Dev Cert.ConvWeightKernel.nD → PrngReg), Pre_ConvWeightKernel m →
    θ_run (Cert.ConvWeightKernel.defs (F := Bits)) (onTc (τ := Cert.ConvWeightKernel.τ) (Cert.ConvWeightKernel.main (F := Bits))) ⟨m, fun _ => 0, g⟩ (fun r => (∀ c : Dev Cert.ConvWeightKernel.nD,
      r.2.mem ((c.tc : Thread Cert.ConvWeightKernel.nD Cert.ConvWeightKernel.τ).loc Cert.ConvWeightKernel.main_arg0) = m ((c.tc : Thread Cert.ConvWeightKernel.nD Cert.ConvWeightKernel.τ).loc Cert.ConvWeightKernel.main_arg0)
      ∧ r.2.mem ((c.tc : Thread Cert.ConvWeightKernel.nD Cert.ConvWeightKernel.τ).loc Cert.ConvWeightKernel.main_arg1) = m ((c.tc : Thread Cert.ConvWeightKernel.nD Cert.ConvWeightKernel.τ).loc Cert.ConvWeightKernel.main_arg1)
      ∧ r.2.mem ((c.tc : Thread Cert.ConvWeightKernel.nD Cert.ConvWeightKernel.τ).loc Cert.ConvWeightKernel.main_arg2) = m ((c.tc : Thread Cert.ConvWeightKernel.nD Cert.ConvWeightKernel.τ).loc Cert.ConvWeightKernel.main_arg2))
      ∧ r.2.sem = fun _ => 0)

def quiescent_ConvWeightKernelIdeal [hConvWeightKernelIdeal : Cert.ConvWeightKernelIdeal.Facts] : Prop :=
  ∀ (m : (ℓ : Loc Cert.ConvWeightKernelIdeal.nD Cert.ConvWeightKernelIdeal.τ Cert.ConvWeightKernelIdeal.sig) → Buf (Elt Ideal) ℓ) (g : Dev Cert.ConvWeightKernelIdeal.nD → PrngReg), Pre_ConvWeightKernelIdeal m →
    θ_run (Cert.ConvWeightKernelIdeal.defs (F := Ideal)) (onTc (τ := Cert.ConvWeightKernelIdeal.τ) (Cert.ConvWeightKernelIdeal.main (F := Ideal))) ⟨m, fun _ => 0, g⟩ (fun r => (∀ c : Dev Cert.ConvWeightKernelIdeal.nD,
      r.2.mem ((c.tc : Thread Cert.ConvWeightKernelIdeal.nD Cert.ConvWeightKernelIdeal.τ).loc Cert.ConvWeightKernelIdeal.main_arg0) = m ((c.tc : Thread Cert.ConvWeightKernelIdeal.nD Cert.ConvWeightKernelIdeal.τ).loc Cert.ConvWeightKernelIdeal.main_arg0)
      ∧ r.2.mem ((c.tc : Thread Cert.ConvWeightKernelIdeal.nD Cert.ConvWeightKernelIdeal.τ).loc Cert.ConvWeightKernelIdeal.main_arg1) = m ((c.tc : Thread Cert.ConvWeightKernelIdeal.nD Cert.ConvWeightKernelIdeal.τ).loc Cert.ConvWeightKernelIdeal.main_arg1)
      ∧ r.2.mem ((c.tc : Thread Cert.ConvWeightKernelIdeal.nD Cert.ConvWeightKernelIdeal.τ).loc Cert.ConvWeightKernelIdeal.main_arg2) = m ((c.tc : Thread Cert.ConvWeightKernelIdeal.nD Cert.ConvWeightKernelIdeal.τ).loc Cert.ConvWeightKernelIdeal.main_arg2))
      ∧ r.2.sem = fun _ => 0)

def quiescent_ConvWeightReferenceIdeal [hConvWeightReferenceIdeal : Cert.ConvWeightReferenceIdeal.Facts] : Prop :=
  ∀ (m : (ℓ : Loc Cert.ConvWeightReferenceIdeal.nD Cert.ConvWeightReferenceIdeal.τ Cert.ConvWeightReferenceIdeal.sig) → Buf (Elt Ideal) ℓ) (g : Dev Cert.ConvWeightReferenceIdeal.nD → PrngReg), Pre_ConvWeightReferenceIdeal m →
    θ_run (Cert.ConvWeightReferenceIdeal.defs (F := Ideal)) (onTc (τ := Cert.ConvWeightReferenceIdeal.τ) (Cert.ConvWeightReferenceIdeal.main (F := Ideal))) ⟨m, fun _ => 0, g⟩ (fun r => (∀ c : Dev Cert.ConvWeightReferenceIdeal.nD,
      r.2.mem ((c.tc : Thread Cert.ConvWeightReferenceIdeal.nD Cert.ConvWeightReferenceIdeal.τ).loc Cert.ConvWeightReferenceIdeal.main_arg0) = m ((c.tc : Thread Cert.ConvWeightReferenceIdeal.nD Cert.ConvWeightReferenceIdeal.τ).loc Cert.ConvWeightReferenceIdeal.main_arg0)
      ∧ r.2.mem ((c.tc : Thread Cert.ConvWeightReferenceIdeal.nD Cert.ConvWeightReferenceIdeal.τ).loc Cert.ConvWeightReferenceIdeal.main_arg1) = m ((c.tc : Thread Cert.ConvWeightReferenceIdeal.nD Cert.ConvWeightReferenceIdeal.τ).loc Cert.ConvWeightReferenceIdeal.main_arg1)
      ∧ r.2.mem ((c.tc : Thread Cert.ConvWeightReferenceIdeal.nD Cert.ConvWeightReferenceIdeal.τ).loc Cert.ConvWeightReferenceIdeal.main_arg2) = m ((c.tc : Thread Cert.ConvWeightReferenceIdeal.nD Cert.ConvWeightReferenceIdeal.τ).loc Cert.ConvWeightReferenceIdeal.main_arg2))
      ∧ r.2.sem = fun _ => 0)

def quiescent_SquareWeightKernel [hSquareWeightKernel : Cert.SquareWeightKernel.Facts] : Prop :=
  ∀ (m : (ℓ : Loc Cert.SquareWeightKernel.nD Cert.SquareWeightKernel.τ Cert.SquareWeightKernel.sig) → Buf (Elt Bits) ℓ) (g : Dev Cert.SquareWeightKernel.nD → PrngReg), Pre_SquareWeightKernel m →
    θ_run (Cert.SquareWeightKernel.defs (F := Bits)) (onTc (τ := Cert.SquareWeightKernel.τ) (Cert.SquareWeightKernel.main (F := Bits))) ⟨m, fun _ => 0, g⟩ (fun r => (∀ c : Dev Cert.SquareWeightKernel.nD,
      r.2.mem ((c.tc : Thread Cert.SquareWeightKernel.nD Cert.SquareWeightKernel.τ).loc Cert.SquareWeightKernel.main_arg0) = m ((c.tc : Thread Cert.SquareWeightKernel.nD Cert.SquareWeightKernel.τ).loc Cert.SquareWeightKernel.main_arg0)
      ∧ r.2.mem ((c.tc : Thread Cert.SquareWeightKernel.nD Cert.SquareWeightKernel.τ).loc Cert.SquareWeightKernel.main_arg1) = m ((c.tc : Thread Cert.SquareWeightKernel.nD Cert.SquareWeightKernel.τ).loc Cert.SquareWeightKernel.main_arg1))
      ∧ r.2.sem = fun _ => 0)

def quiescent_SquareWeightKernelIdeal [hSquareWeightKernelIdeal : Cert.SquareWeightKernelIdeal.Facts] : Prop :=
  ∀ (m : (ℓ : Loc Cert.SquareWeightKernelIdeal.nD Cert.SquareWeightKernelIdeal.τ Cert.SquareWeightKernelIdeal.sig) → Buf (Elt Ideal) ℓ) (g : Dev Cert.SquareWeightKernelIdeal.nD → PrngReg), Pre_SquareWeightKernelIdeal m →
    θ_run (Cert.SquareWeightKernelIdeal.defs (F := Ideal)) (onTc (τ := Cert.SquareWeightKernelIdeal.τ) (Cert.SquareWeightKernelIdeal.main (F := Ideal))) ⟨m, fun _ => 0, g⟩ (fun r => (∀ c : Dev Cert.SquareWeightKernelIdeal.nD,
      r.2.mem ((c.tc : Thread Cert.SquareWeightKernelIdeal.nD Cert.SquareWeightKernelIdeal.τ).loc Cert.SquareWeightKernelIdeal.main_arg0) = m ((c.tc : Thread Cert.SquareWeightKernelIdeal.nD Cert.SquareWeightKernelIdeal.τ).loc Cert.SquareWeightKernelIdeal.main_arg0)
      ∧ r.2.mem ((c.tc : Thread Cert.SquareWeightKernelIdeal.nD Cert.SquareWeightKernelIdeal.τ).loc Cert.SquareWeightKernelIdeal.main_arg1) = m ((c.tc : Thread Cert.SquareWeightKernelIdeal.nD Cert.SquareWeightKernelIdeal.τ).loc Cert.SquareWeightKernelIdeal.main_arg1))
      ∧ r.2.sem = fun _ => 0)

def quiescent_SquareWeightReferenceIdeal [hSquareWeightReferenceIdeal : Cert.SquareWeightReferenceIdeal.Facts] : Prop :=
  ∀ (m : (ℓ : Loc Cert.SquareWeightReferenceIdeal.nD Cert.SquareWeightReferenceIdeal.τ Cert.SquareWeightReferenceIdeal.sig) → Buf (Elt Ideal) ℓ) (g : Dev Cert.SquareWeightReferenceIdeal.nD → PrngReg), Pre_SquareWeightReferenceIdeal m →
    θ_run (Cert.SquareWeightReferenceIdeal.defs (F := Ideal)) (onTc (τ := Cert.SquareWeightReferenceIdeal.τ) (Cert.SquareWeightReferenceIdeal.main (F := Ideal))) ⟨m, fun _ => 0, g⟩ (fun r => (∀ c : Dev Cert.SquareWeightReferenceIdeal.nD,
      r.2.mem ((c.tc : Thread Cert.SquareWeightReferenceIdeal.nD Cert.SquareWeightReferenceIdeal.τ).loc Cert.SquareWeightReferenceIdeal.main_arg0) = m ((c.tc : Thread Cert.SquareWeightReferenceIdeal.nD Cert.SquareWeightReferenceIdeal.τ).loc Cert.SquareWeightReferenceIdeal.main_arg0)
      ∧ r.2.mem ((c.tc : Thread Cert.SquareWeightReferenceIdeal.nD Cert.SquareWeightReferenceIdeal.τ).loc Cert.SquareWeightReferenceIdeal.main_arg1) = m ((c.tc : Thread Cert.SquareWeightReferenceIdeal.nD Cert.SquareWeightReferenceIdeal.τ).loc Cert.SquareWeightReferenceIdeal.main_arg1))
      ∧ r.2.sem = fun _ => 0)

def quiescent_ConvInputKernel [hConvInputKernel : Cert.ConvInputKernel.Facts] : Prop :=
  ∀ (m : (ℓ : Loc Cert.ConvInputKernel.nD Cert.ConvInputKernel.τ Cert.ConvInputKernel.sig) → Buf (Elt Bits) ℓ) (g : Dev Cert.ConvInputKernel.nD → PrngReg), Pre_ConvInputKernel m →
    θ_run (Cert.ConvInputKernel.defs (F := Bits)) (onTc (τ := Cert.ConvInputKernel.τ) (Cert.ConvInputKernel.main (F := Bits))) ⟨m, fun _ => 0, g⟩ (fun r => (∀ c : Dev Cert.ConvInputKernel.nD,
      r.2.mem ((c.tc : Thread Cert.ConvInputKernel.nD Cert.ConvInputKernel.τ).loc Cert.ConvInputKernel.main_arg0) = m ((c.tc : Thread Cert.ConvInputKernel.nD Cert.ConvInputKernel.τ).loc Cert.ConvInputKernel.main_arg0)
      ∧ r.2.mem ((c.tc : Thread Cert.ConvInputKernel.nD Cert.ConvInputKernel.τ).loc Cert.ConvInputKernel.main_arg1) = m ((c.tc : Thread Cert.ConvInputKernel.nD Cert.ConvInputKernel.τ).loc Cert.ConvInputKernel.main_arg1)
      ∧ r.2.mem ((c.tc : Thread Cert.ConvInputKernel.nD Cert.ConvInputKernel.τ).loc Cert.ConvInputKernel.main_arg2) = m ((c.tc : Thread Cert.ConvInputKernel.nD Cert.ConvInputKernel.τ).loc Cert.ConvInputKernel.main_arg2)
      ∧ r.2.mem ((c.tc : Thread Cert.ConvInputKernel.nD Cert.ConvInputKernel.τ).loc Cert.ConvInputKernel.main_arg3) = m ((c.tc : Thread Cert.ConvInputKernel.nD Cert.ConvInputKernel.τ).loc Cert.ConvInputKernel.main_arg3)
      ∧ r.2.mem ((c.tc : Thread Cert.ConvInputKernel.nD Cert.ConvInputKernel.τ).loc Cert.ConvInputKernel.main_arg4) = m ((c.tc : Thread Cert.ConvInputKernel.nD Cert.ConvInputKernel.τ).loc Cert.ConvInputKernel.main_arg4))
      ∧ r.2.sem = fun _ => 0)

def quiescent_ConvInputKernelIdeal [hConvInputKernelIdeal : Cert.ConvInputKernelIdeal.Facts] : Prop :=
  ∀ (m : (ℓ : Loc Cert.ConvInputKernelIdeal.nD Cert.ConvInputKernelIdeal.τ Cert.ConvInputKernelIdeal.sig) → Buf (Elt Ideal) ℓ) (g : Dev Cert.ConvInputKernelIdeal.nD → PrngReg), Pre_ConvInputKernelIdeal m →
    θ_run (Cert.ConvInputKernelIdeal.defs (F := Ideal)) (onTc (τ := Cert.ConvInputKernelIdeal.τ) (Cert.ConvInputKernelIdeal.main (F := Ideal))) ⟨m, fun _ => 0, g⟩ (fun r => (∀ c : Dev Cert.ConvInputKernelIdeal.nD,
      r.2.mem ((c.tc : Thread Cert.ConvInputKernelIdeal.nD Cert.ConvInputKernelIdeal.τ).loc Cert.ConvInputKernelIdeal.main_arg0) = m ((c.tc : Thread Cert.ConvInputKernelIdeal.nD Cert.ConvInputKernelIdeal.τ).loc Cert.ConvInputKernelIdeal.main_arg0)
      ∧ r.2.mem ((c.tc : Thread Cert.ConvInputKernelIdeal.nD Cert.ConvInputKernelIdeal.τ).loc Cert.ConvInputKernelIdeal.main_arg1) = m ((c.tc : Thread Cert.ConvInputKernelIdeal.nD Cert.ConvInputKernelIdeal.τ).loc Cert.ConvInputKernelIdeal.main_arg1)
      ∧ r.2.mem ((c.tc : Thread Cert.ConvInputKernelIdeal.nD Cert.ConvInputKernelIdeal.τ).loc Cert.ConvInputKernelIdeal.main_arg2) = m ((c.tc : Thread Cert.ConvInputKernelIdeal.nD Cert.ConvInputKernelIdeal.τ).loc Cert.ConvInputKernelIdeal.main_arg2)
      ∧ r.2.mem ((c.tc : Thread Cert.ConvInputKernelIdeal.nD Cert.ConvInputKernelIdeal.τ).loc Cert.ConvInputKernelIdeal.main_arg3) = m ((c.tc : Thread Cert.ConvInputKernelIdeal.nD Cert.ConvInputKernelIdeal.τ).loc Cert.ConvInputKernelIdeal.main_arg3)
      ∧ r.2.mem ((c.tc : Thread Cert.ConvInputKernelIdeal.nD Cert.ConvInputKernelIdeal.τ).loc Cert.ConvInputKernelIdeal.main_arg4) = m ((c.tc : Thread Cert.ConvInputKernelIdeal.nD Cert.ConvInputKernelIdeal.τ).loc Cert.ConvInputKernelIdeal.main_arg4))
      ∧ r.2.sem = fun _ => 0)

def quiescent_ConvInputReferenceIdeal [hConvInputReferenceIdeal : Cert.ConvInputReferenceIdeal.Facts] : Prop :=
  ∀ (m : (ℓ : Loc Cert.ConvInputReferenceIdeal.nD Cert.ConvInputReferenceIdeal.τ Cert.ConvInputReferenceIdeal.sig) → Buf (Elt Ideal) ℓ) (g : Dev Cert.ConvInputReferenceIdeal.nD → PrngReg), Pre_ConvInputReferenceIdeal m →
    θ_run (Cert.ConvInputReferenceIdeal.defs (F := Ideal)) (onTc (τ := Cert.ConvInputReferenceIdeal.τ) (Cert.ConvInputReferenceIdeal.main (F := Ideal))) ⟨m, fun _ => 0, g⟩ (fun r => (∀ c : Dev Cert.ConvInputReferenceIdeal.nD,
      r.2.mem ((c.tc : Thread Cert.ConvInputReferenceIdeal.nD Cert.ConvInputReferenceIdeal.τ).loc Cert.ConvInputReferenceIdeal.main_arg0) = m ((c.tc : Thread Cert.ConvInputReferenceIdeal.nD Cert.ConvInputReferenceIdeal.τ).loc Cert.ConvInputReferenceIdeal.main_arg0)
      ∧ r.2.mem ((c.tc : Thread Cert.ConvInputReferenceIdeal.nD Cert.ConvInputReferenceIdeal.τ).loc Cert.ConvInputReferenceIdeal.main_arg1) = m ((c.tc : Thread Cert.ConvInputReferenceIdeal.nD Cert.ConvInputReferenceIdeal.τ).loc Cert.ConvInputReferenceIdeal.main_arg1)
      ∧ r.2.mem ((c.tc : Thread Cert.ConvInputReferenceIdeal.nD Cert.ConvInputReferenceIdeal.τ).loc Cert.ConvInputReferenceIdeal.main_arg2) = m ((c.tc : Thread Cert.ConvInputReferenceIdeal.nD Cert.ConvInputReferenceIdeal.τ).loc Cert.ConvInputReferenceIdeal.main_arg2)
      ∧ r.2.mem ((c.tc : Thread Cert.ConvInputReferenceIdeal.nD Cert.ConvInputReferenceIdeal.τ).loc Cert.ConvInputReferenceIdeal.main_arg3) = m ((c.tc : Thread Cert.ConvInputReferenceIdeal.nD Cert.ConvInputReferenceIdeal.τ).loc Cert.ConvInputReferenceIdeal.main_arg3)
      ∧ r.2.mem ((c.tc : Thread Cert.ConvInputReferenceIdeal.nD Cert.ConvInputReferenceIdeal.τ).loc Cert.ConvInputReferenceIdeal.main_arg4) = m ((c.tc : Thread Cert.ConvInputReferenceIdeal.nD Cert.ConvInputReferenceIdeal.τ).loc Cert.ConvInputReferenceIdeal.main_arg4))
      ∧ r.2.sem = fun _ => 0)

def quiescent_AttnBackKernel [hAttnBackKernel : Cert.AttnBackKernel.Facts] : Prop :=
  ∀ (m : (ℓ : Loc Cert.AttnBackKernel.nD Cert.AttnBackKernel.τ Cert.AttnBackKernel.sig) → Buf (Elt Bits) ℓ) (g : Dev Cert.AttnBackKernel.nD → PrngReg), Pre_AttnBackKernel m →
    θ_run (Cert.AttnBackKernel.defs (F := Bits)) (onTc (τ := Cert.AttnBackKernel.τ) (Cert.AttnBackKernel.main (F := Bits))) ⟨m, fun _ => 0, g⟩ (fun r => (∀ c : Dev Cert.AttnBackKernel.nD,
      r.2.mem ((c.tc : Thread Cert.AttnBackKernel.nD Cert.AttnBackKernel.τ).loc Cert.AttnBackKernel.main_arg0) = m ((c.tc : Thread Cert.AttnBackKernel.nD Cert.AttnBackKernel.τ).loc Cert.AttnBackKernel.main_arg0)
      ∧ r.2.mem ((c.tc : Thread Cert.AttnBackKernel.nD Cert.AttnBackKernel.τ).loc Cert.AttnBackKernel.main_arg1) = m ((c.tc : Thread Cert.AttnBackKernel.nD Cert.AttnBackKernel.τ).loc Cert.AttnBackKernel.main_arg1))
      ∧ r.2.sem = fun _ => 0)

def quiescent_AttnBackKernelIdeal [hAttnBackKernelIdeal : Cert.AttnBackKernelIdeal.Facts] : Prop :=
  ∀ (m : (ℓ : Loc Cert.AttnBackKernelIdeal.nD Cert.AttnBackKernelIdeal.τ Cert.AttnBackKernelIdeal.sig) → Buf (Elt Ideal) ℓ) (g : Dev Cert.AttnBackKernelIdeal.nD → PrngReg), Pre_AttnBackKernelIdeal m →
    θ_run (Cert.AttnBackKernelIdeal.defs (F := Ideal)) (onTc (τ := Cert.AttnBackKernelIdeal.τ) (Cert.AttnBackKernelIdeal.main (F := Ideal))) ⟨m, fun _ => 0, g⟩ (fun r => (∀ c : Dev Cert.AttnBackKernelIdeal.nD,
      r.2.mem ((c.tc : Thread Cert.AttnBackKernelIdeal.nD Cert.AttnBackKernelIdeal.τ).loc Cert.AttnBackKernelIdeal.main_arg0) = m ((c.tc : Thread Cert.AttnBackKernelIdeal.nD Cert.AttnBackKernelIdeal.τ).loc Cert.AttnBackKernelIdeal.main_arg0)
      ∧ r.2.mem ((c.tc : Thread Cert.AttnBackKernelIdeal.nD Cert.AttnBackKernelIdeal.τ).loc Cert.AttnBackKernelIdeal.main_arg1) = m ((c.tc : Thread Cert.AttnBackKernelIdeal.nD Cert.AttnBackKernelIdeal.τ).loc Cert.AttnBackKernelIdeal.main_arg1))
      ∧ r.2.sem = fun _ => 0)

def quiescent_AttnBackReferenceIdeal [hAttnBackReferenceIdeal : Cert.AttnBackReferenceIdeal.Facts] : Prop :=
  ∀ (m : (ℓ : Loc Cert.AttnBackReferenceIdeal.nD Cert.AttnBackReferenceIdeal.τ Cert.AttnBackReferenceIdeal.sig) → Buf (Elt Ideal) ℓ) (g : Dev Cert.AttnBackReferenceIdeal.nD → PrngReg), Pre_AttnBackReferenceIdeal m →
    θ_run (Cert.AttnBackReferenceIdeal.defs (F := Ideal)) (onTc (τ := Cert.AttnBackReferenceIdeal.τ) (Cert.AttnBackReferenceIdeal.main (F := Ideal))) ⟨m, fun _ => 0, g⟩ (fun r => (∀ c : Dev Cert.AttnBackReferenceIdeal.nD,
      r.2.mem ((c.tc : Thread Cert.AttnBackReferenceIdeal.nD Cert.AttnBackReferenceIdeal.τ).loc Cert.AttnBackReferenceIdeal.main_arg0) = m ((c.tc : Thread Cert.AttnBackReferenceIdeal.nD Cert.AttnBackReferenceIdeal.τ).loc Cert.AttnBackReferenceIdeal.main_arg0)
      ∧ r.2.mem ((c.tc : Thread Cert.AttnBackReferenceIdeal.nD Cert.AttnBackReferenceIdeal.τ).loc Cert.AttnBackReferenceIdeal.main_arg1) = m ((c.tc : Thread Cert.AttnBackReferenceIdeal.nD Cert.AttnBackReferenceIdeal.τ).loc Cert.AttnBackReferenceIdeal.main_arg1))
      ∧ r.2.sem = fun _ => 0)

def quiescent_ConvBackKernel [hConvBackKernel : Cert.ConvBackKernel.Facts] : Prop :=
  ∀ (m : (ℓ : Loc Cert.ConvBackKernel.nD Cert.ConvBackKernel.τ Cert.ConvBackKernel.sig) → Buf (Elt Bits) ℓ) (g : Dev Cert.ConvBackKernel.nD → PrngReg), Pre_ConvBackKernel m →
    θ_run (Cert.ConvBackKernel.defs (F := Bits)) (onTc (τ := Cert.ConvBackKernel.τ) (Cert.ConvBackKernel.main (F := Bits))) ⟨m, fun _ => 0, g⟩ (fun r => (∀ c : Dev Cert.ConvBackKernel.nD,
      r.2.mem ((c.tc : Thread Cert.ConvBackKernel.nD Cert.ConvBackKernel.τ).loc Cert.ConvBackKernel.main_arg0) = m ((c.tc : Thread Cert.ConvBackKernel.nD Cert.ConvBackKernel.τ).loc Cert.ConvBackKernel.main_arg0)
      ∧ r.2.mem ((c.tc : Thread Cert.ConvBackKernel.nD Cert.ConvBackKernel.τ).loc Cert.ConvBackKernel.main_arg1) = m ((c.tc : Thread Cert.ConvBackKernel.nD Cert.ConvBackKernel.τ).loc Cert.ConvBackKernel.main_arg1))
      ∧ r.2.sem = fun _ => 0)

def quiescent_ConvBackKernelIdeal [hConvBackKernelIdeal : Cert.ConvBackKernelIdeal.Facts] : Prop :=
  ∀ (m : (ℓ : Loc Cert.ConvBackKernelIdeal.nD Cert.ConvBackKernelIdeal.τ Cert.ConvBackKernelIdeal.sig) → Buf (Elt Ideal) ℓ) (g : Dev Cert.ConvBackKernelIdeal.nD → PrngReg), Pre_ConvBackKernelIdeal m →
    θ_run (Cert.ConvBackKernelIdeal.defs (F := Ideal)) (onTc (τ := Cert.ConvBackKernelIdeal.τ) (Cert.ConvBackKernelIdeal.main (F := Ideal))) ⟨m, fun _ => 0, g⟩ (fun r => (∀ c : Dev Cert.ConvBackKernelIdeal.nD,
      r.2.mem ((c.tc : Thread Cert.ConvBackKernelIdeal.nD Cert.ConvBackKernelIdeal.τ).loc Cert.ConvBackKernelIdeal.main_arg0) = m ((c.tc : Thread Cert.ConvBackKernelIdeal.nD Cert.ConvBackKernelIdeal.τ).loc Cert.ConvBackKernelIdeal.main_arg0)
      ∧ r.2.mem ((c.tc : Thread Cert.ConvBackKernelIdeal.nD Cert.ConvBackKernelIdeal.τ).loc Cert.ConvBackKernelIdeal.main_arg1) = m ((c.tc : Thread Cert.ConvBackKernelIdeal.nD Cert.ConvBackKernelIdeal.τ).loc Cert.ConvBackKernelIdeal.main_arg1))
      ∧ r.2.sem = fun _ => 0)

def quiescent_ConvBackReferenceIdeal [hConvBackReferenceIdeal : Cert.ConvBackReferenceIdeal.Facts] : Prop :=
  ∀ (m : (ℓ : Loc Cert.ConvBackReferenceIdeal.nD Cert.ConvBackReferenceIdeal.τ Cert.ConvBackReferenceIdeal.sig) → Buf (Elt Ideal) ℓ) (g : Dev Cert.ConvBackReferenceIdeal.nD → PrngReg), Pre_ConvBackReferenceIdeal m →
    θ_run (Cert.ConvBackReferenceIdeal.defs (F := Ideal)) (onTc (τ := Cert.ConvBackReferenceIdeal.τ) (Cert.ConvBackReferenceIdeal.main (F := Ideal))) ⟨m, fun _ => 0, g⟩ (fun r => (∀ c : Dev Cert.ConvBackReferenceIdeal.nD,
      r.2.mem ((c.tc : Thread Cert.ConvBackReferenceIdeal.nD Cert.ConvBackReferenceIdeal.τ).loc Cert.ConvBackReferenceIdeal.main_arg0) = m ((c.tc : Thread Cert.ConvBackReferenceIdeal.nD Cert.ConvBackReferenceIdeal.τ).loc Cert.ConvBackReferenceIdeal.main_arg0)
      ∧ r.2.mem ((c.tc : Thread Cert.ConvBackReferenceIdeal.nD Cert.ConvBackReferenceIdeal.τ).loc Cert.ConvBackReferenceIdeal.main_arg1) = m ((c.tc : Thread Cert.ConvBackReferenceIdeal.nD Cert.ConvBackReferenceIdeal.τ).loc Cert.ConvBackReferenceIdeal.main_arg1))
      ∧ r.2.sem = fun _ => 0)

def quiescent_AttnInKernel [hAttnInKernel : Cert.AttnInKernel.Facts] : Prop :=
  ∀ (m : (ℓ : Loc Cert.AttnInKernel.nD Cert.AttnInKernel.τ Cert.AttnInKernel.sig) → Buf (Elt Bits) ℓ) (g : Dev Cert.AttnInKernel.nD → PrngReg), Pre_AttnInKernel m →
    θ_run (Cert.AttnInKernel.defs (F := Bits)) (onTc (τ := Cert.AttnInKernel.τ) (Cert.AttnInKernel.main (F := Bits))) ⟨m, fun _ => 0, g⟩ (fun r => (∀ c : Dev Cert.AttnInKernel.nD,
      r.2.mem ((c.tc : Thread Cert.AttnInKernel.nD Cert.AttnInKernel.τ).loc Cert.AttnInKernel.main_arg0) = m ((c.tc : Thread Cert.AttnInKernel.nD Cert.AttnInKernel.τ).loc Cert.AttnInKernel.main_arg0)
      ∧ r.2.mem ((c.tc : Thread Cert.AttnInKernel.nD Cert.AttnInKernel.τ).loc Cert.AttnInKernel.main_arg1) = m ((c.tc : Thread Cert.AttnInKernel.nD Cert.AttnInKernel.τ).loc Cert.AttnInKernel.main_arg1))
      ∧ r.2.sem = fun _ => 0)

def quiescent_AttnInKernelIdeal [hAttnInKernelIdeal : Cert.AttnInKernelIdeal.Facts] : Prop :=
  ∀ (m : (ℓ : Loc Cert.AttnInKernelIdeal.nD Cert.AttnInKernelIdeal.τ Cert.AttnInKernelIdeal.sig) → Buf (Elt Ideal) ℓ) (g : Dev Cert.AttnInKernelIdeal.nD → PrngReg), Pre_AttnInKernelIdeal m →
    θ_run (Cert.AttnInKernelIdeal.defs (F := Ideal)) (onTc (τ := Cert.AttnInKernelIdeal.τ) (Cert.AttnInKernelIdeal.main (F := Ideal))) ⟨m, fun _ => 0, g⟩ (fun r => (∀ c : Dev Cert.AttnInKernelIdeal.nD,
      r.2.mem ((c.tc : Thread Cert.AttnInKernelIdeal.nD Cert.AttnInKernelIdeal.τ).loc Cert.AttnInKernelIdeal.main_arg0) = m ((c.tc : Thread Cert.AttnInKernelIdeal.nD Cert.AttnInKernelIdeal.τ).loc Cert.AttnInKernelIdeal.main_arg0)
      ∧ r.2.mem ((c.tc : Thread Cert.AttnInKernelIdeal.nD Cert.AttnInKernelIdeal.τ).loc Cert.AttnInKernelIdeal.main_arg1) = m ((c.tc : Thread Cert.AttnInKernelIdeal.nD Cert.AttnInKernelIdeal.τ).loc Cert.AttnInKernelIdeal.main_arg1))
      ∧ r.2.sem = fun _ => 0)

def quiescent_AttnInReferenceIdeal [hAttnInReferenceIdeal : Cert.AttnInReferenceIdeal.Facts] : Prop :=
  ∀ (m : (ℓ : Loc Cert.AttnInReferenceIdeal.nD Cert.AttnInReferenceIdeal.τ Cert.AttnInReferenceIdeal.sig) → Buf (Elt Ideal) ℓ) (g : Dev Cert.AttnInReferenceIdeal.nD → PrngReg), Pre_AttnInReferenceIdeal m →
    θ_run (Cert.AttnInReferenceIdeal.defs (F := Ideal)) (onTc (τ := Cert.AttnInReferenceIdeal.τ) (Cert.AttnInReferenceIdeal.main (F := Ideal))) ⟨m, fun _ => 0, g⟩ (fun r => (∀ c : Dev Cert.AttnInReferenceIdeal.nD,
      r.2.mem ((c.tc : Thread Cert.AttnInReferenceIdeal.nD Cert.AttnInReferenceIdeal.τ).loc Cert.AttnInReferenceIdeal.main_arg0) = m ((c.tc : Thread Cert.AttnInReferenceIdeal.nD Cert.AttnInReferenceIdeal.τ).loc Cert.AttnInReferenceIdeal.main_arg0)
      ∧ r.2.mem ((c.tc : Thread Cert.AttnInReferenceIdeal.nD Cert.AttnInReferenceIdeal.τ).loc Cert.AttnInReferenceIdeal.main_arg1) = m ((c.tc : Thread Cert.AttnInReferenceIdeal.nD Cert.AttnInReferenceIdeal.τ).loc Cert.AttnInReferenceIdeal.main_arg1))
      ∧ r.2.sem = fun _ => 0)

def quiescent_ConvInKernel [hConvInKernel : Cert.ConvInKernel.Facts] : Prop :=
  ∀ (m : (ℓ : Loc Cert.ConvInKernel.nD Cert.ConvInKernel.τ Cert.ConvInKernel.sig) → Buf (Elt Bits) ℓ) (g : Dev Cert.ConvInKernel.nD → PrngReg), Pre_ConvInKernel m →
    θ_run (Cert.ConvInKernel.defs (F := Bits)) (onTc (τ := Cert.ConvInKernel.τ) (Cert.ConvInKernel.main (F := Bits))) ⟨m, fun _ => 0, g⟩ (fun r => (∀ c : Dev Cert.ConvInKernel.nD,
      r.2.mem ((c.tc : Thread Cert.ConvInKernel.nD Cert.ConvInKernel.τ).loc Cert.ConvInKernel.main_arg0) = m ((c.tc : Thread Cert.ConvInKernel.nD Cert.ConvInKernel.τ).loc Cert.ConvInKernel.main_arg0)
      ∧ r.2.mem ((c.tc : Thread Cert.ConvInKernel.nD Cert.ConvInKernel.τ).loc Cert.ConvInKernel.main_arg1) = m ((c.tc : Thread Cert.ConvInKernel.nD Cert.ConvInKernel.τ).loc Cert.ConvInKernel.main_arg1)
      ∧ r.2.mem ((c.tc : Thread Cert.ConvInKernel.nD Cert.ConvInKernel.τ).loc Cert.ConvInKernel.main_arg2) = m ((c.tc : Thread Cert.ConvInKernel.nD Cert.ConvInKernel.τ).loc Cert.ConvInKernel.main_arg2))
      ∧ r.2.sem = fun _ => 0)

def quiescent_ConvInKernelIdeal [hConvInKernelIdeal : Cert.ConvInKernelIdeal.Facts] : Prop :=
  ∀ (m : (ℓ : Loc Cert.ConvInKernelIdeal.nD Cert.ConvInKernelIdeal.τ Cert.ConvInKernelIdeal.sig) → Buf (Elt Ideal) ℓ) (g : Dev Cert.ConvInKernelIdeal.nD → PrngReg), Pre_ConvInKernelIdeal m →
    θ_run (Cert.ConvInKernelIdeal.defs (F := Ideal)) (onTc (τ := Cert.ConvInKernelIdeal.τ) (Cert.ConvInKernelIdeal.main (F := Ideal))) ⟨m, fun _ => 0, g⟩ (fun r => (∀ c : Dev Cert.ConvInKernelIdeal.nD,
      r.2.mem ((c.tc : Thread Cert.ConvInKernelIdeal.nD Cert.ConvInKernelIdeal.τ).loc Cert.ConvInKernelIdeal.main_arg0) = m ((c.tc : Thread Cert.ConvInKernelIdeal.nD Cert.ConvInKernelIdeal.τ).loc Cert.ConvInKernelIdeal.main_arg0)
      ∧ r.2.mem ((c.tc : Thread Cert.ConvInKernelIdeal.nD Cert.ConvInKernelIdeal.τ).loc Cert.ConvInKernelIdeal.main_arg1) = m ((c.tc : Thread Cert.ConvInKernelIdeal.nD Cert.ConvInKernelIdeal.τ).loc Cert.ConvInKernelIdeal.main_arg1)
      ∧ r.2.mem ((c.tc : Thread Cert.ConvInKernelIdeal.nD Cert.ConvInKernelIdeal.τ).loc Cert.ConvInKernelIdeal.main_arg2) = m ((c.tc : Thread Cert.ConvInKernelIdeal.nD Cert.ConvInKernelIdeal.τ).loc Cert.ConvInKernelIdeal.main_arg2))
      ∧ r.2.sem = fun _ => 0)

def quiescent_ConvInReferenceIdeal [hConvInReferenceIdeal : Cert.ConvInReferenceIdeal.Facts] : Prop :=
  ∀ (m : (ℓ : Loc Cert.ConvInReferenceIdeal.nD Cert.ConvInReferenceIdeal.τ Cert.ConvInReferenceIdeal.sig) → Buf (Elt Ideal) ℓ) (g : Dev Cert.ConvInReferenceIdeal.nD → PrngReg), Pre_ConvInReferenceIdeal m →
    θ_run (Cert.ConvInReferenceIdeal.defs (F := Ideal)) (onTc (τ := Cert.ConvInReferenceIdeal.τ) (Cert.ConvInReferenceIdeal.main (F := Ideal))) ⟨m, fun _ => 0, g⟩ (fun r => (∀ c : Dev Cert.ConvInReferenceIdeal.nD,
      r.2.mem ((c.tc : Thread Cert.ConvInReferenceIdeal.nD Cert.ConvInReferenceIdeal.τ).loc Cert.ConvInReferenceIdeal.main_arg0) = m ((c.tc : Thread Cert.ConvInReferenceIdeal.nD Cert.ConvInReferenceIdeal.τ).loc Cert.ConvInReferenceIdeal.main_arg0)
      ∧ r.2.mem ((c.tc : Thread Cert.ConvInReferenceIdeal.nD Cert.ConvInReferenceIdeal.τ).loc Cert.ConvInReferenceIdeal.main_arg1) = m ((c.tc : Thread Cert.ConvInReferenceIdeal.nD Cert.ConvInReferenceIdeal.τ).loc Cert.ConvInReferenceIdeal.main_arg1)
      ∧ r.2.mem ((c.tc : Thread Cert.ConvInReferenceIdeal.nD Cert.ConvInReferenceIdeal.τ).loc Cert.ConvInReferenceIdeal.main_arg2) = m ((c.tc : Thread Cert.ConvInReferenceIdeal.nD Cert.ConvInReferenceIdeal.τ).loc Cert.ConvInReferenceIdeal.main_arg2))
      ∧ r.2.sem = fun _ => 0)

def quiescent_AttnOutKernel [hAttnOutKernel : Cert.AttnOutKernel.Facts] : Prop :=
  ∀ (m : (ℓ : Loc Cert.AttnOutKernel.nD Cert.AttnOutKernel.τ Cert.AttnOutKernel.sig) → Buf (Elt Bits) ℓ) (g : Dev Cert.AttnOutKernel.nD → PrngReg), Pre_AttnOutKernel m →
    θ_run (Cert.AttnOutKernel.defs (F := Bits)) (onTc (τ := Cert.AttnOutKernel.τ) (Cert.AttnOutKernel.main (F := Bits))) ⟨m, fun _ => 0, g⟩ (fun r => (∀ c : Dev Cert.AttnOutKernel.nD,
      r.2.mem ((c.tc : Thread Cert.AttnOutKernel.nD Cert.AttnOutKernel.τ).loc Cert.AttnOutKernel.main_arg0) = m ((c.tc : Thread Cert.AttnOutKernel.nD Cert.AttnOutKernel.τ).loc Cert.AttnOutKernel.main_arg0)
      ∧ r.2.mem ((c.tc : Thread Cert.AttnOutKernel.nD Cert.AttnOutKernel.τ).loc Cert.AttnOutKernel.main_arg1) = m ((c.tc : Thread Cert.AttnOutKernel.nD Cert.AttnOutKernel.τ).loc Cert.AttnOutKernel.main_arg1)
      ∧ r.2.mem ((c.tc : Thread Cert.AttnOutKernel.nD Cert.AttnOutKernel.τ).loc Cert.AttnOutKernel.main_arg2) = m ((c.tc : Thread Cert.AttnOutKernel.nD Cert.AttnOutKernel.τ).loc Cert.AttnOutKernel.main_arg2)
      ∧ r.2.mem ((c.tc : Thread Cert.AttnOutKernel.nD Cert.AttnOutKernel.τ).loc Cert.AttnOutKernel.main_arg3) = m ((c.tc : Thread Cert.AttnOutKernel.nD Cert.AttnOutKernel.τ).loc Cert.AttnOutKernel.main_arg3))
      ∧ r.2.sem = fun _ => 0)

def quiescent_AttnOutKernelIdeal [hAttnOutKernelIdeal : Cert.AttnOutKernelIdeal.Facts] : Prop :=
  ∀ (m : (ℓ : Loc Cert.AttnOutKernelIdeal.nD Cert.AttnOutKernelIdeal.τ Cert.AttnOutKernelIdeal.sig) → Buf (Elt Ideal) ℓ) (g : Dev Cert.AttnOutKernelIdeal.nD → PrngReg), Pre_AttnOutKernelIdeal m →
    θ_run (Cert.AttnOutKernelIdeal.defs (F := Ideal)) (onTc (τ := Cert.AttnOutKernelIdeal.τ) (Cert.AttnOutKernelIdeal.main (F := Ideal))) ⟨m, fun _ => 0, g⟩ (fun r => (∀ c : Dev Cert.AttnOutKernelIdeal.nD,
      r.2.mem ((c.tc : Thread Cert.AttnOutKernelIdeal.nD Cert.AttnOutKernelIdeal.τ).loc Cert.AttnOutKernelIdeal.main_arg0) = m ((c.tc : Thread Cert.AttnOutKernelIdeal.nD Cert.AttnOutKernelIdeal.τ).loc Cert.AttnOutKernelIdeal.main_arg0)
      ∧ r.2.mem ((c.tc : Thread Cert.AttnOutKernelIdeal.nD Cert.AttnOutKernelIdeal.τ).loc Cert.AttnOutKernelIdeal.main_arg1) = m ((c.tc : Thread Cert.AttnOutKernelIdeal.nD Cert.AttnOutKernelIdeal.τ).loc Cert.AttnOutKernelIdeal.main_arg1)
      ∧ r.2.mem ((c.tc : Thread Cert.AttnOutKernelIdeal.nD Cert.AttnOutKernelIdeal.τ).loc Cert.AttnOutKernelIdeal.main_arg2) = m ((c.tc : Thread Cert.AttnOutKernelIdeal.nD Cert.AttnOutKernelIdeal.τ).loc Cert.AttnOutKernelIdeal.main_arg2)
      ∧ r.2.mem ((c.tc : Thread Cert.AttnOutKernelIdeal.nD Cert.AttnOutKernelIdeal.τ).loc Cert.AttnOutKernelIdeal.main_arg3) = m ((c.tc : Thread Cert.AttnOutKernelIdeal.nD Cert.AttnOutKernelIdeal.τ).loc Cert.AttnOutKernelIdeal.main_arg3))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2)
      ∧ r.2.mem ((c.tc : Thread Cert.AttnOutReferenceIdeal.nD Cert.AttnOutReferenceIdeal.τ).loc Cert.AttnOutReferenceIdeal.main_arg3) = m ((c.tc : Thread Cert.AttnOutReferenceIdeal.nD Cert.AttnOutReferenceIdeal.τ).loc Cert.AttnOutReferenceIdeal.main_arg3))
      ∧ r.2.sem = fun _ => 0)

def quiescent_ConvOutKernel [hConvOutKernel : Cert.ConvOutKernel.Facts] : Prop :=
  ∀ (m : (ℓ : Loc Cert.ConvOutKernel.nD Cert.ConvOutKernel.τ Cert.ConvOutKernel.sig) → Buf (Elt Bits) ℓ) (g : Dev Cert.ConvOutKernel.nD → PrngReg), Pre_ConvOutKernel m →
    θ_run (Cert.ConvOutKernel.defs (F := Bits)) (onTc (τ := Cert.ConvOutKernel.τ) (Cert.ConvOutKernel.main (F := Bits))) ⟨m, fun _ => 0, g⟩ (fun r => (∀ c : Dev Cert.ConvOutKernel.nD,
      r.2.mem ((c.tc : Thread Cert.ConvOutKernel.nD Cert.ConvOutKernel.τ).loc Cert.ConvOutKernel.main_arg0) = m ((c.tc : Thread Cert.ConvOutKernel.nD Cert.ConvOutKernel.τ).loc Cert.ConvOutKernel.main_arg0)
      ∧ r.2.mem ((c.tc : Thread Cert.ConvOutKernel.nD Cert.ConvOutKernel.τ).loc Cert.ConvOutKernel.main_arg1) = m ((c.tc : Thread Cert.ConvOutKernel.nD Cert.ConvOutKernel.τ).loc Cert.ConvOutKernel.main_arg1)
      ∧ r.2.mem ((c.tc : Thread Cert.ConvOutKernel.nD Cert.ConvOutKernel.τ).loc Cert.ConvOutKernel.main_arg2) = m ((c.tc : Thread Cert.ConvOutKernel.nD Cert.ConvOutKernel.τ).loc Cert.ConvOutKernel.main_arg2)
      ∧ r.2.mem ((c.tc : Thread Cert.ConvOutKernel.nD Cert.ConvOutKernel.τ).loc Cert.ConvOutKernel.main_arg3) = m ((c.tc : Thread Cert.ConvOutKernel.nD Cert.ConvOutKernel.τ).loc Cert.ConvOutKernel.main_arg3)
      ∧ r.2.mem ((c.tc : Thread Cert.ConvOutKernel.nD Cert.ConvOutKernel.τ).loc Cert.ConvOutKernel.main_arg4) = m ((c.tc : Thread Cert.ConvOutKernel.nD Cert.ConvOutKernel.τ).loc Cert.ConvOutKernel.main_arg4))
      ∧ r.2.sem = fun _ => 0)

def quiescent_ConvOutKernelIdeal [hConvOutKernelIdeal : Cert.ConvOutKernelIdeal.Facts] : Prop :=
  ∀ (m : (ℓ : Loc Cert.ConvOutKernelIdeal.nD Cert.ConvOutKernelIdeal.τ Cert.ConvOutKernelIdeal.sig) → Buf (Elt Ideal) ℓ) (g : Dev Cert.ConvOutKernelIdeal.nD → PrngReg), Pre_ConvOutKernelIdeal m →
    θ_run (Cert.ConvOutKernelIdeal.defs (F := Ideal)) (onTc (τ := Cert.ConvOutKernelIdeal.τ) (Cert.ConvOutKernelIdeal.main (F := Ideal))) ⟨m, fun _ => 0, g⟩ (fun r => (∀ c : Dev Cert.ConvOutKernelIdeal.nD,
      r.2.mem ((c.tc : Thread Cert.ConvOutKernelIdeal.nD Cert.ConvOutKernelIdeal.τ).loc Cert.ConvOutKernelIdeal.main_arg0) = m ((c.tc : Thread Cert.ConvOutKernelIdeal.nD Cert.ConvOutKernelIdeal.τ).loc Cert.ConvOutKernelIdeal.main_arg0)
      ∧ r.2.mem ((c.tc : Thread Cert.ConvOutKernelIdeal.nD Cert.ConvOutKernelIdeal.τ).loc Cert.ConvOutKernelIdeal.main_arg1) = m ((c.tc : Thread Cert.ConvOutKernelIdeal.nD Cert.ConvOutKernelIdeal.τ).loc Cert.ConvOutKernelIdeal.main_arg1)
      ∧ r.2.mem ((c.tc : Thread Cert.ConvOutKernelIdeal.nD Cert.ConvOutKernelIdeal.τ).loc Cert.ConvOutKernelIdeal.main_arg2) = m ((c.tc : Thread Cert.ConvOutKernelIdeal.nD Cert.ConvOutKernelIdeal.τ).loc Cert.ConvOutKernelIdeal.main_arg2)
      ∧ r.2.mem ((c.tc : Thread Cert.ConvOutKernelIdeal.nD Cert.ConvOutKernelIdeal.τ).loc Cert.ConvOutKernelIdeal.main_arg3) = m ((c.tc : Thread Cert.ConvOutKernelIdeal.nD Cert.ConvOutKernelIdeal.τ).loc Cert.ConvOutKernelIdeal.main_arg3)
      ∧ r.2.mem ((c.tc : Thread Cert.ConvOutKernelIdeal.nD Cert.ConvOutKernelIdeal.τ).loc Cert.ConvOutKernelIdeal.main_arg4) = m ((c.tc : Thread Cert.ConvOutKernelIdeal.nD Cert.ConvOutKernelIdeal.τ).loc Cert.ConvOutKernelIdeal.main_arg4))
      ∧ r.2.sem = fun _ => 0)

def quiescent_ConvOutReferenceIdeal [hConvOutReferenceIdeal : Cert.ConvOutReferenceIdeal.Facts] : Prop :=
  ∀ (m : (ℓ : Loc Cert.ConvOutReferenceIdeal.nD Cert.ConvOutReferenceIdeal.τ Cert.ConvOutReferenceIdeal.sig) → Buf (Elt Ideal) ℓ) (g : Dev Cert.ConvOutReferenceIdeal.nD → PrngReg), Pre_ConvOutReferenceIdeal m →
    θ_run (Cert.ConvOutReferenceIdeal.defs (F := Ideal)) (onTc (τ := Cert.ConvOutReferenceIdeal.τ) (Cert.ConvOutReferenceIdeal.main (F := Ideal))) ⟨m, fun _ => 0, g⟩ (fun r => (∀ c : Dev Cert.ConvOutReferenceIdeal.nD,
      r.2.mem ((c.tc : Thread Cert.ConvOutReferenceIdeal.nD Cert.ConvOutReferenceIdeal.τ).loc Cert.ConvOutReferenceIdeal.main_arg0) = m ((c.tc : Thread Cert.ConvOutReferenceIdeal.nD Cert.ConvOutReferenceIdeal.τ).loc Cert.ConvOutReferenceIdeal.main_arg0)
      ∧ r.2.mem ((c.tc : Thread Cert.ConvOutReferenceIdeal.nD Cert.ConvOutReferenceIdeal.τ).loc Cert.ConvOutReferenceIdeal.main_arg1) = m ((c.tc : Thread Cert.ConvOutReferenceIdeal.nD Cert.ConvOutReferenceIdeal.τ).loc Cert.ConvOutReferenceIdeal.main_arg1)
      ∧ r.2.mem ((c.tc : Thread Cert.ConvOutReferenceIdeal.nD Cert.ConvOutReferenceIdeal.τ).loc Cert.ConvOutReferenceIdeal.main_arg2) = m ((c.tc : Thread Cert.ConvOutReferenceIdeal.nD Cert.ConvOutReferenceIdeal.τ).loc Cert.ConvOutReferenceIdeal.main_arg2)
      ∧ r.2.mem ((c.tc : Thread Cert.ConvOutReferenceIdeal.nD Cert.ConvOutReferenceIdeal.τ).loc Cert.ConvOutReferenceIdeal.main_arg3) = m ((c.tc : Thread Cert.ConvOutReferenceIdeal.nD Cert.ConvOutReferenceIdeal.τ).loc Cert.ConvOutReferenceIdeal.main_arg3)
      ∧ r.2.mem ((c.tc : Thread Cert.ConvOutReferenceIdeal.nD Cert.ConvOutReferenceIdeal.τ).loc Cert.ConvOutReferenceIdeal.main_arg4) = m ((c.tc : Thread Cert.ConvOutReferenceIdeal.nD Cert.ConvOutReferenceIdeal.τ).loc Cert.ConvOutReferenceIdeal.main_arg4))
      ∧ r.2.sem = fun _ => 0)

def quiescent_LastKernel [hLastKernel : Cert.LastKernel.Facts] : Prop :=
  ∀ (m : (ℓ : Loc Cert.LastKernel.nD Cert.LastKernel.τ Cert.LastKernel.sig) → Buf (Elt Bits) ℓ) (g : Dev Cert.LastKernel.nD → PrngReg), Pre_LastKernel m →
    θ_run (Cert.LastKernel.defs (F := Bits)) (onTc (τ := Cert.LastKernel.τ) (Cert.LastKernel.main (F := Bits))) ⟨m, fun _ => 0, g⟩ (fun r => (∀ c : Dev Cert.LastKernel.nD,
      r.2.mem ((c.tc : Thread Cert.LastKernel.nD Cert.LastKernel.τ).loc Cert.LastKernel.main_arg0) = m ((c.tc : Thread Cert.LastKernel.nD Cert.LastKernel.τ).loc Cert.LastKernel.main_arg0)
      ∧ r.2.mem ((c.tc : Thread Cert.LastKernel.nD Cert.LastKernel.τ).loc Cert.LastKernel.main_arg1) = m ((c.tc : Thread Cert.LastKernel.nD Cert.LastKernel.τ).loc Cert.LastKernel.main_arg1)
      ∧ r.2.mem ((c.tc : Thread Cert.LastKernel.nD Cert.LastKernel.τ).loc Cert.LastKernel.main_arg2) = m ((c.tc : Thread Cert.LastKernel.nD Cert.LastKernel.τ).loc Cert.LastKernel.main_arg2))
      ∧ r.2.sem = fun _ => 0)

def quiescent_LastKernelIdeal [hLastKernelIdeal : Cert.LastKernelIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2))
      ∧ r.2.sem = fun _ => 0)

def quiescent_UpStepKernel [hUpStepKernel : Cert.UpStepKernel.Facts] : Prop :=
  ∀ (m : (ℓ : Loc Cert.UpStepKernel.nD Cert.UpStepKernel.τ Cert.UpStepKernel.sig) → Buf (Elt Bits) ℓ) (g : Dev Cert.UpStepKernel.nD → PrngReg), Pre_UpStepKernel m →
    θ_run (Cert.UpStepKernel.defs (F := Bits)) (onTc (τ := Cert.UpStepKernel.τ) (Cert.UpStepKernel.main (F := Bits))) ⟨m, fun _ => 0, g⟩ (fun r => (∀ c : Dev Cert.UpStepKernel.nD,
      r.2.mem ((c.tc : Thread Cert.UpStepKernel.nD Cert.UpStepKernel.τ).loc Cert.UpStepKernel.main_arg0) = m ((c.tc : Thread Cert.UpStepKernel.nD Cert.UpStepKernel.τ).loc Cert.UpStepKernel.main_arg0)
      ∧ r.2.mem ((c.tc : Thread Cert.UpStepKernel.nD Cert.UpStepKernel.τ).loc Cert.UpStepKernel.main_arg1) = m ((c.tc : Thread Cert.UpStepKernel.nD Cert.UpStepKernel.τ).loc Cert.UpStepKernel.main_arg1)
      ∧ r.2.mem ((c.tc : Thread Cert.UpStepKernel.nD Cert.UpStepKernel.τ).loc Cert.UpStepKernel.main_arg2) = m ((c.tc : Thread Cert.UpStepKernel.nD Cert.UpStepKernel.τ).loc Cert.UpStepKernel.main_arg2)
      ∧ r.2.mem ((c.tc : Thread Cert.UpStepKernel.nD Cert.UpStepKernel.τ).loc Cert.UpStepKernel.main_arg3) = m ((c.tc : Thread Cert.UpStepKernel.nD Cert.UpStepKernel.τ).loc Cert.UpStepKernel.main_arg3))
      ∧ r.2.sem = fun _ => 0)

def quiescent_UpStepKernelIdeal [hUpStepKernelIdeal : Cert.UpStepKernelIdeal.Facts] : Prop :=
  ∀ (m : (ℓ : Loc Cert.UpStepKernelIdeal.nD Cert.UpStepKernelIdeal.τ Cert.UpStepKernelIdeal.sig) → Buf (Elt Ideal) ℓ) (g : Dev Cert.UpStepKernelIdeal.nD → PrngReg), Pre_UpStepKernelIdeal m →
    θ_run (Cert.UpStepKernelIdeal.defs (F := Ideal)) (onTc (τ := Cert.UpStepKernelIdeal.τ) (Cert.UpStepKernelIdeal.main (F := Ideal))) ⟨m, fun _ => 0, g⟩ (fun r => (∀ c : Dev Cert.UpStepKernelIdeal.nD,
      r.2.mem ((c.tc : Thread Cert.UpStepKernelIdeal.nD Cert.UpStepKernelIdeal.τ).loc Cert.UpStepKernelIdeal.main_arg0) = m ((c.tc : Thread Cert.UpStepKernelIdeal.nD Cert.UpStepKernelIdeal.τ).loc Cert.UpStepKernelIdeal.main_arg0)
      ∧ r.2.mem ((c.tc : Thread Cert.UpStepKernelIdeal.nD Cert.UpStepKernelIdeal.τ).loc Cert.UpStepKernelIdeal.main_arg1) = m ((c.tc : Thread Cert.UpStepKernelIdeal.nD Cert.UpStepKernelIdeal.τ).loc Cert.UpStepKernelIdeal.main_arg1)
      ∧ r.2.mem ((c.tc : Thread Cert.UpStepKernelIdeal.nD Cert.UpStepKernelIdeal.τ).loc Cert.UpStepKernelIdeal.main_arg2) = m ((c.tc : Thread Cert.UpStepKernelIdeal.nD Cert.UpStepKernelIdeal.τ).loc Cert.UpStepKernelIdeal.main_arg2)
      ∧ r.2.mem ((c.tc : Thread Cert.UpStepKernelIdeal.nD Cert.UpStepKernelIdeal.τ).loc Cert.UpStepKernelIdeal.main_arg3) = m ((c.tc : Thread Cert.UpStepKernelIdeal.nD Cert.UpStepKernelIdeal.τ).loc Cert.UpStepKernelIdeal.main_arg3))
      ∧ r.2.sem = fun _ => 0)

def quiescent_UpStepReferenceIdeal [hUpStepReferenceIdeal : Cert.UpStepReferenceIdeal.Facts] : Prop :=
  ∀ (m : (ℓ : Loc Cert.UpStepReferenceIdeal.nD Cert.UpStepReferenceIdeal.τ Cert.UpStepReferenceIdeal.sig) → Buf (Elt Ideal) ℓ) (g : Dev Cert.UpStepReferenceIdeal.nD → PrngReg), Pre_UpStepReferenceIdeal m →
    θ_run (Cert.UpStepReferenceIdeal.defs (F := Ideal)) (onTc (τ := Cert.UpStepReferenceIdeal.τ) (Cert.UpStepReferenceIdeal.main (F := Ideal))) ⟨m, fun _ => 0, g⟩ (fun r => (∀ c : Dev Cert.UpStepReferenceIdeal.nD,
      r.2.mem ((c.tc : Thread Cert.UpStepReferenceIdeal.nD Cert.UpStepReferenceIdeal.τ).loc Cert.UpStepReferenceIdeal.main_arg0) = m ((c.tc : Thread Cert.UpStepReferenceIdeal.nD Cert.UpStepReferenceIdeal.τ).loc Cert.UpStepReferenceIdeal.main_arg0)
      ∧ r.2.mem ((c.tc : Thread Cert.UpStepReferenceIdeal.nD Cert.UpStepReferenceIdeal.τ).loc Cert.UpStepReferenceIdeal.main_arg1) = m ((c.tc : Thread Cert.UpStepReferenceIdeal.nD Cert.UpStepReferenceIdeal.τ).loc Cert.UpStepReferenceIdeal.main_arg1)
      ∧ r.2.mem ((c.tc : Thread Cert.UpStepReferenceIdeal.nD Cert.UpStepReferenceIdeal.τ).loc Cert.UpStepReferenceIdeal.main_arg2) = m ((c.tc : Thread Cert.UpStepReferenceIdeal.nD Cert.UpStepReferenceIdeal.τ).loc Cert.UpStepReferenceIdeal.main_arg2)
      ∧ r.2.mem ((c.tc : Thread Cert.UpStepReferenceIdeal.nD Cert.UpStepReferenceIdeal.τ).loc Cert.UpStepReferenceIdeal.main_arg3) = m ((c.tc : Thread Cert.UpStepReferenceIdeal.nD Cert.UpStepReferenceIdeal.τ).loc Cert.UpStepReferenceIdeal.main_arg3))
      ∧ r.2.sem = fun _ => 0)

def quiescent_DownStepKernel [hDownStepKernel : Cert.DownStepKernel.Facts] : Prop :=
  ∀ (m : (ℓ : Loc Cert.DownStepKernel.nD Cert.DownStepKernel.τ Cert.DownStepKernel.sig) → Buf (Elt Bits) ℓ) (g : Dev Cert.DownStepKernel.nD → PrngReg), Pre_DownStepKernel m →
    θ_run (Cert.DownStepKernel.defs (F := Bits)) (onTc (τ := Cert.DownStepKernel.τ) (Cert.DownStepKernel.main (F := Bits))) ⟨m, fun _ => 0, g⟩ (fun r => (∀ c : Dev Cert.DownStepKernel.nD,
      r.2.mem ((c.tc : Thread Cert.DownStepKernel.nD Cert.DownStepKernel.τ).loc Cert.DownStepKernel.main_arg0) = m ((c.tc : Thread Cert.DownStepKernel.nD Cert.DownStepKernel.τ).loc Cert.DownStepKernel.main_arg0)
      ∧ r.2.mem ((c.tc : Thread Cert.DownStepKernel.nD Cert.DownStepKernel.τ).loc Cert.DownStepKernel.main_arg1) = m ((c.tc : Thread Cert.DownStepKernel.nD Cert.DownStepKernel.τ).loc Cert.DownStepKernel.main_arg1)
      ∧ r.2.mem ((c.tc : Thread Cert.DownStepKernel.nD Cert.DownStepKernel.τ).loc Cert.DownStepKernel.main_arg2) = m ((c.tc : Thread Cert.DownStepKernel.nD Cert.DownStepKernel.τ).loc Cert.DownStepKernel.main_arg2)
      ∧ r.2.mem ((c.tc : Thread Cert.DownStepKernel.nD Cert.DownStepKernel.τ).loc Cert.DownStepKernel.main_arg3) = m ((c.tc : Thread Cert.DownStepKernel.nD Cert.DownStepKernel.τ).loc Cert.DownStepKernel.main_arg3))
      ∧ r.2.sem = fun _ => 0)

def quiescent_DownStepKernelIdeal [hDownStepKernelIdeal : Cert.DownStepKernelIdeal.Facts] : Prop :=
  ∀ (m : (ℓ : Loc Cert.DownStepKernelIdeal.nD Cert.DownStepKernelIdeal.τ Cert.DownStepKernelIdeal.sig) → Buf (Elt Ideal) ℓ) (g : Dev Cert.DownStepKernelIdeal.nD → PrngReg), Pre_DownStepKernelIdeal m →
    θ_run (Cert.DownStepKernelIdeal.defs (F := Ideal)) (onTc (τ := Cert.DownStepKernelIdeal.τ) (Cert.DownStepKernelIdeal.main (F := Ideal))) ⟨m, fun _ => 0, g⟩ (fun r => (∀ c : Dev Cert.DownStepKernelIdeal.nD,
      r.2.mem ((c.tc : Thread Cert.DownStepKernelIdeal.nD Cert.DownStepKernelIdeal.τ).loc Cert.DownStepKernelIdeal.main_arg0) = m ((c.tc : Thread Cert.DownStepKernelIdeal.nD Cert.DownStepKernelIdeal.τ).loc Cert.DownStepKernelIdeal.main_arg0)
      ∧ r.2.mem ((c.tc : Thread Cert.DownStepKernelIdeal.nD Cert.DownStepKernelIdeal.τ).loc Cert.DownStepKernelIdeal.main_arg1) = m ((c.tc : Thread Cert.DownStepKernelIdeal.nD Cert.DownStepKernelIdeal.τ).loc Cert.DownStepKernelIdeal.main_arg1)
      ∧ r.2.mem ((c.tc : Thread Cert.DownStepKernelIdeal.nD Cert.DownStepKernelIdeal.τ).loc Cert.DownStepKernelIdeal.main_arg2) = m ((c.tc : Thread Cert.DownStepKernelIdeal.nD Cert.DownStepKernelIdeal.τ).loc Cert.DownStepKernelIdeal.main_arg2)
      ∧ r.2.mem ((c.tc : Thread Cert.DownStepKernelIdeal.nD Cert.DownStepKernelIdeal.τ).loc Cert.DownStepKernelIdeal.main_arg3) = m ((c.tc : Thread Cert.DownStepKernelIdeal.nD Cert.DownStepKernelIdeal.τ).loc Cert.DownStepKernelIdeal.main_arg3))
      ∧ r.2.sem = fun _ => 0)

def quiescent_DownStepReferenceIdeal [hDownStepReferenceIdeal : Cert.DownStepReferenceIdeal.Facts] : Prop :=
  ∀ (m : (ℓ : Loc Cert.DownStepReferenceIdeal.nD Cert.DownStepReferenceIdeal.τ Cert.DownStepReferenceIdeal.sig) → Buf (Elt Ideal) ℓ) (g : Dev Cert.DownStepReferenceIdeal.nD → PrngReg), Pre_DownStepReferenceIdeal m →
    θ_run (Cert.DownStepReferenceIdeal.defs (F := Ideal)) (onTc (τ := Cert.DownStepReferenceIdeal.τ) (Cert.DownStepReferenceIdeal.main (F := Ideal))) ⟨m, fun _ => 0, g⟩ (fun r => (∀ c : Dev Cert.DownStepReferenceIdeal.nD,
      r.2.mem ((c.tc : Thread Cert.DownStepReferenceIdeal.nD Cert.DownStepReferenceIdeal.τ).loc Cert.DownStepReferenceIdeal.main_arg0) = m ((c.tc : Thread Cert.DownStepReferenceIdeal.nD Cert.DownStepReferenceIdeal.τ).loc Cert.DownStepReferenceIdeal.main_arg0)
      ∧ r.2.mem ((c.tc : Thread Cert.DownStepReferenceIdeal.nD Cert.DownStepReferenceIdeal.τ).loc Cert.DownStepReferenceIdeal.main_arg1) = m ((c.tc : Thread Cert.DownStepReferenceIdeal.nD Cert.DownStepReferenceIdeal.τ).loc Cert.DownStepReferenceIdeal.main_arg1)
      ∧ r.2.mem ((c.tc : Thread Cert.DownStepReferenceIdeal.nD Cert.DownStepReferenceIdeal.τ).loc Cert.DownStepReferenceIdeal.main_arg2) = m ((c.tc : Thread Cert.DownStepReferenceIdeal.nD Cert.DownStepReferenceIdeal.τ).loc Cert.DownStepReferenceIdeal.main_arg2)
      ∧ r.2.mem ((c.tc : Thread Cert.DownStepReferenceIdeal.nD Cert.DownStepReferenceIdeal.τ).loc Cert.DownStepReferenceIdeal.main_arg3) = m ((c.tc : Thread Cert.DownStepReferenceIdeal.nD Cert.DownStepReferenceIdeal.τ).loc Cert.DownStepReferenceIdeal.main_arg3))
      ∧ r.2.sem = fun _ => 0)

def quiescent_FirstConvInputKernel [hFirstConvInputKernel : Cert.FirstConvInputKernel.Facts] : Prop :=
  ∀ (m : (ℓ : Loc Cert.FirstConvInputKernel.nD Cert.FirstConvInputKernel.τ Cert.FirstConvInputKernel.sig) → Buf (Elt Bits) ℓ) (g : Dev Cert.FirstConvInputKernel.nD → PrngReg), Pre_FirstConvInputKernel m →
    θ_run (Cert.FirstConvInputKernel.defs (F := Bits)) (onTc (τ := Cert.FirstConvInputKernel.τ) (Cert.FirstConvInputKernel.main (F := Bits))) ⟨m, fun _ => 0, g⟩ (fun r => (∀ c : Dev Cert.FirstConvInputKernel.nD,
      r.2.mem ((c.tc : Thread Cert.FirstConvInputKernel.nD Cert.FirstConvInputKernel.τ).loc Cert.FirstConvInputKernel.main_arg0) = m ((c.tc : Thread Cert.FirstConvInputKernel.nD Cert.FirstConvInputKernel.τ).loc Cert.FirstConvInputKernel.main_arg0)
      ∧ r.2.mem ((c.tc : Thread Cert.FirstConvInputKernel.nD Cert.FirstConvInputKernel.τ).loc Cert.FirstConvInputKernel.main_arg1) = m ((c.tc : Thread Cert.FirstConvInputKernel.nD Cert.FirstConvInputKernel.τ).loc Cert.FirstConvInputKernel.main_arg1)
      ∧ r.2.mem ((c.tc : Thread Cert.FirstConvInputKernel.nD Cert.FirstConvInputKernel.τ).loc Cert.FirstConvInputKernel.main_arg2) = m ((c.tc : Thread Cert.FirstConvInputKernel.nD Cert.FirstConvInputKernel.τ).loc Cert.FirstConvInputKernel.main_arg2)
      ∧ r.2.mem ((c.tc : Thread Cert.FirstConvInputKernel.nD Cert.FirstConvInputKernel.τ).loc Cert.FirstConvInputKernel.main_arg3) = m ((c.tc : Thread Cert.FirstConvInputKernel.nD Cert.FirstConvInputKernel.τ).loc Cert.FirstConvInputKernel.main_arg3)
      ∧ r.2.mem ((c.tc : Thread Cert.FirstConvInputKernel.nD Cert.FirstConvInputKernel.τ).loc Cert.FirstConvInputKernel.main_arg4) = m ((c.tc : Thread Cert.FirstConvInputKernel.nD Cert.FirstConvInputKernel.τ).loc Cert.FirstConvInputKernel.main_arg4))
      ∧ r.2.sem = fun _ => 0)

def quiescent_FirstConvInputKernelIdeal [hFirstConvInputKernelIdeal : Cert.FirstConvInputKernelIdeal.Facts] : Prop :=
  ∀ (m : (ℓ : Loc Cert.FirstConvInputKernelIdeal.nD Cert.FirstConvInputKernelIdeal.τ Cert.FirstConvInputKernelIdeal.sig) → Buf (Elt Ideal) ℓ) (g : Dev Cert.FirstConvInputKernelIdeal.nD → PrngReg), Pre_FirstConvInputKernelIdeal m →
    θ_run (Cert.FirstConvInputKernelIdeal.defs (F := Ideal)) (onTc (τ := Cert.FirstConvInputKernelIdeal.τ) (Cert.FirstConvInputKernelIdeal.main (F := Ideal))) ⟨m, fun _ => 0, g⟩ (fun r => (∀ c : Dev Cert.FirstConvInputKernelIdeal.nD,
      r.2.mem ((c.tc : Thread Cert.FirstConvInputKernelIdeal.nD Cert.FirstConvInputKernelIdeal.τ).loc Cert.FirstConvInputKernelIdeal.main_arg0) = m ((c.tc : Thread Cert.FirstConvInputKernelIdeal.nD Cert.FirstConvInputKernelIdeal.τ).loc Cert.FirstConvInputKernelIdeal.main_arg0)
      ∧ r.2.mem ((c.tc : Thread Cert.FirstConvInputKernelIdeal.nD Cert.FirstConvInputKernelIdeal.τ).loc Cert.FirstConvInputKernelIdeal.main_arg1) = m ((c.tc : Thread Cert.FirstConvInputKernelIdeal.nD Cert.FirstConvInputKernelIdeal.τ).loc Cert.FirstConvInputKernelIdeal.main_arg1)
      ∧ r.2.mem ((c.tc : Thread Cert.FirstConvInputKernelIdeal.nD Cert.FirstConvInputKernelIdeal.τ).loc Cert.FirstConvInputKernelIdeal.main_arg2) = m ((c.tc : Thread Cert.FirstConvInputKernelIdeal.nD Cert.FirstConvInputKernelIdeal.τ).loc Cert.FirstConvInputKernelIdeal.main_arg2)
      ∧ r.2.mem ((c.tc : Thread Cert.FirstConvInputKernelIdeal.nD Cert.FirstConvInputKernelIdeal.τ).loc Cert.FirstConvInputKernelIdeal.main_arg3) = m ((c.tc : Thread Cert.FirstConvInputKernelIdeal.nD Cert.FirstConvInputKernelIdeal.τ).loc Cert.FirstConvInputKernelIdeal.main_arg3)
      ∧ r.2.mem ((c.tc : Thread Cert.FirstConvInputKernelIdeal.nD Cert.FirstConvInputKernelIdeal.τ).loc Cert.FirstConvInputKernelIdeal.main_arg4) = m ((c.tc : Thread Cert.FirstConvInputKernelIdeal.nD Cert.FirstConvInputKernelIdeal.τ).loc Cert.FirstConvInputKernelIdeal.main_arg4))
      ∧ r.2.sem = fun _ => 0)

def quiescent_FirstConvInputReferenceIdeal [hFirstConvInputReferenceIdeal : Cert.FirstConvInputReferenceIdeal.Facts] : Prop :=
  ∀ (m : (ℓ : Loc Cert.FirstConvInputReferenceIdeal.nD Cert.FirstConvInputReferenceIdeal.τ Cert.FirstConvInputReferenceIdeal.sig) → Buf (Elt Ideal) ℓ) (g : Dev Cert.FirstConvInputReferenceIdeal.nD → PrngReg), Pre_FirstConvInputReferenceIdeal m →
    θ_run (Cert.FirstConvInputReferenceIdeal.defs (F := Ideal)) (onTc (τ := Cert.FirstConvInputReferenceIdeal.τ) (Cert.FirstConvInputReferenceIdeal.main (F := Ideal))) ⟨m, fun _ => 0, g⟩ (fun r => (∀ c : Dev Cert.FirstConvInputReferenceIdeal.nD,
      r.2.mem ((c.tc : Thread Cert.FirstConvInputReferenceIdeal.nD Cert.FirstConvInputReferenceIdeal.τ).loc Cert.FirstConvInputReferenceIdeal.main_arg0) = m ((c.tc : Thread Cert.FirstConvInputReferenceIdeal.nD Cert.FirstConvInputReferenceIdeal.τ).loc Cert.FirstConvInputReferenceIdeal.main_arg0)
      ∧ r.2.mem ((c.tc : Thread Cert.FirstConvInputReferenceIdeal.nD Cert.FirstConvInputReferenceIdeal.τ).loc Cert.FirstConvInputReferenceIdeal.main_arg1) = m ((c.tc : Thread Cert.FirstConvInputReferenceIdeal.nD Cert.FirstConvInputReferenceIdeal.τ).loc Cert.FirstConvInputReferenceIdeal.main_arg1)
      ∧ r.2.mem ((c.tc : Thread Cert.FirstConvInputReferenceIdeal.nD Cert.FirstConvInputReferenceIdeal.τ).loc Cert.FirstConvInputReferenceIdeal.main_arg2) = m ((c.tc : Thread Cert.FirstConvInputReferenceIdeal.nD Cert.FirstConvInputReferenceIdeal.τ).loc Cert.FirstConvInputReferenceIdeal.main_arg2)
      ∧ r.2.mem ((c.tc : Thread Cert.FirstConvInputReferenceIdeal.nD Cert.FirstConvInputReferenceIdeal.τ).loc Cert.FirstConvInputReferenceIdeal.main_arg3) = m ((c.tc : Thread Cert.FirstConvInputReferenceIdeal.nD Cert.FirstConvInputReferenceIdeal.τ).loc Cert.FirstConvInputReferenceIdeal.main_arg3)
      ∧ r.2.mem ((c.tc : Thread Cert.FirstConvInputReferenceIdeal.nD Cert.FirstConvInputReferenceIdeal.τ).loc Cert.FirstConvInputReferenceIdeal.main_arg4) = m ((c.tc : Thread Cert.FirstConvInputReferenceIdeal.nD Cert.FirstConvInputReferenceIdeal.τ).loc Cert.FirstConvInputReferenceIdeal.main_arg4))
      ∧ r.2.sem = fun _ => 0)

def quiescent_FirstAttnBackKernel [hFirstAttnBackKernel : Cert.FirstAttnBackKernel.Facts] : Prop :=
  ∀ (m : (ℓ : Loc Cert.FirstAttnBackKernel.nD Cert.FirstAttnBackKernel.τ Cert.FirstAttnBackKernel.sig) → Buf (Elt Bits) ℓ) (g : Dev Cert.FirstAttnBackKernel.nD → PrngReg), Pre_FirstAttnBackKernel m →
    θ_run (Cert.FirstAttnBackKernel.defs (F := Bits)) (onTc (τ := Cert.FirstAttnBackKernel.τ) (Cert.FirstAttnBackKernel.main (F := Bits))) ⟨m, fun _ => 0, g⟩ (fun r => (∀ c : Dev Cert.FirstAttnBackKernel.nD,
      r.2.mem ((c.tc : Thread Cert.FirstAttnBackKernel.nD Cert.FirstAttnBackKernel.τ).loc Cert.FirstAttnBackKernel.main_arg0) = m ((c.tc : Thread Cert.FirstAttnBackKernel.nD Cert.FirstAttnBackKernel.τ).loc Cert.FirstAttnBackKernel.main_arg0)
      ∧ r.2.mem ((c.tc : Thread Cert.FirstAttnBackKernel.nD Cert.FirstAttnBackKernel.τ).loc Cert.FirstAttnBackKernel.main_arg1) = m ((c.tc : Thread Cert.FirstAttnBackKernel.nD Cert.FirstAttnBackKernel.τ).loc Cert.FirstAttnBackKernel.main_arg1))
      ∧ r.2.sem = fun _ => 0)

def quiescent_FirstAttnBackKernelIdeal [hFirstAttnBackKernelIdeal : Cert.FirstAttnBackKernelIdeal.Facts] : Prop :=
  ∀ (m : (ℓ : Loc Cert.FirstAttnBackKernelIdeal.nD Cert.FirstAttnBackKernelIdeal.τ Cert.FirstAttnBackKernelIdeal.sig) → Buf (Elt Ideal) ℓ) (g : Dev Cert.FirstAttnBackKernelIdeal.nD → PrngReg), Pre_FirstAttnBackKernelIdeal m →
    θ_run (Cert.FirstAttnBackKernelIdeal.defs (F := Ideal)) (onTc (τ := Cert.FirstAttnBackKernelIdeal.τ) (Cert.FirstAttnBackKernelIdeal.main (F := Ideal))) ⟨m, fun _ => 0, g⟩ (fun r => (∀ c : Dev Cert.FirstAttnBackKernelIdeal.nD,
      r.2.mem ((c.tc : Thread Cert.FirstAttnBackKernelIdeal.nD Cert.FirstAttnBackKernelIdeal.τ).loc Cert.FirstAttnBackKernelIdeal.main_arg0) = m ((c.tc : Thread Cert.FirstAttnBackKernelIdeal.nD Cert.FirstAttnBackKernelIdeal.τ).loc Cert.FirstAttnBackKernelIdeal.main_arg0)
      ∧ r.2.mem ((c.tc : Thread Cert.FirstAttnBackKernelIdeal.nD Cert.FirstAttnBackKernelIdeal.τ).loc Cert.FirstAttnBackKernelIdeal.main_arg1) = m ((c.tc : Thread Cert.FirstAttnBackKernelIdeal.nD Cert.FirstAttnBackKernelIdeal.τ).loc Cert.FirstAttnBackKernelIdeal.main_arg1))
      ∧ r.2.sem = fun _ => 0)

def quiescent_FirstAttnBackReferenceIdeal [hFirstAttnBackReferenceIdeal : Cert.FirstAttnBackReferenceIdeal.Facts] : Prop :=
  ∀ (m : (ℓ : Loc Cert.FirstAttnBackReferenceIdeal.nD Cert.FirstAttnBackReferenceIdeal.τ Cert.FirstAttnBackReferenceIdeal.sig) → Buf (Elt Ideal) ℓ) (g : Dev Cert.FirstAttnBackReferenceIdeal.nD → PrngReg), Pre_FirstAttnBackReferenceIdeal m →
    θ_run (Cert.FirstAttnBackReferenceIdeal.defs (F := Ideal)) (onTc (τ := Cert.FirstAttnBackReferenceIdeal.τ) (Cert.FirstAttnBackReferenceIdeal.main (F := Ideal))) ⟨m, fun _ => 0, g⟩ (fun r => (∀ c : Dev Cert.FirstAttnBackReferenceIdeal.nD,
      r.2.mem ((c.tc : Thread Cert.FirstAttnBackReferenceIdeal.nD Cert.FirstAttnBackReferenceIdeal.τ).loc Cert.FirstAttnBackReferenceIdeal.main_arg0) = m ((c.tc : Thread Cert.FirstAttnBackReferenceIdeal.nD Cert.FirstAttnBackReferenceIdeal.τ).loc Cert.FirstAttnBackReferenceIdeal.main_arg0)
      ∧ r.2.mem ((c.tc : Thread Cert.FirstAttnBackReferenceIdeal.nD Cert.FirstAttnBackReferenceIdeal.τ).loc Cert.FirstAttnBackReferenceIdeal.main_arg1) = m ((c.tc : Thread Cert.FirstAttnBackReferenceIdeal.nD Cert.FirstAttnBackReferenceIdeal.τ).loc Cert.FirstAttnBackReferenceIdeal.main_arg1))
      ∧ r.2.sem = fun _ => 0)

def quiescent_FirstConvBackKernel [hFirstConvBackKernel : Cert.FirstConvBackKernel.Facts] : Prop :=
  ∀ (m : (ℓ : Loc Cert.FirstConvBackKernel.nD Cert.FirstConvBackKernel.τ Cert.FirstConvBackKernel.sig) → Buf (Elt Bits) ℓ) (g : Dev Cert.FirstConvBackKernel.nD → PrngReg), Pre_FirstConvBackKernel m →
    θ_run (Cert.FirstConvBackKernel.defs (F := Bits)) (onTc (τ := Cert.FirstConvBackKernel.τ) (Cert.FirstConvBackKernel.main (F := Bits))) ⟨m, fun _ => 0, g⟩ (fun r => (∀ c : Dev Cert.FirstConvBackKernel.nD,
      r.2.mem ((c.tc : Thread Cert.FirstConvBackKernel.nD Cert.FirstConvBackKernel.τ).loc Cert.FirstConvBackKernel.main_arg0) = m ((c.tc : Thread Cert.FirstConvBackKernel.nD Cert.FirstConvBackKernel.τ).loc Cert.FirstConvBackKernel.main_arg0)
      ∧ r.2.mem ((c.tc : Thread Cert.FirstConvBackKernel.nD Cert.FirstConvBackKernel.τ).loc Cert.FirstConvBackKernel.main_arg1) = m ((c.tc : Thread Cert.FirstConvBackKernel.nD Cert.FirstConvBackKernel.τ).loc Cert.FirstConvBackKernel.main_arg1))
      ∧ r.2.sem = fun _ => 0)

def quiescent_FirstConvBackKernelIdeal [hFirstConvBackKernelIdeal : Cert.FirstConvBackKernelIdeal.Facts] : Prop :=
  ∀ (m : (ℓ : Loc Cert.FirstConvBackKernelIdeal.nD Cert.FirstConvBackKernelIdeal.τ Cert.FirstConvBackKernelIdeal.sig) → Buf (Elt Ideal) ℓ) (g : Dev Cert.FirstConvBackKernelIdeal.nD → PrngReg), Pre_FirstConvBackKernelIdeal m →
    θ_run (Cert.FirstConvBackKernelIdeal.defs (F := Ideal)) (onTc (τ := Cert.FirstConvBackKernelIdeal.τ) (Cert.FirstConvBackKernelIdeal.main (F := Ideal))) ⟨m, fun _ => 0, g⟩ (fun r => (∀ c : Dev Cert.FirstConvBackKernelIdeal.nD,
      r.2.mem ((c.tc : Thread Cert.FirstConvBackKernelIdeal.nD Cert.FirstConvBackKernelIdeal.τ).loc Cert.FirstConvBackKernelIdeal.main_arg0) = m ((c.tc : Thread Cert.FirstConvBackKernelIdeal.nD Cert.FirstConvBackKernelIdeal.τ).loc Cert.FirstConvBackKernelIdeal.main_arg0)
      ∧ r.2.mem ((c.tc : Thread Cert.FirstConvBackKernelIdeal.nD Cert.FirstConvBackKernelIdeal.τ).loc Cert.FirstConvBackKernelIdeal.main_arg1) = m ((c.tc : Thread Cert.FirstConvBackKernelIdeal.nD Cert.FirstConvBackKernelIdeal.τ).loc Cert.FirstConvBackKernelIdeal.main_arg1))
      ∧ r.2.sem = fun _ => 0)

def quiescent_FirstConvBackReferenceIdeal [hFirstConvBackReferenceIdeal : Cert.FirstConvBackReferenceIdeal.Facts] : Prop :=
  ∀ (m : (ℓ : Loc Cert.FirstConvBackReferenceIdeal.nD Cert.FirstConvBackReferenceIdeal.τ Cert.FirstConvBackReferenceIdeal.sig) → Buf (Elt Ideal) ℓ) (g : Dev Cert.FirstConvBackReferenceIdeal.nD → PrngReg), Pre_FirstConvBackReferenceIdeal m →
    θ_run (Cert.FirstConvBackReferenceIdeal.defs (F := Ideal)) (onTc (τ := Cert.FirstConvBackReferenceIdeal.τ) (Cert.FirstConvBackReferenceIdeal.main (F := Ideal))) ⟨m, fun _ => 0, g⟩ (fun r => (∀ c : Dev Cert.FirstConvBackReferenceIdeal.nD,
      r.2.mem ((c.tc : Thread Cert.FirstConvBackReferenceIdeal.nD Cert.FirstConvBackReferenceIdeal.τ).loc Cert.FirstConvBackReferenceIdeal.main_arg0) = m ((c.tc : Thread Cert.FirstConvBackReferenceIdeal.nD Cert.FirstConvBackReferenceIdeal.τ).loc Cert.FirstConvBackReferenceIdeal.main_arg0)
      ∧ r.2.mem ((c.tc : Thread Cert.FirstConvBackReferenceIdeal.nD Cert.FirstConvBackReferenceIdeal.τ).loc Cert.FirstConvBackReferenceIdeal.main_arg1) = m ((c.tc : Thread Cert.FirstConvBackReferenceIdeal.nD Cert.FirstConvBackReferenceIdeal.τ).loc Cert.FirstConvBackReferenceIdeal.main_arg1))
      ∧ r.2.sem = fun _ => 0)

def quiescent_FirstConvInKernel [hFirstConvInKernel : Cert.FirstConvInKernel.Facts] : Prop :=
  ∀ (m : (ℓ : Loc Cert.FirstConvInKernel.nD Cert.FirstConvInKernel.τ Cert.FirstConvInKernel.sig) → Buf (Elt Bits) ℓ) (g : Dev Cert.FirstConvInKernel.nD → PrngReg), Pre_FirstConvInKernel m →
    θ_run (Cert.FirstConvInKernel.defs (F := Bits)) (onTc (τ := Cert.FirstConvInKernel.τ) (Cert.FirstConvInKernel.main (F := Bits))) ⟨m, fun _ => 0, g⟩ (fun r => (∀ c : Dev Cert.FirstConvInKernel.nD,
      r.2.mem ((c.tc : Thread Cert.FirstConvInKernel.nD Cert.FirstConvInKernel.τ).loc Cert.FirstConvInKernel.main_arg0) = m ((c.tc : Thread Cert.FirstConvInKernel.nD Cert.FirstConvInKernel.τ).loc Cert.FirstConvInKernel.main_arg0)
      ∧ r.2.mem ((c.tc : Thread Cert.FirstConvInKernel.nD Cert.FirstConvInKernel.τ).loc Cert.FirstConvInKernel.main_arg1) = m ((c.tc : Thread Cert.FirstConvInKernel.nD Cert.FirstConvInKernel.τ).loc Cert.FirstConvInKernel.main_arg1)
      ∧ r.2.mem ((c.tc : Thread Cert.FirstConvInKernel.nD Cert.FirstConvInKernel.τ).loc Cert.FirstConvInKernel.main_arg2) = m ((c.tc : Thread Cert.FirstConvInKernel.nD Cert.FirstConvInKernel.τ).loc Cert.FirstConvInKernel.main_arg2))
      ∧ r.2.sem = fun _ => 0)

def quiescent_FirstConvInKernelIdeal [hFirstConvInKernelIdeal : Cert.FirstConvInKernelIdeal.Facts] : Prop :=
  ∀ (m : (ℓ : Loc Cert.FirstConvInKernelIdeal.nD Cert.FirstConvInKernelIdeal.τ Cert.FirstConvInKernelIdeal.sig) → Buf (Elt Ideal) ℓ) (g : Dev Cert.FirstConvInKernelIdeal.nD → PrngReg), Pre_FirstConvInKernelIdeal m →
    θ_run (Cert.FirstConvInKernelIdeal.defs (F := Ideal)) (onTc (τ := Cert.FirstConvInKernelIdeal.τ) (Cert.FirstConvInKernelIdeal.main (F := Ideal))) ⟨m, fun _ => 0, g⟩ (fun r => (∀ c : Dev Cert.FirstConvInKernelIdeal.nD,
      r.2.mem ((c.tc : Thread Cert.FirstConvInKernelIdeal.nD Cert.FirstConvInKernelIdeal.τ).loc Cert.FirstConvInKernelIdeal.main_arg0) = m ((c.tc : Thread Cert.FirstConvInKernelIdeal.nD Cert.FirstConvInKernelIdeal.τ).loc Cert.FirstConvInKernelIdeal.main_arg0)
      ∧ r.2.mem ((c.tc : Thread Cert.FirstConvInKernelIdeal.nD Cert.FirstConvInKernelIdeal.τ).loc Cert.FirstConvInKernelIdeal.main_arg1) = m ((c.tc : Thread Cert.FirstConvInKernelIdeal.nD Cert.FirstConvInKernelIdeal.τ).loc Cert.FirstConvInKernelIdeal.main_arg1)
      ∧ r.2.mem ((c.tc : Thread Cert.FirstConvInKernelIdeal.nD Cert.FirstConvInKernelIdeal.τ).loc Cert.FirstConvInKernelIdeal.main_arg2) = m ((c.tc : Thread Cert.FirstConvInKernelIdeal.nD Cert.FirstConvInKernelIdeal.τ).loc Cert.FirstConvInKernelIdeal.main_arg2))
      ∧ r.2.sem = fun _ => 0)

def quiescent_FirstConvInReferenceIdeal [hFirstConvInReferenceIdeal : Cert.FirstConvInReferenceIdeal.Facts] : Prop :=
  ∀ (m : (ℓ : Loc Cert.FirstConvInReferenceIdeal.nD Cert.FirstConvInReferenceIdeal.τ Cert.FirstConvInReferenceIdeal.sig) → Buf (Elt Ideal) ℓ) (g : Dev Cert.FirstConvInReferenceIdeal.nD → PrngReg), Pre_FirstConvInReferenceIdeal m →
    θ_run (Cert.FirstConvInReferenceIdeal.defs (F := Ideal)) (onTc (τ := Cert.FirstConvInReferenceIdeal.τ) (Cert.FirstConvInReferenceIdeal.main (F := Ideal))) ⟨m, fun _ => 0, g⟩ (fun r => (∀ c : Dev Cert.FirstConvInReferenceIdeal.nD,
      r.2.mem ((c.tc : Thread Cert.FirstConvInReferenceIdeal.nD Cert.FirstConvInReferenceIdeal.τ).loc Cert.FirstConvInReferenceIdeal.main_arg0) = m ((c.tc : Thread Cert.FirstConvInReferenceIdeal.nD Cert.FirstConvInReferenceIdeal.τ).loc Cert.FirstConvInReferenceIdeal.main_arg0)
      ∧ r.2.mem ((c.tc : Thread Cert.FirstConvInReferenceIdeal.nD Cert.FirstConvInReferenceIdeal.τ).loc Cert.FirstConvInReferenceIdeal.main_arg1) = m ((c.tc : Thread Cert.FirstConvInReferenceIdeal.nD Cert.FirstConvInReferenceIdeal.τ).loc Cert.FirstConvInReferenceIdeal.main_arg1)
      ∧ r.2.mem ((c.tc : Thread Cert.FirstConvInReferenceIdeal.nD Cert.FirstConvInReferenceIdeal.τ).loc Cert.FirstConvInReferenceIdeal.main_arg2) = m ((c.tc : Thread Cert.FirstConvInReferenceIdeal.nD Cert.FirstConvInReferenceIdeal.τ).loc Cert.FirstConvInReferenceIdeal.main_arg2))
      ∧ r.2.sem = fun _ => 0)

def quiescent_FirstAttnOutKernel [hFirstAttnOutKernel : Cert.FirstAttnOutKernel.Facts] : Prop :=
  ∀ (m : (ℓ : Loc Cert.FirstAttnOutKernel.nD Cert.FirstAttnOutKernel.τ Cert.FirstAttnOutKernel.sig) → Buf (Elt Bits) ℓ) (g : Dev Cert.FirstAttnOutKernel.nD → PrngReg), Pre_FirstAttnOutKernel m →
    θ_run (Cert.FirstAttnOutKernel.defs (F := Bits)) (onTc (τ := Cert.FirstAttnOutKernel.τ) (Cert.FirstAttnOutKernel.main (F := Bits))) ⟨m, fun _ => 0, g⟩ (fun r => (∀ c : Dev Cert.FirstAttnOutKernel.nD,
      r.2.mem ((c.tc : Thread Cert.FirstAttnOutKernel.nD Cert.FirstAttnOutKernel.τ).loc Cert.FirstAttnOutKernel.main_arg0) = m ((c.tc : Thread Cert.FirstAttnOutKernel.nD Cert.FirstAttnOutKernel.τ).loc Cert.FirstAttnOutKernel.main_arg0)
      ∧ r.2.mem ((c.tc : Thread Cert.FirstAttnOutKernel.nD Cert.FirstAttnOutKernel.τ).loc Cert.FirstAttnOutKernel.main_arg1) = m ((c.tc : Thread Cert.FirstAttnOutKernel.nD Cert.FirstAttnOutKernel.τ).loc Cert.FirstAttnOutKernel.main_arg1)
      ∧ r.2.mem ((c.tc : Thread Cert.FirstAttnOutKernel.nD Cert.FirstAttnOutKernel.τ).loc Cert.FirstAttnOutKernel.main_arg2) = m ((c.tc : Thread Cert.FirstAttnOutKernel.nD Cert.FirstAttnOutKernel.τ).loc Cert.FirstAttnOutKernel.main_arg2)
      ∧ r.2.mem ((c.tc : Thread Cert.FirstAttnOutKernel.nD Cert.FirstAttnOutKernel.τ).loc Cert.FirstAttnOutKernel.main_arg3) = m ((c.tc : Thread Cert.FirstAttnOutKernel.nD Cert.FirstAttnOutKernel.τ).loc Cert.FirstAttnOutKernel.main_arg3))
      ∧ r.2.sem = fun _ => 0)

def quiescent_FirstAttnOutKernelIdeal [hFirstAttnOutKernelIdeal : Cert.FirstAttnOutKernelIdeal.Facts] : Prop :=
  ∀ (m : (ℓ : Loc Cert.FirstAttnOutKernelIdeal.nD Cert.FirstAttnOutKernelIdeal.τ Cert.FirstAttnOutKernelIdeal.sig) → Buf (Elt Ideal) ℓ) (g : Dev Cert.FirstAttnOutKernelIdeal.nD → PrngReg), Pre_FirstAttnOutKernelIdeal m →
    θ_run (Cert.FirstAttnOutKernelIdeal.defs (F := Ideal)) (onTc (τ := Cert.FirstAttnOutKernelIdeal.τ) (Cert.FirstAttnOutKernelIdeal.main (F := Ideal))) ⟨m, fun _ => 0, g⟩ (fun r => (∀ c : Dev Cert.FirstAttnOutKernelIdeal.nD,
      r.2.mem ((c.tc : Thread Cert.FirstAttnOutKernelIdeal.nD Cert.FirstAttnOutKernelIdeal.τ).loc Cert.FirstAttnOutKernelIdeal.main_arg0) = m ((c.tc : Thread Cert.FirstAttnOutKernelIdeal.nD Cert.FirstAttnOutKernelIdeal.τ).loc Cert.FirstAttnOutKernelIdeal.main_arg0)
      ∧ r.2.mem ((c.tc : Thread Cert.FirstAttnOutKernelIdeal.nD Cert.FirstAttnOutKernelIdeal.τ).loc Cert.FirstAttnOutKernelIdeal.main_arg1) = m ((c.tc : Thread Cert.FirstAttnOutKernelIdeal.nD Cert.FirstAttnOutKernelIdeal.τ).loc Cert.FirstAttnOutKernelIdeal.main_arg1)
      ∧ r.2.mem ((c.tc : Thread Cert.FirstAttnOutKernelIdeal.nD Cert.FirstAttnOutKernelIdeal.τ).loc Cert.FirstAttnOutKernelIdeal.main_arg2) = m ((c.tc : Thread Cert.FirstAttnOutKernelIdeal.nD Cert.FirstAttnOutKernelIdeal.τ).loc Cert.FirstAttnOutKernelIdeal.main_arg2)
      ∧ r.2.mem ((c.tc : Thread Cert.FirstAttnOutKernelIdeal.nD Cert.FirstAttnOutKernelIdeal.τ).loc Cert.FirstAttnOutKernelIdeal.main_arg3) = m ((c.tc : Thread Cert.FirstAttnOutKernelIdeal.nD Cert.FirstAttnOutKernelIdeal.τ).loc Cert.FirstAttnOutKernelIdeal.main_arg3))
      ∧ r.2.sem = fun _ => 0)

def quiescent_FirstAttnOutReferenceIdeal [hFirstAttnOutReferenceIdeal : Cert.FirstAttnOutReferenceIdeal.Facts] : Prop :=
  ∀ (m : (ℓ : Loc Cert.FirstAttnOutReferenceIdeal.nD Cert.FirstAttnOutReferenceIdeal.τ Cert.FirstAttnOutReferenceIdeal.sig) → Buf (Elt Ideal) ℓ) (g : Dev Cert.FirstAttnOutReferenceIdeal.nD → PrngReg), Pre_FirstAttnOutReferenceIdeal m →
    θ_run (Cert.FirstAttnOutReferenceIdeal.defs (F := Ideal)) (onTc (τ := Cert.FirstAttnOutReferenceIdeal.τ) (Cert.FirstAttnOutReferenceIdeal.main (F := Ideal))) ⟨m, fun _ => 0, g⟩ (fun r => (∀ c : Dev Cert.FirstAttnOutReferenceIdeal.nD,
      r.2.mem ((c.tc : Thread Cert.FirstAttnOutReferenceIdeal.nD Cert.FirstAttnOutReferenceIdeal.τ).loc Cert.FirstAttnOutReferenceIdeal.main_arg0) = m ((c.tc : Thread Cert.FirstAttnOutReferenceIdeal.nD Cert.FirstAttnOutReferenceIdeal.τ).loc Cert.FirstAttnOutReferenceIdeal.main_arg0)
      ∧ r.2.mem ((c.tc : Thread Cert.FirstAttnOutReferenceIdeal.nD Cert.FirstAttnOutReferenceIdeal.τ).loc Cert.FirstAttnOutReferenceIdeal.main_arg1) = m ((c.tc : Thread Cert.FirstAttnOutReferenceIdeal.nD Cert.FirstAttnOutReferenceIdeal.τ).loc Cert.FirstAttnOutReferenceIdeal.main_arg1)
      ∧ r.2.mem ((c.tc : Thread Cert.FirstAttnOutReferenceIdeal.nD Cert.FirstAttnOutReferenceIdeal.τ).loc Cert.FirstAttnOutReferenceIdeal.main_arg2) = m ((c.tc : Thread Cert.FirstAttnOutReferenceIdeal.nD Cert.FirstAttnOutReferenceIdeal.τ).loc Cert.FirstAttnOutReferenceIdeal.main_arg2)
      ∧ r.2.mem ((c.tc : Thread Cert.FirstAttnOutReferenceIdeal.nD Cert.FirstAttnOutReferenceIdeal.τ).loc Cert.FirstAttnOutReferenceIdeal.main_arg3) = m ((c.tc : Thread Cert.FirstAttnOutReferenceIdeal.nD Cert.FirstAttnOutReferenceIdeal.τ).loc Cert.FirstAttnOutReferenceIdeal.main_arg3))
      ∧ r.2.sem = fun _ => 0)

def quiescent_FirstConvOutKernel [hFirstConvOutKernel : Cert.FirstConvOutKernel.Facts] : Prop :=
  ∀ (m : (ℓ : Loc Cert.FirstConvOutKernel.nD Cert.FirstConvOutKernel.τ Cert.FirstConvOutKernel.sig) → Buf (Elt Bits) ℓ) (g : Dev Cert.FirstConvOutKernel.nD → PrngReg), Pre_FirstConvOutKernel m →
    θ_run (Cert.FirstConvOutKernel.defs (F := Bits)) (onTc (τ := Cert.FirstConvOutKernel.τ) (Cert.FirstConvOutKernel.main (F := Bits))) ⟨m, fun _ => 0, g⟩ (fun r => (∀ c : Dev Cert.FirstConvOutKernel.nD,
      r.2.mem ((c.tc : Thread Cert.FirstConvOutKernel.nD Cert.FirstConvOutKernel.τ).loc Cert.FirstConvOutKernel.main_arg0) = m ((c.tc : Thread Cert.FirstConvOutKernel.nD Cert.FirstConvOutKernel.τ).loc Cert.FirstConvOutKernel.main_arg0)
      ∧ r.2.mem ((c.tc : Thread Cert.FirstConvOutKernel.nD Cert.FirstConvOutKernel.τ).loc Cert.FirstConvOutKernel.main_arg1) = m ((c.tc : Thread Cert.FirstConvOutKernel.nD Cert.FirstConvOutKernel.τ).loc Cert.FirstConvOutKernel.main_arg1)
      ∧ r.2.mem ((c.tc : Thread Cert.FirstConvOutKernel.nD Cert.FirstConvOutKernel.τ).loc Cert.FirstConvOutKernel.main_arg2) = m ((c.tc : Thread Cert.FirstConvOutKernel.nD Cert.FirstConvOutKernel.τ).loc Cert.FirstConvOutKernel.main_arg2)
      ∧ r.2.mem ((c.tc : Thread Cert.FirstConvOutKernel.nD Cert.FirstConvOutKernel.τ).loc Cert.FirstConvOutKernel.main_arg3) = m ((c.tc : Thread Cert.FirstConvOutKernel.nD Cert.FirstConvOutKernel.τ).loc Cert.FirstConvOutKernel.main_arg3)
      ∧ r.2.mem ((c.tc : Thread Cert.FirstConvOutKernel.nD Cert.FirstConvOutKernel.τ).loc Cert.FirstConvOutKernel.main_arg4) = m ((c.tc : Thread Cert.FirstConvOutKernel.nD Cert.FirstConvOutKernel.τ).loc Cert.FirstConvOutKernel.main_arg4))
      ∧ r.2.sem = fun _ => 0)

def quiescent_FirstConvOutKernelIdeal [hFirstConvOutKernelIdeal : Cert.FirstConvOutKernelIdeal.Facts] : Prop :=
  ∀ (m : (ℓ : Loc Cert.FirstConvOutKernelIdeal.nD Cert.FirstConvOutKernelIdeal.τ Cert.FirstConvOutKernelIdeal.sig) → Buf (Elt Ideal) ℓ) (g : Dev Cert.FirstConvOutKernelIdeal.nD → PrngReg), Pre_FirstConvOutKernelIdeal m →
    θ_run (Cert.FirstConvOutKernelIdeal.defs (F := Ideal)) (onTc (τ := Cert.FirstConvOutKernelIdeal.τ) (Cert.FirstConvOutKernelIdeal.main (F := Ideal))) ⟨m, fun _ => 0, g⟩ (fun r => (∀ c : Dev Cert.FirstConvOutKernelIdeal.nD,
      r.2.mem ((c.tc : Thread Cert.FirstConvOutKernelIdeal.nD Cert.FirstConvOutKernelIdeal.τ).loc Cert.FirstConvOutKernelIdeal.main_arg0) = m ((c.tc : Thread Cert.FirstConvOutKernelIdeal.nD Cert.FirstConvOutKernelIdeal.τ).loc Cert.FirstConvOutKernelIdeal.main_arg0)
      ∧ r.2.mem ((c.tc : Thread Cert.FirstConvOutKernelIdeal.nD Cert.FirstConvOutKernelIdeal.τ).loc Cert.FirstConvOutKernelIdeal.main_arg1) = m ((c.tc : Thread Cert.FirstConvOutKernelIdeal.nD Cert.FirstConvOutKernelIdeal.τ).loc Cert.FirstConvOutKernelIdeal.main_arg1)
      ∧ r.2.mem ((c.tc : Thread Cert.FirstConvOutKernelIdeal.nD Cert.FirstConvOutKernelIdeal.τ).loc Cert.FirstConvOutKernelIdeal.main_arg2) = m ((c.tc : Thread Cert.FirstConvOutKernelIdeal.nD Cert.FirstConvOutKernelIdeal.τ).loc Cert.FirstConvOutKernelIdeal.main_arg2)
      ∧ r.2.mem ((c.tc : Thread Cert.FirstConvOutKernelIdeal.nD Cert.FirstConvOutKernelIdeal.τ).loc Cert.FirstConvOutKernelIdeal.main_arg3) = m ((c.tc : Thread Cert.FirstConvOutKernelIdeal.nD Cert.FirstConvOutKernelIdeal.τ).loc Cert.FirstConvOutKernelIdeal.main_arg3)
      ∧ r.2.mem ((c.tc : Thread Cert.FirstConvOutKernelIdeal.nD Cert.FirstConvOutKernelIdeal.τ).loc Cert.FirstConvOutKernelIdeal.main_arg4) = m ((c.tc : Thread Cert.FirstConvOutKernelIdeal.nD Cert.FirstConvOutKernelIdeal.τ).loc Cert.FirstConvOutKernelIdeal.main_arg4))
      ∧ r.2.sem = fun _ => 0)

def quiescent_FirstConvOutReferenceIdeal [hFirstConvOutReferenceIdeal : Cert.FirstConvOutReferenceIdeal.Facts] : Prop :=
  ∀ (m : (ℓ : Loc Cert.FirstConvOutReferenceIdeal.nD Cert.FirstConvOutReferenceIdeal.τ Cert.FirstConvOutReferenceIdeal.sig) → Buf (Elt Ideal) ℓ) (g : Dev Cert.FirstConvOutReferenceIdeal.nD → PrngReg), Pre_FirstConvOutReferenceIdeal m →
    θ_run (Cert.FirstConvOutReferenceIdeal.defs (F := Ideal)) (onTc (τ := Cert.FirstConvOutReferenceIdeal.τ) (Cert.FirstConvOutReferenceIdeal.main (F := Ideal))) ⟨m, fun _ => 0, g⟩ (fun r => (∀ c : Dev Cert.FirstConvOutReferenceIdeal.nD,
      r.2.mem ((c.tc : Thread Cert.FirstConvOutReferenceIdeal.nD Cert.FirstConvOutReferenceIdeal.τ).loc Cert.FirstConvOutReferenceIdeal.main_arg0) = m ((c.tc : Thread Cert.FirstConvOutReferenceIdeal.nD Cert.FirstConvOutReferenceIdeal.τ).loc Cert.FirstConvOutReferenceIdeal.main_arg0)
      ∧ r.2.mem ((c.tc : Thread Cert.FirstConvOutReferenceIdeal.nD Cert.FirstConvOutReferenceIdeal.τ).loc Cert.FirstConvOutReferenceIdeal.main_arg1) = m ((c.tc : Thread Cert.FirstConvOutReferenceIdeal.nD Cert.FirstConvOutReferenceIdeal.τ).loc Cert.FirstConvOutReferenceIdeal.main_arg1)
      ∧ r.2.mem ((c.tc : Thread Cert.FirstConvOutReferenceIdeal.nD Cert.FirstConvOutReferenceIdeal.τ).loc Cert.FirstConvOutReferenceIdeal.main_arg2) = m ((c.tc : Thread Cert.FirstConvOutReferenceIdeal.nD Cert.FirstConvOutReferenceIdeal.τ).loc Cert.FirstConvOutReferenceIdeal.main_arg2)
      ∧ r.2.mem ((c.tc : Thread Cert.FirstConvOutReferenceIdeal.nD Cert.FirstConvOutReferenceIdeal.τ).loc Cert.FirstConvOutReferenceIdeal.main_arg3) = m ((c.tc : Thread Cert.FirstConvOutReferenceIdeal.nD Cert.FirstConvOutReferenceIdeal.τ).loc Cert.FirstConvOutReferenceIdeal.main_arg3)
      ∧ r.2.mem ((c.tc : Thread Cert.FirstConvOutReferenceIdeal.nD Cert.FirstConvOutReferenceIdeal.τ).loc Cert.FirstConvOutReferenceIdeal.main_arg4) = m ((c.tc : Thread Cert.FirstConvOutReferenceIdeal.nD Cert.FirstConvOutReferenceIdeal.τ).loc Cert.FirstConvOutReferenceIdeal.main_arg4))
      ∧ r.2.sem = fun _ => 0)

def quiescent_MixStepKernel [hMixStepKernel : Cert.MixStepKernel.Facts] : Prop :=
  ∀ (m : (ℓ : Loc Cert.MixStepKernel.nD Cert.MixStepKernel.τ Cert.MixStepKernel.sig) → Buf (Elt Bits) ℓ) (g : Dev Cert.MixStepKernel.nD → PrngReg), Pre_MixStepKernel m →
    θ_run (Cert.MixStepKernel.defs (F := Bits)) (onTc (τ := Cert.MixStepKernel.τ) (Cert.MixStepKernel.main (F := Bits))) ⟨m, fun _ => 0, g⟩ (fun r => (∀ c : Dev Cert.MixStepKernel.nD,
      r.2.mem ((c.tc : Thread Cert.MixStepKernel.nD Cert.MixStepKernel.τ).loc Cert.MixStepKernel.main_arg0) = m ((c.tc : Thread Cert.MixStepKernel.nD Cert.MixStepKernel.τ).loc Cert.MixStepKernel.main_arg0)
      ∧ r.2.mem ((c.tc : Thread Cert.MixStepKernel.nD Cert.MixStepKernel.τ).loc Cert.MixStepKernel.main_arg1) = m ((c.tc : Thread Cert.MixStepKernel.nD Cert.MixStepKernel.τ).loc Cert.MixStepKernel.main_arg1)
      ∧ r.2.mem ((c.tc : Thread Cert.MixStepKernel.nD Cert.MixStepKernel.τ).loc Cert.MixStepKernel.main_arg2) = m ((c.tc : Thread Cert.MixStepKernel.nD Cert.MixStepKernel.τ).loc Cert.MixStepKernel.main_arg2)
      ∧ r.2.mem ((c.tc : Thread Cert.MixStepKernel.nD Cert.MixStepKernel.τ).loc Cert.MixStepKernel.main_arg3) = m ((c.tc : Thread Cert.MixStepKernel.nD Cert.MixStepKernel.τ).loc Cert.MixStepKernel.main_arg3))
      ∧ r.2.sem = fun _ => 0)

def quiescent_MixStepKernelIdeal [hMixStepKernelIdeal : Cert.MixStepKernelIdeal.Facts] : Prop :=
  ∀ (m : (ℓ : Loc Cert.MixStepKernelIdeal.nD Cert.MixStepKernelIdeal.τ Cert.MixStepKernelIdeal.sig) → Buf (Elt Ideal) ℓ) (g : Dev Cert.MixStepKernelIdeal.nD → PrngReg), Pre_MixStepKernelIdeal m →
    θ_run (Cert.MixStepKernelIdeal.defs (F := Ideal)) (onTc (τ := Cert.MixStepKernelIdeal.τ) (Cert.MixStepKernelIdeal.main (F := Ideal))) ⟨m, fun _ => 0, g⟩ (fun r => (∀ c : Dev Cert.MixStepKernelIdeal.nD,
      r.2.mem ((c.tc : Thread Cert.MixStepKernelIdeal.nD Cert.MixStepKernelIdeal.τ).loc Cert.MixStepKernelIdeal.main_arg0) = m ((c.tc : Thread Cert.MixStepKernelIdeal.nD Cert.MixStepKernelIdeal.τ).loc Cert.MixStepKernelIdeal.main_arg0)
      ∧ r.2.mem ((c.tc : Thread Cert.MixStepKernelIdeal.nD Cert.MixStepKernelIdeal.τ).loc Cert.MixStepKernelIdeal.main_arg1) = m ((c.tc : Thread Cert.MixStepKernelIdeal.nD Cert.MixStepKernelIdeal.τ).loc Cert.MixStepKernelIdeal.main_arg1)
      ∧ r.2.mem ((c.tc : Thread Cert.MixStepKernelIdeal.nD Cert.MixStepKernelIdeal.τ).loc Cert.MixStepKernelIdeal.main_arg2) = m ((c.tc : Thread Cert.MixStepKernelIdeal.nD Cert.MixStepKernelIdeal.τ).loc Cert.MixStepKernelIdeal.main_arg2)
      ∧ r.2.mem ((c.tc : Thread Cert.MixStepKernelIdeal.nD Cert.MixStepKernelIdeal.τ).loc Cert.MixStepKernelIdeal.main_arg3) = m ((c.tc : Thread Cert.MixStepKernelIdeal.nD Cert.MixStepKernelIdeal.τ).loc Cert.MixStepKernelIdeal.main_arg3))
      ∧ r.2.sem = fun _ => 0)

def quiescent_MixStepReferenceIdeal [hMixStepReferenceIdeal : Cert.MixStepReferenceIdeal.Facts] : Prop :=
  ∀ (m : (ℓ : Loc Cert.MixStepReferenceIdeal.nD Cert.MixStepReferenceIdeal.τ Cert.MixStepReferenceIdeal.sig) → Buf (Elt Ideal) ℓ) (g : Dev Cert.MixStepReferenceIdeal.nD → PrngReg), Pre_MixStepReferenceIdeal m →
    θ_run (Cert.MixStepReferenceIdeal.defs (F := Ideal)) (onTc (τ := Cert.MixStepReferenceIdeal.τ) (Cert.MixStepReferenceIdeal.main (F := Ideal))) ⟨m, fun _ => 0, g⟩ (fun r => (∀ c : Dev Cert.MixStepReferenceIdeal.nD,
      r.2.mem ((c.tc : Thread Cert.MixStepReferenceIdeal.nD Cert.MixStepReferenceIdeal.τ).loc Cert.MixStepReferenceIdeal.main_arg0) = m ((c.tc : Thread Cert.MixStepReferenceIdeal.nD Cert.MixStepReferenceIdeal.τ).loc Cert.MixStepReferenceIdeal.main_arg0)
      ∧ r.2.mem ((c.tc : Thread Cert.MixStepReferenceIdeal.nD Cert.MixStepReferenceIdeal.τ).loc Cert.MixStepReferenceIdeal.main_arg1) = m ((c.tc : Thread Cert.MixStepReferenceIdeal.nD Cert.MixStepReferenceIdeal.τ).loc Cert.MixStepReferenceIdeal.main_arg1)
      ∧ r.2.mem ((c.tc : Thread Cert.MixStepReferenceIdeal.nD Cert.MixStepReferenceIdeal.τ).loc Cert.MixStepReferenceIdeal.main_arg2) = m ((c.tc : Thread Cert.MixStepReferenceIdeal.nD Cert.MixStepReferenceIdeal.τ).loc Cert.MixStepReferenceIdeal.main_arg2)
      ∧ r.2.mem ((c.tc : Thread Cert.MixStepReferenceIdeal.nD Cert.MixStepReferenceIdeal.τ).loc Cert.MixStepReferenceIdeal.main_arg3) = m ((c.tc : Thread Cert.MixStepReferenceIdeal.nD Cert.MixStepReferenceIdeal.τ).loc Cert.MixStepReferenceIdeal.main_arg3))
      ∧ r.2.sem = fun _ => 0)

def quiescent_ConvStepKernel [hConvStepKernel : Cert.ConvStepKernel.Facts] : Prop :=
  ∀ (m : (ℓ : Loc Cert.ConvStepKernel.nD Cert.ConvStepKernel.τ Cert.ConvStepKernel.sig) → Buf (Elt Bits) ℓ) (g : Dev Cert.ConvStepKernel.nD → PrngReg), Pre_ConvStepKernel m →
    θ_run (Cert.ConvStepKernel.defs (F := Bits)) (onTc (τ := Cert.ConvStepKernel.τ) (Cert.ConvStepKernel.main (F := Bits))) ⟨m, fun _ => 0, g⟩ (fun r => (∀ c : Dev Cert.ConvStepKernel.nD,
      r.2.mem ((c.tc : Thread Cert.ConvStepKernel.nD Cert.ConvStepKernel.τ).loc Cert.ConvStepKernel.main_arg0) = m ((c.tc : Thread Cert.ConvStepKernel.nD Cert.ConvStepKernel.τ).loc Cert.ConvStepKernel.main_arg0)
      ∧ r.2.mem ((c.tc : Thread Cert.ConvStepKernel.nD Cert.ConvStepKernel.τ).loc Cert.ConvStepKernel.main_arg1) = m ((c.tc : Thread Cert.ConvStepKernel.nD Cert.ConvStepKernel.τ).loc Cert.ConvStepKernel.main_arg1)
      ∧ r.2.mem ((c.tc : Thread Cert.ConvStepKernel.nD Cert.ConvStepKernel.τ).loc Cert.ConvStepKernel.main_arg2) = m ((c.tc : Thread Cert.ConvStepKernel.nD Cert.ConvStepKernel.τ).loc Cert.ConvStepKernel.main_arg2)
      ∧ r.2.mem ((c.tc : Thread Cert.ConvStepKernel.nD Cert.ConvStepKernel.τ).loc Cert.ConvStepKernel.main_arg3) = m ((c.tc : Thread Cert.ConvStepKernel.nD Cert.ConvStepKernel.τ).loc Cert.ConvStepKernel.main_arg3))
      ∧ r.2.sem = fun _ => 0)

def quiescent_ConvStepKernelIdeal [hConvStepKernelIdeal : Cert.ConvStepKernelIdeal.Facts] : Prop :=
  ∀ (m : (ℓ : Loc Cert.ConvStepKernelIdeal.nD Cert.ConvStepKernelIdeal.τ Cert.ConvStepKernelIdeal.sig) → Buf (Elt Ideal) ℓ) (g : Dev Cert.ConvStepKernelIdeal.nD → PrngReg), Pre_ConvStepKernelIdeal m →
    θ_run (Cert.ConvStepKernelIdeal.defs (F := Ideal)) (onTc (τ := Cert.ConvStepKernelIdeal.τ) (Cert.ConvStepKernelIdeal.main (F := Ideal))) ⟨m, fun _ => 0, g⟩ (fun r => (∀ c : Dev Cert.ConvStepKernelIdeal.nD,
      r.2.mem ((c.tc : Thread Cert.ConvStepKernelIdeal.nD Cert.ConvStepKernelIdeal.τ).loc Cert.ConvStepKernelIdeal.main_arg0) = m ((c.tc : Thread Cert.ConvStepKernelIdeal.nD Cert.ConvStepKernelIdeal.τ).loc Cert.ConvStepKernelIdeal.main_arg0)
      ∧ r.2.mem ((c.tc : Thread Cert.ConvStepKernelIdeal.nD Cert.ConvStepKernelIdeal.τ).loc Cert.ConvStepKernelIdeal.main_arg1) = m ((c.tc : Thread Cert.ConvStepKernelIdeal.nD Cert.ConvStepKernelIdeal.τ).loc Cert.ConvStepKernelIdeal.main_arg1)
      ∧ r.2.mem ((c.tc : Thread Cert.ConvStepKernelIdeal.nD Cert.ConvStepKernelIdeal.τ).loc Cert.ConvStepKernelIdeal.main_arg2) = m ((c.tc : Thread Cert.ConvStepKernelIdeal.nD Cert.ConvStepKernelIdeal.τ).loc Cert.ConvStepKernelIdeal.main_arg2)
      ∧ r.2.mem ((c.tc : Thread Cert.ConvStepKernelIdeal.nD Cert.ConvStepKernelIdeal.τ).loc Cert.ConvStepKernelIdeal.main_arg3) = m ((c.tc : Thread Cert.ConvStepKernelIdeal.nD Cert.ConvStepKernelIdeal.τ).loc Cert.ConvStepKernelIdeal.main_arg3))
      ∧ r.2.sem = fun _ => 0)

def quiescent_ConvStepReferenceIdeal [hConvStepReferenceIdeal : Cert.ConvStepReferenceIdeal.Facts] : Prop :=
  ∀ (m : (ℓ : Loc Cert.ConvStepReferenceIdeal.nD Cert.ConvStepReferenceIdeal.τ Cert.ConvStepReferenceIdeal.sig) → Buf (Elt Ideal) ℓ) (g : Dev Cert.ConvStepReferenceIdeal.nD → PrngReg), Pre_ConvStepReferenceIdeal m →
    θ_run (Cert.ConvStepReferenceIdeal.defs (F := Ideal)) (onTc (τ := Cert.ConvStepReferenceIdeal.τ) (Cert.ConvStepReferenceIdeal.main (F := Ideal))) ⟨m, fun _ => 0, g⟩ (fun r => (∀ c : Dev Cert.ConvStepReferenceIdeal.nD,
      r.2.mem ((c.tc : Thread Cert.ConvStepReferenceIdeal.nD Cert.ConvStepReferenceIdeal.τ).loc Cert.ConvStepReferenceIdeal.main_arg0) = m ((c.tc : Thread Cert.ConvStepReferenceIdeal.nD Cert.ConvStepReferenceIdeal.τ).loc Cert.ConvStepReferenceIdeal.main_arg0)
      ∧ r.2.mem ((c.tc : Thread Cert.ConvStepReferenceIdeal.nD Cert.ConvStepReferenceIdeal.τ).loc Cert.ConvStepReferenceIdeal.main_arg1) = m ((c.tc : Thread Cert.ConvStepReferenceIdeal.nD Cert.ConvStepReferenceIdeal.τ).loc Cert.ConvStepReferenceIdeal.main_arg1)
      ∧ r.2.mem ((c.tc : Thread Cert.ConvStepReferenceIdeal.nD Cert.ConvStepReferenceIdeal.τ).loc Cert.ConvStepReferenceIdeal.main_arg2) = m ((c.tc : Thread Cert.ConvStepReferenceIdeal.nD Cert.ConvStepReferenceIdeal.τ).loc Cert.ConvStepReferenceIdeal.main_arg2)
      ∧ r.2.mem ((c.tc : Thread Cert.ConvStepReferenceIdeal.nD Cert.ConvStepReferenceIdeal.τ).loc Cert.ConvStepReferenceIdeal.main_arg3) = m ((c.tc : Thread Cert.ConvStepReferenceIdeal.nD Cert.ConvStepReferenceIdeal.τ).loc Cert.ConvStepReferenceIdeal.main_arg3))
      ∧ r.2.sem = fun _ => 0)

def quiescent_SquareStepKernel [hSquareStepKernel : Cert.SquareStepKernel.Facts] : Prop :=
  ∀ (m : (ℓ : Loc Cert.SquareStepKernel.nD Cert.SquareStepKernel.τ Cert.SquareStepKernel.sig) → Buf (Elt Bits) ℓ) (g : Dev Cert.SquareStepKernel.nD → PrngReg), Pre_SquareStepKernel m →
    θ_run (Cert.SquareStepKernel.defs (F := Bits)) (onTc (τ := Cert.SquareStepKernel.τ) (Cert.SquareStepKernel.main (F := Bits))) ⟨m, fun _ => 0, g⟩ (fun r => (∀ c : Dev Cert.SquareStepKernel.nD,
      r.2.mem ((c.tc : Thread Cert.SquareStepKernel.nD Cert.SquareStepKernel.τ).loc Cert.SquareStepKernel.main_arg0) = m ((c.tc : Thread Cert.SquareStepKernel.nD Cert.SquareStepKernel.τ).loc Cert.SquareStepKernel.main_arg0)
      ∧ r.2.mem ((c.tc : Thread Cert.SquareStepKernel.nD Cert.SquareStepKernel.τ).loc Cert.SquareStepKernel.main_arg1) = m ((c.tc : Thread Cert.SquareStepKernel.nD Cert.SquareStepKernel.τ).loc Cert.SquareStepKernel.main_arg1)
      ∧ r.2.mem ((c.tc : Thread Cert.SquareStepKernel.nD Cert.SquareStepKernel.τ).loc Cert.SquareStepKernel.main_arg2) = m ((c.tc : Thread Cert.SquareStepKernel.nD Cert.SquareStepKernel.τ).loc Cert.SquareStepKernel.main_arg2)
      ∧ r.2.mem ((c.tc : Thread Cert.SquareStepKernel.nD Cert.SquareStepKernel.τ).loc Cert.SquareStepKernel.main_arg3) = m ((c.tc : Thread Cert.SquareStepKernel.nD Cert.SquareStepKernel.τ).loc Cert.SquareStepKernel.main_arg3))
      ∧ r.2.sem = fun _ => 0)

def quiescent_SquareStepKernelIdeal [hSquareStepKernelIdeal : Cert.SquareStepKernelIdeal.Facts] : Prop :=
  ∀ (m : (ℓ : Loc Cert.SquareStepKernelIdeal.nD Cert.SquareStepKernelIdeal.τ Cert.SquareStepKernelIdeal.sig) → Buf (Elt Ideal) ℓ) (g : Dev Cert.SquareStepKernelIdeal.nD → PrngReg), Pre_SquareStepKernelIdeal m →
    θ_run (Cert.SquareStepKernelIdeal.defs (F := Ideal)) (onTc (τ := Cert.SquareStepKernelIdeal.τ) (Cert.SquareStepKernelIdeal.main (F := Ideal))) ⟨m, fun _ => 0, g⟩ (fun r => (∀ c : Dev Cert.SquareStepKernelIdeal.nD,
      r.2.mem ((c.tc : Thread Cert.SquareStepKernelIdeal.nD Cert.SquareStepKernelIdeal.τ).loc Cert.SquareStepKernelIdeal.main_arg0) = m ((c.tc : Thread Cert.SquareStepKernelIdeal.nD Cert.SquareStepKernelIdeal.τ).loc Cert.SquareStepKernelIdeal.main_arg0)
      ∧ r.2.mem ((c.tc : Thread Cert.SquareStepKernelIdeal.nD Cert.SquareStepKernelIdeal.τ).loc Cert.SquareStepKernelIdeal.main_arg1) = m ((c.tc : Thread Cert.SquareStepKernelIdeal.nD Cert.SquareStepKernelIdeal.τ).loc Cert.SquareStepKernelIdeal.main_arg1)
      ∧ r.2.mem ((c.tc : Thread Cert.SquareStepKernelIdeal.nD Cert.SquareStepKernelIdeal.τ).loc Cert.SquareStepKernelIdeal.main_arg2) = m ((c.tc : Thread Cert.SquareStepKernelIdeal.nD Cert.SquareStepKernelIdeal.τ).loc Cert.SquareStepKernelIdeal.main_arg2)
      ∧ r.2.mem ((c.tc : Thread Cert.SquareStepKernelIdeal.nD Cert.SquareStepKernelIdeal.τ).loc Cert.SquareStepKernelIdeal.main_arg3) = m ((c.tc : Thread Cert.SquareStepKernelIdeal.nD Cert.SquareStepKernelIdeal.τ).loc Cert.SquareStepKernelIdeal.main_arg3))
      ∧ r.2.sem = fun _ => 0)

def quiescent_SquareStepReferenceIdeal [hSquareStepReferenceIdeal : Cert.SquareStepReferenceIdeal.Facts] : Prop :=
  ∀ (m : (ℓ : Loc Cert.SquareStepReferenceIdeal.nD Cert.SquareStepReferenceIdeal.τ Cert.SquareStepReferenceIdeal.sig) → Buf (Elt Ideal) ℓ) (g : Dev Cert.SquareStepReferenceIdeal.nD → PrngReg), Pre_SquareStepReferenceIdeal m →
    θ_run (Cert.SquareStepReferenceIdeal.defs (F := Ideal)) (onTc (τ := Cert.SquareStepReferenceIdeal.τ) (Cert.SquareStepReferenceIdeal.main (F := Ideal))) ⟨m, fun _ => 0, g⟩ (fun r => (∀ c : Dev Cert.SquareStepReferenceIdeal.nD,
      r.2.mem ((c.tc : Thread Cert.SquareStepReferenceIdeal.nD Cert.SquareStepReferenceIdeal.τ).loc Cert.SquareStepReferenceIdeal.main_arg0) = m ((c.tc : Thread Cert.SquareStepReferenceIdeal.nD Cert.SquareStepReferenceIdeal.τ).loc Cert.SquareStepReferenceIdeal.main_arg0)
      ∧ r.2.mem ((c.tc : Thread Cert.SquareStepReferenceIdeal.nD Cert.SquareStepReferenceIdeal.τ).loc Cert.SquareStepReferenceIdeal.main_arg1) = m ((c.tc : Thread Cert.SquareStepReferenceIdeal.nD Cert.SquareStepReferenceIdeal.τ).loc Cert.SquareStepReferenceIdeal.main_arg1)
      ∧ r.2.mem ((c.tc : Thread Cert.SquareStepReferenceIdeal.nD Cert.SquareStepReferenceIdeal.τ).loc Cert.SquareStepReferenceIdeal.main_arg2) = m ((c.tc : Thread Cert.SquareStepReferenceIdeal.nD Cert.SquareStepReferenceIdeal.τ).loc Cert.SquareStepReferenceIdeal.main_arg2)
      ∧ r.2.mem ((c.tc : Thread Cert.SquareStepReferenceIdeal.nD Cert.SquareStepReferenceIdeal.τ).loc Cert.SquareStepReferenceIdeal.main_arg3) = m ((c.tc : Thread Cert.SquareStepReferenceIdeal.nD Cert.SquareStepReferenceIdeal.τ).loc Cert.SquareStepReferenceIdeal.main_arg3))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_SmallStepKernel [hSmallStepKernel : Cert.SmallStepKernel.Facts] : Prop :=
  ∀ (m : (ℓ : Loc Cert.SmallStepKernel.nD Cert.SmallStepKernel.τ Cert.SmallStepKernel.sig) → Buf (Elt Bits) ℓ) (g : Dev Cert.SmallStepKernel.nD → PrngReg), Pre_SmallStepKernel m →
    θ_run (Cert.SmallStepKernel.defs (F := Bits)) (onTc (τ := Cert.SmallStepKernel.τ) (Cert.SmallStepKernel.main (F := Bits))) ⟨m, fun _ => 0, g⟩ (fun r => (∀ c : Dev Cert.SmallStepKernel.nD,
      r.2.mem ((c.tc : Thread Cert.SmallStepKernel.nD Cert.SmallStepKernel.τ).loc Cert.SmallStepKernel.main_arg0) = m ((c.tc : Thread Cert.SmallStepKernel.nD Cert.SmallStepKernel.τ).loc Cert.SmallStepKernel.main_arg0)
      ∧ r.2.mem ((c.tc : Thread Cert.SmallStepKernel.nD Cert.SmallStepKernel.τ).loc Cert.SmallStepKernel.main_arg1) = m ((c.tc : Thread Cert.SmallStepKernel.nD Cert.SmallStepKernel.τ).loc Cert.SmallStepKernel.main_arg1)
      ∧ r.2.mem ((c.tc : Thread Cert.SmallStepKernel.nD Cert.SmallStepKernel.τ).loc Cert.SmallStepKernel.main_arg2) = m ((c.tc : Thread Cert.SmallStepKernel.nD Cert.SmallStepKernel.τ).loc Cert.SmallStepKernel.main_arg2)
      ∧ r.2.mem ((c.tc : Thread Cert.SmallStepKernel.nD Cert.SmallStepKernel.τ).loc Cert.SmallStepKernel.main_arg3) = m ((c.tc : Thread Cert.SmallStepKernel.nD Cert.SmallStepKernel.τ).loc Cert.SmallStepKernel.main_arg3)
      ∧ r.2.mem ((c.tc : Thread Cert.SmallStepKernel.nD Cert.SmallStepKernel.τ).loc Cert.SmallStepKernel.main_arg4) = m ((c.tc : Thread Cert.SmallStepKernel.nD Cert.SmallStepKernel.τ).loc Cert.SmallStepKernel.main_arg4)
      ∧ r.2.mem ((c.tc : Thread Cert.SmallStepKernel.nD Cert.SmallStepKernel.τ).loc Cert.SmallStepKernel.main_arg5) = m ((c.tc : Thread Cert.SmallStepKernel.nD Cert.SmallStepKernel.τ).loc Cert.SmallStepKernel.main_arg5)
      ∧ r.2.mem ((c.tc : Thread Cert.SmallStepKernel.nD Cert.SmallStepKernel.τ).loc Cert.SmallStepKernel.main_arg6) = m ((c.tc : Thread Cert.SmallStepKernel.nD Cert.SmallStepKernel.τ).loc Cert.SmallStepKernel.main_arg6)
      ∧ r.2.mem ((c.tc : Thread Cert.SmallStepKernel.nD Cert.SmallStepKernel.τ).loc Cert.SmallStepKernel.main_arg7) = m ((c.tc : Thread Cert.SmallStepKernel.nD Cert.SmallStepKernel.τ).loc Cert.SmallStepKernel.main_arg7)
      ∧ r.2.mem ((c.tc : Thread Cert.SmallStepKernel.nD Cert.SmallStepKernel.τ).loc Cert.SmallStepKernel.main_arg8) = m ((c.tc : Thread Cert.SmallStepKernel.nD Cert.SmallStepKernel.τ).loc Cert.SmallStepKernel.main_arg8)
      ∧ r.2.mem ((c.tc : Thread Cert.SmallStepKernel.nD Cert.SmallStepKernel.τ).loc Cert.SmallStepKernel.main_arg9) = m ((c.tc : Thread Cert.SmallStepKernel.nD Cert.SmallStepKernel.τ).loc Cert.SmallStepKernel.main_arg9)
      ∧ r.2.mem ((c.tc : Thread Cert.SmallStepKernel.nD Cert.SmallStepKernel.τ).loc Cert.SmallStepKernel.main_arg10) = m ((c.tc : Thread Cert.SmallStepKernel.nD Cert.SmallStepKernel.τ).loc Cert.SmallStepKernel.main_arg10)
      ∧ r.2.mem ((c.tc : Thread Cert.SmallStepKernel.nD Cert.SmallStepKernel.τ).loc Cert.SmallStepKernel.main_arg11) = m ((c.tc : Thread Cert.SmallStepKernel.nD Cert.SmallStepKernel.τ).loc Cert.SmallStepKernel.main_arg11)
      ∧ r.2.mem ((c.tc : Thread Cert.SmallStepKernel.nD Cert.SmallStepKernel.τ).loc Cert.SmallStepKernel.main_arg12) = m ((c.tc : Thread Cert.SmallStepKernel.nD Cert.SmallStepKernel.τ).loc Cert.SmallStepKernel.main_arg12)
      ∧ r.2.mem ((c.tc : Thread Cert.SmallStepKernel.nD Cert.SmallStepKernel.τ).loc Cert.SmallStepKernel.main_arg13) = m ((c.tc : Thread Cert.SmallStepKernel.nD Cert.SmallStepKernel.τ).loc Cert.SmallStepKernel.main_arg13)
      ∧ r.2.mem ((c.tc : Thread Cert.SmallStepKernel.nD Cert.SmallStepKernel.τ).loc Cert.SmallStepKernel.main_arg14) = m ((c.tc : Thread Cert.SmallStepKernel.nD Cert.SmallStepKernel.τ).loc Cert.SmallStepKernel.main_arg14)
      ∧ r.2.mem ((c.tc : Thread Cert.SmallStepKernel.nD Cert.SmallStepKernel.τ).loc Cert.SmallStepKernel.main_arg15) = m ((c.tc : Thread Cert.SmallStepKernel.nD Cert.SmallStepKernel.τ).loc Cert.SmallStepKernel.main_arg15)
      ∧ r.2.mem ((c.tc : Thread Cert.SmallStepKernel.nD Cert.SmallStepKernel.τ).loc Cert.SmallStepKernel.main_arg16) = m ((c.tc : Thread Cert.SmallStepKernel.nD Cert.SmallStepKernel.τ).loc Cert.SmallStepKernel.main_arg16)
      ∧ r.2.mem ((c.tc : Thread Cert.SmallStepKernel.nD Cert.SmallStepKernel.τ).loc Cert.SmallStepKernel.main_arg17) = m ((c.tc : Thread Cert.SmallStepKernel.nD Cert.SmallStepKernel.τ).loc Cert.SmallStepKernel.main_arg17)
      ∧ r.2.mem ((c.tc : Thread Cert.SmallStepKernel.nD Cert.SmallStepKernel.τ).loc Cert.SmallStepKernel.main_arg18) = m ((c.tc : Thread Cert.SmallStepKernel.nD Cert.SmallStepKernel.τ).loc Cert.SmallStepKernel.main_arg18)
      ∧ r.2.mem ((c.tc : Thread Cert.SmallStepKernel.nD Cert.SmallStepKernel.τ).loc Cert.SmallStepKernel.main_arg19) = m ((c.tc : Thread Cert.SmallStepKernel.nD Cert.SmallStepKernel.τ).loc Cert.SmallStepKernel.main_arg19)
      ∧ r.2.mem ((c.tc : Thread Cert.SmallStepKernel.nD Cert.SmallStepKernel.τ).loc Cert.SmallStepKernel.main_arg20) = m ((c.tc : Thread Cert.SmallStepKernel.nD Cert.SmallStepKernel.τ).loc Cert.SmallStepKernel.main_arg20)
      ∧ r.2.mem ((c.tc : Thread Cert.SmallStepKernel.nD Cert.SmallStepKernel.τ).loc Cert.SmallStepKernel.main_arg21) = m ((c.tc : Thread Cert.SmallStepKernel.nD Cert.SmallStepKernel.τ).loc Cert.SmallStepKernel.main_arg21)
      ∧ r.2.mem ((c.tc : Thread Cert.SmallStepKernel.nD Cert.SmallStepKernel.τ).loc Cert.SmallStepKernel.main_arg22) = m ((c.tc : Thread Cert.SmallStepKernel.nD Cert.SmallStepKernel.τ).loc Cert.SmallStepKernel.main_arg22)
      ∧ r.2.mem ((c.tc : Thread Cert.SmallStepKernel.nD Cert.SmallStepKernel.τ).loc Cert.SmallStepKernel.main_arg23) = m ((c.tc : Thread Cert.SmallStepKernel.nD Cert.SmallStepKernel.τ).loc Cert.SmallStepKernel.main_arg23)
      ∧ r.2.mem ((c.tc : Thread Cert.SmallStepKernel.nD Cert.SmallStepKernel.τ).loc Cert.SmallStepKernel.main_arg24) = m ((c.tc : Thread Cert.SmallStepKernel.nD Cert.SmallStepKernel.τ).loc Cert.SmallStepKernel.main_arg24)
      ∧ r.2.mem ((c.tc : Thread Cert.SmallStepKernel.nD Cert.SmallStepKernel.τ).loc Cert.SmallStepKernel.main_arg25) = m ((c.tc : Thread Cert.SmallStepKernel.nD Cert.SmallStepKernel.τ).loc Cert.SmallStepKernel.main_arg25)
      ∧ r.2.mem ((c.tc : Thread Cert.SmallStepKernel.nD Cert.SmallStepKernel.τ).loc Cert.SmallStepKernel.main_arg26) = m ((c.tc : Thread Cert.SmallStepKernel.nD Cert.SmallStepKernel.τ).loc Cert.SmallStepKernel.main_arg26)
      ∧ r.2.mem ((c.tc : Thread Cert.SmallStepKernel.nD Cert.SmallStepKernel.τ).loc Cert.SmallStepKernel.main_arg27) = m ((c.tc : Thread Cert.SmallStepKernel.nD Cert.SmallStepKernel.τ).loc Cert.SmallStepKernel.main_arg27)
      ∧ r.2.mem ((c.tc : Thread Cert.SmallStepKernel.nD Cert.SmallStepKernel.τ).loc Cert.SmallStepKernel.main_arg28) = m ((c.tc : Thread Cert.SmallStepKernel.nD Cert.SmallStepKernel.τ).loc Cert.SmallStepKernel.main_arg28)
      ∧ r.2.mem ((c.tc : Thread Cert.SmallStepKernel.nD Cert.SmallStepKernel.τ).loc Cert.SmallStepKernel.main_arg29) = m ((c.tc : Thread Cert.SmallStepKernel.nD Cert.SmallStepKernel.τ).loc Cert.SmallStepKernel.main_arg29)
      ∧ r.2.mem ((c.tc : Thread Cert.SmallStepKernel.nD Cert.SmallStepKernel.τ).loc Cert.SmallStepKernel.main_arg30) = m ((c.tc : Thread Cert.SmallStepKernel.nD Cert.SmallStepKernel.τ).loc Cert.SmallStepKernel.main_arg30)
      ∧ r.2.mem ((c.tc : Thread Cert.SmallStepKernel.nD Cert.SmallStepKernel.τ).loc Cert.SmallStepKernel.main_arg31) = m ((c.tc : Thread Cert.SmallStepKernel.nD Cert.SmallStepKernel.τ).loc Cert.SmallStepKernel.main_arg31)
      ∧ r.2.mem ((c.tc : Thread Cert.SmallStepKernel.nD Cert.SmallStepKernel.τ).loc Cert.SmallStepKernel.main_arg32) = m ((c.tc : Thread Cert.SmallStepKernel.nD Cert.SmallStepKernel.τ).loc Cert.SmallStepKernel.main_arg32)
      ∧ r.2.mem ((c.tc : Thread Cert.SmallStepKernel.nD Cert.SmallStepKernel.τ).loc Cert.SmallStepKernel.main_arg33) = m ((c.tc : Thread Cert.SmallStepKernel.nD Cert.SmallStepKernel.τ).loc Cert.SmallStepKernel.main_arg33)
      ∧ r.2.mem ((c.tc : Thread Cert.SmallStepKernel.nD Cert.SmallStepKernel.τ).loc Cert.SmallStepKernel.main_arg34) = m ((c.tc : Thread Cert.SmallStepKernel.nD Cert.SmallStepKernel.τ).loc Cert.SmallStepKernel.main_arg34)
      ∧ r.2.mem ((c.tc : Thread Cert.SmallStepKernel.nD Cert.SmallStepKernel.τ).loc Cert.SmallStepKernel.main_arg35) = m ((c.tc : Thread Cert.SmallStepKernel.nD Cert.SmallStepKernel.τ).loc Cert.SmallStepKernel.main_arg35)
      ∧ r.2.mem ((c.tc : Thread Cert.SmallStepKernel.nD Cert.SmallStepKernel.τ).loc Cert.SmallStepKernel.main_arg36) = m ((c.tc : Thread Cert.SmallStepKernel.nD Cert.SmallStepKernel.τ).loc Cert.SmallStepKernel.main_arg36)
      ∧ r.2.mem ((c.tc : Thread Cert.SmallStepKernel.nD Cert.SmallStepKernel.τ).loc Cert.SmallStepKernel.main_arg37) = m ((c.tc : Thread Cert.SmallStepKernel.nD Cert.SmallStepKernel.τ).loc Cert.SmallStepKernel.main_arg37)
      ∧ r.2.mem ((c.tc : Thread Cert.SmallStepKernel.nD Cert.SmallStepKernel.τ).loc Cert.SmallStepKernel.main_arg38) = m ((c.tc : Thread Cert.SmallStepKernel.nD Cert.SmallStepKernel.τ).loc Cert.SmallStepKernel.main_arg38)
      ∧ r.2.mem ((c.tc : Thread Cert.SmallStepKernel.nD Cert.SmallStepKernel.τ).loc Cert.SmallStepKernel.main_arg39) = m ((c.tc : Thread Cert.SmallStepKernel.nD Cert.SmallStepKernel.τ).loc Cert.SmallStepKernel.main_arg39)
      ∧ r.2.mem ((c.tc : Thread Cert.SmallStepKernel.nD Cert.SmallStepKernel.τ).loc Cert.SmallStepKernel.main_arg40) = m ((c.tc : Thread Cert.SmallStepKernel.nD Cert.SmallStepKernel.τ).loc Cert.SmallStepKernel.main_arg40)
      ∧ r.2.mem ((c.tc : Thread Cert.SmallStepKernel.nD Cert.SmallStepKernel.τ).loc Cert.SmallStepKernel.main_arg41) = m ((c.tc : Thread Cert.SmallStepKernel.nD Cert.SmallStepKernel.τ).loc Cert.SmallStepKernel.main_arg41)
      ∧ r.2.mem ((c.tc : Thread Cert.SmallStepKernel.nD Cert.SmallStepKernel.τ).loc Cert.SmallStepKernel.main_arg42) = m ((c.tc : Thread Cert.SmallStepKernel.nD Cert.SmallStepKernel.τ).loc Cert.SmallStepKernel.main_arg42)
      ∧ r.2.mem ((c.tc : Thread Cert.SmallStepKernel.nD Cert.SmallStepKernel.τ).loc Cert.SmallStepKernel.main_arg43) = m ((c.tc : Thread Cert.SmallStepKernel.nD Cert.SmallStepKernel.τ).loc Cert.SmallStepKernel.main_arg43)
      ∧ r.2.mem ((c.tc : Thread Cert.SmallStepKernel.nD Cert.SmallStepKernel.τ).loc Cert.SmallStepKernel.main_arg44) = m ((c.tc : Thread Cert.SmallStepKernel.nD Cert.SmallStepKernel.τ).loc Cert.SmallStepKernel.main_arg44)
      ∧ r.2.mem ((c.tc : Thread Cert.SmallStepKernel.nD Cert.SmallStepKernel.τ).loc Cert.SmallStepKernel.main_arg45) = m ((c.tc : Thread Cert.SmallStepKernel.nD Cert.SmallStepKernel.τ).loc Cert.SmallStepKernel.main_arg45)
      ∧ r.2.mem ((c.tc : Thread Cert.SmallStepKernel.nD Cert.SmallStepKernel.τ).loc Cert.SmallStepKernel.main_arg46) = m ((c.tc : Thread Cert.SmallStepKernel.nD Cert.SmallStepKernel.τ).loc Cert.SmallStepKernel.main_arg46)
      ∧ r.2.mem ((c.tc : Thread Cert.SmallStepKernel.nD Cert.SmallStepKernel.τ).loc Cert.SmallStepKernel.main_arg47) = m ((c.tc : Thread Cert.SmallStepKernel.nD Cert.SmallStepKernel.τ).loc Cert.SmallStepKernel.main_arg47)
      ∧ r.2.mem ((c.tc : Thread Cert.SmallStepKernel.nD Cert.SmallStepKernel.τ).loc Cert.SmallStepKernel.main_arg48) = m ((c.tc : Thread Cert.SmallStepKernel.nD Cert.SmallStepKernel.τ).loc Cert.SmallStepKernel.main_arg48)
      ∧ r.2.mem ((c.tc : Thread Cert.SmallStepKernel.nD Cert.SmallStepKernel.τ).loc Cert.SmallStepKernel.main_arg49) = m ((c.tc : Thread Cert.SmallStepKernel.nD Cert.SmallStepKernel.τ).loc Cert.SmallStepKernel.main_arg49)
      ∧ r.2.mem ((c.tc : Thread Cert.SmallStepKernel.nD Cert.SmallStepKernel.τ).loc Cert.SmallStepKernel.main_arg50) = m ((c.tc : Thread Cert.SmallStepKernel.nD Cert.SmallStepKernel.τ).loc Cert.SmallStepKernel.main_arg50)
      ∧ r.2.mem ((c.tc : Thread Cert.SmallStepKernel.nD Cert.SmallStepKernel.τ).loc Cert.SmallStepKernel.main_arg51) = m ((c.tc : Thread Cert.SmallStepKernel.nD Cert.SmallStepKernel.τ).loc Cert.SmallStepKernel.main_arg51)
      ∧ r.2.mem ((c.tc : Thread Cert.SmallStepKernel.nD Cert.SmallStepKernel.τ).loc Cert.SmallStepKernel.main_arg52) = m ((c.tc : Thread Cert.SmallStepKernel.nD Cert.SmallStepKernel.τ).loc Cert.SmallStepKernel.main_arg52)
      ∧ r.2.mem ((c.tc : Thread Cert.SmallStepKernel.nD Cert.SmallStepKernel.τ).loc Cert.SmallStepKernel.main_arg53) = m ((c.tc : Thread Cert.SmallStepKernel.nD Cert.SmallStepKernel.τ).loc Cert.SmallStepKernel.main_arg53)
      ∧ r.2.mem ((c.tc : Thread Cert.SmallStepKernel.nD Cert.SmallStepKernel.τ).loc Cert.SmallStepKernel.main_arg54) = m ((c.tc : Thread Cert.SmallStepKernel.nD Cert.SmallStepKernel.τ).loc Cert.SmallStepKernel.main_arg54)
      ∧ r.2.mem ((c.tc : Thread Cert.SmallStepKernel.nD Cert.SmallStepKernel.τ).loc Cert.SmallStepKernel.main_arg55) = m ((c.tc : Thread Cert.SmallStepKernel.nD Cert.SmallStepKernel.τ).loc Cert.SmallStepKernel.main_arg55)
      ∧ r.2.mem ((c.tc : Thread Cert.SmallStepKernel.nD Cert.SmallStepKernel.τ).loc Cert.SmallStepKernel.main_arg56) = m ((c.tc : Thread Cert.SmallStepKernel.nD Cert.SmallStepKernel.τ).loc Cert.SmallStepKernel.main_arg56)
      ∧ r.2.mem ((c.tc : Thread Cert.SmallStepKernel.nD Cert.SmallStepKernel.τ).loc Cert.SmallStepKernel.main_arg57) = m ((c.tc : Thread Cert.SmallStepKernel.nD Cert.SmallStepKernel.τ).loc Cert.SmallStepKernel.main_arg57)
      ∧ r.2.mem ((c.tc : Thread Cert.SmallStepKernel.nD Cert.SmallStepKernel.τ).loc Cert.SmallStepKernel.main_arg58) = m ((c.tc : Thread Cert.SmallStepKernel.nD Cert.SmallStepKernel.τ).loc Cert.SmallStepKernel.main_arg58)
      ∧ r.2.mem ((c.tc : Thread Cert.SmallStepKernel.nD Cert.SmallStepKernel.τ).loc Cert.SmallStepKernel.main_arg59) = m ((c.tc : Thread Cert.SmallStepKernel.nD Cert.SmallStepKernel.τ).loc Cert.SmallStepKernel.main_arg59))
      ∧ r.2.sem = fun _ => 0)

def quiescent_SmallStepKernelIdeal [hSmallStepKernelIdeal : Cert.SmallStepKernelIdeal.Facts] : Prop :=
  ∀ (m : (ℓ : Loc Cert.SmallStepKernelIdeal.nD Cert.SmallStepKernelIdeal.τ Cert.SmallStepKernelIdeal.sig) → Buf (Elt Ideal) ℓ) (g : Dev Cert.SmallStepKernelIdeal.nD → PrngReg), Pre_SmallStepKernelIdeal m →
    θ_run (Cert.SmallStepKernelIdeal.defs (F := Ideal)) (onTc (τ := Cert.SmallStepKernelIdeal.τ) (Cert.SmallStepKernelIdeal.main (F := Ideal))) ⟨m, fun _ => 0, g⟩ (fun r => (∀ c : Dev Cert.SmallStepKernelIdeal.nD,
      r.2.mem ((c.tc : Thread Cert.SmallStepKernelIdeal.nD Cert.SmallStepKernelIdeal.τ).loc Cert.SmallStepKernelIdeal.main_arg0) = m ((c.tc : Thread Cert.SmallStepKernelIdeal.nD Cert.SmallStepKernelIdeal.τ).loc Cert.SmallStepKernelIdeal.main_arg0)
      ∧ r.2.mem ((c.tc : Thread Cert.SmallStepKernelIdeal.nD Cert.SmallStepKernelIdeal.τ).loc Cert.SmallStepKernelIdeal.main_arg1) = m ((c.tc : Thread Cert.SmallStepKernelIdeal.nD Cert.SmallStepKernelIdeal.τ).loc Cert.SmallStepKernelIdeal.main_arg1)
      ∧ r.2.mem ((c.tc : Thread Cert.SmallStepKernelIdeal.nD Cert.SmallStepKernelIdeal.τ).loc Cert.SmallStepKernelIdeal.main_arg2) = m ((c.tc : Thread Cert.SmallStepKernelIdeal.nD Cert.SmallStepKernelIdeal.τ).loc Cert.SmallStepKernelIdeal.main_arg2)
      ∧ r.2.mem ((c.tc : Thread Cert.SmallStepKernelIdeal.nD Cert.SmallStepKernelIdeal.τ).loc Cert.SmallStepKernelIdeal.main_arg3) = m ((c.tc : Thread Cert.SmallStepKernelIdeal.nD Cert.SmallStepKernelIdeal.τ).loc Cert.SmallStepKernelIdeal.main_arg3)
      ∧ r.2.mem ((c.tc : Thread Cert.SmallStepKernelIdeal.nD Cert.SmallStepKernelIdeal.τ).loc Cert.SmallStepKernelIdeal.main_arg4) = m ((c.tc : Thread Cert.SmallStepKernelIdeal.nD Cert.SmallStepKernelIdeal.τ).loc Cert.SmallStepKernelIdeal.main_arg4)
      ∧ r.2.mem ((c.tc : Thread Cert.SmallStepKernelIdeal.nD Cert.SmallStepKernelIdeal.τ).loc Cert.SmallStepKernelIdeal.main_arg5) = m ((c.tc : Thread Cert.SmallStepKernelIdeal.nD Cert.SmallStepKernelIdeal.τ).loc Cert.SmallStepKernelIdeal.main_arg5)
      ∧ r.2.mem ((c.tc : Thread Cert.SmallStepKernelIdeal.nD Cert.SmallStepKernelIdeal.τ).loc Cert.SmallStepKernelIdeal.main_arg6) = m ((c.tc : Thread Cert.SmallStepKernelIdeal.nD Cert.SmallStepKernelIdeal.τ).loc Cert.SmallStepKernelIdeal.main_arg6)
      ∧ r.2.mem ((c.tc : Thread Cert.SmallStepKernelIdeal.nD Cert.SmallStepKernelIdeal.τ).loc Cert.SmallStepKernelIdeal.main_arg7) = m ((c.tc : Thread Cert.SmallStepKernelIdeal.nD Cert.SmallStepKernelIdeal.τ).loc Cert.SmallStepKernelIdeal.main_arg7)
      ∧ r.2.mem ((c.tc : Thread Cert.SmallStepKernelIdeal.nD Cert.SmallStepKernelIdeal.τ).loc Cert.SmallStepKernelIdeal.main_arg8) = m ((c.tc : Thread Cert.SmallStepKernelIdeal.nD Cert.SmallStepKernelIdeal.τ).loc Cert.SmallStepKernelIdeal.main_arg8)
      ∧ r.2.mem ((c.tc : Thread Cert.SmallStepKernelIdeal.nD Cert.SmallStepKernelIdeal.τ).loc Cert.SmallStepKernelIdeal.main_arg9) = m ((c.tc : Thread Cert.SmallStepKernelIdeal.nD Cert.SmallStepKernelIdeal.τ).loc Cert.SmallStepKernelIdeal.main_arg9)
      ∧ r.2.mem ((c.tc : Thread Cert.SmallStepKernelIdeal.nD Cert.SmallStepKernelIdeal.τ).loc Cert.SmallStepKernelIdeal.main_arg10) = m ((c.tc : Thread Cert.SmallStepKernelIdeal.nD Cert.SmallStepKernelIdeal.τ).loc Cert.SmallStepKernelIdeal.main_arg10)
      ∧ r.2.mem ((c.tc : Thread Cert.SmallStepKernelIdeal.nD Cert.SmallStepKernelIdeal.τ).loc Cert.SmallStepKernelIdeal.main_arg11) = m ((c.tc : Thread Cert.SmallStepKernelIdeal.nD Cert.SmallStepKernelIdeal.τ).loc Cert.SmallStepKernelIdeal.main_arg11)
      ∧ r.2.mem ((c.tc : Thread Cert.SmallStepKernelIdeal.nD Cert.SmallStepKernelIdeal.τ).loc Cert.SmallStepKernelIdeal.main_arg12) = m ((c.tc : Thread Cert.SmallStepKernelIdeal.nD Cert.SmallStepKernelIdeal.τ).loc Cert.SmallStepKernelIdeal.main_arg12)
      ∧ r.2.mem ((c.tc : Thread Cert.SmallStepKernelIdeal.nD Cert.SmallStepKernelIdeal.τ).loc Cert.SmallStepKernelIdeal.main_arg13) = m ((c.tc : Thread Cert.SmallStepKernelIdeal.nD Cert.SmallStepKernelIdeal.τ).loc Cert.SmallStepKernelIdeal.main_arg13)
      ∧ r.2.mem ((c.tc : Thread Cert.SmallStepKernelIdeal.nD Cert.SmallStepKernelIdeal.τ).loc Cert.SmallStepKernelIdeal.main_arg14) = m ((c.tc : Thread Cert.SmallStepKernelIdeal.nD Cert.SmallStepKernelIdeal.τ).loc Cert.SmallStepKernelIdeal.main_arg14)
      ∧ r.2.mem ((c.tc : Thread Cert.SmallStepKernelIdeal.nD Cert.SmallStepKernelIdeal.τ).loc Cert.SmallStepKernelIdeal.main_arg15) = m ((c.tc : Thread Cert.SmallStepKernelIdeal.nD Cert.SmallStepKernelIdeal.τ).loc Cert.SmallStepKernelIdeal.main_arg15)
      ∧ r.2.mem ((c.tc : Thread Cert.SmallStepKernelIdeal.nD Cert.SmallStepKernelIdeal.τ).loc Cert.SmallStepKernelIdeal.main_arg16) = m ((c.tc : Thread Cert.SmallStepKernelIdeal.nD Cert.SmallStepKernelIdeal.τ).loc Cert.SmallStepKernelIdeal.main_arg16)
      ∧ r.2.mem ((c.tc : Thread Cert.SmallStepKernelIdeal.nD Cert.SmallStepKernelIdeal.τ).loc Cert.SmallStepKernelIdeal.main_arg17) = m ((c.tc : Thread Cert.SmallStepKernelIdeal.nD Cert.SmallStepKernelIdeal.τ).loc Cert.SmallStepKernelIdeal.main_arg17)
      ∧ r.2.mem ((c.tc : Thread Cert.SmallStepKernelIdeal.nD Cert.SmallStepKernelIdeal.τ).loc Cert.SmallStepKernelIdeal.main_arg18) = m ((c.tc : Thread Cert.SmallStepKernelIdeal.nD Cert.SmallStepKernelIdeal.τ).loc Cert.SmallStepKernelIdeal.main_arg18)
      ∧ r.2.mem ((c.tc : Thread Cert.SmallStepKernelIdeal.nD Cert.SmallStepKernelIdeal.τ).loc Cert.SmallStepKernelIdeal.main_arg19) = m ((c.tc : Thread Cert.SmallStepKernelIdeal.nD Cert.SmallStepKernelIdeal.τ).loc Cert.SmallStepKernelIdeal.main_arg19)
      ∧ r.2.mem ((c.tc : Thread Cert.SmallStepKernelIdeal.nD Cert.SmallStepKernelIdeal.τ).loc Cert.SmallStepKernelIdeal.main_arg20) = m ((c.tc : Thread Cert.SmallStepKernelIdeal.nD Cert.SmallStepKernelIdeal.τ).loc Cert.SmallStepKernelIdeal.main_arg20)
      ∧ r.2.mem ((c.tc : Thread Cert.SmallStepKernelIdeal.nD Cert.SmallStepKernelIdeal.τ).loc Cert.SmallStepKernelIdeal.main_arg21) = m ((c.tc : Thread Cert.SmallStepKernelIdeal.nD Cert.SmallStepKernelIdeal.τ).loc Cert.SmallStepKernelIdeal.main_arg21)
      ∧ r.2.mem ((c.tc : Thread Cert.SmallStepKernelIdeal.nD Cert.SmallStepKernelIdeal.τ).loc Cert.SmallStepKernelIdeal.main_arg22) = m ((c.tc : Thread Cert.SmallStepKernelIdeal.nD Cert.SmallStepKernelIdeal.τ).loc Cert.SmallStepKernelIdeal.main_arg22)
      ∧ r.2.mem ((c.tc : Thread Cert.SmallStepKernelIdeal.nD Cert.SmallStepKernelIdeal.τ).loc Cert.SmallStepKernelIdeal.main_arg23) = m ((c.tc : Thread Cert.SmallStepKernelIdeal.nD Cert.SmallStepKernelIdeal.τ).loc Cert.SmallStepKernelIdeal.main_arg23)
      ∧ r.2.mem ((c.tc : Thread Cert.SmallStepKernelIdeal.nD Cert.SmallStepKernelIdeal.τ).loc Cert.SmallStepKernelIdeal.main_arg24) = m ((c.tc : Thread Cert.SmallStepKernelIdeal.nD Cert.SmallStepKernelIdeal.τ).loc Cert.SmallStepKernelIdeal.main_arg24)
      ∧ r.2.mem ((c.tc : Thread Cert.SmallStepKernelIdeal.nD Cert.SmallStepKernelIdeal.τ).loc Cert.SmallStepKernelIdeal.main_arg25) = m ((c.tc : Thread Cert.SmallStepKernelIdeal.nD Cert.SmallStepKernelIdeal.τ).loc Cert.SmallStepKernelIdeal.main_arg25)
      ∧ r.2.mem ((c.tc : Thread Cert.SmallStepKernelIdeal.nD Cert.SmallStepKernelIdeal.τ).loc Cert.SmallStepKernelIdeal.main_arg26) = m ((c.tc : Thread Cert.SmallStepKernelIdeal.nD Cert.SmallStepKernelIdeal.τ).loc Cert.SmallStepKernelIdeal.main_arg26)
      ∧ r.2.mem ((c.tc : Thread Cert.SmallStepKernelIdeal.nD Cert.SmallStepKernelIdeal.τ).loc Cert.SmallStepKernelIdeal.main_arg27) = m ((c.tc : Thread Cert.SmallStepKernelIdeal.nD Cert.SmallStepKernelIdeal.τ).loc Cert.SmallStepKernelIdeal.main_arg27)
      ∧ r.2.mem ((c.tc : Thread Cert.SmallStepKernelIdeal.nD Cert.SmallStepKernelIdeal.τ).loc Cert.SmallStepKernelIdeal.main_arg28) = m ((c.tc : Thread Cert.SmallStepKernelIdeal.nD Cert.SmallStepKernelIdeal.τ).loc Cert.SmallStepKernelIdeal.main_arg28)
      ∧ r.2.mem ((c.tc : Thread Cert.SmallStepKernelIdeal.nD Cert.SmallStepKernelIdeal.τ).loc Cert.SmallStepKernelIdeal.main_arg29) = m ((c.tc : Thread Cert.SmallStepKernelIdeal.nD Cert.SmallStepKernelIdeal.τ).loc Cert.SmallStepKernelIdeal.main_arg29)
      ∧ r.2.mem ((c.tc : Thread Cert.SmallStepKernelIdeal.nD Cert.SmallStepKernelIdeal.τ).loc Cert.SmallStepKernelIdeal.main_arg30) = m ((c.tc : Thread Cert.SmallStepKernelIdeal.nD Cert.SmallStepKernelIdeal.τ).loc Cert.SmallStepKernelIdeal.main_arg30)
      ∧ r.2.mem ((c.tc : Thread Cert.SmallStepKernelIdeal.nD Cert.SmallStepKernelIdeal.τ).loc Cert.SmallStepKernelIdeal.main_arg31) = m ((c.tc : Thread Cert.SmallStepKernelIdeal.nD Cert.SmallStepKernelIdeal.τ).loc Cert.SmallStepKernelIdeal.main_arg31)
      ∧ r.2.mem ((c.tc : Thread Cert.SmallStepKernelIdeal.nD Cert.SmallStepKernelIdeal.τ).loc Cert.SmallStepKernelIdeal.main_arg32) = m ((c.tc : Thread Cert.SmallStepKernelIdeal.nD Cert.SmallStepKernelIdeal.τ).loc Cert.SmallStepKernelIdeal.main_arg32)
      ∧ r.2.mem ((c.tc : Thread Cert.SmallStepKernelIdeal.nD Cert.SmallStepKernelIdeal.τ).loc Cert.SmallStepKernelIdeal.main_arg33) = m ((c.tc : Thread Cert.SmallStepKernelIdeal.nD Cert.SmallStepKernelIdeal.τ).loc Cert.SmallStepKernelIdeal.main_arg33)
      ∧ r.2.mem ((c.tc : Thread Cert.SmallStepKernelIdeal.nD Cert.SmallStepKernelIdeal.τ).loc Cert.SmallStepKernelIdeal.main_arg34) = m ((c.tc : Thread Cert.SmallStepKernelIdeal.nD Cert.SmallStepKernelIdeal.τ).loc Cert.SmallStepKernelIdeal.main_arg34)
      ∧ r.2.mem ((c.tc : Thread Cert.SmallStepKernelIdeal.nD Cert.SmallStepKernelIdeal.τ).loc Cert.SmallStepKernelIdeal.main_arg35) = m ((c.tc : Thread Cert.SmallStepKernelIdeal.nD Cert.SmallStepKernelIdeal.τ).loc Cert.SmallStepKernelIdeal.main_arg35)
      ∧ r.2.mem ((c.tc : Thread Cert.SmallStepKernelIdeal.nD Cert.SmallStepKernelIdeal.τ).loc Cert.SmallStepKernelIdeal.main_arg36) = m ((c.tc : Thread Cert.SmallStepKernelIdeal.nD Cert.SmallStepKernelIdeal.τ).loc Cert.SmallStepKernelIdeal.main_arg36)
      ∧ r.2.mem ((c.tc : Thread Cert.SmallStepKernelIdeal.nD Cert.SmallStepKernelIdeal.τ).loc Cert.SmallStepKernelIdeal.main_arg37) = m ((c.tc : Thread Cert.SmallStepKernelIdeal.nD Cert.SmallStepKernelIdeal.τ).loc Cert.SmallStepKernelIdeal.main_arg37)
      ∧ r.2.mem ((c.tc : Thread Cert.SmallStepKernelIdeal.nD Cert.SmallStepKernelIdeal.τ).loc Cert.SmallStepKernelIdeal.main_arg38) = m ((c.tc : Thread Cert.SmallStepKernelIdeal.nD Cert.SmallStepKernelIdeal.τ).loc Cert.SmallStepKernelIdeal.main_arg38)
      ∧ r.2.mem ((c.tc : Thread Cert.SmallStepKernelIdeal.nD Cert.SmallStepKernelIdeal.τ).loc Cert.SmallStepKernelIdeal.main_arg39) = m ((c.tc : Thread Cert.SmallStepKernelIdeal.nD Cert.SmallStepKernelIdeal.τ).loc Cert.SmallStepKernelIdeal.main_arg39)
      ∧ r.2.mem ((c.tc : Thread Cert.SmallStepKernelIdeal.nD Cert.SmallStepKernelIdeal.τ).loc Cert.SmallStepKernelIdeal.main_arg40) = m ((c.tc : Thread Cert.SmallStepKernelIdeal.nD Cert.SmallStepKernelIdeal.τ).loc Cert.SmallStepKernelIdeal.main_arg40)
      ∧ r.2.mem ((c.tc : Thread Cert.SmallStepKernelIdeal.nD Cert.SmallStepKernelIdeal.τ).loc Cert.SmallStepKernelIdeal.main_arg41) = m ((c.tc : Thread Cert.SmallStepKernelIdeal.nD Cert.SmallStepKernelIdeal.τ).loc Cert.SmallStepKernelIdeal.main_arg41)
      ∧ r.2.mem ((c.tc : Thread Cert.SmallStepKernelIdeal.nD Cert.SmallStepKernelIdeal.τ).loc Cert.SmallStepKernelIdeal.main_arg42) = m ((c.tc : Thread Cert.SmallStepKernelIdeal.nD Cert.SmallStepKernelIdeal.τ).loc Cert.SmallStepKernelIdeal.main_arg42)
      ∧ r.2.mem ((c.tc : Thread Cert.SmallStepKernelIdeal.nD Cert.SmallStepKernelIdeal.τ).loc Cert.SmallStepKernelIdeal.main_arg43) = m ((c.tc : Thread Cert.SmallStepKernelIdeal.nD Cert.SmallStepKernelIdeal.τ).loc Cert.SmallStepKernelIdeal.main_arg43)
      ∧ r.2.mem ((c.tc : Thread Cert.SmallStepKernelIdeal.nD Cert.SmallStepKernelIdeal.τ).loc Cert.SmallStepKernelIdeal.main_arg44) = m ((c.tc : Thread Cert.SmallStepKernelIdeal.nD Cert.SmallStepKernelIdeal.τ).loc Cert.SmallStepKernelIdeal.main_arg44)
      ∧ r.2.mem ((c.tc : Thread Cert.SmallStepKernelIdeal.nD Cert.SmallStepKernelIdeal.τ).loc Cert.SmallStepKernelIdeal.main_arg45) = m ((c.tc : Thread Cert.SmallStepKernelIdeal.nD Cert.SmallStepKernelIdeal.τ).loc Cert.SmallStepKernelIdeal.main_arg45)
      ∧ r.2.mem ((c.tc : Thread Cert.SmallStepKernelIdeal.nD Cert.SmallStepKernelIdeal.τ).loc Cert.SmallStepKernelIdeal.main_arg46) = m ((c.tc : Thread Cert.SmallStepKernelIdeal.nD Cert.SmallStepKernelIdeal.τ).loc Cert.SmallStepKernelIdeal.main_arg46)
      ∧ r.2.mem ((c.tc : Thread Cert.SmallStepKernelIdeal.nD Cert.SmallStepKernelIdeal.τ).loc Cert.SmallStepKernelIdeal.main_arg47) = m ((c.tc : Thread Cert.SmallStepKernelIdeal.nD Cert.SmallStepKernelIdeal.τ).loc Cert.SmallStepKernelIdeal.main_arg47)
      ∧ r.2.mem ((c.tc : Thread Cert.SmallStepKernelIdeal.nD Cert.SmallStepKernelIdeal.τ).loc Cert.SmallStepKernelIdeal.main_arg48) = m ((c.tc : Thread Cert.SmallStepKernelIdeal.nD Cert.SmallStepKernelIdeal.τ).loc Cert.SmallStepKernelIdeal.main_arg48)
      ∧ r.2.mem ((c.tc : Thread Cert.SmallStepKernelIdeal.nD Cert.SmallStepKernelIdeal.τ).loc Cert.SmallStepKernelIdeal.main_arg49) = m ((c.tc : Thread Cert.SmallStepKernelIdeal.nD Cert.SmallStepKernelIdeal.τ).loc Cert.SmallStepKernelIdeal.main_arg49)
      ∧ r.2.mem ((c.tc : Thread Cert.SmallStepKernelIdeal.nD Cert.SmallStepKernelIdeal.τ).loc Cert.SmallStepKernelIdeal.main_arg50) = m ((c.tc : Thread Cert.SmallStepKernelIdeal.nD Cert.SmallStepKernelIdeal.τ).loc Cert.SmallStepKernelIdeal.main_arg50)
      ∧ r.2.mem ((c.tc : Thread Cert.SmallStepKernelIdeal.nD Cert.SmallStepKernelIdeal.τ).loc Cert.SmallStepKernelIdeal.main_arg51) = m ((c.tc : Thread Cert.SmallStepKernelIdeal.nD Cert.SmallStepKernelIdeal.τ).loc Cert.SmallStepKernelIdeal.main_arg51)
      ∧ r.2.mem ((c.tc : Thread Cert.SmallStepKernelIdeal.nD Cert.SmallStepKernelIdeal.τ).loc Cert.SmallStepKernelIdeal.main_arg52) = m ((c.tc : Thread Cert.SmallStepKernelIdeal.nD Cert.SmallStepKernelIdeal.τ).loc Cert.SmallStepKernelIdeal.main_arg52)
      ∧ r.2.mem ((c.tc : Thread Cert.SmallStepKernelIdeal.nD Cert.SmallStepKernelIdeal.τ).loc Cert.SmallStepKernelIdeal.main_arg53) = m ((c.tc : Thread Cert.SmallStepKernelIdeal.nD Cert.SmallStepKernelIdeal.τ).loc Cert.SmallStepKernelIdeal.main_arg53)
      ∧ r.2.mem ((c.tc : Thread Cert.SmallStepKernelIdeal.nD Cert.SmallStepKernelIdeal.τ).loc Cert.SmallStepKernelIdeal.main_arg54) = m ((c.tc : Thread Cert.SmallStepKernelIdeal.nD Cert.SmallStepKernelIdeal.τ).loc Cert.SmallStepKernelIdeal.main_arg54)
      ∧ r.2.mem ((c.tc : Thread Cert.SmallStepKernelIdeal.nD Cert.SmallStepKernelIdeal.τ).loc Cert.SmallStepKernelIdeal.main_arg55) = m ((c.tc : Thread Cert.SmallStepKernelIdeal.nD Cert.SmallStepKernelIdeal.τ).loc Cert.SmallStepKernelIdeal.main_arg55)
      ∧ r.2.mem ((c.tc : Thread Cert.SmallStepKernelIdeal.nD Cert.SmallStepKernelIdeal.τ).loc Cert.SmallStepKernelIdeal.main_arg56) = m ((c.tc : Thread Cert.SmallStepKernelIdeal.nD Cert.SmallStepKernelIdeal.τ).loc Cert.SmallStepKernelIdeal.main_arg56)
      ∧ r.2.mem ((c.tc : Thread Cert.SmallStepKernelIdeal.nD Cert.SmallStepKernelIdeal.τ).loc Cert.SmallStepKernelIdeal.main_arg57) = m ((c.tc : Thread Cert.SmallStepKernelIdeal.nD Cert.SmallStepKernelIdeal.τ).loc Cert.SmallStepKernelIdeal.main_arg57)
      ∧ r.2.mem ((c.tc : Thread Cert.SmallStepKernelIdeal.nD Cert.SmallStepKernelIdeal.τ).loc Cert.SmallStepKernelIdeal.main_arg58) = m ((c.tc : Thread Cert.SmallStepKernelIdeal.nD Cert.SmallStepKernelIdeal.τ).loc Cert.SmallStepKernelIdeal.main_arg58)
      ∧ r.2.mem ((c.tc : Thread Cert.SmallStepKernelIdeal.nD Cert.SmallStepKernelIdeal.τ).loc Cert.SmallStepKernelIdeal.main_arg59) = m ((c.tc : Thread Cert.SmallStepKernelIdeal.nD Cert.SmallStepKernelIdeal.τ).loc Cert.SmallStepKernelIdeal.main_arg59))
      ∧ r.2.sem = fun _ => 0)

def quiescent_SmallStepReferenceIdeal [hSmallStepReferenceIdeal : Cert.SmallStepReferenceIdeal.Facts] : Prop :=
  ∀ (m : (ℓ : Loc Cert.SmallStepReferenceIdeal.nD Cert.SmallStepReferenceIdeal.τ Cert.SmallStepReferenceIdeal.sig) → Buf (Elt Ideal) ℓ) (g : Dev Cert.SmallStepReferenceIdeal.nD → PrngReg), Pre_SmallStepReferenceIdeal m →
    θ_run (Cert.SmallStepReferenceIdeal.defs (F := Ideal)) (onTc (τ := Cert.SmallStepReferenceIdeal.τ) (Cert.SmallStepReferenceIdeal.main (F := Ideal))) ⟨m, fun _ => 0, g⟩ (fun r => (∀ c : Dev Cert.SmallStepReferenceIdeal.nD,
      r.2.mem ((c.tc : Thread Cert.SmallStepReferenceIdeal.nD Cert.SmallStepReferenceIdeal.τ).loc Cert.SmallStepReferenceIdeal.main_arg0) = m ((c.tc : Thread Cert.SmallStepReferenceIdeal.nD Cert.SmallStepReferenceIdeal.τ).loc Cert.SmallStepReferenceIdeal.main_arg0)
      ∧ r.2.mem ((c.tc : Thread Cert.SmallStepReferenceIdeal.nD Cert.SmallStepReferenceIdeal.τ).loc Cert.SmallStepReferenceIdeal.main_arg1) = m ((c.tc : Thread Cert.SmallStepReferenceIdeal.nD Cert.SmallStepReferenceIdeal.τ).loc Cert.SmallStepReferenceIdeal.main_arg1)
      ∧ r.2.mem ((c.tc : Thread Cert.SmallStepReferenceIdeal.nD Cert.SmallStepReferenceIdeal.τ).loc Cert.SmallStepReferenceIdeal.main_arg2) = m ((c.tc : Thread Cert.SmallStepReferenceIdeal.nD Cert.SmallStepReferenceIdeal.τ).loc Cert.SmallStepReferenceIdeal.main_arg2)
      ∧ r.2.mem ((c.tc : Thread Cert.SmallStepReferenceIdeal.nD Cert.SmallStepReferenceIdeal.τ).loc Cert.SmallStepReferenceIdeal.main_arg3) = m ((c.tc : Thread Cert.SmallStepReferenceIdeal.nD Cert.SmallStepReferenceIdeal.τ).loc Cert.SmallStepReferenceIdeal.main_arg3)
      ∧ r.2.mem ((c.tc : Thread Cert.SmallStepReferenceIdeal.nD Cert.SmallStepReferenceIdeal.τ).loc Cert.SmallStepReferenceIdeal.main_arg4) = m ((c.tc : Thread Cert.SmallStepReferenceIdeal.nD Cert.SmallStepReferenceIdeal.τ).loc Cert.SmallStepReferenceIdeal.main_arg4)
      ∧ r.2.mem ((c.tc : Thread Cert.SmallStepReferenceIdeal.nD Cert.SmallStepReferenceIdeal.τ).loc Cert.SmallStepReferenceIdeal.main_arg5) = m ((c.tc : Thread Cert.SmallStepReferenceIdeal.nD Cert.SmallStepReferenceIdeal.τ).loc Cert.SmallStepReferenceIdeal.main_arg5)
      ∧ r.2.mem ((c.tc : Thread Cert.SmallStepReferenceIdeal.nD Cert.SmallStepReferenceIdeal.τ).loc Cert.SmallStepReferenceIdeal.main_arg6) = m ((c.tc : Thread Cert.SmallStepReferenceIdeal.nD Cert.SmallStepReferenceIdeal.τ).loc Cert.SmallStepReferenceIdeal.main_arg6)
      ∧ r.2.mem ((c.tc : Thread Cert.SmallStepReferenceIdeal.nD Cert.SmallStepReferenceIdeal.τ).loc Cert.SmallStepReferenceIdeal.main_arg7) = m ((c.tc : Thread Cert.SmallStepReferenceIdeal.nD Cert.SmallStepReferenceIdeal.τ).loc Cert.SmallStepReferenceIdeal.main_arg7)
      ∧ r.2.mem ((c.tc : Thread Cert.SmallStepReferenceIdeal.nD Cert.SmallStepReferenceIdeal.τ).loc Cert.SmallStepReferenceIdeal.main_arg8) = m ((c.tc : Thread Cert.SmallStepReferenceIdeal.nD Cert.SmallStepReferenceIdeal.τ).loc Cert.SmallStepReferenceIdeal.main_arg8)
      ∧ r.2.mem ((c.tc : Thread Cert.SmallStepReferenceIdeal.nD Cert.SmallStepReferenceIdeal.τ).loc Cert.SmallStepReferenceIdeal.main_arg9) = m ((c.tc : Thread Cert.SmallStepReferenceIdeal.nD Cert.SmallStepReferenceIdeal.τ).loc Cert.SmallStepReferenceIdeal.main_arg9)
      ∧ r.2.mem ((c.tc : Thread Cert.SmallStepReferenceIdeal.nD Cert.SmallStepReferenceIdeal.τ).loc Cert.SmallStepReferenceIdeal.main_arg10) = m ((c.tc : Thread Cert.SmallStepReferenceIdeal.nD Cert.SmallStepReferenceIdeal.τ).loc Cert.SmallStepReferenceIdeal.main_arg10)
      ∧ r.2.mem ((c.tc : Thread Cert.SmallStepReferenceIdeal.nD Cert.SmallStepReferenceIdeal.τ).loc Cert.SmallStepReferenceIdeal.main_arg11) = m ((c.tc : Thread Cert.SmallStepReferenceIdeal.nD Cert.SmallStepReferenceIdeal.τ).loc Cert.SmallStepReferenceIdeal.main_arg11)
      ∧ r.2.mem ((c.tc : Thread Cert.SmallStepReferenceIdeal.nD Cert.SmallStepReferenceIdeal.τ).loc Cert.SmallStepReferenceIdeal.main_arg12) = m ((c.tc : Thread Cert.SmallStepReferenceIdeal.nD Cert.SmallStepReferenceIdeal.τ).loc Cert.SmallStepReferenceIdeal.main_arg12)
      ∧ r.2.mem ((c.tc : Thread Cert.SmallStepReferenceIdeal.nD Cert.SmallStepReferenceIdeal.τ).loc Cert.SmallStepReferenceIdeal.main_arg13) = m ((c.tc : Thread Cert.SmallStepReferenceIdeal.nD Cert.SmallStepReferenceIdeal.τ).loc Cert.SmallStepReferenceIdeal.main_arg13)
      ∧ r.2.mem ((c.tc : Thread Cert.SmallStepReferenceIdeal.nD Cert.SmallStepReferenceIdeal.τ).loc Cert.SmallStepReferenceIdeal.main_arg14) = m ((c.tc : Thread Cert.SmallStepReferenceIdeal.nD Cert.SmallStepReferenceIdeal.τ).loc Cert.SmallStepReferenceIdeal.main_arg14)
      ∧ r.2.mem ((c.tc : Thread Cert.SmallStepReferenceIdeal.nD Cert.SmallStepReferenceIdeal.τ).loc Cert.SmallStepReferenceIdeal.main_arg15) = m ((c.tc : Thread Cert.SmallStepReferenceIdeal.nD Cert.SmallStepReferenceIdeal.τ).loc Cert.SmallStepReferenceIdeal.main_arg15)
      ∧ r.2.mem ((c.tc : Thread Cert.SmallStepReferenceIdeal.nD Cert.SmallStepReferenceIdeal.τ).loc Cert.SmallStepReferenceIdeal.main_arg16) = m ((c.tc : Thread Cert.SmallStepReferenceIdeal.nD Cert.SmallStepReferenceIdeal.τ).loc Cert.SmallStepReferenceIdeal.main_arg16)
      ∧ r.2.mem ((c.tc : Thread Cert.SmallStepReferenceIdeal.nD Cert.SmallStepReferenceIdeal.τ).loc Cert.SmallStepReferenceIdeal.main_arg17) = m ((c.tc : Thread Cert.SmallStepReferenceIdeal.nD Cert.SmallStepReferenceIdeal.τ).loc Cert.SmallStepReferenceIdeal.main_arg17)
      ∧ r.2.mem ((c.tc : Thread Cert.SmallStepReferenceIdeal.nD Cert.SmallStepReferenceIdeal.τ).loc Cert.SmallStepReferenceIdeal.main_arg18) = m ((c.tc : Thread Cert.SmallStepReferenceIdeal.nD Cert.SmallStepReferenceIdeal.τ).loc Cert.SmallStepReferenceIdeal.main_arg18)
      ∧ r.2.mem ((c.tc : Thread Cert.SmallStepReferenceIdeal.nD Cert.SmallStepReferenceIdeal.τ).loc Cert.SmallStepReferenceIdeal.main_arg19) = m ((c.tc : Thread Cert.SmallStepReferenceIdeal.nD Cert.SmallStepReferenceIdeal.τ).loc Cert.SmallStepReferenceIdeal.main_arg19)
      ∧ r.2.mem ((c.tc : Thread Cert.SmallStepReferenceIdeal.nD Cert.SmallStepReferenceIdeal.τ).loc Cert.SmallStepReferenceIdeal.main_arg20) = m ((c.tc : Thread Cert.SmallStepReferenceIdeal.nD Cert.SmallStepReferenceIdeal.τ).loc Cert.SmallStepReferenceIdeal.main_arg20)
      ∧ r.2.mem ((c.tc : Thread Cert.SmallStepReferenceIdeal.nD Cert.SmallStepReferenceIdeal.τ).loc Cert.SmallStepReferenceIdeal.main_arg21) = m ((c.tc : Thread Cert.SmallStepReferenceIdeal.nD Cert.SmallStepReferenceIdeal.τ).loc Cert.SmallStepReferenceIdeal.main_arg21)
      ∧ r.2.mem ((c.tc : Thread Cert.SmallStepReferenceIdeal.nD Cert.SmallStepReferenceIdeal.τ).loc Cert.SmallStepReferenceIdeal.main_arg22) = m ((c.tc : Thread Cert.SmallStepReferenceIdeal.nD Cert.SmallStepReferenceIdeal.τ).loc Cert.SmallStepReferenceIdeal.main_arg22)
      ∧ r.2.mem ((c.tc : Thread Cert.SmallStepReferenceIdeal.nD Cert.SmallStepReferenceIdeal.τ).loc Cert.SmallStepReferenceIdeal.main_arg23) = m ((c.tc : Thread Cert.SmallStepReferenceIdeal.nD Cert.SmallStepReferenceIdeal.τ).loc Cert.SmallStepReferenceIdeal.main_arg23)
      ∧ r.2.mem ((c.tc : Thread Cert.SmallStepReferenceIdeal.nD Cert.SmallStepReferenceIdeal.τ).loc Cert.SmallStepReferenceIdeal.main_arg24) = m ((c.tc : Thread Cert.SmallStepReferenceIdeal.nD Cert.SmallStepReferenceIdeal.τ).loc Cert.SmallStepReferenceIdeal.main_arg24)
      ∧ r.2.mem ((c.tc : Thread Cert.SmallStepReferenceIdeal.nD Cert.SmallStepReferenceIdeal.τ).loc Cert.SmallStepReferenceIdeal.main_arg25) = m ((c.tc : Thread Cert.SmallStepReferenceIdeal.nD Cert.SmallStepReferenceIdeal.τ).loc Cert.SmallStepReferenceIdeal.main_arg25)
      ∧ r.2.mem ((c.tc : Thread Cert.SmallStepReferenceIdeal.nD Cert.SmallStepReferenceIdeal.τ).loc Cert.SmallStepReferenceIdeal.main_arg26) = m ((c.tc : Thread Cert.SmallStepReferenceIdeal.nD Cert.SmallStepReferenceIdeal.τ).loc Cert.SmallStepReferenceIdeal.main_arg26)
      ∧ r.2.mem ((c.tc : Thread Cert.SmallStepReferenceIdeal.nD Cert.SmallStepReferenceIdeal.τ).loc Cert.SmallStepReferenceIdeal.main_arg27) = m ((c.tc : Thread Cert.SmallStepReferenceIdeal.nD Cert.SmallStepReferenceIdeal.τ).loc Cert.SmallStepReferenceIdeal.main_arg27)
      ∧ r.2.mem ((c.tc : Thread Cert.SmallStepReferenceIdeal.nD Cert.SmallStepReferenceIdeal.τ).loc Cert.SmallStepReferenceIdeal.main_arg28) = m ((c.tc : Thread Cert.SmallStepReferenceIdeal.nD Cert.SmallStepReferenceIdeal.τ).loc Cert.SmallStepReferenceIdeal.main_arg28)
      ∧ r.2.mem ((c.tc : Thread Cert.SmallStepReferenceIdeal.nD Cert.SmallStepReferenceIdeal.τ).loc Cert.SmallStepReferenceIdeal.main_arg29) = m ((c.tc : Thread Cert.SmallStepReferenceIdeal.nD Cert.SmallStepReferenceIdeal.τ).loc Cert.SmallStepReferenceIdeal.main_arg29)
      ∧ r.2.mem ((c.tc : Thread Cert.SmallStepReferenceIdeal.nD Cert.SmallStepReferenceIdeal.τ).loc Cert.SmallStepReferenceIdeal.main_arg30) = m ((c.tc : Thread Cert.SmallStepReferenceIdeal.nD Cert.SmallStepReferenceIdeal.τ).loc Cert.SmallStepReferenceIdeal.main_arg30)
      ∧ r.2.mem ((c.tc : Thread Cert.SmallStepReferenceIdeal.nD Cert.SmallStepReferenceIdeal.τ).loc Cert.SmallStepReferenceIdeal.main_arg31) = m ((c.tc : Thread Cert.SmallStepReferenceIdeal.nD Cert.SmallStepReferenceIdeal.τ).loc Cert.SmallStepReferenceIdeal.main_arg31)
      ∧ r.2.mem ((c.tc : Thread Cert.SmallStepReferenceIdeal.nD Cert.SmallStepReferenceIdeal.τ).loc Cert.SmallStepReferenceIdeal.main_arg32) = m ((c.tc : Thread Cert.SmallStepReferenceIdeal.nD Cert.SmallStepReferenceIdeal.τ).loc Cert.SmallStepReferenceIdeal.main_arg32)
      ∧ r.2.mem ((c.tc : Thread Cert.SmallStepReferenceIdeal.nD Cert.SmallStepReferenceIdeal.τ).loc Cert.SmallStepReferenceIdeal.main_arg33) = m ((c.tc : Thread Cert.SmallStepReferenceIdeal.nD Cert.SmallStepReferenceIdeal.τ).loc Cert.SmallStepReferenceIdeal.main_arg33)
      ∧ r.2.mem ((c.tc : Thread Cert.SmallStepReferenceIdeal.nD Cert.SmallStepReferenceIdeal.τ).loc Cert.SmallStepReferenceIdeal.main_arg34) = m ((c.tc : Thread Cert.SmallStepReferenceIdeal.nD Cert.SmallStepReferenceIdeal.τ).loc Cert.SmallStepReferenceIdeal.main_arg34)
      ∧ r.2.mem ((c.tc : Thread Cert.SmallStepReferenceIdeal.nD Cert.SmallStepReferenceIdeal.τ).loc Cert.SmallStepReferenceIdeal.main_arg35) = m ((c.tc : Thread Cert.SmallStepReferenceIdeal.nD Cert.SmallStepReferenceIdeal.τ).loc Cert.SmallStepReferenceIdeal.main_arg35)
      ∧ r.2.mem ((c.tc : Thread Cert.SmallStepReferenceIdeal.nD Cert.SmallStepReferenceIdeal.τ).loc Cert.SmallStepReferenceIdeal.main_arg36) = m ((c.tc : Thread Cert.SmallStepReferenceIdeal.nD Cert.SmallStepReferenceIdeal.τ).loc Cert.SmallStepReferenceIdeal.main_arg36)
      ∧ r.2.mem ((c.tc : Thread Cert.SmallStepReferenceIdeal.nD Cert.SmallStepReferenceIdeal.τ).loc Cert.SmallStepReferenceIdeal.main_arg37) = m ((c.tc : Thread Cert.SmallStepReferenceIdeal.nD Cert.SmallStepReferenceIdeal.τ).loc Cert.SmallStepReferenceIdeal.main_arg37)
      ∧ r.2.mem ((c.tc : Thread Cert.SmallStepReferenceIdeal.nD Cert.SmallStepReferenceIdeal.τ).loc Cert.SmallStepReferenceIdeal.main_arg38) = m ((c.tc : Thread Cert.SmallStepReferenceIdeal.nD Cert.SmallStepReferenceIdeal.τ).loc Cert.SmallStepReferenceIdeal.main_arg38)
      ∧ r.2.mem ((c.tc : Thread Cert.SmallStepReferenceIdeal.nD Cert.SmallStepReferenceIdeal.τ).loc Cert.SmallStepReferenceIdeal.main_arg39) = m ((c.tc : Thread Cert.SmallStepReferenceIdeal.nD Cert.SmallStepReferenceIdeal.τ).loc Cert.SmallStepReferenceIdeal.main_arg39)
      ∧ r.2.mem ((c.tc : Thread Cert.SmallStepReferenceIdeal.nD Cert.SmallStepReferenceIdeal.τ).loc Cert.SmallStepReferenceIdeal.main_arg40) = m ((c.tc : Thread Cert.SmallStepReferenceIdeal.nD Cert.SmallStepReferenceIdeal.τ).loc Cert.SmallStepReferenceIdeal.main_arg40)
      ∧ r.2.mem ((c.tc : Thread Cert.SmallStepReferenceIdeal.nD Cert.SmallStepReferenceIdeal.τ).loc Cert.SmallStepReferenceIdeal.main_arg41) = m ((c.tc : Thread Cert.SmallStepReferenceIdeal.nD Cert.SmallStepReferenceIdeal.τ).loc Cert.SmallStepReferenceIdeal.main_arg41)
      ∧ r.2.mem ((c.tc : Thread Cert.SmallStepReferenceIdeal.nD Cert.SmallStepReferenceIdeal.τ).loc Cert.SmallStepReferenceIdeal.main_arg42) = m ((c.tc : Thread Cert.SmallStepReferenceIdeal.nD Cert.SmallStepReferenceIdeal.τ).loc Cert.SmallStepReferenceIdeal.main_arg42)
      ∧ r.2.mem ((c.tc : Thread Cert.SmallStepReferenceIdeal.nD Cert.SmallStepReferenceIdeal.τ).loc Cert.SmallStepReferenceIdeal.main_arg43) = m ((c.tc : Thread Cert.SmallStepReferenceIdeal.nD Cert.SmallStepReferenceIdeal.τ).loc Cert.SmallStepReferenceIdeal.main_arg43)
      ∧ r.2.mem ((c.tc : Thread Cert.SmallStepReferenceIdeal.nD Cert.SmallStepReferenceIdeal.τ).loc Cert.SmallStepReferenceIdeal.main_arg44) = m ((c.tc : Thread Cert.SmallStepReferenceIdeal.nD Cert.SmallStepReferenceIdeal.τ).loc Cert.SmallStepReferenceIdeal.main_arg44)
      ∧ r.2.mem ((c.tc : Thread Cert.SmallStepReferenceIdeal.nD Cert.SmallStepReferenceIdeal.τ).loc Cert.SmallStepReferenceIdeal.main_arg45) = m ((c.tc : Thread Cert.SmallStepReferenceIdeal.nD Cert.SmallStepReferenceIdeal.τ).loc Cert.SmallStepReferenceIdeal.main_arg45)
      ∧ r.2.mem ((c.tc : Thread Cert.SmallStepReferenceIdeal.nD Cert.SmallStepReferenceIdeal.τ).loc Cert.SmallStepReferenceIdeal.main_arg46) = m ((c.tc : Thread Cert.SmallStepReferenceIdeal.nD Cert.SmallStepReferenceIdeal.τ).loc Cert.SmallStepReferenceIdeal.main_arg46)
      ∧ r.2.mem ((c.tc : Thread Cert.SmallStepReferenceIdeal.nD Cert.SmallStepReferenceIdeal.τ).loc Cert.SmallStepReferenceIdeal.main_arg47) = m ((c.tc : Thread Cert.SmallStepReferenceIdeal.nD Cert.SmallStepReferenceIdeal.τ).loc Cert.SmallStepReferenceIdeal.main_arg47)
      ∧ r.2.mem ((c.tc : Thread Cert.SmallStepReferenceIdeal.nD Cert.SmallStepReferenceIdeal.τ).loc Cert.SmallStepReferenceIdeal.main_arg48) = m ((c.tc : Thread Cert.SmallStepReferenceIdeal.nD Cert.SmallStepReferenceIdeal.τ).loc Cert.SmallStepReferenceIdeal.main_arg48)
      ∧ r.2.mem ((c.tc : Thread Cert.SmallStepReferenceIdeal.nD Cert.SmallStepReferenceIdeal.τ).loc Cert.SmallStepReferenceIdeal.main_arg49) = m ((c.tc : Thread Cert.SmallStepReferenceIdeal.nD Cert.SmallStepReferenceIdeal.τ).loc Cert.SmallStepReferenceIdeal.main_arg49)
      ∧ r.2.mem ((c.tc : Thread Cert.SmallStepReferenceIdeal.nD Cert.SmallStepReferenceIdeal.τ).loc Cert.SmallStepReferenceIdeal.main_arg50) = m ((c.tc : Thread Cert.SmallStepReferenceIdeal.nD Cert.SmallStepReferenceIdeal.τ).loc Cert.SmallStepReferenceIdeal.main_arg50)
      ∧ r.2.mem ((c.tc : Thread Cert.SmallStepReferenceIdeal.nD Cert.SmallStepReferenceIdeal.τ).loc Cert.SmallStepReferenceIdeal.main_arg51) = m ((c.tc : Thread Cert.SmallStepReferenceIdeal.nD Cert.SmallStepReferenceIdeal.τ).loc Cert.SmallStepReferenceIdeal.main_arg51)
      ∧ r.2.mem ((c.tc : Thread Cert.SmallStepReferenceIdeal.nD Cert.SmallStepReferenceIdeal.τ).loc Cert.SmallStepReferenceIdeal.main_arg52) = m ((c.tc : Thread Cert.SmallStepReferenceIdeal.nD Cert.SmallStepReferenceIdeal.τ).loc Cert.SmallStepReferenceIdeal.main_arg52)
      ∧ r.2.mem ((c.tc : Thread Cert.SmallStepReferenceIdeal.nD Cert.SmallStepReferenceIdeal.τ).loc Cert.SmallStepReferenceIdeal.main_arg53) = m ((c.tc : Thread Cert.SmallStepReferenceIdeal.nD Cert.SmallStepReferenceIdeal.τ).loc Cert.SmallStepReferenceIdeal.main_arg53)
      ∧ r.2.mem ((c.tc : Thread Cert.SmallStepReferenceIdeal.nD Cert.SmallStepReferenceIdeal.τ).loc Cert.SmallStepReferenceIdeal.main_arg54) = m ((c.tc : Thread Cert.SmallStepReferenceIdeal.nD Cert.SmallStepReferenceIdeal.τ).loc Cert.SmallStepReferenceIdeal.main_arg54)
      ∧ r.2.mem ((c.tc : Thread Cert.SmallStepReferenceIdeal.nD Cert.SmallStepReferenceIdeal.τ).loc Cert.SmallStepReferenceIdeal.main_arg55) = m ((c.tc : Thread Cert.SmallStepReferenceIdeal.nD Cert.SmallStepReferenceIdeal.τ).loc Cert.SmallStepReferenceIdeal.main_arg55)
      ∧ r.2.mem ((c.tc : Thread Cert.SmallStepReferenceIdeal.nD Cert.SmallStepReferenceIdeal.τ).loc Cert.SmallStepReferenceIdeal.main_arg56) = m ((c.tc : Thread Cert.SmallStepReferenceIdeal.nD Cert.SmallStepReferenceIdeal.τ).loc Cert.SmallStepReferenceIdeal.main_arg56)
      ∧ r.2.mem ((c.tc : Thread Cert.SmallStepReferenceIdeal.nD Cert.SmallStepReferenceIdeal.τ).loc Cert.SmallStepReferenceIdeal.main_arg57) = m ((c.tc : Thread Cert.SmallStepReferenceIdeal.nD Cert.SmallStepReferenceIdeal.τ).loc Cert.SmallStepReferenceIdeal.main_arg57)
      ∧ r.2.mem ((c.tc : Thread Cert.SmallStepReferenceIdeal.nD Cert.SmallStepReferenceIdeal.τ).loc Cert.SmallStepReferenceIdeal.main_arg58) = m ((c.tc : Thread Cert.SmallStepReferenceIdeal.nD Cert.SmallStepReferenceIdeal.τ).loc Cert.SmallStepReferenceIdeal.main_arg58)
      ∧ r.2.mem ((c.tc : Thread Cert.SmallStepReferenceIdeal.nD Cert.SmallStepReferenceIdeal.τ).loc Cert.SmallStepReferenceIdeal.main_arg59) = m ((c.tc : Thread Cert.SmallStepReferenceIdeal.nD Cert.SmallStepReferenceIdeal.τ).loc Cert.SmallStepReferenceIdeal.main_arg59))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_WeightKernel_WeightKernelIdeal : Prop :=
  True

def algebraic_WeightKernelIdeal_WeightReferenceIdeal [hWeightKernelIdeal : Cert.WeightKernelIdeal.Facts] [hWeightReferenceIdeal : Cert.WeightReferenceIdeal.Facts] : Prop :=
  ∀ (m : (ℓ : Loc Cert.WeightKernelIdeal.nD Cert.WeightKernelIdeal.τ Cert.WeightKernelIdeal.sig) → Buf (Elt Ideal) ℓ) (g : Dev Cert.WeightKernelIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightKernelIdeal m →
    (∀ c : Dev Cert.WeightKernelIdeal.nD,
      m' ((c.tc : Thread Cert.WeightReferenceIdeal.nD Cert.WeightReferenceIdeal.τ).loc Cert.WeightReferenceIdeal.main_arg0) = m ((c.tc : Thread Cert.WeightKernelIdeal.nD Cert.WeightKernelIdeal.τ).loc Cert.WeightKernelIdeal.main_arg0)
      ∧ m' ((c.tc : Thread Cert.WeightReferenceIdeal.nD Cert.WeightReferenceIdeal.τ).loc Cert.WeightReferenceIdeal.main_arg1) = m ((c.tc : Thread Cert.WeightKernelIdeal.nD Cert.WeightKernelIdeal.τ).loc Cert.WeightKernelIdeal.main_arg1)
      ∧ m' ((c.tc : Thread Cert.WeightReferenceIdeal.nD Cert.WeightReferenceIdeal.τ).loc Cert.WeightReferenceIdeal.main_arg2) = m ((c.tc : Thread Cert.WeightKernelIdeal.nD Cert.WeightKernelIdeal.τ).loc Cert.WeightKernelIdeal.main_arg2)) →
    ∃ (v0 : (c : Dev Cert.WeightKernelIdeal.nD) → Buf (Elt Ideal) ((c.tc : Thread Cert.WeightKernelIdeal.nD Cert.WeightKernelIdeal.τ).loc Cert.WeightKernelIdeal.main_v15)),
      θ_run (Cert.WeightKernelIdeal.defs (F := Ideal)) (onTc (τ := Cert.WeightKernelIdeal.τ) (Cert.WeightKernelIdeal.main (F := Ideal))) ⟨m, fun _ => 0, g⟩ (fun r => ∀ c : Dev Cert.WeightKernelIdeal.nD,
          r.2.mem ((c.tc : Thread Cert.WeightKernelIdeal.nD Cert.WeightKernelIdeal.τ).loc Cert.WeightKernelIdeal.main_v15) = v0 c
          ∧ r.2.mem ((c.tc : Thread Cert.WeightKernelIdeal.nD Cert.WeightKernelIdeal.τ).loc Cert.WeightKernelIdeal.main_arg0) = m ((c.tc : Thread Cert.WeightKernelIdeal.nD Cert.WeightKernelIdeal.τ).loc Cert.WeightKernelIdeal.main_arg0)
          ∧ r.2.mem ((c.tc : Thread Cert.WeightKernelIdeal.nD Cert.WeightKernelIdeal.τ).loc Cert.WeightKernelIdeal.main_arg1) = m ((c.tc : Thread Cert.WeightKernelIdeal.nD Cert.WeightKernelIdeal.τ).loc Cert.WeightKernelIdeal.main_arg1)
          ∧ r.2.mem ((c.tc : Thread Cert.WeightKernelIdeal.nD Cert.WeightKernelIdeal.τ).loc Cert.WeightKernelIdeal.main_arg2) = m ((c.tc : Thread Cert.WeightKernelIdeal.nD Cert.WeightKernelIdeal.τ).loc Cert.WeightKernelIdeal.main_arg2))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v19) = v0 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1)
          ∧ r.2.mem ((c.tc : Thread Cert.WeightReferenceIdeal.nD Cert.WeightReferenceIdeal.τ).loc Cert.WeightReferenceIdeal.main_arg2) = m' ((c.tc : Thread Cert.WeightReferenceIdeal.nD Cert.WeightReferenceIdeal.τ).loc Cert.WeightReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v3)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v3) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_DownWeightKernel_DownWeightKernelIdeal : Prop :=
  True

def algebraic_DownWeightKernelIdeal_DownWeightReferenceIdeal [hDownWeightKernelIdeal : Cert.DownWeightKernelIdeal.Facts] [hDownWeightReferenceIdeal : Cert.DownWeightReferenceIdeal.Facts] : Prop :=
  ∀ (m : (ℓ : Loc Cert.DownWeightKernelIdeal.nD Cert.DownWeightKernelIdeal.τ Cert.DownWeightKernelIdeal.sig) → Buf (Elt Ideal) ℓ) (g : Dev Cert.DownWeightKernelIdeal.nD → PrngReg)
    (m' : (ℓ : Loc Cert.DownWeightReferenceIdeal.nD Cert.DownWeightReferenceIdeal.τ Cert.DownWeightReferenceIdeal.sig) → Buf (Elt Ideal) ℓ) (g' : Dev Cert.DownWeightReferenceIdeal.nD → PrngReg), Pre_DownWeightKernelIdeal m →
    (∀ c : Dev Cert.DownWeightKernelIdeal.nD,
      m' ((c.tc : Thread Cert.DownWeightReferenceIdeal.nD Cert.DownWeightReferenceIdeal.τ).loc Cert.DownWeightReferenceIdeal.main_arg0) = m ((c.tc : Thread Cert.DownWeightKernelIdeal.nD Cert.DownWeightKernelIdeal.τ).loc Cert.DownWeightKernelIdeal.main_arg0)
      ∧ m' ((c.tc : Thread Cert.DownWeightReferenceIdeal.nD Cert.DownWeightReferenceIdeal.τ).loc Cert.DownWeightReferenceIdeal.main_arg1) = m ((c.tc : Thread Cert.DownWeightKernelIdeal.nD Cert.DownWeightKernelIdeal.τ).loc Cert.DownWeightKernelIdeal.main_arg1)) →
    ∃ (v0 : (c : Dev Cert.DownWeightKernelIdeal.nD) → Buf (Elt Ideal) ((c.tc : Thread Cert.DownWeightKernelIdeal.nD Cert.DownWeightKernelIdeal.τ).loc Cert.DownWeightKernelIdeal.main_v2)),
      θ_run (Cert.DownWeightKernelIdeal.defs (F := Ideal)) (onTc (τ := Cert.DownWeightKernelIdeal.τ) (Cert.DownWeightKernelIdeal.main (F := Ideal))) ⟨m, fun _ => 0, g⟩ (fun r => ∀ c : Dev Cert.DownWeightKernelIdeal.nD,
          r.2.mem ((c.tc : Thread Cert.DownWeightKernelIdeal.nD Cert.DownWeightKernelIdeal.τ).loc Cert.DownWeightKernelIdeal.main_v2) = v0 c
          ∧ r.2.mem ((c.tc : Thread Cert.DownWeightKernelIdeal.nD Cert.DownWeightKernelIdeal.τ).loc Cert.DownWeightKernelIdeal.main_arg0) = m ((c.tc : Thread Cert.DownWeightKernelIdeal.nD Cert.DownWeightKernelIdeal.τ).loc Cert.DownWeightKernelIdeal.main_arg0)
          ∧ r.2.mem ((c.tc : Thread Cert.DownWeightKernelIdeal.nD Cert.DownWeightKernelIdeal.τ).loc Cert.DownWeightKernelIdeal.main_arg1) = m ((c.tc : Thread Cert.DownWeightKernelIdeal.nD Cert.DownWeightKernelIdeal.τ).loc Cert.DownWeightKernelIdeal.main_arg1))
      ∧ θ_run (Cert.DownWeightReferenceIdeal.defs (F := Ideal)) (onTc (τ := Cert.DownWeightReferenceIdeal.τ) (Cert.DownWeightReferenceIdeal.main (F := Ideal))) ⟨m', fun _ => 0, g'⟩ (fun r => ∀ c : Dev Cert.DownWeightReferenceIdeal.nD,
          r.2.mem ((c.tc : Thread Cert.DownWeightReferenceIdeal.nD Cert.DownWeightReferenceIdeal.τ).loc Cert.DownWeightReferenceIdeal.main_v5) = v0 c
          ∧ r.2.mem ((c.tc : Thread Cert.DownWeightReferenceIdeal.nD Cert.DownWeightReferenceIdeal.τ).loc Cert.DownWeightReferenceIdeal.main_arg0) = m' ((c.tc : Thread Cert.DownWeightReferenceIdeal.nD Cert.DownWeightReferenceIdeal.τ).loc Cert.DownWeightReferenceIdeal.main_arg0)
          ∧ r.2.mem ((c.tc : Thread Cert.DownWeightReferenceIdeal.nD Cert.DownWeightReferenceIdeal.τ).loc Cert.DownWeightReferenceIdeal.main_arg1) = m' ((c.tc : Thread Cert.DownWeightReferenceIdeal.nD Cert.DownWeightReferenceIdeal.τ).loc Cert.DownWeightReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v4)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v4) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v1) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v4_0)) (v1 : (c : Dev Cert.OutKernelIdeal.nD) → Buf (Elt Ideal) ((c.tc : Thread Cert.OutKernelIdeal.nD Cert.OutKernelIdeal.τ).loc Cert.OutKernelIdeal.main_v4_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v4_0) = v0 c
          ∧ r.2.mem ((c.tc : Thread Cert.OutKernelIdeal.nD Cert.OutKernelIdeal.τ).loc Cert.OutKernelIdeal.main_v4_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_v15) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_ActKernel_ActKernelIdeal : Prop :=
  True

def algebraic_ActKernelIdeal_ActReferenceIdeal [hActKernelIdeal : Cert.ActKernelIdeal.Facts] [hActReferenceIdeal : Cert.ActReferenceIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)
      ∧ m' ((c.tc : Thread Cert.ActReferenceIdeal.nD Cert.ActReferenceIdeal.τ).loc Cert.ActReferenceIdeal.main_arg2) = m ((c.tc : Thread Cert.ActKernelIdeal.nD Cert.ActKernelIdeal.τ).loc Cert.ActKernelIdeal.main_arg2)) →
    ∃ (v0 : (c : Dev Cert.ActKernelIdeal.nD) → Buf (Elt Ideal) ((c.tc : Thread Cert.ActKernelIdeal.nD Cert.ActKernelIdeal.τ).loc Cert.ActKernelIdeal.main_v3)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v3) = v0 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v29) = v0 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v5_0)) (v1 : (c : Dev Cert.MixKernelIdeal.nD) → Buf (Elt Ideal) ((c.tc : Thread Cert.MixKernelIdeal.nD Cert.MixKernelIdeal.τ).loc Cert.MixKernelIdeal.main_v5_1)) (v2 : (c : Dev Cert.MixKernelIdeal.nD) → Buf (Elt Ideal) ((c.tc : Thread Cert.MixKernelIdeal.nD Cert.MixKernelIdeal.τ).loc Cert.MixKernelIdeal.main_v5_2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v5_0) = v0 c
          ∧ r.2.mem ((c.tc : Thread Cert.MixKernelIdeal.nD Cert.MixKernelIdeal.τ).loc Cert.MixKernelIdeal.main_v5_1) = v1 c
          ∧ r.2.mem ((c.tc : Thread Cert.MixKernelIdeal.nD Cert.MixKernelIdeal.τ).loc Cert.MixKernelIdeal.main_v5_2) = v2 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v40) = v0 c
          ∧ r.2.mem ((c.tc : Thread Cert.MixReferenceIdeal.nD Cert.MixReferenceIdeal.τ).loc Cert.MixReferenceIdeal.main_v41) = v1 c
          ∧ r.2.mem ((c.tc : Thread Cert.MixReferenceIdeal.nD Cert.MixReferenceIdeal.τ).loc Cert.MixReferenceIdeal.main_v42) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_MixWeightKernel_MixWeightKernelIdeal : Prop :=
  True

def algebraic_MixWeightKernelIdeal_MixWeightReferenceIdeal [hMixWeightKernelIdeal : Cert.MixWeightKernelIdeal.Facts] [hMixWeightReferenceIdeal : Cert.MixWeightReferenceIdeal.Facts] : Prop :=
  ∀ (m : (ℓ : Loc Cert.MixWeightKernelIdeal.nD Cert.MixWeightKernelIdeal.τ Cert.MixWeightKernelIdeal.sig) → Buf (Elt Ideal) ℓ) (g : Dev Cert.MixWeightKernelIdeal.nD → PrngReg)
    (m' : (ℓ : Loc Cert.MixWeightReferenceIdeal.nD Cert.MixWeightReferenceIdeal.τ Cert.MixWeightReferenceIdeal.sig) → Buf (Elt Ideal) ℓ) (g' : Dev Cert.MixWeightReferenceIdeal.nD → PrngReg), Pre_MixWeightKernelIdeal m →
    (∀ c : Dev Cert.MixWeightKernelIdeal.nD,
      m' ((c.tc : Thread Cert.MixWeightReferenceIdeal.nD Cert.MixWeightReferenceIdeal.τ).loc Cert.MixWeightReferenceIdeal.main_arg0) = m ((c.tc : Thread Cert.MixWeightKernelIdeal.nD Cert.MixWeightKernelIdeal.τ).loc Cert.MixWeightKernelIdeal.main_arg0)
      ∧ m' ((c.tc : Thread Cert.MixWeightReferenceIdeal.nD Cert.MixWeightReferenceIdeal.τ).loc Cert.MixWeightReferenceIdeal.main_arg1) = m ((c.tc : Thread Cert.MixWeightKernelIdeal.nD Cert.MixWeightKernelIdeal.τ).loc Cert.MixWeightKernelIdeal.main_arg1)
      ∧ m' ((c.tc : Thread Cert.MixWeightReferenceIdeal.nD Cert.MixWeightReferenceIdeal.τ).loc Cert.MixWeightReferenceIdeal.main_arg2) = m ((c.tc : Thread Cert.MixWeightKernelIdeal.nD Cert.MixWeightKernelIdeal.τ).loc Cert.MixWeightKernelIdeal.main_arg2)) →
    ∃ (v0 : (c : Dev Cert.MixWeightKernelIdeal.nD) → Buf (Elt Ideal) ((c.tc : Thread Cert.MixWeightKernelIdeal.nD Cert.MixWeightKernelIdeal.τ).loc Cert.MixWeightKernelIdeal.main_v15)),
      θ_run (Cert.MixWeightKernelIdeal.defs (F := Ideal)) (onTc (τ := Cert.MixWeightKernelIdeal.τ) (Cert.MixWeightKernelIdeal.main (F := Ideal))) ⟨m, fun _ => 0, g⟩ (fun r => ∀ c : Dev Cert.MixWeightKernelIdeal.nD,
          r.2.mem ((c.tc : Thread Cert.MixWeightKernelIdeal.nD Cert.MixWeightKernelIdeal.τ).loc Cert.MixWeightKernelIdeal.main_v15) = v0 c
          ∧ r.2.mem ((c.tc : Thread Cert.MixWeightKernelIdeal.nD Cert.MixWeightKernelIdeal.τ).loc Cert.MixWeightKernelIdeal.main_arg0) = m ((c.tc : Thread Cert.MixWeightKernelIdeal.nD Cert.MixWeightKernelIdeal.τ).loc Cert.MixWeightKernelIdeal.main_arg0)
          ∧ r.2.mem ((c.tc : Thread Cert.MixWeightKernelIdeal.nD Cert.MixWeightKernelIdeal.τ).loc Cert.MixWeightKernelIdeal.main_arg1) = m ((c.tc : Thread Cert.MixWeightKernelIdeal.nD Cert.MixWeightKernelIdeal.τ).loc Cert.MixWeightKernelIdeal.main_arg1)
          ∧ r.2.mem ((c.tc : Thread Cert.MixWeightKernelIdeal.nD Cert.MixWeightKernelIdeal.τ).loc Cert.MixWeightKernelIdeal.main_arg2) = m ((c.tc : Thread Cert.MixWeightKernelIdeal.nD Cert.MixWeightKernelIdeal.τ).loc Cert.MixWeightKernelIdeal.main_arg2))
      ∧ θ_run (Cert.MixWeightReferenceIdeal.defs (F := Ideal)) (onTc (τ := Cert.MixWeightReferenceIdeal.τ) (Cert.MixWeightReferenceIdeal.main (F := Ideal))) ⟨m', fun _ => 0, g'⟩ (fun r => ∀ c : Dev Cert.MixWeightReferenceIdeal.nD,
          r.2.mem ((c.tc : Thread Cert.MixWeightReferenceIdeal.nD Cert.MixWeightReferenceIdeal.τ).loc Cert.MixWeightReferenceIdeal.main_v19) = v0 c
          ∧ r.2.mem ((c.tc : Thread Cert.MixWeightReferenceIdeal.nD Cert.MixWeightReferenceIdeal.τ).loc Cert.MixWeightReferenceIdeal.main_arg0) = m' ((c.tc : Thread Cert.MixWeightReferenceIdeal.nD Cert.MixWeightReferenceIdeal.τ).loc Cert.MixWeightReferenceIdeal.main_arg0)
          ∧ r.2.mem ((c.tc : Thread Cert.MixWeightReferenceIdeal.nD Cert.MixWeightReferenceIdeal.τ).loc Cert.MixWeightReferenceIdeal.main_arg1) = m' ((c.tc : Thread Cert.MixWeightReferenceIdeal.nD Cert.MixWeightReferenceIdeal.τ).loc Cert.MixWeightReferenceIdeal.main_arg1)
          ∧ r.2.mem ((c.tc : Thread Cert.MixWeightReferenceIdeal.nD Cert.MixWeightReferenceIdeal.τ).loc Cert.MixWeightReferenceIdeal.main_arg2) = m' ((c.tc : Thread Cert.MixWeightReferenceIdeal.nD Cert.MixWeightReferenceIdeal.τ).loc Cert.MixWeightReferenceIdeal.main_arg2))

def preserves_ConvWeightKernel_ConvWeightKernelIdeal : Prop :=
  True

def algebraic_ConvWeightKernelIdeal_ConvWeightReferenceIdeal [hConvWeightKernelIdeal : Cert.ConvWeightKernelIdeal.Facts] [hConvWeightReferenceIdeal : Cert.ConvWeightReferenceIdeal.Facts] : Prop :=
  ∀ (m : (ℓ : Loc Cert.ConvWeightKernelIdeal.nD Cert.ConvWeightKernelIdeal.τ Cert.ConvWeightKernelIdeal.sig) → Buf (Elt Ideal) ℓ) (g : Dev Cert.ConvWeightKernelIdeal.nD → PrngReg)
    (m' : (ℓ : Loc Cert.ConvWeightReferenceIdeal.nD Cert.ConvWeightReferenceIdeal.τ Cert.ConvWeightReferenceIdeal.sig) → Buf (Elt Ideal) ℓ) (g' : Dev Cert.ConvWeightReferenceIdeal.nD → PrngReg), Pre_ConvWeightKernelIdeal m →
    (∀ c : Dev Cert.ConvWeightKernelIdeal.nD,
      m' ((c.tc : Thread Cert.ConvWeightReferenceIdeal.nD Cert.ConvWeightReferenceIdeal.τ).loc Cert.ConvWeightReferenceIdeal.main_arg0) = m ((c.tc : Thread Cert.ConvWeightKernelIdeal.nD Cert.ConvWeightKernelIdeal.τ).loc Cert.ConvWeightKernelIdeal.main_arg0)
      ∧ m' ((c.tc : Thread Cert.ConvWeightReferenceIdeal.nD Cert.ConvWeightReferenceIdeal.τ).loc Cert.ConvWeightReferenceIdeal.main_arg1) = m ((c.tc : Thread Cert.ConvWeightKernelIdeal.nD Cert.ConvWeightKernelIdeal.τ).loc Cert.ConvWeightKernelIdeal.main_arg1)
      ∧ m' ((c.tc : Thread Cert.ConvWeightReferenceIdeal.nD Cert.ConvWeightReferenceIdeal.τ).loc Cert.ConvWeightReferenceIdeal.main_arg2) = m ((c.tc : Thread Cert.ConvWeightKernelIdeal.nD Cert.ConvWeightKernelIdeal.τ).loc Cert.ConvWeightKernelIdeal.main_arg2)) →
    ∃ (v0 : (c : Dev Cert.ConvWeightKernelIdeal.nD) → Buf (Elt Ideal) ((c.tc : Thread Cert.ConvWeightKernelIdeal.nD Cert.ConvWeightKernelIdeal.τ).loc Cert.ConvWeightKernelIdeal.main_v15)),
      θ_run (Cert.ConvWeightKernelIdeal.defs (F := Ideal)) (onTc (τ := Cert.ConvWeightKernelIdeal.τ) (Cert.ConvWeightKernelIdeal.main (F := Ideal))) ⟨m, fun _ => 0, g⟩ (fun r => ∀ c : Dev Cert.ConvWeightKernelIdeal.nD,
          r.2.mem ((c.tc : Thread Cert.ConvWeightKernelIdeal.nD Cert.ConvWeightKernelIdeal.τ).loc Cert.ConvWeightKernelIdeal.main_v15) = v0 c
          ∧ r.2.mem ((c.tc : Thread Cert.ConvWeightKernelIdeal.nD Cert.ConvWeightKernelIdeal.τ).loc Cert.ConvWeightKernelIdeal.main_arg0) = m ((c.tc : Thread Cert.ConvWeightKernelIdeal.nD Cert.ConvWeightKernelIdeal.τ).loc Cert.ConvWeightKernelIdeal.main_arg0)
          ∧ r.2.mem ((c.tc : Thread Cert.ConvWeightKernelIdeal.nD Cert.ConvWeightKernelIdeal.τ).loc Cert.ConvWeightKernelIdeal.main_arg1) = m ((c.tc : Thread Cert.ConvWeightKernelIdeal.nD Cert.ConvWeightKernelIdeal.τ).loc Cert.ConvWeightKernelIdeal.main_arg1)
          ∧ r.2.mem ((c.tc : Thread Cert.ConvWeightKernelIdeal.nD Cert.ConvWeightKernelIdeal.τ).loc Cert.ConvWeightKernelIdeal.main_arg2) = m ((c.tc : Thread Cert.ConvWeightKernelIdeal.nD Cert.ConvWeightKernelIdeal.τ).loc Cert.ConvWeightKernelIdeal.main_arg2))
      ∧ θ_run (Cert.ConvWeightReferenceIdeal.defs (F := Ideal)) (onTc (τ := Cert.ConvWeightReferenceIdeal.τ) (Cert.ConvWeightReferenceIdeal.main (F := Ideal))) ⟨m', fun _ => 0, g'⟩ (fun r => ∀ c : Dev Cert.ConvWeightReferenceIdeal.nD,
          r.2.mem ((c.tc : Thread Cert.ConvWeightReferenceIdeal.nD Cert.ConvWeightReferenceIdeal.τ).loc Cert.ConvWeightReferenceIdeal.main_v19) = v0 c
          ∧ r.2.mem ((c.tc : Thread Cert.ConvWeightReferenceIdeal.nD Cert.ConvWeightReferenceIdeal.τ).loc Cert.ConvWeightReferenceIdeal.main_arg0) = m' ((c.tc : Thread Cert.ConvWeightReferenceIdeal.nD Cert.ConvWeightReferenceIdeal.τ).loc Cert.ConvWeightReferenceIdeal.main_arg0)
          ∧ r.2.mem ((c.tc : Thread Cert.ConvWeightReferenceIdeal.nD Cert.ConvWeightReferenceIdeal.τ).loc Cert.ConvWeightReferenceIdeal.main_arg1) = m' ((c.tc : Thread Cert.ConvWeightReferenceIdeal.nD Cert.ConvWeightReferenceIdeal.τ).loc Cert.ConvWeightReferenceIdeal.main_arg1)
          ∧ r.2.mem ((c.tc : Thread Cert.ConvWeightReferenceIdeal.nD Cert.ConvWeightReferenceIdeal.τ).loc Cert.ConvWeightReferenceIdeal.main_arg2) = m' ((c.tc : Thread Cert.ConvWeightReferenceIdeal.nD Cert.ConvWeightReferenceIdeal.τ).loc Cert.ConvWeightReferenceIdeal.main_arg2))

def preserves_SquareWeightKernel_SquareWeightKernelIdeal : Prop :=
  True

def algebraic_SquareWeightKernelIdeal_SquareWeightReferenceIdeal [hSquareWeightKernelIdeal : Cert.SquareWeightKernelIdeal.Facts] [hSquareWeightReferenceIdeal : Cert.SquareWeightReferenceIdeal.Facts] : Prop :=
  ∀ (m : (ℓ : Loc Cert.SquareWeightKernelIdeal.nD Cert.SquareWeightKernelIdeal.τ Cert.SquareWeightKernelIdeal.sig) → Buf (Elt Ideal) ℓ) (g : Dev Cert.SquareWeightKernelIdeal.nD → PrngReg)
    (m' : (ℓ : Loc Cert.SquareWeightReferenceIdeal.nD Cert.SquareWeightReferenceIdeal.τ Cert.SquareWeightReferenceIdeal.sig) → Buf (Elt Ideal) ℓ) (g' : Dev Cert.SquareWeightReferenceIdeal.nD → PrngReg), Pre_SquareWeightKernelIdeal m →
    (∀ c : Dev Cert.SquareWeightKernelIdeal.nD,
      m' ((c.tc : Thread Cert.SquareWeightReferenceIdeal.nD Cert.SquareWeightReferenceIdeal.τ).loc Cert.SquareWeightReferenceIdeal.main_arg0) = m ((c.tc : Thread Cert.SquareWeightKernelIdeal.nD Cert.SquareWeightKernelIdeal.τ).loc Cert.SquareWeightKernelIdeal.main_arg0)
      ∧ m' ((c.tc : Thread Cert.SquareWeightReferenceIdeal.nD Cert.SquareWeightReferenceIdeal.τ).loc Cert.SquareWeightReferenceIdeal.main_arg1) = m ((c.tc : Thread Cert.SquareWeightKernelIdeal.nD Cert.SquareWeightKernelIdeal.τ).loc Cert.SquareWeightKernelIdeal.main_arg1)) →
    ∃ (v0 : (c : Dev Cert.SquareWeightKernelIdeal.nD) → Buf (Elt Ideal) ((c.tc : Thread Cert.SquareWeightKernelIdeal.nD Cert.SquareWeightKernelIdeal.τ).loc Cert.SquareWeightKernelIdeal.main_v2)),
      θ_run (Cert.SquareWeightKernelIdeal.defs (F := Ideal)) (onTc (τ := Cert.SquareWeightKernelIdeal.τ) (Cert.SquareWeightKernelIdeal.main (F := Ideal))) ⟨m, fun _ => 0, g⟩ (fun r => ∀ c : Dev Cert.SquareWeightKernelIdeal.nD,
          r.2.mem ((c.tc : Thread Cert.SquareWeightKernelIdeal.nD Cert.SquareWeightKernelIdeal.τ).loc Cert.SquareWeightKernelIdeal.main_v2) = v0 c
          ∧ r.2.mem ((c.tc : Thread Cert.SquareWeightKernelIdeal.nD Cert.SquareWeightKernelIdeal.τ).loc Cert.SquareWeightKernelIdeal.main_arg0) = m ((c.tc : Thread Cert.SquareWeightKernelIdeal.nD Cert.SquareWeightKernelIdeal.τ).loc Cert.SquareWeightKernelIdeal.main_arg0)
          ∧ r.2.mem ((c.tc : Thread Cert.SquareWeightKernelIdeal.nD Cert.SquareWeightKernelIdeal.τ).loc Cert.SquareWeightKernelIdeal.main_arg1) = m ((c.tc : Thread Cert.SquareWeightKernelIdeal.nD Cert.SquareWeightKernelIdeal.τ).loc Cert.SquareWeightKernelIdeal.main_arg1))
      ∧ θ_run (Cert.SquareWeightReferenceIdeal.defs (F := Ideal)) (onTc (τ := Cert.SquareWeightReferenceIdeal.τ) (Cert.SquareWeightReferenceIdeal.main (F := Ideal))) ⟨m', fun _ => 0, g'⟩ (fun r => ∀ c : Dev Cert.SquareWeightReferenceIdeal.nD,
          r.2.mem ((c.tc : Thread Cert.SquareWeightReferenceIdeal.nD Cert.SquareWeightReferenceIdeal.τ).loc Cert.SquareWeightReferenceIdeal.main_v5) = v0 c
          ∧ r.2.mem ((c.tc : Thread Cert.SquareWeightReferenceIdeal.nD Cert.SquareWeightReferenceIdeal.τ).loc Cert.SquareWeightReferenceIdeal.main_arg0) = m' ((c.tc : Thread Cert.SquareWeightReferenceIdeal.nD Cert.SquareWeightReferenceIdeal.τ).loc Cert.SquareWeightReferenceIdeal.main_arg0)
          ∧ r.2.mem ((c.tc : Thread Cert.SquareWeightReferenceIdeal.nD Cert.SquareWeightReferenceIdeal.τ).loc Cert.SquareWeightReferenceIdeal.main_arg1) = m' ((c.tc : Thread Cert.SquareWeightReferenceIdeal.nD Cert.SquareWeightReferenceIdeal.τ).loc Cert.SquareWeightReferenceIdeal.main_arg1))

def preserves_ConvInputKernel_ConvInputKernelIdeal : Prop :=
  True

def algebraic_ConvInputKernelIdeal_ConvInputReferenceIdeal [hConvInputKernelIdeal : Cert.ConvInputKernelIdeal.Facts] [hConvInputReferenceIdeal : Cert.ConvInputReferenceIdeal.Facts] : Prop :=
  ∀ (m : (ℓ : Loc Cert.ConvInputKernelIdeal.nD Cert.ConvInputKernelIdeal.τ Cert.ConvInputKernelIdeal.sig) → Buf (Elt Ideal) ℓ) (g : Dev Cert.ConvInputKernelIdeal.nD → PrngReg)
    (m' : (ℓ : Loc Cert.ConvInputReferenceIdeal.nD Cert.ConvInputReferenceIdeal.τ Cert.ConvInputReferenceIdeal.sig) → Buf (Elt Ideal) ℓ) (g' : Dev Cert.ConvInputReferenceIdeal.nD → PrngReg), Pre_ConvInputKernelIdeal m →
    (∀ c : Dev Cert.ConvInputKernelIdeal.nD,
      m' ((c.tc : Thread Cert.ConvInputReferenceIdeal.nD Cert.ConvInputReferenceIdeal.τ).loc Cert.ConvInputReferenceIdeal.main_arg0) = m ((c.tc : Thread Cert.ConvInputKernelIdeal.nD Cert.ConvInputKernelIdeal.τ).loc Cert.ConvInputKernelIdeal.main_arg0)
      ∧ m' ((c.tc : Thread Cert.ConvInputReferenceIdeal.nD Cert.ConvInputReferenceIdeal.τ).loc Cert.ConvInputReferenceIdeal.main_arg1) = m ((c.tc : Thread Cert.ConvInputKernelIdeal.nD Cert.ConvInputKernelIdeal.τ).loc Cert.ConvInputKernelIdeal.main_arg1)
      ∧ m' ((c.tc : Thread Cert.ConvInputReferenceIdeal.nD Cert.ConvInputReferenceIdeal.τ).loc Cert.ConvInputReferenceIdeal.main_arg2) = m ((c.tc : Thread Cert.ConvInputKernelIdeal.nD Cert.ConvInputKernelIdeal.τ).loc Cert.ConvInputKernelIdeal.main_arg2)
      ∧ m' ((c.tc : Thread Cert.ConvInputReferenceIdeal.nD Cert.ConvInputReferenceIdeal.τ).loc Cert.ConvInputReferenceIdeal.main_arg3) = m ((c.tc : Thread Cert.ConvInputKernelIdeal.nD Cert.ConvInputKernelIdeal.τ).loc Cert.ConvInputKernelIdeal.main_arg3)
      ∧ m' ((c.tc : Thread Cert.ConvInputReferenceIdeal.nD Cert.ConvInputReferenceIdeal.τ).loc Cert.ConvInputReferenceIdeal.main_arg4) = m ((c.tc : Thread Cert.ConvInputKernelIdeal.nD Cert.ConvInputKernelIdeal.τ).loc Cert.ConvInputKernelIdeal.main_arg4)) →
    ∃ (v0 : (c : Dev Cert.ConvInputKernelIdeal.nD) → Buf (Elt Ideal) ((c.tc : Thread Cert.ConvInputKernelIdeal.nD Cert.ConvInputKernelIdeal.τ).loc Cert.ConvInputKernelIdeal.main_v5_0)) (v1 : (c : Dev Cert.ConvInputKernelIdeal.nD) → Buf (Elt Ideal) ((c.tc : Thread Cert.ConvInputKernelIdeal.nD Cert.ConvInputKernelIdeal.τ).loc Cert.ConvInputKernelIdeal.main_v5_1)) (v2 : (c : Dev Cert.ConvInputKernelIdeal.nD) → Buf (Elt Ideal) ((c.tc : Thread Cert.ConvInputKernelIdeal.nD Cert.ConvInputKernelIdeal.τ).loc Cert.ConvInputKernelIdeal.main_v5_2)),
      θ_run (Cert.ConvInputKernelIdeal.defs (F := Ideal)) (onTc (τ := Cert.ConvInputKernelIdeal.τ) (Cert.ConvInputKernelIdeal.main (F := Ideal))) ⟨m, fun _ => 0, g⟩ (fun r => ∀ c : Dev Cert.ConvInputKernelIdeal.nD,
          r.2.mem ((c.tc : Thread Cert.ConvInputKernelIdeal.nD Cert.ConvInputKernelIdeal.τ).loc Cert.ConvInputKernelIdeal.main_v5_0) = v0 c
          ∧ r.2.mem ((c.tc : Thread Cert.ConvInputKernelIdeal.nD Cert.ConvInputKernelIdeal.τ).loc Cert.ConvInputKernelIdeal.main_v5_1) = v1 c
          ∧ r.2.mem ((c.tc : Thread Cert.ConvInputKernelIdeal.nD Cert.ConvInputKernelIdeal.τ).loc Cert.ConvInputKernelIdeal.main_v5_2) = v2 c
          ∧ r.2.mem ((c.tc : Thread Cert.ConvInputKernelIdeal.nD Cert.ConvInputKernelIdeal.τ).loc Cert.ConvInputKernelIdeal.main_arg0) = m ((c.tc : Thread Cert.ConvInputKernelIdeal.nD Cert.ConvInputKernelIdeal.τ).loc Cert.ConvInputKernelIdeal.main_arg0)
          ∧ r.2.mem ((c.tc : Thread Cert.ConvInputKernelIdeal.nD Cert.ConvInputKernelIdeal.τ).loc Cert.ConvInputKernelIdeal.main_arg1) = m ((c.tc : Thread Cert.ConvInputKernelIdeal.nD Cert.ConvInputKernelIdeal.τ).loc Cert.ConvInputKernelIdeal.main_arg1)
          ∧ r.2.mem ((c.tc : Thread Cert.ConvInputKernelIdeal.nD Cert.ConvInputKernelIdeal.τ).loc Cert.ConvInputKernelIdeal.main_arg2) = m ((c.tc : Thread Cert.ConvInputKernelIdeal.nD Cert.ConvInputKernelIdeal.τ).loc Cert.ConvInputKernelIdeal.main_arg2)
          ∧ r.2.mem ((c.tc : Thread Cert.ConvInputKernelIdeal.nD Cert.ConvInputKernelIdeal.τ).loc Cert.ConvInputKernelIdeal.main_arg3) = m ((c.tc : Thread Cert.ConvInputKernelIdeal.nD Cert.ConvInputKernelIdeal.τ).loc Cert.ConvInputKernelIdeal.main_arg3)
          ∧ r.2.mem ((c.tc : Thread Cert.ConvInputKernelIdeal.nD Cert.ConvInputKernelIdeal.τ).loc Cert.ConvInputKernelIdeal.main_arg4) = m ((c.tc : Thread Cert.ConvInputKernelIdeal.nD Cert.ConvInputKernelIdeal.τ).loc Cert.ConvInputKernelIdeal.main_arg4))
      ∧ θ_run (Cert.ConvInputReferenceIdeal.defs (F := Ideal)) (onTc (τ := Cert.ConvInputReferenceIdeal.τ) (Cert.ConvInputReferenceIdeal.main (F := Ideal))) ⟨m', fun _ => 0, g'⟩ (fun r => ∀ c : Dev Cert.ConvInputReferenceIdeal.nD,
          r.2.mem ((c.tc : Thread Cert.ConvInputReferenceIdeal.nD Cert.ConvInputReferenceIdeal.τ).loc Cert.ConvInputReferenceIdeal.main_v42) = v0 c
          ∧ r.2.mem ((c.tc : Thread Cert.ConvInputReferenceIdeal.nD Cert.ConvInputReferenceIdeal.τ).loc Cert.ConvInputReferenceIdeal.main_v43) = v1 c
          ∧ r.2.mem ((c.tc : Thread Cert.ConvInputReferenceIdeal.nD Cert.ConvInputReferenceIdeal.τ).loc Cert.ConvInputReferenceIdeal.main_v44) = v2 c
          ∧ r.2.mem ((c.tc : Thread Cert.ConvInputReferenceIdeal.nD Cert.ConvInputReferenceIdeal.τ).loc Cert.ConvInputReferenceIdeal.main_arg0) = m' ((c.tc : Thread Cert.ConvInputReferenceIdeal.nD Cert.ConvInputReferenceIdeal.τ).loc Cert.ConvInputReferenceIdeal.main_arg0)
          ∧ r.2.mem ((c.tc : Thread Cert.ConvInputReferenceIdeal.nD Cert.ConvInputReferenceIdeal.τ).loc Cert.ConvInputReferenceIdeal.main_arg1) = m' ((c.tc : Thread Cert.ConvInputReferenceIdeal.nD Cert.ConvInputReferenceIdeal.τ).loc Cert.ConvInputReferenceIdeal.main_arg1)
          ∧ r.2.mem ((c.tc : Thread Cert.ConvInputReferenceIdeal.nD Cert.ConvInputReferenceIdeal.τ).loc Cert.ConvInputReferenceIdeal.main_arg2) = m' ((c.tc : Thread Cert.ConvInputReferenceIdeal.nD Cert.ConvInputReferenceIdeal.τ).loc Cert.ConvInputReferenceIdeal.main_arg2)
          ∧ r.2.mem ((c.tc : Thread Cert.ConvInputReferenceIdeal.nD Cert.ConvInputReferenceIdeal.τ).loc Cert.ConvInputReferenceIdeal.main_arg3) = m' ((c.tc : Thread Cert.ConvInputReferenceIdeal.nD Cert.ConvInputReferenceIdeal.τ).loc Cert.ConvInputReferenceIdeal.main_arg3)
          ∧ r.2.mem ((c.tc : Thread Cert.ConvInputReferenceIdeal.nD Cert.ConvInputReferenceIdeal.τ).loc Cert.ConvInputReferenceIdeal.main_arg4) = m' ((c.tc : Thread Cert.ConvInputReferenceIdeal.nD Cert.ConvInputReferenceIdeal.τ).loc Cert.ConvInputReferenceIdeal.main_arg4))

def preserves_AttnBackKernel_AttnBackKernelIdeal : Prop :=
  True

def algebraic_AttnBackKernelIdeal_AttnBackReferenceIdeal [hAttnBackKernelIdeal : Cert.AttnBackKernelIdeal.Facts] [hAttnBackReferenceIdeal : Cert.AttnBackReferenceIdeal.Facts] : Prop :=
  ∀ (m : (ℓ : Loc Cert.AttnBackKernelIdeal.nD Cert.AttnBackKernelIdeal.τ Cert.AttnBackKernelIdeal.sig) → Buf (Elt Ideal) ℓ) (g : Dev Cert.AttnBackKernelIdeal.nD → PrngReg)
    (m' : (ℓ : Loc Cert.AttnBackReferenceIdeal.nD Cert.AttnBackReferenceIdeal.τ Cert.AttnBackReferenceIdeal.sig) → Buf (Elt Ideal) ℓ) (g' : Dev Cert.AttnBackReferenceIdeal.nD → PrngReg), Pre_AttnBackKernelIdeal m →
    (∀ c : Dev Cert.AttnBackKernelIdeal.nD,
      m' ((c.tc : Thread Cert.AttnBackReferenceIdeal.nD Cert.AttnBackReferenceIdeal.τ).loc Cert.AttnBackReferenceIdeal.main_arg0) = m ((c.tc : Thread Cert.AttnBackKernelIdeal.nD Cert.AttnBackKernelIdeal.τ).loc Cert.AttnBackKernelIdeal.main_arg0)
      ∧ m' ((c.tc : Thread Cert.AttnBackReferenceIdeal.nD Cert.AttnBackReferenceIdeal.τ).loc Cert.AttnBackReferenceIdeal.main_arg1) = m ((c.tc : Thread Cert.AttnBackKernelIdeal.nD Cert.AttnBackKernelIdeal.τ).loc Cert.AttnBackKernelIdeal.main_arg1)) →
    ∃ (v0 : (c : Dev Cert.AttnBackKernelIdeal.nD) → Buf (Elt Ideal) ((c.tc : Thread Cert.AttnBackKernelIdeal.nD Cert.AttnBackKernelIdeal.τ).loc Cert.AttnBackKernelIdeal.main_v3)),
      θ_run (Cert.AttnBackKernelIdeal.defs (F := Ideal)) (onTc (τ := Cert.AttnBackKernelIdeal.τ) (Cert.AttnBackKernelIdeal.main (F := Ideal))) ⟨m, fun _ => 0, g⟩ (fun r => ∀ c : Dev Cert.AttnBackKernelIdeal.nD,
          r.2.mem ((c.tc : Thread Cert.AttnBackKernelIdeal.nD Cert.AttnBackKernelIdeal.τ).loc Cert.AttnBackKernelIdeal.main_v3) = v0 c
          ∧ r.2.mem ((c.tc : Thread Cert.AttnBackKernelIdeal.nD Cert.AttnBackKernelIdeal.τ).loc Cert.AttnBackKernelIdeal.main_arg0) = m ((c.tc : Thread Cert.AttnBackKernelIdeal.nD Cert.AttnBackKernelIdeal.τ).loc Cert.AttnBackKernelIdeal.main_arg0)
          ∧ r.2.mem ((c.tc : Thread Cert.AttnBackKernelIdeal.nD Cert.AttnBackKernelIdeal.τ).loc Cert.AttnBackKernelIdeal.main_arg1) = m ((c.tc : Thread Cert.AttnBackKernelIdeal.nD Cert.AttnBackKernelIdeal.τ).loc Cert.AttnBackKernelIdeal.main_arg1))
      ∧ θ_run (Cert.AttnBackReferenceIdeal.defs (F := Ideal)) (onTc (τ := Cert.AttnBackReferenceIdeal.τ) (Cert.AttnBackReferenceIdeal.main (F := Ideal))) ⟨m', fun _ => 0, g'⟩ (fun r => ∀ c : Dev Cert.AttnBackReferenceIdeal.nD,
          r.2.mem ((c.tc : Thread Cert.AttnBackReferenceIdeal.nD Cert.AttnBackReferenceIdeal.τ).loc Cert.AttnBackReferenceIdeal.main_v4) = v0 c
          ∧ r.2.mem ((c.tc : Thread Cert.AttnBackReferenceIdeal.nD Cert.AttnBackReferenceIdeal.τ).loc Cert.AttnBackReferenceIdeal.main_arg0) = m' ((c.tc : Thread Cert.AttnBackReferenceIdeal.nD Cert.AttnBackReferenceIdeal.τ).loc Cert.AttnBackReferenceIdeal.main_arg0)
          ∧ r.2.mem ((c.tc : Thread Cert.AttnBackReferenceIdeal.nD Cert.AttnBackReferenceIdeal.τ).loc Cert.AttnBackReferenceIdeal.main_arg1) = m' ((c.tc : Thread Cert.AttnBackReferenceIdeal.nD Cert.AttnBackReferenceIdeal.τ).loc Cert.AttnBackReferenceIdeal.main_arg1))

def preserves_ConvBackKernel_ConvBackKernelIdeal : Prop :=
  True

def algebraic_ConvBackKernelIdeal_ConvBackReferenceIdeal [hConvBackKernelIdeal : Cert.ConvBackKernelIdeal.Facts] [hConvBackReferenceIdeal : Cert.ConvBackReferenceIdeal.Facts] : Prop :=
  ∀ (m : (ℓ : Loc Cert.ConvBackKernelIdeal.nD Cert.ConvBackKernelIdeal.τ Cert.ConvBackKernelIdeal.sig) → Buf (Elt Ideal) ℓ) (g : Dev Cert.ConvBackKernelIdeal.nD → PrngReg)
    (m' : (ℓ : Loc Cert.ConvBackReferenceIdeal.nD Cert.ConvBackReferenceIdeal.τ Cert.ConvBackReferenceIdeal.sig) → Buf (Elt Ideal) ℓ) (g' : Dev Cert.ConvBackReferenceIdeal.nD → PrngReg), Pre_ConvBackKernelIdeal m →
    (∀ c : Dev Cert.ConvBackKernelIdeal.nD,
      m' ((c.tc : Thread Cert.ConvBackReferenceIdeal.nD Cert.ConvBackReferenceIdeal.τ).loc Cert.ConvBackReferenceIdeal.main_arg0) = m ((c.tc : Thread Cert.ConvBackKernelIdeal.nD Cert.ConvBackKernelIdeal.τ).loc Cert.ConvBackKernelIdeal.main_arg0)
      ∧ m' ((c.tc : Thread Cert.ConvBackReferenceIdeal.nD Cert.ConvBackReferenceIdeal.τ).loc Cert.ConvBackReferenceIdeal.main_arg1) = m ((c.tc : Thread Cert.ConvBackKernelIdeal.nD Cert.ConvBackKernelIdeal.τ).loc Cert.ConvBackKernelIdeal.main_arg1)) →
    ∃ (v0 : (c : Dev Cert.ConvBackKernelIdeal.nD) → Buf (Elt Ideal) ((c.tc : Thread Cert.ConvBackKernelIdeal.nD Cert.ConvBackKernelIdeal.τ).loc Cert.ConvBackKernelIdeal.main_v3)),
      θ_run (Cert.ConvBackKernelIdeal.defs (F := Ideal)) (onTc (τ := Cert.ConvBackKernelIdeal.τ) (Cert.ConvBackKernelIdeal.main (F := Ideal))) ⟨m, fun _ => 0, g⟩ (fun r => ∀ c : Dev Cert.ConvBackKernelIdeal.nD,
          r.2.mem ((c.tc : Thread Cert.ConvBackKernelIdeal.nD Cert.ConvBackKernelIdeal.τ).loc Cert.ConvBackKernelIdeal.main_v3) = v0 c
          ∧ r.2.mem ((c.tc : Thread Cert.ConvBackKernelIdeal.nD Cert.ConvBackKernelIdeal.τ).loc Cert.ConvBackKernelIdeal.main_arg0) = m ((c.tc : Thread Cert.ConvBackKernelIdeal.nD Cert.ConvBackKernelIdeal.τ).loc Cert.ConvBackKernelIdeal.main_arg0)
          ∧ r.2.mem ((c.tc : Thread Cert.ConvBackKernelIdeal.nD Cert.ConvBackKernelIdeal.τ).loc Cert.ConvBackKernelIdeal.main_arg1) = m ((c.tc : Thread Cert.ConvBackKernelIdeal.nD Cert.ConvBackKernelIdeal.τ).loc Cert.ConvBackKernelIdeal.main_arg1))
      ∧ θ_run (Cert.ConvBackReferenceIdeal.defs (F := Ideal)) (onTc (τ := Cert.ConvBackReferenceIdeal.τ) (Cert.ConvBackReferenceIdeal.main (F := Ideal))) ⟨m', fun _ => 0, g'⟩ (fun r => ∀ c : Dev Cert.ConvBackReferenceIdeal.nD,
          r.2.mem ((c.tc : Thread Cert.ConvBackReferenceIdeal.nD Cert.ConvBackReferenceIdeal.τ).loc Cert.ConvBackReferenceIdeal.main_v5) = v0 c
          ∧ r.2.mem ((c.tc : Thread Cert.ConvBackReferenceIdeal.nD Cert.ConvBackReferenceIdeal.τ).loc Cert.ConvBackReferenceIdeal.main_arg0) = m' ((c.tc : Thread Cert.ConvBackReferenceIdeal.nD Cert.ConvBackReferenceIdeal.τ).loc Cert.ConvBackReferenceIdeal.main_arg0)
          ∧ r.2.mem ((c.tc : Thread Cert.ConvBackReferenceIdeal.nD Cert.ConvBackReferenceIdeal.τ).loc Cert.ConvBackReferenceIdeal.main_arg1) = m' ((c.tc : Thread Cert.ConvBackReferenceIdeal.nD Cert.ConvBackReferenceIdeal.τ).loc Cert.ConvBackReferenceIdeal.main_arg1))

def preserves_AttnInKernel_AttnInKernelIdeal : Prop :=
  True

def algebraic_AttnInKernelIdeal_AttnInReferenceIdeal [hAttnInKernelIdeal : Cert.AttnInKernelIdeal.Facts] [hAttnInReferenceIdeal : Cert.AttnInReferenceIdeal.Facts] : Prop :=
  ∀ (m : (ℓ : Loc Cert.AttnInKernelIdeal.nD Cert.AttnInKernelIdeal.τ Cert.AttnInKernelIdeal.sig) → Buf (Elt Ideal) ℓ) (g : Dev Cert.AttnInKernelIdeal.nD → PrngReg)
    (m' : (ℓ : Loc Cert.AttnInReferenceIdeal.nD Cert.AttnInReferenceIdeal.τ Cert.AttnInReferenceIdeal.sig) → Buf (Elt Ideal) ℓ) (g' : Dev Cert.AttnInReferenceIdeal.nD → PrngReg), Pre_AttnInKernelIdeal m →
    (∀ c : Dev Cert.AttnInKernelIdeal.nD,
      m' ((c.tc : Thread Cert.AttnInReferenceIdeal.nD Cert.AttnInReferenceIdeal.τ).loc Cert.AttnInReferenceIdeal.main_arg0) = m ((c.tc : Thread Cert.AttnInKernelIdeal.nD Cert.AttnInKernelIdeal.τ).loc Cert.AttnInKernelIdeal.main_arg0)
      ∧ m' ((c.tc : Thread Cert.AttnInReferenceIdeal.nD Cert.AttnInReferenceIdeal.τ).loc Cert.AttnInReferenceIdeal.main_arg1) = m ((c.tc : Thread Cert.AttnInKernelIdeal.nD Cert.AttnInKernelIdeal.τ).loc Cert.AttnInKernelIdeal.main_arg1)) →
    ∃ (v0 : (c : Dev Cert.AttnInKernelIdeal.nD) → Buf (Elt Ideal) ((c.tc : Thread Cert.AttnInKernelIdeal.nD Cert.AttnInKernelIdeal.τ).loc Cert.AttnInKernelIdeal.main_v4)),
      θ_run (Cert.AttnInKernelIdeal.defs (F := Ideal)) (onTc (τ := Cert.AttnInKernelIdeal.τ) (Cert.AttnInKernelIdeal.main (F := Ideal))) ⟨m, fun _ => 0, g⟩ (fun r => ∀ c : Dev Cert.AttnInKernelIdeal.nD,
          r.2.mem ((c.tc : Thread Cert.AttnInKernelIdeal.nD Cert.AttnInKernelIdeal.τ).loc Cert.AttnInKernelIdeal.main_v4) = v0 c
          ∧ r.2.mem ((c.tc : Thread Cert.AttnInKernelIdeal.nD Cert.AttnInKernelIdeal.τ).loc Cert.AttnInKernelIdeal.main_arg0) = m ((c.tc : Thread Cert.AttnInKernelIdeal.nD Cert.AttnInKernelIdeal.τ).loc Cert.AttnInKernelIdeal.main_arg0)
          ∧ r.2.mem ((c.tc : Thread Cert.AttnInKernelIdeal.nD Cert.AttnInKernelIdeal.τ).loc Cert.AttnInKernelIdeal.main_arg1) = m ((c.tc : Thread Cert.AttnInKernelIdeal.nD Cert.AttnInKernelIdeal.τ).loc Cert.AttnInKernelIdeal.main_arg1))
      ∧ θ_run (Cert.AttnInReferenceIdeal.defs (F := Ideal)) (onTc (τ := Cert.AttnInReferenceIdeal.τ) (Cert.AttnInReferenceIdeal.main (F := Ideal))) ⟨m', fun _ => 0, g'⟩ (fun r => ∀ c : Dev Cert.AttnInReferenceIdeal.nD,
          r.2.mem ((c.tc : Thread Cert.AttnInReferenceIdeal.nD Cert.AttnInReferenceIdeal.τ).loc Cert.AttnInReferenceIdeal.main_v0) = v0 c
          ∧ r.2.mem ((c.tc : Thread Cert.AttnInReferenceIdeal.nD Cert.AttnInReferenceIdeal.τ).loc Cert.AttnInReferenceIdeal.main_arg0) = m' ((c.tc : Thread Cert.AttnInReferenceIdeal.nD Cert.AttnInReferenceIdeal.τ).loc Cert.AttnInReferenceIdeal.main_arg0)
          ∧ r.2.mem ((c.tc : Thread Cert.AttnInReferenceIdeal.nD Cert.AttnInReferenceIdeal.τ).loc Cert.AttnInReferenceIdeal.main_arg1) = m' ((c.tc : Thread Cert.AttnInReferenceIdeal.nD Cert.AttnInReferenceIdeal.τ).loc Cert.AttnInReferenceIdeal.main_arg1))

def preserves_ConvInKernel_ConvInKernelIdeal : Prop :=
  True

def algebraic_ConvInKernelIdeal_ConvInReferenceIdeal [hConvInKernelIdeal : Cert.ConvInKernelIdeal.Facts] [hConvInReferenceIdeal : Cert.ConvInReferenceIdeal.Facts] : Prop :=
  ∀ (m : (ℓ : Loc Cert.ConvInKernelIdeal.nD Cert.ConvInKernelIdeal.τ Cert.ConvInKernelIdeal.sig) → Buf (Elt Ideal) ℓ) (g : Dev Cert.ConvInKernelIdeal.nD → PrngReg)
    (m' : (ℓ : Loc Cert.ConvInReferenceIdeal.nD Cert.ConvInReferenceIdeal.τ Cert.ConvInReferenceIdeal.sig) → Buf (Elt Ideal) ℓ) (g' : Dev Cert.ConvInReferenceIdeal.nD → PrngReg), Pre_ConvInKernelIdeal m →
    (∀ c : Dev Cert.ConvInKernelIdeal.nD,
      m' ((c.tc : Thread Cert.ConvInReferenceIdeal.nD Cert.ConvInReferenceIdeal.τ).loc Cert.ConvInReferenceIdeal.main_arg0) = m ((c.tc : Thread Cert.ConvInKernelIdeal.nD Cert.ConvInKernelIdeal.τ).loc Cert.ConvInKernelIdeal.main_arg0)
      ∧ m' ((c.tc : Thread Cert.ConvInReferenceIdeal.nD Cert.ConvInReferenceIdeal.τ).loc Cert.ConvInReferenceIdeal.main_arg1) = m ((c.tc : Thread Cert.ConvInKernelIdeal.nD Cert.ConvInKernelIdeal.τ).loc Cert.ConvInKernelIdeal.main_arg1)
      ∧ m' ((c.tc : Thread Cert.ConvInReferenceIdeal.nD Cert.ConvInReferenceIdeal.τ).loc Cert.ConvInReferenceIdeal.main_arg2) = m ((c.tc : Thread Cert.ConvInKernelIdeal.nD Cert.ConvInKernelIdeal.τ).loc Cert.ConvInKernelIdeal.main_arg2)) →
    ∃ (v0 : (c : Dev Cert.ConvInKernelIdeal.nD) → Buf (Elt Ideal) ((c.tc : Thread Cert.ConvInKernelIdeal.nD Cert.ConvInKernelIdeal.τ).loc Cert.ConvInKernelIdeal.main_v5)),
      θ_run (Cert.ConvInKernelIdeal.defs (F := Ideal)) (onTc (τ := Cert.ConvInKernelIdeal.τ) (Cert.ConvInKernelIdeal.main (F := Ideal))) ⟨m, fun _ => 0, g⟩ (fun r => ∀ c : Dev Cert.ConvInKernelIdeal.nD,
          r.2.mem ((c.tc : Thread Cert.ConvInKernelIdeal.nD Cert.ConvInKernelIdeal.τ).loc Cert.ConvInKernelIdeal.main_v5) = v0 c
          ∧ r.2.mem ((c.tc : Thread Cert.ConvInKernelIdeal.nD Cert.ConvInKernelIdeal.τ).loc Cert.ConvInKernelIdeal.main_arg0) = m ((c.tc : Thread Cert.ConvInKernelIdeal.nD Cert.ConvInKernelIdeal.τ).loc Cert.ConvInKernelIdeal.main_arg0)
          ∧ r.2.mem ((c.tc : Thread Cert.ConvInKernelIdeal.nD Cert.ConvInKernelIdeal.τ).loc Cert.ConvInKernelIdeal.main_arg1) = m ((c.tc : Thread Cert.ConvInKernelIdeal.nD Cert.ConvInKernelIdeal.τ).loc Cert.ConvInKernelIdeal.main_arg1)
          ∧ r.2.mem ((c.tc : Thread Cert.ConvInKernelIdeal.nD Cert.ConvInKernelIdeal.τ).loc Cert.ConvInKernelIdeal.main_arg2) = m ((c.tc : Thread Cert.ConvInKernelIdeal.nD Cert.ConvInKernelIdeal.τ).loc Cert.ConvInKernelIdeal.main_arg2))
      ∧ θ_run (Cert.ConvInReferenceIdeal.defs (F := Ideal)) (onTc (τ := Cert.ConvInReferenceIdeal.τ) (Cert.ConvInReferenceIdeal.main (F := Ideal))) ⟨m', fun _ => 0, g'⟩ (fun r => ∀ c : Dev Cert.ConvInReferenceIdeal.nD,
          r.2.mem ((c.tc : Thread Cert.ConvInReferenceIdeal.nD Cert.ConvInReferenceIdeal.τ).loc Cert.ConvInReferenceIdeal.main_v6) = v0 c
          ∧ r.2.mem ((c.tc : Thread Cert.ConvInReferenceIdeal.nD Cert.ConvInReferenceIdeal.τ).loc Cert.ConvInReferenceIdeal.main_arg0) = m' ((c.tc : Thread Cert.ConvInReferenceIdeal.nD Cert.ConvInReferenceIdeal.τ).loc Cert.ConvInReferenceIdeal.main_arg0)
          ∧ r.2.mem ((c.tc : Thread Cert.ConvInReferenceIdeal.nD Cert.ConvInReferenceIdeal.τ).loc Cert.ConvInReferenceIdeal.main_arg1) = m' ((c.tc : Thread Cert.ConvInReferenceIdeal.nD Cert.ConvInReferenceIdeal.τ).loc Cert.ConvInReferenceIdeal.main_arg1)
          ∧ r.2.mem ((c.tc : Thread Cert.ConvInReferenceIdeal.nD Cert.ConvInReferenceIdeal.τ).loc Cert.ConvInReferenceIdeal.main_arg2) = m' ((c.tc : Thread Cert.ConvInReferenceIdeal.nD Cert.ConvInReferenceIdeal.τ).loc Cert.ConvInReferenceIdeal.main_arg2))

def preserves_AttnOutKernel_AttnOutKernelIdeal : Prop :=
  True

def algebraic_AttnOutKernelIdeal_AttnOutReferenceIdeal [hAttnOutKernelIdeal : Cert.AttnOutKernelIdeal.Facts] [hAttnOutReferenceIdeal : Cert.AttnOutReferenceIdeal.Facts] : Prop :=
  ∀ (m : (ℓ : Loc Cert.AttnOutKernelIdeal.nD Cert.AttnOutKernelIdeal.τ Cert.AttnOutKernelIdeal.sig) → Buf (Elt Ideal) ℓ) (g : Dev Cert.AttnOutKernelIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutKernelIdeal m →
    (∀ c : Dev Cert.AttnOutKernelIdeal.nD,
      m' ((c.tc : Thread Cert.AttnOutReferenceIdeal.nD Cert.AttnOutReferenceIdeal.τ).loc Cert.AttnOutReferenceIdeal.main_arg0) = m ((c.tc : Thread Cert.AttnOutKernelIdeal.nD Cert.AttnOutKernelIdeal.τ).loc Cert.AttnOutKernelIdeal.main_arg0)
      ∧ m' ((c.tc : Thread Cert.AttnOutReferenceIdeal.nD Cert.AttnOutReferenceIdeal.τ).loc Cert.AttnOutReferenceIdeal.main_arg1) = m ((c.tc : Thread Cert.AttnOutKernelIdeal.nD Cert.AttnOutKernelIdeal.τ).loc Cert.AttnOutKernelIdeal.main_arg1)
      ∧ m' ((c.tc : Thread Cert.AttnOutReferenceIdeal.nD Cert.AttnOutReferenceIdeal.τ).loc Cert.AttnOutReferenceIdeal.main_arg2) = m ((c.tc : Thread Cert.AttnOutKernelIdeal.nD Cert.AttnOutKernelIdeal.τ).loc Cert.AttnOutKernelIdeal.main_arg2)
      ∧ m' ((c.tc : Thread Cert.AttnOutReferenceIdeal.nD Cert.AttnOutReferenceIdeal.τ).loc Cert.AttnOutReferenceIdeal.main_arg3) = m ((c.tc : Thread Cert.AttnOutKernelIdeal.nD Cert.AttnOutKernelIdeal.τ).loc Cert.AttnOutKernelIdeal.main_arg3)) →
    ∃ (v0 : (c : Dev Cert.AttnOutKernelIdeal.nD) → Buf (Elt Ideal) ((c.tc : Thread Cert.AttnOutKernelIdeal.nD Cert.AttnOutKernelIdeal.τ).loc Cert.AttnOutKernelIdeal.main_v4_0)) (v1 : (c : Dev Cert.AttnOutKernelIdeal.nD) → Buf (Elt Ideal) ((c.tc : Thread Cert.AttnOutKernelIdeal.nD Cert.AttnOutKernelIdeal.τ).loc Cert.AttnOutKernelIdeal.main_v4_1)),
      θ_run (Cert.AttnOutKernelIdeal.defs (F := Ideal)) (onTc (τ := Cert.AttnOutKernelIdeal.τ) (Cert.AttnOutKernelIdeal.main (F := Ideal))) ⟨m, fun _ => 0, g⟩ (fun r => ∀ c : Dev Cert.AttnOutKernelIdeal.nD,
          r.2.mem ((c.tc : Thread Cert.AttnOutKernelIdeal.nD Cert.AttnOutKernelIdeal.τ).loc Cert.AttnOutKernelIdeal.main_v4_0) = v0 c
          ∧ r.2.mem ((c.tc : Thread Cert.AttnOutKernelIdeal.nD Cert.AttnOutKernelIdeal.τ).loc Cert.AttnOutKernelIdeal.main_v4_1) = v1 c
          ∧ r.2.mem ((c.tc : Thread Cert.AttnOutKernelIdeal.nD Cert.AttnOutKernelIdeal.τ).loc Cert.AttnOutKernelIdeal.main_arg0) = m ((c.tc : Thread Cert.AttnOutKernelIdeal.nD Cert.AttnOutKernelIdeal.τ).loc Cert.AttnOutKernelIdeal.main_arg0)
          ∧ r.2.mem ((c.tc : Thread Cert.AttnOutKernelIdeal.nD Cert.AttnOutKernelIdeal.τ).loc Cert.AttnOutKernelIdeal.main_arg1) = m ((c.tc : Thread Cert.AttnOutKernelIdeal.nD Cert.AttnOutKernelIdeal.τ).loc Cert.AttnOutKernelIdeal.main_arg1)
          ∧ r.2.mem ((c.tc : Thread Cert.AttnOutKernelIdeal.nD Cert.AttnOutKernelIdeal.τ).loc Cert.AttnOutKernelIdeal.main_arg2) = m ((c.tc : Thread Cert.AttnOutKernelIdeal.nD Cert.AttnOutKernelIdeal.τ).loc Cert.AttnOutKernelIdeal.main_arg2)
          ∧ r.2.mem ((c.tc : Thread Cert.AttnOutKernelIdeal.nD Cert.AttnOutKernelIdeal.τ).loc Cert.AttnOutKernelIdeal.main_arg3) = m ((c.tc : Thread Cert.AttnOutKernelIdeal.nD Cert.AttnOutKernelIdeal.τ).loc Cert.AttnOutKernelIdeal.main_arg3))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v3) = v0 c
          ∧ r.2.mem ((c.tc : Thread Cert.AttnOutReferenceIdeal.nD Cert.AttnOutReferenceIdeal.τ).loc Cert.AttnOutReferenceIdeal.main_v17) = v1 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2)
          ∧ r.2.mem ((c.tc : Thread Cert.AttnOutReferenceIdeal.nD Cert.AttnOutReferenceIdeal.τ).loc Cert.AttnOutReferenceIdeal.main_arg3) = m' ((c.tc : Thread Cert.AttnOutReferenceIdeal.nD Cert.AttnOutReferenceIdeal.τ).loc Cert.AttnOutReferenceIdeal.main_arg3))

def preserves_ConvOutKernel_ConvOutKernelIdeal : Prop :=
  True

def algebraic_ConvOutKernelIdeal_ConvOutReferenceIdeal [hConvOutKernelIdeal : Cert.ConvOutKernelIdeal.Facts] [hConvOutReferenceIdeal : Cert.ConvOutReferenceIdeal.Facts] : Prop :=
  ∀ (m : (ℓ : Loc Cert.ConvOutKernelIdeal.nD Cert.ConvOutKernelIdeal.τ Cert.ConvOutKernelIdeal.sig) → Buf (Elt Ideal) ℓ) (g : Dev Cert.ConvOutKernelIdeal.nD → PrngReg)
    (m' : (ℓ : Loc Cert.ConvOutReferenceIdeal.nD Cert.ConvOutReferenceIdeal.τ Cert.ConvOutReferenceIdeal.sig) → Buf (Elt Ideal) ℓ) (g' : Dev Cert.ConvOutReferenceIdeal.nD → PrngReg), Pre_ConvOutKernelIdeal m →
    (∀ c : Dev Cert.ConvOutKernelIdeal.nD,
      m' ((c.tc : Thread Cert.ConvOutReferenceIdeal.nD Cert.ConvOutReferenceIdeal.τ).loc Cert.ConvOutReferenceIdeal.main_arg0) = m ((c.tc : Thread Cert.ConvOutKernelIdeal.nD Cert.ConvOutKernelIdeal.τ).loc Cert.ConvOutKernelIdeal.main_arg0)
      ∧ m' ((c.tc : Thread Cert.ConvOutReferenceIdeal.nD Cert.ConvOutReferenceIdeal.τ).loc Cert.ConvOutReferenceIdeal.main_arg1) = m ((c.tc : Thread Cert.ConvOutKernelIdeal.nD Cert.ConvOutKernelIdeal.τ).loc Cert.ConvOutKernelIdeal.main_arg1)
      ∧ m' ((c.tc : Thread Cert.ConvOutReferenceIdeal.nD Cert.ConvOutReferenceIdeal.τ).loc Cert.ConvOutReferenceIdeal.main_arg2) = m ((c.tc : Thread Cert.ConvOutKernelIdeal.nD Cert.ConvOutKernelIdeal.τ).loc Cert.ConvOutKernelIdeal.main_arg2)
      ∧ m' ((c.tc : Thread Cert.ConvOutReferenceIdeal.nD Cert.ConvOutReferenceIdeal.τ).loc Cert.ConvOutReferenceIdeal.main_arg3) = m ((c.tc : Thread Cert.ConvOutKernelIdeal.nD Cert.ConvOutKernelIdeal.τ).loc Cert.ConvOutKernelIdeal.main_arg3)
      ∧ m' ((c.tc : Thread Cert.ConvOutReferenceIdeal.nD Cert.ConvOutReferenceIdeal.τ).loc Cert.ConvOutReferenceIdeal.main_arg4) = m ((c.tc : Thread Cert.ConvOutKernelIdeal.nD Cert.ConvOutKernelIdeal.τ).loc Cert.ConvOutKernelIdeal.main_arg4)) →
    ∃ (v0 : (c : Dev Cert.ConvOutKernelIdeal.nD) → Buf (Elt Ideal) ((c.tc : Thread Cert.ConvOutKernelIdeal.nD Cert.ConvOutKernelIdeal.τ).loc Cert.ConvOutKernelIdeal.main_v5_0)) (v1 : (c : Dev Cert.ConvOutKernelIdeal.nD) → Buf (Elt Ideal) ((c.tc : Thread Cert.ConvOutKernelIdeal.nD Cert.ConvOutKernelIdeal.τ).loc Cert.ConvOutKernelIdeal.main_v5_1)),
      θ_run (Cert.ConvOutKernelIdeal.defs (F := Ideal)) (onTc (τ := Cert.ConvOutKernelIdeal.τ) (Cert.ConvOutKernelIdeal.main (F := Ideal))) ⟨m, fun _ => 0, g⟩ (fun r => ∀ c : Dev Cert.ConvOutKernelIdeal.nD,
          r.2.mem ((c.tc : Thread Cert.ConvOutKernelIdeal.nD Cert.ConvOutKernelIdeal.τ).loc Cert.ConvOutKernelIdeal.main_v5_0) = v0 c
          ∧ r.2.mem ((c.tc : Thread Cert.ConvOutKernelIdeal.nD Cert.ConvOutKernelIdeal.τ).loc Cert.ConvOutKernelIdeal.main_v5_1) = v1 c
          ∧ r.2.mem ((c.tc : Thread Cert.ConvOutKernelIdeal.nD Cert.ConvOutKernelIdeal.τ).loc Cert.ConvOutKernelIdeal.main_arg0) = m ((c.tc : Thread Cert.ConvOutKernelIdeal.nD Cert.ConvOutKernelIdeal.τ).loc Cert.ConvOutKernelIdeal.main_arg0)
          ∧ r.2.mem ((c.tc : Thread Cert.ConvOutKernelIdeal.nD Cert.ConvOutKernelIdeal.τ).loc Cert.ConvOutKernelIdeal.main_arg1) = m ((c.tc : Thread Cert.ConvOutKernelIdeal.nD Cert.ConvOutKernelIdeal.τ).loc Cert.ConvOutKernelIdeal.main_arg1)
          ∧ r.2.mem ((c.tc : Thread Cert.ConvOutKernelIdeal.nD Cert.ConvOutKernelIdeal.τ).loc Cert.ConvOutKernelIdeal.main_arg2) = m ((c.tc : Thread Cert.ConvOutKernelIdeal.nD Cert.ConvOutKernelIdeal.τ).loc Cert.ConvOutKernelIdeal.main_arg2)
          ∧ r.2.mem ((c.tc : Thread Cert.ConvOutKernelIdeal.nD Cert.ConvOutKernelIdeal.τ).loc Cert.ConvOutKernelIdeal.main_arg3) = m ((c.tc : Thread Cert.ConvOutKernelIdeal.nD Cert.ConvOutKernelIdeal.τ).loc Cert.ConvOutKernelIdeal.main_arg3)
          ∧ r.2.mem ((c.tc : Thread Cert.ConvOutKernelIdeal.nD Cert.ConvOutKernelIdeal.τ).loc Cert.ConvOutKernelIdeal.main_arg4) = m ((c.tc : Thread Cert.ConvOutKernelIdeal.nD Cert.ConvOutKernelIdeal.τ).loc Cert.ConvOutKernelIdeal.main_arg4))
      ∧ θ_run (Cert.ConvOutReferenceIdeal.defs (F := Ideal)) (onTc (τ := Cert.ConvOutReferenceIdeal.τ) (Cert.ConvOutReferenceIdeal.main (F := Ideal))) ⟨m', fun _ => 0, g'⟩ (fun r => ∀ c : Dev Cert.ConvOutReferenceIdeal.nD,
          r.2.mem ((c.tc : Thread Cert.ConvOutReferenceIdeal.nD Cert.ConvOutReferenceIdeal.τ).loc Cert.ConvOutReferenceIdeal.main_v6) = v0 c
          ∧ r.2.mem ((c.tc : Thread Cert.ConvOutReferenceIdeal.nD Cert.ConvOutReferenceIdeal.τ).loc Cert.ConvOutReferenceIdeal.main_v20) = v1 c
          ∧ r.2.mem ((c.tc : Thread Cert.ConvOutReferenceIdeal.nD Cert.ConvOutReferenceIdeal.τ).loc Cert.ConvOutReferenceIdeal.main_arg0) = m' ((c.tc : Thread Cert.ConvOutReferenceIdeal.nD Cert.ConvOutReferenceIdeal.τ).loc Cert.ConvOutReferenceIdeal.main_arg0)
          ∧ r.2.mem ((c.tc : Thread Cert.ConvOutReferenceIdeal.nD Cert.ConvOutReferenceIdeal.τ).loc Cert.ConvOutReferenceIdeal.main_arg1) = m' ((c.tc : Thread Cert.ConvOutReferenceIdeal.nD Cert.ConvOutReferenceIdeal.τ).loc Cert.ConvOutReferenceIdeal.main_arg1)
          ∧ r.2.mem ((c.tc : Thread Cert.ConvOutReferenceIdeal.nD Cert.ConvOutReferenceIdeal.τ).loc Cert.ConvOutReferenceIdeal.main_arg2) = m' ((c.tc : Thread Cert.ConvOutReferenceIdeal.nD Cert.ConvOutReferenceIdeal.τ).loc Cert.ConvOutReferenceIdeal.main_arg2)
          ∧ r.2.mem ((c.tc : Thread Cert.ConvOutReferenceIdeal.nD Cert.ConvOutReferenceIdeal.τ).loc Cert.ConvOutReferenceIdeal.main_arg3) = m' ((c.tc : Thread Cert.ConvOutReferenceIdeal.nD Cert.ConvOutReferenceIdeal.τ).loc Cert.ConvOutReferenceIdeal.main_arg3)
          ∧ r.2.mem ((c.tc : Thread Cert.ConvOutReferenceIdeal.nD Cert.ConvOutReferenceIdeal.τ).loc Cert.ConvOutReferenceIdeal.main_arg4) = m' ((c.tc : Thread Cert.ConvOutReferenceIdeal.nD Cert.ConvOutReferenceIdeal.τ).loc Cert.ConvOutReferenceIdeal.main_arg4))

def preserves_LastKernel_LastKernelIdeal : Prop :=
  True

def algebraic_LastKernelIdeal_LastReferenceIdeal [hLastKernelIdeal : Cert.LastKernelIdeal.Facts] [hLastReferenceIdeal : Cert.LastReferenceIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastKernelIdeal m →
    (∀ c : Dev Cert.LastKernelIdeal.nD,
      m' ((c.tc : Thread Cert.LastReferenceIdeal.nD Cert.LastReferenceIdeal.τ).loc Cert.LastReferenceIdeal.main_arg0) = m ((c.tc : Thread Cert.LastKernelIdeal.nD Cert.LastKernelIdeal.τ).loc Cert.LastKernelIdeal.main_arg0)
      ∧ m' ((c.tc : Thread Cert.LastReferenceIdeal.nD Cert.LastReferenceIdeal.τ).loc Cert.LastReferenceIdeal.main_arg1) = m ((c.tc : Thread Cert.LastKernelIdeal.nD Cert.LastKernelIdeal.τ).loc Cert.LastKernelIdeal.main_arg1)
      ∧ m' ((c.tc : Thread Cert.LastReferenceIdeal.nD Cert.LastReferenceIdeal.τ).loc Cert.LastReferenceIdeal.main_arg2) = m ((c.tc : Thread Cert.LastKernelIdeal.nD Cert.LastKernelIdeal.τ).loc Cert.LastKernelIdeal.main_arg2)) →
    ∃ (v0 : (c : Dev Cert.LastKernelIdeal.nD) → Buf (Elt Ideal) ((c.tc : Thread Cert.LastKernelIdeal.nD Cert.LastKernelIdeal.τ).loc Cert.LastKernelIdeal.main_v3)),
      θ_run (Cert.LastKernelIdeal.defs (F := Ideal)) (onTc (τ := Cert.LastKernelIdeal.τ) (Cert.LastKernelIdeal.main (F := Ideal))) ⟨m, fun _ => 0, g⟩ (fun r => ∀ c : Dev Cert.LastKernelIdeal.nD,
          r.2.mem ((c.tc : Thread Cert.LastKernelIdeal.nD Cert.LastKernelIdeal.τ).loc Cert.LastKernelIdeal.main_v3) = v0 c
          ∧ r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
          ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
          ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v1) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2))

def preserves_UpStepKernel_UpStepKernelIdeal : Prop :=
  True

def algebraic_UpStepKernelIdeal_UpStepReferenceIdeal [hUpStepKernelIdeal : Cert.UpStepKernelIdeal.Facts] [hUpStepReferenceIdeal : Cert.UpStepReferenceIdeal.Facts] : Prop :=
  ∀ (m : (ℓ : Loc Cert.UpStepKernelIdeal.nD Cert.UpStepKernelIdeal.τ Cert.UpStepKernelIdeal.sig) → Buf (Elt Ideal) ℓ) (g : Dev Cert.UpStepKernelIdeal.nD → PrngReg)
    (m' : (ℓ : Loc Cert.UpStepReferenceIdeal.nD Cert.UpStepReferenceIdeal.τ Cert.UpStepReferenceIdeal.sig) → Buf (Elt Ideal) ℓ) (g' : Dev Cert.UpStepReferenceIdeal.nD → PrngReg), Pre_UpStepKernelIdeal m →
    (∀ c : Dev Cert.UpStepKernelIdeal.nD,
      m' ((c.tc : Thread Cert.UpStepReferenceIdeal.nD Cert.UpStepReferenceIdeal.τ).loc Cert.UpStepReferenceIdeal.main_arg0) = m ((c.tc : Thread Cert.UpStepKernelIdeal.nD Cert.UpStepKernelIdeal.τ).loc Cert.UpStepKernelIdeal.main_arg0)
      ∧ m' ((c.tc : Thread Cert.UpStepReferenceIdeal.nD Cert.UpStepReferenceIdeal.τ).loc Cert.UpStepReferenceIdeal.main_arg1) = m ((c.tc : Thread Cert.UpStepKernelIdeal.nD Cert.UpStepKernelIdeal.τ).loc Cert.UpStepKernelIdeal.main_arg1)
      ∧ m' ((c.tc : Thread Cert.UpStepReferenceIdeal.nD Cert.UpStepReferenceIdeal.τ).loc Cert.UpStepReferenceIdeal.main_arg2) = m ((c.tc : Thread Cert.UpStepKernelIdeal.nD Cert.UpStepKernelIdeal.τ).loc Cert.UpStepKernelIdeal.main_arg2)
      ∧ m' ((c.tc : Thread Cert.UpStepReferenceIdeal.nD Cert.UpStepReferenceIdeal.τ).loc Cert.UpStepReferenceIdeal.main_arg3) = m ((c.tc : Thread Cert.UpStepKernelIdeal.nD Cert.UpStepKernelIdeal.τ).loc Cert.UpStepKernelIdeal.main_arg3)) →
    ∃ (v0 : (c : Dev Cert.UpStepKernelIdeal.nD) → Buf (Elt Ideal) ((c.tc : Thread Cert.UpStepKernelIdeal.nD Cert.UpStepKernelIdeal.τ).loc Cert.UpStepKernelIdeal.main_v0_0)) (v1 : (c : Dev Cert.UpStepKernelIdeal.nD) → Buf (Elt Ideal) ((c.tc : Thread Cert.UpStepKernelIdeal.nD Cert.UpStepKernelIdeal.τ).loc Cert.UpStepKernelIdeal.main_v0_1)) (v2 : (c : Dev Cert.UpStepKernelIdeal.nD) → Buf (Elt Ideal) ((c.tc : Thread Cert.UpStepKernelIdeal.nD Cert.UpStepKernelIdeal.τ).loc Cert.UpStepKernelIdeal.main_v0_2)),
      θ_run (Cert.UpStepKernelIdeal.defs (F := Ideal)) (onTc (τ := Cert.UpStepKernelIdeal.τ) (Cert.UpStepKernelIdeal.main (F := Ideal))) ⟨m, fun _ => 0, g⟩ (fun r => ∀ c : Dev Cert.UpStepKernelIdeal.nD,
          r.2.mem ((c.tc : Thread Cert.UpStepKernelIdeal.nD Cert.UpStepKernelIdeal.τ).loc Cert.UpStepKernelIdeal.main_v0_0) = v0 c
          ∧ r.2.mem ((c.tc : Thread Cert.UpStepKernelIdeal.nD Cert.UpStepKernelIdeal.τ).loc Cert.UpStepKernelIdeal.main_v0_1) = v1 c
          ∧ r.2.mem ((c.tc : Thread Cert.UpStepKernelIdeal.nD Cert.UpStepKernelIdeal.τ).loc Cert.UpStepKernelIdeal.main_v0_2) = v2 c
          ∧ r.2.mem ((c.tc : Thread Cert.UpStepKernelIdeal.nD Cert.UpStepKernelIdeal.τ).loc Cert.UpStepKernelIdeal.main_arg0) = m ((c.tc : Thread Cert.UpStepKernelIdeal.nD Cert.UpStepKernelIdeal.τ).loc Cert.UpStepKernelIdeal.main_arg0)
          ∧ r.2.mem ((c.tc : Thread Cert.UpStepKernelIdeal.nD Cert.UpStepKernelIdeal.τ).loc Cert.UpStepKernelIdeal.main_arg1) = m ((c.tc : Thread Cert.UpStepKernelIdeal.nD Cert.UpStepKernelIdeal.τ).loc Cert.UpStepKernelIdeal.main_arg1)
          ∧ r.2.mem ((c.tc : Thread Cert.UpStepKernelIdeal.nD Cert.UpStepKernelIdeal.τ).loc Cert.UpStepKernelIdeal.main_arg2) = m ((c.tc : Thread Cert.UpStepKernelIdeal.nD Cert.UpStepKernelIdeal.τ).loc Cert.UpStepKernelIdeal.main_arg2)
          ∧ r.2.mem ((c.tc : Thread Cert.UpStepKernelIdeal.nD Cert.UpStepKernelIdeal.τ).loc Cert.UpStepKernelIdeal.main_arg3) = m ((c.tc : Thread Cert.UpStepKernelIdeal.nD Cert.UpStepKernelIdeal.τ).loc Cert.UpStepKernelIdeal.main_arg3))
      ∧ θ_run (Cert.UpStepReferenceIdeal.defs (F := Ideal)) (onTc (τ := Cert.UpStepReferenceIdeal.τ) (Cert.UpStepReferenceIdeal.main (F := Ideal))) ⟨m', fun _ => 0, g'⟩ (fun r => ∀ c : Dev Cert.UpStepReferenceIdeal.nD,
          r.2.mem ((c.tc : Thread Cert.UpStepReferenceIdeal.nD Cert.UpStepReferenceIdeal.τ).loc Cert.UpStepReferenceIdeal.main_v23) = v0 c
          ∧ r.2.mem ((c.tc : Thread Cert.UpStepReferenceIdeal.nD Cert.UpStepReferenceIdeal.τ).loc Cert.UpStepReferenceIdeal.main_v4) = v1 c
          ∧ r.2.mem ((c.tc : Thread Cert.UpStepReferenceIdeal.nD Cert.UpStepReferenceIdeal.τ).loc Cert.UpStepReferenceIdeal.main_v10) = v2 c
          ∧ r.2.mem ((c.tc : Thread Cert.UpStepReferenceIdeal.nD Cert.UpStepReferenceIdeal.τ).loc Cert.UpStepReferenceIdeal.main_arg0) = m' ((c.tc : Thread Cert.UpStepReferenceIdeal.nD Cert.UpStepReferenceIdeal.τ).loc Cert.UpStepReferenceIdeal.main_arg0)
          ∧ r.2.mem ((c.tc : Thread Cert.UpStepReferenceIdeal.nD Cert.UpStepReferenceIdeal.τ).loc Cert.UpStepReferenceIdeal.main_arg1) = m' ((c.tc : Thread Cert.UpStepReferenceIdeal.nD Cert.UpStepReferenceIdeal.τ).loc Cert.UpStepReferenceIdeal.main_arg1)
          ∧ r.2.mem ((c.tc : Thread Cert.UpStepReferenceIdeal.nD Cert.UpStepReferenceIdeal.τ).loc Cert.UpStepReferenceIdeal.main_arg2) = m' ((c.tc : Thread Cert.UpStepReferenceIdeal.nD Cert.UpStepReferenceIdeal.τ).loc Cert.UpStepReferenceIdeal.main_arg2)
          ∧ r.2.mem ((c.tc : Thread Cert.UpStepReferenceIdeal.nD Cert.UpStepReferenceIdeal.τ).loc Cert.UpStepReferenceIdeal.main_arg3) = m' ((c.tc : Thread Cert.UpStepReferenceIdeal.nD Cert.UpStepReferenceIdeal.τ).loc Cert.UpStepReferenceIdeal.main_arg3))

def preserves_DownStepKernel_DownStepKernelIdeal : Prop :=
  True

def algebraic_DownStepKernelIdeal_DownStepReferenceIdeal [hDownStepKernelIdeal : Cert.DownStepKernelIdeal.Facts] [hDownStepReferenceIdeal : Cert.DownStepReferenceIdeal.Facts] : Prop :=
  ∀ (m : (ℓ : Loc Cert.DownStepKernelIdeal.nD Cert.DownStepKernelIdeal.τ Cert.DownStepKernelIdeal.sig) → Buf (Elt Ideal) ℓ) (g : Dev Cert.DownStepKernelIdeal.nD → PrngReg)
    (m' : (ℓ : Loc Cert.DownStepReferenceIdeal.nD Cert.DownStepReferenceIdeal.τ Cert.DownStepReferenceIdeal.sig) → Buf (Elt Ideal) ℓ) (g' : Dev Cert.DownStepReferenceIdeal.nD → PrngReg), Pre_DownStepKernelIdeal m →
    (∀ c : Dev Cert.DownStepKernelIdeal.nD,
      m' ((c.tc : Thread Cert.DownStepReferenceIdeal.nD Cert.DownStepReferenceIdeal.τ).loc Cert.DownStepReferenceIdeal.main_arg0) = m ((c.tc : Thread Cert.DownStepKernelIdeal.nD Cert.DownStepKernelIdeal.τ).loc Cert.DownStepKernelIdeal.main_arg0)
      ∧ m' ((c.tc : Thread Cert.DownStepReferenceIdeal.nD Cert.DownStepReferenceIdeal.τ).loc Cert.DownStepReferenceIdeal.main_arg1) = m ((c.tc : Thread Cert.DownStepKernelIdeal.nD Cert.DownStepKernelIdeal.τ).loc Cert.DownStepKernelIdeal.main_arg1)
      ∧ m' ((c.tc : Thread Cert.DownStepReferenceIdeal.nD Cert.DownStepReferenceIdeal.τ).loc Cert.DownStepReferenceIdeal.main_arg2) = m ((c.tc : Thread Cert.DownStepKernelIdeal.nD Cert.DownStepKernelIdeal.τ).loc Cert.DownStepKernelIdeal.main_arg2)
      ∧ m' ((c.tc : Thread Cert.DownStepReferenceIdeal.nD Cert.DownStepReferenceIdeal.τ).loc Cert.DownStepReferenceIdeal.main_arg3) = m ((c.tc : Thread Cert.DownStepKernelIdeal.nD Cert.DownStepKernelIdeal.τ).loc Cert.DownStepKernelIdeal.main_arg3)) →
    ∃ (v0 : (c : Dev Cert.DownStepKernelIdeal.nD) → Buf (Elt Ideal) ((c.tc : Thread Cert.DownStepKernelIdeal.nD Cert.DownStepKernelIdeal.τ).loc Cert.DownStepKernelIdeal.main_v0_0)) (v1 : (c : Dev Cert.DownStepKernelIdeal.nD) → Buf (Elt Ideal) ((c.tc : Thread Cert.DownStepKernelIdeal.nD Cert.DownStepKernelIdeal.τ).loc Cert.DownStepKernelIdeal.main_v0_1)) (v2 : (c : Dev Cert.DownStepKernelIdeal.nD) → Buf (Elt Ideal) ((c.tc : Thread Cert.DownStepKernelIdeal.nD Cert.DownStepKernelIdeal.τ).loc Cert.DownStepKernelIdeal.main_v0_2)),
      θ_run (Cert.DownStepKernelIdeal.defs (F := Ideal)) (onTc (τ := Cert.DownStepKernelIdeal.τ) (Cert.DownStepKernelIdeal.main (F := Ideal))) ⟨m, fun _ => 0, g⟩ (fun r => ∀ c : Dev Cert.DownStepKernelIdeal.nD,
          r.2.mem ((c.tc : Thread Cert.DownStepKernelIdeal.nD Cert.DownStepKernelIdeal.τ).loc Cert.DownStepKernelIdeal.main_v0_0) = v0 c
          ∧ r.2.mem ((c.tc : Thread Cert.DownStepKernelIdeal.nD Cert.DownStepKernelIdeal.τ).loc Cert.DownStepKernelIdeal.main_v0_1) = v1 c
          ∧ r.2.mem ((c.tc : Thread Cert.DownStepKernelIdeal.nD Cert.DownStepKernelIdeal.τ).loc Cert.DownStepKernelIdeal.main_v0_2) = v2 c
          ∧ r.2.mem ((c.tc : Thread Cert.DownStepKernelIdeal.nD Cert.DownStepKernelIdeal.τ).loc Cert.DownStepKernelIdeal.main_arg0) = m ((c.tc : Thread Cert.DownStepKernelIdeal.nD Cert.DownStepKernelIdeal.τ).loc Cert.DownStepKernelIdeal.main_arg0)
          ∧ r.2.mem ((c.tc : Thread Cert.DownStepKernelIdeal.nD Cert.DownStepKernelIdeal.τ).loc Cert.DownStepKernelIdeal.main_arg1) = m ((c.tc : Thread Cert.DownStepKernelIdeal.nD Cert.DownStepKernelIdeal.τ).loc Cert.DownStepKernelIdeal.main_arg1)
          ∧ r.2.mem ((c.tc : Thread Cert.DownStepKernelIdeal.nD Cert.DownStepKernelIdeal.τ).loc Cert.DownStepKernelIdeal.main_arg2) = m ((c.tc : Thread Cert.DownStepKernelIdeal.nD Cert.DownStepKernelIdeal.τ).loc Cert.DownStepKernelIdeal.main_arg2)
          ∧ r.2.mem ((c.tc : Thread Cert.DownStepKernelIdeal.nD Cert.DownStepKernelIdeal.τ).loc Cert.DownStepKernelIdeal.main_arg3) = m ((c.tc : Thread Cert.DownStepKernelIdeal.nD Cert.DownStepKernelIdeal.τ).loc Cert.DownStepKernelIdeal.main_arg3))
      ∧ θ_run (Cert.DownStepReferenceIdeal.defs (F := Ideal)) (onTc (τ := Cert.DownStepReferenceIdeal.τ) (Cert.DownStepReferenceIdeal.main (F := Ideal))) ⟨m', fun _ => 0, g'⟩ (fun r => ∀ c : Dev Cert.DownStepReferenceIdeal.nD,
          r.2.mem ((c.tc : Thread Cert.DownStepReferenceIdeal.nD Cert.DownStepReferenceIdeal.τ).loc Cert.DownStepReferenceIdeal.main_v23) = v0 c
          ∧ r.2.mem ((c.tc : Thread Cert.DownStepReferenceIdeal.nD Cert.DownStepReferenceIdeal.τ).loc Cert.DownStepReferenceIdeal.main_v4) = v1 c
          ∧ r.2.mem ((c.tc : Thread Cert.DownStepReferenceIdeal.nD Cert.DownStepReferenceIdeal.τ).loc Cert.DownStepReferenceIdeal.main_v10) = v2 c
          ∧ r.2.mem ((c.tc : Thread Cert.DownStepReferenceIdeal.nD Cert.DownStepReferenceIdeal.τ).loc Cert.DownStepReferenceIdeal.main_arg0) = m' ((c.tc : Thread Cert.DownStepReferenceIdeal.nD Cert.DownStepReferenceIdeal.τ).loc Cert.DownStepReferenceIdeal.main_arg0)
          ∧ r.2.mem ((c.tc : Thread Cert.DownStepReferenceIdeal.nD Cert.DownStepReferenceIdeal.τ).loc Cert.DownStepReferenceIdeal.main_arg1) = m' ((c.tc : Thread Cert.DownStepReferenceIdeal.nD Cert.DownStepReferenceIdeal.τ).loc Cert.DownStepReferenceIdeal.main_arg1)
          ∧ r.2.mem ((c.tc : Thread Cert.DownStepReferenceIdeal.nD Cert.DownStepReferenceIdeal.τ).loc Cert.DownStepReferenceIdeal.main_arg2) = m' ((c.tc : Thread Cert.DownStepReferenceIdeal.nD Cert.DownStepReferenceIdeal.τ).loc Cert.DownStepReferenceIdeal.main_arg2)
          ∧ r.2.mem ((c.tc : Thread Cert.DownStepReferenceIdeal.nD Cert.DownStepReferenceIdeal.τ).loc Cert.DownStepReferenceIdeal.main_arg3) = m' ((c.tc : Thread Cert.DownStepReferenceIdeal.nD Cert.DownStepReferenceIdeal.τ).loc Cert.DownStepReferenceIdeal.main_arg3))

def preserves_FirstConvInputKernel_FirstConvInputKernelIdeal : Prop :=
  True

def algebraic_FirstConvInputKernelIdeal_FirstConvInputReferenceIdeal [hFirstConvInputKernelIdeal : Cert.FirstConvInputKernelIdeal.Facts] [hFirstConvInputReferenceIdeal : Cert.FirstConvInputReferenceIdeal.Facts] : Prop :=
  ∀ (m : (ℓ : Loc Cert.FirstConvInputKernelIdeal.nD Cert.FirstConvInputKernelIdeal.τ Cert.FirstConvInputKernelIdeal.sig) → Buf (Elt Ideal) ℓ) (g : Dev Cert.FirstConvInputKernelIdeal.nD → PrngReg)
    (m' : (ℓ : Loc Cert.FirstConvInputReferenceIdeal.nD Cert.FirstConvInputReferenceIdeal.τ Cert.FirstConvInputReferenceIdeal.sig) → Buf (Elt Ideal) ℓ) (g' : Dev Cert.FirstConvInputReferenceIdeal.nD → PrngReg), Pre_FirstConvInputKernelIdeal m →
    (∀ c : Dev Cert.FirstConvInputKernelIdeal.nD,
      m' ((c.tc : Thread Cert.FirstConvInputReferenceIdeal.nD Cert.FirstConvInputReferenceIdeal.τ).loc Cert.FirstConvInputReferenceIdeal.main_arg0) = m ((c.tc : Thread Cert.FirstConvInputKernelIdeal.nD Cert.FirstConvInputKernelIdeal.τ).loc Cert.FirstConvInputKernelIdeal.main_arg0)
      ∧ m' ((c.tc : Thread Cert.FirstConvInputReferenceIdeal.nD Cert.FirstConvInputReferenceIdeal.τ).loc Cert.FirstConvInputReferenceIdeal.main_arg1) = m ((c.tc : Thread Cert.FirstConvInputKernelIdeal.nD Cert.FirstConvInputKernelIdeal.τ).loc Cert.FirstConvInputKernelIdeal.main_arg1)
      ∧ m' ((c.tc : Thread Cert.FirstConvInputReferenceIdeal.nD Cert.FirstConvInputReferenceIdeal.τ).loc Cert.FirstConvInputReferenceIdeal.main_arg2) = m ((c.tc : Thread Cert.FirstConvInputKernelIdeal.nD Cert.FirstConvInputKernelIdeal.τ).loc Cert.FirstConvInputKernelIdeal.main_arg2)
      ∧ m' ((c.tc : Thread Cert.FirstConvInputReferenceIdeal.nD Cert.FirstConvInputReferenceIdeal.τ).loc Cert.FirstConvInputReferenceIdeal.main_arg3) = m ((c.tc : Thread Cert.FirstConvInputKernelIdeal.nD Cert.FirstConvInputKernelIdeal.τ).loc Cert.FirstConvInputKernelIdeal.main_arg3)
      ∧ m' ((c.tc : Thread Cert.FirstConvInputReferenceIdeal.nD Cert.FirstConvInputReferenceIdeal.τ).loc Cert.FirstConvInputReferenceIdeal.main_arg4) = m ((c.tc : Thread Cert.FirstConvInputKernelIdeal.nD Cert.FirstConvInputKernelIdeal.τ).loc Cert.FirstConvInputKernelIdeal.main_arg4)) →
    ∃ (v0 : (c : Dev Cert.FirstConvInputKernelIdeal.nD) → Buf (Elt Ideal) ((c.tc : Thread Cert.FirstConvInputKernelIdeal.nD Cert.FirstConvInputKernelIdeal.τ).loc Cert.FirstConvInputKernelIdeal.main_v5_0)) (v1 : (c : Dev Cert.FirstConvInputKernelIdeal.nD) → Buf (Elt Ideal) ((c.tc : Thread Cert.FirstConvInputKernelIdeal.nD Cert.FirstConvInputKernelIdeal.τ).loc Cert.FirstConvInputKernelIdeal.main_v5_1)) (v2 : (c : Dev Cert.FirstConvInputKernelIdeal.nD) → Buf (Elt Ideal) ((c.tc : Thread Cert.FirstConvInputKernelIdeal.nD Cert.FirstConvInputKernelIdeal.τ).loc Cert.FirstConvInputKernelIdeal.main_v5_2)),
      θ_run (Cert.FirstConvInputKernelIdeal.defs (F := Ideal)) (onTc (τ := Cert.FirstConvInputKernelIdeal.τ) (Cert.FirstConvInputKernelIdeal.main (F := Ideal))) ⟨m, fun _ => 0, g⟩ (fun r => ∀ c : Dev Cert.FirstConvInputKernelIdeal.nD,
          r.2.mem ((c.tc : Thread Cert.FirstConvInputKernelIdeal.nD Cert.FirstConvInputKernelIdeal.τ).loc Cert.FirstConvInputKernelIdeal.main_v5_0) = v0 c
          ∧ r.2.mem ((c.tc : Thread Cert.FirstConvInputKernelIdeal.nD Cert.FirstConvInputKernelIdeal.τ).loc Cert.FirstConvInputKernelIdeal.main_v5_1) = v1 c
          ∧ r.2.mem ((c.tc : Thread Cert.FirstConvInputKernelIdeal.nD Cert.FirstConvInputKernelIdeal.τ).loc Cert.FirstConvInputKernelIdeal.main_v5_2) = v2 c
          ∧ r.2.mem ((c.tc : Thread Cert.FirstConvInputKernelIdeal.nD Cert.FirstConvInputKernelIdeal.τ).loc Cert.FirstConvInputKernelIdeal.main_arg0) = m ((c.tc : Thread Cert.FirstConvInputKernelIdeal.nD Cert.FirstConvInputKernelIdeal.τ).loc Cert.FirstConvInputKernelIdeal.main_arg0)
          ∧ r.2.mem ((c.tc : Thread Cert.FirstConvInputKernelIdeal.nD Cert.FirstConvInputKernelIdeal.τ).loc Cert.FirstConvInputKernelIdeal.main_arg1) = m ((c.tc : Thread Cert.FirstConvInputKernelIdeal.nD Cert.FirstConvInputKernelIdeal.τ).loc Cert.FirstConvInputKernelIdeal.main_arg1)
          ∧ r.2.mem ((c.tc : Thread Cert.FirstConvInputKernelIdeal.nD Cert.FirstConvInputKernelIdeal.τ).loc Cert.FirstConvInputKernelIdeal.main_arg2) = m ((c.tc : Thread Cert.FirstConvInputKernelIdeal.nD Cert.FirstConvInputKernelIdeal.τ).loc Cert.FirstConvInputKernelIdeal.main_arg2)
          ∧ r.2.mem ((c.tc : Thread Cert.FirstConvInputKernelIdeal.nD Cert.FirstConvInputKernelIdeal.τ).loc Cert.FirstConvInputKernelIdeal.main_arg3) = m ((c.tc : Thread Cert.FirstConvInputKernelIdeal.nD Cert.FirstConvInputKernelIdeal.τ).loc Cert.FirstConvInputKernelIdeal.main_arg3)
          ∧ r.2.mem ((c.tc : Thread Cert.FirstConvInputKernelIdeal.nD Cert.FirstConvInputKernelIdeal.τ).loc Cert.FirstConvInputKernelIdeal.main_arg4) = m ((c.tc : Thread Cert.FirstConvInputKernelIdeal.nD Cert.FirstConvInputKernelIdeal.τ).loc Cert.FirstConvInputKernelIdeal.main_arg4))
      ∧ θ_run (Cert.FirstConvInputReferenceIdeal.defs (F := Ideal)) (onTc (τ := Cert.FirstConvInputReferenceIdeal.τ) (Cert.FirstConvInputReferenceIdeal.main (F := Ideal))) ⟨m', fun _ => 0, g'⟩ (fun r => ∀ c : Dev Cert.FirstConvInputReferenceIdeal.nD,
          r.2.mem ((c.tc : Thread Cert.FirstConvInputReferenceIdeal.nD Cert.FirstConvInputReferenceIdeal.τ).loc Cert.FirstConvInputReferenceIdeal.main_v42) = v0 c
          ∧ r.2.mem ((c.tc : Thread Cert.FirstConvInputReferenceIdeal.nD Cert.FirstConvInputReferenceIdeal.τ).loc Cert.FirstConvInputReferenceIdeal.main_v43) = v1 c
          ∧ r.2.mem ((c.tc : Thread Cert.FirstConvInputReferenceIdeal.nD Cert.FirstConvInputReferenceIdeal.τ).loc Cert.FirstConvInputReferenceIdeal.main_v44) = v2 c
          ∧ r.2.mem ((c.tc : Thread Cert.FirstConvInputReferenceIdeal.nD Cert.FirstConvInputReferenceIdeal.τ).loc Cert.FirstConvInputReferenceIdeal.main_arg0) = m' ((c.tc : Thread Cert.FirstConvInputReferenceIdeal.nD Cert.FirstConvInputReferenceIdeal.τ).loc Cert.FirstConvInputReferenceIdeal.main_arg0)
          ∧ r.2.mem ((c.tc : Thread Cert.FirstConvInputReferenceIdeal.nD Cert.FirstConvInputReferenceIdeal.τ).loc Cert.FirstConvInputReferenceIdeal.main_arg1) = m' ((c.tc : Thread Cert.FirstConvInputReferenceIdeal.nD Cert.FirstConvInputReferenceIdeal.τ).loc Cert.FirstConvInputReferenceIdeal.main_arg1)
          ∧ r.2.mem ((c.tc : Thread Cert.FirstConvInputReferenceIdeal.nD Cert.FirstConvInputReferenceIdeal.τ).loc Cert.FirstConvInputReferenceIdeal.main_arg2) = m' ((c.tc : Thread Cert.FirstConvInputReferenceIdeal.nD Cert.FirstConvInputReferenceIdeal.τ).loc Cert.FirstConvInputReferenceIdeal.main_arg2)
          ∧ r.2.mem ((c.tc : Thread Cert.FirstConvInputReferenceIdeal.nD Cert.FirstConvInputReferenceIdeal.τ).loc Cert.FirstConvInputReferenceIdeal.main_arg3) = m' ((c.tc : Thread Cert.FirstConvInputReferenceIdeal.nD Cert.FirstConvInputReferenceIdeal.τ).loc Cert.FirstConvInputReferenceIdeal.main_arg3)
          ∧ r.2.mem ((c.tc : Thread Cert.FirstConvInputReferenceIdeal.nD Cert.FirstConvInputReferenceIdeal.τ).loc Cert.FirstConvInputReferenceIdeal.main_arg4) = m' ((c.tc : Thread Cert.FirstConvInputReferenceIdeal.nD Cert.FirstConvInputReferenceIdeal.τ).loc Cert.FirstConvInputReferenceIdeal.main_arg4))

def preserves_FirstAttnBackKernel_FirstAttnBackKernelIdeal : Prop :=
  True

def algebraic_FirstAttnBackKernelIdeal_FirstAttnBackReferenceIdeal [hFirstAttnBackKernelIdeal : Cert.FirstAttnBackKernelIdeal.Facts] [hFirstAttnBackReferenceIdeal : Cert.FirstAttnBackReferenceIdeal.Facts] : Prop :=
  ∀ (m : (ℓ : Loc Cert.FirstAttnBackKernelIdeal.nD Cert.FirstAttnBackKernelIdeal.τ Cert.FirstAttnBackKernelIdeal.sig) → Buf (Elt Ideal) ℓ) (g : Dev Cert.FirstAttnBackKernelIdeal.nD → PrngReg)
    (m' : (ℓ : Loc Cert.FirstAttnBackReferenceIdeal.nD Cert.FirstAttnBackReferenceIdeal.τ Cert.FirstAttnBackReferenceIdeal.sig) → Buf (Elt Ideal) ℓ) (g' : Dev Cert.FirstAttnBackReferenceIdeal.nD → PrngReg), Pre_FirstAttnBackKernelIdeal m →
    (∀ c : Dev Cert.FirstAttnBackKernelIdeal.nD,
      m' ((c.tc : Thread Cert.FirstAttnBackReferenceIdeal.nD Cert.FirstAttnBackReferenceIdeal.τ).loc Cert.FirstAttnBackReferenceIdeal.main_arg0) = m ((c.tc : Thread Cert.FirstAttnBackKernelIdeal.nD Cert.FirstAttnBackKernelIdeal.τ).loc Cert.FirstAttnBackKernelIdeal.main_arg0)
      ∧ m' ((c.tc : Thread Cert.FirstAttnBackReferenceIdeal.nD Cert.FirstAttnBackReferenceIdeal.τ).loc Cert.FirstAttnBackReferenceIdeal.main_arg1) = m ((c.tc : Thread Cert.FirstAttnBackKernelIdeal.nD Cert.FirstAttnBackKernelIdeal.τ).loc Cert.FirstAttnBackKernelIdeal.main_arg1)) →
    ∃ (v0 : (c : Dev Cert.FirstAttnBackKernelIdeal.nD) → Buf (Elt Ideal) ((c.tc : Thread Cert.FirstAttnBackKernelIdeal.nD Cert.FirstAttnBackKernelIdeal.τ).loc Cert.FirstAttnBackKernelIdeal.main_v3)),
      θ_run (Cert.FirstAttnBackKernelIdeal.defs (F := Ideal)) (onTc (τ := Cert.FirstAttnBackKernelIdeal.τ) (Cert.FirstAttnBackKernelIdeal.main (F := Ideal))) ⟨m, fun _ => 0, g⟩ (fun r => ∀ c : Dev Cert.FirstAttnBackKernelIdeal.nD,
          r.2.mem ((c.tc : Thread Cert.FirstAttnBackKernelIdeal.nD Cert.FirstAttnBackKernelIdeal.τ).loc Cert.FirstAttnBackKernelIdeal.main_v3) = v0 c
          ∧ r.2.mem ((c.tc : Thread Cert.FirstAttnBackKernelIdeal.nD Cert.FirstAttnBackKernelIdeal.τ).loc Cert.FirstAttnBackKernelIdeal.main_arg0) = m ((c.tc : Thread Cert.FirstAttnBackKernelIdeal.nD Cert.FirstAttnBackKernelIdeal.τ).loc Cert.FirstAttnBackKernelIdeal.main_arg0)
          ∧ r.2.mem ((c.tc : Thread Cert.FirstAttnBackKernelIdeal.nD Cert.FirstAttnBackKernelIdeal.τ).loc Cert.FirstAttnBackKernelIdeal.main_arg1) = m ((c.tc : Thread Cert.FirstAttnBackKernelIdeal.nD Cert.FirstAttnBackKernelIdeal.τ).loc Cert.FirstAttnBackKernelIdeal.main_arg1))
      ∧ θ_run (Cert.FirstAttnBackReferenceIdeal.defs (F := Ideal)) (onTc (τ := Cert.FirstAttnBackReferenceIdeal.τ) (Cert.FirstAttnBackReferenceIdeal.main (F := Ideal))) ⟨m', fun _ => 0, g'⟩ (fun r => ∀ c : Dev Cert.FirstAttnBackReferenceIdeal.nD,
          r.2.mem ((c.tc : Thread Cert.FirstAttnBackReferenceIdeal.nD Cert.FirstAttnBackReferenceIdeal.τ).loc Cert.FirstAttnBackReferenceIdeal.main_v4) = v0 c
          ∧ r.2.mem ((c.tc : Thread Cert.FirstAttnBackReferenceIdeal.nD Cert.FirstAttnBackReferenceIdeal.τ).loc Cert.FirstAttnBackReferenceIdeal.main_arg0) = m' ((c.tc : Thread Cert.FirstAttnBackReferenceIdeal.nD Cert.FirstAttnBackReferenceIdeal.τ).loc Cert.FirstAttnBackReferenceIdeal.main_arg0)
          ∧ r.2.mem ((c.tc : Thread Cert.FirstAttnBackReferenceIdeal.nD Cert.FirstAttnBackReferenceIdeal.τ).loc Cert.FirstAttnBackReferenceIdeal.main_arg1) = m' ((c.tc : Thread Cert.FirstAttnBackReferenceIdeal.nD Cert.FirstAttnBackReferenceIdeal.τ).loc Cert.FirstAttnBackReferenceIdeal.main_arg1))

def preserves_FirstConvBackKernel_FirstConvBackKernelIdeal : Prop :=
  True

def algebraic_FirstConvBackKernelIdeal_FirstConvBackReferenceIdeal [hFirstConvBackKernelIdeal : Cert.FirstConvBackKernelIdeal.Facts] [hFirstConvBackReferenceIdeal : Cert.FirstConvBackReferenceIdeal.Facts] : Prop :=
  ∀ (m : (ℓ : Loc Cert.FirstConvBackKernelIdeal.nD Cert.FirstConvBackKernelIdeal.τ Cert.FirstConvBackKernelIdeal.sig) → Buf (Elt Ideal) ℓ) (g : Dev Cert.FirstConvBackKernelIdeal.nD → PrngReg)
    (m' : (ℓ : Loc Cert.FirstConvBackReferenceIdeal.nD Cert.FirstConvBackReferenceIdeal.τ Cert.FirstConvBackReferenceIdeal.sig) → Buf (Elt Ideal) ℓ) (g' : Dev Cert.FirstConvBackReferenceIdeal.nD → PrngReg), Pre_FirstConvBackKernelIdeal m →
    (∀ c : Dev Cert.FirstConvBackKernelIdeal.nD,
      m' ((c.tc : Thread Cert.FirstConvBackReferenceIdeal.nD Cert.FirstConvBackReferenceIdeal.τ).loc Cert.FirstConvBackReferenceIdeal.main_arg0) = m ((c.tc : Thread Cert.FirstConvBackKernelIdeal.nD Cert.FirstConvBackKernelIdeal.τ).loc Cert.FirstConvBackKernelIdeal.main_arg0)
      ∧ m' ((c.tc : Thread Cert.FirstConvBackReferenceIdeal.nD Cert.FirstConvBackReferenceIdeal.τ).loc Cert.FirstConvBackReferenceIdeal.main_arg1) = m ((c.tc : Thread Cert.FirstConvBackKernelIdeal.nD Cert.FirstConvBackKernelIdeal.τ).loc Cert.FirstConvBackKernelIdeal.main_arg1)) →
    ∃ (v0 : (c : Dev Cert.FirstConvBackKernelIdeal.nD) → Buf (Elt Ideal) ((c.tc : Thread Cert.FirstConvBackKernelIdeal.nD Cert.FirstConvBackKernelIdeal.τ).loc Cert.FirstConvBackKernelIdeal.main_v3)),
      θ_run (Cert.FirstConvBackKernelIdeal.defs (F := Ideal)) (onTc (τ := Cert.FirstConvBackKernelIdeal.τ) (Cert.FirstConvBackKernelIdeal.main (F := Ideal))) ⟨m, fun _ => 0, g⟩ (fun r => ∀ c : Dev Cert.FirstConvBackKernelIdeal.nD,
          r.2.mem ((c.tc : Thread Cert.FirstConvBackKernelIdeal.nD Cert.FirstConvBackKernelIdeal.τ).loc Cert.FirstConvBackKernelIdeal.main_v3) = v0 c
          ∧ r.2.mem ((c.tc : Thread Cert.FirstConvBackKernelIdeal.nD Cert.FirstConvBackKernelIdeal.τ).loc Cert.FirstConvBackKernelIdeal.main_arg0) = m ((c.tc : Thread Cert.FirstConvBackKernelIdeal.nD Cert.FirstConvBackKernelIdeal.τ).loc Cert.FirstConvBackKernelIdeal.main_arg0)
          ∧ r.2.mem ((c.tc : Thread Cert.FirstConvBackKernelIdeal.nD Cert.FirstConvBackKernelIdeal.τ).loc Cert.FirstConvBackKernelIdeal.main_arg1) = m ((c.tc : Thread Cert.FirstConvBackKernelIdeal.nD Cert.FirstConvBackKernelIdeal.τ).loc Cert.FirstConvBackKernelIdeal.main_arg1))
      ∧ θ_run (Cert.FirstConvBackReferenceIdeal.defs (F := Ideal)) (onTc (τ := Cert.FirstConvBackReferenceIdeal.τ) (Cert.FirstConvBackReferenceIdeal.main (F := Ideal))) ⟨m', fun _ => 0, g'⟩ (fun r => ∀ c : Dev Cert.FirstConvBackReferenceIdeal.nD,
          r.2.mem ((c.tc : Thread Cert.FirstConvBackReferenceIdeal.nD Cert.FirstConvBackReferenceIdeal.τ).loc Cert.FirstConvBackReferenceIdeal.main_v5) = v0 c
          ∧ r.2.mem ((c.tc : Thread Cert.FirstConvBackReferenceIdeal.nD Cert.FirstConvBackReferenceIdeal.τ).loc Cert.FirstConvBackReferenceIdeal.main_arg0) = m' ((c.tc : Thread Cert.FirstConvBackReferenceIdeal.nD Cert.FirstConvBackReferenceIdeal.τ).loc Cert.FirstConvBackReferenceIdeal.main_arg0)
          ∧ r.2.mem ((c.tc : Thread Cert.FirstConvBackReferenceIdeal.nD Cert.FirstConvBackReferenceIdeal.τ).loc Cert.FirstConvBackReferenceIdeal.main_arg1) = m' ((c.tc : Thread Cert.FirstConvBackReferenceIdeal.nD Cert.FirstConvBackReferenceIdeal.τ).loc Cert.FirstConvBackReferenceIdeal.main_arg1))

def preserves_FirstConvInKernel_FirstConvInKernelIdeal : Prop :=
  True

def algebraic_FirstConvInKernelIdeal_FirstConvInReferenceIdeal [hFirstConvInKernelIdeal : Cert.FirstConvInKernelIdeal.Facts] [hFirstConvInReferenceIdeal : Cert.FirstConvInReferenceIdeal.Facts] : Prop :=
  ∀ (m : (ℓ : Loc Cert.FirstConvInKernelIdeal.nD Cert.FirstConvInKernelIdeal.τ Cert.FirstConvInKernelIdeal.sig) → Buf (Elt Ideal) ℓ) (g : Dev Cert.FirstConvInKernelIdeal.nD → PrngReg)
    (m' : (ℓ : Loc Cert.FirstConvInReferenceIdeal.nD Cert.FirstConvInReferenceIdeal.τ Cert.FirstConvInReferenceIdeal.sig) → Buf (Elt Ideal) ℓ) (g' : Dev Cert.FirstConvInReferenceIdeal.nD → PrngReg), Pre_FirstConvInKernelIdeal m →
    (∀ c : Dev Cert.FirstConvInKernelIdeal.nD,
      m' ((c.tc : Thread Cert.FirstConvInReferenceIdeal.nD Cert.FirstConvInReferenceIdeal.τ).loc Cert.FirstConvInReferenceIdeal.main_arg0) = m ((c.tc : Thread Cert.FirstConvInKernelIdeal.nD Cert.FirstConvInKernelIdeal.τ).loc Cert.FirstConvInKernelIdeal.main_arg0)
      ∧ m' ((c.tc : Thread Cert.FirstConvInReferenceIdeal.nD Cert.FirstConvInReferenceIdeal.τ).loc Cert.FirstConvInReferenceIdeal.main_arg1) = m ((c.tc : Thread Cert.FirstConvInKernelIdeal.nD Cert.FirstConvInKernelIdeal.τ).loc Cert.FirstConvInKernelIdeal.main_arg1)
      ∧ m' ((c.tc : Thread Cert.FirstConvInReferenceIdeal.nD Cert.FirstConvInReferenceIdeal.τ).loc Cert.FirstConvInReferenceIdeal.main_arg2) = m ((c.tc : Thread Cert.FirstConvInKernelIdeal.nD Cert.FirstConvInKernelIdeal.τ).loc Cert.FirstConvInKernelIdeal.main_arg2)) →
    ∃ (v0 : (c : Dev Cert.FirstConvInKernelIdeal.nD) → Buf (Elt Ideal) ((c.tc : Thread Cert.FirstConvInKernelIdeal.nD Cert.FirstConvInKernelIdeal.τ).loc Cert.FirstConvInKernelIdeal.main_v5)),
      θ_run (Cert.FirstConvInKernelIdeal.defs (F := Ideal)) (onTc (τ := Cert.FirstConvInKernelIdeal.τ) (Cert.FirstConvInKernelIdeal.main (F := Ideal))) ⟨m, fun _ => 0, g⟩ (fun r => ∀ c : Dev Cert.FirstConvInKernelIdeal.nD,
          r.2.mem ((c.tc : Thread Cert.FirstConvInKernelIdeal.nD Cert.FirstConvInKernelIdeal.τ).loc Cert.FirstConvInKernelIdeal.main_v5) = v0 c
          ∧ r.2.mem ((c.tc : Thread Cert.FirstConvInKernelIdeal.nD Cert.FirstConvInKernelIdeal.τ).loc Cert.FirstConvInKernelIdeal.main_arg0) = m ((c.tc : Thread Cert.FirstConvInKernelIdeal.nD Cert.FirstConvInKernelIdeal.τ).loc Cert.FirstConvInKernelIdeal.main_arg0)
          ∧ r.2.mem ((c.tc : Thread Cert.FirstConvInKernelIdeal.nD Cert.FirstConvInKernelIdeal.τ).loc Cert.FirstConvInKernelIdeal.main_arg1) = m ((c.tc : Thread Cert.FirstConvInKernelIdeal.nD Cert.FirstConvInKernelIdeal.τ).loc Cert.FirstConvInKernelIdeal.main_arg1)
          ∧ r.2.mem ((c.tc : Thread Cert.FirstConvInKernelIdeal.nD Cert.FirstConvInKernelIdeal.τ).loc Cert.FirstConvInKernelIdeal.main_arg2) = m ((c.tc : Thread Cert.FirstConvInKernelIdeal.nD Cert.FirstConvInKernelIdeal.τ).loc Cert.FirstConvInKernelIdeal.main_arg2))
      ∧ θ_run (Cert.FirstConvInReferenceIdeal.defs (F := Ideal)) (onTc (τ := Cert.FirstConvInReferenceIdeal.τ) (Cert.FirstConvInReferenceIdeal.main (F := Ideal))) ⟨m', fun _ => 0, g'⟩ (fun r => ∀ c : Dev Cert.FirstConvInReferenceIdeal.nD,
          r.2.mem ((c.tc : Thread Cert.FirstConvInReferenceIdeal.nD Cert.FirstConvInReferenceIdeal.τ).loc Cert.FirstConvInReferenceIdeal.main_v6) = v0 c
          ∧ r.2.mem ((c.tc : Thread Cert.FirstConvInReferenceIdeal.nD Cert.FirstConvInReferenceIdeal.τ).loc Cert.FirstConvInReferenceIdeal.main_arg0) = m' ((c.tc : Thread Cert.FirstConvInReferenceIdeal.nD Cert.FirstConvInReferenceIdeal.τ).loc Cert.FirstConvInReferenceIdeal.main_arg0)
          ∧ r.2.mem ((c.tc : Thread Cert.FirstConvInReferenceIdeal.nD Cert.FirstConvInReferenceIdeal.τ).loc Cert.FirstConvInReferenceIdeal.main_arg1) = m' ((c.tc : Thread Cert.FirstConvInReferenceIdeal.nD Cert.FirstConvInReferenceIdeal.τ).loc Cert.FirstConvInReferenceIdeal.main_arg1)
          ∧ r.2.mem ((c.tc : Thread Cert.FirstConvInReferenceIdeal.nD Cert.FirstConvInReferenceIdeal.τ).loc Cert.FirstConvInReferenceIdeal.main_arg2) = m' ((c.tc : Thread Cert.FirstConvInReferenceIdeal.nD Cert.FirstConvInReferenceIdeal.τ).loc Cert.FirstConvInReferenceIdeal.main_arg2))

def preserves_FirstAttnOutKernel_FirstAttnOutKernelIdeal : Prop :=
  True

def algebraic_FirstAttnOutKernelIdeal_FirstAttnOutReferenceIdeal [hFirstAttnOutKernelIdeal : Cert.FirstAttnOutKernelIdeal.Facts] [hFirstAttnOutReferenceIdeal : Cert.FirstAttnOutReferenceIdeal.Facts] : Prop :=
  ∀ (m : (ℓ : Loc Cert.FirstAttnOutKernelIdeal.nD Cert.FirstAttnOutKernelIdeal.τ Cert.FirstAttnOutKernelIdeal.sig) → Buf (Elt Ideal) ℓ) (g : Dev Cert.FirstAttnOutKernelIdeal.nD → PrngReg)
    (m' : (ℓ : Loc Cert.FirstAttnOutReferenceIdeal.nD Cert.FirstAttnOutReferenceIdeal.τ Cert.FirstAttnOutReferenceIdeal.sig) → Buf (Elt Ideal) ℓ) (g' : Dev Cert.FirstAttnOutReferenceIdeal.nD → PrngReg), Pre_FirstAttnOutKernelIdeal m →
    (∀ c : Dev Cert.FirstAttnOutKernelIdeal.nD,
      m' ((c.tc : Thread Cert.FirstAttnOutReferenceIdeal.nD Cert.FirstAttnOutReferenceIdeal.τ).loc Cert.FirstAttnOutReferenceIdeal.main_arg0) = m ((c.tc : Thread Cert.FirstAttnOutKernelIdeal.nD Cert.FirstAttnOutKernelIdeal.τ).loc Cert.FirstAttnOutKernelIdeal.main_arg0)
      ∧ m' ((c.tc : Thread Cert.FirstAttnOutReferenceIdeal.nD Cert.FirstAttnOutReferenceIdeal.τ).loc Cert.FirstAttnOutReferenceIdeal.main_arg1) = m ((c.tc : Thread Cert.FirstAttnOutKernelIdeal.nD Cert.FirstAttnOutKernelIdeal.τ).loc Cert.FirstAttnOutKernelIdeal.main_arg1)
      ∧ m' ((c.tc : Thread Cert.FirstAttnOutReferenceIdeal.nD Cert.FirstAttnOutReferenceIdeal.τ).loc Cert.FirstAttnOutReferenceIdeal.main_arg2) = m ((c.tc : Thread Cert.FirstAttnOutKernelIdeal.nD Cert.FirstAttnOutKernelIdeal.τ).loc Cert.FirstAttnOutKernelIdeal.main_arg2)
      ∧ m' ((c.tc : Thread Cert.FirstAttnOutReferenceIdeal.nD Cert.FirstAttnOutReferenceIdeal.τ).loc Cert.FirstAttnOutReferenceIdeal.main_arg3) = m ((c.tc : Thread Cert.FirstAttnOutKernelIdeal.nD Cert.FirstAttnOutKernelIdeal.τ).loc Cert.FirstAttnOutKernelIdeal.main_arg3)) →
    ∃ (v0 : (c : Dev Cert.FirstAttnOutKernelIdeal.nD) → Buf (Elt Ideal) ((c.tc : Thread Cert.FirstAttnOutKernelIdeal.nD Cert.FirstAttnOutKernelIdeal.τ).loc Cert.FirstAttnOutKernelIdeal.main_v4_0)) (v1 : (c : Dev Cert.FirstAttnOutKernelIdeal.nD) → Buf (Elt Ideal) ((c.tc : Thread Cert.FirstAttnOutKernelIdeal.nD Cert.FirstAttnOutKernelIdeal.τ).loc Cert.FirstAttnOutKernelIdeal.main_v4_1)),
      θ_run (Cert.FirstAttnOutKernelIdeal.defs (F := Ideal)) (onTc (τ := Cert.FirstAttnOutKernelIdeal.τ) (Cert.FirstAttnOutKernelIdeal.main (F := Ideal))) ⟨m, fun _ => 0, g⟩ (fun r => ∀ c : Dev Cert.FirstAttnOutKernelIdeal.nD,
          r.2.mem ((c.tc : Thread Cert.FirstAttnOutKernelIdeal.nD Cert.FirstAttnOutKernelIdeal.τ).loc Cert.FirstAttnOutKernelIdeal.main_v4_0) = v0 c
          ∧ r.2.mem ((c.tc : Thread Cert.FirstAttnOutKernelIdeal.nD Cert.FirstAttnOutKernelIdeal.τ).loc Cert.FirstAttnOutKernelIdeal.main_v4_1) = v1 c
          ∧ r.2.mem ((c.tc : Thread Cert.FirstAttnOutKernelIdeal.nD Cert.FirstAttnOutKernelIdeal.τ).loc Cert.FirstAttnOutKernelIdeal.main_arg0) = m ((c.tc : Thread Cert.FirstAttnOutKernelIdeal.nD Cert.FirstAttnOutKernelIdeal.τ).loc Cert.FirstAttnOutKernelIdeal.main_arg0)
          ∧ r.2.mem ((c.tc : Thread Cert.FirstAttnOutKernelIdeal.nD Cert.FirstAttnOutKernelIdeal.τ).loc Cert.FirstAttnOutKernelIdeal.main_arg1) = m ((c.tc : Thread Cert.FirstAttnOutKernelIdeal.nD Cert.FirstAttnOutKernelIdeal.τ).loc Cert.FirstAttnOutKernelIdeal.main_arg1)
          ∧ r.2.mem ((c.tc : Thread Cert.FirstAttnOutKernelIdeal.nD Cert.FirstAttnOutKernelIdeal.τ).loc Cert.FirstAttnOutKernelIdeal.main_arg2) = m ((c.tc : Thread Cert.FirstAttnOutKernelIdeal.nD Cert.FirstAttnOutKernelIdeal.τ).loc Cert.FirstAttnOutKernelIdeal.main_arg2)
          ∧ r.2.mem ((c.tc : Thread Cert.FirstAttnOutKernelIdeal.nD Cert.FirstAttnOutKernelIdeal.τ).loc Cert.FirstAttnOutKernelIdeal.main_arg3) = m ((c.tc : Thread Cert.FirstAttnOutKernelIdeal.nD Cert.FirstAttnOutKernelIdeal.τ).loc Cert.FirstAttnOutKernelIdeal.main_arg3))
      ∧ θ_run (Cert.FirstAttnOutReferenceIdeal.defs (F := Ideal)) (onTc (τ := Cert.FirstAttnOutReferenceIdeal.τ) (Cert.FirstAttnOutReferenceIdeal.main (F := Ideal))) ⟨m', fun _ => 0, g'⟩ (fun r => ∀ c : Dev Cert.FirstAttnOutReferenceIdeal.nD,
          r.2.mem ((c.tc : Thread Cert.FirstAttnOutReferenceIdeal.nD Cert.FirstAttnOutReferenceIdeal.τ).loc Cert.FirstAttnOutReferenceIdeal.main_v3) = v0 c
          ∧ r.2.mem ((c.tc : Thread Cert.FirstAttnOutReferenceIdeal.nD Cert.FirstAttnOutReferenceIdeal.τ).loc Cert.FirstAttnOutReferenceIdeal.main_v17) = v1 c
          ∧ r.2.mem ((c.tc : Thread Cert.FirstAttnOutReferenceIdeal.nD Cert.FirstAttnOutReferenceIdeal.τ).loc Cert.FirstAttnOutReferenceIdeal.main_arg0) = m' ((c.tc : Thread Cert.FirstAttnOutReferenceIdeal.nD Cert.FirstAttnOutReferenceIdeal.τ).loc Cert.FirstAttnOutReferenceIdeal.main_arg0)
          ∧ r.2.mem ((c.tc : Thread Cert.FirstAttnOutReferenceIdeal.nD Cert.FirstAttnOutReferenceIdeal.τ).loc Cert.FirstAttnOutReferenceIdeal.main_arg1) = m' ((c.tc : Thread Cert.FirstAttnOutReferenceIdeal.nD Cert.FirstAttnOutReferenceIdeal.τ).loc Cert.FirstAttnOutReferenceIdeal.main_arg1)
          ∧ r.2.mem ((c.tc : Thread Cert.FirstAttnOutReferenceIdeal.nD Cert.FirstAttnOutReferenceIdeal.τ).loc Cert.FirstAttnOutReferenceIdeal.main_arg2) = m' ((c.tc : Thread Cert.FirstAttnOutReferenceIdeal.nD Cert.FirstAttnOutReferenceIdeal.τ).loc Cert.FirstAttnOutReferenceIdeal.main_arg2)
          ∧ r.2.mem ((c.tc : Thread Cert.FirstAttnOutReferenceIdeal.nD Cert.FirstAttnOutReferenceIdeal.τ).loc Cert.FirstAttnOutReferenceIdeal.main_arg3) = m' ((c.tc : Thread Cert.FirstAttnOutReferenceIdeal.nD Cert.FirstAttnOutReferenceIdeal.τ).loc Cert.FirstAttnOutReferenceIdeal.main_arg3))

def preserves_FirstConvOutKernel_FirstConvOutKernelIdeal : Prop :=
  True

def algebraic_FirstConvOutKernelIdeal_FirstConvOutReferenceIdeal [hFirstConvOutKernelIdeal : Cert.FirstConvOutKernelIdeal.Facts] [hFirstConvOutReferenceIdeal : Cert.FirstConvOutReferenceIdeal.Facts] : Prop :=
  ∀ (m : (ℓ : Loc Cert.FirstConvOutKernelIdeal.nD Cert.FirstConvOutKernelIdeal.τ Cert.FirstConvOutKernelIdeal.sig) → Buf (Elt Ideal) ℓ) (g : Dev Cert.FirstConvOutKernelIdeal.nD → PrngReg)
    (m' : (ℓ : Loc Cert.FirstConvOutReferenceIdeal.nD Cert.FirstConvOutReferenceIdeal.τ Cert.FirstConvOutReferenceIdeal.sig) → Buf (Elt Ideal) ℓ) (g' : Dev Cert.FirstConvOutReferenceIdeal.nD → PrngReg), Pre_FirstConvOutKernelIdeal m →
    (∀ c : Dev Cert.FirstConvOutKernelIdeal.nD,
      m' ((c.tc : Thread Cert.FirstConvOutReferenceIdeal.nD Cert.FirstConvOutReferenceIdeal.τ).loc Cert.FirstConvOutReferenceIdeal.main_arg0) = m ((c.tc : Thread Cert.FirstConvOutKernelIdeal.nD Cert.FirstConvOutKernelIdeal.τ).loc Cert.FirstConvOutKernelIdeal.main_arg0)
      ∧ m' ((c.tc : Thread Cert.FirstConvOutReferenceIdeal.nD Cert.FirstConvOutReferenceIdeal.τ).loc Cert.FirstConvOutReferenceIdeal.main_arg1) = m ((c.tc : Thread Cert.FirstConvOutKernelIdeal.nD Cert.FirstConvOutKernelIdeal.τ).loc Cert.FirstConvOutKernelIdeal.main_arg1)
      ∧ m' ((c.tc : Thread Cert.FirstConvOutReferenceIdeal.nD Cert.FirstConvOutReferenceIdeal.τ).loc Cert.FirstConvOutReferenceIdeal.main_arg2) = m ((c.tc : Thread Cert.FirstConvOutKernelIdeal.nD Cert.FirstConvOutKernelIdeal.τ).loc Cert.FirstConvOutKernelIdeal.main_arg2)
      ∧ m' ((c.tc : Thread Cert.FirstConvOutReferenceIdeal.nD Cert.FirstConvOutReferenceIdeal.τ).loc Cert.FirstConvOutReferenceIdeal.main_arg3) = m ((c.tc : Thread Cert.FirstConvOutKernelIdeal.nD Cert.FirstConvOutKernelIdeal.τ).loc Cert.FirstConvOutKernelIdeal.main_arg3)
      ∧ m' ((c.tc : Thread Cert.FirstConvOutReferenceIdeal.nD Cert.FirstConvOutReferenceIdeal.τ).loc Cert.FirstConvOutReferenceIdeal.main_arg4) = m ((c.tc : Thread Cert.FirstConvOutKernelIdeal.nD Cert.FirstConvOutKernelIdeal.τ).loc Cert.FirstConvOutKernelIdeal.main_arg4)) →
    ∃ (v0 : (c : Dev Cert.FirstConvOutKernelIdeal.nD) → Buf (Elt Ideal) ((c.tc : Thread Cert.FirstConvOutKernelIdeal.nD Cert.FirstConvOutKernelIdeal.τ).loc Cert.FirstConvOutKernelIdeal.main_v5_0)) (v1 : (c : Dev Cert.FirstConvOutKernelIdeal.nD) → Buf (Elt Ideal) ((c.tc : Thread Cert.FirstConvOutKernelIdeal.nD Cert.FirstConvOutKernelIdeal.τ).loc Cert.FirstConvOutKernelIdeal.main_v5_1)),
      θ_run (Cert.FirstConvOutKernelIdeal.defs (F := Ideal)) (onTc (τ := Cert.FirstConvOutKernelIdeal.τ) (Cert.FirstConvOutKernelIdeal.main (F := Ideal))) ⟨m, fun _ => 0, g⟩ (fun r => ∀ c : Dev Cert.FirstConvOutKernelIdeal.nD,
          r.2.mem ((c.tc : Thread Cert.FirstConvOutKernelIdeal.nD Cert.FirstConvOutKernelIdeal.τ).loc Cert.FirstConvOutKernelIdeal.main_v5_0) = v0 c
          ∧ r.2.mem ((c.tc : Thread Cert.FirstConvOutKernelIdeal.nD Cert.FirstConvOutKernelIdeal.τ).loc Cert.FirstConvOutKernelIdeal.main_v5_1) = v1 c
          ∧ r.2.mem ((c.tc : Thread Cert.FirstConvOutKernelIdeal.nD Cert.FirstConvOutKernelIdeal.τ).loc Cert.FirstConvOutKernelIdeal.main_arg0) = m ((c.tc : Thread Cert.FirstConvOutKernelIdeal.nD Cert.FirstConvOutKernelIdeal.τ).loc Cert.FirstConvOutKernelIdeal.main_arg0)
          ∧ r.2.mem ((c.tc : Thread Cert.FirstConvOutKernelIdeal.nD Cert.FirstConvOutKernelIdeal.τ).loc Cert.FirstConvOutKernelIdeal.main_arg1) = m ((c.tc : Thread Cert.FirstConvOutKernelIdeal.nD Cert.FirstConvOutKernelIdeal.τ).loc Cert.FirstConvOutKernelIdeal.main_arg1)
          ∧ r.2.mem ((c.tc : Thread Cert.FirstConvOutKernelIdeal.nD Cert.FirstConvOutKernelIdeal.τ).loc Cert.FirstConvOutKernelIdeal.main_arg2) = m ((c.tc : Thread Cert.FirstConvOutKernelIdeal.nD Cert.FirstConvOutKernelIdeal.τ).loc Cert.FirstConvOutKernelIdeal.main_arg2)
          ∧ r.2.mem ((c.tc : Thread Cert.FirstConvOutKernelIdeal.nD Cert.FirstConvOutKernelIdeal.τ).loc Cert.FirstConvOutKernelIdeal.main_arg3) = m ((c.tc : Thread Cert.FirstConvOutKernelIdeal.nD Cert.FirstConvOutKernelIdeal.τ).loc Cert.FirstConvOutKernelIdeal.main_arg3)
          ∧ r.2.mem ((c.tc : Thread Cert.FirstConvOutKernelIdeal.nD Cert.FirstConvOutKernelIdeal.τ).loc Cert.FirstConvOutKernelIdeal.main_arg4) = m ((c.tc : Thread Cert.FirstConvOutKernelIdeal.nD Cert.FirstConvOutKernelIdeal.τ).loc Cert.FirstConvOutKernelIdeal.main_arg4))
      ∧ θ_run (Cert.FirstConvOutReferenceIdeal.defs (F := Ideal)) (onTc (τ := Cert.FirstConvOutReferenceIdeal.τ) (Cert.FirstConvOutReferenceIdeal.main (F := Ideal))) ⟨m', fun _ => 0, g'⟩ (fun r => ∀ c : Dev Cert.FirstConvOutReferenceIdeal.nD,
          r.2.mem ((c.tc : Thread Cert.FirstConvOutReferenceIdeal.nD Cert.FirstConvOutReferenceIdeal.τ).loc Cert.FirstConvOutReferenceIdeal.main_v6) = v0 c
          ∧ r.2.mem ((c.tc : Thread Cert.FirstConvOutReferenceIdeal.nD Cert.FirstConvOutReferenceIdeal.τ).loc Cert.FirstConvOutReferenceIdeal.main_v20) = v1 c
          ∧ r.2.mem ((c.tc : Thread Cert.FirstConvOutReferenceIdeal.nD Cert.FirstConvOutReferenceIdeal.τ).loc Cert.FirstConvOutReferenceIdeal.main_arg0) = m' ((c.tc : Thread Cert.FirstConvOutReferenceIdeal.nD Cert.FirstConvOutReferenceIdeal.τ).loc Cert.FirstConvOutReferenceIdeal.main_arg0)
          ∧ r.2.mem ((c.tc : Thread Cert.FirstConvOutReferenceIdeal.nD Cert.FirstConvOutReferenceIdeal.τ).loc Cert.FirstConvOutReferenceIdeal.main_arg1) = m' ((c.tc : Thread Cert.FirstConvOutReferenceIdeal.nD Cert.FirstConvOutReferenceIdeal.τ).loc Cert.FirstConvOutReferenceIdeal.main_arg1)
          ∧ r.2.mem ((c.tc : Thread Cert.FirstConvOutReferenceIdeal.nD Cert.FirstConvOutReferenceIdeal.τ).loc Cert.FirstConvOutReferenceIdeal.main_arg2) = m' ((c.tc : Thread Cert.FirstConvOutReferenceIdeal.nD Cert.FirstConvOutReferenceIdeal.τ).loc Cert.FirstConvOutReferenceIdeal.main_arg2)
          ∧ r.2.mem ((c.tc : Thread Cert.FirstConvOutReferenceIdeal.nD Cert.FirstConvOutReferenceIdeal.τ).loc Cert.FirstConvOutReferenceIdeal.main_arg3) = m' ((c.tc : Thread Cert.FirstConvOutReferenceIdeal.nD Cert.FirstConvOutReferenceIdeal.τ).loc Cert.FirstConvOutReferenceIdeal.main_arg3)
          ∧ r.2.mem ((c.tc : Thread Cert.FirstConvOutReferenceIdeal.nD Cert.FirstConvOutReferenceIdeal.τ).loc Cert.FirstConvOutReferenceIdeal.main_arg4) = m' ((c.tc : Thread Cert.FirstConvOutReferenceIdeal.nD Cert.FirstConvOutReferenceIdeal.τ).loc Cert.FirstConvOutReferenceIdeal.main_arg4))

def preserves_MixStepKernel_MixStepKernelIdeal : Prop :=
  True

def algebraic_MixStepKernelIdeal_MixStepReferenceIdeal [hMixStepKernelIdeal : Cert.MixStepKernelIdeal.Facts] [hMixStepReferenceIdeal : Cert.MixStepReferenceIdeal.Facts] : Prop :=
  ∀ (m : (ℓ : Loc Cert.MixStepKernelIdeal.nD Cert.MixStepKernelIdeal.τ Cert.MixStepKernelIdeal.sig) → Buf (Elt Ideal) ℓ) (g : Dev Cert.MixStepKernelIdeal.nD → PrngReg)
    (m' : (ℓ : Loc Cert.MixStepReferenceIdeal.nD Cert.MixStepReferenceIdeal.τ Cert.MixStepReferenceIdeal.sig) → Buf (Elt Ideal) ℓ) (g' : Dev Cert.MixStepReferenceIdeal.nD → PrngReg), Pre_MixStepKernelIdeal m →
    (∀ c : Dev Cert.MixStepKernelIdeal.nD,
      m' ((c.tc : Thread Cert.MixStepReferenceIdeal.nD Cert.MixStepReferenceIdeal.τ).loc Cert.MixStepReferenceIdeal.main_arg0) = m ((c.tc : Thread Cert.MixStepKernelIdeal.nD Cert.MixStepKernelIdeal.τ).loc Cert.MixStepKernelIdeal.main_arg0)
      ∧ m' ((c.tc : Thread Cert.MixStepReferenceIdeal.nD Cert.MixStepReferenceIdeal.τ).loc Cert.MixStepReferenceIdeal.main_arg1) = m ((c.tc : Thread Cert.MixStepKernelIdeal.nD Cert.MixStepKernelIdeal.τ).loc Cert.MixStepKernelIdeal.main_arg1)
      ∧ m' ((c.tc : Thread Cert.MixStepReferenceIdeal.nD Cert.MixStepReferenceIdeal.τ).loc Cert.MixStepReferenceIdeal.main_arg2) = m ((c.tc : Thread Cert.MixStepKernelIdeal.nD Cert.MixStepKernelIdeal.τ).loc Cert.MixStepKernelIdeal.main_arg2)
      ∧ m' ((c.tc : Thread Cert.MixStepReferenceIdeal.nD Cert.MixStepReferenceIdeal.τ).loc Cert.MixStepReferenceIdeal.main_arg3) = m ((c.tc : Thread Cert.MixStepKernelIdeal.nD Cert.MixStepKernelIdeal.τ).loc Cert.MixStepKernelIdeal.main_arg3)) →
    ∃ (v0 : (c : Dev Cert.MixStepKernelIdeal.nD) → Buf (Elt Ideal) ((c.tc : Thread Cert.MixStepKernelIdeal.nD Cert.MixStepKernelIdeal.τ).loc Cert.MixStepKernelIdeal.main_v0_0)) (v1 : (c : Dev Cert.MixStepKernelIdeal.nD) → Buf (Elt Ideal) ((c.tc : Thread Cert.MixStepKernelIdeal.nD Cert.MixStepKernelIdeal.τ).loc Cert.MixStepKernelIdeal.main_v0_1)) (v2 : (c : Dev Cert.MixStepKernelIdeal.nD) → Buf (Elt Ideal) ((c.tc : Thread Cert.MixStepKernelIdeal.nD Cert.MixStepKernelIdeal.τ).loc Cert.MixStepKernelIdeal.main_v0_2)),
      θ_run (Cert.MixStepKernelIdeal.defs (F := Ideal)) (onTc (τ := Cert.MixStepKernelIdeal.τ) (Cert.MixStepKernelIdeal.main (F := Ideal))) ⟨m, fun _ => 0, g⟩ (fun r => ∀ c : Dev Cert.MixStepKernelIdeal.nD,
          r.2.mem ((c.tc : Thread Cert.MixStepKernelIdeal.nD Cert.MixStepKernelIdeal.τ).loc Cert.MixStepKernelIdeal.main_v0_0) = v0 c
          ∧ r.2.mem ((c.tc : Thread Cert.MixStepKernelIdeal.nD Cert.MixStepKernelIdeal.τ).loc Cert.MixStepKernelIdeal.main_v0_1) = v1 c
          ∧ r.2.mem ((c.tc : Thread Cert.MixStepKernelIdeal.nD Cert.MixStepKernelIdeal.τ).loc Cert.MixStepKernelIdeal.main_v0_2) = v2 c
          ∧ r.2.mem ((c.tc : Thread Cert.MixStepKernelIdeal.nD Cert.MixStepKernelIdeal.τ).loc Cert.MixStepKernelIdeal.main_arg0) = m ((c.tc : Thread Cert.MixStepKernelIdeal.nD Cert.MixStepKernelIdeal.τ).loc Cert.MixStepKernelIdeal.main_arg0)
          ∧ r.2.mem ((c.tc : Thread Cert.MixStepKernelIdeal.nD Cert.MixStepKernelIdeal.τ).loc Cert.MixStepKernelIdeal.main_arg1) = m ((c.tc : Thread Cert.MixStepKernelIdeal.nD Cert.MixStepKernelIdeal.τ).loc Cert.MixStepKernelIdeal.main_arg1)
          ∧ r.2.mem ((c.tc : Thread Cert.MixStepKernelIdeal.nD Cert.MixStepKernelIdeal.τ).loc Cert.MixStepKernelIdeal.main_arg2) = m ((c.tc : Thread Cert.MixStepKernelIdeal.nD Cert.MixStepKernelIdeal.τ).loc Cert.MixStepKernelIdeal.main_arg2)
          ∧ r.2.mem ((c.tc : Thread Cert.MixStepKernelIdeal.nD Cert.MixStepKernelIdeal.τ).loc Cert.MixStepKernelIdeal.main_arg3) = m ((c.tc : Thread Cert.MixStepKernelIdeal.nD Cert.MixStepKernelIdeal.τ).loc Cert.MixStepKernelIdeal.main_arg3))
      ∧ θ_run (Cert.MixStepReferenceIdeal.defs (F := Ideal)) (onTc (τ := Cert.MixStepReferenceIdeal.τ) (Cert.MixStepReferenceIdeal.main (F := Ideal))) ⟨m', fun _ => 0, g'⟩ (fun r => ∀ c : Dev Cert.MixStepReferenceIdeal.nD,
          r.2.mem ((c.tc : Thread Cert.MixStepReferenceIdeal.nD Cert.MixStepReferenceIdeal.τ).loc Cert.MixStepReferenceIdeal.main_v23) = v0 c
          ∧ r.2.mem ((c.tc : Thread Cert.MixStepReferenceIdeal.nD Cert.MixStepReferenceIdeal.τ).loc Cert.MixStepReferenceIdeal.main_v4) = v1 c
          ∧ r.2.mem ((c.tc : Thread Cert.MixStepReferenceIdeal.nD Cert.MixStepReferenceIdeal.τ).loc Cert.MixStepReferenceIdeal.main_v10) = v2 c
          ∧ r.2.mem ((c.tc : Thread Cert.MixStepReferenceIdeal.nD Cert.MixStepReferenceIdeal.τ).loc Cert.MixStepReferenceIdeal.main_arg0) = m' ((c.tc : Thread Cert.MixStepReferenceIdeal.nD Cert.MixStepReferenceIdeal.τ).loc Cert.MixStepReferenceIdeal.main_arg0)
          ∧ r.2.mem ((c.tc : Thread Cert.MixStepReferenceIdeal.nD Cert.MixStepReferenceIdeal.τ).loc Cert.MixStepReferenceIdeal.main_arg1) = m' ((c.tc : Thread Cert.MixStepReferenceIdeal.nD Cert.MixStepReferenceIdeal.τ).loc Cert.MixStepReferenceIdeal.main_arg1)
          ∧ r.2.mem ((c.tc : Thread Cert.MixStepReferenceIdeal.nD Cert.MixStepReferenceIdeal.τ).loc Cert.MixStepReferenceIdeal.main_arg2) = m' ((c.tc : Thread Cert.MixStepReferenceIdeal.nD Cert.MixStepReferenceIdeal.τ).loc Cert.MixStepReferenceIdeal.main_arg2)
          ∧ r.2.mem ((c.tc : Thread Cert.MixStepReferenceIdeal.nD Cert.MixStepReferenceIdeal.τ).loc Cert.MixStepReferenceIdeal.main_arg3) = m' ((c.tc : Thread Cert.MixStepReferenceIdeal.nD Cert.MixStepReferenceIdeal.τ).loc Cert.MixStepReferenceIdeal.main_arg3))

def preserves_ConvStepKernel_ConvStepKernelIdeal : Prop :=
  True

def algebraic_ConvStepKernelIdeal_ConvStepReferenceIdeal [hConvStepKernelIdeal : Cert.ConvStepKernelIdeal.Facts] [hConvStepReferenceIdeal : Cert.ConvStepReferenceIdeal.Facts] : Prop :=
  ∀ (m : (ℓ : Loc Cert.ConvStepKernelIdeal.nD Cert.ConvStepKernelIdeal.τ Cert.ConvStepKernelIdeal.sig) → Buf (Elt Ideal) ℓ) (g : Dev Cert.ConvStepKernelIdeal.nD → PrngReg)
    (m' : (ℓ : Loc Cert.ConvStepReferenceIdeal.nD Cert.ConvStepReferenceIdeal.τ Cert.ConvStepReferenceIdeal.sig) → Buf (Elt Ideal) ℓ) (g' : Dev Cert.ConvStepReferenceIdeal.nD → PrngReg), Pre_ConvStepKernelIdeal m →
    (∀ c : Dev Cert.ConvStepKernelIdeal.nD,
      m' ((c.tc : Thread Cert.ConvStepReferenceIdeal.nD Cert.ConvStepReferenceIdeal.τ).loc Cert.ConvStepReferenceIdeal.main_arg0) = m ((c.tc : Thread Cert.ConvStepKernelIdeal.nD Cert.ConvStepKernelIdeal.τ).loc Cert.ConvStepKernelIdeal.main_arg0)
      ∧ m' ((c.tc : Thread Cert.ConvStepReferenceIdeal.nD Cert.ConvStepReferenceIdeal.τ).loc Cert.ConvStepReferenceIdeal.main_arg1) = m ((c.tc : Thread Cert.ConvStepKernelIdeal.nD Cert.ConvStepKernelIdeal.τ).loc Cert.ConvStepKernelIdeal.main_arg1)
      ∧ m' ((c.tc : Thread Cert.ConvStepReferenceIdeal.nD Cert.ConvStepReferenceIdeal.τ).loc Cert.ConvStepReferenceIdeal.main_arg2) = m ((c.tc : Thread Cert.ConvStepKernelIdeal.nD Cert.ConvStepKernelIdeal.τ).loc Cert.ConvStepKernelIdeal.main_arg2)
      ∧ m' ((c.tc : Thread Cert.ConvStepReferenceIdeal.nD Cert.ConvStepReferenceIdeal.τ).loc Cert.ConvStepReferenceIdeal.main_arg3) = m ((c.tc : Thread Cert.ConvStepKernelIdeal.nD Cert.ConvStepKernelIdeal.τ).loc Cert.ConvStepKernelIdeal.main_arg3)) →
    ∃ (v0 : (c : Dev Cert.ConvStepKernelIdeal.nD) → Buf (Elt Ideal) ((c.tc : Thread Cert.ConvStepKernelIdeal.nD Cert.ConvStepKernelIdeal.τ).loc Cert.ConvStepKernelIdeal.main_v0_0)) (v1 : (c : Dev Cert.ConvStepKernelIdeal.nD) → Buf (Elt Ideal) ((c.tc : Thread Cert.ConvStepKernelIdeal.nD Cert.ConvStepKernelIdeal.τ).loc Cert.ConvStepKernelIdeal.main_v0_1)) (v2 : (c : Dev Cert.ConvStepKernelIdeal.nD) → Buf (Elt Ideal) ((c.tc : Thread Cert.ConvStepKernelIdeal.nD Cert.ConvStepKernelIdeal.τ).loc Cert.ConvStepKernelIdeal.main_v0_2)),
      θ_run (Cert.ConvStepKernelIdeal.defs (F := Ideal)) (onTc (τ := Cert.ConvStepKernelIdeal.τ) (Cert.ConvStepKernelIdeal.main (F := Ideal))) ⟨m, fun _ => 0, g⟩ (fun r => ∀ c : Dev Cert.ConvStepKernelIdeal.nD,
          r.2.mem ((c.tc : Thread Cert.ConvStepKernelIdeal.nD Cert.ConvStepKernelIdeal.τ).loc Cert.ConvStepKernelIdeal.main_v0_0) = v0 c
          ∧ r.2.mem ((c.tc : Thread Cert.ConvStepKernelIdeal.nD Cert.ConvStepKernelIdeal.τ).loc Cert.ConvStepKernelIdeal.main_v0_1) = v1 c
          ∧ r.2.mem ((c.tc : Thread Cert.ConvStepKernelIdeal.nD Cert.ConvStepKernelIdeal.τ).loc Cert.ConvStepKernelIdeal.main_v0_2) = v2 c
          ∧ r.2.mem ((c.tc : Thread Cert.ConvStepKernelIdeal.nD Cert.ConvStepKernelIdeal.τ).loc Cert.ConvStepKernelIdeal.main_arg0) = m ((c.tc : Thread Cert.ConvStepKernelIdeal.nD Cert.ConvStepKernelIdeal.τ).loc Cert.ConvStepKernelIdeal.main_arg0)
          ∧ r.2.mem ((c.tc : Thread Cert.ConvStepKernelIdeal.nD Cert.ConvStepKernelIdeal.τ).loc Cert.ConvStepKernelIdeal.main_arg1) = m ((c.tc : Thread Cert.ConvStepKernelIdeal.nD Cert.ConvStepKernelIdeal.τ).loc Cert.ConvStepKernelIdeal.main_arg1)
          ∧ r.2.mem ((c.tc : Thread Cert.ConvStepKernelIdeal.nD Cert.ConvStepKernelIdeal.τ).loc Cert.ConvStepKernelIdeal.main_arg2) = m ((c.tc : Thread Cert.ConvStepKernelIdeal.nD Cert.ConvStepKernelIdeal.τ).loc Cert.ConvStepKernelIdeal.main_arg2)
          ∧ r.2.mem ((c.tc : Thread Cert.ConvStepKernelIdeal.nD Cert.ConvStepKernelIdeal.τ).loc Cert.ConvStepKernelIdeal.main_arg3) = m ((c.tc : Thread Cert.ConvStepKernelIdeal.nD Cert.ConvStepKernelIdeal.τ).loc Cert.ConvStepKernelIdeal.main_arg3))
      ∧ θ_run (Cert.ConvStepReferenceIdeal.defs (F := Ideal)) (onTc (τ := Cert.ConvStepReferenceIdeal.τ) (Cert.ConvStepReferenceIdeal.main (F := Ideal))) ⟨m', fun _ => 0, g'⟩ (fun r => ∀ c : Dev Cert.ConvStepReferenceIdeal.nD,
          r.2.mem ((c.tc : Thread Cert.ConvStepReferenceIdeal.nD Cert.ConvStepReferenceIdeal.τ).loc Cert.ConvStepReferenceIdeal.main_v23) = v0 c
          ∧ r.2.mem ((c.tc : Thread Cert.ConvStepReferenceIdeal.nD Cert.ConvStepReferenceIdeal.τ).loc Cert.ConvStepReferenceIdeal.main_v4) = v1 c
          ∧ r.2.mem ((c.tc : Thread Cert.ConvStepReferenceIdeal.nD Cert.ConvStepReferenceIdeal.τ).loc Cert.ConvStepReferenceIdeal.main_v10) = v2 c
          ∧ r.2.mem ((c.tc : Thread Cert.ConvStepReferenceIdeal.nD Cert.ConvStepReferenceIdeal.τ).loc Cert.ConvStepReferenceIdeal.main_arg0) = m' ((c.tc : Thread Cert.ConvStepReferenceIdeal.nD Cert.ConvStepReferenceIdeal.τ).loc Cert.ConvStepReferenceIdeal.main_arg0)
          ∧ r.2.mem ((c.tc : Thread Cert.ConvStepReferenceIdeal.nD Cert.ConvStepReferenceIdeal.τ).loc Cert.ConvStepReferenceIdeal.main_arg1) = m' ((c.tc : Thread Cert.ConvStepReferenceIdeal.nD Cert.ConvStepReferenceIdeal.τ).loc Cert.ConvStepReferenceIdeal.main_arg1)
          ∧ r.2.mem ((c.tc : Thread Cert.ConvStepReferenceIdeal.nD Cert.ConvStepReferenceIdeal.τ).loc Cert.ConvStepReferenceIdeal.main_arg2) = m' ((c.tc : Thread Cert.ConvStepReferenceIdeal.nD Cert.ConvStepReferenceIdeal.τ).loc Cert.ConvStepReferenceIdeal.main_arg2)
          ∧ r.2.mem ((c.tc : Thread Cert.ConvStepReferenceIdeal.nD Cert.ConvStepReferenceIdeal.τ).loc Cert.ConvStepReferenceIdeal.main_arg3) = m' ((c.tc : Thread Cert.ConvStepReferenceIdeal.nD Cert.ConvStepReferenceIdeal.τ).loc Cert.ConvStepReferenceIdeal.main_arg3))

def preserves_SquareStepKernel_SquareStepKernelIdeal : Prop :=
  True

def algebraic_SquareStepKernelIdeal_SquareStepReferenceIdeal [hSquareStepKernelIdeal : Cert.SquareStepKernelIdeal.Facts] [hSquareStepReferenceIdeal : Cert.SquareStepReferenceIdeal.Facts] : Prop :=
  ∀ (m : (ℓ : Loc Cert.SquareStepKernelIdeal.nD Cert.SquareStepKernelIdeal.τ Cert.SquareStepKernelIdeal.sig) → Buf (Elt Ideal) ℓ) (g : Dev Cert.SquareStepKernelIdeal.nD → PrngReg)
    (m' : (ℓ : Loc Cert.SquareStepReferenceIdeal.nD Cert.SquareStepReferenceIdeal.τ Cert.SquareStepReferenceIdeal.sig) → Buf (Elt Ideal) ℓ) (g' : Dev Cert.SquareStepReferenceIdeal.nD → PrngReg), Pre_SquareStepKernelIdeal m →
    (∀ c : Dev Cert.SquareStepKernelIdeal.nD,
      m' ((c.tc : Thread Cert.SquareStepReferenceIdeal.nD Cert.SquareStepReferenceIdeal.τ).loc Cert.SquareStepReferenceIdeal.main_arg0) = m ((c.tc : Thread Cert.SquareStepKernelIdeal.nD Cert.SquareStepKernelIdeal.τ).loc Cert.SquareStepKernelIdeal.main_arg0)
      ∧ m' ((c.tc : Thread Cert.SquareStepReferenceIdeal.nD Cert.SquareStepReferenceIdeal.τ).loc Cert.SquareStepReferenceIdeal.main_arg1) = m ((c.tc : Thread Cert.SquareStepKernelIdeal.nD Cert.SquareStepKernelIdeal.τ).loc Cert.SquareStepKernelIdeal.main_arg1)
      ∧ m' ((c.tc : Thread Cert.SquareStepReferenceIdeal.nD Cert.SquareStepReferenceIdeal.τ).loc Cert.SquareStepReferenceIdeal.main_arg2) = m ((c.tc : Thread Cert.SquareStepKernelIdeal.nD Cert.SquareStepKernelIdeal.τ).loc Cert.SquareStepKernelIdeal.main_arg2)
      ∧ m' ((c.tc : Thread Cert.SquareStepReferenceIdeal.nD Cert.SquareStepReferenceIdeal.τ).loc Cert.SquareStepReferenceIdeal.main_arg3) = m ((c.tc : Thread Cert.SquareStepKernelIdeal.nD Cert.SquareStepKernelIdeal.τ).loc Cert.SquareStepKernelIdeal.main_arg3)) →
    ∃ (v0 : (c : Dev Cert.SquareStepKernelIdeal.nD) → Buf (Elt Ideal) ((c.tc : Thread Cert.SquareStepKernelIdeal.nD Cert.SquareStepKernelIdeal.τ).loc Cert.SquareStepKernelIdeal.main_v0_0)) (v1 : (c : Dev Cert.SquareStepKernelIdeal.nD) → Buf (Elt Ideal) ((c.tc : Thread Cert.SquareStepKernelIdeal.nD Cert.SquareStepKernelIdeal.τ).loc Cert.SquareStepKernelIdeal.main_v0_1)) (v2 : (c : Dev Cert.SquareStepKernelIdeal.nD) → Buf (Elt Ideal) ((c.tc : Thread Cert.SquareStepKernelIdeal.nD Cert.SquareStepKernelIdeal.τ).loc Cert.SquareStepKernelIdeal.main_v0_2)),
      θ_run (Cert.SquareStepKernelIdeal.defs (F := Ideal)) (onTc (τ := Cert.SquareStepKernelIdeal.τ) (Cert.SquareStepKernelIdeal.main (F := Ideal))) ⟨m, fun _ => 0, g⟩ (fun r => ∀ c : Dev Cert.SquareStepKernelIdeal.nD,
          r.2.mem ((c.tc : Thread Cert.SquareStepKernelIdeal.nD Cert.SquareStepKernelIdeal.τ).loc Cert.SquareStepKernelIdeal.main_v0_0) = v0 c
          ∧ r.2.mem ((c.tc : Thread Cert.SquareStepKernelIdeal.nD Cert.SquareStepKernelIdeal.τ).loc Cert.SquareStepKernelIdeal.main_v0_1) = v1 c
          ∧ r.2.mem ((c.tc : Thread Cert.SquareStepKernelIdeal.nD Cert.SquareStepKernelIdeal.τ).loc Cert.SquareStepKernelIdeal.main_v0_2) = v2 c
          ∧ r.2.mem ((c.tc : Thread Cert.SquareStepKernelIdeal.nD Cert.SquareStepKernelIdeal.τ).loc Cert.SquareStepKernelIdeal.main_arg0) = m ((c.tc : Thread Cert.SquareStepKernelIdeal.nD Cert.SquareStepKernelIdeal.τ).loc Cert.SquareStepKernelIdeal.main_arg0)
          ∧ r.2.mem ((c.tc : Thread Cert.SquareStepKernelIdeal.nD Cert.SquareStepKernelIdeal.τ).loc Cert.SquareStepKernelIdeal.main_arg1) = m ((c.tc : Thread Cert.SquareStepKernelIdeal.nD Cert.SquareStepKernelIdeal.τ).loc Cert.SquareStepKernelIdeal.main_arg1)
          ∧ r.2.mem ((c.tc : Thread Cert.SquareStepKernelIdeal.nD Cert.SquareStepKernelIdeal.τ).loc Cert.SquareStepKernelIdeal.main_arg2) = m ((c.tc : Thread Cert.SquareStepKernelIdeal.nD Cert.SquareStepKernelIdeal.τ).loc Cert.SquareStepKernelIdeal.main_arg2)
          ∧ r.2.mem ((c.tc : Thread Cert.SquareStepKernelIdeal.nD Cert.SquareStepKernelIdeal.τ).loc Cert.SquareStepKernelIdeal.main_arg3) = m ((c.tc : Thread Cert.SquareStepKernelIdeal.nD Cert.SquareStepKernelIdeal.τ).loc Cert.SquareStepKernelIdeal.main_arg3))
      ∧ θ_run (Cert.SquareStepReferenceIdeal.defs (F := Ideal)) (onTc (τ := Cert.SquareStepReferenceIdeal.τ) (Cert.SquareStepReferenceIdeal.main (F := Ideal))) ⟨m', fun _ => 0, g'⟩ (fun r => ∀ c : Dev Cert.SquareStepReferenceIdeal.nD,
          r.2.mem ((c.tc : Thread Cert.SquareStepReferenceIdeal.nD Cert.SquareStepReferenceIdeal.τ).loc Cert.SquareStepReferenceIdeal.main_v23) = v0 c
          ∧ r.2.mem ((c.tc : Thread Cert.SquareStepReferenceIdeal.nD Cert.SquareStepReferenceIdeal.τ).loc Cert.SquareStepReferenceIdeal.main_v4) = v1 c
          ∧ r.2.mem ((c.tc : Thread Cert.SquareStepReferenceIdeal.nD Cert.SquareStepReferenceIdeal.τ).loc Cert.SquareStepReferenceIdeal.main_v10) = v2 c
          ∧ r.2.mem ((c.tc : Thread Cert.SquareStepReferenceIdeal.nD Cert.SquareStepReferenceIdeal.τ).loc Cert.SquareStepReferenceIdeal.main_arg0) = m' ((c.tc : Thread Cert.SquareStepReferenceIdeal.nD Cert.SquareStepReferenceIdeal.τ).loc Cert.SquareStepReferenceIdeal.main_arg0)
          ∧ r.2.mem ((c.tc : Thread Cert.SquareStepReferenceIdeal.nD Cert.SquareStepReferenceIdeal.τ).loc Cert.SquareStepReferenceIdeal.main_arg1) = m' ((c.tc : Thread Cert.SquareStepReferenceIdeal.nD Cert.SquareStepReferenceIdeal.τ).loc Cert.SquareStepReferenceIdeal.main_arg1)
          ∧ r.2.mem ((c.tc : Thread Cert.SquareStepReferenceIdeal.nD Cert.SquareStepReferenceIdeal.τ).loc Cert.SquareStepReferenceIdeal.main_arg2) = m' ((c.tc : Thread Cert.SquareStepReferenceIdeal.nD Cert.SquareStepReferenceIdeal.τ).loc Cert.SquareStepReferenceIdeal.main_arg2)
          ∧ r.2.mem ((c.tc : Thread Cert.SquareStepReferenceIdeal.nD Cert.SquareStepReferenceIdeal.τ).loc Cert.SquareStepReferenceIdeal.main_arg3) = m' ((c.tc : Thread Cert.SquareStepReferenceIdeal.nD Cert.SquareStepReferenceIdeal.τ).loc Cert.SquareStepReferenceIdeal.main_arg3))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v0_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v0_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v15) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_v16) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_SmallStepKernel_SmallStepKernelIdeal : Prop :=
  True

def algebraic_SmallStepKernelIdeal_SmallStepReferenceIdeal [hSmallStepKernelIdeal : Cert.SmallStepKernelIdeal.Facts] [hSmallStepReferenceIdeal : Cert.SmallStepReferenceIdeal.Facts] : Prop :=
  ∀ (m : (ℓ : Loc Cert.SmallStepKernelIdeal.nD Cert.SmallStepKernelIdeal.τ Cert.SmallStepKernelIdeal.sig) → Buf (Elt Ideal) ℓ) (g : Dev Cert.SmallStepKernelIdeal.nD → PrngReg)
    (m' : (ℓ : Loc Cert.SmallStepReferenceIdeal.nD Cert.SmallStepReferenceIdeal.τ Cert.SmallStepReferenceIdeal.sig) → Buf (Elt Ideal) ℓ) (g' : Dev Cert.SmallStepReferenceIdeal.nD → PrngReg), Pre_SmallStepKernelIdeal m →
    (∀ c : Dev Cert.SmallStepKernelIdeal.nD,
      m' ((c.tc : Thread Cert.SmallStepReferenceIdeal.nD Cert.SmallStepReferenceIdeal.τ).loc Cert.SmallStepReferenceIdeal.main_arg0) = m ((c.tc : Thread Cert.SmallStepKernelIdeal.nD Cert.SmallStepKernelIdeal.τ).loc Cert.SmallStepKernelIdeal.main_arg0)
      ∧ m' ((c.tc : Thread Cert.SmallStepReferenceIdeal.nD Cert.SmallStepReferenceIdeal.τ).loc Cert.SmallStepReferenceIdeal.main_arg1) = m ((c.tc : Thread Cert.SmallStepKernelIdeal.nD Cert.SmallStepKernelIdeal.τ).loc Cert.SmallStepKernelIdeal.main_arg1)
      ∧ m' ((c.tc : Thread Cert.SmallStepReferenceIdeal.nD Cert.SmallStepReferenceIdeal.τ).loc Cert.SmallStepReferenceIdeal.main_arg2) = m ((c.tc : Thread Cert.SmallStepKernelIdeal.nD Cert.SmallStepKernelIdeal.τ).loc Cert.SmallStepKernelIdeal.main_arg2)
      ∧ m' ((c.tc : Thread Cert.SmallStepReferenceIdeal.nD Cert.SmallStepReferenceIdeal.τ).loc Cert.SmallStepReferenceIdeal.main_arg3) = m ((c.tc : Thread Cert.SmallStepKernelIdeal.nD Cert.SmallStepKernelIdeal.τ).loc Cert.SmallStepKernelIdeal.main_arg3)
      ∧ m' ((c.tc : Thread Cert.SmallStepReferenceIdeal.nD Cert.SmallStepReferenceIdeal.τ).loc Cert.SmallStepReferenceIdeal.main_arg4) = m ((c.tc : Thread Cert.SmallStepKernelIdeal.nD Cert.SmallStepKernelIdeal.τ).loc Cert.SmallStepKernelIdeal.main_arg4)
      ∧ m' ((c.tc : Thread Cert.SmallStepReferenceIdeal.nD Cert.SmallStepReferenceIdeal.τ).loc Cert.SmallStepReferenceIdeal.main_arg5) = m ((c.tc : Thread Cert.SmallStepKernelIdeal.nD Cert.SmallStepKernelIdeal.τ).loc Cert.SmallStepKernelIdeal.main_arg5)
      ∧ m' ((c.tc : Thread Cert.SmallStepReferenceIdeal.nD Cert.SmallStepReferenceIdeal.τ).loc Cert.SmallStepReferenceIdeal.main_arg6) = m ((c.tc : Thread Cert.SmallStepKernelIdeal.nD Cert.SmallStepKernelIdeal.τ).loc Cert.SmallStepKernelIdeal.main_arg6)
      ∧ m' ((c.tc : Thread Cert.SmallStepReferenceIdeal.nD Cert.SmallStepReferenceIdeal.τ).loc Cert.SmallStepReferenceIdeal.main_arg7) = m ((c.tc : Thread Cert.SmallStepKernelIdeal.nD Cert.SmallStepKernelIdeal.τ).loc Cert.SmallStepKernelIdeal.main_arg7)
      ∧ m' ((c.tc : Thread Cert.SmallStepReferenceIdeal.nD Cert.SmallStepReferenceIdeal.τ).loc Cert.SmallStepReferenceIdeal.main_arg8) = m ((c.tc : Thread Cert.SmallStepKernelIdeal.nD Cert.SmallStepKernelIdeal.τ).loc Cert.SmallStepKernelIdeal.main_arg8)
      ∧ m' ((c.tc : Thread Cert.SmallStepReferenceIdeal.nD Cert.SmallStepReferenceIdeal.τ).loc Cert.SmallStepReferenceIdeal.main_arg9) = m ((c.tc : Thread Cert.SmallStepKernelIdeal.nD Cert.SmallStepKernelIdeal.τ).loc Cert.SmallStepKernelIdeal.main_arg9)
      ∧ m' ((c.tc : Thread Cert.SmallStepReferenceIdeal.nD Cert.SmallStepReferenceIdeal.τ).loc Cert.SmallStepReferenceIdeal.main_arg10) = m ((c.tc : Thread Cert.SmallStepKernelIdeal.nD Cert.SmallStepKernelIdeal.τ).loc Cert.SmallStepKernelIdeal.main_arg10)
      ∧ m' ((c.tc : Thread Cert.SmallStepReferenceIdeal.nD Cert.SmallStepReferenceIdeal.τ).loc Cert.SmallStepReferenceIdeal.main_arg11) = m ((c.tc : Thread Cert.SmallStepKernelIdeal.nD Cert.SmallStepKernelIdeal.τ).loc Cert.SmallStepKernelIdeal.main_arg11)
      ∧ m' ((c.tc : Thread Cert.SmallStepReferenceIdeal.nD Cert.SmallStepReferenceIdeal.τ).loc Cert.SmallStepReferenceIdeal.main_arg12) = m ((c.tc : Thread Cert.SmallStepKernelIdeal.nD Cert.SmallStepKernelIdeal.τ).loc Cert.SmallStepKernelIdeal.main_arg12)
      ∧ m' ((c.tc : Thread Cert.SmallStepReferenceIdeal.nD Cert.SmallStepReferenceIdeal.τ).loc Cert.SmallStepReferenceIdeal.main_arg13) = m ((c.tc : Thread Cert.SmallStepKernelIdeal.nD Cert.SmallStepKernelIdeal.τ).loc Cert.SmallStepKernelIdeal.main_arg13)
      ∧ m' ((c.tc : Thread Cert.SmallStepReferenceIdeal.nD Cert.SmallStepReferenceIdeal.τ).loc Cert.SmallStepReferenceIdeal.main_arg14) = m ((c.tc : Thread Cert.SmallStepKernelIdeal.nD Cert.SmallStepKernelIdeal.τ).loc Cert.SmallStepKernelIdeal.main_arg14)
      ∧ m' ((c.tc : Thread Cert.SmallStepReferenceIdeal.nD Cert.SmallStepReferenceIdeal.τ).loc Cert.SmallStepReferenceIdeal.main_arg15) = m ((c.tc : Thread Cert.SmallStepKernelIdeal.nD Cert.SmallStepKernelIdeal.τ).loc Cert.SmallStepKernelIdeal.main_arg15)
      ∧ m' ((c.tc : Thread Cert.SmallStepReferenceIdeal.nD Cert.SmallStepReferenceIdeal.τ).loc Cert.SmallStepReferenceIdeal.main_arg16) = m ((c.tc : Thread Cert.SmallStepKernelIdeal.nD Cert.SmallStepKernelIdeal.τ).loc Cert.SmallStepKernelIdeal.main_arg16)
      ∧ m' ((c.tc : Thread Cert.SmallStepReferenceIdeal.nD Cert.SmallStepReferenceIdeal.τ).loc Cert.SmallStepReferenceIdeal.main_arg17) = m ((c.tc : Thread Cert.SmallStepKernelIdeal.nD Cert.SmallStepKernelIdeal.τ).loc Cert.SmallStepKernelIdeal.main_arg17)
      ∧ m' ((c.tc : Thread Cert.SmallStepReferenceIdeal.nD Cert.SmallStepReferenceIdeal.τ).loc Cert.SmallStepReferenceIdeal.main_arg18) = m ((c.tc : Thread Cert.SmallStepKernelIdeal.nD Cert.SmallStepKernelIdeal.τ).loc Cert.SmallStepKernelIdeal.main_arg18)
      ∧ m' ((c.tc : Thread Cert.SmallStepReferenceIdeal.nD Cert.SmallStepReferenceIdeal.τ).loc Cert.SmallStepReferenceIdeal.main_arg19) = m ((c.tc : Thread Cert.SmallStepKernelIdeal.nD Cert.SmallStepKernelIdeal.τ).loc Cert.SmallStepKernelIdeal.main_arg19)
      ∧ m' ((c.tc : Thread Cert.SmallStepReferenceIdeal.nD Cert.SmallStepReferenceIdeal.τ).loc Cert.SmallStepReferenceIdeal.main_arg20) = m ((c.tc : Thread Cert.SmallStepKernelIdeal.nD Cert.SmallStepKernelIdeal.τ).loc Cert.SmallStepKernelIdeal.main_arg20)
      ∧ m' ((c.tc : Thread Cert.SmallStepReferenceIdeal.nD Cert.SmallStepReferenceIdeal.τ).loc Cert.SmallStepReferenceIdeal.main_arg21) = m ((c.tc : Thread Cert.SmallStepKernelIdeal.nD Cert.SmallStepKernelIdeal.τ).loc Cert.SmallStepKernelIdeal.main_arg21)
      ∧ m' ((c.tc : Thread Cert.SmallStepReferenceIdeal.nD Cert.SmallStepReferenceIdeal.τ).loc Cert.SmallStepReferenceIdeal.main_arg22) = m ((c.tc : Thread Cert.SmallStepKernelIdeal.nD Cert.SmallStepKernelIdeal.τ).loc Cert.SmallStepKernelIdeal.main_arg22)
      ∧ m' ((c.tc : Thread Cert.SmallStepReferenceIdeal.nD Cert.SmallStepReferenceIdeal.τ).loc Cert.SmallStepReferenceIdeal.main_arg23) = m ((c.tc : Thread Cert.SmallStepKernelIdeal.nD Cert.SmallStepKernelIdeal.τ).loc Cert.SmallStepKernelIdeal.main_arg23)
      ∧ m' ((c.tc : Thread Cert.SmallStepReferenceIdeal.nD Cert.SmallStepReferenceIdeal.τ).loc Cert.SmallStepReferenceIdeal.main_arg24) = m ((c.tc : Thread Cert.SmallStepKernelIdeal.nD Cert.SmallStepKernelIdeal.τ).loc Cert.SmallStepKernelIdeal.main_arg24)
      ∧ m' ((c.tc : Thread Cert.SmallStepReferenceIdeal.nD Cert.SmallStepReferenceIdeal.τ).loc Cert.SmallStepReferenceIdeal.main_arg25) = m ((c.tc : Thread Cert.SmallStepKernelIdeal.nD Cert.SmallStepKernelIdeal.τ).loc Cert.SmallStepKernelIdeal.main_arg25)
      ∧ m' ((c.tc : Thread Cert.SmallStepReferenceIdeal.nD Cert.SmallStepReferenceIdeal.τ).loc Cert.SmallStepReferenceIdeal.main_arg26) = m ((c.tc : Thread Cert.SmallStepKernelIdeal.nD Cert.SmallStepKernelIdeal.τ).loc Cert.SmallStepKernelIdeal.main_arg26)
      ∧ m' ((c.tc : Thread Cert.SmallStepReferenceIdeal.nD Cert.SmallStepReferenceIdeal.τ).loc Cert.SmallStepReferenceIdeal.main_arg27) = m ((c.tc : Thread Cert.SmallStepKernelIdeal.nD Cert.SmallStepKernelIdeal.τ).loc Cert.SmallStepKernelIdeal.main_arg27)
      ∧ m' ((c.tc : Thread Cert.SmallStepReferenceIdeal.nD Cert.SmallStepReferenceIdeal.τ).loc Cert.SmallStepReferenceIdeal.main_arg28) = m ((c.tc : Thread Cert.SmallStepKernelIdeal.nD Cert.SmallStepKernelIdeal.τ).loc Cert.SmallStepKernelIdeal.main_arg28)
      ∧ m' ((c.tc : Thread Cert.SmallStepReferenceIdeal.nD Cert.SmallStepReferenceIdeal.τ).loc Cert.SmallStepReferenceIdeal.main_arg29) = m ((c.tc : Thread Cert.SmallStepKernelIdeal.nD Cert.SmallStepKernelIdeal.τ).loc Cert.SmallStepKernelIdeal.main_arg29)
      ∧ m' ((c.tc : Thread Cert.SmallStepReferenceIdeal.nD Cert.SmallStepReferenceIdeal.τ).loc Cert.SmallStepReferenceIdeal.main_arg30) = m ((c.tc : Thread Cert.SmallStepKernelIdeal.nD Cert.SmallStepKernelIdeal.τ).loc Cert.SmallStepKernelIdeal.main_arg30)
      ∧ m' ((c.tc : Thread Cert.SmallStepReferenceIdeal.nD Cert.SmallStepReferenceIdeal.τ).loc Cert.SmallStepReferenceIdeal.main_arg31) = m ((c.tc : Thread Cert.SmallStepKernelIdeal.nD Cert.SmallStepKernelIdeal.τ).loc Cert.SmallStepKernelIdeal.main_arg31)
      ∧ m' ((c.tc : Thread Cert.SmallStepReferenceIdeal.nD Cert.SmallStepReferenceIdeal.τ).loc Cert.SmallStepReferenceIdeal.main_arg32) = m ((c.tc : Thread Cert.SmallStepKernelIdeal.nD Cert.SmallStepKernelIdeal.τ).loc Cert.SmallStepKernelIdeal.main_arg32)
      ∧ m' ((c.tc : Thread Cert.SmallStepReferenceIdeal.nD Cert.SmallStepReferenceIdeal.τ).loc Cert.SmallStepReferenceIdeal.main_arg33) = m ((c.tc : Thread Cert.SmallStepKernelIdeal.nD Cert.SmallStepKernelIdeal.τ).loc Cert.SmallStepKernelIdeal.main_arg33)
      ∧ m' ((c.tc : Thread Cert.SmallStepReferenceIdeal.nD Cert.SmallStepReferenceIdeal.τ).loc Cert.SmallStepReferenceIdeal.main_arg34) = m ((c.tc : Thread Cert.SmallStepKernelIdeal.nD Cert.SmallStepKernelIdeal.τ).loc Cert.SmallStepKernelIdeal.main_arg34)
      ∧ m' ((c.tc : Thread Cert.SmallStepReferenceIdeal.nD Cert.SmallStepReferenceIdeal.τ).loc Cert.SmallStepReferenceIdeal.main_arg35) = m ((c.tc : Thread Cert.SmallStepKernelIdeal.nD Cert.SmallStepKernelIdeal.τ).loc Cert.SmallStepKernelIdeal.main_arg35)
      ∧ m' ((c.tc : Thread Cert.SmallStepReferenceIdeal.nD Cert.SmallStepReferenceIdeal.τ).loc Cert.SmallStepReferenceIdeal.main_arg36) = m ((c.tc : Thread Cert.SmallStepKernelIdeal.nD Cert.SmallStepKernelIdeal.τ).loc Cert.SmallStepKernelIdeal.main_arg36)
      ∧ m' ((c.tc : Thread Cert.SmallStepReferenceIdeal.nD Cert.SmallStepReferenceIdeal.τ).loc Cert.SmallStepReferenceIdeal.main_arg37) = m ((c.tc : Thread Cert.SmallStepKernelIdeal.nD Cert.SmallStepKernelIdeal.τ).loc Cert.SmallStepKernelIdeal.main_arg37)
      ∧ m' ((c.tc : Thread Cert.SmallStepReferenceIdeal.nD Cert.SmallStepReferenceIdeal.τ).loc Cert.SmallStepReferenceIdeal.main_arg38) = m ((c.tc : Thread Cert.SmallStepKernelIdeal.nD Cert.SmallStepKernelIdeal.τ).loc Cert.SmallStepKernelIdeal.main_arg38)
      ∧ m' ((c.tc : Thread Cert.SmallStepReferenceIdeal.nD Cert.SmallStepReferenceIdeal.τ).loc Cert.SmallStepReferenceIdeal.main_arg39) = m ((c.tc : Thread Cert.SmallStepKernelIdeal.nD Cert.SmallStepKernelIdeal.τ).loc Cert.SmallStepKernelIdeal.main_arg39)
      ∧ m' ((c.tc : Thread Cert.SmallStepReferenceIdeal.nD Cert.SmallStepReferenceIdeal.τ).loc Cert.SmallStepReferenceIdeal.main_arg40) = m ((c.tc : Thread Cert.SmallStepKernelIdeal.nD Cert.SmallStepKernelIdeal.τ).loc Cert.SmallStepKernelIdeal.main_arg40)
      ∧ m' ((c.tc : Thread Cert.SmallStepReferenceIdeal.nD Cert.SmallStepReferenceIdeal.τ).loc Cert.SmallStepReferenceIdeal.main_arg41) = m ((c.tc : Thread Cert.SmallStepKernelIdeal.nD Cert.SmallStepKernelIdeal.τ).loc Cert.SmallStepKernelIdeal.main_arg41)
      ∧ m' ((c.tc : Thread Cert.SmallStepReferenceIdeal.nD Cert.SmallStepReferenceIdeal.τ).loc Cert.SmallStepReferenceIdeal.main_arg42) = m ((c.tc : Thread Cert.SmallStepKernelIdeal.nD Cert.SmallStepKernelIdeal.τ).loc Cert.SmallStepKernelIdeal.main_arg42)
      ∧ m' ((c.tc : Thread Cert.SmallStepReferenceIdeal.nD Cert.SmallStepReferenceIdeal.τ).loc Cert.SmallStepReferenceIdeal.main_arg43) = m ((c.tc : Thread Cert.SmallStepKernelIdeal.nD Cert.SmallStepKernelIdeal.τ).loc Cert.SmallStepKernelIdeal.main_arg43)
      ∧ m' ((c.tc : Thread Cert.SmallStepReferenceIdeal.nD Cert.SmallStepReferenceIdeal.τ).loc Cert.SmallStepReferenceIdeal.main_arg44) = m ((c.tc : Thread Cert.SmallStepKernelIdeal.nD Cert.SmallStepKernelIdeal.τ).loc Cert.SmallStepKernelIdeal.main_arg44)
      ∧ m' ((c.tc : Thread Cert.SmallStepReferenceIdeal.nD Cert.SmallStepReferenceIdeal.τ).loc Cert.SmallStepReferenceIdeal.main_arg45) = m ((c.tc : Thread Cert.SmallStepKernelIdeal.nD Cert.SmallStepKernelIdeal.τ).loc Cert.SmallStepKernelIdeal.main_arg45)
      ∧ m' ((c.tc : Thread Cert.SmallStepReferenceIdeal.nD Cert.SmallStepReferenceIdeal.τ).loc Cert.SmallStepReferenceIdeal.main_arg46) = m ((c.tc : Thread Cert.SmallStepKernelIdeal.nD Cert.SmallStepKernelIdeal.τ).loc Cert.SmallStepKernelIdeal.main_arg46)
      ∧ m' ((c.tc : Thread Cert.SmallStepReferenceIdeal.nD Cert.SmallStepReferenceIdeal.τ).loc Cert.SmallStepReferenceIdeal.main_arg47) = m ((c.tc : Thread Cert.SmallStepKernelIdeal.nD Cert.SmallStepKernelIdeal.τ).loc Cert.SmallStepKernelIdeal.main_arg47)
      ∧ m' ((c.tc : Thread Cert.SmallStepReferenceIdeal.nD Cert.SmallStepReferenceIdeal.τ).loc Cert.SmallStepReferenceIdeal.main_arg48) = m ((c.tc : Thread Cert.SmallStepKernelIdeal.nD Cert.SmallStepKernelIdeal.τ).loc Cert.SmallStepKernelIdeal.main_arg48)
      ∧ m' ((c.tc : Thread Cert.SmallStepReferenceIdeal.nD Cert.SmallStepReferenceIdeal.τ).loc Cert.SmallStepReferenceIdeal.main_arg49) = m ((c.tc : Thread Cert.SmallStepKernelIdeal.nD Cert.SmallStepKernelIdeal.τ).loc Cert.SmallStepKernelIdeal.main_arg49)
      ∧ m' ((c.tc : Thread Cert.SmallStepReferenceIdeal.nD Cert.SmallStepReferenceIdeal.τ).loc Cert.SmallStepReferenceIdeal.main_arg50) = m ((c.tc : Thread Cert.SmallStepKernelIdeal.nD Cert.SmallStepKernelIdeal.τ).loc Cert.SmallStepKernelIdeal.main_arg50)
      ∧ m' ((c.tc : Thread Cert.SmallStepReferenceIdeal.nD Cert.SmallStepReferenceIdeal.τ).loc Cert.SmallStepReferenceIdeal.main_arg51) = m ((c.tc : Thread Cert.SmallStepKernelIdeal.nD Cert.SmallStepKernelIdeal.τ).loc Cert.SmallStepKernelIdeal.main_arg51)
      ∧ m' ((c.tc : Thread Cert.SmallStepReferenceIdeal.nD Cert.SmallStepReferenceIdeal.τ).loc Cert.SmallStepReferenceIdeal.main_arg52) = m ((c.tc : Thread Cert.SmallStepKernelIdeal.nD Cert.SmallStepKernelIdeal.τ).loc Cert.SmallStepKernelIdeal.main_arg52)
      ∧ m' ((c.tc : Thread Cert.SmallStepReferenceIdeal.nD Cert.SmallStepReferenceIdeal.τ).loc Cert.SmallStepReferenceIdeal.main_arg53) = m ((c.tc : Thread Cert.SmallStepKernelIdeal.nD Cert.SmallStepKernelIdeal.τ).loc Cert.SmallStepKernelIdeal.main_arg53)
      ∧ m' ((c.tc : Thread Cert.SmallStepReferenceIdeal.nD Cert.SmallStepReferenceIdeal.τ).loc Cert.SmallStepReferenceIdeal.main_arg54) = m ((c.tc : Thread Cert.SmallStepKernelIdeal.nD Cert.SmallStepKernelIdeal.τ).loc Cert.SmallStepKernelIdeal.main_arg54)
      ∧ m' ((c.tc : Thread Cert.SmallStepReferenceIdeal.nD Cert.SmallStepReferenceIdeal.τ).loc Cert.SmallStepReferenceIdeal.main_arg55) = m ((c.tc : Thread Cert.SmallStepKernelIdeal.nD Cert.SmallStepKernelIdeal.τ).loc Cert.SmallStepKernelIdeal.main_arg55)
      ∧ m' ((c.tc : Thread Cert.SmallStepReferenceIdeal.nD Cert.SmallStepReferenceIdeal.τ).loc Cert.SmallStepReferenceIdeal.main_arg56) = m ((c.tc : Thread Cert.SmallStepKernelIdeal.nD Cert.SmallStepKernelIdeal.τ).loc Cert.SmallStepKernelIdeal.main_arg56)
      ∧ m' ((c.tc : Thread Cert.SmallStepReferenceIdeal.nD Cert.SmallStepReferenceIdeal.τ).loc Cert.SmallStepReferenceIdeal.main_arg57) = m ((c.tc : Thread Cert.SmallStepKernelIdeal.nD Cert.SmallStepKernelIdeal.τ).loc Cert.SmallStepKernelIdeal.main_arg57)
      ∧ m' ((c.tc : Thread Cert.SmallStepReferenceIdeal.nD Cert.SmallStepReferenceIdeal.τ).loc Cert.SmallStepReferenceIdeal.main_arg58) = m ((c.tc : Thread Cert.SmallStepKernelIdeal.nD Cert.SmallStepKernelIdeal.τ).loc Cert.SmallStepKernelIdeal.main_arg58)
      ∧ m' ((c.tc : Thread Cert.SmallStepReferenceIdeal.nD Cert.SmallStepReferenceIdeal.τ).loc Cert.SmallStepReferenceIdeal.main_arg59) = m ((c.tc : Thread Cert.SmallStepKernelIdeal.nD Cert.SmallStepKernelIdeal.τ).loc Cert.SmallStepKernelIdeal.main_arg59)) →
    ∃ (v0 : (c : Dev Cert.SmallStepKernelIdeal.nD) → Buf (Elt Ideal) ((c.tc : Thread Cert.SmallStepKernelIdeal.nD Cert.SmallStepKernelIdeal.τ).loc Cert.SmallStepKernelIdeal.main_v72_0)) (v1 : (c : Dev Cert.SmallStepKernelIdeal.nD) → Buf (Elt Ideal) ((c.tc : Thread Cert.SmallStepKernelIdeal.nD Cert.SmallStepKernelIdeal.τ).loc Cert.SmallStepKernelIdeal.main_v72_1)) (v2 : (c : Dev Cert.SmallStepKernelIdeal.nD) → Buf (Elt Ideal) ((c.tc : Thread Cert.SmallStepKernelIdeal.nD Cert.SmallStepKernelIdeal.τ).loc Cert.SmallStepKernelIdeal.main_v72_2)),
      θ_run (Cert.SmallStepKernelIdeal.defs (F := Ideal)) (onTc (τ := Cert.SmallStepKernelIdeal.τ) (Cert.SmallStepKernelIdeal.main (F := Ideal))) ⟨m, fun _ => 0, g⟩ (fun r => ∀ c : Dev Cert.SmallStepKernelIdeal.nD,
          r.2.mem ((c.tc : Thread Cert.SmallStepKernelIdeal.nD Cert.SmallStepKernelIdeal.τ).loc Cert.SmallStepKernelIdeal.main_v72_0) = v0 c
          ∧ r.2.mem ((c.tc : Thread Cert.SmallStepKernelIdeal.nD Cert.SmallStepKernelIdeal.τ).loc Cert.SmallStepKernelIdeal.main_v72_1) = v1 c
          ∧ r.2.mem ((c.tc : Thread Cert.SmallStepKernelIdeal.nD Cert.SmallStepKernelIdeal.τ).loc Cert.SmallStepKernelIdeal.main_v72_2) = v2 c
          ∧ r.2.mem ((c.tc : Thread Cert.SmallStepKernelIdeal.nD Cert.SmallStepKernelIdeal.τ).loc Cert.SmallStepKernelIdeal.main_arg0) = m ((c.tc : Thread Cert.SmallStepKernelIdeal.nD Cert.SmallStepKernelIdeal.τ).loc Cert.SmallStepKernelIdeal.main_arg0)
          ∧ r.2.mem ((c.tc : Thread Cert.SmallStepKernelIdeal.nD Cert.SmallStepKernelIdeal.τ).loc Cert.SmallStepKernelIdeal.main_arg1) = m ((c.tc : Thread Cert.SmallStepKernelIdeal.nD Cert.SmallStepKernelIdeal.τ).loc Cert.SmallStepKernelIdeal.main_arg1)
          ∧ r.2.mem ((c.tc : Thread Cert.SmallStepKernelIdeal.nD Cert.SmallStepKernelIdeal.τ).loc Cert.SmallStepKernelIdeal.main_arg2) = m ((c.tc : Thread Cert.SmallStepKernelIdeal.nD Cert.SmallStepKernelIdeal.τ).loc Cert.SmallStepKernelIdeal.main_arg2)
          ∧ r.2.mem ((c.tc : Thread Cert.SmallStepKernelIdeal.nD Cert.SmallStepKernelIdeal.τ).loc Cert.SmallStepKernelIdeal.main_arg3) = m ((c.tc : Thread Cert.SmallStepKernelIdeal.nD Cert.SmallStepKernelIdeal.τ).loc Cert.SmallStepKernelIdeal.main_arg3)
          ∧ r.2.mem ((c.tc : Thread Cert.SmallStepKernelIdeal.nD Cert.SmallStepKernelIdeal.τ).loc Cert.SmallStepKernelIdeal.main_arg4) = m ((c.tc : Thread Cert.SmallStepKernelIdeal.nD Cert.SmallStepKernelIdeal.τ).loc Cert.SmallStepKernelIdeal.main_arg4)
          ∧ r.2.mem ((c.tc : Thread Cert.SmallStepKernelIdeal.nD Cert.SmallStepKernelIdeal.τ).loc Cert.SmallStepKernelIdeal.main_arg5) = m ((c.tc : Thread Cert.SmallStepKernelIdeal.nD Cert.SmallStepKernelIdeal.τ).loc Cert.SmallStepKernelIdeal.main_arg5)
          ∧ r.2.mem ((c.tc : Thread Cert.SmallStepKernelIdeal.nD Cert.SmallStepKernelIdeal.τ).loc Cert.SmallStepKernelIdeal.main_arg6) = m ((c.tc : Thread Cert.SmallStepKernelIdeal.nD Cert.SmallStepKernelIdeal.τ).loc Cert.SmallStepKernelIdeal.main_arg6)
          ∧ r.2.mem ((c.tc : Thread Cert.SmallStepKernelIdeal.nD Cert.SmallStepKernelIdeal.τ).loc Cert.SmallStepKernelIdeal.main_arg7) = m ((c.tc : Thread Cert.SmallStepKernelIdeal.nD Cert.SmallStepKernelIdeal.τ).loc Cert.SmallStepKernelIdeal.main_arg7)
          ∧ r.2.mem ((c.tc : Thread Cert.SmallStepKernelIdeal.nD Cert.SmallStepKernelIdeal.τ).loc Cert.SmallStepKernelIdeal.main_arg8) = m ((c.tc : Thread Cert.SmallStepKernelIdeal.nD Cert.SmallStepKernelIdeal.τ).loc Cert.SmallStepKernelIdeal.main_arg8)
          ∧ r.2.mem ((c.tc : Thread Cert.SmallStepKernelIdeal.nD Cert.SmallStepKernelIdeal.τ).loc Cert.SmallStepKernelIdeal.main_arg9) = m ((c.tc : Thread Cert.SmallStepKernelIdeal.nD Cert.SmallStepKernelIdeal.τ).loc Cert.SmallStepKernelIdeal.main_arg9)
          ∧ r.2.mem ((c.tc : Thread Cert.SmallStepKernelIdeal.nD Cert.SmallStepKernelIdeal.τ).loc Cert.SmallStepKernelIdeal.main_arg10) = m ((c.tc : Thread Cert.SmallStepKernelIdeal.nD Cert.SmallStepKernelIdeal.τ).loc Cert.SmallStepKernelIdeal.main_arg10)
          ∧ r.2.mem ((c.tc : Thread Cert.SmallStepKernelIdeal.nD Cert.SmallStepKernelIdeal.τ).loc Cert.SmallStepKernelIdeal.main_arg11) = m ((c.tc : Thread Cert.SmallStepKernelIdeal.nD Cert.SmallStepKernelIdeal.τ).loc Cert.SmallStepKernelIdeal.main_arg11)
          ∧ r.2.mem ((c.tc : Thread Cert.SmallStepKernelIdeal.nD Cert.SmallStepKernelIdeal.τ).loc Cert.SmallStepKernelIdeal.main_arg12) = m ((c.tc : Thread Cert.SmallStepKernelIdeal.nD Cert.SmallStepKernelIdeal.τ).loc Cert.SmallStepKernelIdeal.main_arg12)
          ∧ r.2.mem ((c.tc : Thread Cert.SmallStepKernelIdeal.nD Cert.SmallStepKernelIdeal.τ).loc Cert.SmallStepKernelIdeal.main_arg13) = m ((c.tc : Thread Cert.SmallStepKernelIdeal.nD Cert.SmallStepKernelIdeal.τ).loc Cert.SmallStepKernelIdeal.main_arg13)
          ∧ r.2.mem ((c.tc : Thread Cert.SmallStepKernelIdeal.nD Cert.SmallStepKernelIdeal.τ).loc Cert.SmallStepKernelIdeal.main_arg14) = m ((c.tc : Thread Cert.SmallStepKernelIdeal.nD Cert.SmallStepKernelIdeal.τ).loc Cert.SmallStepKernelIdeal.main_arg14)
          ∧ r.2.mem ((c.tc : Thread Cert.SmallStepKernelIdeal.nD Cert.SmallStepKernelIdeal.τ).loc Cert.SmallStepKernelIdeal.main_arg15) = m ((c.tc : Thread Cert.SmallStepKernelIdeal.nD Cert.SmallStepKernelIdeal.τ).loc Cert.SmallStepKernelIdeal.main_arg15)
          ∧ r.2.mem ((c.tc : Thread Cert.SmallStepKernelIdeal.nD Cert.SmallStepKernelIdeal.τ).loc Cert.SmallStepKernelIdeal.main_arg16) = m ((c.tc : Thread Cert.SmallStepKernelIdeal.nD Cert.SmallStepKernelIdeal.τ).loc Cert.SmallStepKernelIdeal.main_arg16)
          ∧ r.2.mem ((c.tc : Thread Cert.SmallStepKernelIdeal.nD Cert.SmallStepKernelIdeal.τ).loc Cert.SmallStepKernelIdeal.main_arg17) = m ((c.tc : Thread Cert.SmallStepKernelIdeal.nD Cert.SmallStepKernelIdeal.τ).loc Cert.SmallStepKernelIdeal.main_arg17)
          ∧ r.2.mem ((c.tc : Thread Cert.SmallStepKernelIdeal.nD Cert.SmallStepKernelIdeal.τ).loc Cert.SmallStepKernelIdeal.main_arg18) = m ((c.tc : Thread Cert.SmallStepKernelIdeal.nD Cert.SmallStepKernelIdeal.τ).loc Cert.SmallStepKernelIdeal.main_arg18)
          ∧ r.2.mem ((c.tc : Thread Cert.SmallStepKernelIdeal.nD Cert.SmallStepKernelIdeal.τ).loc Cert.SmallStepKernelIdeal.main_arg19) = m ((c.tc : Thread Cert.SmallStepKernelIdeal.nD Cert.SmallStepKernelIdeal.τ).loc Cert.SmallStepKernelIdeal.main_arg19)
          ∧ r.2.mem ((c.tc : Thread Cert.SmallStepKernelIdeal.nD Cert.SmallStepKernelIdeal.τ).loc Cert.SmallStepKernelIdeal.main_arg20) = m ((c.tc : Thread Cert.SmallStepKernelIdeal.nD Cert.SmallStepKernelIdeal.τ).loc Cert.SmallStepKernelIdeal.main_arg20)
          ∧ r.2.mem ((c.tc : Thread Cert.SmallStepKernelIdeal.nD Cert.SmallStepKernelIdeal.τ).loc Cert.SmallStepKernelIdeal.main_arg21) = m ((c.tc : Thread Cert.SmallStepKernelIdeal.nD Cert.SmallStepKernelIdeal.τ).loc Cert.SmallStepKernelIdeal.main_arg21)
          ∧ r.2.mem ((c.tc : Thread Cert.SmallStepKernelIdeal.nD Cert.SmallStepKernelIdeal.τ).loc Cert.SmallStepKernelIdeal.main_arg22) = m ((c.tc : Thread Cert.SmallStepKernelIdeal.nD Cert.SmallStepKernelIdeal.τ).loc Cert.SmallStepKernelIdeal.main_arg22)
          ∧ r.2.mem ((c.tc : Thread Cert.SmallStepKernelIdeal.nD Cert.SmallStepKernelIdeal.τ).loc Cert.SmallStepKernelIdeal.main_arg23) = m ((c.tc : Thread Cert.SmallStepKernelIdeal.nD Cert.SmallStepKernelIdeal.τ).loc Cert.SmallStepKernelIdeal.main_arg23)
          ∧ r.2.mem ((c.tc : Thread Cert.SmallStepKernelIdeal.nD Cert.SmallStepKernelIdeal.τ).loc Cert.SmallStepKernelIdeal.main_arg24) = m ((c.tc : Thread Cert.SmallStepKernelIdeal.nD Cert.SmallStepKernelIdeal.τ).loc Cert.SmallStepKernelIdeal.main_arg24)
          ∧ r.2.mem ((c.tc : Thread Cert.SmallStepKernelIdeal.nD Cert.SmallStepKernelIdeal.τ).loc Cert.SmallStepKernelIdeal.main_arg25) = m ((c.tc : Thread Cert.SmallStepKernelIdeal.nD Cert.SmallStepKernelIdeal.τ).loc Cert.SmallStepKernelIdeal.main_arg25)
          ∧ r.2.mem ((c.tc : Thread Cert.SmallStepKernelIdeal.nD Cert.SmallStepKernelIdeal.τ).loc Cert.SmallStepKernelIdeal.main_arg26) = m ((c.tc : Thread Cert.SmallStepKernelIdeal.nD Cert.SmallStepKernelIdeal.τ).loc Cert.SmallStepKernelIdeal.main_arg26)
          ∧ r.2.mem ((c.tc : Thread Cert.SmallStepKernelIdeal.nD Cert.SmallStepKernelIdeal.τ).loc Cert.SmallStepKernelIdeal.main_arg27) = m ((c.tc : Thread Cert.SmallStepKernelIdeal.nD Cert.SmallStepKernelIdeal.τ).loc Cert.SmallStepKernelIdeal.main_arg27)
          ∧ r.2.mem ((c.tc : Thread Cert.SmallStepKernelIdeal.nD Cert.SmallStepKernelIdeal.τ).loc Cert.SmallStepKernelIdeal.main_arg28) = m ((c.tc : Thread Cert.SmallStepKernelIdeal.nD Cert.SmallStepKernelIdeal.τ).loc Cert.SmallStepKernelIdeal.main_arg28)
          ∧ r.2.mem ((c.tc : Thread Cert.SmallStepKernelIdeal.nD Cert.SmallStepKernelIdeal.τ).loc Cert.SmallStepKernelIdeal.main_arg29) = m ((c.tc : Thread Cert.SmallStepKernelIdeal.nD Cert.SmallStepKernelIdeal.τ).loc Cert.SmallStepKernelIdeal.main_arg29)
          ∧ r.2.mem ((c.tc : Thread Cert.SmallStepKernelIdeal.nD Cert.SmallStepKernelIdeal.τ).loc Cert.SmallStepKernelIdeal.main_arg30) = m ((c.tc : Thread Cert.SmallStepKernelIdeal.nD Cert.SmallStepKernelIdeal.τ).loc Cert.SmallStepKernelIdeal.main_arg30)
          ∧ r.2.mem ((c.tc : Thread Cert.SmallStepKernelIdeal.nD Cert.SmallStepKernelIdeal.τ).loc Cert.SmallStepKernelIdeal.main_arg31) = m ((c.tc : Thread Cert.SmallStepKernelIdeal.nD Cert.SmallStepKernelIdeal.τ).loc Cert.SmallStepKernelIdeal.main_arg31)
          ∧ r.2.mem ((c.tc : Thread Cert.SmallStepKernelIdeal.nD Cert.SmallStepKernelIdeal.τ).loc Cert.SmallStepKernelIdeal.main_arg32) = m ((c.tc : Thread Cert.SmallStepKernelIdeal.nD Cert.SmallStepKernelIdeal.τ).loc Cert.SmallStepKernelIdeal.main_arg32)
          ∧ r.2.mem ((c.tc : Thread Cert.SmallStepKernelIdeal.nD Cert.SmallStepKernelIdeal.τ).loc Cert.SmallStepKernelIdeal.main_arg33) = m ((c.tc : Thread Cert.SmallStepKernelIdeal.nD Cert.SmallStepKernelIdeal.τ).loc Cert.SmallStepKernelIdeal.main_arg33)
          ∧ r.2.mem ((c.tc : Thread Cert.SmallStepKernelIdeal.nD Cert.SmallStepKernelIdeal.τ).loc Cert.SmallStepKernelIdeal.main_arg34) = m ((c.tc : Thread Cert.SmallStepKernelIdeal.nD Cert.SmallStepKernelIdeal.τ).loc Cert.SmallStepKernelIdeal.main_arg34)
          ∧ r.2.mem ((c.tc : Thread Cert.SmallStepKernelIdeal.nD Cert.SmallStepKernelIdeal.τ).loc Cert.SmallStepKernelIdeal.main_arg35) = m ((c.tc : Thread Cert.SmallStepKernelIdeal.nD Cert.SmallStepKernelIdeal.τ).loc Cert.SmallStepKernelIdeal.main_arg35)
          ∧ r.2.mem ((c.tc : Thread Cert.SmallStepKernelIdeal.nD Cert.SmallStepKernelIdeal.τ).loc Cert.SmallStepKernelIdeal.main_arg36) = m ((c.tc : Thread Cert.SmallStepKernelIdeal.nD Cert.SmallStepKernelIdeal.τ).loc Cert.SmallStepKernelIdeal.main_arg36)
          ∧ r.2.mem ((c.tc : Thread Cert.SmallStepKernelIdeal.nD Cert.SmallStepKernelIdeal.τ).loc Cert.SmallStepKernelIdeal.main_arg37) = m ((c.tc : Thread Cert.SmallStepKernelIdeal.nD Cert.SmallStepKernelIdeal.τ).loc Cert.SmallStepKernelIdeal.main_arg37)
          ∧ r.2.mem ((c.tc : Thread Cert.SmallStepKernelIdeal.nD Cert.SmallStepKernelIdeal.τ).loc Cert.SmallStepKernelIdeal.main_arg38) = m ((c.tc : Thread Cert.SmallStepKernelIdeal.nD Cert.SmallStepKernelIdeal.τ).loc Cert.SmallStepKernelIdeal.main_arg38)
          ∧ r.2.mem ((c.tc : Thread Cert.SmallStepKernelIdeal.nD Cert.SmallStepKernelIdeal.τ).loc Cert.SmallStepKernelIdeal.main_arg39) = m ((c.tc : Thread Cert.SmallStepKernelIdeal.nD Cert.SmallStepKernelIdeal.τ).loc Cert.SmallStepKernelIdeal.main_arg39)
          ∧ r.2.mem ((c.tc : Thread Cert.SmallStepKernelIdeal.nD Cert.SmallStepKernelIdeal.τ).loc Cert.SmallStepKernelIdeal.main_arg40) = m ((c.tc : Thread Cert.SmallStepKernelIdeal.nD Cert.SmallStepKernelIdeal.τ).loc Cert.SmallStepKernelIdeal.main_arg40)
          ∧ r.2.mem ((c.tc : Thread Cert.SmallStepKernelIdeal.nD Cert.SmallStepKernelIdeal.τ).loc Cert.SmallStepKernelIdeal.main_arg41) = m ((c.tc : Thread Cert.SmallStepKernelIdeal.nD Cert.SmallStepKernelIdeal.τ).loc Cert.SmallStepKernelIdeal.main_arg41)
          ∧ r.2.mem ((c.tc : Thread Cert.SmallStepKernelIdeal.nD Cert.SmallStepKernelIdeal.τ).loc Cert.SmallStepKernelIdeal.main_arg42) = m ((c.tc : Thread Cert.SmallStepKernelIdeal.nD Cert.SmallStepKernelIdeal.τ).loc Cert.SmallStepKernelIdeal.main_arg42)
          ∧ r.2.mem ((c.tc : Thread Cert.SmallStepKernelIdeal.nD Cert.SmallStepKernelIdeal.τ).loc Cert.SmallStepKernelIdeal.main_arg43) = m ((c.tc : Thread Cert.SmallStepKernelIdeal.nD Cert.SmallStepKernelIdeal.τ).loc Cert.SmallStepKernelIdeal.main_arg43)
          ∧ r.2.mem ((c.tc : Thread Cert.SmallStepKernelIdeal.nD Cert.SmallStepKernelIdeal.τ).loc Cert.SmallStepKernelIdeal.main_arg44) = m ((c.tc : Thread Cert.SmallStepKernelIdeal.nD Cert.SmallStepKernelIdeal.τ).loc Cert.SmallStepKernelIdeal.main_arg44)
          ∧ r.2.mem ((c.tc : Thread Cert.SmallStepKernelIdeal.nD Cert.SmallStepKernelIdeal.τ).loc Cert.SmallStepKernelIdeal.main_arg45) = m ((c.tc : Thread Cert.SmallStepKernelIdeal.nD Cert.SmallStepKernelIdeal.τ).loc Cert.SmallStepKernelIdeal.main_arg45)
          ∧ r.2.mem ((c.tc : Thread Cert.SmallStepKernelIdeal.nD Cert.SmallStepKernelIdeal.τ).loc Cert.SmallStepKernelIdeal.main_arg46) = m ((c.tc : Thread Cert.SmallStepKernelIdeal.nD Cert.SmallStepKernelIdeal.τ).loc Cert.SmallStepKernelIdeal.main_arg46)
          ∧ r.2.mem ((c.tc : Thread Cert.SmallStepKernelIdeal.nD Cert.SmallStepKernelIdeal.τ).loc Cert.SmallStepKernelIdeal.main_arg47) = m ((c.tc : Thread Cert.SmallStepKernelIdeal.nD Cert.SmallStepKernelIdeal.τ).loc Cert.SmallStepKernelIdeal.main_arg47)
          ∧ r.2.mem ((c.tc : Thread Cert.SmallStepKernelIdeal.nD Cert.SmallStepKernelIdeal.τ).loc Cert.SmallStepKernelIdeal.main_arg48) = m ((c.tc : Thread Cert.SmallStepKernelIdeal.nD Cert.SmallStepKernelIdeal.τ).loc Cert.SmallStepKernelIdeal.main_arg48)
          ∧ r.2.mem ((c.tc : Thread Cert.SmallStepKernelIdeal.nD Cert.SmallStepKernelIdeal.τ).loc Cert.SmallStepKernelIdeal.main_arg49) = m ((c.tc : Thread Cert.SmallStepKernelIdeal.nD Cert.SmallStepKernelIdeal.τ).loc Cert.SmallStepKernelIdeal.main_arg49)
          ∧ r.2.mem ((c.tc : Thread Cert.SmallStepKernelIdeal.nD Cert.SmallStepKernelIdeal.τ).loc Cert.SmallStepKernelIdeal.main_arg50) = m ((c.tc : Thread Cert.SmallStepKernelIdeal.nD Cert.SmallStepKernelIdeal.τ).loc Cert.SmallStepKernelIdeal.main_arg50)
          ∧ r.2.mem ((c.tc : Thread Cert.SmallStepKernelIdeal.nD Cert.SmallStepKernelIdeal.τ).loc Cert.SmallStepKernelIdeal.main_arg51) = m ((c.tc : Thread Cert.SmallStepKernelIdeal.nD Cert.SmallStepKernelIdeal.τ).loc Cert.SmallStepKernelIdeal.main_arg51)
          ∧ r.2.mem ((c.tc : Thread Cert.SmallStepKernelIdeal.nD Cert.SmallStepKernelIdeal.τ).loc Cert.SmallStepKernelIdeal.main_arg52) = m ((c.tc : Thread Cert.SmallStepKernelIdeal.nD Cert.SmallStepKernelIdeal.τ).loc Cert.SmallStepKernelIdeal.main_arg52)
          ∧ r.2.mem ((c.tc : Thread Cert.SmallStepKernelIdeal.nD Cert.SmallStepKernelIdeal.τ).loc Cert.SmallStepKernelIdeal.main_arg53) = m ((c.tc : Thread Cert.SmallStepKernelIdeal.nD Cert.SmallStepKernelIdeal.τ).loc Cert.SmallStepKernelIdeal.main_arg53)
          ∧ r.2.mem ((c.tc : Thread Cert.SmallStepKernelIdeal.nD Cert.SmallStepKernelIdeal.τ).loc Cert.SmallStepKernelIdeal.main_arg54) = m ((c.tc : Thread Cert.SmallStepKernelIdeal.nD Cert.SmallStepKernelIdeal.τ).loc Cert.SmallStepKernelIdeal.main_arg54)
          ∧ r.2.mem ((c.tc : Thread Cert.SmallStepKernelIdeal.nD Cert.SmallStepKernelIdeal.τ).loc Cert.SmallStepKernelIdeal.main_arg55) = m ((c.tc : Thread Cert.SmallStepKernelIdeal.nD Cert.SmallStepKernelIdeal.τ).loc Cert.SmallStepKernelIdeal.main_arg55)
          ∧ r.2.mem ((c.tc : Thread Cert.SmallStepKernelIdeal.nD Cert.SmallStepKernelIdeal.τ).loc Cert.SmallStepKernelIdeal.main_arg56) = m ((c.tc : Thread Cert.SmallStepKernelIdeal.nD Cert.SmallStepKernelIdeal.τ).loc Cert.SmallStepKernelIdeal.main_arg56)
          ∧ r.2.mem ((c.tc : Thread Cert.SmallStepKernelIdeal.nD Cert.SmallStepKernelIdeal.τ).loc Cert.SmallStepKernelIdeal.main_arg57) = m ((c.tc : Thread Cert.SmallStepKernelIdeal.nD Cert.SmallStepKernelIdeal.τ).loc Cert.SmallStepKernelIdeal.main_arg57)
          ∧ r.2.mem ((c.tc : Thread Cert.SmallStepKernelIdeal.nD Cert.SmallStepKernelIdeal.τ).loc Cert.SmallStepKernelIdeal.main_arg58) = m ((c.tc : Thread Cert.SmallStepKernelIdeal.nD Cert.SmallStepKernelIdeal.τ).loc Cert.SmallStepKernelIdeal.main_arg58)
          ∧ r.2.mem ((c.tc : Thread Cert.SmallStepKernelIdeal.nD Cert.SmallStepKernelIdeal.τ).loc Cert.SmallStepKernelIdeal.main_arg59) = m ((c.tc : Thread Cert.SmallStepKernelIdeal.nD Cert.SmallStepKernelIdeal.τ).loc Cert.SmallStepKernelIdeal.main_arg59))
      ∧ θ_run (Cert.SmallStepReferenceIdeal.defs (F := Ideal)) (onTc (τ := Cert.SmallStepReferenceIdeal.τ) (Cert.SmallStepReferenceIdeal.main (F := Ideal))) ⟨m', fun _ => 0, g'⟩ (fun r => ∀ c : Dev Cert.SmallStepReferenceIdeal.nD,
          r.2.mem ((c.tc : Thread Cert.SmallStepReferenceIdeal.nD Cert.SmallStepReferenceIdeal.τ).loc Cert.SmallStepReferenceIdeal.main_v95) = v0 c
          ∧ r.2.mem ((c.tc : Thread Cert.SmallStepReferenceIdeal.nD Cert.SmallStepReferenceIdeal.τ).loc Cert.SmallStepReferenceIdeal.main_v76) = v1 c
          ∧ r.2.mem ((c.tc : Thread Cert.SmallStepReferenceIdeal.nD Cert.SmallStepReferenceIdeal.τ).loc Cert.SmallStepReferenceIdeal.main_v82) = v2 c
          ∧ r.2.mem ((c.tc : Thread Cert.SmallStepReferenceIdeal.nD Cert.SmallStepReferenceIdeal.τ).loc Cert.SmallStepReferenceIdeal.main_arg0) = m' ((c.tc : Thread Cert.SmallStepReferenceIdeal.nD Cert.SmallStepReferenceIdeal.τ).loc Cert.SmallStepReferenceIdeal.main_arg0)
          ∧ r.2.mem ((c.tc : Thread Cert.SmallStepReferenceIdeal.nD Cert.SmallStepReferenceIdeal.τ).loc Cert.SmallStepReferenceIdeal.main_arg1) = m' ((c.tc : Thread Cert.SmallStepReferenceIdeal.nD Cert.SmallStepReferenceIdeal.τ).loc Cert.SmallStepReferenceIdeal.main_arg1)
          ∧ r.2.mem ((c.tc : Thread Cert.SmallStepReferenceIdeal.nD Cert.SmallStepReferenceIdeal.τ).loc Cert.SmallStepReferenceIdeal.main_arg2) = m' ((c.tc : Thread Cert.SmallStepReferenceIdeal.nD Cert.SmallStepReferenceIdeal.τ).loc Cert.SmallStepReferenceIdeal.main_arg2)
          ∧ r.2.mem ((c.tc : Thread Cert.SmallStepReferenceIdeal.nD Cert.SmallStepReferenceIdeal.τ).loc Cert.SmallStepReferenceIdeal.main_arg3) = m' ((c.tc : Thread Cert.SmallStepReferenceIdeal.nD Cert.SmallStepReferenceIdeal.τ).loc Cert.SmallStepReferenceIdeal.main_arg3)
          ∧ r.2.mem ((c.tc : Thread Cert.SmallStepReferenceIdeal.nD Cert.SmallStepReferenceIdeal.τ).loc Cert.SmallStepReferenceIdeal.main_arg4) = m' ((c.tc : Thread Cert.SmallStepReferenceIdeal.nD Cert.SmallStepReferenceIdeal.τ).loc Cert.SmallStepReferenceIdeal.main_arg4)
          ∧ r.2.mem ((c.tc : Thread Cert.SmallStepReferenceIdeal.nD Cert.SmallStepReferenceIdeal.τ).loc Cert.SmallStepReferenceIdeal.main_arg5) = m' ((c.tc : Thread Cert.SmallStepReferenceIdeal.nD Cert.SmallStepReferenceIdeal.τ).loc Cert.SmallStepReferenceIdeal.main_arg5)
          ∧ r.2.mem ((c.tc : Thread Cert.SmallStepReferenceIdeal.nD Cert.SmallStepReferenceIdeal.τ).loc Cert.SmallStepReferenceIdeal.main_arg6) = m' ((c.tc : Thread Cert.SmallStepReferenceIdeal.nD Cert.SmallStepReferenceIdeal.τ).loc Cert.SmallStepReferenceIdeal.main_arg6)
          ∧ r.2.mem ((c.tc : Thread Cert.SmallStepReferenceIdeal.nD Cert.SmallStepReferenceIdeal.τ).loc Cert.SmallStepReferenceIdeal.main_arg7) = m' ((c.tc : Thread Cert.SmallStepReferenceIdeal.nD Cert.SmallStepReferenceIdeal.τ).loc Cert.SmallStepReferenceIdeal.main_arg7)
          ∧ r.2.mem ((c.tc : Thread Cert.SmallStepReferenceIdeal.nD Cert.SmallStepReferenceIdeal.τ).loc Cert.SmallStepReferenceIdeal.main_arg8) = m' ((c.tc : Thread Cert.SmallStepReferenceIdeal.nD Cert.SmallStepReferenceIdeal.τ).loc Cert.SmallStepReferenceIdeal.main_arg8)
          ∧ r.2.mem ((c.tc : Thread Cert.SmallStepReferenceIdeal.nD Cert.SmallStepReferenceIdeal.τ).loc Cert.SmallStepReferenceIdeal.main_arg9) = m' ((c.tc : Thread Cert.SmallStepReferenceIdeal.nD Cert.SmallStepReferenceIdeal.τ).loc Cert.SmallStepReferenceIdeal.main_arg9)
          ∧ r.2.mem ((c.tc : Thread Cert.SmallStepReferenceIdeal.nD Cert.SmallStepReferenceIdeal.τ).loc Cert.SmallStepReferenceIdeal.main_arg10) = m' ((c.tc : Thread Cert.SmallStepReferenceIdeal.nD Cert.SmallStepReferenceIdeal.τ).loc Cert.SmallStepReferenceIdeal.main_arg10)
          ∧ r.2.mem ((c.tc : Thread Cert.SmallStepReferenceIdeal.nD Cert.SmallStepReferenceIdeal.τ).loc Cert.SmallStepReferenceIdeal.main_arg11) = m' ((c.tc : Thread Cert.SmallStepReferenceIdeal.nD Cert.SmallStepReferenceIdeal.τ).loc Cert.SmallStepReferenceIdeal.main_arg11)
          ∧ r.2.mem ((c.tc : Thread Cert.SmallStepReferenceIdeal.nD Cert.SmallStepReferenceIdeal.τ).loc Cert.SmallStepReferenceIdeal.main_arg12) = m' ((c.tc : Thread Cert.SmallStepReferenceIdeal.nD Cert.SmallStepReferenceIdeal.τ).loc Cert.SmallStepReferenceIdeal.main_arg12)
          ∧ r.2.mem ((c.tc : Thread Cert.SmallStepReferenceIdeal.nD Cert.SmallStepReferenceIdeal.τ).loc Cert.SmallStepReferenceIdeal.main_arg13) = m' ((c.tc : Thread Cert.SmallStepReferenceIdeal.nD Cert.SmallStepReferenceIdeal.τ).loc Cert.SmallStepReferenceIdeal.main_arg13)
          ∧ r.2.mem ((c.tc : Thread Cert.SmallStepReferenceIdeal.nD Cert.SmallStepReferenceIdeal.τ).loc Cert.SmallStepReferenceIdeal.main_arg14) = m' ((c.tc : Thread Cert.SmallStepReferenceIdeal.nD Cert.SmallStepReferenceIdeal.τ).loc Cert.SmallStepReferenceIdeal.main_arg14)
          ∧ r.2.mem ((c.tc : Thread Cert.SmallStepReferenceIdeal.nD Cert.SmallStepReferenceIdeal.τ).loc Cert.SmallStepReferenceIdeal.main_arg15) = m' ((c.tc : Thread Cert.SmallStepReferenceIdeal.nD Cert.SmallStepReferenceIdeal.τ).loc Cert.SmallStepReferenceIdeal.main_arg15)
          ∧ r.2.mem ((c.tc : Thread Cert.SmallStepReferenceIdeal.nD Cert.SmallStepReferenceIdeal.τ).loc Cert.SmallStepReferenceIdeal.main_arg16) = m' ((c.tc : Thread Cert.SmallStepReferenceIdeal.nD Cert.SmallStepReferenceIdeal.τ).loc Cert.SmallStepReferenceIdeal.main_arg16)
          ∧ r.2.mem ((c.tc : Thread Cert.SmallStepReferenceIdeal.nD Cert.SmallStepReferenceIdeal.τ).loc Cert.SmallStepReferenceIdeal.main_arg17) = m' ((c.tc : Thread Cert.SmallStepReferenceIdeal.nD Cert.SmallStepReferenceIdeal.τ).loc Cert.SmallStepReferenceIdeal.main_arg17)
          ∧ r.2.mem ((c.tc : Thread Cert.SmallStepReferenceIdeal.nD Cert.SmallStepReferenceIdeal.τ).loc Cert.SmallStepReferenceIdeal.main_arg18) = m' ((c.tc : Thread Cert.SmallStepReferenceIdeal.nD Cert.SmallStepReferenceIdeal.τ).loc Cert.SmallStepReferenceIdeal.main_arg18)
          ∧ r.2.mem ((c.tc : Thread Cert.SmallStepReferenceIdeal.nD Cert.SmallStepReferenceIdeal.τ).loc Cert.SmallStepReferenceIdeal.main_arg19) = m' ((c.tc : Thread Cert.SmallStepReferenceIdeal.nD Cert.SmallStepReferenceIdeal.τ).loc Cert.SmallStepReferenceIdeal.main_arg19)
          ∧ r.2.mem ((c.tc : Thread Cert.SmallStepReferenceIdeal.nD Cert.SmallStepReferenceIdeal.τ).loc Cert.SmallStepReferenceIdeal.main_arg20) = m' ((c.tc : Thread Cert.SmallStepReferenceIdeal.nD Cert.SmallStepReferenceIdeal.τ).loc Cert.SmallStepReferenceIdeal.main_arg20)
          ∧ r.2.mem ((c.tc : Thread Cert.SmallStepReferenceIdeal.nD Cert.SmallStepReferenceIdeal.τ).loc Cert.SmallStepReferenceIdeal.main_arg21) = m' ((c.tc : Thread Cert.SmallStepReferenceIdeal.nD Cert.SmallStepReferenceIdeal.τ).loc Cert.SmallStepReferenceIdeal.main_arg21)
          ∧ r.2.mem ((c.tc : Thread Cert.SmallStepReferenceIdeal.nD Cert.SmallStepReferenceIdeal.τ).loc Cert.SmallStepReferenceIdeal.main_arg22) = m' ((c.tc : Thread Cert.SmallStepReferenceIdeal.nD Cert.SmallStepReferenceIdeal.τ).loc Cert.SmallStepReferenceIdeal.main_arg22)
          ∧ r.2.mem ((c.tc : Thread Cert.SmallStepReferenceIdeal.nD Cert.SmallStepReferenceIdeal.τ).loc Cert.SmallStepReferenceIdeal.main_arg23) = m' ((c.tc : Thread Cert.SmallStepReferenceIdeal.nD Cert.SmallStepReferenceIdeal.τ).loc Cert.SmallStepReferenceIdeal.main_arg23)
          ∧ r.2.mem ((c.tc : Thread Cert.SmallStepReferenceIdeal.nD Cert.SmallStepReferenceIdeal.τ).loc Cert.SmallStepReferenceIdeal.main_arg24) = m' ((c.tc : Thread Cert.SmallStepReferenceIdeal.nD Cert.SmallStepReferenceIdeal.τ).loc Cert.SmallStepReferenceIdeal.main_arg24)
          ∧ r.2.mem ((c.tc : Thread Cert.SmallStepReferenceIdeal.nD Cert.SmallStepReferenceIdeal.τ).loc Cert.SmallStepReferenceIdeal.main_arg25) = m' ((c.tc : Thread Cert.SmallStepReferenceIdeal.nD Cert.SmallStepReferenceIdeal.τ).loc Cert.SmallStepReferenceIdeal.main_arg25)
          ∧ r.2.mem ((c.tc : Thread Cert.SmallStepReferenceIdeal.nD Cert.SmallStepReferenceIdeal.τ).loc Cert.SmallStepReferenceIdeal.main_arg26) = m' ((c.tc : Thread Cert.SmallStepReferenceIdeal.nD Cert.SmallStepReferenceIdeal.τ).loc Cert.SmallStepReferenceIdeal.main_arg26)
          ∧ r.2.mem ((c.tc : Thread Cert.SmallStepReferenceIdeal.nD Cert.SmallStepReferenceIdeal.τ).loc Cert.SmallStepReferenceIdeal.main_arg27) = m' ((c.tc : Thread Cert.SmallStepReferenceIdeal.nD Cert.SmallStepReferenceIdeal.τ).loc Cert.SmallStepReferenceIdeal.main_arg27)
          ∧ r.2.mem ((c.tc : Thread Cert.SmallStepReferenceIdeal.nD Cert.SmallStepReferenceIdeal.τ).loc Cert.SmallStepReferenceIdeal.main_arg28) = m' ((c.tc : Thread Cert.SmallStepReferenceIdeal.nD Cert.SmallStepReferenceIdeal.τ).loc Cert.SmallStepReferenceIdeal.main_arg28)
          ∧ r.2.mem ((c.tc : Thread Cert.SmallStepReferenceIdeal.nD Cert.SmallStepReferenceIdeal.τ).loc Cert.SmallStepReferenceIdeal.main_arg29) = m' ((c.tc : Thread Cert.SmallStepReferenceIdeal.nD Cert.SmallStepReferenceIdeal.τ).loc Cert.SmallStepReferenceIdeal.main_arg29)
          ∧ r.2.mem ((c.tc : Thread Cert.SmallStepReferenceIdeal.nD Cert.SmallStepReferenceIdeal.τ).loc Cert.SmallStepReferenceIdeal.main_arg30) = m' ((c.tc : Thread Cert.SmallStepReferenceIdeal.nD Cert.SmallStepReferenceIdeal.τ).loc Cert.SmallStepReferenceIdeal.main_arg30)
          ∧ r.2.mem ((c.tc : Thread Cert.SmallStepReferenceIdeal.nD Cert.SmallStepReferenceIdeal.τ).loc Cert.SmallStepReferenceIdeal.main_arg31) = m' ((c.tc : Thread Cert.SmallStepReferenceIdeal.nD Cert.SmallStepReferenceIdeal.τ).loc Cert.SmallStepReferenceIdeal.main_arg31)
          ∧ r.2.mem ((c.tc : Thread Cert.SmallStepReferenceIdeal.nD Cert.SmallStepReferenceIdeal.τ).loc Cert.SmallStepReferenceIdeal.main_arg32) = m' ((c.tc : Thread Cert.SmallStepReferenceIdeal.nD Cert.SmallStepReferenceIdeal.τ).loc Cert.SmallStepReferenceIdeal.main_arg32)
          ∧ r.2.mem ((c.tc : Thread Cert.SmallStepReferenceIdeal.nD Cert.SmallStepReferenceIdeal.τ).loc Cert.SmallStepReferenceIdeal.main_arg33) = m' ((c.tc : Thread Cert.SmallStepReferenceIdeal.nD Cert.SmallStepReferenceIdeal.τ).loc Cert.SmallStepReferenceIdeal.main_arg33)
          ∧ r.2.mem ((c.tc : Thread Cert.SmallStepReferenceIdeal.nD Cert.SmallStepReferenceIdeal.τ).loc Cert.SmallStepReferenceIdeal.main_arg34) = m' ((c.tc : Thread Cert.SmallStepReferenceIdeal.nD Cert.SmallStepReferenceIdeal.τ).loc Cert.SmallStepReferenceIdeal.main_arg34)
          ∧ r.2.mem ((c.tc : Thread Cert.SmallStepReferenceIdeal.nD Cert.SmallStepReferenceIdeal.τ).loc Cert.SmallStepReferenceIdeal.main_arg35) = m' ((c.tc : Thread Cert.SmallStepReferenceIdeal.nD Cert.SmallStepReferenceIdeal.τ).loc Cert.SmallStepReferenceIdeal.main_arg35)
          ∧ r.2.mem ((c.tc : Thread Cert.SmallStepReferenceIdeal.nD Cert.SmallStepReferenceIdeal.τ).loc Cert.SmallStepReferenceIdeal.main_arg36) = m' ((c.tc : Thread Cert.SmallStepReferenceIdeal.nD Cert.SmallStepReferenceIdeal.τ).loc Cert.SmallStepReferenceIdeal.main_arg36)
          ∧ r.2.mem ((c.tc : Thread Cert.SmallStepReferenceIdeal.nD Cert.SmallStepReferenceIdeal.τ).loc Cert.SmallStepReferenceIdeal.main_arg37) = m' ((c.tc : Thread Cert.SmallStepReferenceIdeal.nD Cert.SmallStepReferenceIdeal.τ).loc Cert.SmallStepReferenceIdeal.main_arg37)
          ∧ r.2.mem ((c.tc : Thread Cert.SmallStepReferenceIdeal.nD Cert.SmallStepReferenceIdeal.τ).loc Cert.SmallStepReferenceIdeal.main_arg38) = m' ((c.tc : Thread Cert.SmallStepReferenceIdeal.nD Cert.SmallStepReferenceIdeal.τ).loc Cert.SmallStepReferenceIdeal.main_arg38)
          ∧ r.2.mem ((c.tc : Thread Cert.SmallStepReferenceIdeal.nD Cert.SmallStepReferenceIdeal.τ).loc Cert.SmallStepReferenceIdeal.main_arg39) = m' ((c.tc : Thread Cert.SmallStepReferenceIdeal.nD Cert.SmallStepReferenceIdeal.τ).loc Cert.SmallStepReferenceIdeal.main_arg39)
          ∧ r.2.mem ((c.tc : Thread Cert.SmallStepReferenceIdeal.nD Cert.SmallStepReferenceIdeal.τ).loc Cert.SmallStepReferenceIdeal.main_arg40) = m' ((c.tc : Thread Cert.SmallStepReferenceIdeal.nD Cert.SmallStepReferenceIdeal.τ).loc Cert.SmallStepReferenceIdeal.main_arg40)
          ∧ r.2.mem ((c.tc : Thread Cert.SmallStepReferenceIdeal.nD Cert.SmallStepReferenceIdeal.τ).loc Cert.SmallStepReferenceIdeal.main_arg41) = m' ((c.tc : Thread Cert.SmallStepReferenceIdeal.nD Cert.SmallStepReferenceIdeal.τ).loc Cert.SmallStepReferenceIdeal.main_arg41)
          ∧ r.2.mem ((c.tc : Thread Cert.SmallStepReferenceIdeal.nD Cert.SmallStepReferenceIdeal.τ).loc Cert.SmallStepReferenceIdeal.main_arg42) = m' ((c.tc : Thread Cert.SmallStepReferenceIdeal.nD Cert.SmallStepReferenceIdeal.τ).loc Cert.SmallStepReferenceIdeal.main_arg42)
          ∧ r.2.mem ((c.tc : Thread Cert.SmallStepReferenceIdeal.nD Cert.SmallStepReferenceIdeal.τ).loc Cert.SmallStepReferenceIdeal.main_arg43) = m' ((c.tc : Thread Cert.SmallStepReferenceIdeal.nD Cert.SmallStepReferenceIdeal.τ).loc Cert.SmallStepReferenceIdeal.main_arg43)
          ∧ r.2.mem ((c.tc : Thread Cert.SmallStepReferenceIdeal.nD Cert.SmallStepReferenceIdeal.τ).loc Cert.SmallStepReferenceIdeal.main_arg44) = m' ((c.tc : Thread Cert.SmallStepReferenceIdeal.nD Cert.SmallStepReferenceIdeal.τ).loc Cert.SmallStepReferenceIdeal.main_arg44)
          ∧ r.2.mem ((c.tc : Thread Cert.SmallStepReferenceIdeal.nD Cert.SmallStepReferenceIdeal.τ).loc Cert.SmallStepReferenceIdeal.main_arg45) = m' ((c.tc : Thread Cert.SmallStepReferenceIdeal.nD Cert.SmallStepReferenceIdeal.τ).loc Cert.SmallStepReferenceIdeal.main_arg45)
          ∧ r.2.mem ((c.tc : Thread Cert.SmallStepReferenceIdeal.nD Cert.SmallStepReferenceIdeal.τ).loc Cert.SmallStepReferenceIdeal.main_arg46) = m' ((c.tc : Thread Cert.SmallStepReferenceIdeal.nD Cert.SmallStepReferenceIdeal.τ).loc Cert.SmallStepReferenceIdeal.main_arg46)
          ∧ r.2.mem ((c.tc : Thread Cert.SmallStepReferenceIdeal.nD Cert.SmallStepReferenceIdeal.τ).loc Cert.SmallStepReferenceIdeal.main_arg47) = m' ((c.tc : Thread Cert.SmallStepReferenceIdeal.nD Cert.SmallStepReferenceIdeal.τ).loc Cert.SmallStepReferenceIdeal.main_arg47)
          ∧ r.2.mem ((c.tc : Thread Cert.SmallStepReferenceIdeal.nD Cert.SmallStepReferenceIdeal.τ).loc Cert.SmallStepReferenceIdeal.main_arg48) = m' ((c.tc : Thread Cert.SmallStepReferenceIdeal.nD Cert.SmallStepReferenceIdeal.τ).loc Cert.SmallStepReferenceIdeal.main_arg48)
          ∧ r.2.mem ((c.tc : Thread Cert.SmallStepReferenceIdeal.nD Cert.SmallStepReferenceIdeal.τ).loc Cert.SmallStepReferenceIdeal.main_arg49) = m' ((c.tc : Thread Cert.SmallStepReferenceIdeal.nD Cert.SmallStepReferenceIdeal.τ).loc Cert.SmallStepReferenceIdeal.main_arg49)
          ∧ r.2.mem ((c.tc : Thread Cert.SmallStepReferenceIdeal.nD Cert.SmallStepReferenceIdeal.τ).loc Cert.SmallStepReferenceIdeal.main_arg50) = m' ((c.tc : Thread Cert.SmallStepReferenceIdeal.nD Cert.SmallStepReferenceIdeal.τ).loc Cert.SmallStepReferenceIdeal.main_arg50)
          ∧ r.2.mem ((c.tc : Thread Cert.SmallStepReferenceIdeal.nD Cert.SmallStepReferenceIdeal.τ).loc Cert.SmallStepReferenceIdeal.main_arg51) = m' ((c.tc : Thread Cert.SmallStepReferenceIdeal.nD Cert.SmallStepReferenceIdeal.τ).loc Cert.SmallStepReferenceIdeal.main_arg51)
          ∧ r.2.mem ((c.tc : Thread Cert.SmallStepReferenceIdeal.nD Cert.SmallStepReferenceIdeal.τ).loc Cert.SmallStepReferenceIdeal.main_arg52) = m' ((c.tc : Thread Cert.SmallStepReferenceIdeal.nD Cert.SmallStepReferenceIdeal.τ).loc Cert.SmallStepReferenceIdeal.main_arg52)
          ∧ r.2.mem ((c.tc : Thread Cert.SmallStepReferenceIdeal.nD Cert.SmallStepReferenceIdeal.τ).loc Cert.SmallStepReferenceIdeal.main_arg53) = m' ((c.tc : Thread Cert.SmallStepReferenceIdeal.nD Cert.SmallStepReferenceIdeal.τ).loc Cert.SmallStepReferenceIdeal.main_arg53)
          ∧ r.2.mem ((c.tc : Thread Cert.SmallStepReferenceIdeal.nD Cert.SmallStepReferenceIdeal.τ).loc Cert.SmallStepReferenceIdeal.main_arg54) = m' ((c.tc : Thread Cert.SmallStepReferenceIdeal.nD Cert.SmallStepReferenceIdeal.τ).loc Cert.SmallStepReferenceIdeal.main_arg54)
          ∧ r.2.mem ((c.tc : Thread Cert.SmallStepReferenceIdeal.nD Cert.SmallStepReferenceIdeal.τ).loc Cert.SmallStepReferenceIdeal.main_arg55) = m' ((c.tc : Thread Cert.SmallStepReferenceIdeal.nD Cert.SmallStepReferenceIdeal.τ).loc Cert.SmallStepReferenceIdeal.main_arg55)
          ∧ r.2.mem ((c.tc : Thread Cert.SmallStepReferenceIdeal.nD Cert.SmallStepReferenceIdeal.τ).loc Cert.SmallStepReferenceIdeal.main_arg56) = m' ((c.tc : Thread Cert.SmallStepReferenceIdeal.nD Cert.SmallStepReferenceIdeal.τ).loc Cert.SmallStepReferenceIdeal.main_arg56)
          ∧ r.2.mem ((c.tc : Thread Cert.SmallStepReferenceIdeal.nD Cert.SmallStepReferenceIdeal.τ).loc Cert.SmallStepReferenceIdeal.main_arg57) = m' ((c.tc : Thread Cert.SmallStepReferenceIdeal.nD Cert.SmallStepReferenceIdeal.τ).loc Cert.SmallStepReferenceIdeal.main_arg57)
          ∧ r.2.mem ((c.tc : Thread Cert.SmallStepReferenceIdeal.nD Cert.SmallStepReferenceIdeal.τ).loc Cert.SmallStepReferenceIdeal.main_arg58) = m' ((c.tc : Thread Cert.SmallStepReferenceIdeal.nD Cert.SmallStepReferenceIdeal.τ).loc Cert.SmallStepReferenceIdeal.main_arg58)
          ∧ r.2.mem ((c.tc : Thread Cert.SmallStepReferenceIdeal.nD Cert.SmallStepReferenceIdeal.τ).loc Cert.SmallStepReferenceIdeal.main_arg59) = m' ((c.tc : Thread Cert.SmallStepReferenceIdeal.nD Cert.SmallStepReferenceIdeal.τ).loc Cert.SmallStepReferenceIdeal.main_arg59))

def Claim : Prop :=
  ∃ (hKernel : Cert.Kernel.Facts) (hKernelIdeal : Cert.KernelIdeal.Facts) (hReferenceIdeal : Cert.ReferenceIdeal.Facts) (hWeightKernel : Cert.WeightKernel.Facts) (hWeightKernelIdeal : Cert.WeightKernelIdeal.Facts) (hWeightReferenceIdeal : Cert.WeightReferenceIdeal.Facts) (hDownKernel : Cert.DownKernel.Facts) (hDownKernelIdeal : Cert.DownKernelIdeal.Facts) (hDownReferenceIdeal : Cert.DownReferenceIdeal.Facts) (hDownWeightKernel : Cert.DownWeightKernel.Facts) (hDownWeightKernelIdeal : Cert.DownWeightKernelIdeal.Facts) (hDownWeightReferenceIdeal : Cert.DownWeightReferenceIdeal.Facts) (hUpKernel : Cert.UpKernel.Facts) (hUpKernelIdeal : Cert.UpKernelIdeal.Facts) (hUpReferenceIdeal : Cert.UpReferenceIdeal.Facts) (hOutKernel : Cert.OutKernel.Facts) (hOutKernelIdeal : Cert.OutKernelIdeal.Facts) (hOutReferenceIdeal : Cert.OutReferenceIdeal.Facts) (hActKernel : Cert.ActKernel.Facts) (hActKernelIdeal : Cert.ActKernelIdeal.Facts) (hActReferenceIdeal : Cert.ActReferenceIdeal.Facts) (hMixKernel : Cert.MixKernel.Facts) (hMixKernelIdeal : Cert.MixKernelIdeal.Facts) (hMixReferenceIdeal : Cert.MixReferenceIdeal.Facts) (hMixWeightKernel : Cert.MixWeightKernel.Facts) (hMixWeightKernelIdeal : Cert.MixWeightKernelIdeal.Facts) (hMixWeightReferenceIdeal : Cert.MixWeightReferenceIdeal.Facts) (hConvWeightKernel : Cert.ConvWeightKernel.Facts) (hConvWeightKernelIdeal : Cert.ConvWeightKernelIdeal.Facts) (hConvWeightReferenceIdeal : Cert.ConvWeightReferenceIdeal.Facts) (hSquareWeightKernel : Cert.SquareWeightKernel.Facts) (hSquareWeightKernelIdeal : Cert.SquareWeightKernelIdeal.Facts) (hSquareWeightReferenceIdeal : Cert.SquareWeightReferenceIdeal.Facts) (hConvInputKernel : Cert.ConvInputKernel.Facts) (hConvInputKernelIdeal : Cert.ConvInputKernelIdeal.Facts) (hConvInputReferenceIdeal : Cert.ConvInputReferenceIdeal.Facts) (hAttnBackKernel : Cert.AttnBackKernel.Facts) (hAttnBackKernelIdeal : Cert.AttnBackKernelIdeal.Facts) (hAttnBackReferenceIdeal : Cert.AttnBackReferenceIdeal.Facts) (hConvBackKernel : Cert.ConvBackKernel.Facts) (hConvBackKernelIdeal : Cert.ConvBackKernelIdeal.Facts) (hConvBackReferenceIdeal : Cert.ConvBackReferenceIdeal.Facts) (hAttnInKernel : Cert.AttnInKernel.Facts) (hAttnInKernelIdeal : Cert.AttnInKernelIdeal.Facts) (hAttnInReferenceIdeal : Cert.AttnInReferenceIdeal.Facts) (hConvInKernel : Cert.ConvInKernel.Facts) (hConvInKernelIdeal : Cert.ConvInKernelIdeal.Facts) (hConvInReferenceIdeal : Cert.ConvInReferenceIdeal.Facts) (hAttnOutKernel : Cert.AttnOutKernel.Facts) (hAttnOutKernelIdeal : Cert.AttnOutKernelIdeal.Facts) (hAttnOutReferenceIdeal : Cert.AttnOutReferenceIdeal.Facts) (hConvOutKernel : Cert.ConvOutKernel.Facts) (hConvOutKernelIdeal : Cert.ConvOutKernelIdeal.Facts) (hConvOutReferenceIdeal : Cert.ConvOutReferenceIdeal.Facts) (hLastKernel : Cert.LastKernel.Facts) (hLastKernelIdeal : Cert.LastKernelIdeal.Facts) (hLastReferenceIdeal : Cert.LastReferenceIdeal.Facts) (hUpStepKernel : Cert.UpStepKernel.Facts) (hUpStepKernelIdeal : Cert.UpStepKernelIdeal.Facts) (hUpStepReferenceIdeal : Cert.UpStepReferenceIdeal.Facts) (hDownStepKernel : Cert.DownStepKernel.Facts) (hDownStepKernelIdeal : Cert.DownStepKernelIdeal.Facts) (hDownStepReferenceIdeal : Cert.DownStepReferenceIdeal.Facts) (hFirstConvInputKernel : Cert.FirstConvInputKernel.Facts) (hFirstConvInputKernelIdeal : Cert.FirstConvInputKernelIdeal.Facts) (hFirstConvInputReferenceIdeal : Cert.FirstConvInputReferenceIdeal.Facts) (hFirstAttnBackKernel : Cert.FirstAttnBackKernel.Facts) (hFirstAttnBackKernelIdeal : Cert.FirstAttnBackKernelIdeal.Facts) (hFirstAttnBackReferenceIdeal : Cert.FirstAttnBackReferenceIdeal.Facts) (hFirstConvBackKernel : Cert.FirstConvBackKernel.Facts) (hFirstConvBackKernelIdeal : Cert.FirstConvBackKernelIdeal.Facts) (hFirstConvBackReferenceIdeal : Cert.FirstConvBackReferenceIdeal.Facts) (hFirstConvInKernel : Cert.FirstConvInKernel.Facts) (hFirstConvInKernelIdeal : Cert.FirstConvInKernelIdeal.Facts) (hFirstConvInReferenceIdeal : Cert.FirstConvInReferenceIdeal.Facts) (hFirstAttnOutKernel : Cert.FirstAttnOutKernel.Facts) (hFirstAttnOutKernelIdeal : Cert.FirstAttnOutKernelIdeal.Facts) (hFirstAttnOutReferenceIdeal : Cert.FirstAttnOutReferenceIdeal.Facts) (hFirstConvOutKernel : Cert.FirstConvOutKernel.Facts) (hFirstConvOutKernelIdeal : Cert.FirstConvOutKernelIdeal.Facts) (hFirstConvOutReferenceIdeal : Cert.FirstConvOutReferenceIdeal.Facts) (hMixStepKernel : Cert.MixStepKernel.Facts) (hMixStepKernelIdeal : Cert.MixStepKernelIdeal.Facts) (hMixStepReferenceIdeal : Cert.MixStepReferenceIdeal.Facts) (hConvStepKernel : Cert.ConvStepKernel.Facts) (hConvStepKernelIdeal : Cert.ConvStepKernelIdeal.Facts) (hConvStepReferenceIdeal : Cert.ConvStepReferenceIdeal.Facts) (hSquareStepKernel : Cert.SquareStepKernel.Facts) (hSquareStepKernelIdeal : Cert.SquareStepKernelIdeal.Facts) (hSquareStepReferenceIdeal : Cert.SquareStepReferenceIdeal.Facts) (hNormKernel : Cert.NormKernel.Facts) (hNormKernelIdeal : Cert.NormKernelIdeal.Facts) (hNormReferenceIdeal : Cert.NormReferenceIdeal.Facts) (hLossKernel : Cert.LossKernel.Facts) (hLossKernelIdeal : Cert.LossKernelIdeal.Facts) (hLossReferenceIdeal : Cert.LossReferenceIdeal.Facts) (hSmallStepKernel : Cert.SmallStepKernel.Facts) (hSmallStepKernelIdeal : Cert.SmallStepKernelIdeal.Facts) (hSmallStepReferenceIdeal : Cert.SmallStepReferenceIdeal.Facts),
    quiescent_Kernel (hKernel := hKernel)
    ∧ quiescent_KernelIdeal (hKernelIdeal := hKernelIdeal)
    ∧ quiescent_ReferenceIdeal (hReferenceIdeal := hReferenceIdeal)
    ∧ quiescent_WeightKernel (hWeightKernel := hWeightKernel)
    ∧ quiescent_WeightKernelIdeal (hWeightKernelIdeal := hWeightKernelIdeal)
    ∧ quiescent_WeightReferenceIdeal (hWeightReferenceIdeal := hWeightReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_DownWeightKernel (hDownWeightKernel := hDownWeightKernel)
    ∧ quiescent_DownWeightKernelIdeal (hDownWeightKernelIdeal := hDownWeightKernelIdeal)
    ∧ quiescent_DownWeightReferenceIdeal (hDownWeightReferenceIdeal := hDownWeightReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_ActKernel (hActKernel := hActKernel)
    ∧ quiescent_ActKernelIdeal (hActKernelIdeal := hActKernelIdeal)
    ∧ quiescent_ActReferenceIdeal (hActReferenceIdeal := hActReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_MixWeightKernel (hMixWeightKernel := hMixWeightKernel)
    ∧ quiescent_MixWeightKernelIdeal (hMixWeightKernelIdeal := hMixWeightKernelIdeal)
    ∧ quiescent_MixWeightReferenceIdeal (hMixWeightReferenceIdeal := hMixWeightReferenceIdeal)
    ∧ quiescent_ConvWeightKernel (hConvWeightKernel := hConvWeightKernel)
    ∧ quiescent_ConvWeightKernelIdeal (hConvWeightKernelIdeal := hConvWeightKernelIdeal)
    ∧ quiescent_ConvWeightReferenceIdeal (hConvWeightReferenceIdeal := hConvWeightReferenceIdeal)
    ∧ quiescent_SquareWeightKernel (hSquareWeightKernel := hSquareWeightKernel)
    ∧ quiescent_SquareWeightKernelIdeal (hSquareWeightKernelIdeal := hSquareWeightKernelIdeal)
    ∧ quiescent_SquareWeightReferenceIdeal (hSquareWeightReferenceIdeal := hSquareWeightReferenceIdeal)
    ∧ quiescent_ConvInputKernel (hConvInputKernel := hConvInputKernel)
    ∧ quiescent_ConvInputKernelIdeal (hConvInputKernelIdeal := hConvInputKernelIdeal)
    ∧ quiescent_ConvInputReferenceIdeal (hConvInputReferenceIdeal := hConvInputReferenceIdeal)
    ∧ quiescent_AttnBackKernel (hAttnBackKernel := hAttnBackKernel)
    ∧ quiescent_AttnBackKernelIdeal (hAttnBackKernelIdeal := hAttnBackKernelIdeal)
    ∧ quiescent_AttnBackReferenceIdeal (hAttnBackReferenceIdeal := hAttnBackReferenceIdeal)
    ∧ quiescent_ConvBackKernel (hConvBackKernel := hConvBackKernel)
    ∧ quiescent_ConvBackKernelIdeal (hConvBackKernelIdeal := hConvBackKernelIdeal)
    ∧ quiescent_ConvBackReferenceIdeal (hConvBackReferenceIdeal := hConvBackReferenceIdeal)
    ∧ quiescent_AttnInKernel (hAttnInKernel := hAttnInKernel)
    ∧ quiescent_AttnInKernelIdeal (hAttnInKernelIdeal := hAttnInKernelIdeal)
    ∧ quiescent_AttnInReferenceIdeal (hAttnInReferenceIdeal := hAttnInReferenceIdeal)
    ∧ quiescent_ConvInKernel (hConvInKernel := hConvInKernel)
    ∧ quiescent_ConvInKernelIdeal (hConvInKernelIdeal := hConvInKernelIdeal)
    ∧ quiescent_ConvInReferenceIdeal (hConvInReferenceIdeal := hConvInReferenceIdeal)
    ∧ quiescent_AttnOutKernel (hAttnOutKernel := hAttnOutKernel)
    ∧ quiescent_AttnOutKernelIdeal (hAttnOutKernelIdeal := hAttnOutKernelIdeal)
    ∧ quiescent_AttnOutReferenceIdeal (hAttnOutReferenceIdeal := hAttnOutReferenceIdeal)
    ∧ quiescent_ConvOutKernel (hConvOutKernel := hConvOutKernel)
    ∧ quiescent_ConvOutKernelIdeal (hConvOutKernelIdeal := hConvOutKernelIdeal)
    ∧ quiescent_ConvOutReferenceIdeal (hConvOutReferenceIdeal := hConvOutReferenceIdeal)
    ∧ quiescent_LastKernel (hLastKernel := hLastKernel)
    ∧ quiescent_LastKernelIdeal (hLastKernelIdeal := hLastKernelIdeal)
    ∧ quiescent_LastReferenceIdeal (hLastReferenceIdeal := hLastReferenceIdeal)
    ∧ quiescent_UpStepKernel (hUpStepKernel := hUpStepKernel)
    ∧ quiescent_UpStepKernelIdeal (hUpStepKernelIdeal := hUpStepKernelIdeal)
    ∧ quiescent_UpStepReferenceIdeal (hUpStepReferenceIdeal := hUpStepReferenceIdeal)
    ∧ quiescent_DownStepKernel (hDownStepKernel := hDownStepKernel)
    ∧ quiescent_DownStepKernelIdeal (hDownStepKernelIdeal := hDownStepKernelIdeal)
    ∧ quiescent_DownStepReferenceIdeal (hDownStepReferenceIdeal := hDownStepReferenceIdeal)
    ∧ quiescent_FirstConvInputKernel (hFirstConvInputKernel := hFirstConvInputKernel)
    ∧ quiescent_FirstConvInputKernelIdeal (hFirstConvInputKernelIdeal := hFirstConvInputKernelIdeal)
    ∧ quiescent_FirstConvInputReferenceIdeal (hFirstConvInputReferenceIdeal := hFirstConvInputReferenceIdeal)
    ∧ quiescent_FirstAttnBackKernel (hFirstAttnBackKernel := hFirstAttnBackKernel)
    ∧ quiescent_FirstAttnBackKernelIdeal (hFirstAttnBackKernelIdeal := hFirstAttnBackKernelIdeal)
    ∧ quiescent_FirstAttnBackReferenceIdeal (hFirstAttnBackReferenceIdeal := hFirstAttnBackReferenceIdeal)
    ∧ quiescent_FirstConvBackKernel (hFirstConvBackKernel := hFirstConvBackKernel)
    ∧ quiescent_FirstConvBackKernelIdeal (hFirstConvBackKernelIdeal := hFirstConvBackKernelIdeal)
    ∧ quiescent_FirstConvBackReferenceIdeal (hFirstConvBackReferenceIdeal := hFirstConvBackReferenceIdeal)
    ∧ quiescent_FirstConvInKernel (hFirstConvInKernel := hFirstConvInKernel)
    ∧ quiescent_FirstConvInKernelIdeal (hFirstConvInKernelIdeal := hFirstConvInKernelIdeal)
    ∧ quiescent_FirstConvInReferenceIdeal (hFirstConvInReferenceIdeal := hFirstConvInReferenceIdeal)
    ∧ quiescent_FirstAttnOutKernel (hFirstAttnOutKernel := hFirstAttnOutKernel)
    ∧ quiescent_FirstAttnOutKernelIdeal (hFirstAttnOutKernelIdeal := hFirstAttnOutKernelIdeal)
    ∧ quiescent_FirstAttnOutReferenceIdeal (hFirstAttnOutReferenceIdeal := hFirstAttnOutReferenceIdeal)
    ∧ quiescent_FirstConvOutKernel (hFirstConvOutKernel := hFirstConvOutKernel)
    ∧ quiescent_FirstConvOutKernelIdeal (hFirstConvOutKernelIdeal := hFirstConvOutKernelIdeal)
    ∧ quiescent_FirstConvOutReferenceIdeal (hFirstConvOutReferenceIdeal := hFirstConvOutReferenceIdeal)
    ∧ quiescent_MixStepKernel (hMixStepKernel := hMixStepKernel)
    ∧ quiescent_MixStepKernelIdeal (hMixStepKernelIdeal := hMixStepKernelIdeal)
    ∧ quiescent_MixStepReferenceIdeal (hMixStepReferenceIdeal := hMixStepReferenceIdeal)
    ∧ quiescent_ConvStepKernel (hConvStepKernel := hConvStepKernel)
    ∧ quiescent_ConvStepKernelIdeal (hConvStepKernelIdeal := hConvStepKernelIdeal)
    ∧ quiescent_ConvStepReferenceIdeal (hConvStepReferenceIdeal := hConvStepReferenceIdeal)
    ∧ quiescent_SquareStepKernel (hSquareStepKernel := hSquareStepKernel)
    ∧ quiescent_SquareStepKernelIdeal (hSquareStepKernelIdeal := hSquareStepKernelIdeal)
    ∧ quiescent_SquareStepReferenceIdeal (hSquareStepReferenceIdeal := hSquareStepReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_SmallStepKernel (hSmallStepKernel := hSmallStepKernel)
    ∧ quiescent_SmallStepKernelIdeal (hSmallStepKernelIdeal := hSmallStepKernelIdeal)
    ∧ quiescent_SmallStepReferenceIdeal (hSmallStepReferenceIdeal := hSmallStepReferenceIdeal)
    ∧ preserves_Kernel_KernelIdeal
    ∧ algebraic_KernelIdeal_ReferenceIdeal (hKernelIdeal := hKernelIdeal) (hReferenceIdeal := hReferenceIdeal)
    ∧ preserves_WeightKernel_WeightKernelIdeal
    ∧ algebraic_WeightKernelIdeal_WeightReferenceIdeal (hWeightKernelIdeal := hWeightKernelIdeal) (hWeightReferenceIdeal := hWeightReferenceIdeal)
    ∧ preserves_DownKernel_DownKernelIdeal
    ∧ algebraic_DownKernelIdeal_DownReferenceIdeal (hDownKernelIdeal := hDownKernelIdeal) (hDownReferenceIdeal := hDownReferenceIdeal)
    ∧ preserves_DownWeightKernel_DownWeightKernelIdeal
    ∧ algebraic_DownWeightKernelIdeal_DownWeightReferenceIdeal (hDownWeightKernelIdeal := hDownWeightKernelIdeal) (hDownWeightReferenceIdeal := hDownWeightReferenceIdeal)
    ∧ preserves_UpKernel_UpKernelIdeal
    ∧ algebraic_UpKernelIdeal_UpReferenceIdeal (hUpKernelIdeal := hUpKernelIdeal) (hUpReferenceIdeal := hUpReferenceIdeal)
    ∧ preserves_OutKernel_OutKernelIdeal
    ∧ algebraic_OutKernelIdeal_OutReferenceIdeal (hOutKernelIdeal := hOutKernelIdeal) (hOutReferenceIdeal := hOutReferenceIdeal)
    ∧ preserves_ActKernel_ActKernelIdeal
    ∧ algebraic_ActKernelIdeal_ActReferenceIdeal (hActKernelIdeal := hActKernelIdeal) (hActReferenceIdeal := hActReferenceIdeal)
    ∧ preserves_MixKernel_MixKernelIdeal
    ∧ algebraic_MixKernelIdeal_MixReferenceIdeal (hMixKernelIdeal := hMixKernelIdeal) (hMixReferenceIdeal := hMixReferenceIdeal)
    ∧ preserves_MixWeightKernel_MixWeightKernelIdeal
    ∧ algebraic_MixWeightKernelIdeal_MixWeightReferenceIdeal (hMixWeightKernelIdeal := hMixWeightKernelIdeal) (hMixWeightReferenceIdeal := hMixWeightReferenceIdeal)
    ∧ preserves_ConvWeightKernel_ConvWeightKernelIdeal
    ∧ algebraic_ConvWeightKernelIdeal_ConvWeightReferenceIdeal (hConvWeightKernelIdeal := hConvWeightKernelIdeal) (hConvWeightReferenceIdeal := hConvWeightReferenceIdeal)
    ∧ preserves_SquareWeightKernel_SquareWeightKernelIdeal
    ∧ algebraic_SquareWeightKernelIdeal_SquareWeightReferenceIdeal (hSquareWeightKernelIdeal := hSquareWeightKernelIdeal) (hSquareWeightReferenceIdeal := hSquareWeightReferenceIdeal)
    ∧ preserves_ConvInputKernel_ConvInputKernelIdeal
    ∧ algebraic_ConvInputKernelIdeal_ConvInputReferenceIdeal (hConvInputKernelIdeal := hConvInputKernelIdeal) (hConvInputReferenceIdeal := hConvInputReferenceIdeal)
    ∧ preserves_AttnBackKernel_AttnBackKernelIdeal
    ∧ algebraic_AttnBackKernelIdeal_AttnBackReferenceIdeal (hAttnBackKernelIdeal := hAttnBackKernelIdeal) (hAttnBackReferenceIdeal := hAttnBackReferenceIdeal)
    ∧ preserves_ConvBackKernel_ConvBackKernelIdeal
    ∧ algebraic_ConvBackKernelIdeal_ConvBackReferenceIdeal (hConvBackKernelIdeal := hConvBackKernelIdeal) (hConvBackReferenceIdeal := hConvBackReferenceIdeal)
    ∧ preserves_AttnInKernel_AttnInKernelIdeal
    ∧ algebraic_AttnInKernelIdeal_AttnInReferenceIdeal (hAttnInKernelIdeal := hAttnInKernelIdeal) (hAttnInReferenceIdeal := hAttnInReferenceIdeal)
    ∧ preserves_ConvInKernel_ConvInKernelIdeal
    ∧ algebraic_ConvInKernelIdeal_ConvInReferenceIdeal (hConvInKernelIdeal := hConvInKernelIdeal) (hConvInReferenceIdeal := hConvInReferenceIdeal)
    ∧ preserves_AttnOutKernel_AttnOutKernelIdeal
    ∧ algebraic_AttnOutKernelIdeal_AttnOutReferenceIdeal (hAttnOutKernelIdeal := hAttnOutKernelIdeal) (hAttnOutReferenceIdeal := hAttnOutReferenceIdeal)
    ∧ preserves_ConvOutKernel_ConvOutKernelIdeal
    ∧ algebraic_ConvOutKernelIdeal_ConvOutReferenceIdeal (hConvOutKernelIdeal := hConvOutKernelIdeal) (hConvOutReferenceIdeal := hConvOutReferenceIdeal)
    ∧ preserves_LastKernel_LastKernelIdeal
    ∧ algebraic_LastKernelIdeal_LastReferenceIdeal (hLastKernelIdeal := hLastKernelIdeal) (hLastReferenceIdeal := hLastReferenceIdeal)
    ∧ preserves_UpStepKernel_UpStepKernelIdeal
    ∧ algebraic_UpStepKernelIdeal_UpStepReferenceIdeal (hUpStepKernelIdeal := hUpStepKernelIdeal) (hUpStepReferenceIdeal := hUpStepReferenceIdeal)
    ∧ preserves_DownStepKernel_DownStepKernelIdeal
    ∧ algebraic_DownStepKernelIdeal_DownStepReferenceIdeal (hDownStepKernelIdeal := hDownStepKernelIdeal) (hDownStepReferenceIdeal := hDownStepReferenceIdeal)
    ∧ preserves_FirstConvInputKernel_FirstConvInputKernelIdeal
    ∧ algebraic_FirstConvInputKernelIdeal_FirstConvInputReferenceIdeal (hFirstConvInputKernelIdeal := hFirstConvInputKernelIdeal) (hFirstConvInputReferenceIdeal := hFirstConvInputReferenceIdeal)
    ∧ preserves_FirstAttnBackKernel_FirstAttnBackKernelIdeal
    ∧ algebraic_FirstAttnBackKernelIdeal_FirstAttnBackReferenceIdeal (hFirstAttnBackKernelIdeal := hFirstAttnBackKernelIdeal) (hFirstAttnBackReferenceIdeal := hFirstAttnBackReferenceIdeal)
    ∧ preserves_FirstConvBackKernel_FirstConvBackKernelIdeal
    ∧ algebraic_FirstConvBackKernelIdeal_FirstConvBackReferenceIdeal (hFirstConvBackKernelIdeal := hFirstConvBackKernelIdeal) (hFirstConvBackReferenceIdeal := hFirstConvBackReferenceIdeal)
    ∧ preserves_FirstConvInKernel_FirstConvInKernelIdeal
    ∧ algebraic_FirstConvInKernelIdeal_FirstConvInReferenceIdeal (hFirstConvInKernelIdeal := hFirstConvInKernelIdeal) (hFirstConvInReferenceIdeal := hFirstConvInReferenceIdeal)
    ∧ preserves_FirstAttnOutKernel_FirstAttnOutKernelIdeal
    ∧ algebraic_FirstAttnOutKernelIdeal_FirstAttnOutReferenceIdeal (hFirstAttnOutKernelIdeal := hFirstAttnOutKernelIdeal) (hFirstAttnOutReferenceIdeal := hFirstAttnOutReferenceIdeal)
    ∧ preserves_FirstConvOutKernel_FirstConvOutKernelIdeal
    ∧ algebraic_FirstConvOutKernelIdeal_FirstConvOutReferenceIdeal (hFirstConvOutKernelIdeal := hFirstConvOutKernelIdeal) (hFirstConvOutReferenceIdeal := hFirstConvOutReferenceIdeal)
    ∧ preserves_MixStepKernel_MixStepKernelIdeal
    ∧ algebraic_MixStepKernelIdeal_MixStepReferenceIdeal (hMixStepKernelIdeal := hMixStepKernelIdeal) (hMixStepReferenceIdeal := hMixStepReferenceIdeal)
    ∧ preserves_ConvStepKernel_ConvStepKernelIdeal
    ∧ algebraic_ConvStepKernelIdeal_ConvStepReferenceIdeal (hConvStepKernelIdeal := hConvStepKernelIdeal) (hConvStepReferenceIdeal := hConvStepReferenceIdeal)
    ∧ preserves_SquareStepKernel_SquareStepKernelIdeal
    ∧ algebraic_SquareStepKernelIdeal_SquareStepReferenceIdeal (hSquareStepKernelIdeal := hSquareStepKernelIdeal) (hSquareStepReferenceIdeal := hSquareStepReferenceIdeal)
    ∧ preserves_NormKernel_NormKernelIdeal
    ∧ algebraic_NormKernelIdeal_NormReferenceIdeal (hNormKernelIdeal := hNormKernelIdeal) (hNormReferenceIdeal := hNormReferenceIdeal)
    ∧ preserves_LossKernel_LossKernelIdeal
    ∧ algebraic_LossKernelIdeal_LossReferenceIdeal (hLossKernelIdeal := hLossKernelIdeal) (hLossReferenceIdeal := hLossReferenceIdeal)
    ∧ preserves_SmallStepKernel_SmallStepKernelIdeal
    ∧ algebraic_SmallStepKernelIdeal_SmallStepReferenceIdeal (hSmallStepKernelIdeal := hSmallStepKernelIdeal) (hSmallStepReferenceIdeal := hSmallStepReferenceIdeal)
-- ==== Kernel.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S1x1024x4x1408 : Shape := ⟨4, ![1, 1024, 4, 1408]⟩
abbrev S1x4x1024x1408 : Shape := ⟨4, ![1, 4, 1024, 1408]⟩
abbrev S1x1024 : Shape := ⟨2, ![1, 1024]⟩
abbrev S256x5632 : Shape := ⟨2, ![256, 5632]⟩
abbrev S256x1024 : Shape := ⟨2, ![256, 1024]⟩
abbrev S256x1408 : Shape := ⟨2, ![256, 1408]⟩
abbrev S1x1x1024x1408 : Shape := ⟨4, ![1, 1, 1024, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S8192x5632, .f32⟩
  | .hbm, ⟨5, _⟩ => ⟨S8192x5632, .bf16⟩
  | .hbm, ⟨6, _⟩ => ⟨S1x1024x4x1408, .f32⟩
  | .hbm, ⟨7, _⟩ => ⟨S1x4x1024x1408, .f32⟩
  | .hbm, ⟨8, _⟩ => ⟨S1x4x1024x1408, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1x4x1024x1408, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S1x1024x4x1408 : Shape := ⟨4, ![1, 1024, 4, 1408]⟩
abbrev S1x4x1024x1408 : Shape := ⟨4, ![1, 4, 1024, 1408]⟩
abbrev S1x1024 : Shape := ⟨2, ![1, 1024]⟩
abbrev S256x5632 : Shape := ⟨2, ![256, 5632]⟩
abbrev S256x1024 : Shape := ⟨2, ![256, 1024]⟩
abbrev S256x1408 : Shape := ⟨2, ![256, 1408]⟩
abbrev S1x1x1024x1408 : Shape := ⟨4, ![1, 1, 1024, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S8192x5632, .f32⟩
  | .hbm, ⟨5, _⟩ => ⟨S8192x5632, .bf16⟩
  | .hbm, ⟨6, _⟩ => ⟨S1x1024x4x1408, .f32⟩
  | .hbm, ⟨7, _⟩ => ⟨S1x4x1024x1408, .f32⟩
  | .hbm, ⟨8, _⟩ => ⟨S1x4x1024x1408, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1x4x1024x1408, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5632x1024 : Shape := ⟨2, ![5632, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S8192x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S5632x1024, .f32⟩
  | .hbm, ⟨27, _⟩ => ⟨S1024x5632, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== WeightKernel.lean ====
abbrev S8192x1024 : Shape := ⟨2, ![8192, 1024]⟩
abbrev S1024 : Shape := ⟨1, ![1024]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x4x1024x1408 : Shape := ⟨4, ![1, 4, 1024, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x5632, .bf16⟩
  | .hbm, ⟨21, _⟩ => ⟨S1x4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightKernelIdeal.lean ====
abbrev S8192x1024 : Shape := ⟨2, ![8192, 1024]⟩
abbrev S1024 : Shape := ⟨1, ![1024]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x4x1024x1408 : Shape := ⟨4, ![1, 4, 1024, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x5632, .bf16⟩
  | .hbm, ⟨21, _⟩ => ⟨S1x4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightReferenceIdeal.lean ====
abbrev S8192x1024 : Shape := ⟨2, ![8192, 1024]⟩
abbrev S1024 : Shape := ⟨1, ![1024]⟩
abbrev S8192x5632 : Shape := ⟨2, ![8192, 5632]⟩
abbrev S_ : Shape := ⟨0, ![]⟩
abbrev S1024x5632 : Shape := ⟨2, ![1024, 5632]⟩
abbrev S8192 : Shape := ⟨1, ![8192]⟩
abbrev S8192x1 : Shape := ⟨2, ![8192, 1]⟩
abbrev S1x1024 : Shape := ⟨2, ![1, 1024]⟩
abbrev S5632x1024 : Shape := ⟨2, ![5632, 1024]⟩
abbrev S1x1024x4x1408 : Shape := ⟨4, ![1, 1024, 4, 1408]⟩
abbrev S1x4x1024x1408 : Shape := ⟨4, ![1, 4, 1024, 1408]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x5632, .f32⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S5632x1024, .f32⟩
  | .hbm, ⟨23, _⟩ => ⟨S1024x5632, .f32⟩
  | .hbm, ⟨24, _⟩ => ⟨S1x1024x4x1408, .f32⟩
  | .hbm, ⟨25, _⟩ => ⟨S1x4x1024x1408, .f32⟩
  | .hbm, ⟨26, _⟩ => ⟨S1x4x1024x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== DownKernel.lean ====
abbrev S2816x1024 : Shape := ⟨2, ![2816, 1024]⟩
abbrev S8192x1024 : Shape := ⟨2, ![8192, 1024]⟩
abbrev S1x1x2816x1024 : Shape := ⟨4, ![1, 1, 2816, 1024]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 6
  | .vmem => 5
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S8192x1024, .bf16⟩
  | .hbm, ⟨3, _⟩ => ⟨S1x1x2816x1024, .f32⟩
  | .hbm, ⟨4, _⟩ => ⟨S1x1x2816x1024, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1x2816x1024, .bf16⟩
  | .local _ .vmem, ⟨3, _⟩ => ⟨S512x2816, .bf16⟩
  | .local _ .vmem, ⟨4, _⟩ => ⟨S512x2816, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownReferenceIdeal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | .hbm, ⟨6, _⟩ => ⟨S8192x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownWeightKernel.lean ====
abbrev S8192x2816 : Shape := ⟨2, ![8192, 2816]⟩
abbrev S8192x1024 : Shape := ⟨2, ![8192, 1024]⟩
abbrev S1x1x2816x1024 : Shape := ⟨4, ![1, 1, 2816, 1024]⟩
abbrev S2048x1408 : Shape := ⟨2, ![2048, 1408]⟩
abbrev S2048x1024 : Shape := ⟨2, ![2048, 1024]⟩
abbrev S1x1x1408x1024 : Shape := ⟨4, ![1, 1, 1408, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S1x1x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightKernelIdeal.lean ====
abbrev S8192x2816 : Shape := ⟨2, ![8192, 2816]⟩
abbrev S8192x1024 : Shape := ⟨2, ![8192, 1024]⟩
abbrev S1x1x2816x1024 : Shape := ⟨4, ![1, 1, 2816, 1024]⟩
abbrev S2048x1408 : Shape := ⟨2, ![2048, 1408]⟩
abbrev S2048x1024 : Shape := ⟨2, ![2048, 1024]⟩
abbrev S1x1x1408x1024 : Shape := ⟨4, ![1, 1, 1408, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S1x1x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1x1x2816x1024 : Shape := ⟨4, ![1, 1, 2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S1x1x2816x1024, .f32⟩
  | .hbm, ⟨8, _⟩ => ⟨S1x1x2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpKernel.lean ====
abbrev S8192x1024 : Shape := ⟨2, ![8192, 1024]⟩
abbrev S1024x5632 : Shape := ⟨2, ![1024, 5632]⟩
abbrev S1x1024x4x1408 : Shape := ⟨4, ![1, 1024, 4, 1408]⟩
abbrev S1x4x1024x1408 : Shape := ⟨4, ![1, 4, 1024, 1408]⟩
abbrev S8192x5632 : Shape := ⟨2, ![8192, 5632]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1x1024x4x1408, .f32⟩
  | .hbm, ⟨4, _⟩ => ⟨S1x4x1024x1408, .f32⟩
  | .hbm, ⟨5, _⟩ => ⟨S1x4x1024x1408, .bf16⟩
  | .hbm, ⟨6, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1408, .bf16⟩
  | .local _ .vmem, ⟨5, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== UpReferenceIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutKernel.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S1x1x2816x1024 : Shape := ⟨4, ![1, 1, 2816, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S8192x2816, .bf16⟩
  | .hbm, ⟨5, _⟩ => ⟨S1x1x2816x1024, .f32⟩
  | .hbm, ⟨6, _⟩ => ⟨S1x1x2816x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S1x1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== OutReferenceIdeal.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== ActKernel.lean ====
abbrev S8192x5632 : Shape := ⟨2, ![8192, 5632]⟩
abbrev S3x2816 : Shape := ⟨2, ![3, 2816]⟩
abbrev S2816 : Shape := ⟨1, ![2816]⟩
abbrev S_ : Shape := ⟨0, ![]⟩
abbrev S8x2816 : Shape := ⟨2, ![8, 2816]⟩
abbrev S1x2816 : Shape := ⟨2, ![1, 2816]⟩
abbrev S8192x2816 : Shape := ⟨2, ![8192, 2816]⟩
abbrev S256x2816 : Shape := ⟨2, ![256, 2816]⟩
abbrev S16x2816 : Shape := ⟨2, ![16, 2816]⟩
abbrev S16x128 : Shape := ⟨2, ![16, 128]⟩
abbrev S256x128 : Shape := ⟨2, ![256, 128]⟩
abbrev S272x128 : Shape := ⟨2, ![272, 128]⟩
abbrev S1x128 : Shape := ⟨2, ![1, 128]⟩

abbrev nBuf : Space → Nat
  | .hbm => 9
  | .vmem => 10
  | .smem => 0
  | _ => 0

abbrev bufTy : (tb : Table) → Fin (tcTables nBuf tb) → BufTy
  | .hbm, ⟨0, _⟩ => ⟨S8192x5632, .f32⟩
  | .hbm, ⟨1, _⟩ => ⟨S3x2816, .f32⟩
  | .hbm, ⟨2, _⟩ => ⟨S2816, .f32⟩
  | .hbm, ⟨3, _⟩ => ⟨S8192x5632, .bf16⟩
  | .hbm, ⟨4, _⟩ => ⟨S_, .i32⟩
  | .hbm, ⟨5, _⟩ => ⟨S_, .f32⟩
  | .hbm, ⟨6, _⟩ => ⟨S8x2816, .f32⟩
  | .hbm, ⟨7, _⟩ => ⟨S1x2816, .f32⟩
  | .hbm, ⟨8, _⟩ => ⟨S8192x2816, .bf16⟩
  | .local _ .vmem, ⟨0, _⟩ => ⟨S256x2816, .bf16⟩
  | .local _ .vmem, ⟨1, _⟩ => ⟨S256x2816, .bf16⟩
  | .local _ .vmem, ⟨2, _⟩ => ⟨S16x2816, .bf16⟩
  | .local _ .vmem, ⟨3, _⟩ => ⟨S16x2816, .bf16⟩
  | .local _ .vmem, ⟨4, _⟩ => ⟨S256x2816, .bf16⟩
  | .local _ .vmem, ⟨5, _⟩ => ⟨S256x2816, .bf16⟩
  | .local _ .vmem, ⟨6, _⟩ => ⟨S8x2816, .f32⟩
  | .local _ .vmem, ⟨7, _⟩ => ⟨S1x2816, .f32⟩
  | .local _ .vmem, ⟨8, _⟩ => ⟨S256x2816, .bf16⟩
  | .local _ .vmem, ⟨9, _⟩ => ⟨S256x2816, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_0 : BitVec 32 := 0#32
  let c22_i32 : BitVec 32 := 22#32
  let v1 : BitVec 32 := Scalar.addi c0_i32_0 c22_i32
  let c1_i32 : BitVec 32 := 1#32
  ⟨c0_i32_0, v1, c1_i32⟩
def k0_mult1 (k0_t1 : Fin k0_t1_loop.trips) : BitVec 32 :=
  let c0_i32_0 : BitVec 32 := 0#32
  let c1_i32 : BitVec 32 := 1#32
  let arg7 : BitVec 32 := Scf.iv c0_i32_0 c1_i32 k0_t1
  let c128_i32 : BitVec 32 := 128#32
  let v2 : BitVec 32 := Scalar.muli arg7 c128_i32
  v2
def k0_off1 (k0_t1 : Fin k0_t1_loop.trips) : Fin 2 → Nat :=
  let c0 : Index := 0#32
  let c0_i32_0 : BitVec 32 := 0#32
  let c1_i32 : BitVec 32 := 1#32
  let arg7 : BitVec 32 := Scf.iv c0_i32_0 c1_i32 k0_t1
  let c128_i32 : BitVec 32 := 128#32
  let v2 : BitVec 32 := Scalar.muli arg7 c128_i32
  let v3 : BitVec 32 := v2
  let v4 : Index := Scalar.indexCast v3
  ![0, v4.toNat]
def k0_off2 (k0_t1 : Fin k0_t1_loop.trips) : Fin 2 → Nat :=
  let c0_2 : Index := 0#32
  let c0_i32_0 : BitVec 32 := 0#32
  let c1_i32 : BitVec 32 := 1#32
  let arg7 : BitVec 32 := Scf.iv c0_i32_0 c1_i32 k0_t1
  let c128_i32 : BitVec 32 := 128#32
  let v2 : BitVec 32 := Scalar.muli arg7 c128_i32
  let v3 : BitVec 32 := v2
  let v10 : Index := Scalar.indexCast v3
  ![0, v10.toNat]
def k0_off3 (k0_t1 : Fin k0_t1_loop.trips) : Fin 2 → Nat :=
  let c0_4 : Index := 0#32
  let c0_i32_0 : BitVec 32 := 0#32
  let c1_i32 : BitVec 32 := 1#32
  let arg7 : BitVec 32 := Scf.iv c0_i32_0 c1_i32 k0_t1
  let c128_i32 : BitVec 32 := 128#32
  let v2 : BitVec 32 := Scalar.muli arg7 c128_i32
  let v3 : BitVec 32 := v2
  let v17 : Index := Scalar.indexCast v3
  ![0, v17.toNat]
def k0_off4 (k0_t1 : Fin k0_t1_loop.trips) : Fin 2 → Nat :=
  let c0_5 : Index := 0#32
  let c0_i32_0 : BitVec 32 := 0#32
  let c1_i32 : BitVec 32 := 1#32
  let arg7 : BitVec 32 := Scf.iv c0_i32_0 c1_i32 k0_t1
  let c128_i32 : BitVec 32 := 128#32
  let v2 : BitVec 32 := Scalar.muli arg7 c128_i32
  let v3 : BitVec 32 := v2
  let v20 : Index := Scalar.indexCast v3
  ![0, v20.toNat]
def k0_off5 (k0_t1 : Fin k0_t1_loop.trips) : Fin 2 → Nat :=
  let c1 : Index := 1#32
  let c0_i32_0 : BitVec 32 := 0#32
  let c1_i32 : BitVec 32 := 1#32
  let arg7 : BitVec 32 := Scf.iv c0_i32_0 c1_i32 k0_t1
  let c128_i32 : BitVec 32 := 128#32
  let v2 : BitVec 32 := Scalar.muli arg7 c128_i32
  let v3 : BitVec 32 := v2
  let v27 : Index := Scalar.indexCast v3
  ![1, v27.toNat]
def k0_off6 (k0_t1 : Fin k0_t1_loop.trips) : Fin 2 → Nat :=
  let c2 : Index := 2#32
  let c0_i32_0 : BitVec 32 := 0#32
  let c1_i32 : BitVec 32 := 1#32
  let arg7 : BitVec 32 := Scf.iv c0_i32_0 c1_i32 k0_t1
  let c128_i32 : BitVec 32 := 128#32
  let v2 : BitVec 32 := Scalar.muli arg7 c128_i32
  let v3 : BitVec 32 := v2
  let v33 : Index := Scalar.indexCast v3
  ![2, v33.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ActReferenceIdeal.lean ====
abbrev S8192x5632 : Shape := ⟨2, ![8192, 5632]⟩
abbrev S3x2816 : Shape := ⟨2, ![3, 2816]⟩
abbrev S2816 : Shape := ⟨1, ![2816]⟩
abbrev S8192x2816 : Shape := ⟨2, ![8192, 2816]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩

abbrev nBuf : Space → Nat
  | .hbm => 42
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x2816, .f32⟩
  | .hbm, ⟨2, _⟩ => ⟨S2816, .f32⟩
  | .hbm, ⟨3, _⟩ => ⟨S8192x2816, .f32⟩
  | .hbm, ⟨4, _⟩ => ⟨S8192x2816, .f32⟩
  | .hbm, ⟨5, _⟩ => ⟨S_, .f32⟩
  | .hbm, ⟨6, _⟩ => ⟨S2x2816, .f32⟩
  | .hbm, ⟨7, _⟩ => ⟨S8194x2816, .f32⟩
  | .hbm, ⟨8, _⟩ => ⟨S8192x2816, .f32⟩
  | .hbm, ⟨9, _⟩ => ⟨S1x2816, .f32⟩
  | .hbm, ⟨10, _⟩ => ⟨S2816, .f32⟩
  | .hbm, ⟨11, _⟩ => ⟨S1x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S1x2816, .f32⟩
  | .hbm, ⟨16, _⟩ => ⟨S2816, .f32⟩
  | .hbm, ⟨17, _⟩ => ⟨S1x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S1x2816, .f32⟩
  | .hbm, ⟨23, _⟩ => ⟨S2816, .f32⟩
  | .hbm, ⟨24, _⟩ => ⟨S1x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S1x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== MixKernel.lean ====
abbrev S8192x1024 : Shape := ⟨2, ![8192, 1024]⟩
abbrev S1024 : Shape := ⟨1, ![1024]⟩
abbrev S1024x2560 : Shape := ⟨2, ![1024, 2560]⟩
abbrev S8192x2560 : Shape := ⟨2, ![8192, 2560]⟩
abbrev S1x1024x4x640 : Shape := ⟨4, ![1, 1024, 4, 640]⟩
abbrev S1x4x1024x640 : Shape := ⟨4, ![1, 4, 1024, 640]⟩
abbrev S1x1024 : Shape := ⟨2, ![1, 1024]⟩
abbrev S256x2560 : Shape := ⟨2, ![256, 2560]⟩
abbrev S256x1024 : Shape := ⟨2, ![256, 1024]⟩
abbrev S256x640 : Shape := ⟨2, ![256, 640]⟩
abbrev S1x1x1024x640 : Shape := ⟨4, ![1, 1, 1024, 640]⟩
abbrev S1024x640 : Shape := ⟨2, ![1024, 640]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .f32⟩
  | .hbm, ⟨3, _⟩ => ⟨S8192x1024, .f32⟩
  | .hbm, ⟨4, _⟩ => ⟨S8192x2560, .f32⟩
  | .hbm, ⟨5, _⟩ => ⟨S8192x2560, .bf16⟩
  | .hbm, ⟨6, _⟩ => ⟨S1x1024x4x640, .f32⟩
  | .hbm, ⟨7, _⟩ => ⟨S1x4x1024x640, .f32⟩
  | .hbm, ⟨8, _⟩ => ⟨S1x4x1024x640, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S256x2560, .bf16⟩
  | .local _ .vmem, ⟨1, _⟩ => ⟨S256x2560, .bf16⟩
  | .local _ .vmem, ⟨2, _⟩ => ⟨S1x4x1024x640, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixReferenceIdeal.lean ====
abbrev S8192x1024 : Shape := ⟨2, ![8192, 1024]⟩
abbrev S1024 : Shape := ⟨1, ![1024]⟩
abbrev S1024x2560 : Shape := ⟨2, ![1024, 2560]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2560x1024 : Shape := ⟨2, ![2560, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .f32⟩
  | .hbm, ⟨3, _⟩ => ⟨S8192x1024, .f32⟩
  | .hbm, ⟨4, _⟩ => ⟨S8192x2560, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2560, .f32⟩
  | .hbm, ⟨26, _⟩ => ⟨S2560x1024, .f32⟩
  | .hbm, ⟨27, _⟩ => ⟨S1024x2560, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== MixWeightKernel.lean ====
abbrev S8192x1024 : Shape := ⟨2, ![8192, 1024]⟩
abbrev S1024 : Shape := ⟨1, ![1024]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x4x1024x640 : Shape := ⟨4, ![1, 4, 1024, 640]⟩
abbrev S2048x1024 : Shape := ⟨2, ![2048, 1024]⟩
abbrev S2048x640 : Shape := ⟨2, ![2048, 640]⟩
abbrev S1x1x1024x640 : Shape := ⟨4, ![1, 1, 1024, 640]⟩
abbrev S1024x640 : Shape := ⟨2, ![1024, 640]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x2560, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x2560, .bf16⟩
  | .hbm, ⟨21, _⟩ => ⟨S1x4x1024x640, .bf16⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1x1x1024x640, .bf16⟩
  | .local _ .vmem, ⟨5, _⟩ => ⟨S1x1x1024x640, .bf16⟩
  | .local _ .vmem, ⟨6, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixWeightKernelIdeal.lean ====
abbrev S8192x1024 : Shape := ⟨2, ![8192, 1024]⟩
abbrev S1024 : Shape := ⟨1, ![1024]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x4x1024x640 : Shape := ⟨4, ![1, 4, 1024, 640]⟩
abbrev S2048x1024 : Shape := ⟨2, ![2048, 1024]⟩
abbrev S2048x640 : Shape := ⟨2, ![2048, 640]⟩
abbrev S1x1x1024x640 : Shape := ⟨4, ![1, 1, 1024, 640]⟩
abbrev S1024x640 : Shape := ⟨2, ![1024, 640]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x2560, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x2560, .bf16⟩
  | .hbm, ⟨21, _⟩ => ⟨S1x4x1024x640, .bf16⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1x1x1024x640, .bf16⟩
  | .local _ .vmem, ⟨5, _⟩ => ⟨S1x1x1024x640, .bf16⟩
  | .local _ .vmem, ⟨6, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixWeightReferenceIdeal.lean ====
abbrev S8192x1024 : Shape := ⟨2, ![8192, 1024]⟩
abbrev S1024 : Shape := ⟨1, ![1024]⟩
abbrev S8192x2560 : Shape := ⟨2, ![8192, 2560]⟩
abbrev S_ : Shape := ⟨0, ![]⟩
abbrev S1024x2560 : Shape := ⟨2, ![1024, 2560]⟩
abbrev S8192 : Shape := ⟨1, ![8192]⟩
abbrev S8192x1 : Shape := ⟨2, ![8192, 1]⟩
abbrev S1x1024 : Shape := ⟨2, ![1, 1024]⟩
abbrev S2560x1024 : Shape := ⟨2, ![2560, 1024]⟩
abbrev S1x1024x4x640 : Shape := ⟨4, ![1, 1024, 4, 640]⟩
abbrev S1x4x1024x640 : Shape := ⟨4, ![1, 4, 1024, 640]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x2560, .f32⟩
  | .hbm, ⟨3, _⟩ => ⟨S_, .f32⟩
  | .hbm, ⟨4, _⟩ => ⟨S1024x2560, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2560, .f32⟩
  | .hbm, ⟨22, _⟩ => ⟨S2560x1024, .f32⟩
  | .hbm, ⟨23, _⟩ => ⟨S1024x2560, .f32⟩
  | .hbm, ⟨24, _⟩ => ⟨S1x1024x4x640, .f32⟩
  | .hbm, ⟨25, _⟩ => ⟨S1x4x1024x640, .f32⟩
  | .hbm, ⟨26, _⟩ => ⟨S1x4x1024x640, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== ConvWeightKernel.lean ====
abbrev S8192x1024 : Shape := ⟨2, ![8192, 1024]⟩
abbrev S1024 : Shape := ⟨1, ![1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x4x1024x512 : Shape := ⟨4, ![1, 4, 1024, 512]⟩
abbrev S2048x1024 : Shape := ⟨2, ![2048, 1024]⟩
abbrev S2048x512 : Shape := ⟨2, ![2048, 512]⟩
abbrev S1x1x1024x512 : Shape := ⟨4, ![1, 1, 1024, 512]⟩
abbrev S1024x512 : Shape := ⟨2, ![1024, 512]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x2048, .bf16⟩
  | .hbm, ⟨21, _⟩ => ⟨S1x4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvWeightReferenceIdeal.lean ====
abbrev S8192x1024 : Shape := ⟨2, ![8192, 1024]⟩
abbrev S1024 : Shape := ⟨1, ![1024]⟩
abbrev S8192x2048 : Shape := ⟨2, ![8192, 2048]⟩
abbrev S_ : Shape := ⟨0, ![]⟩
abbrev S1024x2048 : Shape := ⟨2, ![1024, 2048]⟩
abbrev S8192 : Shape := ⟨1, ![8192]⟩
abbrev S8192x1 : Shape := ⟨2, ![8192, 1]⟩
abbrev S1x1024 : Shape := ⟨2, ![1, 1024]⟩
abbrev S2048x1024 : Shape := ⟨2, ![2048, 1024]⟩
abbrev S1x1024x4x512 : Shape := ⟨4, ![1, 1024, 4, 512]⟩
abbrev S1x4x1024x512 : Shape := ⟨4, ![1, 4, 1024, 512]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x2048, .f32⟩
  | .hbm, ⟨3, _⟩ => ⟨S_, .f32⟩
  | .hbm, ⟨4, _⟩ => ⟨S1024x2048, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2048, .f32⟩
  | .hbm, ⟨22, _⟩ => ⟨S2048x1024, .f32⟩
  | .hbm, ⟨23, _⟩ => ⟨S1024x2048, .f32⟩
  | .hbm, ⟨24, _⟩ => ⟨S1x1024x4x512, .f32⟩
  | .hbm, ⟨25, _⟩ => ⟨S1x4x1024x512, .f32⟩
  | .hbm, ⟨26, _⟩ => ⟨S1x4x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== SquareWeightKernel.lean ====
abbrev S8192x1024 : Shape := ⟨2, ![8192, 1024]⟩
abbrev S1x1x1024x1024 : Shape := ⟨4, ![1, 1, 1024, 1024]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1x1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SquareWeightReferenceIdeal.lean ====
abbrev S8192x1024 : Shape := ⟨2, ![8192, 1024]⟩
abbrev S_ : Shape := ⟨0, ![]⟩
abbrev S1024x1024 : Shape := ⟨2, ![1024, 1024]⟩
abbrev S1x1x1024x1024 : Shape := ⟨4, ![1, 1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1x1x1024x1024, .f32⟩
  | .hbm, ⟨8, _⟩ => ⟨S1x1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvInputKernel.lean ====
abbrev S8192x1024 : Shape := ⟨2, ![8192, 1024]⟩
abbrev S1024 : Shape := ⟨1, ![1024]⟩
abbrev S2x1024x2048 : Shape := ⟨3, ![2, 1024, 2048]⟩
abbrev S8192x2048 : Shape := ⟨2, ![8192, 2048]⟩
abbrev S2x1024x4x512 : Shape := ⟨4, ![2, 1024, 4, 512]⟩
abbrev S2x4x1024x512 : Shape := ⟨4, ![2, 4, 1024, 512]⟩
abbrev S1x1024 : Shape := ⟨2, ![1, 1024]⟩
abbrev S256x2048 : Shape := ⟨2, ![256, 2048]⟩
abbrev S1x4x1024x512 : Shape := ⟨4, ![1, 4, 1024, 512]⟩
abbrev S256x1024 : Shape := ⟨2, ![256, 1024]⟩
abbrev S256x512 : Shape := ⟨2, ![256, 512]⟩
abbrev S1x1x1024x512 : Shape := ⟨4, ![1, 1, 1024, 512]⟩
abbrev S1024x512 : Shape := ⟨2, ![1024, 512]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x1024x2048, .f32⟩
  | .hbm, ⟨3, _⟩ => ⟨S8192x1024, .f32⟩
  | .hbm, ⟨4, _⟩ => ⟨S8192x2048, .f32⟩
  | .hbm, ⟨5, _⟩ => ⟨S8192x2048, .bf16⟩
  | .hbm, ⟨6, _⟩ => ⟨S2x1024x4x512, .f32⟩
  | .hbm, ⟨7, _⟩ => ⟨S2x4x1024x512, .f32⟩
  | .hbm, ⟨8, _⟩ => ⟨S2x4x1024x512, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S1x4x1024x512, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvInputReferenceIdeal.lean ====
abbrev S8192x1024 : Shape := ⟨2, ![8192, 1024]⟩
abbrev S1024 : Shape := ⟨1, ![1024]⟩
abbrev S2x1024x2048 : Shape := ⟨3, ![2, 1024, 2048]⟩
abbrev S8192x2048 : Shape := ⟨2, ![8192, 2048]⟩
abbrev S1x1024x2048 : Shape := ⟨3, ![1, 1024, 2048]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2048x1024 : Shape := ⟨2, ![2048, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x1024x2048, .f32⟩
  | .hbm, ⟨3, _⟩ => ⟨S8192x1024, .f32⟩
  | .hbm, ⟨4, _⟩ => ⟨S8192x2048, .f32⟩
  | .hbm, ⟨5, _⟩ => ⟨S1x1024x2048, .f32⟩
  | .hbm, ⟨6, _⟩ => ⟨S1024x2048, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2048, .f32⟩
  | .hbm, ⟨28, _⟩ => ⟨S2048x1024, .f32⟩
  | .hbm, ⟨29, _⟩ => ⟨S1024x2048, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== AttnBackKernel.lean ====
abbrev S2x1024x1024 : Shape := ⟨3, ![2, 1024, 1024]⟩
abbrev S8192x1024 : Shape := ⟨2, ![8192, 1024]⟩
abbrev S2x1x1024x1024 : Shape := ⟨4, ![2, 1, 1024, 1024]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x1024x1024, .f32⟩
  | .hbm, ⟨1, _⟩ => ⟨S8192x1024, .f32⟩
  | .hbm, ⟨2, _⟩ => ⟨S8192x1024, .bf16⟩
  | .hbm, ⟨3, _⟩ => ⟨S2x1x1024x1024, .f32⟩
  | .hbm, ⟨4, _⟩ => ⟨S2x1x1024x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1x1024x1024, .bf16⟩
  | .local _ .vmem, ⟨3, _⟩ => ⟨S512x1024, .f32⟩
  | .local _ .vmem, ⟨4, _⟩ => ⟨S512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnBackReferenceIdeal.lean ====
abbrev S2x1024x1024 : Shape := ⟨3, ![2, 1024, 1024]⟩
abbrev S8192x1024 : Shape := ⟨2, ![8192, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S1x1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ConvBackKernel.lean ====
abbrev S2x1024x1024 : Shape := ⟨3, ![2, 1024, 1024]⟩
abbrev S8192x1024 : Shape := ⟨2, ![8192, 1024]⟩
abbrev S2x1x1024x1024 : Shape := ⟨4, ![2, 1, 1024, 1024]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x1024x1024, .f32⟩
  | .hbm, ⟨1, _⟩ => ⟨S8192x1024, .f32⟩
  | .hbm, ⟨2, _⟩ => ⟨S8192x1024, .bf16⟩
  | .hbm, ⟨3, _⟩ => ⟨S2x1x1024x1024, .f32⟩
  | .hbm, ⟨4, _⟩ => ⟨S2x1x1024x1024, .bf16⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1024, .bf16⟩
  | .local _ .vmem, ⟨3, _⟩ => ⟨S512x1024, .bf16⟩
  | .local _ .vmem, ⟨4, _⟩ => ⟨S512x1024, .bf16⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvBackReferenceIdeal.lean ====
abbrev S2x1024x1024 : Shape := ⟨3, ![2, 1024, 1024]⟩
abbrev S8192x1024 : Shape := ⟨2, ![8192, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S1x1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnInKernel.lean ====
abbrev S8192x1024 : Shape := ⟨2, ![8192, 1024]⟩
abbrev S1024x2560 : Shape := ⟨2, ![1024, 2560]⟩
abbrev S1x1024x4x640 : Shape := ⟨4, ![1, 1024, 4, 640]⟩
abbrev S1x4x1024x640 : Shape := ⟨4, ![1, 4, 1024, 640]⟩
abbrev S8192x2560 : Shape := ⟨2, ![8192, 2560]⟩
abbrev S1024x1024 : Shape := ⟨2, ![1024, 1024]⟩
abbrev S1x1x1024x640 : Shape := ⟨4, ![1, 1, 1024, 640]⟩
abbrev S1024x640 : Shape := ⟨2, ![1024, 640]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2560, .f32⟩
  | .hbm, ⟨2, _⟩ => ⟨S8192x1024, .bf16⟩
  | .hbm, ⟨3, _⟩ => ⟨S1x1024x4x640, .f32⟩
  | .hbm, ⟨4, _⟩ => ⟨S1x4x1024x640, .f32⟩
  | .hbm, ⟨5, _⟩ => ⟨S1x4x1024x640, .bf16⟩
  | .hbm, ⟨6, _⟩ => ⟨S8192x2560, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x640, .bf16⟩
  | .local _ .vmem, ⟨3, _⟩ => ⟨S1x1x1024x640, .bf16⟩
  | .local _ .vmem, ⟨4, _⟩ => ⟨S1024x640, .f32⟩
  | .local _ .vmem, ⟨5, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== AttnInReferenceIdeal.lean ====
abbrev S8192x1024 : Shape := ⟨2, ![8192, 1024]⟩
abbrev S1024x2560 : Shape := ⟨2, ![1024, 2560]⟩
abbrev S8192x2560 : Shape := ⟨2, ![8192, 2560]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2560, .f32⟩
  | .hbm, ⟨2, _⟩ => ⟨S8192x2560, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ConvInKernel.lean ====
abbrev S8192x1024 : Shape := ⟨2, ![8192, 1024]⟩
abbrev S2x1024x2048 : Shape := ⟨3, ![2, 1024, 2048]⟩
abbrev S2048 : Shape := ⟨1, ![2048]⟩
abbrev S2x1024x4x512 : Shape := ⟨4, ![2, 1024, 4, 512]⟩
abbrev S2x4x1024x512 : Shape := ⟨4, ![2, 4, 1024, 512]⟩
abbrev S1x2048 : Shape := ⟨2, ![1, 2048]⟩
abbrev S8192x2048 : Shape := ⟨2, ![8192, 2048]⟩
abbrev S1024x1024 : Shape := ⟨2, ![1024, 1024]⟩
abbrev S1x1x1024x512 : Shape := ⟨4, ![1, 1, 1024, 512]⟩
abbrev S1x512 : Shape := ⟨2, ![1, 512]⟩
abbrev S1024x512 : Shape := ⟨2, ![1024, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S2x1024x2048, .f32⟩
  | .hbm, ⟨2, _⟩ => ⟨S2048, .f32⟩
  | .hbm, ⟨3, _⟩ => ⟨S8192x1024, .bf16⟩
  | .hbm, ⟨4, _⟩ => ⟨S2x1024x4x512, .f32⟩
  | .hbm, ⟨5, _⟩ => ⟨S2x4x1024x512, .f32⟩
  | .hbm, ⟨6, _⟩ => ⟨S2x4x1024x512, .bf16⟩
  | .hbm, ⟨7, _⟩ => ⟨S1x2048, .f32⟩
  | .hbm, ⟨8, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ConvInReferenceIdeal.lean ====
abbrev S8192x1024 : Shape := ⟨2, ![8192, 1024]⟩
abbrev S2x1024x2048 : Shape := ⟨3, ![2, 1024, 2048]⟩
abbrev S2048 : Shape := ⟨1, ![2048]⟩
abbrev S1x1024x2048 : Shape := ⟨3, ![1, 1024, 2048]⟩
abbrev S1024x2048 : Shape := ⟨2, ![1024, 2048]⟩
abbrev S8192x2048 : Shape := ⟨2, ![8192, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x2048, .f32⟩
  | .hbm, ⟨2, _⟩ => ⟨S2048, .f32⟩
  | .hbm, ⟨3, _⟩ => ⟨S1x1024x2048, .f32⟩
  | .hbm, ⟨4, _⟩ => ⟨S1024x2048, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnOutKernel.lean ====
abbrev S8192x1024 : Shape := ⟨2, ![8192, 1024]⟩
abbrev S2x1024x1024 : Shape := ⟨3, ![2, 1024, 1024]⟩
abbrev S1024 : Shape := ⟨1, ![1024]⟩
abbrev S2x1x1024x1024 : Shape := ⟨4, ![2, 1, 1024, 1024]⟩
abbrev S1x1024 : Shape := ⟨2, ![1, 1024]⟩
abbrev S512x1024 : Shape := ⟨2, ![512, 1024]⟩
abbrev S1x1x1024x1024 : Shape := ⟨4, ![1, 1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024x1024, .f32⟩
  | .hbm, ⟨3, _⟩ => ⟨S1024, .f32⟩
  | .hbm, ⟨4, _⟩ => ⟨S8192x1024, .bf16⟩
  | .hbm, ⟨5, _⟩ => ⟨S2x1x1024x1024, .f32⟩
  | .hbm, ⟨6, _⟩ => ⟨S2x1x1024x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnOutReferenceIdeal.lean ====
abbrev S8192x1024 : Shape := ⟨2, ![8192, 1024]⟩
abbrev S2x1024x1024 : Shape := ⟨3, ![2, 1024, 1024]⟩
abbrev S1024 : Shape := ⟨1, ![1024]⟩
abbrev S1x1024x1024 : Shape := ⟨3, ![1, 1024, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024x1024, .f32⟩
  | .hbm, ⟨3, _⟩ => ⟨S1024, .f32⟩
  | .hbm, ⟨4, _⟩ => ⟨S1x1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== ConvOutKernel.lean ====
abbrev S8192x1024 : Shape := ⟨2, ![8192, 1024]⟩
abbrev S2x1024x1024 : Shape := ⟨3, ![2, 1024, 1024]⟩
abbrev S1024 : Shape := ⟨1, ![1024]⟩
abbrev S2x1x1024x1024 : Shape := ⟨4, ![2, 1, 1024, 1024]⟩
abbrev S1x1024 : Shape := ⟨2, ![1, 1024]⟩
abbrev S512x1024 : Shape := ⟨2, ![512, 1024]⟩
abbrev S1x1x1024x1024 : Shape := ⟨4, ![1, 1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024x1024, .f32⟩
  | .hbm, ⟨3, _⟩ => ⟨S1024, .f32⟩
  | .hbm, ⟨4, _⟩ => ⟨S1024, .f32⟩
  | .hbm, ⟨5, _⟩ => ⟨S8192x1024, .bf16⟩
  | .hbm, ⟨6, _⟩ => ⟨S2x1x1024x1024, .f32⟩
  | .hbm, ⟨7, _⟩ => ⟨S2x1x1024x1024, .bf16⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ConvOutReferenceIdeal.lean ====
abbrev S8192x1024 : Shape := ⟨2, ![8192, 1024]⟩
abbrev S2x1024x1024 : Shape := ⟨3, ![2, 1024, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024x1024, .f32⟩
  | .hbm, ⟨3, _⟩ => ⟨S1024, .f32⟩
  | .hbm, ⟨4, _⟩ => ⟨S1024, .f32⟩
  | .hbm, ⟨5, _⟩ => ⟨S1x1024x1024, .f32⟩
  | .hbm, ⟨6, _⟩ => ⟨S1024x1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== LastKernel.lean ====
abbrev S8192x1024 : Shape := ⟨2, ![8192, 1024]⟩
abbrev S8192x2816 : Shape := ⟨2, ![8192, 2816]⟩
abbrev S2816x1024 : Shape := ⟨2, ![2816, 1024]⟩
abbrev S1x1x2816x1024 : Shape := ⟨4, ![1, 1, 2816, 1024]⟩
abbrev S1024x2816 : Shape := ⟨2, ![1024, 2816]⟩
abbrev S1x1x2816x512 : Shape := ⟨4, ![1, 1, 2816, 512]⟩
abbrev S1024x512 : Shape := ⟨2, ![1024, 512]⟩
abbrev S2816x512 : Shape := ⟨2, ![2816, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S8192x2816, .bf16⟩
  | .hbm, ⟨4, _⟩ => ⟨S1x1x2816x1024, .f32⟩
  | .hbm, ⟨5, _⟩ => ⟨S1x1x2816x1024, .bf16⟩
  | .hbm, ⟨6, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1x1x2816x512, .bf16⟩
  | .local _ .vmem, ⟨3, _⟩ => ⟨S1x1x2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== LastReferenceIdeal.lean ====
abbrev S8192x1024 : Shape := ⟨2, ![8192, 1024]⟩
abbrev S8192x2816 : Shape := ⟨2, ![8192, 2816]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== UpStepKernel.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpStepKernelIdeal.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpStepReferenceIdeal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== DownStepKernel.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownStepKernelIdeal.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownStepReferenceIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FirstConvInputKernel.lean ====
abbrev S8192x1024 : Shape := ⟨2, ![8192, 1024]⟩
abbrev S1024 : Shape := ⟨1, ![1024]⟩
abbrev S2x1024x2048 : Shape := ⟨3, ![2, 1024, 2048]⟩
abbrev S8192x2048 : Shape := ⟨2, ![8192, 2048]⟩
abbrev S2x1024x4x512 : Shape := ⟨4, ![2, 1024, 4, 512]⟩
abbrev S2x4x1024x512 : Shape := ⟨4, ![2, 4, 1024, 512]⟩
abbrev S1x1024 : Shape := ⟨2, ![1, 1024]⟩
abbrev S256x2048 : Shape := ⟨2, ![256, 2048]⟩
abbrev S1x4x1024x512 : Shape := ⟨4, ![1, 4, 1024, 512]⟩
abbrev S256x1024 : Shape := ⟨2, ![256, 1024]⟩
abbrev S256x512 : Shape := ⟨2, ![256, 512]⟩
abbrev S1x1x1024x512 : Shape := ⟨4, ![1, 1, 1024, 512]⟩
abbrev S1024x512 : Shape := ⟨2, ![1024, 512]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x1024x2048, .f32⟩
  | .hbm, ⟨3, _⟩ => ⟨S8192x1024, .f32⟩
  | .hbm, ⟨4, _⟩ => ⟨S8192x2048, .f32⟩
  | .hbm, ⟨5, _⟩ => ⟨S8192x2048, .bf16⟩
  | .hbm, ⟨6, _⟩ => ⟨S2x1024x4x512, .f32⟩
  | .hbm, ⟨7, _⟩ => ⟨S2x4x1024x512, .f32⟩
  | .hbm, ⟨8, _⟩ => ⟨S2x4x1024x512, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S1x4x1024x512, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FirstConvInputReferenceIdeal.lean ====
abbrev S8192x1024 : Shape := ⟨2, ![8192, 1024]⟩
abbrev S1024 : Shape := ⟨1, ![1024]⟩
abbrev S2x1024x2048 : Shape := ⟨3, ![2, 1024, 2048]⟩
abbrev S8192x2048 : Shape := ⟨2, ![8192, 2048]⟩
abbrev S1x1024x2048 : Shape := ⟨3, ![1, 1024, 2048]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2048x1024 : Shape := ⟨2, ![2048, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x1024x2048, .f32⟩
  | .hbm, ⟨3, _⟩ => ⟨S8192x1024, .f32⟩
  | .hbm, ⟨4, _⟩ => ⟨S8192x2048, .f32⟩
  | .hbm, ⟨5, _⟩ => ⟨S1x1024x2048, .f32⟩
  | .hbm, ⟨6, _⟩ => ⟨S1024x2048, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2048, .f32⟩
  | .hbm, ⟨28, _⟩ => ⟨S2048x1024, .f32⟩
  | .hbm, ⟨29, _⟩ => ⟨S1024x2048, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== FirstAttnBackKernel.lean ====
abbrev S2x1024x1024 : Shape := ⟨3, ![2, 1024, 1024]⟩
abbrev S8192x1024 : Shape := ⟨2, ![8192, 1024]⟩
abbrev S2x1x1024x1024 : Shape := ⟨4, ![2, 1, 1024, 1024]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x1024x1024, .f32⟩
  | .hbm, ⟨1, _⟩ => ⟨S8192x1024, .f32⟩
  | .hbm, ⟨2, _⟩ => ⟨S8192x1024, .bf16⟩
  | .hbm, ⟨3, _⟩ => ⟨S2x1x1024x1024, .f32⟩
  | .hbm, ⟨4, _⟩ => ⟨S2x1x1024x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1x1024x1024, .bf16⟩
  | .local _ .vmem, ⟨3, _⟩ => ⟨S512x1024, .f32⟩
  | .local _ .vmem, ⟨4, _⟩ => ⟨S512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstAttnBackReferenceIdeal.lean ====
abbrev S2x1024x1024 : Shape := ⟨3, ![2, 1024, 1024]⟩
abbrev S8192x1024 : Shape := ⟨2, ![8192, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S1x1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FirstConvBackKernel.lean ====
abbrev S2x1024x1024 : Shape := ⟨3, ![2, 1024, 1024]⟩
abbrev S8192x1024 : Shape := ⟨2, ![8192, 1024]⟩
abbrev S2x1x1024x1024 : Shape := ⟨4, ![2, 1, 1024, 1024]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x1024x1024, .f32⟩
  | .hbm, ⟨1, _⟩ => ⟨S8192x1024, .f32⟩
  | .hbm, ⟨2, _⟩ => ⟨S8192x1024, .bf16⟩
  | .hbm, ⟨3, _⟩ => ⟨S2x1x1024x1024, .f32⟩
  | .hbm, ⟨4, _⟩ => ⟨S2x1x1024x1024, .bf16⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1024, .bf16⟩
  | .local _ .vmem, ⟨3, _⟩ => ⟨S512x1024, .bf16⟩
  | .local _ .vmem, ⟨4, _⟩ => ⟨S512x1024, .bf16⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstConvBackReferenceIdeal.lean ====
abbrev S2x1024x1024 : Shape := ⟨3, ![2, 1024, 1024]⟩
abbrev S8192x1024 : Shape := ⟨2, ![8192, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S1x1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FirstConvInKernel.lean ====
abbrev S8192x1024 : Shape := ⟨2, ![8192, 1024]⟩
abbrev S2x1024x2048 : Shape := ⟨3, ![2, 1024, 2048]⟩
abbrev S2048 : Shape := ⟨1, ![2048]⟩
abbrev S2x1024x4x512 : Shape := ⟨4, ![2, 1024, 4, 512]⟩
abbrev S2x4x1024x512 : Shape := ⟨4, ![2, 4, 1024, 512]⟩
abbrev S1x2048 : Shape := ⟨2, ![1, 2048]⟩
abbrev S8192x2048 : Shape := ⟨2, ![8192, 2048]⟩
abbrev S1024x1024 : Shape := ⟨2, ![1024, 1024]⟩
abbrev S1x1x1024x512 : Shape := ⟨4, ![1, 1, 1024, 512]⟩
abbrev S1x512 : Shape := ⟨2, ![1, 512]⟩
abbrev S1024x512 : Shape := ⟨2, ![1024, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S2x1024x2048, .f32⟩
  | .hbm, ⟨2, _⟩ => ⟨S2048, .f32⟩
  | .hbm, ⟨3, _⟩ => ⟨S8192x1024, .bf16⟩
  | .hbm, ⟨4, _⟩ => ⟨S2x1024x4x512, .f32⟩
  | .hbm, ⟨5, _⟩ => ⟨S2x4x1024x512, .f32⟩
  | .hbm, ⟨6, _⟩ => ⟨S2x4x1024x512, .bf16⟩
  | .hbm, ⟨7, _⟩ => ⟨S1x2048, .f32⟩
  | .hbm, ⟨8, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FirstConvInReferenceIdeal.lean ====
abbrev S8192x1024 : Shape := ⟨2, ![8192, 1024]⟩
abbrev S2x1024x2048 : Shape := ⟨3, ![2, 1024, 2048]⟩
abbrev S2048 : Shape := ⟨1, ![2048]⟩
abbrev S1x1024x2048 : Shape := ⟨3, ![1, 1024, 2048]⟩
abbrev S1024x2048 : Shape := ⟨2, ![1024, 2048]⟩
abbrev S8192x2048 : Shape := ⟨2, ![8192, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x2048, .f32⟩
  | .hbm, ⟨2, _⟩ => ⟨S2048, .f32⟩
  | .hbm, ⟨3, _⟩ => ⟨S1x1024x2048, .f32⟩
  | .hbm, ⟨4, _⟩ => ⟨S1024x2048, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FirstAttnOutKernel.lean ====
abbrev S8192x1024 : Shape := ⟨2, ![8192, 1024]⟩
abbrev S2x1024x1024 : Shape := ⟨3, ![2, 1024, 1024]⟩
abbrev S1024 : Shape := ⟨1, ![1024]⟩
abbrev S2x1x1024x1024 : Shape := ⟨4, ![2, 1, 1024, 1024]⟩
abbrev S1x1024 : Shape := ⟨2, ![1, 1024]⟩
abbrev S512x1024 : Shape := ⟨2, ![512, 1024]⟩
abbrev S1x1x1024x1024 : Shape := ⟨4, ![1, 1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024x1024, .f32⟩
  | .hbm, ⟨3, _⟩ => ⟨S1024, .f32⟩
  | .hbm, ⟨4, _⟩ => ⟨S8192x1024, .bf16⟩
  | .hbm, ⟨5, _⟩ => ⟨S2x1x1024x1024, .f32⟩
  | .hbm, ⟨6, _⟩ => ⟨S2x1x1024x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FirstAttnOutReferenceIdeal.lean ====
abbrev S8192x1024 : Shape := ⟨2, ![8192, 1024]⟩
abbrev S2x1024x1024 : Shape := ⟨3, ![2, 1024, 1024]⟩
abbrev S1024 : Shape := ⟨1, ![1024]⟩
abbrev S1x1024x1024 : Shape := ⟨3, ![1, 1024, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024x1024, .f32⟩
  | .hbm, ⟨3, _⟩ => ⟨S1024, .f32⟩
  | .hbm, ⟨4, _⟩ => ⟨S1x1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== FirstConvOutKernel.lean ====
abbrev S8192x1024 : Shape := ⟨2, ![8192, 1024]⟩
abbrev S2x1024x1024 : Shape := ⟨3, ![2, 1024, 1024]⟩
abbrev S1024 : Shape := ⟨1, ![1024]⟩
abbrev S2x1x1024x1024 : Shape := ⟨4, ![2, 1, 1024, 1024]⟩
abbrev S1x1024 : Shape := ⟨2, ![1, 1024]⟩
abbrev S512x1024 : Shape := ⟨2, ![512, 1024]⟩
abbrev S1x1x1024x1024 : Shape := ⟨4, ![1, 1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024x1024, .f32⟩
  | .hbm, ⟨3, _⟩ => ⟨S1024, .f32⟩
  | .hbm, ⟨4, _⟩ => ⟨S1024, .f32⟩
  | .hbm, ⟨5, _⟩ => ⟨S8192x1024, .bf16⟩
  | .hbm, ⟨6, _⟩ => ⟨S2x1x1024x1024, .f32⟩
  | .hbm, ⟨7, _⟩ => ⟨S2x1x1024x1024, .bf16⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== FirstConvOutReferenceIdeal.lean ====
abbrev S8192x1024 : Shape := ⟨2, ![8192, 1024]⟩
abbrev S2x1024x1024 : Shape := ⟨3, ![2, 1024, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024x1024, .f32⟩
  | .hbm, ⟨3, _⟩ => ⟨S1024, .f32⟩
  | .hbm, ⟨4, _⟩ => ⟨S1024, .f32⟩
  | .hbm, ⟨5, _⟩ => ⟨S1x1024x1024, .f32⟩
  | .hbm, ⟨6, _⟩ => ⟨S1024x1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== MixStepKernel.lean ====
abbrev S2048x640 : Shape := ⟨2, ![2048, 640]⟩
abbrev S256x640 : Shape := ⟨2, ![256, 640]⟩

abbrev nBuf : Space → Nat
  | .hbm => 7
  | .vmem => 14
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S2048x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixStepKernelIdeal.lean ====
abbrev S2048x640 : Shape := ⟨2, ![2048, 640]⟩
abbrev S256x640 : Shape := ⟨2, ![256, 640]⟩

abbrev nBuf : Space → Nat
  | .hbm => 7
  | .vmem => 14
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S2048x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixStepReferenceIdeal.lean ====
abbrev S2048x640 : Shape := ⟨2, ![2048, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S_, .f32⟩
  | .hbm, ⟨5, _⟩ => ⟨S2048x640, .f32⟩
  | .hbm, ⟨6, _⟩ => ⟨S2048x640, .f32⟩
  | .hbm, ⟨7, _⟩ => ⟨S_, .f32⟩
  | .hbm, ⟨8, _⟩ => ⟨S2048x640, .f32⟩
  | .hbm, ⟨9, _⟩ => ⟨S2048x640, .f32⟩
  | .hbm, ⟨10, _⟩ => ⟨S2048x640, .f32⟩
  | .hbm, ⟨11, _⟩ => ⟨S_, .f32⟩
  | .hbm, ⟨12, _⟩ => ⟨S2048x640, .f32⟩
  | .hbm, ⟨13, _⟩ => ⟨S2048x640, .f32⟩
  | .hbm, ⟨14, _⟩ => ⟨S2048x640, .f32⟩
  | .hbm, ⟨15, _⟩ => ⟨S_, .f32⟩
  | .hbm, ⟨16, _⟩ => ⟨S2048x640, .f32⟩
  | .hbm, ⟨17, _⟩ => ⟨S2048x640, .f32⟩
  | .hbm, ⟨18, _⟩ => ⟨S2048x640, .f32⟩
  | .hbm, ⟨19, _⟩ => ⟨S_, .f32⟩
  | .hbm, ⟨20, _⟩ => ⟨S2048x640, .f32⟩
  | .hbm, ⟨21, _⟩ => ⟨S2048x640, .f32⟩
  | .hbm, ⟨22, _⟩ => ⟨S_, .f32⟩
  | .hbm, ⟨23, _⟩ => ⟨S2048x640, .f32⟩
  | .hbm, ⟨24, _⟩ => ⟨S2048x640, .f32⟩
  | .hbm, ⟨25, _⟩ => ⟨S2048x640, .f32⟩
  | .hbm, ⟨26, _⟩ => ⟨S_, .f32⟩
  | .hbm, ⟨27, _⟩ => ⟨S2048x640, .f32⟩
  | .hbm, ⟨28, _⟩ => ⟨S2048x640, .f32⟩
  | .hbm, ⟨29, _⟩ => ⟨S2048x640, .f32⟩
  | .hbm, ⟨30, _⟩ => ⟨S_, .f32⟩
  | .hbm, ⟨31, _⟩ => ⟨S2048x640, .f32⟩
  | .hbm, ⟨32, _⟩ => ⟨S2048x640, .f32⟩
  | .hbm, ⟨33, _⟩ => ⟨S2048x640, .f32⟩
  | .hbm, ⟨34, _⟩ => ⟨S_, .f32⟩
  | .hbm, ⟨35, _⟩ => ⟨S2048x640, .f32⟩
  | .hbm, ⟨36, _⟩ => ⟨S2048x640, .f32⟩
  | _, _ => ⟨S2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ConvStepKernel.lean ====
abbrev S2048x512 : Shape := ⟨2, ![2048, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvStepKernelIdeal.lean ====
abbrev S2048x512 : Shape := ⟨2, ![2048, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvStepReferenceIdeal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SquareStepKernel.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SquareStepReferenceIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormKernel.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LossKernel.lean ====
abbrev S8192x1024 : Shape := ⟨2, ![8192, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x128, .f32⟩
  | .hbm, ⟨3, _⟩ => ⟨S8192x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LossReferenceIdeal.lean ====
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x128, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== SmallStepKernel.lean ====
abbrev S4x1024 : Shape := ⟨2, ![4, 1024]⟩
abbrev S2x64 : Shape := ⟨2, ![2, 64]⟩
abbrev S2x512 : Shape := ⟨2, ![2, 512]⟩
abbrev S2x8x128x128 : Shape := ⟨4, ![2, 8, 128, 128]⟩
abbrev S2x8x128 : Shape := ⟨3, ![2, 8, 128]⟩
abbrev S4x2816 : Shape := ⟨2, ![4, 2816]⟩
abbrev S2x31x256 : Shape := ⟨3, ![2, 31, 256]⟩
abbrev S2x256 : Shape := ⟨2, ![2, 256]⟩
abbrev S4x3x704 : Shape := ⟨3, ![4, 3, 704]⟩
abbrev S4096 : Shape := ⟨1, ![4096]⟩
abbrev S128 : Shape := ⟨1, ![128]⟩
abbrev S1024 : Shape := ⟨1, ![1024]⟩
abbrev S262144 : Shape := ⟨1, ![262144]⟩
abbrev S2048 : Shape := ⟨1, ![2048]⟩
abbrev S11264 : Shape := ⟨1, ![11264]⟩
abbrev S15872 : Shape := ⟨1, ![15872]⟩
abbrev S512 : Shape := ⟨1, ![512]⟩
abbrev S8448 : Shape := ⟨1, ![8448]⟩
abbrev S312320 : Shape := ⟨1, ![312320]⟩
abbrev S_ : Shape := ⟨0, ![]⟩
abbrev S327680 : Shape := ⟨1, ![327680]⟩
abbrev S2560x128 : Shape := ⟨2, ![2560, 128]⟩
abbrev S256x128 : Shape := ⟨2, ![256, 128]⟩

abbrev nBuf : Space → Nat
  | .hbm => 143
  | .vmem => 14
  | .smem => 0
  | _ => 0

abbrev hbmTy0_0 (i : Nat) : BufTy := match i % 128 with
  | 0 => ⟨S4x1024, .f32⟩
  | 1 => ⟨S2x64, .f32⟩
  | 2 => ⟨S2x64, .f32⟩
  | 3 => ⟨S2x512, .f32⟩
  | 4 => ⟨S2x8x128x128, .f32⟩
  | 5 => ⟨S2x8x128, .f32⟩
  | 6 => ⟨S4x1024, .f32⟩
  | 7 => ⟨S4x2816, .f32⟩
  | 8 => ⟨S2x512, .f32⟩
  | 9 => ⟨S2x31x256, .f32⟩
  | 10 => ⟨S2x256, .f32⟩
  | 11 => ⟨S2x256, .f32⟩
  | 12 => ⟨S2x256, .f32⟩
  | 13 => ⟨S2x256, .f32⟩
  | 14 => ⟨S4x3x704, .f32⟩
  | 15 => ⟨S4x1024, .f32⟩
  | 16 => ⟨S2x64, .f32⟩
  | 17 => ⟨S2x64, .f32⟩
  | 18 => ⟨S2x512, .f32⟩
  | 19 => ⟨S2x8x128x128, .f32⟩
  | 20 => ⟨S2x8x128, .f32⟩
  | 21 => ⟨S4x1024, .f32⟩
  | 22 => ⟨S4x2816, .f32⟩
  | 23 => ⟨S2x512, .f32⟩
  | 24 => ⟨S2x31x256, .f32⟩
  | 25 => ⟨S2x256, .f32⟩
  | 26 => ⟨S2x256, .f32⟩
  | 27 => ⟨S2x256, .f32⟩
  | 28 => ⟨S2x256, .f32⟩
  | 29 => ⟨S4x3x704, .f32⟩
  | 30 => ⟨S4x1024, .f32⟩
  | 31 => ⟨S2x64, .f32⟩
  | 32 => ⟨S2x64, .f32⟩
  | 33 => ⟨S2x512, .f32⟩
  | 34 => ⟨S2x8x128x128, .f32⟩
  | 35 => ⟨S2x8x128, .f32⟩
  | 36 => ⟨S4x1024, .f32⟩
  | 37 => ⟨S4x2816, .f32⟩
  | 38 => ⟨S2x512, .f32⟩
  | 39 => ⟨S2x31x256, .f32⟩
  | 40 => ⟨S2x256, .f32⟩
  | 41 => ⟨S2x256, .f32⟩
  | 42 => ⟨S2x256, .f32⟩
  | 43 => ⟨S2x256, .f32⟩
  | 44 => ⟨S4x3x704, .f32⟩
  | 45 => ⟨S4x1024, .f32⟩
  | 46 => ⟨S2x64, .f32⟩
  | 47 => ⟨S2x64, .f32⟩
  | 48 => ⟨S2x512, .f32⟩
  | 49 => ⟨S2x8x128x128, .f32⟩
  | 50 => ⟨S2x8x128, .f32⟩
  | 51 => ⟨S4x1024, .f32⟩
  | 52 => ⟨S4x2816, .f32⟩
  | 53 => ⟨S2x512, .f32⟩
  | 54 => ⟨S2x31x256, .f32⟩
  | 55 => ⟨S2x256, .f32⟩
  | 56 => ⟨S2x256, .f32⟩
  | 57 => ⟨S2x256, .f32⟩
  | 58 => ⟨S2x256, .f32⟩
  | 59 => ⟨S4x3x704, .f32⟩
  | 60 => ⟨S4096, .f32⟩
  | 61 => ⟨S128, .f32⟩
  | 62 => ⟨S128, .f32⟩
  | 63 => ⟨S1024, .f32⟩
  | 64 => ⟨S262144, .f32⟩
  | 65 => ⟨S2048, .f32⟩
  | 66 => ⟨S4096, .f32⟩
  | 67 => ⟨S11264, .f32⟩
  | 68 => ⟨S1024, .f32⟩
  | 69 => ⟨S15872, .f32⟩
  | 70 => ⟨S512, .f32⟩
  | 71 => ⟨S512, .f32⟩
  | 72 => ⟨S512, .f32⟩
  | 73 => ⟨S512, .f32⟩
  | 74 => ⟨S8448, .f32⟩
  | 75 => ⟨S312320, .f32⟩
  | 76 => ⟨S_, .i32⟩
  | 77 => ⟨S_, .f32⟩
  | 78 => ⟨S327680, .f32⟩
  | 79 => ⟨S2560x128, .f32⟩
  | 80 => ⟨S4096, .f32⟩
  | 81 => ⟨S128, .f32⟩
  | 82 => ⟨S128, .f32⟩
  | 83 => ⟨S1024, .f32⟩
  | 84 => ⟨S262144, .f32⟩
  | 85 => ⟨S2048, .f32⟩
  | 86 => ⟨S4096, .f32⟩
  | 87 => ⟨S11264, .f32⟩
  | 88 => ⟨S1024, .f32⟩
  | 89 => ⟨S15872, .f32⟩
  | 90 => ⟨S512, .f32⟩
  | 91 => ⟨S512, .f32⟩
  | 92 => ⟨S512, .f32⟩
  | 93 => ⟨S512, .f32⟩
  | 94 => ⟨S8448, .f32⟩
  | 95 => ⟨S312320, .f32⟩
  | 96 => ⟨S_, .i32⟩
  | 97 => ⟨S_, .f32⟩
  | 98 => ⟨S327680, .f32⟩
  | 99 => ⟨S2560x128, .f32⟩
  | 100 => ⟨S4096, .f32⟩
  | 101 => ⟨S128, .f32⟩
  | 102 => ⟨S128, .f32⟩
  | 103 => ⟨S1024, .f32⟩
  | 104 => ⟨S262144, .f32⟩
  | 105 => ⟨S2048, .f32⟩
  | 106 => ⟨S4096, .f32⟩
  | 107 => ⟨S11264, .f32⟩
  | 108 => ⟨S1024, .f32⟩
  | 109 => ⟨S15872, .f32⟩
  | 110 => ⟨S512, .f32⟩
  | 111 => ⟨S512, .f32⟩
  | 112 => ⟨S512, .f32⟩
  | 113 => ⟨S512, .f32⟩
  | 114 => ⟨S8448, .f32⟩
  | 115 => ⟨S312320, .f32⟩
  | 116 => ⟨S_, .i32⟩
  | 117 => ⟨S_, .f32⟩
  | 118 => ⟨S327680, .f32⟩
  | 119 => ⟨S2560x128, .f32⟩
  | 120 => ⟨S4096, .f32⟩
  | 121 => ⟨S128, .f32⟩
  | 122 => ⟨S128, .f32⟩
  | 123 => ⟨S1024, .f32⟩
  | 124 => ⟨S262144, .f32⟩
  | 125 => ⟨S2048, .f32⟩
  | 126 => ⟨S4096, .f32⟩
  | 127 => ⟨S11264, .f32⟩
  | _ => ⟨S4x1024, .f32⟩

abbrev hbmTy0_1 (i : Nat) : BufTy := match i % 128 with
  | 0 => ⟨S1024, .f32⟩
  | 1 => ⟨S15872, .f32⟩
  | 2 => ⟨S512, .f32⟩
  | 3 => ⟨S512, .f32⟩
  | 4 => ⟨S512, .f32⟩
  | 5 => ⟨S512, .f32⟩
  | 6 => ⟨S8448, .f32⟩
  | 7 => ⟨S312320, .f32⟩
  | 8 => ⟨S_, .i32⟩
  | 9 => ⟨S_, .f32⟩
  | 10 => ⟨S327680, .f32⟩
  | 11 => ⟨S2560x128, .f32⟩
  | 12 => ⟨S2560x128, .f32⟩
  | 13 => ⟨S2560x128, .f32⟩
  | 14 => ⟨S2560x128, .f32⟩
  | _ => ⟨S4x1024, .f32⟩

abbrev hbmTy (i : Nat) : BufTy := match i / 128 with
  | 0 => hbmTy0_0 i
  | 1 => hbmTy0_1 i
  | _ => ⟨S4x1024, .f32⟩

abbrev bufTy : (tb : Table) → Fin (tcTables nBuf tb) → BufTy
  | .hbm, ⟨i, _⟩ => hbmTy i
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_v0 : Ref sig .tc := ⟨.hbm, 60, rfl⟩
abbrev main_v1 : Ref sig .tc := ⟨.hbm, 61, rfl⟩
abbrev main_v2 : Ref sig .tc := ⟨.hbm, 62, rfl⟩
abbrev main_v3 : Ref sig .tc := ⟨.hbm, 63, rfl⟩
abbrev main_v4 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_c : Ref sig .tc := ⟨.hbm, 76, rfl⟩
abbrev main_call0_v0 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_c_0 : Ref sig .tc := ⟨.hbm, 96, rfl⟩
abbrev main_call1_v0 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_c_1 : Ref sig .tc := ⟨.hbm, 116, rfl⟩
abbrev main_call2_v0 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_c_2 : Ref sig .tc := ⟨.hbm, 136, rfl⟩
abbrev main_call3_v0 : Ref sig .tc := ⟨.hbm, 137, rfl⟩
abbrev main_v70 : Ref sig .tc := ⟨.hbm, 138, rfl⟩
abbrev main_v71 : Ref sig .tc := ⟨.hbm, 139, rfl⟩
abbrev main_v72_0 : Ref sig .tc := ⟨.hbm, 140, rfl⟩
abbrev main_v72_1 : Ref sig .tc := ⟨.hbm, 141, rfl⟩
abbrev main_v72_2 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SmallStepReferenceIdeal.lean ====
abbrev S4x1024 : Shape := ⟨2, ![4, 1024]⟩
abbrev S2x64 : Shape := ⟨2, ![2, 64]⟩
abbrev S2x512 : Shape := ⟨2, ![2, 512]⟩
abbrev S2x8x128x128 : Shape := ⟨4, ![2, 8, 128, 128]⟩
abbrev S2x8x128 : Shape := ⟨3, ![2, 8, 128]⟩
abbrev S4x2816 : Shape := ⟨2, ![4, 2816]⟩
abbrev S2x31x256 : Shape := ⟨3, ![2, 31, 256]⟩
abbrev S2x256 : Shape := ⟨2, ![2, 256]⟩
abbrev S4x3x704 : Shape := ⟨3, ![4, 3, 704]⟩
abbrev S4096 : Shape := ⟨1, ![4096]⟩
abbrev S128 : Shape := ⟨1, ![128]⟩
abbrev S1024 : Shape := ⟨1, ![1024]⟩
abbrev S262144 : Shape := ⟨1, ![262144]⟩
abbrev S2048 : Shape := ⟨1, ![2048]⟩
abbrev S11264 : Shape := ⟨1, ![11264]⟩
abbrev S15872 : Shape := ⟨1, ![15872]⟩
abbrev S512 : Shape := ⟨1, ![512]⟩
abbrev S8448 : Shape := ⟨1, ![8448]⟩
abbrev S312320 : Shape := ⟨1, ![312320]⟩
abbrev S_ : Shape := ⟨0, ![]⟩
abbrev S327680 : Shape := ⟨1, ![327680]⟩
abbrev S2560x128 : Shape := ⟨2, ![2560, 128]⟩

abbrev nBuf : Space → Nat
  | .hbm => 173
  | .vmem => 0
  | .smem => 0
  | _ => 0

abbrev hbmTy0_0 (i : Nat) : BufTy := match i % 128 with
  | 0 => ⟨S4x1024, .f32⟩
  | 1 => ⟨S2x64, .f32⟩
  | 2 => ⟨S2x64, .f32⟩
  | 3 => ⟨S2x512, .f32⟩
  | 4 => ⟨S2x8x128x128, .f32⟩
  | 5 => ⟨S2x8x128, .f32⟩
  | 6 => ⟨S4x1024, .f32⟩
  | 7 => ⟨S4x2816, .f32⟩
  | 8 => ⟨S2x512, .f32⟩
  | 9 => ⟨S2x31x256, .f32⟩
  | 10 => ⟨S2x256, .f32⟩
  | 11 => ⟨S2x256, .f32⟩
  | 12 => ⟨S2x256, .f32⟩
  | 13 => ⟨S2x256, .f32⟩
  | 14 => ⟨S4x3x704, .f32⟩
  | 15 => ⟨S4x1024, .f32⟩
  | 16 => ⟨S2x64, .f32⟩
  | 17 => ⟨S2x64, .f32⟩
  | 18 => ⟨S2x512, .f32⟩
  | 19 => ⟨S2x8x128x128, .f32⟩
  | 20 => ⟨S2x8x128, .f32⟩
  | 21 => ⟨S4x1024, .f32⟩
  | 22 => ⟨S4x2816, .f32⟩
  | 23 => ⟨S2x512, .f32⟩
  | 24 => ⟨S2x31x256, .f32⟩
  | 25 => ⟨S2x256, .f32⟩
  | 26 => ⟨S2x256, .f32⟩
  | 27 => ⟨S2x256, .f32⟩
  | 28 => ⟨S2x256, .f32⟩
  | 29 => ⟨S4x3x704, .f32⟩
  | 30 => ⟨S4x1024, .f32⟩
  | 31 => ⟨S2x64, .f32⟩
  | 32 => ⟨S2x64, .f32⟩
  | 33 => ⟨S2x512, .f32⟩
  | 34 => ⟨S2x8x128x128, .f32⟩
  | 35 => ⟨S2x8x128, .f32⟩
  | 36 => ⟨S4x1024, .f32⟩
  | 37 => ⟨S4x2816, .f32⟩
  | 38 => ⟨S2x512, .f32⟩
  | 39 => ⟨S2x31x256, .f32⟩
  | 40 => ⟨S2x256, .f32⟩
  | 41 => ⟨S2x256, .f32⟩
  | 42 => ⟨S2x256, .f32⟩
  | 43 => ⟨S2x256, .f32⟩
  | 44 => ⟨S4x3x704, .f32⟩
  | 45 => ⟨S4x1024, .f32⟩
  | 46 => ⟨S2x64, .f32⟩
  | 47 => ⟨S2x64, .f32⟩
  | 48 => ⟨S2x512, .f32⟩
  | 49 => ⟨S2x8x128x128, .f32⟩
  | 50 => ⟨S2x8x128, .f32⟩
  | 51 => ⟨S4x1024, .f32⟩
  | 52 => ⟨S4x2816, .f32⟩
  | 53 => ⟨S2x512, .f32⟩
  | 54 => ⟨S2x31x256, .f32⟩
  | 55 => ⟨S2x256, .f32⟩
  | 56 => ⟨S2x256, .f32⟩
  | 57 => ⟨S2x256, .f32⟩
  | 58 => ⟨S2x256, .f32⟩
  | 59 => ⟨S4x3x704, .f32⟩
  | 60 => ⟨S4096, .f32⟩
  | 61 => ⟨S128, .f32⟩
  | 62 => ⟨S128, .f32⟩
  | 63 => ⟨S1024, .f32⟩
  | 64 => ⟨S262144, .f32⟩
  | 65 => ⟨S2048, .f32⟩
  | 66 => ⟨S4096, .f32⟩
  | 67 => ⟨S11264, .f32⟩
  | 68 => ⟨S1024, .f32⟩
  | 69 => ⟨S15872, .f32⟩
  | 70 => ⟨S512, .f32⟩
  | 71 => ⟨S512, .f32⟩
  | 72 => ⟨S512, .f32⟩
  | 73 => ⟨S512, .f32⟩
  | 74 => ⟨S8448, .f32⟩
  | 75 => ⟨S312320, .f32⟩
  | 76 => ⟨S_, .i32⟩
  | 77 => ⟨S_, .f32⟩
  | 78 => ⟨S327680, .f32⟩
  | 79 => ⟨S2560x128, .f32⟩
  | 80 => ⟨S4096, .f32⟩
  | 81 => ⟨S128, .f32⟩
  | 82 => ⟨S128, .f32⟩
  | 83 => ⟨S1024, .f32⟩
  | 84 => ⟨S262144, .f32⟩
  | 85 => ⟨S2048, .f32⟩
  | 86 => ⟨S4096, .f32⟩
  | 87 => ⟨S11264, .f32⟩
  | 88 => ⟨S1024, .f32⟩
  | 89 => ⟨S15872, .f32⟩
  | 90 => ⟨S512, .f32⟩
  | 91 => ⟨S512, .f32⟩
  | 92 => ⟨S512, .f32⟩
  | 93 => ⟨S512, .f32⟩
  | 94 => ⟨S8448, .f32⟩
  | 95 => ⟨S312320, .f32⟩
  | 96 => ⟨S_, .i32⟩
  | 97 => ⟨S_, .f32⟩
  | 98 => ⟨S327680, .f32⟩
  | 99 => ⟨S2560x128, .f32⟩
  | 100 => ⟨S4096, .f32⟩
  | 101 => ⟨S128, .f32⟩
  | 102 => ⟨S128, .f32⟩
  | 103 => ⟨S1024, .f32⟩
  | 104 => ⟨S262144, .f32⟩
  | 105 => ⟨S2048, .f32⟩
  | 106 => ⟨S4096, .f32⟩
  | 107 => ⟨S11264, .f32⟩
  | 108 => ⟨S1024, .f32⟩
  | 109 => ⟨S15872, .f32⟩
  | 110 => ⟨S512, .f32⟩
  | 111 => ⟨S512, .f32⟩
  | 112 => ⟨S512, .f32⟩
  | 113 => ⟨S512, .f32⟩
  | 114 => ⟨S8448, .f32⟩
  | 115 => ⟨S312320, .f32⟩
  | 116 => ⟨S_, .i32⟩
  | 117 => ⟨S_, .f32⟩
  | 118 => ⟨S327680, .f32⟩
  | 119 => ⟨S2560x128, .f32⟩
  | 120 => ⟨S4096, .f32⟩
  | 121 => ⟨S128, .f32⟩
  | 122 => ⟨S128, .f32⟩
  | 123 => ⟨S1024, .f32⟩
  | 124 => ⟨S262144, .f32⟩
  | 125 => ⟨S2048, .f32⟩
  | 126 => ⟨S4096, .f32⟩
  | 127 => ⟨S11264, .f32⟩
  | _ => ⟨S4x1024, .f32⟩

abbrev hbmTy0_1 (i : Nat) : BufTy := match i % 128 with
  | 0 => ⟨S1024, .f32⟩
  | 1 => ⟨S15872, .f32⟩
  | 2 => ⟨S512, .f32⟩
  | 3 => ⟨S512, .f32⟩
  | 4 => ⟨S512, .f32⟩
  | 5 => ⟨S512, .f32⟩
  | 6 => ⟨S8448, .f32⟩
  | 7 => ⟨S312320, .f32⟩
  | 8 => ⟨S_, .i32⟩
  | 9 => ⟨S_, .f32⟩
  | 10 => ⟨S327680, .f32⟩
  | 11 => ⟨S2560x128, .f32⟩
  | 12 => ⟨S_, .f32⟩
  | 13 => ⟨S2560x128, .f32⟩
  | 14 => ⟨S2560x128, .f32⟩
  | 15 => ⟨S_, .f32⟩
  | 16 => ⟨S2560x128, .f32⟩
  | 17 => ⟨S2560x128, .f32⟩
  | 18 => ⟨S2560x128, .f32⟩
  | 19 => ⟨S_, .f32⟩
  | 20 => ⟨S2560x128, .f32⟩
  | 21 => ⟨S2560x128, .f32⟩
  | 22 => ⟨S2560x128, .f32⟩
  | 23 => ⟨S_, .f32⟩
  | 24 => ⟨S2560x128, .f32⟩
  | 25 => ⟨S2560x128, .f32⟩
  | 26 => ⟨S2560x128, .f32⟩
  | 27 => ⟨S_, .f32⟩
  | 28 => ⟨S2560x128, .f32⟩
  | 29 => ⟨S2560x128, .f32⟩
  | 30 => ⟨S_, .f32⟩
  | 31 => ⟨S2560x128, .f32⟩
  | 32 => ⟨S2560x128, .f32⟩
  | 33 => ⟨S2560x128, .f32⟩
  | 34 => ⟨S_, .f32⟩
  | 35 => ⟨S2560x128, .f32⟩
  | 36 => ⟨S2560x128, .f32⟩
  | 37 => ⟨S2560x128, .f32⟩
  | 38 => ⟨S_, .f32⟩
  | 39 => ⟨S2560x128, .f32⟩
  | 40 => ⟨S2560x128, .f32⟩
  | 41 => ⟨S2560x128, .f32⟩
  | 42 => ⟨S_, .f32⟩
  | 43 => ⟨S2560x128, .f32⟩
  | 44 => ⟨S2560x128, .f32⟩
  | _ => ⟨S4x1024, .f32⟩

abbrev hbmTy (i : Nat) : BufTy := match i / 128 with
  | 0 => hbmTy0_0 i
  | 1 => hbmTy0_1 i
  | _ => ⟨S4x1024, .f32⟩

abbrev bufTy : (tb : Table) → Fin (tcTables nBuf tb) → BufTy
  | .hbm, ⟨i, _⟩ => hbmTy i
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_v0 : Ref sig .tc := ⟨.hbm, 60, rfl⟩
abbrev main_v1 : Ref sig .tc := ⟨.hbm, 61, rfl⟩
abbrev main_v2 : Ref sig .tc := ⟨.hbm, 62, rfl⟩
abbrev main_v3 : Ref sig .tc := ⟨.hbm, 63, rfl⟩
abbrev main_v4 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_c : Ref sig .tc := ⟨.hbm, 76, rfl⟩
abbrev main_call0_v0 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_c_0 : Ref sig .tc := ⟨.hbm, 96, rfl⟩
abbrev main_call1_v0 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_c_1 : Ref sig .tc := ⟨.hbm, 116, rfl⟩
abbrev main_call2_v0 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_c_2 : Ref sig .tc := ⟨.hbm, 136, rfl⟩
abbrev main_call3_v0 : Ref sig .tc := ⟨.hbm, 137, rfl⟩
abbrev main_v70 : Ref sig .tc := ⟨.hbm, 138, rfl⟩
abbrev main_v71 : Ref sig .tc := ⟨.hbm, 139, rfl⟩
abbrev main_cst : Ref sig .tc := ⟨.hbm, 140, rfl⟩
abbrev main_v72 : Ref sig .tc := ⟨.hbm, 141, rfl⟩
abbrev main_v73 : Ref sig .tc := ⟨.hbm, 142, rfl⟩
abbrev main_cst_3 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_cst_4 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_cst_5 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_cst_6 : Ref sig .tc := ⟨.hbm, 155, rfl⟩
abbrev main_v83 : Ref sig .tc := ⟨.hbm, 156, rfl⟩
abbrev main_v84 : Ref sig .tc := ⟨.hbm, 157, rfl⟩
abbrev main_cst_7 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_cst_8 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_cst_9 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_cst_10 : Ref sig .tc := ⟨.hbm, 170, rfl⟩
abbrev main_v94 : Ref sig .tc := ⟨.hbm, 171, rfl⟩
abbrev main_v95 : Ref sig .tc := ⟨.hbm, 172, rfl⟩

abbrev nD : Nat := 1
abbrev τ : Topo := Topo.v7x

variable {F : FTy → Type} [FloatOps F]
-- ==== Proof.Columns.lean ====
/- The columns of a weight that four owners share: owner `p` holds `b` columns in a row. -/
module

public import Mathlib.Data.Fin.Basic

@[expose] public section

namespace Cert

/-- Column `l` of owner `p`'s part of `n` columns. -/
def column {b n : ℕ} (p : Fin 4) (l : Fin b) (h : 4 * b = n := by decide) : Fin n :=
  ⟨p.val * b + l.val, by
    subst h
    exact lt_of_lt_of_le (Nat.add_lt_add_left l.isLt _) ((Nat.succ_mul _ _).symm.trans_le (Nat.mul_le_mul_right b p.isLt))⟩

end Cert
-- ==== Proof.Input.Spec.lean ====
/- The gradient of a projection's input, through the normalisation before it, as formulas over the extended reals, one
   row at a time and for any number `n` of columns of the projection; and the up-projection's reference, its three
   results read as those formulas. -/
module

public import proofs.«01_k».proof.Proof.Gen.ReferenceIdeal.Read
public import Idealize.ShloMosaic.Lib.Pointwise
public import proofs.«01_k».proof.Proof.Columns

@[expose] public section

set_option maxRecDepth 16384

noncomputable section

namespace Cert.InputGradient

open Idealize.ShloMosaic

variable {n : ℕ}

/-- A row's mean square with the small constant added. -/
def meanSquare (x : Fin 1024 → EReal) : EReal :=
  Ideal.div (∑ q : Fin 1024, x q * x q) (Ideal.ofBits .f32 0x44800000#32) + Ideal.ofBits .f32 0x358637BD#32

/-- The reciprocal of a row's root mean square. -/
def scale (x : Fin 1024 → EReal) : EReal := Ideal.rsqrt (meanSquare x)

/-- What the mean square contributes to a row's gradient, per element of the row: `x` the row, `g` the norm's weights,
    `h` the gradient of the normalised row. -/
def through (x g h : Fin 1024 → EReal) : EReal :=
  Ideal.div ((∑ q : Fin 1024, x q * (h q * g q))
    * (Ideal.ofBits .f32 0xBF000000#32 * Ideal.div (scale x) (meanSquare x))) (Ideal.ofBits .f32 0x44800000#32)

/-- A row's gradient at element `r`, `e` being what the residual branch adds there. -/
def rowGradient (x g h : Fin 1024 → EReal) (e : EReal) (r : Fin 1024) : EReal :=
  e + h r * g r * scale x + x r * through x g h + through x g h * x r

/-- The gradient of the normalised activations: the incoming gradient times the transposed weight. -/
def normedGradient (d : (⟨2, ![8192, n]⟩ : Shape).Idx → EReal) (w : (⟨2, ![1024, n]⟩ : Shape).Idx → EReal)
    (k : Fin 8192) (r : Fin 1024) : EReal :=
  ∑ l : Fin n, d (ix2 k l) * w (ix2 r l)

/-- The input's gradient. -/
def inputGradient (x : (⟨2, ![8192, 1024]⟩ : Shape).Idx → EReal) (g : (⟨1, ![1024]⟩ : Shape).Idx → EReal)
    (w : (⟨2, ![1024, n]⟩ : Shape).Idx → EReal) (e : (⟨2, ![8192, 1024]⟩ : Shape).Idx → EReal)
    (d : (⟨2, ![8192, n]⟩ : Shape).Idx → EReal) (k : Fin 8192) (r : Fin 1024) : EReal :=
  rowGradient (fun q => x (ix2 k q)) (fun q => g (ix1 q)) (normedGradient d w k) (e (ix2 k r)) r

/-- What row `k` adds to the gradient of the norm's weights. -/
def gainTerm (x : (⟨2, ![8192, 1024]⟩ : Shape).Idx → EReal) (w : (⟨2, ![1024, n]⟩ : Shape).Idx → EReal)
    (d : (⟨2, ![8192, n]⟩ : Shape).Idx → EReal) (k : Fin 8192) (r : Fin 1024) : EReal :=
  x (ix2 k r) * scale (fun q => x (ix2 k q)) * normedGradient d w k r

/-- The gradient of the norm's weights. -/
def gainGradient (x : (⟨2, ![8192, 1024]⟩ : Shape).Idx → EReal) (w : (⟨2, ![1024, n]⟩ : Shape).Idx → EReal)
    (d : (⟨2, ![8192, n]⟩ : Shape).Idx → EReal) (r : Fin 1024) : EReal :=
  ∑ k : Fin 8192, gainTerm x w d k r

/-- A block of 256 rows of the normalised activations' gradient: the incoming gradient's columns lie in four owners'
    parts of `b`. -/
def block {b : ℕ} (D : (⟨2, ![256, n]⟩ : Shape).Idx → EReal) (W : (⟨4, ![1, 4, 1024, b]⟩ : Shape).Idx → EReal)
    (h : 4 * b = n) (a : Fin 256) (r : Fin 1024) : EReal :=
  ∑ p : Fin 4, ∑ l : Fin b, D (ix2 a (column p l h)) * W (ix4 0 p r l)

/-- What 256 rows add to the gradient of the norm's weights. -/
def share (H X : (⟨2, ![256, 1024]⟩ : Shape).Idx → EReal) (r : Fin 1024) : EReal :=
  ∑ k : Fin 256, X (ix2 k r) * scale (fun q => X (ix2 k q)) * H (ix2 k r)

open Cert.ReferenceIdeal Cert.ReferenceIdeal.Gen Cert.ReferenceIdeal.Read

theorem reference_input (x : Vec Ideal S8192x1024 .f32) (g : Vec Ideal S1024 .f32) (w : Vec Ideal S1024x5632 .f32)
    (e : Vec Ideal S8192x1024 .f32) (d : Vec Ideal S8192x5632 .f32) (k : Fin 8192) (r : Fin 1024) :
    val_main_v40 (F := Ideal) x g w e d (ix2 k r) = inputGradient x g w e d k r := by
  pointwise [val_main_v40, val_main_v39, val_main_v38, val_main_v37, val_main_v36, val_main_v35, val_main_v34,
    val_main_v33, val_main_v32, val_main_v31, val_main_v30, val_main_v29, val_main_v28, val_main_v27, val_main_v26,
    val_main_v24, val_main_v23, val_main_v19, val_main_v13, val_main_v10, val_main_v9, val_main_v8, val_main_v7,
    val_main_v6, val_main_v5, val_main_v4, val_main_v3, val_main_v2, val_main_v1, val_main_v0,
    val_main_cst, val_main_cst_0, val_main_cst_1, val_main_cst_2, val_main_cst_5, val_main_cst_6, val_main_cst_7]
  simp only [Fintype.sum_unique]
  rfl

theorem reference_low (x : Vec Ideal S8192x1024 .f32) (g : Vec Ideal S1024 .f32) (w : Vec Ideal S1024x5632 .f32)
    (e : Vec Ideal S8192x1024 .f32) (d : Vec Ideal S8192x5632 .f32) (k : Fin 8192) (r : Fin 1024) :
    val_main_v41 (F := Ideal) x g w e d (ix2 k r) = inputGradient x g w e d k r :=
  reference_input x g w e d k r

theorem reference_gain (x : Vec Ideal S8192x1024 .f32) (w : Vec Ideal S1024x5632 .f32)
    (d : Vec Ideal S8192x5632 .f32) (a : Fin 1) (r : Fin 1024) :
    val_main_v42 (F := Ideal) x w d (ix2 a r) = gainGradient x w d r := by
  pointwise [val_main_v42, val_main_v25, val_main_v22, val_main_v21, val_main_v20, val_main_v19, val_main_v12,
    val_main_v11, val_main_v7,
    val_main_v6, val_main_v5, val_main_v4, val_main_v3, val_main_v2, val_main_v1, val_main_v0,
    val_main_cst, val_main_cst_0, val_main_cst_1, val_main_cst_3, val_main_cst_4]
  simp only [Fintype.sum_unique]
  rfl

end Cert.InputGradient

end
-- ==== Proof.Input.Point.lean ====
/- One point of the kernel's grid: 256 rows of the normalised activations' gradient, the rows' input gradient, and the
   rows' share of the gradient of the norm's weights, added to what the points before left. -/
module

public import proofs.«01_k».proof.Proof.Gen.KernelIdeal.Value
public import proofs.«01_k».proof.Proof.Input.Spec
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InputGradient.Point

open Idealize.ShloMosaic Cert.KernelIdeal Cert.KernelIdeal.Gen Cert.KernelIdeal.Value Idealize.ShloMosaic.TcCoe

/-- The gradient of the normalised activations as the body forms it from one point's two blocks. -/
abbrev products (D : Vec Ideal S256x5632 .bf16) (W : Vec Ideal S1x4x1024x1408 .bf16) : Vec Ideal S256x1024 .f32 :=
  k0_pay2 (F := Ideal)
    (View.ld D (Rect.unit ![0, 0] ![256, 1408] inb_S256x5632_S256x1408_0_0))
    (View.ld W (Rect.unit ![0, 0, 0, 0] ![1, 1, 1024, 1408] inb_S1x4x1024x1408_S1x1x1024x1408_0_0_0_0))
    (View.ld D (Rect.unit ![0, 1408] ![256, 1408] inb_S256x5632_S256x1408_0_1408))
    (View.ld W (Rect.unit ![0, 1, 0, 0] ![1, 1, 1024, 1408] inb_S1x4x1024x1408_S1x1x1024x1408_0_1_0_0))
    (View.ld D (Rect.unit ![0, 2816] ![256, 1408] inb_S256x5632_S256x1408_0_2816))
    (View.ld W (Rect.unit ![0, 2, 0, 0] ![1, 1, 1024, 1408] inb_S1x4x1024x1408_S1x1x1024x1408_0_2_0_0))
    (View.ld D (Rect.unit ![0, 4224] ![256, 1408] inb_S256x5632_S256x1408_0_4224))
    (View.ld W (Rect.unit ![0, 3, 0, 0] ![1, 1, 1024, 1408] inb_S1x4x1024x1408_S1x1x1024x1408_0_3_0_0))

theorem products_apply (D : Vec Ideal S256x5632 .bf16) (W : Vec Ideal S1x4x1024x1408 .bf16) (a : Fin 256) (r : Fin 1024) :
    products D W (ix2 a r) = block D W (by decide) a r := by
  unfold products
  unfold_payloads
  pointwise
  unfold block
  rw [Fin.sum_univ_four]
  rfl

theorem row_apply (H X : Vec Ideal S256x1024 .f32) (G : Vec Ideal S1x1024 .f32) (E : Vec Ideal S256x1024 .f32)
    (a : Fin 256) (r : Fin 1024) :
    k0_pay8 (F := Ideal) H X (k0_pay3 G) (k0_pay4 X) E (ix2 a r)
      = rowGradient (fun q => X (ix2 a q)) (fun q => G (ix2 0 q)) (fun q => H (ix2 a q)) (E (ix2 a r)) r := by
  unfold_payloads
  pointwise
  simp only [Fintype.sum_unique]
  rw [rowGradient, add_comm, ← add_assoc, ← add_assoc]
  rfl

theorem low_apply (H X : Vec Ideal S256x1024 .f32) (G : Vec Ideal S1x1024 .f32) (E : Vec Ideal S256x1024 .f32)
    (a : Fin 256) (r : Fin 1024) :
    k0_pay9 (F := Ideal) H X (k0_pay3 G) (k0_pay4 X) E (ix2 a r)
      = k0_pay8 (F := Ideal) H X (k0_pay3 G) (k0_pay4 X) E (ix2 a r) := by
  rfl

theorem share_apply (H X : Vec Ideal S256x1024 .f32) (A : Vec Ideal S1x1024 .f32) (a : Fin 1) (r : Fin 1024) :
    k0_pay1 (F := Ideal) (k0_pay7 (F := Ideal) H X (k0_pay4 X)) A (ix2 a r) = A (ix2 a r) + share H X r := by
  unfold_payloads
  pointwise
  rfl

theorem zero_apply (a : Fin 1) (r : Fin 1024) : k0_pay10 (F := Ideal) (ix2 a r) = 0 := by
  unfold_payloads
  pointwise

variable (m : (ℓ : Loc nD τ sig) → Buf (Elt Ideal) ℓ) (c : Dev nD)

/-- The input's gradient at any point. -/
theorem out_row (t : Fin cfg0.N) (a : Fin 256) (r : Fin 1024) :
    (outsAt0 m c t.val t.isLt).1 (ix2 a r)
      = rowGradient (fun q => iblk m c 2 t (ix2 a q)) (fun q => iblk m c 3 t (ix2 0 q))
          (block (iblk m c 0 t) (iblk m c 1 t) (by decide) a) (iblk m c 4 t (ix2 a r)) r := by
  have e : (fun q => products (iblk m c 0 t) (iblk m c 1 t) (ix2 a q)) = block (iblk m c 0 t) (iblk m c 1 t) (by decide) a :=
    funext fun q => products_apply _ _ a q
  rw [← e]
  by_cases h0 : t.val % 32 = 0
  · rw [outsAt0_A m c t h0]
    frame_out
    exact row_apply _ _ _ _ a r
  · rw [outsAt0_B m c t h0]
    frame_out
    exact row_apply _ _ _ _ a r

/-- The low-precision copy is the same over the extended reals. -/
theorem out_low (t : Fin cfg0.N) (a : Fin 256) (r : Fin 1024) :
    (outsAt0 m c t.val t.isLt).2.1 (ix2 a r) = (outsAt0 m c t.val t.isLt).1 (ix2 a r) := by
  by_cases h0 : t.val % 32 = 0
  · rw [outsAt0_A m c t h0]
    frame_out
    exact low_apply _ _ _ _ a r
  · rw [outsAt0_B m c t h0]
    frame_out
    exact low_apply _ _ _ _ a r

/-- The first point leaves its own rows' share of the norm's gradient. -/
theorem gain_first (t : Fin cfg0.N) (h0 : t.val % 32 = 0) (a : Fin 1) (r : Fin 1024) :
    (outsAt0 m c t.val t.isLt).2.2 (ix2 a r)
      = 0 + share (products (iblk m c 0 t) (iblk m c 1 t)) (iblk m c 2 t) r := by
  rw [outsAt0_A m c t h0]
  frame_out
  rw [share_apply, zero_apply]

/-- A later point adds its own rows' share. -/
theorem gain_next (t : Fin cfg0.N) (h0 : ¬ t.val % 32 = 0) (a : Fin 1) (r : Fin 1024) :
    (outsAt0 m c t.val t.isLt).2.2 (ix2 a r)
      = (outsAt0 m c (t.val - 1) (Nat.lt_of_le_of_lt (Nat.sub_le _ _) t.isLt)).2.2 (ix2 a r)
        + share (products (iblk m c 0 t) (iblk m c 1 t)) (iblk m c 2 t) r := by
  rw [outsAt0_B m c t h0]
  frame_out
  rw [share_apply]

end Cert.InputGradient.Point

end
-- ==== Proof.Input.Array.lean ====
/- The kernel's three result arrays after the run: the input's gradient row block by row block, its low-precision copy,
   and the gradient of the norm's weights summed over all 8192 rows. -/
module

public import proofs.«01_k».proof.Proof.Input.Point

@[expose] public section

set_option maxRecDepth 16384

noncomputable section

namespace Cert.InputGradient.Array

open Cert.KernelIdeal Cert.KernelIdeal.Gen Cert.KernelIdeal.Value Idealize.ShloMosaic Idealize.ShloMosaic.TcCoe
open Cert.InputGradient.Point

variable (m : (ℓ : Loc nD τ sig) → Buf (Elt Ideal) ℓ) (c : Dev nD)

/-- Where each window's block lies at point `t`. -/
theorem idx (t : Fin cfg0.N) : (win0_0.index t = ![t.val, 0] ∧ win0_1.index t = ![0, 0, 0, 0]
    ∧ win0_2.index t = ![t.val, 0] ∧ win0_3.index t = ![0, 0]) ∧ win0_4.index t = ![t.val, 0]
    ∧ win0_5.index t = ![t.val, 0] ∧ win0_6.index t = ![t.val, 0] ∧ win0_7.index t = ![0, 0] :=
  (by decide +kernel : ∀ t : Fin grid0.N, (win0_0.index t = ![t.val, 0] ∧ win0_1.index t = ![0, 0, 0, 0]
    ∧ win0_2.index t = ![t.val, 0] ∧ win0_3.index t = ![0, 0]) ∧ win0_4.index t = ![t.val, 0]
    ∧ win0_5.index t = ![t.val, 0] ∧ win0_6.index t = ![t.val, 0] ∧ win0_7.index t = ![0, 0]) t

/-- Row `a` of the block at point `t`. -/
def row (t : Fin cfg0.N) (a : Fin 256) : Fin 8192 :=
  ⟨t.val * 256 + a.val, by have := lt_of_lt_of_eq t.isLt N_0; omega⟩

/-- The incoming gradient's array when the launch begins. -/
theorem incoming_entry (k : Fin 8192) (l : Fin 5632) :
    V m c main_v0 (ix2 k l) = m ((c : Thread nD τ).loc main_arg4) (ix2 k l) := by
  entry_read
  pointwise

/-- The weight's array when the launch begins: its columns lie by owner. -/
theorem weight_entry (p : Fin 4) (r : Fin 1024) (l : Fin 1408) :
    V m c main_v3 (ix4 0 p r l) = m ((c : Thread nD τ).loc main_arg2) (ix2 r (column p l)) := by
  entry_read
  pointwise
  rfl

/-- The norm's weights when the launch begins. -/
theorem gain_entry (r : Fin 1024) :
    V m c main_v4 (ix2 0 r) = m ((c : Thread nD τ).loc main_arg1) (ix1 r) := by
  entry_read
  pointwise

theorem incoming_apply (t : Fin cfg0.N) (a : Fin 256) (l : Fin 5632) :
    iblk m c 0 t (ix2 a l) = m ((c : Thread nD τ).loc main_arg4) (ix2 (row t a) l) := by
  rw [← incoming_entry m c]
  unfold row
  blk_ext [iblk, (idx t).1.1]

theorem weight_apply (t : Fin cfg0.N) (p : Fin 4) (r : Fin 1024) (l : Fin 1408) :
    iblk m c 1 t (ix4 0 p r l) = m ((c : Thread nD τ).loc main_arg2) (ix2 r (column p l)) := by
  rw [← weight_entry m c]
  blk_ext [iblk, (idx t).1.2.1]

theorem input_apply (t : Fin cfg0.N) (a : Fin 256) (q : Fin 1024) :
    iblk m c 2 t (ix2 a q) = m ((c : Thread nD τ).loc main_arg0) (ix2 (row t a) q) := by
  have e : V m c main_arg0 (ix2 (row t a) q) = m ((c : Thread nD τ).loc main_arg0) (ix2 (row t a) q) := by
    entry_read
    rfl
  rw [← e]
  unfold row
  blk_ext [iblk, (idx t).1.2.2.1]

theorem gain_apply (t : Fin cfg0.N) (q : Fin 1024) :
    iblk m c 3 t (ix2 0 q) = m ((c : Thread nD τ).loc main_arg1) (ix1 q) := by
  rw [← gain_entry m c]
  blk_ext [iblk, (idx t).1.2.2.2]

theorem residual_apply (t : Fin cfg0.N) (a : Fin 256) (q : Fin 1024) :
    iblk m c 4 t (ix2 a q) = m ((c : Thread nD τ).loc main_arg3) (ix2 (row t a) q) := by
  have e : V m c main_arg3 (ix2 (row t a) q) = m ((c : Thread nD τ).loc main_arg3) (ix2 (row t a) q) := by
    entry_read
    rfl
  rw [← e]
  unfold row
  blk_ext [iblk, (idx t).2.1]

/-- The four owners' parts make up the whole product. -/
theorem block_apply (t : Fin cfg0.N) (a : Fin 256) :
    block (iblk m c 0 t) (iblk m c 1 t) (by decide) a
      = normedGradient (m ((c : Thread nD τ).loc main_arg4)) (m ((c : Thread nD τ).loc main_arg2)) (row t a) := by
  funext r
  unfold block normedGradient
  refine Fin.sum_mul_add_congr fun p l hl => ?_
  rw [incoming_apply, weight_apply]
  rfl

/-- The input's gradient of the arrays the launch begins with. -/
def value (k : Fin 8192) (r : Fin 1024) : EReal :=
  inputGradient (m ((c : Thread nD τ).loc main_arg0)) (m ((c : Thread nD τ).loc main_arg1))
    (m ((c : Thread nD τ).loc main_arg2)) (m ((c : Thread nD τ).loc main_arg3))
    (m ((c : Thread nD τ).loc main_arg4)) k r

/-- What the kernel leaves in its first result. -/
def inputResult : Buf (Elt Ideal) ((c : Thread nD τ).loc main_v5_0) := fun i => value m c (i 0) (i 1)

/-- What it leaves in its second. -/
def lowResult : Buf (Elt Ideal) ((c : Thread nD τ).loc main_v5_1) := fun i => value m c (i 0) (i 1)

/-- What it leaves in its third. -/
def gainResult : Buf (Elt Ideal) ((c : Thread nD τ).loc main_v5_2) := fun i =>
  gainGradient (m ((c : Thread nD τ).loc main_arg0)) (m ((c : Thread nD τ).loc main_arg2))
    (m ((c : Thread nD τ).loc main_arg4)) (i 1)

/-- A point's block of the first result. -/
theorem out_apply (t : Fin cfg0.N) (a : Fin 256) (r : Fin 1024) :
    (outsAt0 m c t.val t.isLt).1 (ix2 a r) = value m c (row t a) r := by
  rw [out_row, block_apply, residual_apply]
  simp only [input_apply, gain_apply]
  rfl

theorem final_input : (dats m 0 c).arrAt 5 cfg0.N = inputResult m c := by
  refine (dats m 0 c).arrAt_eq_of_covers 5 _ (by decide +kernel) fun t hf y => ?_
  blk_simp
  rw [after0_5]
  idx_vars y
  rw [out_apply]
  unfold inputResult
  exact congrArg₂ (value m c) (Fin.ext (by blk_simp [row, (idx t).2.2.1])) (Fin.ext (by blk_simp [(idx t).2.2.1]))

theorem final_low : (dats m 0 c).arrAt 6 cfg0.N = lowResult m c := by
  refine (dats m 0 c).arrAt_eq_of_covers 6 _ (by decide +kernel) fun t hf y => ?_
  blk_simp
  rw [after0_6]
  idx_vars y
  rw [out_low, out_apply]
  unfold lowResult
  exact congrArg₂ (value m c) (Fin.ext (by blk_simp [row, (idx t).2.2.2.1])) (Fin.ext (by blk_simp [(idx t).2.2.2.1]))

/-- One point's share of the norm's gradient, as rows of the whole arrays. -/
theorem share_eq (t : Fin cfg0.N) (r : Fin 1024) :
    share (products (iblk m c 0 t) (iblk m c 1 t)) (iblk m c 2 t) r
      = ∑ k : Fin 256, gainTerm (m ((c : Thread nD τ).loc main_arg0)) (m ((c : Thread nD τ).loc main_arg2))
          (m ((c : Thread nD τ).loc main_arg4)) (row t k) r := by
  unfold share gainTerm
  refine Finset.sum_congr rfl fun k _ => ?_
  rw [products_apply, block_apply]
  simp only [input_apply]

/-- After the last point the norm's gradient holds all points' shares. -/
theorem gain_last (t : Fin cfg0.N) (h : t.val % 32 = 31) (a : Fin 1) (r : Fin 1024) :
    (outsAt0 m c t.val t.isLt).2.2 (ix2 a r)
      = gainGradient (m ((c : Thread nD τ).loc main_arg0)) (m ((c : Thread nD τ).loc main_arg2))
          (m ((c : Thread nD τ).loc main_arg4)) r := by
  refine (Pipeline.eq_sum_fin_of_reset_step_of_flush (fun n h => (outsAt0 m c n h).2.2 (ix2 a r)) 32 0
    (fun t => share (products (iblk m c 0 t) (iblk m c 1 t)) (iblk m c 2 t) r)
    (fun t h => gain_first m c t h a r) (fun t h => gain_next m c t h a r) t h).trans ?_
  rw [zero_add]
  unfold gainGradient
  simp only [share_eq]
  refine Fin.sum_mul_add_congr fun s k hk => ?_
  have e : row ⟨32 * (t.val / 32) + s.val, Pipeline.run_point_lt_of_flush t h s⟩ k = ⟨s.val * 256 + k.val, hk⟩ := by
    have := lt_of_lt_of_eq t.isLt N_0
    apply Fin.ext
    show (32 * (t.val / 32) + s.val) * 256 + k.val = s.val * 256 + k.val
    omega
  rw [e]

theorem final_gain : (dats m 0 c).arrAt 7 cfg0.N = gainResult m c := by
  refine (dats m 0 c).arrAt_eq_of_covers 7 _ (by decide +kernel) fun t hf y => ?_
  blk_simp
  rw [after0_7]
  have h := (flush0_7 t).mp hf
  idx_vars y
  rw [gain_last m c t h]
  unfold gainResult
  congr 1 <;> (apply Fin.ext; blk_simp [(idx t).2.2.2.2])

end Cert.InputGradient.Array

end
-- ==== Proof.Input.Equal.lean ====
/- The input gradient's claim: the kernel's run and the reference's run end with the same three results. -/
module

public import proofs.«01_k».proof.Defs
public import proofs.«01_k».proof.Proof.Input.Array
public import proofs.«01_k».proof.Proof.Gen.ReferenceIdeal.Run

@[expose] public section

set_option maxRecDepth 16384

noncomputable section

namespace Cert.InputGradient

open Idealize.ShloMosaic Idealize.SL.Sem
open Cert.ReferenceIdeal Cert.ReferenceIdeal.Read

theorem input_eq (x : Vec Ideal S8192x1024 .f32) (g : Vec Ideal S1024 .f32) (w : Vec Ideal S1024x5632 .f32)
    (e : Vec Ideal S8192x1024 .f32) (d : Vec Ideal S8192x5632 .f32) :
    val_main_v40 (F := Ideal) x g w e d = fun i => inputGradient x g w e d (i 0) (i 1) := by
  funext i
  idx_vars i
  exact reference_input x g w e d _ _

theorem low_eq (x : Vec Ideal S8192x1024 .f32) (g : Vec Ideal S1024 .f32) (w : Vec Ideal S1024x5632 .f32)
    (e : Vec Ideal S8192x1024 .f32) (d : Vec Ideal S8192x5632 .f32) :
    val_main_v41 (F := Ideal) x g w e d = fun i => inputGradient x g w e d (i 0) (i 1) := by
  funext i
  idx_vars i
  exact reference_low x g w e d _ _

theorem gain_eq (x : Vec Ideal S8192x1024 .f32) (w : Vec Ideal S1024x5632 .f32) (d : Vec Ideal S8192x5632 .f32) :
    val_main_v42 (F := Ideal) x w d = fun i => gainGradient x w d (i 1) := by
  funext i
  idx_vars i
  exact reference_gain x w d _ _

theorem algebraic : Cert.algebraic_KernelIdeal_ReferenceIdeal
    (hKernelIdeal := Cert.KernelIdeal.Gen.facts) (hReferenceIdeal := Cert.ReferenceIdeal.Gen.facts) := by
  intro m ρ m' ρ' _ hargs
  refine ⟨fun c => Array.inputResult m c, fun c => Array.lowResult m c, fun c => Array.gainResult m c, ?_, ?_⟩
  · refine (θ_run _ _ _).mono (fun r h c => ?_) (Cert.KernelIdeal.Value.run_blocks m ρ)
    exact ⟨(h c).1.trans (Array.final_input m c), (h c).2.1.trans (Array.final_low m c),
      (h c).2.2.1.trans (Array.final_gain m c), (h c).2.2.2⟩
  · refine (θ_run _ _ _).mono (fun r h c => ?_) (Cert.ReferenceIdeal.Value.run m' ρ')
    obtain ⟨a0, a1, a2, a3, a4⟩ := hargs c
    refine ⟨(h c).1.trans ?_, (h c).2.1.trans ?_, (h c).2.2.1.trans ?_, (h c).2.2.2⟩
    · rw [val_main_v40_eq, input_eq, a0, a1, a2, a3, a4]
      rfl
    · rw [val_main_v41_eq, low_eq, a0, a1, a2, a3, a4]
      rfl
    · refine (val_main_v42_eq _ _ _).trans ?_
      rw [gain_eq, a0, a2, a4]
      rfl

end Cert.InputGradient

end
-- ==== Proof.Weight.Spec.lean ====
/- The gradient of a projection's weight as a formula over the extended reals, for any number `n` of the projection's
   columns: the transposed product of the normalised activations with the incoming gradient. And the up-projection's
   reference, its result read as that formula, its columns divided among four owners. -/
module

public import proofs.«01_k».proof.Proof.Gen.WeightReferenceIdeal.Read
public import Idealize.ShloMosaic.Lib.Pointwise
public import proofs.«01_k».proof.Proof.Columns

@[expose] public section

set_option maxRecDepth 16384

noncomputable section

namespace Cert.WeightGradient

open Idealize.ShloMosaic

/-- The reciprocal of row `k`'s root mean square. -/
def scale (x : (⟨2, ![8192, 1024]⟩ : Shape).Idx → EReal) (k : Fin 8192) : EReal :=
  Ideal.rsqrt (Ideal.div (∑ q : Fin 1024, x (ix2 k q) * x (ix2 k q)) (Ideal.ofBits .f32 0x44800000#32)
    + Ideal.ofBits .f32 0x358637BD#32)

/-- The normalised activations. -/
def normed (x : (⟨2, ![8192, 1024]⟩ : Shape).Idx → EReal) (g : (⟨1, ![1024]⟩ : Shape).Idx → EReal) (k : Fin 8192)
    (r : Fin 1024) : EReal :=
  x (ix2 k r) * scale x k * g (ix1 r)

/-- The gradient at row `r` and column `l` of the weight. -/
def gradient {n : ℕ} (x : (⟨2, ![8192, 1024]⟩ : Shape).Idx → EReal) (g : (⟨1, ![1024]⟩ : Shape).Idx → EReal)
    (d : (⟨2, ![8192, n]⟩ : Shape).Idx → EReal) (r : Fin 1024) (l : Fin n) : EReal :=
  ∑ k : Fin 8192, normed x g k r * d (ix2 k l)

/-- The product of two blocks at row `r` and column `l` of the weight: a sum over the blocks' 2048 rows. -/
def prod {a b : ℕ} (X : (⟨2, ![2048, a]⟩ : Shape).Idx → EReal) (Y : (⟨2, ![2048, b]⟩ : Shape).Idx → EReal) (r : Fin a)
    (l : Fin b) : EReal :=
  ∑ k : Fin 2048, X (ix2 k r) * Y (ix2 k l)

open Cert.WeightReferenceIdeal Cert.WeightReferenceIdeal.Gen Cert.WeightReferenceIdeal.Read in
/-- What the reference computes. -/
theorem reference_apply (x : Vec Ideal S8192x1024 .f32) (g : Vec Ideal S1024 .f32) (d : Vec Ideal S8192x5632 .f32)
    (a : Fin 1) (p : Fin 4) (r : Fin 1024) (l : Fin 1408) :
    val_main_v19 (F := Ideal) x g d (ix4 a p r l) = gradient x g d r (column p l) := by
  pointwise [val_main_v19, val_main_v18, val_main_v17, val_main_v16, val_main_v15, val_main_v13, val_main_v12,
    val_main_v11, val_main_v10, val_main_v9, val_main_v8, val_main_v7, val_main_v6, val_main_v5, val_main_v4,
    val_main_v3, val_main_v2, val_main_v1, val_main_cst_0, val_main_cst_1, val_main_cst_2]
  unfold gradient normed scale column
  exact Finset.sum_congr rfl fun k _ => mul_comm _ _

end Cert.WeightGradient

end
-- ==== Proof.Weight.Product.lean ====
/- One point of the weight gradient's grid, over the extended reals: the product of a block of 2048 rows of the
   normalised activations with the same rows of the incoming gradient, and what that point leaves in the carried
   accumulator and, at the last point of a run, in the result's block. -/
module

public import proofs.«01_k».proof.Proof.Gen.WeightKernelIdeal.Value
public import proofs.«01_k».proof.Proof.Weight.Spec
public import Idealize.ShloMosaic.Lib.Pointwise
public import Idealize.ShloMosaic.Lib.Pipeline.ValueKit
public import Idealize.ShloMosaic.Lib.Pipeline.ReadBack

@[expose] public section

set_option maxRecDepth 16384

noncomputable section

namespace Cert.WeightKernelIdeal.Product

open Cert.WeightKernelIdeal Cert.WeightKernelIdeal.Gen Idealize.ShloMosaic Idealize.ShloMosaic.TcCoe
open Cert.WeightGradient

theorem first_apply (X : Vec Ideal S2048x1024 .bf16) (Y : Vec Ideal S2048x1408 .bf16) (r : Fin 1024) (l : Fin 1408) :
    k0_pay2 (F := Ideal) X Y (ix2 r l) = prod X Y r l := by
  unfold_payloads
  pointwise [prod]

theorem next_apply (X : Vec Ideal S2048x1024 .bf16) (Y : Vec Ideal S2048x1408 .bf16) (A : Vec Ideal S1024x1408 .f32)
    (r : Fin 1024) (l : Fin 1408) :
    k0_pay3 (F := Ideal) X Y A (ix2 r l) = A (ix2 r l) + prod X Y r l := by
  unfold_payloads
  pointwise [prod]

theorem last_apply (A : Vec Ideal S1024x1408 .f32) (a b : Fin 1) (r : Fin 1024) (l : Fin 1408) :
    k0_pay4 (F := Ideal) A (ix4 a b r l) = A (ix2 r l) := by
  unfold_payloads
  pointwise

variable (m : (ℓ : Loc nD τ sig) → Buf (Elt Ideal) ℓ) (c : Dev nD)

/-- The accumulator after the first point of a run. -/
theorem acc_first (t : Fin cfg0.N) (h : t.val % 4 = 0) (r : Fin 1024) (l : Fin 1408) :
    (outsAt0 m c t.val t.isLt).2 (ix2 r l) = prod (iblk m c 0 t) (iblk m c 1 t) r l := by
  rw [outsAt0_A m c t h (by omega) (by omega)]
  frame_out
  exact first_apply _ _ r l

/-- The accumulator after any other point: what the point before left, with the point's product added. -/
theorem acc_next (t : Fin cfg0.N) (h : ¬t.val % 4 = 0) (r : Fin 1024) (l : Fin 1408) :
    (outsAt0 m c t.val t.isLt).2 (ix2 r l)
      = (outsAt0 m c (t.val - 1) (Nat.lt_of_le_of_lt (Nat.sub_le _ _) t.isLt)).2 (ix2 r l)
        + prod (iblk m c 0 t) (iblk m c 1 t) r l := by
  by_cases h3 : t.val % 4 = 3
  · rw [outsAt0_C m c t h (by omega) h3]
    frame_out
    rw [next_apply]
    simp only [read_unread_whole]
  · rw [outsAt0_B m c t h (by omega) h3]
    frame_out
    rw [next_apply]
    simp only [read_unread_whole]

/-- At the last point of a run the result's block is the accumulator. -/
theorem out_last (t : Fin cfg0.N) (h : t.val % 4 = 3) (a b : Fin 1) (r : Fin 1024) (l : Fin 1408) :
    (outsAt0 m c t.val t.isLt).1 (ix4 a b r l) = (outsAt0 m c t.val t.isLt).2 (ix2 r l) := by
  rw [outsAt0_C m c t (by omega) (by omega) h]
  frame_out
  exact last_apply _ a b r l

end Cert.WeightKernelIdeal.Product

end
-- ==== Proof.Weight.Array.lean ====
/- The weight-gradient kernel's result array after the run: at every index the sum over all 8192 rows, collected from
   the four blocks of rows that one block of the result accumulates. -/
module

public import proofs.«01_k».proof.Proof.Weight.Product
public import proofs.«01_k».proof.Proof.Weight.Spec

@[expose] public section

set_option maxRecDepth 16384

noncomputable section

namespace Cert.WeightKernelIdeal.Array

open Cert.WeightKernelIdeal Cert.WeightKernelIdeal.Gen Idealize.ShloMosaic Idealize.ShloMosaic.TcCoe
open Cert.WeightKernelIdeal.Product Cert.WeightGradient

variable (m : (ℓ : Loc nD τ sig) → Buf (Elt Ideal) ℓ) (c : Dev nD)

/-- Where each window's block lies at point `t`. -/
theorem idx (t : Fin cfg0.N) : win0_0.index t = ![t.val % 4, 0] ∧ win0_1.index t = ![t.val % 4, t.val / 4]
    ∧ win0_2.index t = ![0, t.val / 4, 0, 0] :=
  (by decide +kernel : ∀ t : Fin grid0.N, win0_0.index t = ![t.val % 4, 0] ∧ win0_1.index t = ![t.val % 4, t.val / 4]
    ∧ win0_2.index t = ![0, t.val / 4, 0, 0]) t

/-- The activations' array when the launch begins: the host has normalised the activations. -/
theorem left_entry (k : Fin 8192) (r : Fin 1024) :
    V m c main_v13 (ix2 k r)
      = normed (m ((c : Thread nD τ).loc main_arg0)) (m ((c : Thread nD τ).loc main_arg1)) k r := by
  entry_read
  pointwise [normed, scale]

/-- The incoming gradient's array when the launch begins. -/
theorem right_entry (k : Fin 8192) (l : Fin 5632) :
    V m c main_v14 (ix2 k l) = m ((c : Thread nD τ).loc main_arg2) (ix2 k l) := by
  entry_read
  pointwise

/-- The activations' block at point `t`: rows `2048 (t mod 4) …` of the normalised activations. -/
theorem left_apply (t : Fin cfg0.N) (k : Fin 2048) (r : Fin 1024) :
    iblk m c 0 t (ix2 k r) = normed (m ((c : Thread nD τ).loc main_arg0)) (m ((c : Thread nD τ).loc main_arg1))
      ⟨t.val % 4 * 2048 + k.val, by omega⟩ r := by
  rw [← left_entry]
  blk_ext [iblk, (idx t).1]

/-- The incoming gradient's block at point `t`. -/
theorem right_apply (t : Fin cfg0.N) (k : Fin 2048) (l : Fin 1408) (h : t.val / 4 < 4) :
    iblk m c 1 t (ix2 k l) = m ((c : Thread nD τ).loc main_arg2)
      (ix2 ⟨t.val % 4 * 2048 + k.val, by omega⟩ (column ⟨t.val / 4, h⟩ l)) := by
  rw [← right_entry m c]
  unfold column
  blk_ext [iblk, (idx t).2.1]

/-- The accumulator at a run's last point: the four blocks' products. -/
theorem acc_last (t : Fin cfg0.N) (h : t.val % 4 = 3) (r : Fin 1024) (l : Fin 1408) :
    (outsAt0 m c t.val t.isLt).2 (ix2 r l)
      = ∑ s : Fin 4, prod (iblk m c 0 ⟨4 * (t.val / 4) + s.val, Pipeline.run_point_lt_of_flush t h s⟩)
          (iblk m c 1 ⟨4 * (t.val / 4) + s.val, Pipeline.run_point_lt_of_flush t h s⟩) r l := by
  refine (Pipeline.eq_sum_fin_of_reset_step_of_flush (fun n h => (outsAt0 m c n h).2 (ix2 r l)) 4 0
    (fun t => prod (iblk m c 0 t) (iblk m c 1 t) r l)
    (fun t h => (acc_first m c t h r l).trans (zero_add _).symm) (fun t h => acc_next m c t h r l) t h).trans ?_
  exact zero_add _

/-- What the kernel leaves in the result: the gradient. -/
def result : Buf (Elt Ideal) ((c : Thread nD τ).loc main_v15) := fun i =>
  gradient (m ((c : Thread nD τ).loc main_arg0)) (m ((c : Thread nD τ).loc main_arg1))
    (m ((c : Thread nD τ).loc main_arg2)) (i 2) (column (b := 1408) (i 1) (i 3))

/-- The block written back at a run's last point. -/
theorem out_apply (t : Fin cfg0.N) (h : t.val % 4 = 3) (hp : t.val / 4 < 4) (a b : Fin 1) (r : Fin 1024) (l : Fin 1408) :
    (outsAt0 m c t.val t.isLt).1 (ix4 a b r l)
      = gradient (m ((c : Thread nD τ).loc main_arg0)) (m ((c : Thread nD τ).loc main_arg1))
          (m ((c : Thread nD τ).loc main_arg2)) r (column ⟨t.val / 4, hp⟩ l) := by
  rw [out_last m c t h, acc_last m c t h]
  unfold gradient prod
  refine Fin.sum_mul_add_congr fun s k hk => ?_
  rw [left_apply, right_apply _ _ _ _ _ (by show (4 * (t.val / 4) + s.val) / 4 < 4; omega)]
  have e1 : (4 * (t.val / 4) + s.val) % 4 = s.val := by omega
  have e2 : (4 * (t.val / 4) + s.val) / 4 = t.val / 4 := by omega
  simp only [e1, e2]

theorem final : (dats m 0 c).arrAt 2 cfg0.N = result m c := by
  refine (dats m 0 c).arrAt_eq_of_covers 2 _ (by decide +kernel) fun t hf y => ?_
  blk_simp
  rw [after0_2]
  have h3 := (flush0_2 t).mp hf
  have hN : t.val < 16 := lt_of_lt_of_eq t.isLt N_0
  idx_vars y
  rw [out_apply m c t h3 (by omega)]
  unfold result
  exact congrArg₂ (gradient _ _ _) (Fin.ext (by blk_simp [(idx t).2.2])) (Fin.ext (by blk_simp [column, (idx t).2.2]))

end Cert.WeightKernelIdeal.Array

end
-- ==== Proof.Weight.Equal.lean ====
/- The weight gradient's claim: the kernel's run and the reference's run end with the same result. -/
module

public import proofs.«01_k».proof.Defs
public import proofs.«01_k».proof.Proof.Weight.Array

@[expose] public section

set_option maxRecDepth 16384

noncomputable section

namespace Cert.WeightGradient

open Idealize.ShloMosaic Idealize.SL.Sem

/-- The reference's whole result. -/
theorem reference_eq (x : Vec Ideal Cert.WeightReferenceIdeal.S8192x1024 .f32)
    (g : Vec Ideal Cert.WeightReferenceIdeal.S1024 .f32) (d : Vec Ideal Cert.WeightReferenceIdeal.S8192x5632 .f32) :
    Cert.WeightReferenceIdeal.Read.val_main_v19 (F := Ideal) x g d = fun i => gradient x g d (i 2) (column (b := 1408) (i 1) (i 3)) := by
  funext i
  idx_vars i
  exact reference_apply x g d _ _ _ _

theorem algebraic : Cert.algebraic_WeightKernelIdeal_WeightReferenceIdeal
    (hWeightKernelIdeal := Cert.WeightKernelIdeal.Gen.facts) (hWeightReferenceIdeal := Cert.WeightReferenceIdeal.Gen.facts) := by
  intro m ρ m' ρ' _ hargs
  refine ⟨fun c => Cert.WeightKernelIdeal.Array.result m c, ?_, ?_⟩
  · refine (θ_run _ _ _).mono (fun r h c => ?_) (Cert.WeightKernelIdeal.Value.run_blocks m ρ)
    exact ⟨(h c).1.trans (Cert.WeightKernelIdeal.Array.final m c), (h c).2⟩
  · refine (θ_run _ _ _).mono (fun r h c => ?_) (Cert.WeightReferenceIdeal.Value.run m' ρ')
    refine ⟨(h c).1.trans ?_, (h c).2⟩
    rw [Cert.WeightReferenceIdeal.Read.val_main_v19_eq, reference_eq, (hargs c).1, (hargs c).2.1, (hargs c).2.2]
    rfl

end Cert.WeightGradient

end
-- ==== Proof.Down.Array.lean ====
/- The gradient the down-projection passes back to the gated activations, as a formula over the extended reals, and the
   kernel's result array after the run: its blocks of 512 rows make up that formula's array. -/
module

public import proofs.«01_k».proof.Proof.Gen.DownKernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DownGradient

open Idealize.ShloMosaic Idealize.ShloMosaic.TcCoe

/-- The gradient at row `k` and column `l`: the incoming row against row `l` of a weight of `n` rows. -/
def gradient {n : ℕ} (w : (⟨2, ![n, 1024]⟩ : Shape).Idx → EReal) (d : (⟨2, ![8192, 1024]⟩ : Shape).Idx → EReal)
    (k : Fin 8192) (l : Fin n) : EReal :=
  ∑ r : Fin 1024, d (ix2 k r) * w (ix2 l r)

open Cert.DownKernelIdeal Cert.DownKernelIdeal.Gen Cert.DownKernelIdeal.Value

variable (m : (ℓ : Loc nD τ sig) → Buf (Elt Ideal) ℓ) (c : Dev nD)

/-- Where each window's block lies at point `t`. -/
theorem idx (t : Fin cfg0.N) : win0_0.index t = ![t.val, 0] ∧ win0_1.index t = ![0, 0, 0, 0]
    ∧ win0_2.index t = ![t.val, 0] :=
  (by decide +kernel : ∀ t : Fin grid0.N, win0_0.index t = ![t.val, 0] ∧ win0_1.index t = ![0, 0, 0, 0]
    ∧ win0_2.index t = ![t.val, 0]) t

/-- Row `a` of the block at point `t`. -/
def row (t : Fin cfg0.N) (a : Fin 512) : Fin 8192 :=
  ⟨t.val * 512 + a.val, by have := lt_of_lt_of_eq t.isLt N_0; omega⟩

/-- One point's block of the result. -/
theorem block_apply (D : Vec Ideal S512x1024 .bf16) (W : Vec Ideal S1x1x2816x1024 .bf16) (a : Fin 512) (l : Fin 2816) :
    out0_2 (F := Ideal) D W (ix2 a l) = ∑ r : Fin 1024, D (ix2 a r) * W (ix4 0 0 l r) := by
  frame_out
  unfold_payloads
  pointwise

/-- The incoming gradient's array when the launch begins. -/
theorem incoming_entry (k : Fin 8192) (r : Fin 1024) :
    V m c main_v0 (ix2 k r) = m ((c : Thread nD τ).loc main_arg1) (ix2 k r) := by
  entry_read
  pointwise

/-- The weight's array when the launch begins. -/
theorem weight_entry (l : Fin 2816) (r : Fin 1024) :
    V m c main_v2 (ix4 0 0 l r) = m ((c : Thread nD τ).loc main_arg0) (ix2 l r) := by
  entry_read
  pointwise

theorem incoming_apply (t : Fin cfg0.N) (a : Fin 512) (r : Fin 1024) :
    iblk m c 0 t (ix2 a r) = m ((c : Thread nD τ).loc main_arg1) (ix2 (row t a) r) := by
  rw [← incoming_entry m c]
  unfold row
  blk_ext [iblk, (idx t).1]

theorem weight_apply (t : Fin cfg0.N) (l : Fin 2816) (r : Fin 1024) :
    iblk m c 1 t (ix4 0 0 l r) = m ((c : Thread nD τ).loc main_arg0) (ix2 l r) := by
  rw [← weight_entry m c]
  blk_ext [iblk, (idx t).2.1]

/-- The gradient of the arrays the launch begins with. -/
def value (k : Fin 8192) (l : Fin 2816) : EReal :=
  gradient (m ((c : Thread nD τ).loc main_arg0)) (m ((c : Thread nD τ).loc main_arg1)) k l

/-- What the kernel leaves in its result. -/
def result : Buf (Elt Ideal) ((c : Thread nD τ).loc main_v3) := fun i => value m c (i 0) (i 1)

theorem out_apply (t : Fin cfg0.N) (a : Fin 512) (l : Fin 2816) :
    out0_2 (iblk m c 0 t) (iblk m c 1 t) (ix2 a l) = value m c (row t a) l := by
  refine (block_apply _ _ a l).trans ?_
  unfold value gradient
  exact Finset.sum_congr rfl fun r _ => congrArg₂ (· * ·) (incoming_apply m c t a r) (weight_apply m c t l r)

theorem final : (dats m 0 c).arrAt 2 cfg0.N = result m c := by
  refine (dats m 0 c).arrAt_eq_of_covers 2 _ (by decide +kernel) fun t hf y => ?_
  blk_simp
  rw [after0_2]
  idx_vars y
  rw [out_apply]
  unfold result
  exact congrArg₂ (value m c) (Fin.ext (by blk_simp [row, (idx t).2.2])) (Fin.ext (by blk_simp [(idx t).2.2]))

end Cert.DownGradient

end
-- ==== Proof.Down.Equal.lean ====
/- The claim of the down-projection's gradient: the kernel's run and the reference's run end with the same result. -/
module

public import proofs.«01_k».proof.Defs
public import proofs.«01_k».proof.Proof.Down.Array
public import proofs.«01_k».proof.Proof.Gen.DownReferenceIdeal.Read
public import proofs.«01_k».proof.Proof.Gen.DownReferenceIdeal.Run

@[expose] public section

set_option maxRecDepth 16384

noncomputable section

namespace Cert.DownGradient

open Idealize.ShloMosaic Idealize.SL.Sem
open Cert.DownReferenceIdeal Cert.DownReferenceIdeal.Gen Cert.DownReferenceIdeal.Read

/-- The reference's whole result. -/
theorem reference_eq (w : Vec Ideal S2816x1024 .f32) (d : Vec Ideal S8192x1024 .f32) :
    val_main_v3 (F := Ideal) w d = fun i => gradient w d (i 0) (i 1) := by
  funext i
  idx_vars i
  pointwise [val_main_v3, val_main_v2]
  rfl

theorem algebraic : Cert.algebraic_DownKernelIdeal_DownReferenceIdeal
    (hDownKernelIdeal := Cert.DownKernelIdeal.Gen.facts) (hDownReferenceIdeal := Cert.DownReferenceIdeal.Gen.facts) := by
  intro m ρ m' ρ' _ hargs
  refine ⟨fun c => result m c, ?_, ?_⟩
  · refine (θ_run _ _ _).mono (fun r h c => ?_) (Cert.DownKernelIdeal.Value.run_blocks m ρ)
    exact ⟨(h c).1.trans (final m c), (h c).2⟩
  · refine (θ_run _ _ _).mono (fun r h c => ?_) (Cert.DownReferenceIdeal.Value.run m' ρ')
    refine ⟨(h c).1.trans ?_, (h c).2⟩
    rw [val_main_v3_eq, reference_eq, (hargs c).1, (hargs c).2]
    rfl

end Cert.DownGradient

end
-- ==== Proof.DownWeight.Array.lean ====
/- The gradient of the down-projection's weight, as a formula over the extended reals, and the kernel's result array
   after the run: at every index the sum over all 8192 rows, collected from the four blocks of rows that one block of
   the result accumulates. -/
module

public import proofs.«01_k».proof.Proof.Gen.DownWeightKernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DownWeightGradient

open Idealize.ShloMosaic Idealize.ShloMosaic.TcCoe

/-- The gradient at row `l` and column `r` of the weight. -/
def gradient (a : (⟨2, ![8192, 2816]⟩ : Shape).Idx → EReal) (d : (⟨2, ![8192, 1024]⟩ : Shape).Idx → EReal)
    (l : Fin 2816) (r : Fin 1024) : EReal :=
  ∑ k : Fin 8192, a (ix2 k l) * d (ix2 k r)

open Cert.DownWeightKernelIdeal Cert.DownWeightKernelIdeal.Gen

/-- The product of two blocks at row `l` and column `r` of half the weight: a sum over the blocks' 2048 rows. -/
def prod (X : S2048x1408.Idx → EReal) (Y : S2048x1024.Idx → EReal) (l : Fin 1408) (r : Fin 1024) : EReal :=
  ∑ k : Fin 2048, X (ix2 k l) * Y (ix2 k r)

theorem first_apply (X : Vec Ideal S2048x1408 .bf16) (Y : Vec Ideal S2048x1024 .bf16) (l : Fin 1408) (r : Fin 1024) :
    k0_pay2 (F := Ideal) X Y (ix2 l r) = prod X Y l r := by
  unfold_payloads
  pointwise [prod]

theorem next_apply (X : Vec Ideal S2048x1408 .bf16) (Y : Vec Ideal S2048x1024 .bf16) (A : Vec Ideal S1408x1024 .f32)
    (l : Fin 1408) (r : Fin 1024) :
    k0_pay3 (F := Ideal) X Y A (ix2 l r) = A (ix2 l r) + prod X Y l r := by
  unfold_payloads
  pointwise [prod]

theorem last_apply (A : Vec Ideal S1408x1024 .f32) (a b : Fin 1) (l : Fin 1408) (r : Fin 1024) :
    k0_pay4 (F := Ideal) A (ix4 a b l r) = A (ix2 l r) := by
  unfold_payloads
  pointwise

variable (m : (ℓ : Loc nD τ sig) → Buf (Elt Ideal) ℓ) (c : Dev nD)

/-- The accumulator after the first point of a run. -/
theorem acc_first (t : Fin cfg0.N) (h : t.val % 4 = 0) (l : Fin 1408) (r : Fin 1024) :
    (outsAt0 m c t.val t.isLt).2 (ix2 l r) = prod (iblk m c 0 t) (iblk m c 1 t) l r := by
  rw [outsAt0_A m c t h (by omega) (by omega)]
  frame_out
  exact first_apply _ _ l r

/-- The accumulator after any other point: what the point before left, with the point's product added. -/
theorem acc_next (t : Fin cfg0.N) (h : ¬t.val % 4 = 0) (l : Fin 1408) (r : Fin 1024) :
    (outsAt0 m c t.val t.isLt).2 (ix2 l r)
      = (outsAt0 m c (t.val - 1) (Nat.lt_of_le_of_lt (Nat.sub_le _ _) t.isLt)).2 (ix2 l r)
        + prod (iblk m c 0 t) (iblk m c 1 t) l r := by
  by_cases h3 : t.val % 4 = 3
  · rw [outsAt0_C m c t h (by omega) h3]
    frame_out
    rw [next_apply]
    simp only [read_unread_whole]
  · rw [outsAt0_B m c t h (by omega) h3]
    frame_out
    rw [next_apply]
    simp only [read_unread_whole]

/-- At the last point of a run the result's block is the accumulator. -/
theorem out_last (t : Fin cfg0.N) (h : t.val % 4 = 3) (a b : Fin 1) (l : Fin 1408) (r : Fin 1024) :
    (outsAt0 m c t.val t.isLt).1 (ix4 a b l r) = (outsAt0 m c t.val t.isLt).2 (ix2 l r) := by
  rw [outsAt0_C m c t (by omega) (by omega) h]
  frame_out
  exact last_apply _ a b l r

/-- Where each window's block lies at point `t`. -/
theorem idx (t : Fin cfg0.N) : win0_0.index t = ![t.val % 4, t.val / 4] ∧ win0_1.index t = ![t.val % 4, 0]
    ∧ win0_2.index t = ![0, 0, t.val / 4, 0] :=
  (by decide +kernel : ∀ t : Fin grid0.N, win0_0.index t = ![t.val % 4, t.val / 4] ∧ win0_1.index t = ![t.val % 4, 0]
    ∧ win0_2.index t = ![0, 0, t.val / 4, 0]) t

/-- Row `l` of the weight's half `p`. -/
def half (p : ℕ) (hp : p < 2) (l : Fin 1408) : Fin 2816 := ⟨p * 1408 + l.val, by omega⟩

theorem activation_entry (k : Fin 8192) (l : Fin 2816) :
    V m c main_v0 (ix2 k l) = m ((c : Thread nD τ).loc main_arg0) (ix2 k l) := by
  entry_read
  pointwise

theorem incoming_entry (k : Fin 8192) (r : Fin 1024) :
    V m c main_v1 (ix2 k r) = m ((c : Thread nD τ).loc main_arg1) (ix2 k r) := by
  entry_read
  pointwise

theorem activation_apply (t : Fin cfg0.N) (hp : t.val / 4 < 2) (k : Fin 2048) (l : Fin 1408) :
    iblk m c 0 t (ix2 k l)
      = m ((c : Thread nD τ).loc main_arg0) (ix2 ⟨t.val % 4 * 2048 + k.val, by omega⟩ (half (t.val / 4) hp l)) := by
  rw [← activation_entry m c]
  unfold half
  blk_ext [iblk, (idx t).1]

theorem incoming_apply (t : Fin cfg0.N) (k : Fin 2048) (r : Fin 1024) :
    iblk m c 1 t (ix2 k r) = m ((c : Thread nD τ).loc main_arg1) (ix2 ⟨t.val % 4 * 2048 + k.val, by omega⟩ r) := by
  rw [← incoming_entry m c]
  blk_ext [iblk, (idx t).2.1]

/-- The accumulator at a run's last point: the four blocks' products. -/
theorem acc_last (t : Fin cfg0.N) (h : t.val % 4 = 3) (l : Fin 1408) (r : Fin 1024) :
    (outsAt0 m c t.val t.isLt).2 (ix2 l r)
      = ∑ s : Fin 4, prod (iblk m c 0 ⟨4 * (t.val / 4) + s.val, Pipeline.run_point_lt_of_flush t h s⟩)
          (iblk m c 1 ⟨4 * (t.val / 4) + s.val, Pipeline.run_point_lt_of_flush t h s⟩) l r := by
  refine (Pipeline.eq_sum_fin_of_reset_step_of_flush (fun n h => (outsAt0 m c n h).2 (ix2 l r)) 4 0
    (fun t => prod (iblk m c 0 t) (iblk m c 1 t) l r)
    (fun t h => (acc_first m c t h l r).trans (zero_add _).symm) (fun t h => acc_next m c t h l r) t h).trans ?_
  exact zero_add _

/-- The gradient of the arrays the launch begins with. -/
def value (l : Fin 2816) (r : Fin 1024) : EReal :=
  gradient (m ((c : Thread nD τ).loc main_arg0)) (m ((c : Thread nD τ).loc main_arg1)) l r

/-- What the kernel leaves in its result. -/
def result : Buf (Elt Ideal) ((c : Thread nD τ).loc main_v2) := fun i => value m c (i 2) (i 3)

/-- The block written back at a run's last point. -/
theorem out_apply (t : Fin cfg0.N) (h : t.val % 4 = 3) (hp : t.val / 4 < 2) (a b : Fin 1) (l : Fin 1408) (r : Fin 1024) :
    (outsAt0 m c t.val t.isLt).1 (ix4 a b l r) = value m c (half (t.val / 4) hp l) r := by
  rw [out_last m c t h, acc_last m c t h]
  unfold value gradient prod
  refine Fin.sum_mul_add_congr fun s k hk => ?_
  rw [activation_apply _ _ _ (by show (4 * (t.val / 4) + s.val) / 4 < 2; omega), incoming_apply]
  have e1 : (4 * (t.val / 4) + s.val) % 4 = s.val := by omega
  have e2 : (4 * (t.val / 4) + s.val) / 4 = t.val / 4 := by omega
  simp only [e1, e2]

theorem final : (dats m 0 c).arrAt 2 cfg0.N = result m c := by
  refine (dats m 0 c).arrAt_eq_of_covers 2 _ (by decide +kernel) fun t hf y => ?_
  blk_simp
  rw [after0_2]
  have h3 := (flush0_2 t).mp hf
  have hN : t.val < 8 := lt_of_lt_of_eq t.isLt N_0
  idx_vars y
  rw [out_apply m c t h3 (by omega)]
  unfold result
  exact congrArg₂ (value m c) (Fin.ext (by blk_simp [half, (idx t).2.2])) (Fin.ext (by blk_simp [(idx t).2.2]))

end Cert.DownWeightGradient

end
-- ==== Proof.DownWeight.Equal.lean ====
/- The claim of the down-projection weight's gradient: the kernel's run and the reference's run end with the same
   result. -/
module

public import proofs.«01_k».proof.Defs
public import proofs.«01_k».proof.Proof.DownWeight.Array
public import proofs.«01_k».proof.Proof.Gen.DownWeightReferenceIdeal.Read
public import proofs.«01_k».proof.Proof.Gen.DownWeightReferenceIdeal.Run

@[expose] public section

set_option maxRecDepth 16384

noncomputable section

namespace Cert.DownWeightGradient

open Idealize.ShloMosaic Idealize.SL.Sem
open Cert.DownWeightReferenceIdeal Cert.DownWeightReferenceIdeal.Gen Cert.DownWeightReferenceIdeal.Read

/-- The reference's whole result. -/
theorem reference_eq (a : Vec Ideal S8192x2816 .f32) (d : Vec Ideal S8192x1024 .f32) :
    val_main_v5 (F := Ideal) a d = fun i => gradient a d (i 2) (i 3) := by
  funext i
  idx_vars i
  pointwise [val_main_v5, val_main_v4, val_main_v3, val_main_v2]
  exact Finset.sum_congr rfl fun k _ => mul_comm _ _

theorem algebraic : Cert.algebraic_DownWeightKernelIdeal_DownWeightReferenceIdeal
    (hDownWeightKernelIdeal := Cert.DownWeightKernelIdeal.Gen.facts)
    (hDownWeightReferenceIdeal := Cert.DownWeightReferenceIdeal.Gen.facts) := by
  intro m ρ m' ρ' _ hargs
  refine ⟨fun c => result m c, ?_, ?_⟩
  · refine (θ_run _ _ _).mono (fun r h c => ?_) (Cert.DownWeightKernelIdeal.Value.run_blocks m ρ)
    exact ⟨(h c).1.trans (final m c), (h c).2⟩
  · refine (θ_run _ _ _).mono (fun r h c => ?_) (Cert.DownWeightReferenceIdeal.Value.run m' ρ')
    refine ⟨(h c).1.trans ?_, (h c).2⟩
    rw [val_main_v5_eq, reference_eq, (hargs c).1, (hargs c).2]
    rfl

end Cert.DownWeightGradient

end
-- ==== Proof.Up.Array.lean ====
/- The up-projection as a formula over the extended reals, and the kernel's result array after the run: its blocks of
   1024 rows and one owner's 1408 columns make up that formula's array. -/
module

public import proofs.«01_k».proof.Proof.Gen.UpKernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.UpProjection

open Idealize.ShloMosaic Idealize.ShloMosaic.TcCoe

/-- The projection at row `k` and column `l`, for a weight of `n` columns. -/
def projection {n : ℕ} (h : (⟨2, ![8192, 1024]⟩ : Shape).Idx → EReal) (w : (⟨2, ![1024, n]⟩ : Shape).Idx → EReal)
    (k : Fin 8192) (l : Fin n) : EReal :=
  ∑ r : Fin 1024, h (ix2 k r) * w (ix2 r l)

open Cert.UpKernelIdeal Cert.UpKernelIdeal.Gen Cert.UpKernelIdeal.Value

variable (m : (ℓ : Loc nD τ sig) → Buf (Elt Ideal) ℓ) (c : Dev nD)

/-- Where each window's block lies at point `t`: the owners' parts run fastest. -/
theorem idx (t : Fin cfg0.N) : win0_0.index t = ![t.val / 4, 0] ∧ win0_1.index t = ![0, t.val % 4, 0, 0]
    ∧ win0_2.index t = ![t.val / 4, t.val % 4] :=
  (by decide +kernel : ∀ t : Fin grid0.N, win0_0.index t = ![t.val / 4, 0] ∧ win0_1.index t = ![0, t.val % 4, 0, 0]
    ∧ win0_2.index t = ![t.val / 4, t.val % 4]) t

/-- Row `a` of the block at point `t`. -/
def row (t : Fin cfg0.N) (a : Fin 1024) : Fin 8192 :=
  ⟨t.val / 4 * 1024 + a.val, by have := lt_of_lt_of_eq t.isLt N_0; omega⟩

/-- Column `l` of owner `p`'s part. -/
def column (p : Fin 4) (l : Fin 1408) : Fin 5632 := ⟨p.val * 1408 + l.val, by omega⟩

/-- The owner at point `t`. -/
def owner (t : Fin cfg0.N) : Fin 4 := ⟨t.val % 4, by omega⟩

/-- One point's block of the result. -/
theorem block_apply (H : Vec Ideal S1024x1024 .bf16) (W : Vec Ideal S1x1x1024x1408 .bf16) (a : Fin 1024) (l : Fin 1408) :
    out0_2 (F := Ideal) H W (ix2 a l) = ∑ r : Fin 1024, H (ix2 a r) * W (ix4 0 0 r l) := by
  frame_out
  unfold_payloads
  pointwise

/-- The activations' array when the launch begins. -/
theorem activation_entry (k : Fin 8192) (r : Fin 1024) :
    V m c main_v0 (ix2 k r) = m ((c : Thread nD τ).loc main_arg0) (ix2 k r) := by
  entry_read
  pointwise

/-- The weight's array when the launch begins: its columns lie by owner. -/
theorem weight_entry (p : Fin 4) (r : Fin 1024) (l : Fin 1408) :
    V m c main_v3 (ix4 0 p r l) = m ((c : Thread nD τ).loc main_arg1) (ix2 r (column p l)) := by
  entry_read
  pointwise
  rfl

theorem activation_apply (t : Fin cfg0.N) (a r : Fin 1024) :
    iblk m c 0 t (ix2 a r) = m ((c : Thread nD τ).loc main_arg0) (ix2 (row t a) r) := by
  rw [← activation_entry m c]
  unfold row
  blk_ext [iblk, (idx t).1]

theorem weight_apply (t : Fin cfg0.N) (r : Fin 1024) (l : Fin 1408) :
    iblk m c 1 t (ix4 0 0 r l) = m ((c : Thread nD τ).loc main_arg1) (ix2 r (column (owner t) l)) := by
  rw [← weight_entry m c]
  unfold owner
  blk_ext [iblk, (idx t).2.1]

/-- The projection of the arrays the launch begins with. -/
def value (k : Fin 8192) (l : Fin 5632) : EReal :=
  projection (m ((c : Thread nD τ).loc main_arg0)) (m ((c : Thread nD τ).loc main_arg1)) k l

/-- What the kernel leaves in its result. -/
def result : Buf (Elt Ideal) ((c : Thread nD τ).loc main_v4) := fun i => value m c (i 0) (i 1)

theorem out_apply (t : Fin cfg0.N) (a : Fin 1024) (l : Fin 1408) :
    out0_2 (iblk m c 0 t) (iblk m c 1 t) (ix2 a l) = value m c (row t a) (column (owner t) l) := by
  refine (block_apply _ _ a l).trans ?_
  unfold value projection
  exact Finset.sum_congr rfl fun r _ => congrArg₂ (· * ·) (activation_apply m c t a r) (weight_apply m c t r l)

theorem final : (dats m 0 c).arrAt 2 cfg0.N = result m c := by
  refine (dats m 0 c).arrAt_eq_of_covers 2 _ (by decide +kernel) fun t hf y => ?_
  blk_simp
  rw [after0_2]
  idx_vars y
  rw [out_apply]
  unfold result
  exact congrArg₂ (value m c) (Fin.ext (by blk_simp [row, (idx t).2.2]))
    (Fin.ext (by blk_simp [column, owner, (idx t).2.2]))

end Cert.UpProjection

end
-- ==== Proof.Up.Equal.lean ====
/- The claim of the up-projection: the kernel's run and the reference's run end with the same result. -/
module

public import proofs.«01_k».proof.Defs
public import proofs.«01_k».proof.Proof.Up.Array
public import proofs.«01_k».proof.Proof.Gen.UpReferenceIdeal.Read
public import proofs.«01_k».proof.Proof.Gen.UpReferenceIdeal.Run

@[expose] public section

set_option maxRecDepth 16384

noncomputable section

namespace Cert.UpProjection

open Idealize.ShloMosaic Idealize.SL.Sem
open Cert.UpReferenceIdeal Cert.UpReferenceIdeal.Gen Cert.UpReferenceIdeal.Read

/-- The reference's whole result. -/
theorem reference_eq (h : Vec Ideal S8192x1024 .f32) (w : Vec Ideal S1024x5632 .f32) :
    val_main_v1 (F := Ideal) h w = fun i => projection h w (i 0) (i 1) := by
  funext i
  idx_vars i
  pointwise [val_main_v1, val_main_v0]
  rfl

theorem algebraic : Cert.algebraic_UpKernelIdeal_UpReferenceIdeal
    (hUpKernelIdeal := Cert.UpKernelIdeal.Gen.facts) (hUpReferenceIdeal := Cert.UpReferenceIdeal.Gen.facts) := by
  intro m ρ m' ρ' _ hargs
  refine ⟨fun c => result m c, ?_, ?_⟩
  · refine (θ_run _ _ _).mono (fun r h c => ?_) (Cert.UpKernelIdeal.Value.run_blocks m ρ)
    exact ⟨(h c).1.trans (final m c), (h c).2⟩
  · refine (θ_run _ _ _).mono (fun r h c => ?_) (Cert.UpReferenceIdeal.Value.run m' ρ')
    refine ⟨(h c).1.trans ?_, (h c).2⟩
    rw [val_main_v1_eq, reference_eq, (hargs c).1, (hargs c).2]
    rfl

end Cert.UpProjection

end
-- ==== Proof.Out.Array.lean ====
/- The block's last projection with its residual and the norm that follows, as formulas over the extended reals, and the
   kernel's two result arrays after the run: blocks of 512 rows that make up those formulas' arrays. -/
module

public import proofs.«01_k».proof.Proof.Gen.OutKernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.BlockOutput

open Idealize.ShloMosaic Idealize.ShloMosaic.TcCoe

/-- The block's output at row `k` and column `r`: the residual and the projection of
    `n` activations. -/
def output {n : ℕ} (x : (⟨2, ![8192, 1024]⟩ : Shape).Idx → EReal) (a : (⟨2, ![8192, n]⟩ : Shape).Idx → EReal)
    (w : (⟨2, ![n, 1024]⟩ : Shape).Idx → EReal) (k : Fin 8192) (r : Fin 1024) : EReal :=
  x (ix2 k r) + ∑ l : Fin n, a (ix2 k l) * w (ix2 l r)

/-- A row divided by its root mean square, times the norm's weights. -/
def normed (y : Fin 1024 → EReal) (g : Fin 1024 → EReal) (r : Fin 1024) : EReal :=
  y r * Ideal.rsqrt (Ideal.div (∑ q : Fin 1024, y q * y q) (Ideal.ofBits .f32 0x44800000#32)
    + Ideal.ofBits .f32 0x358637BD#32) * g r

open Cert.OutKernelIdeal Cert.OutKernelIdeal.Gen Cert.OutKernelIdeal.Value

variable (m : (ℓ : Loc nD τ sig) → Buf (Elt Ideal) ℓ) (c : Dev nD)

/-- Where each window's block lies at point `t`. -/
theorem idx (t : Fin cfg0.N) : (win0_0.index t = ![t.val, 0] ∧ win0_1.index t = ![0, 0, 0, 0]
    ∧ win0_2.index t = ![t.val, 0]) ∧ win0_3.index t = ![0, 0] ∧ win0_4.index t = ![t.val, 0]
    ∧ win0_5.index t = ![t.val, 0] :=
  (by decide +kernel : ∀ t : Fin grid0.N, (win0_0.index t = ![t.val, 0] ∧ win0_1.index t = ![0, 0, 0, 0]
    ∧ win0_2.index t = ![t.val, 0]) ∧ win0_3.index t = ![0, 0] ∧ win0_4.index t = ![t.val, 0]
    ∧ win0_5.index t = ![t.val, 0]) t

/-- Row `a` of the block at point `t`. -/
def row (t : Fin cfg0.N) (a : Fin 512) : Fin 8192 :=
  ⟨t.val * 512 + a.val, by have := lt_of_lt_of_eq t.isLt N_0; omega⟩

/-- A block of 512 rows of the output. -/
def block (A : S512x2816.Idx → EReal) (W : S1x1x2816x1024.Idx → EReal) (X : S512x1024.Idx → EReal) (a : Fin 512)
    (r : Fin 1024) : EReal :=
  X (ix2 a r) + ∑ l : Fin 2816, A (ix2 a l) * W (ix4 0 0 l r)

theorem block_apply (A : Vec Ideal S512x2816 .bf16) (W : Vec Ideal S1x1x2816x1024 .bf16) (X : Vec Ideal S512x1024 .f32)
    (a : Fin 512) (r : Fin 1024) : k0_pay1 (F := Ideal) A W X (ix2 a r) = block A W X a r := by
  unfold_payloads
  pointwise [block]

theorem normed_apply (A : Vec Ideal S512x2816 .bf16) (W : Vec Ideal S1x1x2816x1024 .bf16) (X : Vec Ideal S512x1024 .f32)
    (G : Vec Ideal S1x1024 .f32) (a : Fin 512) (r : Fin 1024) :
    k0_pay2 (F := Ideal) A W X G (ix2 a r) = normed (block A W X a) (fun q => G (ix2 0 q)) r := by
  unfold_payloads
  pointwise [normed, block]

/-- The activations' array when the launch begins. -/
theorem activation_entry (k : Fin 8192) (l : Fin 2816) :
    V m c main_v0 (ix2 k l) = m ((c : Thread nD τ).loc main_arg1) (ix2 k l) := by
  entry_read
  pointwise

theorem weight_entry (l : Fin 2816) (r : Fin 1024) :
    V m c main_v2 (ix4 0 0 l r) = m ((c : Thread nD τ).loc main_arg2) (ix2 l r) := by
  entry_read
  pointwise

theorem gain_entry (q : Fin 1024) : V m c main_v3 (ix2 0 q) = m ((c : Thread nD τ).loc main_arg3) (ix1 q) := by
  entry_read
  pointwise

theorem activation_apply (t : Fin cfg0.N) (a : Fin 512) (l : Fin 2816) :
    iblk m c 0 t (ix2 a l) = m ((c : Thread nD τ).loc main_arg1) (ix2 (row t a) l) := by
  rw [← activation_entry m c]
  unfold row
  blk_ext [iblk, (idx t).1.1]

theorem weight_apply (t : Fin cfg0.N) (l : Fin 2816) (r : Fin 1024) :
    iblk m c 1 t (ix4 0 0 l r) = m ((c : Thread nD τ).loc main_arg2) (ix2 l r) := by
  rw [← weight_entry m c]
  blk_ext [iblk, (idx t).1.2.1]

theorem residual_apply (t : Fin cfg0.N) (a : Fin 512) (r : Fin 1024) :
    iblk m c 2 t (ix2 a r) = m ((c : Thread nD τ).loc main_arg0) (ix2 (row t a) r) := by
  have e : V m c main_arg0 (ix2 (row t a) r) = m ((c : Thread nD τ).loc main_arg0) (ix2 (row t a) r) := by
    entry_read
    rfl
  rw [← e]
  unfold row
  blk_ext [iblk, (idx t).1.2.2]

theorem gain_apply (t : Fin cfg0.N) (q : Fin 1024) :
    iblk m c 3 t (ix2 0 q) = m ((c : Thread nD τ).loc main_arg3) (ix1 q) := by
  rw [← gain_entry m c]
  blk_ext [iblk, (idx t).2.1]

/-- The output of the arrays the launch begins with. -/
def value (k : Fin 8192) (r : Fin 1024) : EReal :=
  output (m ((c : Thread nD τ).loc main_arg0)) (m ((c : Thread nD τ).loc main_arg1))
    (m ((c : Thread nD τ).loc main_arg2)) k r

/-- The normed output of the arrays the launch begins with. -/
def normedValue (k : Fin 8192) (r : Fin 1024) : EReal :=
  normed (value m c k) (fun q => m ((c : Thread nD τ).loc main_arg3) (ix1 q)) r

theorem block_eq (t : Fin cfg0.N) (a : Fin 512) :
    block (iblk m c 0 t) (iblk m c 1 t) (iblk m c 2 t) a = value m c (row t a) := by
  funext r
  unfold block value output
  exact congrArg₂ (· + ·) (residual_apply m c t a r)
    (Finset.sum_congr rfl fun l _ => congrArg₂ (· * ·) (activation_apply m c t a l) (weight_apply m c t l r))

/-- What the kernel leaves in its first result. -/
def outputResult : Buf (Elt Ideal) ((c : Thread nD τ).loc main_v4_0) := fun i => value m c (i 0) (i 1)

/-- What it leaves in its second. -/
def normedResult : Buf (Elt Ideal) ((c : Thread nD τ).loc main_v4_1) := fun i => normedValue m c (i 0) (i 1)

theorem out_apply (t : Fin cfg0.N) (a : Fin 512) (r : Fin 1024) :
    out0_4 (iblk m c 0 t) (iblk m c 1 t) (iblk m c 2 t) (iblk m c 3 t) (ix2 a r) = value m c (row t a) r := by
  frame_out
  exact (block_apply _ _ _ a r).trans (congrFun (block_eq m c t a) r)

theorem normed_out_apply (t : Fin cfg0.N) (a : Fin 512) (r : Fin 1024) :
    out0_5 (iblk m c 0 t) (iblk m c 1 t) (iblk m c 2 t) (iblk m c 3 t) (ix2 a r) = normedValue m c (row t a) r := by
  frame_out
  refine (normed_apply _ _ _ _ a r).trans ?_
  rw [block_eq]
  simp only [gain_apply]
  rfl

theorem final_output : (dats m 0 c).arrAt 4 cfg0.N = outputResult m c := by
  refine (dats m 0 c).arrAt_eq_of_covers 4 _ (by decide +kernel) fun t hf y => ?_
  blk_simp
  rw [after0_4]
  idx_vars y
  rw [out_apply]
  unfold outputResult
  exact congrArg₂ (value m c) (Fin.ext (by blk_simp [row, (idx t).2.2.1])) (Fin.ext (by blk_simp [(idx t).2.2.1]))

theorem final_normed : (dats m 0 c).arrAt 5 cfg0.N = normedResult m c := by
  refine (dats m 0 c).arrAt_eq_of_covers 5 _ (by decide +kernel) fun t hf y => ?_
  blk_simp
  rw [after0_5]
  idx_vars y
  rw [normed_out_apply]
  unfold normedResult
  exact congrArg₂ (normedValue m c) (Fin.ext (by blk_simp [row, (idx t).2.2.2]))
    (Fin.ext (by blk_simp [(idx t).2.2.2]))

end Cert.BlockOutput

end
-- ==== Proof.Out.Equal.lean ====
/- The claim of the block's output: the kernel's run and the reference's run end with the same output and the same
   normed output. -/
module

public import proofs.«01_k».proof.Defs
public import proofs.«01_k».proof.Proof.Out.Array
public import proofs.«01_k».proof.Proof.Gen.OutReferenceIdeal.Read
public import proofs.«01_k».proof.Proof.Gen.OutReferenceIdeal.Run

@[expose] public section

set_option maxRecDepth 16384

noncomputable section

namespace Cert.BlockOutput

open Idealize.ShloMosaic Idealize.SL.Sem
open Cert.OutReferenceIdeal Cert.OutReferenceIdeal.Gen Cert.OutReferenceIdeal.Read

theorem output_eq (x : Vec Ideal S8192x1024 .f32) (a : Vec Ideal S8192x2816 .f32) (w : Vec Ideal S2816x1024 .f32) :
    val_main_v1 (F := Ideal) x a w = fun i => output x a w (i 0) (i 1) := by
  funext i
  idx_vars i
  pointwise [val_main_v1, val_main_v0]
  rfl

theorem normed_eq (x : Vec Ideal S8192x1024 .f32) (a : Vec Ideal S8192x2816 .f32) (w : Vec Ideal S2816x1024 .f32)
    (g : Vec Ideal S1024 .f32) :
    val_main_v15 (F := Ideal) x a w g = fun i => normed (output x a w (i 0)) (fun q => g (ix1 q)) (i 1) := by
  funext i
  idx_vars i
  pointwise [val_main_v15, val_main_v14, val_main_v13, val_main_v12, val_main_v11, val_main_v10, val_main_v9,
    val_main_v8, val_main_v7, val_main_v6, val_main_v5, val_main_v4, val_main_v3, val_main_v2, val_main_cst,
    val_main_cst_0, val_main_cst_1, output_eq]
  rfl

theorem algebraic : Cert.algebraic_OutKernelIdeal_OutReferenceIdeal
    (hOutKernelIdeal := Cert.OutKernelIdeal.Gen.facts) (hOutReferenceIdeal := Cert.OutReferenceIdeal.Gen.facts) := by
  intro m ρ m' ρ' _ hargs
  refine ⟨fun c => outputResult m c, fun c => normedResult m c, ?_, ?_⟩
  · refine (θ_run _ _ _).mono (fun r h c => ?_) (Cert.OutKernelIdeal.Value.run_blocks m ρ)
    exact ⟨(h c).1.trans (final_output m c), (h c).2.1.trans (final_normed m c), (h c).2.2⟩
  · refine (θ_run _ _ _).mono (fun r h c => ?_) (Cert.OutReferenceIdeal.Value.run m' ρ')
    obtain ⟨a0, a1, a2, a3⟩ := hargs c
    refine ⟨(h c).1.trans ?_, (h c).2.1.trans ?_, (h c).2.2⟩
    · rw [val_main_v1_eq, output_eq, a0, a1, a2]
      rfl
    · rw [val_main_v15_eq, normed_eq, a0, a1, a2, a3]
      rfl

end Cert.BlockOutput

end
-- ==== Proof.Act.Rows.lean ====
/- The gate of the feed-forward block at one position: a causal convolution over three rows of a channel, and the gated
   value it gives. -/
module

public import Idealize.ShloMosaic.Lib.Pointwise

@[expose] public section

noncomputable section

namespace Cert.Activation

open Idealize.ShloMosaic

/-- Row `a - s` of one channel's tile, and above the tile the row of the sixteen rows before it; on the first tile
    there are none, and the row is zero. -/
def tap (first : BitVec 1) (x : Fin 256 → EReal) (before : Fin 16 → EReal) (s : ℕ) (a : Fin 256) : EReal :=
  if h : a.val < s then Scalar.select first 0 (before ⟨16 + a.val - s, by omega⟩)
  else x ⟨a.val - s, by omega⟩

/-- The convolution's value from the three rows, oldest first. -/
def mix (b w0 w1 w2 t2 t1 t0 : EReal) : EReal := b + w0 * t2 + w1 * t1 + w2 * t0

/-- The gated value. -/
def gated (z v : EReal) : EReal := z * Ideal.logistic z * v

/-- The row `s` rows before row `k` of a whole channel, zero before its first row. -/
def past (u : Fin 8192 → EReal) (s : ℕ) (k : Fin 8192) : EReal :=
  if h : k.val < s then 0 else u ⟨k.val - s, by omega⟩

/-- The convolution of a whole channel at row `k`. -/
def convolved (u : Fin 8192 → EReal) (b w0 w1 w2 : EReal) (k : Fin 8192) : EReal :=
  mix b w0 w1 w2 (past u 2 k) (past u 1 k) (u k)

/-- A tile's rows and the sixteen before them are rows of the channel. -/
theorem tap_eq_past (u : Fin 8192 → EReal) (t : ℕ) (ht : t < 32) (before : Fin 16 → EReal)
    (hb : ∀ h : 0 < t, ∀ r : Fin 16, before r = u ⟨t * 256 - 16 + r.val, by omega⟩) (s : ℕ) (hs : s ≤ 16) (a : Fin 256) :
    tap (if t = 0 then 1#1 else 0#1) (fun r => u ⟨t * 256 + r.val, by omega⟩) before s a
      = past u s ⟨t * 256 + a.val, by omega⟩ := by
  unfold tap past
  by_cases h : a.val < s
  · rw [dif_pos h]
    by_cases h0 : t = 0
    · subst h0
      rw [dif_pos (by simpa using h)]
      rfl
    · rw [dif_neg (by show ¬ t * 256 + a.val < s; omega), if_neg h0, hb (by omega)]
      refine congrArg u (Fin.ext ?_)
      show t * 256 - 16 + (16 + a.val - s) = t * 256 + a.val - s
      omega
  · rw [dif_neg h, dif_neg (by show ¬ t * 256 + a.val < s; omega)]
    refine congrArg u (Fin.ext ?_)
    show t * 256 + (a.val - s) = t * 256 + a.val - s
    omega

end Cert.Activation

end
-- ==== Proof.Act.Trip.lean ====
/- One tile of the forward gate: 128 channels per trip of the kernel's loop, every trip the same function of its
   channels. -/
module

public import proofs.«01_k».proof.Proof.Gen.ActKernelIdeal.Value
public import proofs.«01_k».proof.Proof.Act.Rows
public import Idealize.ShloMosaic.Lib.Pipeline.ValueKit
public import Idealize.ShloMosaic.Lib.Pipeline.ReadBack

@[expose] public section

set_option maxRecDepth 16384

noncomputable section

namespace Cert.Activation

open Idealize.ShloMosaic Idealize.ShloMosaic.TcCoe
open Cert.ActKernelIdeal Cert.ActKernelIdeal.Gen Cert.ActKernelIdeal.Value

/-- One entry of what a trip stores. -/
theorem payload_apply (v0 : BitVec 1) (v5 : Vec Ideal S16x128 .bf16) (v11 : Vec Ideal S256x128 .bf16)
    (v18 v21 v28 v34 : Vec Ideal S1x128 .f32) (v43 : Vec Ideal S256x128 .bf16) (a : Fin 256) (l : Fin 128) :
    k0_pay1 (F := Ideal) v0 v5 v11 v18 v21 v28 v34 v43 (ix2 a l)
      = gated (mix (v18 (ix2 0 l)) (v21 (ix2 0 l)) (v28 (ix2 0 l)) (v34 (ix2 0 l))
          (tap v0 (fun r => v11 (ix2 r l)) (fun r => v5 (ix2 r l)) 2 a)
          (tap v0 (fun r => v11 (ix2 r l)) (fun r => v5 (ix2 r l)) 1 a) (v11 (ix2 a l))) (v43 (ix2 a l)) := by
  have t (s : ℕ) (hs : 1 ≤ s) (hs' : s ≤ 2) :
      (if h : (16 + a.val + 272 - s) % 272 < 16 then
          Scalar.select v0 0 (v5 (ix2 ⟨(16 + a.val + 272 - s) % 272, h⟩ l))
        else v11 (ix2 ⟨(16 + a.val + 272 - s) % 272 - 16, by omega⟩ l))
        = tap v0 (fun r => v11 (ix2 r l)) (fun r => v5 (ix2 r l)) s a := by
    have e : (16 + a.val + 272 - s) % 272 = 16 + a.val - s := by omega
    unfold tap
    by_cases h : a.val < s
    · rw [dif_pos h, dif_pos (by omega)]
      congr 4
    · rw [dif_neg h, dif_neg (by omega)]
      congr 2
      exact Fin.ext (by show (16 + a.val + 272 - s) % 272 - 16 = a.val - s; omega)
  unfold_payloads
  pointwise
  unfold gated mix
  rw [← t 2 (by omega) (by omega), ← t 1 (by omega) (by omega)]

/-- The channel at lane `l` of trip `k`. -/
def channel (k : Fin k0_t1_loop.trips) (l : Fin 128) : Fin 2816 :=
  ⟨128 * k.val + l.val, by have := Nat.lt_of_lt_of_le k.isLt k0_t1_abs.2.1; omega⟩

/-- What a tile's blocks give at row `a` of channel `n`. -/
def tileAt (v0 : BitVec 1) (x0 : Vec Ideal S256x2816 .bf16) (x1 : Vec Ideal S16x2816 .bf16) (x2 : Vec Ideal S256x2816 .bf16)
    (x3 : Vec Ideal S8x2816 .f32) (x4 : Vec Ideal S1x2816 .f32) (a : Fin 256) (n : Fin 2816) : EReal :=
  gated (mix (x4 (ix2 0 n)) (x3 (ix2 0 n)) (x3 (ix2 1 n)) (x3 (ix2 2 n))
    (tap v0 (fun r => x0 (ix2 r n)) (fun r => x1 (ix2 r n)) 2 a)
    (tap v0 (fun r => x0 (ix2 r n)) (fun r => x1 (ix2 r n)) 1 a) (x0 (ix2 a n))) (x2 (ix2 a n))

/-- The same as one block. -/
def tile (v0 : BitVec 1) (x0 : Vec Ideal S256x2816 .bf16) (x1 : Vec Ideal S16x2816 .bf16) (x2 : Vec Ideal S256x2816 .bf16)
    (x3 : Vec Ideal S8x2816 .f32) (x4 : Vec Ideal S1x2816 .f32) (y : S256x2816.Idx) : EReal :=
  tileAt v0 x0 x1 x2 x3 x4 (y 0) (y 1)

/-- Where a rectangle of 128 channels puts its entries. -/
theorem rect_apply {N n : ℕ} (k : Fin k0_t1_loop.trips) (off : Fin 2 → ℕ) (o : ℕ) (ho : off = ![o, 128 * k.val])
    (inb : ∀ a, off a + (![n, 128] : Fin 2 → ℕ) a ≤ (![N, 2816] : Fin 2 → ℕ) a) (i : Fin n) (l : Fin 128)
    (j : Fin N) (hj : j.val = o + i.val) :
    (Rect.unit (s := ⟨2, ![N, 2816]⟩) off ![n, 128] inb).emb (ix2 i l) = ix2 j (channel k l) := by
  subst ho
  refine funext fun a => Fin.ext ?_
  match a with
  | ⟨0, _⟩ => show o + 1 * i.val = j.val; omega
  | ⟨1, _⟩ => show 128 * k.val + 1 * l.val = 128 * k.val + l.val; omega

/-- One entry of a load of 128 channels. -/
theorem load_apply {N n : ℕ} {e : EltTy} (g : Memref sig .tc .vmem ⟨2, ![N, 2816]⟩ e) (h : g.IsWhole)
    (X : Vec Ideal ⟨2, ![N, 2816]⟩ e) (k : Fin k0_t1_loop.trips) (off : Fin 2 → ℕ) (o : ℕ) (ho : off = ![o, 128 * k.val])
    (inb : ∀ a, off a + (![n, 128] : Fin 2 → ℕ) a ≤ (![N, 2816] : Fin 2 → ℕ) a) (i : Fin n) (l : Fin 128)
    (j : Fin N) (hj : j.val = o + i.val) :
    g.view.readAt (Elt Ideal) (Rect.unit (s := ⟨2, ![N, 2816]⟩) off ![n, 128] inb).toLoadRect (h.unread X) (ix2 i l)
      = X (ix2 j (channel k l)) :=
  (congrFun (h.read_unread X) _).trans (congrArg X (rect_apply k off o ho inb i l j hj))

theorem trip_apply (𝒱 : Variants) (c : Dev nD) (bd : Option 𝒱.V) (i : grid0.Coords) (arg1 : Memref sig .tc .vmem S256x2816 .bf16) (harg1 : arg1.IsWhole) (arg2 : Memref sig .tc .vmem S16x2816 .bf16) (harg2 : arg2.IsWhole) (arg3 : Memref sig .tc .vmem S256x2816 .bf16) (harg3 : arg3.IsWhole) (arg4 : Memref sig .tc .vmem S8x2816 .f32) (harg4 : arg4.IsWhole) (arg5 : Memref sig .tc .vmem S1x2816 .f32) (harg5 : arg5.IsWhole) (arg6 : Memref sig .tc .vmem S256x2816 .bf16) (harg6 : arg6.IsWhole) (v0 : BitVec 1)
    (x0 : Vec Ideal S256x2816 .bf16) (x1 : Vec Ideal S16x2816 .bf16) (x2 : Vec Ideal S256x2816 .bf16) (x3 : Vec Ideal S8x2816 .f32) (x4 : Vec Ideal S1x2816 .f32) (k : Fin k0_t1_loop.trips) :
    ∀ p ∈ tripL_k0_t1 (F := Ideal) 𝒱 c bd i arg1 harg1 arg2 harg2 arg3 harg3 arg4 harg4 arg5 harg5 arg6 harg6 v0
        (harg1.unread x0) (harg2.unread x1) (harg3.unread x2) (harg4.unread x3) (harg5.unread x4) k,
      ∀ x : p.1.shape.Idx, p.2 x = tile v0 x0 x1 x2 x3 x4 (p.1.emb x) := by
  unfold tripL_k0_t1 trip_k0_t1
  intro p hp
  obtain rfl := List.mem_singleton.mp hp
  intro x
  sl_unfold_run_names
  dsimp only
  obtain ⟨a, l, rfl⟩ : ∃ (a : Fin 256) (l : Fin 128), x = ix2 a l :=
    ⟨x 0, x 1, by funext a; match a with | ⟨0, _⟩ => rfl | ⟨1, _⟩ => rfl⟩
  have hy := rect_apply (N := 256) (n := 256) k _ 0 (k0_off2_eq k) (k0_off2_inb k) a l a (Nat.zero_add _).symm
  rw [payload_apply]
  refine Eq.trans ?_ (congrArg (tile v0 x0 x1 x2 x3 x4) hy.symm)
  change _ = tileAt v0 x0 x1 x2 x3 x4 a (channel k l)
  unfold tileAt
  rw [load_apply arg5 harg5 x4 k _ 0 (k0_off3_eq k) _ 0 l 0 rfl, load_apply arg4 harg4 x3 k _ 0 (k0_off4_eq k) _ 0 l 0 rfl,
    load_apply arg4 harg4 x3 k _ 1 (k0_off5_eq k) _ 0 l 1 rfl, load_apply arg4 harg4 x3 k _ 2 (k0_off6_eq k) _ 0 l 2 rfl,
    load_apply arg3 harg3 x2 k _ 0 (k0_off2_eq k) _ a l a (Nat.zero_add _).symm,
    load_apply arg1 harg1 x0 k _ 0 (k0_off2_eq k) _ a l a (Nat.zero_add _).symm]
  rw [show (fun r : Fin 256 => _) = _ from funext fun r => load_apply arg1 harg1 x0 k _ 0 (k0_off2_eq k) (k0_off2_inb k) r l r (Nat.zero_add _).symm,
    show (fun r : Fin 16 => _) = _ from funext fun r => load_apply arg2 harg2 x1 k _ 0 (k0_off1_eq k) (k0_off1_inb k) r l r (Nat.zero_add _).symm]

/-- So all the trips together. -/
theorem pieces_apply (𝒱 : Variants) (c : Dev nD) (bd : Option 𝒱.V) (i : grid0.Coords) (arg1 : Memref sig .tc .vmem S256x2816 .bf16) (harg1 : arg1.IsWhole) (arg2 : Memref sig .tc .vmem S16x2816 .bf16) (harg2 : arg2.IsWhole) (arg3 : Memref sig .tc .vmem S256x2816 .bf16) (harg3 : arg3.IsWhole) (arg4 : Memref sig .tc .vmem S8x2816 .f32) (harg4 : arg4.IsWhole) (arg5 : Memref sig .tc .vmem S1x2816 .f32) (harg5 : arg5.IsWhole) (arg6 : Memref sig .tc .vmem S256x2816 .bf16) (harg6 : arg6.IsWhole) (v0 : BitVec 1)
    (x0 : Vec Ideal S256x2816 .bf16) (x1 : Vec Ideal S16x2816 .bf16) (x2 : Vec Ideal S256x2816 .bf16) (x3 : Vec Ideal S8x2816 .f32) (x4 : Vec Ideal S1x2816 .f32) (n : ℕ) (hn : n ≤ k0_t1_loop.trips) :
    ∀ p ∈ pb_k0_t1 (F := Ideal) 𝒱 c bd i arg1 harg1 arg2 harg2 arg3 harg3 arg4 harg4 arg5 harg5 arg6 harg6 v0
        (harg1.unread x0) (harg2.unread x1) (harg3.unread x2) (harg4.unread x3) (harg5.unread x4) n,
      ∀ x : p.1.shape.Idx, p.2 x = tile v0 x0 x1 x2 x3 x4 (p.1.emb x) := by
  induction n with
  | zero => intro p hp; exact absurd hp List.not_mem_nil
  | succ n ih =>
    intro p hp
    rw [pb_k0_t1_succ (F := Ideal) 𝒱 c bd i arg1 harg1 arg2 harg2 arg3 harg3 arg4 harg4 arg5 harg5 arg6 harg6 v0 _ _ _ _ _ ⟨n, hn⟩] at hp
    rcases List.mem_append.mp hp with hp | hp
    · exact trip_apply 𝒱 c bd i arg1 harg1 arg2 harg2 arg3 harg3 arg4 harg4 arg5 harg5 arg6 harg6 v0 x0 x1 x2 x3 x4 ⟨n, hn⟩ p hp
    · exact ih (Nat.le_of_succ_le hn) p hp

/-- What a point leaves in its block of the result. -/
theorem out_tile (c : Dev nD) (i : grid0.Coords) (arg1 : Memref sig .tc .vmem S256x2816 .bf16) (harg1 : arg1.IsWhole) (arg2 : Memref sig .tc .vmem S16x2816 .bf16) (harg2 : arg2.IsWhole) (arg3 : Memref sig .tc .vmem S256x2816 .bf16) (harg3 : arg3.IsWhole) (arg4 : Memref sig .tc .vmem S8x2816 .f32) (harg4 : arg4.IsWhole) (arg5 : Memref sig .tc .vmem S1x2816 .f32) (harg5 : arg5.IsWhole) (arg6 : Memref sig .tc .vmem S256x2816 .bf16) (harg6 : arg6.IsWhole)
    (x0 : Vec Ideal S256x2816 .bf16) (x1 : Vec Ideal S16x2816 .bf16) (x2 : Vec Ideal S256x2816 .bf16) (x3 : Vec Ideal S8x2816 .f32) (x4 : Vec Ideal S1x2816 .f32) (y : S256x2816.Idx) :
    out0_A_5 c i arg1 harg1 arg2 harg2 arg3 harg3 arg4 harg4 arg5 harg5 arg6 harg6 x0 x1 x2 x3 x4 y
      = tile (kernelRun0_A.sl.v0 i) x0 x1 x2 x3 x4 y := by
  unfold out0_A_5
  refine View.read_writes_apply_of_pieces VO0_5 _ (tile (kernelRun0_A.sl.v0 i) x0 x1 x2 x3 x4) _ ?_ y
    (cover0_A_5 c i arg1 harg1 arg2 harg2 arg3 harg3 arg4 harg4 arg5 harg5 arg6 harg6 x0 x1 x2 x3 x4 y)
  unfold kernelRun0_A
  exact pieces_apply Variants.none c none i arg1 harg1 arg2 harg2 arg3 harg3 arg4 harg4 arg5 harg5 arg6 harg6 _ x0 x1 x2 x3 x4 _ le_rfl

end Cert.Activation

end
-- ==== Proof.Act.Array.lean ====
/- The forward gate's whole result after the run. -/
module

public import proofs.«01_k».proof.Proof.Act.Trip
public import Idealize.ShloMosaic.Lib.KernelVsHost

@[expose] public section

set_option maxRecDepth 16384

noncomputable section

namespace Cert.Activation.Array

open Idealize.ShloMosaic Idealize.ShloMosaic.TcCoe
open Cert.ActKernelIdeal Cert.ActKernelIdeal.Gen Cert.ActKernelIdeal.Value

variable (m : (ℓ : Loc nD τ sig) → Buf (Elt Ideal) ℓ) (c : Dev nD)

/-- Where each window's block lies at point `t`. -/
theorem idx (t : Fin cfg0.N) : (win0_0.index t = ![t.val, 0] ∧ win0_1.index t = ![t.val * 16 - 1, 0]
    ∧ win0_2.index t = ![t.val, 1]) ∧ win0_3.index t = ![0, 0] ∧ win0_4.index t = ![0, 0] ∧ win0_5.index t = ![t.val, 0] :=
  (by decide +kernel : ∀ t : Fin grid0.N, (win0_0.index t = ![t.val, 0] ∧ win0_1.index t = ![t.val * 16 - 1, 0]
    ∧ win0_2.index t = ![t.val, 1]) ∧ win0_3.index t = ![0, 0] ∧ win0_4.index t = ![0, 0] ∧ win0_5.index t = ![t.val, 0]) t

/-- Which point is the first. -/
theorem first (t : Fin cfg0.N) : kernelRun0_A.sl.v0 (grid0.coords t) = if t.val = 0 then 1#1 else 0#1 :=
  (by decide +kernel : ∀ t : Fin grid0.N, kernelRun0_A.sl.v0 (grid0.coords t) = if t.val = 0 then 1#1 else 0#1) t

theorem points (t : Fin cfg0.N) : t.val < 32 := lt_of_lt_of_eq t.isLt N_0

/-- Row `a` of the block at point `t`. -/
def row (t : Fin cfg0.N) (a : Fin 256) : Fin 8192 := ⟨t.val * 256 + a.val, by have := points t; omega⟩

/-- The gate's half of the input, and the value's. -/
def left (n : Fin 2816) : Fin 5632 := ⟨n.val, by omega⟩
def right (n : Fin 2816) : Fin 5632 := ⟨2816 + n.val, by omega⟩

/-- The result at row `k` of channel `n`. -/
def value (k : Fin 8192) (n : Fin 2816) : EReal :=
  gated (convolved (fun r => m ((c : Thread nD τ).loc main_arg0) (ix2 r (left n))) (m ((c : Thread nD τ).loc main_arg2) (ix1 n))
      (m ((c : Thread nD τ).loc main_arg1) (ix2 0 n)) (m ((c : Thread nD τ).loc main_arg1) (ix2 1 n))
      (m ((c : Thread nD τ).loc main_arg1) (ix2 2 n)) k)
    (m ((c : Thread nD τ).loc main_arg0) (ix2 k (right n)))

/-- The result's array. -/
def result : Buf (Elt Ideal) ((c : Thread nD τ).loc main_v3) := fun i => value m c (i 0) (i 1)

/-- The input's array when the launch begins. -/
theorem input_entry (k : Fin 8192) (l : Fin 5632) :
    V m c main_v0 (ix2 k l) = m ((c : Thread nD τ).loc main_arg0) (ix2 k l) := by
  simp only [V, hostOps0, hostOps0_1, hostOps0_2, List.flatten_cons, List.flatten_nil, List.append_nil, List.cons_append, List.nil_append]
  entry_read
  pointwise

/-- The weight's array when the launch begins: three rows, and rows of zeros below them. -/
theorem weight_entry (j : Fin 3) (n : Fin 2816) :
    V m c main_v1 (ix2 ⟨j.val, by omega⟩ n) = m ((c : Thread nD τ).loc main_arg1) (ix2 j n) := by
  simp only [V, hostOps0, hostOps0_1, hostOps0_2, List.flatten_cons, List.flatten_nil, List.append_nil, List.cons_append, List.nil_append]
  entry_read
  refine (pad_apply_of_inside ![0, 0] ![5, 0] ![0, 0] (m ((c : Thread nD τ).loc main_arg1)) _ pads_S3x2816_S8x2816_050_000 h_S_
    (ix2 ⟨j.val, by omega⟩ n) (ix2 j n) fun a => ?_)
  match a with
  | ⟨0, _⟩ => show j.val = 0 + j.val * (0 + 1); omega
  | ⟨1, _⟩ => show n.val = 0 + n.val * (0 + 1); omega

/-- The bias when the launch begins. -/
theorem bias_entry (n : Fin 2816) :
    V m c main_v2 (ix2 0 n) = m ((c : Thread nD τ).loc main_arg2) (ix1 n) := by
  simp only [V, hostOps0, hostOps0_1, hostOps0_2, List.flatten_cons, List.flatten_nil, List.append_nil, List.cons_append, List.nil_append]
  entry_read
  pointwise

theorem gate_apply (t : Fin cfg0.N) (a : Fin 256) (n : Fin 2816) :
    iblk m c 0 t (ix2 a n) = m ((c : Thread nD τ).loc main_arg0) (ix2 (row t a) (left n)) := by
  rw [← input_entry m c]
  unfold row left
  blk_ext [iblk, (idx t).1.1]

theorem before_apply (t : Fin cfg0.N) (h : 0 < t.val) (r : Fin 16) (n : Fin 2816) :
    iblk m c 1 t (ix2 r n) = m ((c : Thread nD τ).loc main_arg0)
      (ix2 ⟨t.val * 256 - 16 + r.val, by have := points t; omega⟩ (left n)) := by
  rw [← input_entry m c]
  unfold left
  blk_ext [iblk, (idx t).1.2.1]

theorem value_apply (t : Fin cfg0.N) (a : Fin 256) (n : Fin 2816) :
    iblk m c 2 t (ix2 a n) = m ((c : Thread nD τ).loc main_arg0) (ix2 (row t a) (right n)) := by
  rw [← input_entry m c]
  unfold row right
  blk_ext [iblk, (idx t).1.2.2]

theorem weight_apply (t : Fin cfg0.N) (j : Fin 3) (n : Fin 2816) :
    iblk m c 3 t (ix2 ⟨j.val, by omega⟩ n) = m ((c : Thread nD τ).loc main_arg1) (ix2 j n) := by
  rw [← weight_entry m c]
  blk_ext [iblk, (idx t).2.1]

theorem bias_apply (t : Fin cfg0.N) (n : Fin 2816) :
    iblk m c 4 t (ix2 0 n) = m ((c : Thread nD τ).loc main_arg2) (ix1 n) := by
  rw [← bias_entry m c]
  blk_ext [iblk, (idx t).2.2.1]

/-- A point's block of the result. -/
theorem out_apply (t : Fin cfg0.N) (a : Fin 256) (n : Fin 2816) : outsAt0 m c t (ix2 a n) = value m c (row t a) n := by
  unfold outsAt0
  rw [out_tile, first]
  change tileAt _ _ _ _ _ _ a n = _
  unfold tileAt value convolved
  have taps (s : ℕ) (hs : s ≤ 16) := tap_eq_past (fun q => m ((c : Thread nD τ).loc main_arg0) (ix2 q (left n))) t.val (points t)
    (fun r => iblk m c 1 t (ix2 r n)) (fun h r => before_apply m c t h r n) s hs a
  rw [show (fun r : Fin 256 => iblk m c 0 t (ix2 r n))
      = fun r => (fun q => m ((c : Thread nD τ).loc main_arg0) (ix2 q (left n))) ⟨t.val * 256 + r.val, by have := points t; omega⟩
      from funext fun r => gate_apply m c t r n, taps 2 (by omega), taps 1 (by omega), bias_apply, gate_apply, value_apply]
  rw [show iblk m c 3 t (ix2 0 n) = _ from weight_apply m c t 0 n, show iblk m c 3 t (ix2 1 n) = _ from weight_apply m c t 1 n,
    show iblk m c 3 t (ix2 2 n) = _ from weight_apply m c t 2 n]
  rfl

theorem final_act : (dats m 0 c).arrAt 5 cfg0.N = result m c := by
  refine (dats m 0 c).arrAt_eq_of_covers 5 _ (by decide +kernel) fun t hf y => ?_
  blk_simp
  rw [after0_5]
  idx_vars y
  rw [out_apply]
  unfold result
  exact congrArg₂ (value m c) (Fin.ext (by blk_simp [row, (idx t).2.2.2])) (Fin.ext (by blk_simp [(idx t).2.2.2]))

end Cert.Activation.Array

end
-- ==== Proof.Act.Equal.lean ====
/- The claim of the forward gate: the kernel's run and the reference's run end with the same result. -/
module

public import proofs.«01_k».proof.Defs
public import proofs.«01_k».proof.Proof.Act.Array
public import proofs.«01_k».proof.Proof.Gen.ActReferenceIdeal.Read
public import proofs.«01_k».proof.Proof.Gen.ActReferenceIdeal.Run

@[expose] public section

set_option maxRecDepth 16384

noncomputable section

namespace Cert.Activation

open Idealize.ShloMosaic Idealize.SL.Sem
open Cert.ActReferenceIdeal Cert.ActReferenceIdeal.Gen Cert.ActReferenceIdeal.Read

/-- The reference's whole result. -/
theorem reference_eq (u : Vec Ideal S8192x5632 .f32) (w : Vec Ideal S3x2816 .f32) (b : Vec Ideal S2816 .f32)
    (k : Fin 8192) (n : Fin 2816) :
    val_main_v29 (F := Ideal) u w b (ix2 k n)
      = gated (convolved (fun r => u (ix2 r (Array.left n))) (b (ix1 n)) (w (ix2 0 n)) (w (ix2 1 n)) (w (ix2 2 n)) k)
          (u (ix2 k (Array.right n))) := by
  pointwise [val_main_v29, val_main_v28, val_main_v27, val_main_call0_v5, val_main_call0_v4, val_main_call0_v3,
    val_main_call0_v2, val_main_call0_v1, val_main_call0_v0, val_main_v26, val_main_v25, val_main_v24, val_main_v23,
    val_main_v22, val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0,
    val_main_cst, val_main_call0_cst, val_main_call0_cst_0]
  have one : (if h : 1 + k.val < 2 then (0 : EReal) else u (ix2 ⟨1 + k.val - 2, by omega⟩ ⟨n.val, by omega⟩))
      = past (fun r => u (ix2 r (Array.left n))) 1 k := by
    unfold past
    by_cases h : k.val < 1
    · rw [dif_pos h, dif_pos (by omega)]
    · rw [dif_neg h, dif_neg (by omega)]
      exact congrArg u (congrArg (ix2 · (Array.left n)) (Fin.ext (by show 1 + k.val - 2 = k.val - 1; omega)))
  rw [one]
  have e : past (fun r => u (ix2 r (Array.left n))) 2 k * w (ix2 0 n) + past (fun r => u (ix2 r (Array.left n))) 1 k * w (ix2 1 n)
      + u (ix2 k (Array.left n)) * w (ix2 2 n) + b (ix1 n)
      = convolved (fun r => u (ix2 r (Array.left n))) (b (ix1 n)) (w (ix2 0 n)) (w (ix2 1 n)) (w (ix2 2 n)) k := by
    unfold convolved mix
    rw [mul_comm (w (ix2 0 n)), mul_comm (w (ix2 1 n)), mul_comm (w (ix2 2 n)), add_comm _ (b (ix1 n)), add_assoc (b (ix1 n)),
      add_assoc (b (ix1 n))]
  unfold gated Ideal.logistic
  rw [← e]
  rfl

theorem algebraic : Cert.algebraic_ActKernelIdeal_ActReferenceIdeal
    (hActKernelIdeal := Cert.ActKernelIdeal.Gen.facts) (hActReferenceIdeal := Cert.ActReferenceIdeal.Gen.facts) := by
  intro m ρ m' ρ' _ hargs
  refine ⟨fun c => Array.result m c, ?_, ?_⟩
  · refine (θ_run _ _ _).mono (fun r h c => ?_) (Cert.ActKernelIdeal.Value.run_blocks m ρ)
    exact ⟨(h c).1.trans (Array.final_act m c), (h c).2⟩
  · refine (θ_run _ _ _).mono (fun r h c => ?_) (Cert.ActReferenceIdeal.Value.run m' ρ')
    refine ⟨(h c).1.trans ?_, (h c).2⟩
    rw [val_main_v29_eq, (hargs c).1, (hargs c).2.1, (hargs c).2.2]
    funext i
    idx_vars i
    exact reference_eq _ _ _ _ _

end Cert.Activation

end
-- ==== Proof.Mix.Point.lean ====
/- One point of the grid of the gradient through the attention layers' input projection: 256 rows of the normalised
   activations' gradient, 640 columns from each of four owners. What follows the product is the up-projection's, so the
   facts about it are taken from there. -/
module

public import proofs.«01_k».proof.Proof.Gen.MixKernelIdeal.Value
public import proofs.«01_k».proof.Proof.Input.Point

@[expose] public section

set_option maxRecDepth 16384

noncomputable section

namespace Cert.MixInput

open Idealize.ShloMosaic Cert.MixKernelIdeal Cert.MixKernelIdeal.Gen Cert.MixKernelIdeal.Value Idealize.ShloMosaic.TcCoe
open Cert.InputGradient (block rowGradient share)

/-- The gradient of the normalised activations as the body forms it from one point's two blocks. -/
abbrev products (D : Vec Ideal S256x2560 .bf16) (W : Vec Ideal S1x4x1024x640 .bf16) : Vec Ideal S256x1024 .f32 :=
  k0_pay2 (F := Ideal)
    (View.ld D (Rect.unit ![0, 0] ![256, 640] inb_S256x2560_S256x640_0_0))
    (View.ld W (Rect.unit ![0, 0, 0, 0] ![1, 1, 1024, 640] inb_S1x4x1024x640_S1x1x1024x640_0_0_0_0))
    (View.ld D (Rect.unit ![0, 640] ![256, 640] inb_S256x2560_S256x640_0_640))
    (View.ld W (Rect.unit ![0, 1, 0, 0] ![1, 1, 1024, 640] inb_S1x4x1024x640_S1x1x1024x640_0_1_0_0))
    (View.ld D (Rect.unit ![0, 1280] ![256, 640] inb_S256x2560_S256x640_0_1280))
    (View.ld W (Rect.unit ![0, 2, 0, 0] ![1, 1, 1024, 640] inb_S1x4x1024x640_S1x1x1024x640_0_2_0_0))
    (View.ld D (Rect.unit ![0, 1920] ![256, 640] inb_S256x2560_S256x640_0_1920))
    (View.ld W (Rect.unit ![0, 3, 0, 0] ![1, 1, 1024, 640] inb_S1x4x1024x640_S1x1x1024x640_0_3_0_0))

theorem products_apply (D : Vec Ideal S256x2560 .bf16) (W : Vec Ideal S1x4x1024x640 .bf16) (a : Fin 256) (r : Fin 1024) :
    products D W (ix2 a r) = block D W (by decide) a r := by
  unfold products
  unfold_payloads
  pointwise
  unfold block
  rw [Fin.sum_univ_four]
  rfl

variable (m : (ℓ : Loc nD τ sig) → Buf (Elt Ideal) ℓ) (c : Dev nD)

/-- The input's gradient at any point. -/
theorem out_row (t : Fin cfg0.N) (a : Fin 256) (r : Fin 1024) :
    (outsAt0 m c t.val t.isLt).1 (ix2 a r)
      = rowGradient (fun q => iblk m c 2 t (ix2 a q)) (fun q => iblk m c 3 t (ix2 0 q))
          (block (iblk m c 0 t) (iblk m c 1 t) (by decide) a) (iblk m c 4 t (ix2 a r)) r := by
  have e : (fun q => products (iblk m c 0 t) (iblk m c 1 t) (ix2 a q)) = block (iblk m c 0 t) (iblk m c 1 t) (by decide) a :=
    funext fun q => products_apply _ _ a q
  rw [← e]
  by_cases h0 : t.val % 32 = 0
  · rw [outsAt0_A m c t h0]
    frame_out
    exact InputGradient.Point.row_apply _ _ _ _ a r
  · rw [outsAt0_B m c t h0]
    frame_out
    exact InputGradient.Point.row_apply _ _ _ _ a r

/-- The low-precision copy is the same over the extended reals. -/
theorem out_low (t : Fin cfg0.N) (a : Fin 256) (r : Fin 1024) :
    (outsAt0 m c t.val t.isLt).2.1 (ix2 a r) = (outsAt0 m c t.val t.isLt).1 (ix2 a r) := by
  by_cases h0 : t.val % 32 = 0
  · rw [outsAt0_A m c t h0]
    frame_out
    exact InputGradient.Point.low_apply _ _ _ _ a r
  · rw [outsAt0_B m c t h0]
    frame_out
    exact InputGradient.Point.low_apply _ _ _ _ a r

/-- The first point leaves its own rows' share of the norm's gradient. -/
theorem gain_first (t : Fin cfg0.N) (h0 : t.val % 32 = 0) (a : Fin 1) (r : Fin 1024) :
    (outsAt0 m c t.val t.isLt).2.2 (ix2 a r)
      = 0 + share (products (iblk m c 0 t) (iblk m c 1 t)) (iblk m c 2 t) r := by
  rw [outsAt0_A m c t h0]
  frame_out
  refine (InputGradient.Point.share_apply _ _ _ a r).trans ?_
  rw [show k0_pay10 (F := Ideal) (ix2 a r) = 0 from InputGradient.Point.zero_apply a r]

/-- A later point adds its own rows' share. -/
theorem gain_next (t : Fin cfg0.N) (h0 : ¬ t.val % 32 = 0) (a : Fin 1) (r : Fin 1024) :
    (outsAt0 m c t.val t.isLt).2.2 (ix2 a r)
      = (outsAt0 m c (t.val - 1) (Nat.lt_of_le_of_lt (Nat.sub_le _ _) t.isLt)).2.2 (ix2 a r)
        + share (products (iblk m c 0 t) (iblk m c 1 t)) (iblk m c 2 t) r := by
  rw [outsAt0_B m c t h0]
  frame_out
  exact InputGradient.Point.share_apply _ _ _ a r

end Cert.MixInput

end
-- ==== Proof.Mix.Array.lean ====
/- The three result arrays of the gradient through the attention layers' input projection: the input's gradient row block by row block, its low-precision copy,
   and the gradient of the norm's weights summed over all 8192 rows. -/
module

public import proofs.«01_k».proof.Proof.Mix.Point

@[expose] public section

set_option maxRecDepth 16384

noncomputable section

namespace Cert.MixInput

open Cert.MixKernelIdeal Cert.MixKernelIdeal.Gen Cert.MixKernelIdeal.Value Idealize.ShloMosaic Idealize.ShloMosaic.TcCoe
open Cert.InputGradient (block rowGradient share scale normedGradient inputGradient gainTerm gainGradient)

variable (m : (ℓ : Loc nD τ sig) → Buf (Elt Ideal) ℓ) (c : Dev nD)

/-- Where each window's block lies at point `t`. -/
theorem idx (t : Fin cfg0.N) : (win0_0.index t = ![t.val, 0] ∧ win0_1.index t = ![0, 0, 0, 0]
    ∧ win0_2.index t = ![t.val, 0] ∧ win0_3.index t = ![0, 0]) ∧ win0_4.index t = ![t.val, 0]
    ∧ win0_5.index t = ![t.val, 0] ∧ win0_6.index t = ![t.val, 0] ∧ win0_7.index t = ![0, 0] :=
  (by decide +kernel : ∀ t : Fin grid0.N, (win0_0.index t = ![t.val, 0] ∧ win0_1.index t = ![0, 0, 0, 0]
    ∧ win0_2.index t = ![t.val, 0] ∧ win0_3.index t = ![0, 0]) ∧ win0_4.index t = ![t.val, 0]
    ∧ win0_5.index t = ![t.val, 0] ∧ win0_6.index t = ![t.val, 0] ∧ win0_7.index t = ![0, 0]) t

/-- Row `a` of the block at point `t`. -/
def row (t : Fin cfg0.N) (a : Fin 256) : Fin 8192 :=
  ⟨t.val * 256 + a.val, by have := lt_of_lt_of_eq t.isLt N_0; omega⟩

/-- The incoming gradient's array when the launch begins. -/
theorem incoming_entry (k : Fin 8192) (l : Fin 2560) :
    V m c main_v0 (ix2 k l) = m ((c : Thread nD τ).loc main_arg4) (ix2 k l) := by
  entry_read
  pointwise

/-- The weight's array when the launch begins: its columns lie by owner. -/
theorem weight_entry (p : Fin 4) (r : Fin 1024) (l : Fin 640) :
    V m c main_v3 (ix4 0 p r l) = m ((c : Thread nD τ).loc main_arg2) (ix2 r (column p l)) := by
  entry_read
  pointwise
  rfl

/-- The norm's weights when the launch begins. -/
theorem gain_entry (r : Fin 1024) :
    V m c main_v4 (ix2 0 r) = m ((c : Thread nD τ).loc main_arg1) (ix1 r) := by
  entry_read
  pointwise

theorem incoming_apply (t : Fin cfg0.N) (a : Fin 256) (l : Fin 2560) :
    iblk m c 0 t (ix2 a l) = m ((c : Thread nD τ).loc main_arg4) (ix2 (row t a) l) := by
  rw [← incoming_entry m c]
  unfold row
  blk_ext [iblk, (idx t).1.1]

theorem weight_apply (t : Fin cfg0.N) (p : Fin 4) (r : Fin 1024) (l : Fin 640) :
    iblk m c 1 t (ix4 0 p r l) = m ((c : Thread nD τ).loc main_arg2) (ix2 r (column p l)) := by
  rw [← weight_entry m c]
  blk_ext [iblk, (idx t).1.2.1]

theorem input_apply (t : Fin cfg0.N) (a : Fin 256) (q : Fin 1024) :
    iblk m c 2 t (ix2 a q) = m ((c : Thread nD τ).loc main_arg0) (ix2 (row t a) q) := by
  have e : V m c main_arg0 (ix2 (row t a) q) = m ((c : Thread nD τ).loc main_arg0) (ix2 (row t a) q) := by
    entry_read
    rfl
  rw [← e]
  unfold row
  blk_ext [iblk, (idx t).1.2.2.1]

theorem gain_apply (t : Fin cfg0.N) (q : Fin 1024) :
    iblk m c 3 t (ix2 0 q) = m ((c : Thread nD τ).loc main_arg1) (ix1 q) := by
  rw [← gain_entry m c]
  blk_ext [iblk, (idx t).1.2.2.2]

theorem residual_apply (t : Fin cfg0.N) (a : Fin 256) (q : Fin 1024) :
    iblk m c 4 t (ix2 a q) = m ((c : Thread nD τ).loc main_arg3) (ix2 (row t a) q) := by
  have e : V m c main_arg3 (ix2 (row t a) q) = m ((c : Thread nD τ).loc main_arg3) (ix2 (row t a) q) := by
    entry_read
    rfl
  rw [← e]
  unfold row
  blk_ext [iblk, (idx t).2.1]

/-- The four owners' parts make up the whole product. -/
theorem block_apply (t : Fin cfg0.N) (a : Fin 256) :
    block (iblk m c 0 t) (iblk m c 1 t) (by decide) a
      = normedGradient (m ((c : Thread nD τ).loc main_arg4)) (m ((c : Thread nD τ).loc main_arg2)) (row t a) := by
  funext r
  unfold block normedGradient
  refine Fin.sum_mul_add_congr fun p l hl => ?_
  rw [incoming_apply, weight_apply]
  rfl

/-- The input's gradient of the arrays the launch begins with. -/
def value (k : Fin 8192) (r : Fin 1024) : EReal :=
  inputGradient (m ((c : Thread nD τ).loc main_arg0)) (m ((c : Thread nD τ).loc main_arg1))
    (m ((c : Thread nD τ).loc main_arg2)) (m ((c : Thread nD τ).loc main_arg3))
    (m ((c : Thread nD τ).loc main_arg4)) k r

/-- What the kernel leaves in its first result. -/
def inputResult : Buf (Elt Ideal) ((c : Thread nD τ).loc main_v5_0) := fun i => value m c (i 0) (i 1)

/-- What it leaves in its second. -/
def lowResult : Buf (Elt Ideal) ((c : Thread nD τ).loc main_v5_1) := fun i => value m c (i 0) (i 1)

/-- What it leaves in its third. -/
def gainResult : Buf (Elt Ideal) ((c : Thread nD τ).loc main_v5_2) := fun i =>
  gainGradient (m ((c : Thread nD τ).loc main_arg0)) (m ((c : Thread nD τ).loc main_arg2))
    (m ((c : Thread nD τ).loc main_arg4)) (i 1)

/-- A point's block of the first result. -/
theorem out_apply (t : Fin cfg0.N) (a : Fin 256) (r : Fin 1024) :
    (outsAt0 m c t.val t.isLt).1 (ix2 a r) = value m c (row t a) r := by
  rw [out_row, block_apply, residual_apply]
  simp only [input_apply, gain_apply]
  rfl

theorem final_input : (dats m 0 c).arrAt 5 cfg0.N = inputResult m c := by
  refine (dats m 0 c).arrAt_eq_of_covers 5 _ (by decide +kernel) fun t hf y => ?_
  blk_simp
  rw [after0_5]
  idx_vars y
  rw [out_apply]
  unfold inputResult
  exact congrArg₂ (value m c) (Fin.ext (by blk_simp [row, (idx t).2.2.1])) (Fin.ext (by blk_simp [(idx t).2.2.1]))

theorem final_low : (dats m 0 c).arrAt 6 cfg0.N = lowResult m c := by
  refine (dats m 0 c).arrAt_eq_of_covers 6 _ (by decide +kernel) fun t hf y => ?_
  blk_simp
  rw [after0_6]
  idx_vars y
  rw [out_low, out_apply]
  unfold lowResult
  exact congrArg₂ (value m c) (Fin.ext (by blk_simp [row, (idx t).2.2.2.1])) (Fin.ext (by blk_simp [(idx t).2.2.2.1]))

/-- One point's share of the norm's gradient, as rows of the whole arrays. -/
theorem share_eq (t : Fin cfg0.N) (r : Fin 1024) :
    share (products (iblk m c 0 t) (iblk m c 1 t)) (iblk m c 2 t) r
      = ∑ k : Fin 256, gainTerm (m ((c : Thread nD τ).loc main_arg0)) (m ((c : Thread nD τ).loc main_arg2))
          (m ((c : Thread nD τ).loc main_arg4)) (row t k) r := by
  unfold share gainTerm
  refine Finset.sum_congr rfl fun k _ => ?_
  rw [products_apply, block_apply]
  simp only [input_apply]

/-- After the last point the norm's gradient holds all points' shares. -/
theorem gain_last (t : Fin cfg0.N) (h : t.val % 32 = 31) (a : Fin 1) (r : Fin 1024) :
    (outsAt0 m c t.val t.isLt).2.2 (ix2 a r)
      = gainGradient (m ((c : Thread nD τ).loc main_arg0)) (m ((c : Thread nD τ).loc main_arg2))
          (m ((c : Thread nD τ).loc main_arg4)) r := by
  refine (Pipeline.eq_sum_fin_of_reset_step_of_flush (fun n h => (outsAt0 m c n h).2.2 (ix2 a r)) 32 0
    (fun t => share (products (iblk m c 0 t) (iblk m c 1 t)) (iblk m c 2 t) r)
    (fun t h => gain_first m c t h a r) (fun t h => gain_next m c t h a r) t h).trans ?_
  rw [zero_add]
  unfold gainGradient
  simp only [share_eq]
  refine Fin.sum_mul_add_congr fun s k hk => ?_
  have e : row ⟨32 * (t.val / 32) + s.val, Pipeline.run_point_lt_of_flush t h s⟩ k = ⟨s.val * 256 + k.val, hk⟩ := by
    have := lt_of_lt_of_eq t.isLt N_0
    apply Fin.ext
    show (32 * (t.val / 32) + s.val) * 256 + k.val = s.val * 256 + k.val
    omega
  rw [e]

theorem final_gain : (dats m 0 c).arrAt 7 cfg0.N = gainResult m c := by
  refine (dats m 0 c).arrAt_eq_of_covers 7 _ (by decide +kernel) fun t hf y => ?_
  blk_simp
  rw [after0_7]
  have h := (flush0_7 t).mp hf
  idx_vars y
  rw [gain_last m c t h]
  unfold gainResult
  congr 1 <;> (apply Fin.ext; blk_simp [(idx t).2.2.2.2])

end Cert.MixInput

end
-- ==== Proof.Mix.Equal.lean ====
/- The claim for the gradient through the attention layers' input projection: the kernel's run and the reference's run end with the same three results. -/
module

public import proofs.«01_k».proof.Defs
public import proofs.«01_k».proof.Proof.Mix.Array
public import proofs.«01_k».proof.Proof.Gen.MixReferenceIdeal.Run
public import proofs.«01_k».proof.Proof.Gen.MixReferenceIdeal.Read

@[expose] public section

set_option maxRecDepth 16384

noncomputable section

namespace Cert.MixInput

open Idealize.ShloMosaic Idealize.SL.Sem
open Cert.MixReferenceIdeal Cert.MixReferenceIdeal.Gen Cert.MixReferenceIdeal.Read
open Cert.InputGradient (inputGradient gainGradient)

theorem reference_input (x : Vec Ideal S8192x1024 .f32) (g : Vec Ideal S1024 .f32) (w : Vec Ideal S1024x2560 .f32)
    (e : Vec Ideal S8192x1024 .f32) (d : Vec Ideal S8192x2560 .f32) (k : Fin 8192) (r : Fin 1024) :
    val_main_v40 (F := Ideal) x g w e d (ix2 k r) = inputGradient x g w e d k r := by
  pointwise [val_main_v40, val_main_v39, val_main_v38, val_main_v37, val_main_v36, val_main_v35, val_main_v34,
    val_main_v33, val_main_v32, val_main_v31, val_main_v30, val_main_v29, val_main_v28, val_main_v27, val_main_v26,
    val_main_v24, val_main_v23, val_main_v19, val_main_v13, val_main_v10, val_main_v9, val_main_v8, val_main_v7,
    val_main_v6, val_main_v5, val_main_v4, val_main_v3, val_main_v2, val_main_v1, val_main_v0,
    val_main_cst, val_main_cst_0, val_main_cst_1, val_main_cst_2, val_main_cst_5, val_main_cst_6, val_main_cst_7]
  simp only [Fintype.sum_unique]
  rfl

theorem reference_low (x : Vec Ideal S8192x1024 .f32) (g : Vec Ideal S1024 .f32) (w : Vec Ideal S1024x2560 .f32)
    (e : Vec Ideal S8192x1024 .f32) (d : Vec Ideal S8192x2560 .f32) (k : Fin 8192) (r : Fin 1024) :
    val_main_v41 (F := Ideal) x g w e d (ix2 k r) = inputGradient x g w e d k r :=
  reference_input x g w e d k r

theorem reference_gain (x : Vec Ideal S8192x1024 .f32) (w : Vec Ideal S1024x2560 .f32)
    (d : Vec Ideal S8192x2560 .f32) (a : Fin 1) (r : Fin 1024) :
    val_main_v42 (F := Ideal) x w d (ix2 a r) = gainGradient x w d r := by
  pointwise [val_main_v42, val_main_v25, val_main_v22, val_main_v21, val_main_v20, val_main_v19, val_main_v12,
    val_main_v11, val_main_v7,
    val_main_v6, val_main_v5, val_main_v4, val_main_v3, val_main_v2, val_main_v1, val_main_v0,
    val_main_cst, val_main_cst_0, val_main_cst_1, val_main_cst_3, val_main_cst_4]
  simp only [Fintype.sum_unique]
  rfl

theorem input_eq (x : Vec Ideal S8192x1024 .f32) (g : Vec Ideal S1024 .f32) (w : Vec Ideal S1024x2560 .f32)
    (e : Vec Ideal S8192x1024 .f32) (d : Vec Ideal S8192x2560 .f32) :
    val_main_v40 (F := Ideal) x g w e d = fun i => inputGradient x g w e d (i 0) (i 1) := by
  funext i
  idx_vars i
  exact reference_input x g w e d _ _

theorem low_eq (x : Vec Ideal S8192x1024 .f32) (g : Vec Ideal S1024 .f32) (w : Vec Ideal S1024x2560 .f32)
    (e : Vec Ideal S8192x1024 .f32) (d : Vec Ideal S8192x2560 .f32) :
    val_main_v41 (F := Ideal) x g w e d = fun i => inputGradient x g w e d (i 0) (i 1) := by
  funext i
  idx_vars i
  exact reference_low x g w e d _ _

theorem gain_eq (x : Vec Ideal S8192x1024 .f32) (w : Vec Ideal S1024x2560 .f32) (d : Vec Ideal S8192x2560 .f32) :
    val_main_v42 (F := Ideal) x w d = fun i => gainGradient x w d (i 1) := by
  funext i
  idx_vars i
  exact reference_gain x w d _ _

theorem algebraic : Cert.algebraic_MixKernelIdeal_MixReferenceIdeal
    (hMixKernelIdeal := Cert.MixKernelIdeal.Gen.facts) (hMixReferenceIdeal := Cert.MixReferenceIdeal.Gen.facts) := by
  intro m ρ m' ρ' _ hargs
  refine ⟨fun c => inputResult m c, fun c => lowResult m c, fun c => gainResult m c, ?_, ?_⟩
  · refine (θ_run _ _ _).mono (fun r h c => ?_) (Cert.MixKernelIdeal.Value.run_blocks m ρ)
    exact ⟨(h c).1.trans (final_input m c), (h c).2.1.trans (final_low m c),
      (h c).2.2.1.trans (final_gain m c), (h c).2.2.2⟩
  · refine (θ_run _ _ _).mono (fun r h c => ?_) (Cert.MixReferenceIdeal.Value.run m' ρ')
    obtain ⟨a0, a1, a2, a3, a4⟩ := hargs c
    refine ⟨(h c).1.trans ?_, (h c).2.1.trans ?_, (h c).2.2.1.trans ?_, (h c).2.2.2⟩
    · rw [val_main_v40_eq, input_eq, a0, a1, a2, a3, a4]
      rfl
    · rw [val_main_v41_eq, low_eq, a0, a1, a2, a3, a4]
      rfl
    · refine (val_main_v42_eq _ _ _).trans ?_
      rw [gain_eq, a0, a2, a4]
      rfl

end Cert.MixInput

end
-- ==== Proof.MixWeight.Array.lean ====
/- The gradient of the weight of the attention layers' input projection: one point's product, and the result array
   after the run, at every index the sum over all 8192 rows, collected from the four blocks of rows that one block of the
   result accumulates. -/
module

public import proofs.«01_k».proof.Proof.Gen.MixWeightKernelIdeal.Value
public import proofs.«01_k».proof.Proof.Weight.Spec
public import Idealize.ShloMosaic.Lib.Pipeline.ValueKit
public import Idealize.ShloMosaic.Lib.Pipeline.ReadBack

@[expose] public section

set_option maxRecDepth 16384

noncomputable section

namespace Cert.MixWeight

open Cert.MixWeightKernelIdeal Cert.MixWeightKernelIdeal.Gen Idealize.ShloMosaic Idealize.ShloMosaic.TcCoe
open Cert.WeightGradient (prod normed scale gradient)

theorem first_apply (X : Vec Ideal S2048x1024 .bf16) (Y : Vec Ideal S2048x640 .bf16) (r : Fin 1024) (l : Fin 640) :
    k0_pay2 (F := Ideal) X Y (ix2 r l) = prod X Y r l := by
  unfold_payloads
  pointwise [prod]

theorem next_apply (X : Vec Ideal S2048x1024 .bf16) (Y : Vec Ideal S2048x640 .bf16) (A : Vec Ideal S1024x640 .f32)
    (r : Fin 1024) (l : Fin 640) :
    k0_pay3 (F := Ideal) X Y A (ix2 r l) = A (ix2 r l) + prod X Y r l := by
  unfold_payloads
  pointwise [prod]

theorem last_apply (A : Vec Ideal S1024x640 .f32) (a b : Fin 1) (r : Fin 1024) (l : Fin 640) :
    k0_pay4 (F := Ideal) A (ix4 a b r l) = A (ix2 r l) := by
  unfold_payloads
  pointwise

variable (m : (ℓ : Loc nD τ sig) → Buf (Elt Ideal) ℓ) (c : Dev nD)

/-- The accumulator after the first point of a run. -/
theorem acc_first (t : Fin cfg0.N) (h : t.val % 4 = 0) (r : Fin 1024) (l : Fin 640) :
    (outsAt0 m c t.val t.isLt).2 (ix2 r l) = prod (iblk m c 0 t) (iblk m c 1 t) r l := by
  rw [outsAt0_A m c t h (by omega) (by omega)]
  frame_out
  exact first_apply _ _ r l

/-- The accumulator after any other point: what the point before left, with the point's product added. -/
theorem acc_next (t : Fin cfg0.N) (h : ¬t.val % 4 = 0) (r : Fin 1024) (l : Fin 640) :
    (outsAt0 m c t.val t.isLt).2 (ix2 r l)
      = (outsAt0 m c (t.val - 1) (Nat.lt_of_le_of_lt (Nat.sub_le _ _) t.isLt)).2 (ix2 r l)
        + prod (iblk m c 0 t) (iblk m c 1 t) r l := by
  by_cases h3 : t.val % 4 = 3
  · rw [outsAt0_C m c t h (by omega) h3]
    frame_out
    rw [next_apply]
    simp only [read_unread_whole]
  · rw [outsAt0_B m c t h (by omega) h3]
    frame_out
    rw [next_apply]
    simp only [read_unread_whole]

/-- At the last point of a run the result's block is the accumulator. -/
theorem out_last (t : Fin cfg0.N) (h : t.val % 4 = 3) (a b : Fin 1) (r : Fin 1024) (l : Fin 640) :
    (outsAt0 m c t.val t.isLt).1 (ix4 a b r l) = (outsAt0 m c t.val t.isLt).2 (ix2 r l) := by
  rw [outsAt0_C m c t (by omega) (by omega) h]
  frame_out
  exact last_apply _ a b r l

/-- Where each window's block lies at point `t`. -/
theorem idx (t : Fin cfg0.N) : win0_0.index t = ![t.val % 4, 0] ∧ win0_1.index t = ![t.val % 4, t.val / 4]
    ∧ win0_2.index t = ![0, t.val / 4, 0, 0] :=
  (by decide +kernel : ∀ t : Fin grid0.N, win0_0.index t = ![t.val % 4, 0] ∧ win0_1.index t = ![t.val % 4, t.val / 4]
    ∧ win0_2.index t = ![0, t.val / 4, 0, 0]) t

/-- The activations' array when the launch begins: the host has normalised the activations. -/
theorem left_entry (k : Fin 8192) (r : Fin 1024) :
    V m c main_v13 (ix2 k r)
      = normed (m ((c : Thread nD τ).loc main_arg0)) (m ((c : Thread nD τ).loc main_arg1)) k r := by
  entry_read
  pointwise [normed, scale]

/-- The incoming gradient's array when the launch begins. -/
theorem right_entry (k : Fin 8192) (l : Fin 2560) :
    V m c main_v14 (ix2 k l) = m ((c : Thread nD τ).loc main_arg2) (ix2 k l) := by
  entry_read
  pointwise

/-- The activations' block at point `t`: rows `2048 (t mod 4) …` of the normalised activations. -/
theorem left_apply (t : Fin cfg0.N) (k : Fin 2048) (r : Fin 1024) :
    iblk m c 0 t (ix2 k r) = normed (m ((c : Thread nD τ).loc main_arg0)) (m ((c : Thread nD τ).loc main_arg1))
      ⟨t.val % 4 * 2048 + k.val, by omega⟩ r := by
  rw [← left_entry]
  blk_ext [iblk, (idx t).1]

/-- The incoming gradient's block at point `t`. -/
theorem right_apply (t : Fin cfg0.N) (k : Fin 2048) (l : Fin 640) (h : t.val / 4 < 4) :
    iblk m c 1 t (ix2 k l) = m ((c : Thread nD τ).loc main_arg2)
      (ix2 ⟨t.val % 4 * 2048 + k.val, by omega⟩ (column ⟨t.val / 4, h⟩ l)) := by
  rw [← right_entry m c]
  unfold column
  blk_ext [iblk, (idx t).2.1]

/-- The accumulator at a run's last point: the four blocks' products. -/
theorem acc_last (t : Fin cfg0.N) (h : t.val % 4 = 3) (r : Fin 1024) (l : Fin 640) :
    (outsAt0 m c t.val t.isLt).2 (ix2 r l)
      = ∑ s : Fin 4, prod (iblk m c 0 ⟨4 * (t.val / 4) + s.val, Pipeline.run_point_lt_of_flush t h s⟩)
          (iblk m c 1 ⟨4 * (t.val / 4) + s.val, Pipeline.run_point_lt_of_flush t h s⟩) r l := by
  refine (Pipeline.eq_sum_fin_of_reset_step_of_flush (fun n h => (outsAt0 m c n h).2 (ix2 r l)) 4 0
    (fun t => prod (iblk m c 0 t) (iblk m c 1 t) r l)
    (fun t h => (acc_first m c t h r l).trans (zero_add _).symm) (fun t h => acc_next m c t h r l) t h).trans ?_
  exact zero_add _

/-- What the kernel leaves in the result: the gradient. -/
def result : Buf (Elt Ideal) ((c : Thread nD τ).loc main_v15) := fun i =>
  gradient (m ((c : Thread nD τ).loc main_arg0)) (m ((c : Thread nD τ).loc main_arg1))
    (m ((c : Thread nD τ).loc main_arg2)) (i 2) (column (b := 640) (i 1) (i 3))

/-- The block written back at a run's last point. -/
theorem out_apply (t : Fin cfg0.N) (h : t.val % 4 = 3) (hp : t.val / 4 < 4) (a b : Fin 1) (r : Fin 1024) (l : Fin 640) :
    (outsAt0 m c t.val t.isLt).1 (ix4 a b r l)
      = gradient (m ((c : Thread nD τ).loc main_arg0)) (m ((c : Thread nD τ).loc main_arg1))
          (m ((c : Thread nD τ).loc main_arg2)) r (column ⟨t.val / 4, hp⟩ l) := by
  rw [out_last m c t h, acc_last m c t h]
  unfold gradient prod
  refine Fin.sum_mul_add_congr fun s k hk => ?_
  rw [left_apply, right_apply _ _ _ _ _ (by show (4 * (t.val / 4) + s.val) / 4 < 4; omega)]
  have e1 : (4 * (t.val / 4) + s.val) % 4 = s.val := by omega
  have e2 : (4 * (t.val / 4) + s.val) / 4 = t.val / 4 := by omega
  simp only [e1, e2]

theorem final : (dats m 0 c).arrAt 2 cfg0.N = result m c := by
  refine (dats m 0 c).arrAt_eq_of_covers 2 _ (by decide +kernel) fun t hf y => ?_
  blk_simp
  rw [after0_2]
  have h3 := (flush0_2 t).mp hf
  have hN : t.val < 16 := lt_of_lt_of_eq t.isLt N_0
  idx_vars y
  rw [out_apply m c t h3 (by omega)]
  unfold result
  exact congrArg₂ (gradient _ _ _) (Fin.ext (by blk_simp [(idx t).2.2])) (Fin.ext (by blk_simp [column, (idx t).2.2]))

end Cert.MixWeight

end
-- ==== Proof.MixWeight.Equal.lean ====
/- The claim for the gradient of the weight of the attention layers' input projection. -/
module

public import proofs.«01_k».proof.Defs
public import proofs.«01_k».proof.Proof.MixWeight.Array
public import proofs.«01_k».proof.Proof.Gen.MixWeightReferenceIdeal.Run
public import proofs.«01_k».proof.Proof.Gen.MixWeightReferenceIdeal.Read

@[expose] public section

set_option maxRecDepth 16384

noncomputable section

namespace Cert.MixWeight

open Idealize.ShloMosaic Idealize.SL.Sem

open Cert.WeightGradient (normed scale gradient)
open Cert.MixWeightReferenceIdeal Cert.MixWeightReferenceIdeal.Gen Cert.MixWeightReferenceIdeal.Read in
/-- What the reference computes. -/
theorem reference_apply (x : Vec Ideal S8192x1024 .f32) (g : Vec Ideal S1024 .f32) (d : Vec Ideal S8192x2560 .f32)
    (a : Fin 1) (p : Fin 4) (r : Fin 1024) (l : Fin 640) :
    val_main_v19 (F := Ideal) x g d (ix4 a p r l) = gradient x g d r (column p l) := by
  pointwise [val_main_v19, val_main_v18, val_main_v17, val_main_v16, val_main_v15, val_main_v13, val_main_v12,
    val_main_v11, val_main_v10, val_main_v9, val_main_v8, val_main_v7, val_main_v6, val_main_v5, val_main_v4,
    val_main_v3, val_main_v2, val_main_v1, val_main_cst_0, val_main_cst_1, val_main_cst_2]
  unfold gradient normed scale
  exact Finset.sum_congr rfl fun k _ => mul_comm _ _

/-- The reference's whole result. -/
theorem reference_eq (x : Vec Ideal Cert.MixWeightReferenceIdeal.S8192x1024 .f32)
    (g : Vec Ideal Cert.MixWeightReferenceIdeal.S1024 .f32) (d : Vec Ideal Cert.MixWeightReferenceIdeal.S8192x2560 .f32) :
    Cert.MixWeightReferenceIdeal.Read.val_main_v19 (F := Ideal) x g d
      = fun i => gradient x g d (i 2) (column (b := 640) (i 1) (i 3)) := by
  funext i
  idx_vars i
  exact reference_apply x g d _ _ _ _

theorem algebraic : Cert.algebraic_MixWeightKernelIdeal_MixWeightReferenceIdeal
    (hMixWeightKernelIdeal := Cert.MixWeightKernelIdeal.Gen.facts)
    (hMixWeightReferenceIdeal := Cert.MixWeightReferenceIdeal.Gen.facts) := by
  intro m ρ m' ρ' _ hargs
  refine ⟨fun c => result m c, ?_, ?_⟩
  · refine (θ_run _ _ _).mono (fun r h c => ?_) (Cert.MixWeightKernelIdeal.Value.run_blocks m ρ)
    exact ⟨(h c).1.trans (final m c), (h c).2⟩
  · refine (θ_run _ _ _).mono (fun r h c => ?_) (Cert.MixWeightReferenceIdeal.Value.run m' ρ')
    refine ⟨(h c).1.trans ?_, (h c).2⟩
    rw [Cert.MixWeightReferenceIdeal.Read.val_main_v19_eq, reference_eq, (hargs c).1, (hargs c).2.1, (hargs c).2.2]
    rfl

end Cert.MixWeight

end
-- ==== Proof.ConvWeight.Array.lean ====
/- The gradient of the weight of the convolution layers' first projection: one point's product, and the result array
   after the run, at every index the sum over all 8192 rows, collected from the four blocks of rows that one block of the
   result accumulates. -/
module

public import proofs.«01_k».proof.Proof.Gen.ConvWeightKernelIdeal.Value
public import proofs.«01_k».proof.Proof.Weight.Spec
public import Idealize.ShloMosaic.Lib.Pipeline.ValueKit
public import Idealize.ShloMosaic.Lib.Pipeline.ReadBack

@[expose] public section

set_option maxRecDepth 16384

noncomputable section

namespace Cert.ConvWeight

open Cert.ConvWeightKernelIdeal Cert.ConvWeightKernelIdeal.Gen Idealize.ShloMosaic Idealize.ShloMosaic.TcCoe
open Cert.WeightGradient (prod normed scale gradient)

theorem first_apply (X : Vec Ideal S2048x1024 .bf16) (Y : Vec Ideal S2048x512 .bf16) (r : Fin 1024) (l : Fin 512) :
    k0_pay2 (F := Ideal) X Y (ix2 r l) = prod X Y r l := by
  unfold_payloads
  pointwise [prod]

theorem next_apply (X : Vec Ideal S2048x1024 .bf16) (Y : Vec Ideal S2048x512 .bf16) (A : Vec Ideal S1024x512 .f32)
    (r : Fin 1024) (l : Fin 512) :
    k0_pay3 (F := Ideal) X Y A (ix2 r l) = A (ix2 r l) + prod X Y r l := by
  unfold_payloads
  pointwise [prod]

theorem last_apply (A : Vec Ideal S1024x512 .f32) (a b : Fin 1) (r : Fin 1024) (l : Fin 512) :
    k0_pay4 (F := Ideal) A (ix4 a b r l) = A (ix2 r l) := by
  unfold_payloads
  pointwise

variable (m : (ℓ : Loc nD τ sig) → Buf (Elt Ideal) ℓ) (c : Dev nD)

/-- The accumulator after the first point of a run. -/
theorem acc_first (t : Fin cfg0.N) (h : t.val % 4 = 0) (r : Fin 1024) (l : Fin 512) :
    (outsAt0 m c t.val t.isLt).2 (ix2 r l) = prod (iblk m c 0 t) (iblk m c 1 t) r l := by
  rw [outsAt0_A m c t h (by omega) (by omega)]
  frame_out
  exact first_apply _ _ r l

/-- The accumulator after any other point: what the point before left, with the point's product added. -/
theorem acc_next (t : Fin cfg0.N) (h : ¬t.val % 4 = 0) (r : Fin 1024) (l : Fin 512) :
    (outsAt0 m c t.val t.isLt).2 (ix2 r l)
      = (outsAt0 m c (t.val - 1) (Nat.lt_of_le_of_lt (Nat.sub_le _ _) t.isLt)).2 (ix2 r l)
        + prod (iblk m c 0 t) (iblk m c 1 t) r l := by
  by_cases h3 : t.val % 4 = 3
  · rw [outsAt0_C m c t h (by omega) h3]
    frame_out
    rw [next_apply]
    simp only [read_unread_whole]
  · rw [outsAt0_B m c t h (by omega) h3]
    frame_out
    rw [next_apply]
    simp only [read_unread_whole]

/-- At the last point of a run the result's block is the accumulator. -/
theorem out_last (t : Fin cfg0.N) (h : t.val % 4 = 3) (a b : Fin 1) (r : Fin 1024) (l : Fin 512) :
    (outsAt0 m c t.val t.isLt).1 (ix4 a b r l) = (outsAt0 m c t.val t.isLt).2 (ix2 r l) := by
  rw [outsAt0_C m c t (by omega) (by omega) h]
  frame_out
  exact last_apply _ a b r l

/-- Where each window's block lies at point `t`. -/
theorem idx (t : Fin cfg0.N) : win0_0.index t = ![t.val % 4, 0] ∧ win0_1.index t = ![t.val % 4, t.val / 4]
    ∧ win0_2.index t = ![0, t.val / 4, 0, 0] :=
  (by decide +kernel : ∀ t : Fin grid0.N, win0_0.index t = ![t.val % 4, 0] ∧ win0_1.index t = ![t.val % 4, t.val / 4]
    ∧ win0_2.index t = ![0, t.val / 4, 0, 0]) t

/-- The activations' array when the launch begins: the host has normalised the activations. -/
theorem left_entry (k : Fin 8192) (r : Fin 1024) :
    V m c main_v13 (ix2 k r)
      = normed (m ((c : Thread nD τ).loc main_arg0)) (m ((c : Thread nD τ).loc main_arg1)) k r := by
  entry_read
  pointwise [normed, scale]

/-- The incoming gradient's array when the launch begins. -/
theorem right_entry (k : Fin 8192) (l : Fin 2048) :
    V m c main_v14 (ix2 k l) = m ((c : Thread nD τ).loc main_arg2) (ix2 k l) := by
  entry_read
  pointwise

/-- The activations' block at point `t`: rows `2048 (t mod 4) …` of the normalised activations. -/
theorem left_apply (t : Fin cfg0.N) (k : Fin 2048) (r : Fin 1024) :
    iblk m c 0 t (ix2 k r) = normed (m ((c : Thread nD τ).loc main_arg0)) (m ((c : Thread nD τ).loc main_arg1))
      ⟨t.val % 4 * 2048 + k.val, by omega⟩ r := by
  rw [← left_entry]
  blk_ext [iblk, (idx t).1]

/-- The incoming gradient's block at point `t`. -/
theorem right_apply (t : Fin cfg0.N) (k : Fin 2048) (l : Fin 512) (h : t.val / 4 < 4) :
    iblk m c 1 t (ix2 k l) = m ((c : Thread nD τ).loc main_arg2)
      (ix2 ⟨t.val % 4 * 2048 + k.val, by omega⟩ (column ⟨t.val / 4, h⟩ l)) := by
  rw [← right_entry m c]
  unfold column
  blk_ext [iblk, (idx t).2.1]

/-- The accumulator at a run's last point: the four blocks' products. -/
theorem acc_last (t : Fin cfg0.N) (h : t.val % 4 = 3) (r : Fin 1024) (l : Fin 512) :
    (outsAt0 m c t.val t.isLt).2 (ix2 r l)
      = ∑ s : Fin 4, prod (iblk m c 0 ⟨4 * (t.val / 4) + s.val, Pipeline.run_point_lt_of_flush t h s⟩)
          (iblk m c 1 ⟨4 * (t.val / 4) + s.val, Pipeline.run_point_lt_of_flush t h s⟩) r l := by
  refine (Pipeline.eq_sum_fin_of_reset_step_of_flush (fun n h => (outsAt0 m c n h).2 (ix2 r l)) 4 0
    (fun t => prod (iblk m c 0 t) (iblk m c 1 t) r l)
    (fun t h => (acc_first m c t h r l).trans (zero_add _).symm) (fun t h => acc_next m c t h r l) t h).trans ?_
  exact zero_add _

/-- What the kernel leaves in the result: the gradient. -/
def result : Buf (Elt Ideal) ((c : Thread nD τ).loc main_v15) := fun i =>
  gradient (m ((c : Thread nD τ).loc main_arg0)) (m ((c : Thread nD τ).loc main_arg1))
    (m ((c : Thread nD τ).loc main_arg2)) (i 2) (column (b := 512) (i 1) (i 3))

/-- The block written back at a run's last point. -/
theorem out_apply (t : Fin cfg0.N) (h : t.val % 4 = 3) (hp : t.val / 4 < 4) (a b : Fin 1) (r : Fin 1024) (l : Fin 512) :
    (outsAt0 m c t.val t.isLt).1 (ix4 a b r l)
      = gradient (m ((c : Thread nD τ).loc main_arg0)) (m ((c : Thread nD τ).loc main_arg1))
          (m ((c : Thread nD τ).loc main_arg2)) r (column ⟨t.val / 4, hp⟩ l) := by
  rw [out_last m c t h, acc_last m c t h]
  unfold gradient prod
  refine Fin.sum_mul_add_congr fun s k hk => ?_
  rw [left_apply, right_apply _ _ _ _ _ (by show (4 * (t.val / 4) + s.val) / 4 < 4; omega)]
  have e1 : (4 * (t.val / 4) + s.val) % 4 = s.val := by omega
  have e2 : (4 * (t.val / 4) + s.val) / 4 = t.val / 4 := by omega
  simp only [e1, e2]

theorem final : (dats m 0 c).arrAt 2 cfg0.N = result m c := by
  refine (dats m 0 c).arrAt_eq_of_covers 2 _ (by decide +kernel) fun t hf y => ?_
  blk_simp
  rw [after0_2]
  have h3 := (flush0_2 t).mp hf
  have hN : t.val < 16 := lt_of_lt_of_eq t.isLt N_0
  idx_vars y
  rw [out_apply m c t h3 (by omega)]
  unfold result
  exact congrArg₂ (gradient _ _ _) (Fin.ext (by blk_simp [(idx t).2.2])) (Fin.ext (by blk_simp [column, (idx t).2.2]))

end Cert.ConvWeight

end
-- ==== Proof.ConvWeight.Equal.lean ====
/- The claim for the gradient of the weight of the convolution layers' first projection. -/
module

public import proofs.«01_k».proof.Defs
public import proofs.«01_k».proof.Proof.ConvWeight.Array
public import proofs.«01_k».proof.Proof.Gen.ConvWeightReferenceIdeal.Run
public import proofs.«01_k».proof.Proof.Gen.ConvWeightReferenceIdeal.Read

@[expose] public section

set_option maxRecDepth 16384

noncomputable section

namespace Cert.ConvWeight

open Idealize.ShloMosaic Idealize.SL.Sem

open Cert.WeightGradient (normed scale gradient)
open Cert.ConvWeightReferenceIdeal Cert.ConvWeightReferenceIdeal.Gen Cert.ConvWeightReferenceIdeal.Read in
/-- What the reference computes. -/
theorem reference_apply (x : Vec Ideal S8192x1024 .f32) (g : Vec Ideal S1024 .f32) (d : Vec Ideal S8192x2048 .f32)
    (a : Fin 1) (p : Fin 4) (r : Fin 1024) (l : Fin 512) :
    val_main_v19 (F := Ideal) x g d (ix4 a p r l) = gradient x g d r (column p l) := by
  pointwise [val_main_v19, val_main_v18, val_main_v17, val_main_v16, val_main_v15, val_main_v13, val_main_v12,
    val_main_v11, val_main_v10, val_main_v9, val_main_v8, val_main_v7, val_main_v6, val_main_v5, val_main_v4,
    val_main_v3, val_main_v2, val_main_v1, val_main_cst_0, val_main_cst_1, val_main_cst_2]
  unfold gradient normed scale
  exact Finset.sum_congr rfl fun k _ => mul_comm _ _

/-- The reference's whole result. -/
theorem reference_eq (x : Vec Ideal Cert.ConvWeightReferenceIdeal.S8192x1024 .f32)
    (g : Vec Ideal Cert.ConvWeightReferenceIdeal.S1024 .f32) (d : Vec Ideal Cert.ConvWeightReferenceIdeal.S8192x2048 .f32) :
    Cert.ConvWeightReferenceIdeal.Read.val_main_v19 (F := Ideal) x g d
      = fun i => gradient x g d (i 2) (column (b := 512) (i 1) (i 3)) := by
  funext i
  idx_vars i
  exact reference_apply x g d _ _ _ _

theorem algebraic : Cert.algebraic_ConvWeightKernelIdeal_ConvWeightReferenceIdeal
    (hConvWeightKernelIdeal := Cert.ConvWeightKernelIdeal.Gen.facts)
    (hConvWeightReferenceIdeal := Cert.ConvWeightReferenceIdeal.Gen.facts) := by
  intro m ρ m' ρ' _ hargs
  refine ⟨fun c => result m c, ?_, ?_⟩
  · refine (θ_run _ _ _).mono (fun r h c => ?_) (Cert.ConvWeightKernelIdeal.Value.run_blocks m ρ)
    exact ⟨(h c).1.trans (final m c), (h c).2⟩
  · refine (θ_run _ _ _).mono (fun r h c => ?_) (Cert.ConvWeightReferenceIdeal.Value.run m' ρ')
    refine ⟨(h c).1.trans ?_, (h c).2⟩
    rw [Cert.ConvWeightReferenceIdeal.Read.val_main_v19_eq, reference_eq, (hargs c).1, (hargs c).2.1, (hargs c).2.2]
    rfl

end Cert.ConvWeight

end
-- ==== Proof.SquareWeight.Array.lean ====
/- The gradient of the weight of a mixer's output projection, 1024 rows and 1024 columns: the formula, one point's product,
   and the result array after the run, at every index the sum over all 8192 rows, collected from four blocks of rows. -/
module

public import proofs.«01_k».proof.Proof.Gen.SquareWeightKernelIdeal.Value
public import proofs.«01_k».proof.Proof.Weight.Spec
public import Idealize.ShloMosaic.Lib.Pointwise
public import Idealize.ShloMosaic.Lib.Pipeline.ValueKit
public import Idealize.ShloMosaic.Lib.Pipeline.ReadBack

@[expose] public section

set_option maxRecDepth 16384

noncomputable section

namespace Cert.SquareWeight

open Idealize.ShloMosaic Idealize.ShloMosaic.TcCoe

open Cert.SquareWeightKernelIdeal Cert.SquareWeightKernelIdeal.Gen

open Cert.WeightGradient (prod)

theorem first_apply (X : Vec Ideal S2048x1024 .bf16) (Y : Vec Ideal S2048x1024 .bf16) (l : Fin 1024) (r : Fin 1024) :
    k0_pay2 (F := Ideal) X Y (ix2 l r) = prod X Y l r := by
  unfold_payloads
  pointwise [prod]

theorem next_apply (X : Vec Ideal S2048x1024 .bf16) (Y : Vec Ideal S2048x1024 .bf16) (A : Vec Ideal S1024x1024 .f32)
    (l : Fin 1024) (r : Fin 1024) :
    k0_pay3 (F := Ideal) X Y A (ix2 l r) = A (ix2 l r) + prod X Y l r := by
  unfold_payloads
  pointwise [prod]

theorem last_apply (A : Vec Ideal S1024x1024 .f32) (a b : Fin 1) (l : Fin 1024) (r : Fin 1024) :
    k0_pay4 (F := Ideal) A (ix4 a b l r) = A (ix2 l r) := by
  unfold_payloads
  pointwise

/-- The gradient at row `l` and column `r` of the weight. -/
def product (a d : (⟨2, ![8192, 1024]⟩ : Shape).Idx → EReal) (l r : Fin 1024) : EReal :=
  ∑ k : Fin 8192, a (ix2 k l) * d (ix2 k r)

variable (m : (ℓ : Loc nD τ sig) → Buf (Elt Ideal) ℓ) (c : Dev nD)

/-- The accumulator after the first point of a run. -/
theorem acc_first (t : Fin cfg0.N) (h : t.val % 4 = 0) (l : Fin 1024) (r : Fin 1024) :
    (outsAt0 m c t.val t.isLt).2 (ix2 l r) = prod (iblk m c 0 t) (iblk m c 1 t) l r := by
  have hN : t.val < 4 := lt_of_lt_of_eq t.isLt N_0
  rw [outsAt0_A m c t h (by omega) (by omega)]
  frame_out
  exact first_apply _ _ l r

/-- The accumulator after any other point: what the point before left, with the point's product added. -/
theorem acc_next (t : Fin cfg0.N) (h : ¬t.val % 4 = 0) (l : Fin 1024) (r : Fin 1024) :
    (outsAt0 m c t.val t.isLt).2 (ix2 l r)
      = (outsAt0 m c (t.val - 1) (Nat.lt_of_le_of_lt (Nat.sub_le _ _) t.isLt)).2 (ix2 l r)
        + prod (iblk m c 0 t) (iblk m c 1 t) l r := by
  by_cases h3 : t.val % 4 = 3
  · rw [outsAt0_C m c t h (by omega) h3]
    frame_out
    rw [next_apply]
    simp only [read_unread_whole]
  · rw [outsAt0_B m c t h (by omega) h3]
    frame_out
    rw [next_apply]
    simp only [read_unread_whole]

/-- At the last point of a run the result's block is the accumulator. -/
theorem out_last (t : Fin cfg0.N) (h : t.val % 4 = 3) (a b : Fin 1) (l : Fin 1024) (r : Fin 1024) :
    (outsAt0 m c t.val t.isLt).1 (ix4 a b l r) = (outsAt0 m c t.val t.isLt).2 (ix2 l r) := by
  rw [outsAt0_C m c t (by omega) (by omega) h]
  frame_out
  exact last_apply _ a b l r

/-- Where each window's block lies at point `t`. -/
theorem idx (t : Fin cfg0.N) : win0_0.index t = ![t.val % 4, 0] ∧ win0_1.index t = ![t.val % 4, 0]
    ∧ win0_2.index t = ![0, 0, 0, 0] :=
  (by decide +kernel : ∀ t : Fin grid0.N, win0_0.index t = ![t.val % 4, 0] ∧ win0_1.index t = ![t.val % 4, 0]
    ∧ win0_2.index t = ![0, 0, 0, 0]) t

theorem activation_entry (k : Fin 8192) (l : Fin 1024) :
    V m c main_v0 (ix2 k l) = m ((c : Thread nD τ).loc main_arg0) (ix2 k l) := by
  entry_read
  pointwise

theorem incoming_entry (k : Fin 8192) (r : Fin 1024) :
    V m c main_v1 (ix2 k r) = m ((c : Thread nD τ).loc main_arg1) (ix2 k r) := by
  entry_read
  pointwise

theorem activation_apply (t : Fin cfg0.N) (k : Fin 2048) (l : Fin 1024) :
    iblk m c 0 t (ix2 k l)
      = m ((c : Thread nD τ).loc main_arg0) (ix2 ⟨t.val % 4 * 2048 + k.val, by omega⟩ l) := by
  rw [← activation_entry m c]
  blk_ext [iblk, (idx t).1]

theorem incoming_apply (t : Fin cfg0.N) (k : Fin 2048) (r : Fin 1024) :
    iblk m c 1 t (ix2 k r) = m ((c : Thread nD τ).loc main_arg1) (ix2 ⟨t.val % 4 * 2048 + k.val, by omega⟩ r) := by
  rw [← incoming_entry m c]
  blk_ext [iblk, (idx t).2.1]

/-- The accumulator at a run's last point: the four blocks' products. -/
theorem acc_last (t : Fin cfg0.N) (h : t.val % 4 = 3) (l : Fin 1024) (r : Fin 1024) :
    (outsAt0 m c t.val t.isLt).2 (ix2 l r)
      = ∑ s : Fin 4, prod (iblk m c 0 ⟨4 * (t.val / 4) + s.val, Pipeline.run_point_lt_of_flush t h s⟩)
          (iblk m c 1 ⟨4 * (t.val / 4) + s.val, Pipeline.run_point_lt_of_flush t h s⟩) l r := by
  refine (Pipeline.eq_sum_fin_of_reset_step_of_flush (fun n h => (outsAt0 m c n h).2 (ix2 l r)) 4 0
    (fun t => prod (iblk m c 0 t) (iblk m c 1 t) l r)
    (fun t h => (acc_first m c t h l r).trans (zero_add _).symm) (fun t h => acc_next m c t h l r) t h).trans ?_
  exact zero_add _

/-- The gradient of the arrays the launch begins with. -/
def value (l : Fin 1024) (r : Fin 1024) : EReal :=
  product (m ((c : Thread nD τ).loc main_arg0)) (m ((c : Thread nD τ).loc main_arg1)) l r

/-- What the kernel leaves in its result. -/
def result : Buf (Elt Ideal) ((c : Thread nD τ).loc main_v2) := fun i => value m c (i 2) (i 3)

/-- The block written back at a run's last point. -/
theorem out_apply (t : Fin cfg0.N) (h : t.val % 4 = 3) (a b : Fin 1) (l : Fin 1024) (r : Fin 1024) :
    (outsAt0 m c t.val t.isLt).1 (ix4 a b l r) = value m c l r := by
  rw [out_last m c t h, acc_last m c t h]
  unfold value product prod
  refine Fin.sum_mul_add_congr fun s k hk => ?_
  rw [activation_apply, incoming_apply]
  have e1 : (4 * (t.val / 4) + s.val) % 4 = s.val := by omega
  simp only [e1]

theorem final : (dats m 0 c).arrAt 2 cfg0.N = result m c := by
  refine (dats m 0 c).arrAt_eq_of_covers 2 _ (by decide +kernel) fun t hf y => ?_
  blk_simp
  rw [after0_2]
  have h3 := (flush0_2 t).mp hf
  idx_vars y
  rw [out_apply m c t h3]
  unfold result
  exact congrArg₂ (value m c) (Fin.ext (by blk_simp [(idx t).2.2])) (Fin.ext (by blk_simp [(idx t).2.2]))

end Cert.SquareWeight

end
-- ==== Proof.SquareWeight.Equal.lean ====
/- The claim for the gradient of a mixer's output projection's weight: the kernel's run and the reference's run end with
   the same result. -/
module

public import proofs.«01_k».proof.Defs
public import proofs.«01_k».proof.Proof.SquareWeight.Array
public import proofs.«01_k».proof.Proof.Gen.SquareWeightReferenceIdeal.Read
public import proofs.«01_k».proof.Proof.Gen.SquareWeightReferenceIdeal.Run

@[expose] public section

set_option maxRecDepth 16384

noncomputable section

namespace Cert.SquareWeight

open Idealize.ShloMosaic Idealize.SL.Sem
open Cert.SquareWeightReferenceIdeal Cert.SquareWeightReferenceIdeal.Gen Cert.SquareWeightReferenceIdeal.Read

/-- The reference's whole result. -/
theorem reference_eq (a : Vec Ideal S8192x1024 .f32) (d : Vec Ideal S8192x1024 .f32) :
    val_main_v5 (F := Ideal) a d = fun i => product a d (i 2) (i 3) := by
  funext i
  idx_vars i
  pointwise [val_main_v5, val_main_v4, val_main_v3, val_main_v2]
  exact Finset.sum_congr rfl fun k _ => mul_comm _ _

theorem algebraic : Cert.algebraic_SquareWeightKernelIdeal_SquareWeightReferenceIdeal
    (hSquareWeightKernelIdeal := Cert.SquareWeightKernelIdeal.Gen.facts)
    (hSquareWeightReferenceIdeal := Cert.SquareWeightReferenceIdeal.Gen.facts) := by
  intro m ρ m' ρ' _ hargs
  refine ⟨fun c => result m c, ?_, ?_⟩
  · refine (θ_run _ _ _).mono (fun r h c => ?_) (Cert.SquareWeightKernelIdeal.Value.run_blocks m ρ)
    exact ⟨(h c).1.trans (final m c), (h c).2⟩
  · refine (θ_run _ _ _).mono (fun r h c => ?_) (Cert.SquareWeightReferenceIdeal.Value.run m' ρ')
    refine ⟨(h c).1.trans ?_, (h c).2⟩
    rw [val_main_v5_eq, reference_eq, (hargs c).1, (hargs c).2]
    rfl

end Cert.SquareWeight

end
-- ==== Proof.ConvInput.Point.lean ====
/- One point of the grid of the gradient through the convolution layers' first projection: 256 rows of the normalised
   activations' gradient, 512 columns from each of four owners. What follows the product is the up-projection's, so the
   facts about it are taken from there. -/
module

public import proofs.«01_k».proof.Proof.Gen.ConvInputKernelIdeal.Value
public import proofs.«01_k».proof.Proof.Input.Point

@[expose] public section

set_option maxRecDepth 16384

noncomputable section

namespace Cert.ConvolutionInput

open Idealize.ShloMosaic Cert.ConvInputKernelIdeal Cert.ConvInputKernelIdeal.Gen Cert.ConvInputKernelIdeal.Value Idealize.ShloMosaic.TcCoe
open Cert.InputGradient (block rowGradient share)

/-- The gradient of the normalised activations as the body forms it from one point's two blocks. -/
abbrev products (D : Vec Ideal S256x2048 .bf16) (W : Vec Ideal S1x4x1024x512 .bf16) : Vec Ideal S256x1024 .f32 :=
  k0_pay2 (F := Ideal)
    (View.ld D (Rect.unit ![0, 0] ![256, 512] inb_S256x2048_S256x512_0_0))
    (View.ld W (Rect.unit ![0, 0, 0, 0] ![1, 1, 1024, 512] inb_S1x4x1024x512_S1x1x1024x512_0_0_0_0))
    (View.ld D (Rect.unit ![0, 512] ![256, 512] inb_S256x2048_S256x512_0_512))
    (View.ld W (Rect.unit ![0, 1, 0, 0] ![1, 1, 1024, 512] inb_S1x4x1024x512_S1x1x1024x512_0_1_0_0))
    (View.ld D (Rect.unit ![0, 1024] ![256, 512] inb_S256x2048_S256x512_0_1024))
    (View.ld W (Rect.unit ![0, 2, 0, 0] ![1, 1, 1024, 512] inb_S1x4x1024x512_S1x1x1024x512_0_2_0_0))
    (View.ld D (Rect.unit ![0, 1536] ![256, 512] inb_S256x2048_S256x512_0_1536))
    (View.ld W (Rect.unit ![0, 3, 0, 0] ![1, 1, 1024, 512] inb_S1x4x1024x512_S1x1x1024x512_0_3_0_0))

theorem products_apply (D : Vec Ideal S256x2048 .bf16) (W : Vec Ideal S1x4x1024x512 .bf16) (a : Fin 256) (r : Fin 1024) :
    products D W (ix2 a r) = block D W (by decide) a r := by
  unfold products
  unfold_payloads
  pointwise
  unfold block
  rw [Fin.sum_univ_four]
  rfl

variable (m : (ℓ : Loc nD τ sig) → Buf (Elt Ideal) ℓ) (c : Dev nD)

/-- The input's gradient at any point. -/
theorem out_row (t : Fin cfg0.N) (a : Fin 256) (r : Fin 1024) :
    (outsAt0 m c t.val t.isLt).1 (ix2 a r)
      = rowGradient (fun q => iblk m c 2 t (ix2 a q)) (fun q => iblk m c 3 t (ix2 0 q))
          (block (iblk m c 0 t) (iblk m c 1 t) (by decide) a) (iblk m c 4 t (ix2 a r)) r := by
  have e : (fun q => products (iblk m c 0 t) (iblk m c 1 t) (ix2 a q)) = block (iblk m c 0 t) (iblk m c 1 t) (by decide) a :=
    funext fun q => products_apply _ _ a q
  rw [← e]
  by_cases h0 : t.val % 32 = 0
  · rw [outsAt0_A m c t h0]
    frame_out
    exact InputGradient.Point.row_apply _ _ _ _ a r
  · rw [outsAt0_B m c t h0]
    frame_out
    exact InputGradient.Point.row_apply _ _ _ _ a r

/-- The low-precision copy is the same over the extended reals. -/
theorem out_low (t : Fin cfg0.N) (a : Fin 256) (r : Fin 1024) :
    (outsAt0 m c t.val t.isLt).2.1 (ix2 a r) = (outsAt0 m c t.val t.isLt).1 (ix2 a r) := by
  by_cases h0 : t.val % 32 = 0
  · rw [outsAt0_A m c t h0]
    frame_out
    exact InputGradient.Point.low_apply _ _ _ _ a r
  · rw [outsAt0_B m c t h0]
    frame_out
    exact InputGradient.Point.low_apply _ _ _ _ a r

/-- The first point leaves its own rows' share of the norm's gradient. -/
theorem gain_first (t : Fin cfg0.N) (h0 : t.val % 32 = 0) (a : Fin 1) (r : Fin 1024) :
    (outsAt0 m c t.val t.isLt).2.2 (ix2 a r)
      = 0 + share (products (iblk m c 0 t) (iblk m c 1 t)) (iblk m c 2 t) r := by
  rw [outsAt0_A m c t h0]
  frame_out
  refine (InputGradient.Point.share_apply _ _ _ a r).trans ?_
  rw [show k0_pay10 (F := Ideal) (ix2 a r) = 0 from InputGradient.Point.zero_apply a r]

/-- A later point adds its own rows' share. -/
theorem gain_next (t : Fin cfg0.N) (h0 : ¬ t.val % 32 = 0) (a : Fin 1) (r : Fin 1024) :
    (outsAt0 m c t.val t.isLt).2.2 (ix2 a r)
      = (outsAt0 m c (t.val - 1) (Nat.lt_of_le_of_lt (Nat.sub_le _ _) t.isLt)).2.2 (ix2 a r)
        + share (products (iblk m c 0 t) (iblk m c 1 t)) (iblk m c 2 t) r := by
  rw [outsAt0_B m c t h0]
  frame_out
  exact InputGradient.Point.share_apply _ _ _ a r

end Cert.ConvolutionInput

end
-- ==== Proof.Layer.lean ====
/- One of two layers' weights, which lie in one array. -/
module

public import Idealize.ShloMosaic.Lib.Pointwise

@[expose] public section

namespace Cert

open Idealize.ShloMosaic

/-- Layer `p`'s weight. -/
def layer {a b : ℕ} (p : Fin 2) (w : (⟨3, ![2, a, b]⟩ : Shape).Idx → EReal) : (⟨2, ![a, b]⟩ : Shape).Idx → EReal :=
  fun i => w (ix3 p (i 0 : Fin a) (i 1 : Fin b))

end Cert
-- ==== Proof.ConvInput.Array.lean ====
/- The three result arrays of the gradient through the convolution layers' first projection: the input's gradient row block by row block, its low-precision copy,
   and the gradient of the norm's weights summed over all 8192 rows. -/
module

public import proofs.«01_k».proof.Proof.ConvInput.Point
public import proofs.«01_k».proof.Proof.Layer

@[expose] public section

set_option maxRecDepth 16384

noncomputable section

namespace Cert.ConvolutionInput

open Cert.ConvInputKernelIdeal Cert.ConvInputKernelIdeal.Gen Cert.ConvInputKernelIdeal.Value Idealize.ShloMosaic Idealize.ShloMosaic.TcCoe
open Cert.InputGradient (block rowGradient share scale normedGradient inputGradient gainTerm gainGradient)

variable (m : (ℓ : Loc nD τ sig) → Buf (Elt Ideal) ℓ) (c : Dev nD)

/-- Where each window's block lies at point `t`. -/
theorem idx (t : Fin cfg0.N) : (win0_0.index t = ![t.val, 0] ∧ win0_1.index t = ![1, 0, 0, 0]
    ∧ win0_2.index t = ![t.val, 0] ∧ win0_3.index t = ![0, 0]) ∧ win0_4.index t = ![t.val, 0]
    ∧ win0_5.index t = ![t.val, 0] ∧ win0_6.index t = ![t.val, 0] ∧ win0_7.index t = ![0, 0] :=
  (by decide +kernel : ∀ t : Fin grid0.N, (win0_0.index t = ![t.val, 0] ∧ win0_1.index t = ![1, 0, 0, 0]
    ∧ win0_2.index t = ![t.val, 0] ∧ win0_3.index t = ![0, 0]) ∧ win0_4.index t = ![t.val, 0]
    ∧ win0_5.index t = ![t.val, 0] ∧ win0_6.index t = ![t.val, 0] ∧ win0_7.index t = ![0, 0]) t

/-- Row `a` of the block at point `t`. -/
def row (t : Fin cfg0.N) (a : Fin 256) : Fin 8192 :=
  ⟨t.val * 256 + a.val, by have := lt_of_lt_of_eq t.isLt N_0; omega⟩

/-- The incoming gradient's array when the launch begins. -/
theorem incoming_entry (k : Fin 8192) (l : Fin 2048) :
    V m c main_v0 (ix2 k l) = m ((c : Thread nD τ).loc main_arg4) (ix2 k l) := by
  entry_read
  pointwise

/-- The second layer's weight when the launch begins: its columns lie by owner. -/
theorem weight_entry (p : Fin 4) (r : Fin 1024) (l : Fin 512) :
    V m c main_v3 (ix4 1 p r l) = m ((c : Thread nD τ).loc main_arg2) (ix3 1 r (column p l)) := by
  entry_read
  pointwise
  rfl

/-- The norm's weights when the launch begins. -/
theorem gain_entry (r : Fin 1024) :
    V m c main_v4 (ix2 0 r) = m ((c : Thread nD τ).loc main_arg1) (ix1 r) := by
  entry_read
  pointwise

theorem incoming_apply (t : Fin cfg0.N) (a : Fin 256) (l : Fin 2048) :
    iblk m c 0 t (ix2 a l) = m ((c : Thread nD τ).loc main_arg4) (ix2 (row t a) l) := by
  rw [← incoming_entry m c]
  unfold row
  blk_ext [iblk, (idx t).1.1]

theorem weight_apply (t : Fin cfg0.N) (p : Fin 4) (r : Fin 1024) (l : Fin 512) :
    iblk m c 1 t (ix4 0 p r l) = m ((c : Thread nD τ).loc main_arg2) (ix3 1 r (column p l)) := by
  rw [← weight_entry m c]
  blk_ext [iblk, (idx t).1.2.1]

theorem input_apply (t : Fin cfg0.N) (a : Fin 256) (q : Fin 1024) :
    iblk m c 2 t (ix2 a q) = m ((c : Thread nD τ).loc main_arg0) (ix2 (row t a) q) := by
  have e : V m c main_arg0 (ix2 (row t a) q) = m ((c : Thread nD τ).loc main_arg0) (ix2 (row t a) q) := by
    entry_read
    rfl
  rw [← e]
  unfold row
  blk_ext [iblk, (idx t).1.2.2.1]

theorem gain_apply (t : Fin cfg0.N) (q : Fin 1024) :
    iblk m c 3 t (ix2 0 q) = m ((c : Thread nD τ).loc main_arg1) (ix1 q) := by
  rw [← gain_entry m c]
  blk_ext [iblk, (idx t).1.2.2.2]

theorem residual_apply (t : Fin cfg0.N) (a : Fin 256) (q : Fin 1024) :
    iblk m c 4 t (ix2 a q) = m ((c : Thread nD τ).loc main_arg3) (ix2 (row t a) q) := by
  have e : V m c main_arg3 (ix2 (row t a) q) = m ((c : Thread nD τ).loc main_arg3) (ix2 (row t a) q) := by
    entry_read
    rfl
  rw [← e]
  unfold row
  blk_ext [iblk, (idx t).2.1]

/-- The four owners' parts make up the whole product. -/
theorem block_apply (t : Fin cfg0.N) (a : Fin 256) :
    block (iblk m c 0 t) (iblk m c 1 t) (by decide) a
      = normedGradient (m ((c : Thread nD τ).loc main_arg4)) (layer 1 (m ((c : Thread nD τ).loc main_arg2))) (row t a) := by
  funext r
  unfold block normedGradient
  refine Fin.sum_mul_add_congr fun p l hl => ?_
  rw [incoming_apply, weight_apply]
  rfl

/-- The input's gradient of the arrays the launch begins with. -/
def value (k : Fin 8192) (r : Fin 1024) : EReal :=
  inputGradient (m ((c : Thread nD τ).loc main_arg0)) (m ((c : Thread nD τ).loc main_arg1))
    (layer 1 (m ((c : Thread nD τ).loc main_arg2))) (m ((c : Thread nD τ).loc main_arg3))
    (m ((c : Thread nD τ).loc main_arg4)) k r

/-- What the kernel leaves in its first result. -/
def inputResult : Buf (Elt Ideal) ((c : Thread nD τ).loc main_v5_0) := fun i => value m c (i 0) (i 1)

/-- What it leaves in its second. -/
def lowResult : Buf (Elt Ideal) ((c : Thread nD τ).loc main_v5_1) := fun i => value m c (i 0) (i 1)

/-- What it leaves in its third. -/
def gainResult : Buf (Elt Ideal) ((c : Thread nD τ).loc main_v5_2) := fun i =>
  gainGradient (m ((c : Thread nD τ).loc main_arg0)) (layer 1 (m ((c : Thread nD τ).loc main_arg2)))
    (m ((c : Thread nD τ).loc main_arg4)) (i 1)

/-- A point's block of the first result. -/
theorem out_apply (t : Fin cfg0.N) (a : Fin 256) (r : Fin 1024) :
    (outsAt0 m c t.val t.isLt).1 (ix2 a r) = value m c (row t a) r := by
  rw [out_row, block_apply, residual_apply]
  simp only [input_apply, gain_apply]
  rfl

theorem final_input : (dats m 0 c).arrAt 5 cfg0.N = inputResult m c := by
  refine (dats m 0 c).arrAt_eq_of_covers 5 _ (by decide +kernel) fun t hf y => ?_
  blk_simp
  rw [after0_5]
  idx_vars y
  rw [out_apply]
  unfold inputResult
  exact congrArg₂ (value m c) (Fin.ext (by blk_simp [row, (idx t).2.2.1])) (Fin.ext (by blk_simp [(idx t).2.2.1]))

theorem final_low : (dats m 0 c).arrAt 6 cfg0.N = lowResult m c := by
  refine (dats m 0 c).arrAt_eq_of_covers 6 _ (by decide +kernel) fun t hf y => ?_
  blk_simp
  rw [after0_6]
  idx_vars y
  rw [out_low, out_apply]
  unfold lowResult
  exact congrArg₂ (value m c) (Fin.ext (by blk_simp [row, (idx t).2.2.2.1])) (Fin.ext (by blk_simp [(idx t).2.2.2.1]))

/-- One point's share of the norm's gradient, as rows of the whole arrays. -/
theorem share_eq (t : Fin cfg0.N) (r : Fin 1024) :
    share (products (iblk m c 0 t) (iblk m c 1 t)) (iblk m c 2 t) r
      = ∑ k : Fin 256, gainTerm (m ((c : Thread nD τ).loc main_arg0)) (layer 1 (m ((c : Thread nD τ).loc main_arg2)))
          (m ((c : Thread nD τ).loc main_arg4)) (row t k) r := by
  unfold share gainTerm
  refine Finset.sum_congr rfl fun k _ => ?_
  rw [products_apply, block_apply]
  simp only [input_apply]

/-- After the last point the norm's gradient holds all points' shares. -/
theorem gain_last (t : Fin cfg0.N) (h : t.val % 32 = 31) (a : Fin 1) (r : Fin 1024) :
    (outsAt0 m c t.val t.isLt).2.2 (ix2 a r)
      = gainGradient (m ((c : Thread nD τ).loc main_arg0)) (layer 1 (m ((c : Thread nD τ).loc main_arg2)))
          (m ((c : Thread nD τ).loc main_arg4)) r := by
  refine (Pipeline.eq_sum_fin_of_reset_step_of_flush (fun n h => (outsAt0 m c n h).2.2 (ix2 a r)) 32 0
    (fun t => share (products (iblk m c 0 t) (iblk m c 1 t)) (iblk m c 2 t) r)
    (fun t h => gain_first m c t h a r) (fun t h => gain_next m c t h a r) t h).trans ?_
  rw [zero_add]
  unfold gainGradient
  simp only [share_eq]
  refine Fin.sum_mul_add_congr fun s k hk => ?_
  have e : row ⟨32 * (t.val / 32) + s.val, Pipeline.run_point_lt_of_flush t h s⟩ k = ⟨s.val * 256 + k.val, hk⟩ := by
    have := lt_of_lt_of_eq t.isLt N_0
    apply Fin.ext
    show (32 * (t.val / 32) + s.val) * 256 + k.val = s.val * 256 + k.val
    omega
  rw [e]

theorem final_gain : (dats m 0 c).arrAt 7 cfg0.N = gainResult m c := by
  refine (dats m 0 c).arrAt_eq_of_covers 7 _ (by decide +kernel) fun t hf y => ?_
  blk_simp
  rw [after0_7]
  have h := (flush0_7 t).mp hf
  idx_vars y
  rw [gain_last m c t h]
  unfold gainResult
  congr 1 <;> (apply Fin.ext; blk_simp [(idx t).2.2.2.2])

end Cert.ConvolutionInput

end
-- ==== Proof.ConvInput.Equal.lean ====
/- The claim for the gradient through the convolution layers' first projection: the kernel's run and the reference's run end with the same three results. -/
module

public import proofs.«01_k».proof.Defs
public import proofs.«01_k».proof.Proof.ConvInput.Array
public import proofs.«01_k».proof.Proof.Gen.ConvInputReferenceIdeal.Run
public import proofs.«01_k».proof.Proof.Gen.ConvInputReferenceIdeal.Read

@[expose] public section

set_option maxRecDepth 16384

noncomputable section

namespace Cert.ConvolutionInput

open Idealize.ShloMosaic Idealize.SL.Sem
open Cert.ConvInputReferenceIdeal Cert.ConvInputReferenceIdeal.Gen Cert.ConvInputReferenceIdeal.Read
open Cert.InputGradient (inputGradient gainGradient)

theorem reference_input (x : Vec Ideal S8192x1024 .f32) (g : Vec Ideal S1024 .f32) (w : Vec Ideal S2x1024x2048 .f32)
    (e : Vec Ideal S8192x1024 .f32) (d : Vec Ideal S8192x2048 .f32) (k : Fin 8192) (r : Fin 1024) :
    val_main_v42 (F := Ideal) x g w e d (ix2 k r) = inputGradient x g (layer 1 w) e d k r := by
  pointwise [val_main_v42, val_main_v41, val_main_v40, val_main_v39, val_main_v38, val_main_v37, val_main_v36,
    val_main_v35, val_main_v34, val_main_v33, val_main_v32, val_main_v31, val_main_v30, val_main_v29, val_main_v28,
    val_main_v26, val_main_v25, val_main_v21, val_main_v15, val_main_v12, val_main_v11, val_main_v10, val_main_v9,
    val_main_v8, val_main_v7, val_main_v6, val_main_v5, val_main_v4, val_main_v3, val_main_v2, val_main_v1, val_main_v0,
    val_main_cst, val_main_cst_0, val_main_cst_1, val_main_cst_2, val_main_cst_5, val_main_cst_6, val_main_cst_7]
  simp only [Fintype.sum_unique]
  rfl

theorem reference_low (x : Vec Ideal S8192x1024 .f32) (g : Vec Ideal S1024 .f32) (w : Vec Ideal S2x1024x2048 .f32)
    (e : Vec Ideal S8192x1024 .f32) (d : Vec Ideal S8192x2048 .f32) (k : Fin 8192) (r : Fin 1024) :
    val_main_v43 (F := Ideal) x g w e d (ix2 k r) = inputGradient x g (layer 1 w) e d k r :=
  reference_input x g w e d k r

theorem reference_gain (x : Vec Ideal S8192x1024 .f32) (w : Vec Ideal S2x1024x2048 .f32)
    (d : Vec Ideal S8192x2048 .f32) (a : Fin 1) (r : Fin 1024) :
    val_main_v44 (F := Ideal) x w d (ix2 a r) = gainGradient x (layer 1 w) d r := by
  pointwise [val_main_v44, val_main_v27, val_main_v24, val_main_v23, val_main_v22, val_main_v21, val_main_v14,
    val_main_v13, val_main_v9,
    val_main_v8, val_main_v7, val_main_v6, val_main_v5, val_main_v4, val_main_v3, val_main_v2, val_main_v1, val_main_v0,
    val_main_cst, val_main_cst_0, val_main_cst_1, val_main_cst_3, val_main_cst_4]
  simp only [Fintype.sum_unique]
  rfl

theorem input_eq (x : Vec Ideal S8192x1024 .f32) (g : Vec Ideal S1024 .f32) (w : Vec Ideal S2x1024x2048 .f32)
    (e : Vec Ideal S8192x1024 .f32) (d : Vec Ideal S8192x2048 .f32) :
    val_main_v42 (F := Ideal) x g w e d = fun i => inputGradient x g (layer 1 w) e d (i 0) (i 1) := by
  funext i
  idx_vars i
  exact reference_input x g w e d _ _

theorem low_eq (x : Vec Ideal S8192x1024 .f32) (g : Vec Ideal S1024 .f32) (w : Vec Ideal S2x1024x2048 .f32)
    (e : Vec Ideal S8192x1024 .f32) (d : Vec Ideal S8192x2048 .f32) :
    val_main_v43 (F := Ideal) x g w e d = fun i => inputGradient x g (layer 1 w) e d (i 0) (i 1) := by
  funext i
  idx_vars i
  exact reference_low x g w e d _ _

theorem gain_eq (x : Vec Ideal S8192x1024 .f32) (w : Vec Ideal S2x1024x2048 .f32) (d : Vec Ideal S8192x2048 .f32) :
    val_main_v44 (F := Ideal) x w d = fun i => gainGradient x (layer 1 w) d (i 1) := by
  funext i
  idx_vars i
  exact reference_gain x w d _ _

theorem algebraic : Cert.algebraic_ConvInputKernelIdeal_ConvInputReferenceIdeal
    (hConvInputKernelIdeal := Cert.ConvInputKernelIdeal.Gen.facts) (hConvInputReferenceIdeal := Cert.ConvInputReferenceIdeal.Gen.facts) := by
  intro m ρ m' ρ' _ hargs
  refine ⟨fun c => inputResult m c, fun c => lowResult m c, fun c => gainResult m c, ?_, ?_⟩
  · refine (θ_run _ _ _).mono (fun r h c => ?_) (Cert.ConvInputKernelIdeal.Value.run_blocks m ρ)
    exact ⟨(h c).1.trans (final_input m c), (h c).2.1.trans (final_low m c),
      (h c).2.2.1.trans (final_gain m c), (h c).2.2.2⟩
  · refine (θ_run _ _ _).mono (fun r h c => ?_) (Cert.ConvInputReferenceIdeal.Value.run m' ρ')
    obtain ⟨a0, a1, a2, a3, a4⟩ := hargs c
    refine ⟨(h c).1.trans ?_, (h c).2.1.trans ?_, (h c).2.2.1.trans ?_, (h c).2.2.2⟩
    · rw [val_main_v42_eq, input_eq, a0, a1, a2, a3, a4]
      rfl
    · rw [val_main_v43_eq, low_eq, a0, a1, a2, a3, a4]
      rfl
    · refine (val_main_v44_eq _ _ _).trans ?_
      rw [gain_eq, a0, a2, a4]
      rfl

end Cert.ConvolutionInput

end
-- ==== Proof.AttnBack.Array.lean ====
/- The gradient the attention layers' output projection passes back to the heads' outputs: the kernel's result array
   after the run, made up of blocks of 512 rows. -/
module

public import proofs.«01_k».proof.Proof.Gen.AttnBackKernelIdeal.Value
public import proofs.«01_k».proof.Proof.Down.Array
public import proofs.«01_k».proof.Proof.Layer

@[expose] public section

set_option maxRecDepth 16384

noncomputable section

namespace Cert.AttentionBack

open Idealize.ShloMosaic Idealize.ShloMosaic.TcCoe

open Cert.DownGradient (gradient)
open Cert.AttnBackKernelIdeal Cert.AttnBackKernelIdeal.Gen Cert.AttnBackKernelIdeal.Value

variable (m : (ℓ : Loc nD τ sig) → Buf (Elt Ideal) ℓ) (c : Dev nD)

/-- Where each window's block lies at point `t`: the weight is the second layer's. -/
theorem idx (t : Fin cfg0.N) : win0_0.index t = ![t.val, 0] ∧ win0_1.index t = ![1, 0, 0, 0]
    ∧ win0_2.index t = ![t.val, 0] :=
  (by decide +kernel : ∀ t : Fin grid0.N, win0_0.index t = ![t.val, 0] ∧ win0_1.index t = ![1, 0, 0, 0]
    ∧ win0_2.index t = ![t.val, 0]) t

/-- Row `a` of the block at point `t`. -/
def row (t : Fin cfg0.N) (a : Fin 512) : Fin 8192 :=
  ⟨t.val * 512 + a.val, by have := lt_of_lt_of_eq t.isLt N_0; omega⟩

/-- One point's block of the result. -/
theorem block_apply (D : Vec Ideal S512x1024 .bf16) (W : Vec Ideal S1x1x1024x1024 .bf16) (a : Fin 512) (l : Fin 1024) :
    out0_2 (F := Ideal) D W (ix2 a l) = ∑ r : Fin 1024, D (ix2 a r) * W (ix4 0 0 l r) := by
  frame_out
  unfold_payloads
  pointwise

/-- The incoming gradient's array when the launch begins. -/
theorem incoming_entry (k : Fin 8192) (r : Fin 1024) :
    V m c main_v0 (ix2 k r) = m ((c : Thread nD τ).loc main_arg1) (ix2 k r) := by
  entry_read
  pointwise

/-- The second layer's weight when the launch begins. -/
theorem weight_entry (l : Fin 1024) (r : Fin 1024) :
    V m c main_v2 (ix4 1 0 l r) = m ((c : Thread nD τ).loc main_arg0) (ix3 1 l r) := by
  entry_read
  pointwise

theorem incoming_apply (t : Fin cfg0.N) (a : Fin 512) (r : Fin 1024) :
    iblk m c 0 t (ix2 a r) = m ((c : Thread nD τ).loc main_arg1) (ix2 (row t a) r) := by
  rw [← incoming_entry m c]
  unfold row
  blk_ext [iblk, (idx t).1]

theorem weight_apply (t : Fin cfg0.N) (l : Fin 1024) (r : Fin 1024) :
    iblk m c 1 t (ix4 0 0 l r) = m ((c : Thread nD τ).loc main_arg0) (ix3 1 l r) := by
  rw [← weight_entry m c]
  blk_ext [iblk, (idx t).2.1]

/-- The gradient of the arrays the launch begins with. -/
def value (k : Fin 8192) (l : Fin 1024) : EReal :=
  gradient (layer 1 (m ((c : Thread nD τ).loc main_arg0))) (m ((c : Thread nD τ).loc main_arg1)) k l

/-- What the kernel leaves in its result. -/
def result : Buf (Elt Ideal) ((c : Thread nD τ).loc main_v3) := fun i => value m c (i 0) (i 1)

theorem out_apply (t : Fin cfg0.N) (a : Fin 512) (l : Fin 1024) :
    out0_2 (iblk m c 0 t) (iblk m c 1 t) (ix2 a l) = value m c (row t a) l := by
  refine (block_apply _ _ a l).trans ?_
  unfold value gradient
  exact Finset.sum_congr rfl fun r _ => congrArg₂ (· * ·) (incoming_apply m c t a r) (weight_apply m c t l r)

theorem final : (dats m 0 c).arrAt 2 cfg0.N = result m c := by
  refine (dats m 0 c).arrAt_eq_of_covers 2 _ (by decide +kernel) fun t hf y => ?_
  blk_simp
  rw [after0_2]
  idx_vars y
  rw [out_apply]
  unfold result
  exact congrArg₂ (value m c) (Fin.ext (by blk_simp [row, (idx t).2.2])) (Fin.ext (by blk_simp [(idx t).2.2]))

end Cert.AttentionBack

end
-- ==== Proof.AttnBack.Equal.lean ====
/- The claim of the gradient through the attention layers' output projection: the kernel's run and the reference's run end with the same result. -/
module

public import proofs.«01_k».proof.Defs
public import proofs.«01_k».proof.Proof.AttnBack.Array
public import proofs.«01_k».proof.Proof.Gen.AttnBackReferenceIdeal.Read
public import proofs.«01_k».proof.Proof.Gen.AttnBackReferenceIdeal.Run

@[expose] public section

set_option maxRecDepth 16384

noncomputable section

namespace Cert.AttentionBack

open Idealize.ShloMosaic Idealize.SL.Sem
open Cert.DownGradient (gradient)
open Cert.AttnBackReferenceIdeal Cert.AttnBackReferenceIdeal.Gen Cert.AttnBackReferenceIdeal.Read

/-- The reference's whole result. -/
theorem reference_eq (w : Vec Ideal S2x1024x1024 .f32) (d : Vec Ideal S8192x1024 .f32) :
    val_main_v4 (F := Ideal) w d = fun i => gradient (layer 1 w) d (i 0) (i 1) := by
  funext i
  idx_vars i
  pointwise [val_main_v4, val_main_v2, val_main_v1]
  rfl

theorem algebraic : Cert.algebraic_AttnBackKernelIdeal_AttnBackReferenceIdeal
    (hAttnBackKernelIdeal := Cert.AttnBackKernelIdeal.Gen.facts) (hAttnBackReferenceIdeal := Cert.AttnBackReferenceIdeal.Gen.facts) := by
  intro m ρ m' ρ' _ hargs
  refine ⟨fun c => result m c, ?_, ?_⟩
  · refine (θ_run _ _ _).mono (fun r h c => ?_) (Cert.AttnBackKernelIdeal.Value.run_blocks m ρ)
    exact ⟨(h c).1.trans (final m c), (h c).2⟩
  · refine (θ_run _ _ _).mono (fun r h c => ?_) (Cert.AttnBackReferenceIdeal.Value.run m' ρ')
    refine ⟨(h c).1.trans ?_, (h c).2⟩
    rw [val_main_v4_eq, reference_eq, (hargs c).1, (hargs c).2]
    rfl

end Cert.AttentionBack

end
-- ==== Proof.ConvBack.Array.lean ====
/- The gradient the convolution layers' second projection passes back to the gated activations: the kernel's result array
   after the run, made up of blocks of 512 rows. -/
module

public import proofs.«01_k».proof.Proof.Gen.ConvBackKernelIdeal.Value
public import proofs.«01_k».proof.Proof.Down.Array
public import proofs.«01_k».proof.Proof.Layer

@[expose] public section

set_option maxRecDepth 16384

noncomputable section

namespace Cert.ConvolutionBack

open Idealize.ShloMosaic Idealize.ShloMosaic.TcCoe

open Cert.DownGradient (gradient)
open Cert.ConvBackKernelIdeal Cert.ConvBackKernelIdeal.Gen Cert.ConvBackKernelIdeal.Value

variable (m : (ℓ : Loc nD τ sig) → Buf (Elt Ideal) ℓ) (c : Dev nD)

/-- Where each window's block lies at point `t`: the weight is the second layer's. -/
theorem idx (t : Fin cfg0.N) : win0_0.index t = ![t.val, 0] ∧ win0_1.index t = ![1, 0, 0, 0]
    ∧ win0_2.index t = ![t.val, 0] :=
  (by decide +kernel : ∀ t : Fin grid0.N, win0_0.index t = ![t.val, 0] ∧ win0_1.index t = ![1, 0, 0, 0]
    ∧ win0_2.index t = ![t.val, 0]) t

/-- Row `a` of the block at point `t`. -/
def row (t : Fin cfg0.N) (a : Fin 512) : Fin 8192 :=
  ⟨t.val * 512 + a.val, by have := lt_of_lt_of_eq t.isLt N_0; omega⟩

/-- One point's block of the result. -/
theorem block_apply (D : Vec Ideal S512x1024 .bf16) (W : Vec Ideal S1x1x1024x1024 .bf16) (a : Fin 512) (l : Fin 1024) :
    out0_2 (F := Ideal) D W (ix2 a l) = ∑ r : Fin 1024, D (ix2 a r) * W (ix4 0 0 l r) := by
  frame_out
  unfold_payloads
  pointwise

/-- The incoming gradient's array when the launch begins. -/
theorem incoming_entry (k : Fin 8192) (r : Fin 1024) :
    V m c main_v0 (ix2 k r) = m ((c : Thread nD τ).loc main_arg1) (ix2 k r) := by
  entry_read
  pointwise

/-- The second layer's weight when the launch begins. -/
theorem weight_entry (l : Fin 1024) (r : Fin 1024) :
    V m c main_v2 (ix4 1 0 l r) = m ((c : Thread nD τ).loc main_arg0) (ix3 1 l r) := by
  entry_read
  pointwise

theorem incoming_apply (t : Fin cfg0.N) (a : Fin 512) (r : Fin 1024) :
    iblk m c 0 t (ix2 a r) = m ((c : Thread nD τ).loc main_arg1) (ix2 (row t a) r) := by
  rw [← incoming_entry m c]
  unfold row
  blk_ext [iblk, (idx t).1]

theorem weight_apply (t : Fin cfg0.N) (l : Fin 1024) (r : Fin 1024) :
    iblk m c 1 t (ix4 0 0 l r) = m ((c : Thread nD τ).loc main_arg0) (ix3 1 l r) := by
  rw [← weight_entry m c]
  blk_ext [iblk, (idx t).2.1]

/-- The gradient of the arrays the launch begins with. -/
def value (k : Fin 8192) (l : Fin 1024) : EReal :=
  gradient (layer 1 (m ((c : Thread nD τ).loc main_arg0))) (m ((c : Thread nD τ).loc main_arg1)) k l

/-- What the kernel leaves in its result. -/
def result : Buf (Elt Ideal) ((c : Thread nD τ).loc main_v3) := fun i => value m c (i 0) (i 1)

theorem out_apply (t : Fin cfg0.N) (a : Fin 512) (l : Fin 1024) :
    out0_2 (iblk m c 0 t) (iblk m c 1 t) (ix2 a l) = value m c (row t a) l := by
  refine (block_apply _ _ a l).trans ?_
  unfold value gradient
  exact Finset.sum_congr rfl fun r _ => congrArg₂ (· * ·) (incoming_apply m c t a r) (weight_apply m c t l r)

theorem final : (dats m 0 c).arrAt 2 cfg0.N = result m c := by
  refine (dats m 0 c).arrAt_eq_of_covers 2 _ (by decide +kernel) fun t hf y => ?_
  blk_simp
  rw [after0_2]
  idx_vars y
  rw [out_apply]
  unfold result
  exact congrArg₂ (value m c) (Fin.ext (by blk_simp [row, (idx t).2.2])) (Fin.ext (by blk_simp [(idx t).2.2]))

end Cert.ConvolutionBack

end
-- ==== Proof.ConvBack.Equal.lean ====
/- The claim of the gradient through the convolution layers' second projection: the kernel's run and the reference's run end with the same result. -/
module

public import proofs.«01_k».proof.Defs
public import proofs.«01_k».proof.Proof.ConvBack.Array
public import proofs.«01_k».proof.Proof.Gen.ConvBackReferenceIdeal.Read
public import proofs.«01_k».proof.Proof.Gen.ConvBackReferenceIdeal.Run

@[expose] public section

set_option maxRecDepth 16384

noncomputable section

namespace Cert.ConvolutionBack

open Idealize.ShloMosaic Idealize.SL.Sem
open Cert.DownGradient (gradient)
open Cert.ConvBackReferenceIdeal Cert.ConvBackReferenceIdeal.Gen Cert.ConvBackReferenceIdeal.Read

/-- The reference's whole result. -/
theorem reference_eq (w : Vec Ideal S2x1024x1024 .f32) (d : Vec Ideal S8192x1024 .f32) :
    val_main_v5 (F := Ideal) w d = fun i => gradient (layer 1 w) d (i 0) (i 1) := by
  funext i
  idx_vars i
  pointwise [val_main_v5, val_main_v4, val_main_v2, val_main_v1]
  rfl

theorem algebraic : Cert.algebraic_ConvBackKernelIdeal_ConvBackReferenceIdeal
    (hConvBackKernelIdeal := Cert.ConvBackKernelIdeal.Gen.facts) (hConvBackReferenceIdeal := Cert.ConvBackReferenceIdeal.Gen.facts) := by
  intro m ρ m' ρ' _ hargs
  refine ⟨fun c => result m c, ?_, ?_⟩
  · refine (θ_run _ _ _).mono (fun r h c => ?_) (Cert.ConvBackKernelIdeal.Value.run_blocks m ρ)
    exact ⟨(h c).1.trans (final m c), (h c).2⟩
  · refine (θ_run _ _ _).mono (fun r h c => ?_) (Cert.ConvBackReferenceIdeal.Value.run m' ρ')
    refine ⟨(h c).1.trans ?_, (h c).2⟩
    rw [val_main_v5_eq, reference_eq, (hargs c).1, (hargs c).2]
    rfl

end Cert.ConvolutionBack

end
-- ==== Proof.AttnIn.Array.lean ====
/- The attention layers' input projection: the kernel's result array after the run, made up of blocks of 1024 rows and
   one owner's 640 columns. -/
module

public import proofs.«01_k».proof.Proof.Gen.AttnInKernelIdeal.Value
public import proofs.«01_k».proof.Proof.Columns
public import proofs.«01_k».proof.Proof.Up.Array

@[expose] public section

set_option maxRecDepth 16384

noncomputable section

namespace Cert.AttentionIn

open Idealize.ShloMosaic Idealize.ShloMosaic.TcCoe

open Cert.UpProjection (projection)
open Cert.AttnInKernelIdeal Cert.AttnInKernelIdeal.Gen Cert.AttnInKernelIdeal.Value

variable (m : (ℓ : Loc nD τ sig) → Buf (Elt Ideal) ℓ) (c : Dev nD)

/-- Where each window's block lies at point `t`: the owners' parts run fastest. -/
theorem idx (t : Fin cfg0.N) : win0_0.index t = ![t.val / 4, 0] ∧ win0_1.index t = ![0, t.val % 4, 0, 0]
    ∧ win0_2.index t = ![t.val / 4, t.val % 4] :=
  (by decide +kernel : ∀ t : Fin grid0.N, win0_0.index t = ![t.val / 4, 0] ∧ win0_1.index t = ![0, t.val % 4, 0, 0]
    ∧ win0_2.index t = ![t.val / 4, t.val % 4]) t

/-- Row `a` of the block at point `t`. -/
def row (t : Fin cfg0.N) (a : Fin 1024) : Fin 8192 :=
  ⟨t.val / 4 * 1024 + a.val, by have := lt_of_lt_of_eq t.isLt N_0; omega⟩

/-- The owner at point `t`. -/
def owner (t : Fin cfg0.N) : Fin 4 := ⟨t.val % 4, by omega⟩

/-- One point's block of the result. -/
theorem block_apply (H : Vec Ideal S1024x1024 .bf16) (W : Vec Ideal S1x1x1024x640 .bf16) (a : Fin 1024) (l : Fin 640) :
    out0_2 (F := Ideal) H W (ix2 a l) = ∑ r : Fin 1024, H (ix2 a r) * W (ix4 0 0 r l) := by
  frame_out
  unfold_payloads
  pointwise

/-- The activations' array when the launch begins. -/
theorem activation_entry (k : Fin 8192) (r : Fin 1024) :
    V m c main_v0 (ix2 k r) = m ((c : Thread nD τ).loc main_arg0) (ix2 k r) := by
  entry_read
  pointwise

/-- The weight's array when the launch begins: its columns lie by owner. -/
theorem weight_entry (p : Fin 4) (r : Fin 1024) (l : Fin 640) :
    V m c main_v3 (ix4 0 p r l) = m ((c : Thread nD τ).loc main_arg1) (ix2 r (column p l)) := by
  entry_read
  pointwise
  rfl

theorem activation_apply (t : Fin cfg0.N) (a r : Fin 1024) :
    iblk m c 0 t (ix2 a r) = m ((c : Thread nD τ).loc main_arg0) (ix2 (row t a) r) := by
  rw [← activation_entry m c]
  unfold row
  blk_ext [iblk, (idx t).1]

theorem weight_apply (t : Fin cfg0.N) (r : Fin 1024) (l : Fin 640) :
    iblk m c 1 t (ix4 0 0 r l) = m ((c : Thread nD τ).loc main_arg1) (ix2 r (column (owner t) l)) := by
  rw [← weight_entry m c]
  unfold owner
  blk_ext [iblk, (idx t).2.1]

/-- The projection of the arrays the launch begins with. -/
def value (k : Fin 8192) (l : Fin 2560) : EReal :=
  projection (m ((c : Thread nD τ).loc main_arg0)) (m ((c : Thread nD τ).loc main_arg1)) k l

/-- What the kernel leaves in its result. -/
def result : Buf (Elt Ideal) ((c : Thread nD τ).loc main_v4) := fun i => value m c (i 0) (i 1)

theorem out_apply (t : Fin cfg0.N) (a : Fin 1024) (l : Fin 640) :
    out0_2 (iblk m c 0 t) (iblk m c 1 t) (ix2 a l) = value m c (row t a) (column (owner t) l) := by
  refine (block_apply _ _ a l).trans ?_
  unfold value projection
  exact Finset.sum_congr rfl fun r _ => congrArg₂ (· * ·) (activation_apply m c t a r) (weight_apply m c t r l)

theorem final : (dats m 0 c).arrAt 2 cfg0.N = result m c := by
  refine (dats m 0 c).arrAt_eq_of_covers 2 _ (by decide +kernel) fun t hf y => ?_
  blk_simp
  rw [after0_2]
  idx_vars y
  rw [out_apply]
  unfold result
  exact congrArg₂ (value m c) (Fin.ext (by blk_simp [row, (idx t).2.2]))
    (Fin.ext (by blk_simp [column, owner, (idx t).2.2]))

end Cert.AttentionIn

end
-- ==== Proof.AttnIn.Equal.lean ====
/- The claim of the attention layers' input projection: the kernel's run and the reference's run end with the same result. -/
module

public import proofs.«01_k».proof.Defs
public import proofs.«01_k».proof.Proof.AttnIn.Array
public import proofs.«01_k».proof.Proof.Gen.AttnInReferenceIdeal.Read
public import proofs.«01_k».proof.Proof.Gen.AttnInReferenceIdeal.Run

@[expose] public section

set_option maxRecDepth 16384

noncomputable section

namespace Cert.AttentionIn

open Idealize.ShloMosaic Idealize.SL.Sem
open Cert.UpProjection (projection)
open Cert.AttnInReferenceIdeal Cert.AttnInReferenceIdeal.Gen Cert.AttnInReferenceIdeal.Read

/-- The reference's whole result. -/
theorem reference_eq (h : Vec Ideal S8192x1024 .f32) (w : Vec Ideal S1024x2560 .f32) :
    val_main_v0 (F := Ideal) h w = fun i => projection h w (i 0) (i 1) := by
  funext i
  idx_vars i
  pointwise [val_main_v0]
  rfl

theorem algebraic : Cert.algebraic_AttnInKernelIdeal_AttnInReferenceIdeal
    (hAttnInKernelIdeal := Cert.AttnInKernelIdeal.Gen.facts) (hAttnInReferenceIdeal := Cert.AttnInReferenceIdeal.Gen.facts) := by
  intro m ρ m' ρ' _ hargs
  refine ⟨fun c => result m c, ?_, ?_⟩
  · refine (θ_run _ _ _).mono (fun r h c => ?_) (Cert.AttnInKernelIdeal.Value.run_blocks m ρ)
    exact ⟨(h c).1.trans (final m c), (h c).2⟩
  · refine (θ_run _ _ _).mono (fun r h c => ?_) (Cert.AttnInReferenceIdeal.Value.run m' ρ')
    refine ⟨(h c).1.trans ?_, (h c).2⟩
    rw [val_main_v0_eq, reference_eq, (hargs c).1, (hargs c).2]
    rfl

end Cert.AttentionIn

end
-- ==== Proof.ConvIn.Array.lean ====
/- The convolution layers' first projection with its bias: the kernel's result array after the run, made up of blocks of 1024 rows and
   one owner's 512 columns. -/
module

public import proofs.«01_k».proof.Proof.Gen.ConvInKernelIdeal.Value
public import proofs.«01_k».proof.Proof.Columns
public import proofs.«01_k».proof.Proof.Layer
public import proofs.«01_k».proof.Proof.Up.Array

@[expose] public section

set_option maxRecDepth 16384

noncomputable section

namespace Cert.ConvolutionIn

open Idealize.ShloMosaic Idealize.ShloMosaic.TcCoe

open Cert.UpProjection (projection)
/-- The projection through layer `p`'s weight, and its bias. -/
def biased (p : Fin 2) (h : (⟨2, ![8192, 1024]⟩ : Shape).Idx → EReal) (w : (⟨3, ![2, 1024, 2048]⟩ : Shape).Idx → EReal)
    (b : (⟨1, ![2048]⟩ : Shape).Idx → EReal) (k : Fin 8192) (l : Fin 2048) : EReal :=
  projection h (layer p w) k l + b (ix1 l)

open Cert.ConvInKernelIdeal Cert.ConvInKernelIdeal.Gen Cert.ConvInKernelIdeal.Value

variable (m : (ℓ : Loc nD τ sig) → Buf (Elt Ideal) ℓ) (c : Dev nD)

/-- Where each window's block lies at point `t`: the owners' parts run fastest, and the weight is the second layer's. -/
theorem idx (t : Fin cfg0.N) : win0_0.index t = ![t.val / 4, 0] ∧ win0_1.index t = ![1, t.val % 4, 0, 0]
    ∧ win0_2.index t = ![0, t.val % 4] ∧ win0_3.index t = ![t.val / 4, t.val % 4] :=
  (by decide +kernel : ∀ t : Fin grid0.N, win0_0.index t = ![t.val / 4, 0] ∧ win0_1.index t = ![1, t.val % 4, 0, 0]
    ∧ win0_2.index t = ![0, t.val % 4] ∧ win0_3.index t = ![t.val / 4, t.val % 4]) t

/-- Row `a` of the block at point `t`. -/
def row (t : Fin cfg0.N) (a : Fin 1024) : Fin 8192 :=
  ⟨t.val / 4 * 1024 + a.val, by have := lt_of_lt_of_eq t.isLt N_0; omega⟩

/-- The owner at point `t`. -/
def owner (t : Fin cfg0.N) : Fin 4 := ⟨t.val % 4, by omega⟩

/-- One point's block of the result. -/
theorem block_apply (H : Vec Ideal S1024x1024 .bf16) (W : Vec Ideal S1x1x1024x512 .bf16) (B : Vec Ideal S1x512 .f32)
    (a : Fin 1024) (l : Fin 512) :
    out0_3 (F := Ideal) H W B (ix2 a l) = (∑ r : Fin 1024, H (ix2 a r) * W (ix4 0 0 r l)) + B (ix2 0 l) := by
  frame_out
  unfold_payloads
  pointwise

/-- The activations' array when the launch begins. -/
theorem activation_entry (k : Fin 8192) (r : Fin 1024) :
    V m c main_v0 (ix2 k r) = m ((c : Thread nD τ).loc main_arg0) (ix2 k r) := by
  entry_read
  pointwise

/-- The second layer's weight when the launch begins: its columns lie by owner. -/
theorem weight_entry (p : Fin 4) (r : Fin 1024) (l : Fin 512) :
    V m c main_v3 (ix4 1 p r l) = m ((c : Thread nD τ).loc main_arg1) (ix3 1 r (column p l)) := by
  entry_read
  pointwise
  rfl

/-- The bias when the launch begins. -/
theorem bias_entry (l : Fin 2048) : V m c main_v4 (ix2 0 l) = m ((c : Thread nD τ).loc main_arg2) (ix1 l) := by
  entry_read
  pointwise

theorem activation_apply (t : Fin cfg0.N) (a r : Fin 1024) :
    iblk m c 0 t (ix2 a r) = m ((c : Thread nD τ).loc main_arg0) (ix2 (row t a) r) := by
  rw [← activation_entry m c]
  unfold row
  blk_ext [iblk, (idx t).1]

theorem weight_apply (t : Fin cfg0.N) (r : Fin 1024) (l : Fin 512) :
    iblk m c 1 t (ix4 0 0 r l) = m ((c : Thread nD τ).loc main_arg1) (ix3 1 r (column (owner t) l)) := by
  rw [← weight_entry m c]
  unfold owner
  blk_ext [iblk, (idx t).2.1]

theorem bias_apply (t : Fin cfg0.N) (l : Fin 512) :
    iblk m c 2 t (ix2 0 l) = m ((c : Thread nD τ).loc main_arg2) (ix1 (column (owner t) l)) := by
  rw [← bias_entry m c]
  unfold owner column
  blk_ext [iblk, (idx t).2.2.1]

/-- The projection with its bias, of the arrays the launch begins with. -/
def value (k : Fin 8192) (l : Fin 2048) : EReal :=
  biased 1 (m ((c : Thread nD τ).loc main_arg0)) (m ((c : Thread nD τ).loc main_arg1))
    (m ((c : Thread nD τ).loc main_arg2)) k l

/-- What the kernel leaves in its result. -/
def result : Buf (Elt Ideal) ((c : Thread nD τ).loc main_v5) := fun i => value m c (i 0) (i 1)

theorem out_apply (t : Fin cfg0.N) (a : Fin 1024) (l : Fin 512) :
    out0_3 (iblk m c 0 t) (iblk m c 1 t) (iblk m c 2 t) (ix2 a l) = value m c (row t a) (column (owner t) l) := by
  refine (block_apply _ _ _ a l).trans ?_
  unfold value biased projection
  exact congrArg₂ (· + ·)
    (Finset.sum_congr rfl fun r _ => congrArg₂ (· * ·) (activation_apply m c t a r) (weight_apply m c t r l))
    (bias_apply m c t l)

theorem final : (dats m 0 c).arrAt 3 cfg0.N = result m c := by
  refine (dats m 0 c).arrAt_eq_of_covers 3 _ (by decide +kernel) fun t hf y => ?_
  blk_simp
  rw [after0_3]
  idx_vars y
  rw [out_apply]
  unfold result
  exact congrArg₂ (value m c) (Fin.ext (by blk_simp [row, (idx t).2.2.2]))
    (Fin.ext (by blk_simp [column, owner, (idx t).2.2.2]))

end Cert.ConvolutionIn

end
-- ==== Proof.ConvIn.Equal.lean ====
/- The claim of the convolution layers' first projection: the kernel's run and the reference's run end with the same result. -/
module

public import proofs.«01_k».proof.Defs
public import proofs.«01_k».proof.Proof.ConvIn.Array
public import proofs.«01_k».proof.Proof.Gen.ConvInReferenceIdeal.Read
public import proofs.«01_k».proof.Proof.Gen.ConvInReferenceIdeal.Run

@[expose] public section

set_option maxRecDepth 16384

noncomputable section

namespace Cert.ConvolutionIn

open Idealize.ShloMosaic Idealize.SL.Sem
open Cert.UpProjection (projection)
open Cert.ConvInReferenceIdeal Cert.ConvInReferenceIdeal.Gen Cert.ConvInReferenceIdeal.Read

/-- The reference's whole result. -/
theorem reference_eq (h : Vec Ideal S8192x1024 .f32) (w : Vec Ideal S2x1024x2048 .f32) (b : Vec Ideal S2048 .f32) :
    val_main_v6 (F := Ideal) h w b = fun i => biased 1 h w b (i 0) (i 1) := by
  funext i
  idx_vars i
  pointwise [val_main_v6, val_main_v5, val_main_v4, val_main_v3, val_main_v2, val_main_v1, val_main_v0]
  rfl

theorem algebraic : Cert.algebraic_ConvInKernelIdeal_ConvInReferenceIdeal
    (hConvInKernelIdeal := Cert.ConvInKernelIdeal.Gen.facts)
    (hConvInReferenceIdeal := Cert.ConvInReferenceIdeal.Gen.facts) := by
  intro m ρ m' ρ' _ hargs
  refine ⟨fun c => result m c, ?_, ?_⟩
  · refine (θ_run _ _ _).mono (fun r h c => ?_) (Cert.ConvInKernelIdeal.Value.run_blocks m ρ)
    exact ⟨(h c).1.trans (final m c), (h c).2⟩
  · refine (θ_run _ _ _).mono (fun r h c => ?_) (Cert.ConvInReferenceIdeal.Value.run m' ρ')
    obtain ⟨a0, a1, a2⟩ := hargs c
    refine ⟨(h c).1.trans ?_, (h c).2⟩
    rw [val_main_v6_eq, reference_eq, a0, a1, a2]
    rfl

end Cert.ConvolutionIn

end
-- ==== Proof.AttnOut.Array.lean ====
/- The attention layers' output projection with its residual and the norm that follows: the kernel's two result arrays
   after the run, made up of blocks of 512 rows. -/
module

public import proofs.«01_k».proof.Proof.Gen.AttnOutKernelIdeal.Value
public import proofs.«01_k».proof.Proof.Out.Array
public import proofs.«01_k».proof.Proof.Layer

@[expose] public section

set_option maxRecDepth 16384

noncomputable section

namespace Cert.AttentionOut

open Idealize.ShloMosaic Idealize.ShloMosaic.TcCoe

open Cert.BlockOutput (output normed)
open Cert.AttnOutKernelIdeal Cert.AttnOutKernelIdeal.Gen Cert.AttnOutKernelIdeal.Value

variable (m : (ℓ : Loc nD τ sig) → Buf (Elt Ideal) ℓ) (c : Dev nD)

/-- Where each window's block lies at point `t`: the weight is the second layer's. -/
theorem idx (t : Fin cfg0.N) : (win0_0.index t = ![t.val, 0] ∧ win0_1.index t = ![1, 0, 0, 0]
    ∧ win0_2.index t = ![t.val, 0]) ∧ win0_3.index t = ![0, 0] ∧ win0_4.index t = ![t.val, 0]
    ∧ win0_5.index t = ![t.val, 0] :=
  (by decide +kernel : ∀ t : Fin grid0.N, (win0_0.index t = ![t.val, 0] ∧ win0_1.index t = ![1, 0, 0, 0]
    ∧ win0_2.index t = ![t.val, 0]) ∧ win0_3.index t = ![0, 0] ∧ win0_4.index t = ![t.val, 0]
    ∧ win0_5.index t = ![t.val, 0]) t

/-- Row `a` of the block at point `t`. -/
def row (t : Fin cfg0.N) (a : Fin 512) : Fin 8192 :=
  ⟨t.val * 512 + a.val, by have := lt_of_lt_of_eq t.isLt N_0; omega⟩

/-- A block of 512 rows of the output. -/
def block (A : S512x1024.Idx → EReal) (W : S1x1x1024x1024.Idx → EReal) (X : S512x1024.Idx → EReal) (a : Fin 512)
    (r : Fin 1024) : EReal :=
  X (ix2 a r) + ∑ l : Fin 1024, A (ix2 a l) * W (ix4 0 0 l r)

theorem block_apply (A : Vec Ideal S512x1024 .bf16) (W : Vec Ideal S1x1x1024x1024 .bf16) (X : Vec Ideal S512x1024 .f32)
    (a : Fin 512) (r : Fin 1024) : k0_pay1 (F := Ideal) A W X (ix2 a r) = block A W X a r := by
  unfold_payloads
  pointwise [block]

theorem normed_apply (A : Vec Ideal S512x1024 .bf16) (W : Vec Ideal S1x1x1024x1024 .bf16) (X : Vec Ideal S512x1024 .f32)
    (G : Vec Ideal S1x1024 .f32) (a : Fin 512) (r : Fin 1024) :
    k0_pay2 (F := Ideal) A W X G (ix2 a r) = normed (block A W X a) (fun q => G (ix2 0 q)) r := by
  unfold_payloads
  pointwise [normed, block]

/-- The activations' array when the launch begins. -/
theorem activation_entry (k : Fin 8192) (l : Fin 1024) :
    V m c main_v0 (ix2 k l) = m ((c : Thread nD τ).loc main_arg1) (ix2 k l) := by
  entry_read
  pointwise

/-- The second layer's weight when the launch begins. -/
theorem weight_entry (l : Fin 1024) (r : Fin 1024) :
    V m c main_v2 (ix4 1 0 l r) = m ((c : Thread nD τ).loc main_arg2) (ix3 1 l r) := by
  entry_read
  pointwise

theorem gain_entry (q : Fin 1024) : V m c main_v3 (ix2 0 q) = m ((c : Thread nD τ).loc main_arg3) (ix1 q) := by
  entry_read
  pointwise

theorem activation_apply (t : Fin cfg0.N) (a : Fin 512) (l : Fin 1024) :
    iblk m c 0 t (ix2 a l) = m ((c : Thread nD τ).loc main_arg1) (ix2 (row t a) l) := by
  rw [← activation_entry m c]
  unfold row
  blk_ext [iblk, (idx t).1.1]

theorem weight_apply (t : Fin cfg0.N) (l : Fin 1024) (r : Fin 1024) :
    iblk m c 1 t (ix4 0 0 l r) = m ((c : Thread nD τ).loc main_arg2) (ix3 1 l r) := by
  rw [← weight_entry m c]
  blk_ext [iblk, (idx t).1.2.1]

theorem residual_apply (t : Fin cfg0.N) (a : Fin 512) (r : Fin 1024) :
    iblk m c 2 t (ix2 a r) = m ((c : Thread nD τ).loc main_arg0) (ix2 (row t a) r) := by
  have e : V m c main_arg0 (ix2 (row t a) r) = m ((c : Thread nD τ).loc main_arg0) (ix2 (row t a) r) := by
    entry_read
    rfl
  rw [← e]
  unfold row
  blk_ext [iblk, (idx t).1.2.2]

theorem gain_apply (t : Fin cfg0.N) (q : Fin 1024) :
    iblk m c 3 t (ix2 0 q) = m ((c : Thread nD τ).loc main_arg3) (ix1 q) := by
  rw [← gain_entry m c]
  blk_ext [iblk, (idx t).2.1]

/-- The output of the arrays the launch begins with. -/
def value (k : Fin 8192) (r : Fin 1024) : EReal :=
  output (m ((c : Thread nD τ).loc main_arg0)) (m ((c : Thread nD τ).loc main_arg1))
    (layer 1 (m ((c : Thread nD τ).loc main_arg2))) k r

/-- The normed output of the arrays the launch begins with. -/
def normedValue (k : Fin 8192) (r : Fin 1024) : EReal :=
  normed (value m c k) (fun q => m ((c : Thread nD τ).loc main_arg3) (ix1 q)) r

theorem block_eq (t : Fin cfg0.N) (a : Fin 512) :
    block (iblk m c 0 t) (iblk m c 1 t) (iblk m c 2 t) a = value m c (row t a) := by
  funext r
  unfold block value output
  exact congrArg₂ (· + ·) (residual_apply m c t a r)
    (Finset.sum_congr rfl fun l _ => congrArg₂ (· * ·) (activation_apply m c t a l) (weight_apply m c t l r))

/-- What the kernel leaves in its first result. -/
def outputResult : Buf (Elt Ideal) ((c : Thread nD τ).loc main_v4_0) := fun i => value m c (i 0) (i 1)

/-- What it leaves in its second. -/
def normedResult : Buf (Elt Ideal) ((c : Thread nD τ).loc main_v4_1) := fun i => normedValue m c (i 0) (i 1)

theorem out_apply (t : Fin cfg0.N) (a : Fin 512) (r : Fin 1024) :
    out0_4 (iblk m c 0 t) (iblk m c 1 t) (iblk m c 2 t) (iblk m c 3 t) (ix2 a r) = value m c (row t a) r := by
  frame_out
  exact (block_apply _ _ _ a r).trans (congrFun (block_eq m c t a) r)

theorem normed_out_apply (t : Fin cfg0.N) (a : Fin 512) (r : Fin 1024) :
    out0_5 (iblk m c 0 t) (iblk m c 1 t) (iblk m c 2 t) (iblk m c 3 t) (ix2 a r) = normedValue m c (row t a) r := by
  frame_out
  refine (normed_apply _ _ _ _ a r).trans ?_
  rw [block_eq]
  simp only [gain_apply]
  rfl

theorem final_output : (dats m 0 c).arrAt 4 cfg0.N = outputResult m c := by
  refine (dats m 0 c).arrAt_eq_of_covers 4 _ (by decide +kernel) fun t hf y => ?_
  blk_simp
  rw [after0_4]
  idx_vars y
  rw [out_apply]
  unfold outputResult
  exact congrArg₂ (value m c) (Fin.ext (by blk_simp [row, (idx t).2.2.1])) (Fin.ext (by blk_simp [(idx t).2.2.1]))

theorem final_normed : (dats m 0 c).arrAt 5 cfg0.N = normedResult m c := by
  refine (dats m 0 c).arrAt_eq_of_covers 5 _ (by decide +kernel) fun t hf y => ?_
  blk_simp
  rw [after0_5]
  idx_vars y
  rw [normed_out_apply]
  unfold normedResult
  exact congrArg₂ (normedValue m c) (Fin.ext (by blk_simp [row, (idx t).2.2.2]))
    (Fin.ext (by blk_simp [(idx t).2.2.2]))

end Cert.AttentionOut

end
-- ==== Proof.AttnOut.Equal.lean ====
/- The claim of the attention layers' output projection: the kernel's run and the reference's run end with the same output and the same
   normed output. -/
module

public import proofs.«01_k».proof.Defs
public import proofs.«01_k».proof.Proof.AttnOut.Array
public import proofs.«01_k».proof.Proof.Gen.AttnOutReferenceIdeal.Read
public import proofs.«01_k».proof.Proof.Gen.AttnOutReferenceIdeal.Run

@[expose] public section

set_option maxRecDepth 16384

noncomputable section

namespace Cert.AttentionOut

open Idealize.ShloMosaic Idealize.SL.Sem
open Cert.BlockOutput (output normed)
open Cert.AttnOutReferenceIdeal Cert.AttnOutReferenceIdeal.Gen Cert.AttnOutReferenceIdeal.Read

theorem output_eq (x : Vec Ideal S8192x1024 .f32) (a : Vec Ideal S8192x1024 .f32) (w : Vec Ideal S2x1024x1024 .f32) :
    val_main_v3 (F := Ideal) x a w = fun i => output x a (layer 1 w) (i 0) (i 1) := by
  funext i
  idx_vars i
  pointwise [val_main_v3, val_main_v2, val_main_v1, val_main_v0]
  rfl

theorem normed_eq (x : Vec Ideal S8192x1024 .f32) (a : Vec Ideal S8192x1024 .f32) (w : Vec Ideal S2x1024x1024 .f32)
    (g : Vec Ideal S1024 .f32) :
    val_main_v17 (F := Ideal) x a w g = fun i => normed (output x a (layer 1 w) (i 0)) (fun q => g (ix1 q)) (i 1) := by
  funext i
  idx_vars i
  pointwise [val_main_v17, val_main_v16, val_main_v15, val_main_v14, val_main_v13, val_main_v12, val_main_v11, val_main_v10, val_main_v9,
    val_main_v8, val_main_v7, val_main_v6, val_main_v5, val_main_v4, val_main_cst,
    val_main_cst_0, val_main_cst_1, output_eq]
  rfl

theorem algebraic : Cert.algebraic_AttnOutKernelIdeal_AttnOutReferenceIdeal
    (hAttnOutKernelIdeal := Cert.AttnOutKernelIdeal.Gen.facts) (hAttnOutReferenceIdeal := Cert.AttnOutReferenceIdeal.Gen.facts) := by
  intro m ρ m' ρ' _ hargs
  refine ⟨fun c => outputResult m c, fun c => normedResult m c, ?_, ?_⟩
  · refine (θ_run _ _ _).mono (fun r h c => ?_) (Cert.AttnOutKernelIdeal.Value.run_blocks m ρ)
    exact ⟨(h c).1.trans (final_output m c), (h c).2.1.trans (final_normed m c), (h c).2.2⟩
  · refine (θ_run _ _ _).mono (fun r h c => ?_) (Cert.AttnOutReferenceIdeal.Value.run m' ρ')
    obtain ⟨a0, a1, a2, a3⟩ := hargs c
    refine ⟨(h c).1.trans ?_, (h c).2.1.trans ?_, (h c).2.2⟩
    · rw [val_main_v3_eq, output_eq, a0, a1, a2]
      rfl
    · rw [val_main_v17_eq, normed_eq, a0, a1, a2, a3]
      rfl

end Cert.AttentionOut

end
-- ==== Proof.ConvOut.Array.lean ====
/- The convolution layers' second projection with its bias, its residual and the norm that follows: the kernel's two result arrays
   after the run, made up of blocks of 512 rows. -/
module

public import proofs.«01_k».proof.Proof.Gen.ConvOutKernelIdeal.Value
public import proofs.«01_k».proof.Proof.Out.Array
public import proofs.«01_k».proof.Proof.Layer

@[expose] public section

set_option maxRecDepth 16384

noncomputable section

namespace Cert.ConvolutionOut

open Idealize.ShloMosaic Idealize.ShloMosaic.TcCoe

open Cert.BlockOutput (normed)

/-- The output at row `k` and column `r`: the residual, and the projection through layer `p`'s weight with its
    bias. -/
def biased (p : Fin 2) (x a : (⟨2, ![8192, 1024]⟩ : Shape).Idx → EReal) (w : (⟨3, ![2, 1024, 1024]⟩ : Shape).Idx → EReal)
    (b : (⟨1, ![1024]⟩ : Shape).Idx → EReal) (k : Fin 8192) (r : Fin 1024) : EReal :=
  x (ix2 k r) + ((∑ l : Fin 1024, a (ix2 k l) * layer p w (ix2 l r)) + b (ix1 r))

open Cert.ConvOutKernelIdeal Cert.ConvOutKernelIdeal.Gen Cert.ConvOutKernelIdeal.Value

variable (m : (ℓ : Loc nD τ sig) → Buf (Elt Ideal) ℓ) (c : Dev nD)

/-- Where each window's block lies at point `t`: the weight is the second layer's. -/
theorem idx (t : Fin cfg0.N) : (win0_0.index t = ![t.val, 0] ∧ win0_1.index t = ![1, 0, 0, 0]
    ∧ win0_2.index t = ![0, 0] ∧ win0_3.index t = ![t.val, 0]) ∧ win0_4.index t = ![0, 0]
    ∧ win0_5.index t = ![t.val, 0] ∧ win0_6.index t = ![t.val, 0] :=
  (by decide +kernel : ∀ t : Fin grid0.N, (win0_0.index t = ![t.val, 0] ∧ win0_1.index t = ![1, 0, 0, 0]
    ∧ win0_2.index t = ![0, 0] ∧ win0_3.index t = ![t.val, 0]) ∧ win0_4.index t = ![0, 0]
    ∧ win0_5.index t = ![t.val, 0] ∧ win0_6.index t = ![t.val, 0]) t

/-- Row `a` of the block at point `t`. -/
def row (t : Fin cfg0.N) (a : Fin 512) : Fin 8192 :=
  ⟨t.val * 512 + a.val, by have := lt_of_lt_of_eq t.isLt N_0; omega⟩

/-- A block of 512 rows of the output. -/
def block (A : S512x1024.Idx → EReal) (W : S1x1x1024x1024.Idx → EReal) (B : S1x1024.Idx → EReal)
    (X : S512x1024.Idx → EReal) (a : Fin 512) (r : Fin 1024) : EReal :=
  X (ix2 a r) + ((∑ l : Fin 1024, A (ix2 a l) * W (ix4 0 0 l r)) + B (ix2 0 r))

theorem block_apply (A : Vec Ideal S512x1024 .bf16) (W : Vec Ideal S1x1x1024x1024 .bf16) (B : Vec Ideal S1x1024 .f32)
    (X : Vec Ideal S512x1024 .f32) (a : Fin 512) (r : Fin 1024) :
    k0_pay1 (F := Ideal) A W B X (ix2 a r) = block A W B X a r := by
  unfold_payloads
  pointwise [block]

theorem normed_apply (A : Vec Ideal S512x1024 .bf16) (W : Vec Ideal S1x1x1024x1024 .bf16) (B : Vec Ideal S1x1024 .f32)
    (X : Vec Ideal S512x1024 .f32) (G : Vec Ideal S1x1024 .f32) (a : Fin 512) (r : Fin 1024) :
    k0_pay2 (F := Ideal) A W B X G (ix2 a r) = normed (block A W B X a) (fun q => G (ix2 0 q)) r := by
  unfold_payloads
  pointwise [normed, block]

/-- The activations' array when the launch begins. -/
theorem activation_entry (k : Fin 8192) (l : Fin 1024) :
    V m c main_v0 (ix2 k l) = m ((c : Thread nD τ).loc main_arg1) (ix2 k l) := by
  entry_read
  pointwise

/-- The second layer's weight when the launch begins. -/
theorem weight_entry (l : Fin 1024) (r : Fin 1024) :
    V m c main_v2 (ix4 1 0 l r) = m ((c : Thread nD τ).loc main_arg2) (ix3 1 l r) := by
  entry_read
  pointwise

theorem bias_entry (q : Fin 1024) : V m c main_v3 (ix2 0 q) = m ((c : Thread nD τ).loc main_arg3) (ix1 q) := by
  entry_read
  pointwise

theorem gain_entry (q : Fin 1024) : V m c main_v4 (ix2 0 q) = m ((c : Thread nD τ).loc main_arg4) (ix1 q) := by
  entry_read
  pointwise

theorem activation_apply (t : Fin cfg0.N) (a : Fin 512) (l : Fin 1024) :
    iblk m c 0 t (ix2 a l) = m ((c : Thread nD τ).loc main_arg1) (ix2 (row t a) l) := by
  rw [← activation_entry m c]
  unfold row
  blk_ext [iblk, (idx t).1.1]

theorem weight_apply (t : Fin cfg0.N) (l : Fin 1024) (r : Fin 1024) :
    iblk m c 1 t (ix4 0 0 l r) = m ((c : Thread nD τ).loc main_arg2) (ix3 1 l r) := by
  rw [← weight_entry m c]
  blk_ext [iblk, (idx t).1.2.1]

theorem residual_apply (t : Fin cfg0.N) (a : Fin 512) (r : Fin 1024) :
    iblk m c 3 t (ix2 a r) = m ((c : Thread nD τ).loc main_arg0) (ix2 (row t a) r) := by
  have e : V m c main_arg0 (ix2 (row t a) r) = m ((c : Thread nD τ).loc main_arg0) (ix2 (row t a) r) := by
    entry_read
    rfl
  rw [← e]
  unfold row
  blk_ext [iblk, (idx t).1.2.2.2]

theorem bias_apply (t : Fin cfg0.N) (q : Fin 1024) :
    iblk m c 2 t (ix2 0 q) = m ((c : Thread nD τ).loc main_arg3) (ix1 q) := by
  rw [← bias_entry m c]
  blk_ext [iblk, (idx t).1.2.2.1]

theorem gain_apply (t : Fin cfg0.N) (q : Fin 1024) :
    iblk m c 4 t (ix2 0 q) = m ((c : Thread nD τ).loc main_arg4) (ix1 q) := by
  rw [← gain_entry m c]
  blk_ext [iblk, (idx t).2.1]

/-- The output of the arrays the launch begins with. -/
def value (k : Fin 8192) (r : Fin 1024) : EReal :=
  biased 1 (m ((c : Thread nD τ).loc main_arg0)) (m ((c : Thread nD τ).loc main_arg1))
    (m ((c : Thread nD τ).loc main_arg2)) (m ((c : Thread nD τ).loc main_arg3)) k r

/-- The normed output of the arrays the launch begins with. -/
def normedValue (k : Fin 8192) (r : Fin 1024) : EReal :=
  normed (value m c k) (fun q => m ((c : Thread nD τ).loc main_arg4) (ix1 q)) r

theorem block_eq (t : Fin cfg0.N) (a : Fin 512) :
    block (iblk m c 0 t) (iblk m c 1 t) (iblk m c 2 t) (iblk m c 3 t) a = value m c (row t a) := by
  funext r
  unfold block value biased
  exact congrArg₂ (· + ·) (residual_apply m c t a r)
    (congrArg₂ (· + ·)
      (Finset.sum_congr rfl fun l _ => congrArg₂ (· * ·) (activation_apply m c t a l) (weight_apply m c t l r))
      (bias_apply m c t r))

/-- What the kernel leaves in its first result. -/
def outputResult : Buf (Elt Ideal) ((c : Thread nD τ).loc main_v5_0) := fun i => value m c (i 0) (i 1)

/-- What it leaves in its second. -/
def normedResult : Buf (Elt Ideal) ((c : Thread nD τ).loc main_v5_1) := fun i => normedValue m c (i 0) (i 1)

theorem out_apply (t : Fin cfg0.N) (a : Fin 512) (r : Fin 1024) :
    out0_5 (iblk m c 0 t) (iblk m c 1 t) (iblk m c 2 t) (iblk m c 3 t) (iblk m c 4 t)
      (ix2 a r) = value m c (row t a) r := by
  frame_out
  exact (block_apply _ _ _ _ a r).trans (congrFun (block_eq m c t a) r)

theorem normed_out_apply (t : Fin cfg0.N) (a : Fin 512) (r : Fin 1024) :
    out0_6 (iblk m c 0 t) (iblk m c 1 t) (iblk m c 2 t) (iblk m c 3 t) (iblk m c 4 t)
      (ix2 a r) = normedValue m c (row t a) r := by
  frame_out
  refine (normed_apply _ _ _ _ _ a r).trans ?_
  rw [block_eq]
  simp only [gain_apply]
  rfl

theorem final_output : (dats m 0 c).arrAt 5 cfg0.N = outputResult m c := by
  refine (dats m 0 c).arrAt_eq_of_covers 5 _ (by decide +kernel) fun t hf y => ?_
  blk_simp
  rw [after0_5]
  idx_vars y
  rw [out_apply]
  unfold outputResult
  exact congrArg₂ (value m c) (Fin.ext (by blk_simp [row, (idx t).2.2.1])) (Fin.ext (by blk_simp [(idx t).2.2.1]))

theorem final_normed : (dats m 0 c).arrAt 6 cfg0.N = normedResult m c := by
  refine (dats m 0 c).arrAt_eq_of_covers 6 _ (by decide +kernel) fun t hf y => ?_
  blk_simp
  rw [after0_6]
  idx_vars y
  rw [normed_out_apply]
  unfold normedResult
  exact congrArg₂ (normedValue m c) (Fin.ext (by blk_simp [row, (idx t).2.2.2]))
    (Fin.ext (by blk_simp [(idx t).2.2.2]))

end Cert.ConvolutionOut

end
-- ==== Proof.ConvOut.Equal.lean ====
/- The claim of the convolution layers' second projection: the kernel's run and the reference's run end with the same output and the same
   normed output. -/
module

public import proofs.«01_k».proof.Defs
public import proofs.«01_k».proof.Proof.ConvOut.Array
public import proofs.«01_k».proof.Proof.Gen.ConvOutReferenceIdeal.Read
public import proofs.«01_k».proof.Proof.Gen.ConvOutReferenceIdeal.Run

@[expose] public section

set_option maxRecDepth 16384

noncomputable section

namespace Cert.ConvolutionOut

open Idealize.ShloMosaic Idealize.SL.Sem
open Cert.BlockOutput (normed)
open Cert.ConvOutReferenceIdeal Cert.ConvOutReferenceIdeal.Gen Cert.ConvOutReferenceIdeal.Read

theorem output_eq (x : Vec Ideal S8192x1024 .f32) (a : Vec Ideal S8192x1024 .f32) (w : Vec Ideal S2x1024x1024 .f32)
    (b : Vec Ideal S1024 .f32) :
    val_main_v6 (F := Ideal) x a w b = fun i => biased 1 x a w b (i 0) (i 1) := by
  funext i
  idx_vars i
  pointwise [val_main_v6, val_main_v5, val_main_v4, val_main_v3, val_main_v2, val_main_v1, val_main_v0]
  rfl

theorem normed_eq (x : Vec Ideal S8192x1024 .f32) (a : Vec Ideal S8192x1024 .f32) (w : Vec Ideal S2x1024x1024 .f32)
    (b g : Vec Ideal S1024 .f32) :
    val_main_v20 (F := Ideal) x a w b g = fun i => normed (biased 1 x a w b (i 0)) (fun q => g (ix1 q)) (i 1) := by
  funext i
  idx_vars i
  pointwise [val_main_v20, val_main_v19, val_main_v18, val_main_v17, val_main_v16, val_main_v15, val_main_v14, val_main_v13, val_main_v12, val_main_v11, val_main_v10, val_main_v9,
    val_main_v8, val_main_v7, val_main_cst,
    val_main_cst_0, val_main_cst_1, output_eq]
  rfl

theorem algebraic : Cert.algebraic_ConvOutKernelIdeal_ConvOutReferenceIdeal
    (hConvOutKernelIdeal := Cert.ConvOutKernelIdeal.Gen.facts) (hConvOutReferenceIdeal := Cert.ConvOutReferenceIdeal.Gen.facts) := by
  intro m ρ m' ρ' _ hargs
  refine ⟨fun c => outputResult m c, fun c => normedResult m c, ?_, ?_⟩
  · refine (θ_run _ _ _).mono (fun r h c => ?_) (Cert.ConvOutKernelIdeal.Value.run_blocks m ρ)
    exact ⟨(h c).1.trans (final_output m c), (h c).2.1.trans (final_normed m c), (h c).2.2⟩
  · refine (θ_run _ _ _).mono (fun r h c => ?_) (Cert.ConvOutReferenceIdeal.Value.run m' ρ')
    obtain ⟨a0, a1, a2, a3, a4⟩ := hargs c
    refine ⟨(h c).1.trans ?_, (h c).2.1.trans ?_, (h c).2.2⟩
    · rw [val_main_v6_eq, output_eq, a0, a1, a2, a3]
      rfl
    · rw [val_main_v20_eq, normed_eq, a0, a1, a2, a3, a4]
      rfl

end Cert.ConvolutionOut

end
-- ==== Proof.Last.Array.lean ====
/- The last layer's output, which no norm follows: the kernel's result array after the run, made up of blocks of 1024 rows
   and 512 columns. -/
module

public import proofs.«01_k».proof.Proof.Gen.LastKernelIdeal.Value
public import proofs.«01_k».proof.Proof.Out.Array

@[expose] public section

set_option maxRecDepth 16384

noncomputable section

namespace Cert.LastOutput

open Idealize.ShloMosaic Idealize.ShloMosaic.TcCoe
open Cert.BlockOutput (output)
open Cert.LastKernelIdeal Cert.LastKernelIdeal.Gen Cert.LastKernelIdeal.Value

variable (m : (ℓ : Loc nD τ sig) → Buf (Elt Ideal) ℓ) (c : Dev nD)

/-- Where each window's block lies at point `t`: the two halves of the columns run fastest. -/
theorem idx (t : Fin cfg0.N) : win0_0.index t = ![t.val / 2, 0] ∧ win0_1.index t = ![0, 0, 0, t.val % 2]
    ∧ win0_2.index t = ![t.val / 2, t.val % 2] ∧ win0_3.index t = ![t.val / 2, t.val % 2] :=
  (by decide +kernel : ∀ t : Fin grid0.N, win0_0.index t = ![t.val / 2, 0] ∧ win0_1.index t = ![0, 0, 0, t.val % 2]
    ∧ win0_2.index t = ![t.val / 2, t.val % 2] ∧ win0_3.index t = ![t.val / 2, t.val % 2]) t

/-- Row `a` of the block at point `t`. -/
def row (t : Fin cfg0.N) (a : Fin 1024) : Fin 8192 :=
  ⟨t.val / 2 * 1024 + a.val, by have := lt_of_lt_of_eq t.isLt N_0; omega⟩

/-- Column `q` of the half at point `t`. -/
def col (t : Fin cfg0.N) (q : Fin 512) : Fin 1024 := ⟨t.val % 2 * 512 + q.val, by omega⟩

/-- One point's block of the result. -/
theorem block_apply (A : Vec Ideal S1024x2816 .bf16) (W : Vec Ideal S1x1x2816x512 .bf16) (X : Vec Ideal S1024x512 .f32)
    (a : Fin 1024) (q : Fin 512) :
    out0_3 (F := Ideal) A W X (ix2 a q) = X (ix2 a q) + ∑ l : Fin 2816, A (ix2 a l) * W (ix4 0 0 l q) := by
  frame_out
  unfold_payloads
  pointwise

/-- The activations' array when the launch begins. -/
theorem activation_entry (k : Fin 8192) (l : Fin 2816) :
    V m c main_v0 (ix2 k l) = m ((c : Thread nD τ).loc main_arg1) (ix2 k l) := by
  entry_read
  pointwise

/-- The weight's array when the launch begins. -/
theorem weight_entry (l : Fin 2816) (r : Fin 1024) :
    V m c main_v2 (ix4 0 0 l r) = m ((c : Thread nD τ).loc main_arg2) (ix2 l r) := by
  entry_read
  pointwise

theorem activation_apply (t : Fin cfg0.N) (a : Fin 1024) (l : Fin 2816) :
    iblk m c 0 t (ix2 a l) = m ((c : Thread nD τ).loc main_arg1) (ix2 (row t a) l) := by
  rw [← activation_entry m c]
  unfold row
  blk_ext [iblk, (idx t).1]

theorem weight_apply (t : Fin cfg0.N) (l : Fin 2816) (q : Fin 512) :
    iblk m c 1 t (ix4 0 0 l q) = m ((c : Thread nD τ).loc main_arg2) (ix2 l (col t q)) := by
  rw [← weight_entry m c]
  unfold col
  blk_ext [iblk, (idx t).2.1]

theorem residual_apply (t : Fin cfg0.N) (a : Fin 1024) (q : Fin 512) :
    iblk m c 2 t (ix2 a q) = m ((c : Thread nD τ).loc main_arg0) (ix2 (row t a) (col t q)) := by
  have e : V m c main_arg0 (ix2 (row t a) (col t q))
      = m ((c : Thread nD τ).loc main_arg0) (ix2 (row t a) (col t q)) := by
    entry_read
    rfl
  rw [← e]
  unfold row col
  blk_ext [iblk, (idx t).2.2.1]

/-- The output of the arrays the launch begins with. -/
def value (k : Fin 8192) (r : Fin 1024) : EReal :=
  output (m ((c : Thread nD τ).loc main_arg0)) (m ((c : Thread nD τ).loc main_arg1))
    (m ((c : Thread nD τ).loc main_arg2)) k r

/-- What the kernel leaves in its result. -/
def result : Buf (Elt Ideal) ((c : Thread nD τ).loc main_v3) := fun i => value m c (i 0) (i 1)

theorem out_apply (t : Fin cfg0.N) (a : Fin 1024) (q : Fin 512) :
    out0_3 (iblk m c 0 t) (iblk m c 1 t) (iblk m c 2 t) (ix2 a q) = value m c (row t a) (col t q) := by
  refine (block_apply _ _ _ a q).trans ?_
  unfold value output
  exact congrArg₂ (· + ·) (residual_apply m c t a q)
    (Finset.sum_congr rfl fun l _ => congrArg₂ (· * ·) (activation_apply m c t a l) (weight_apply m c t l q))

theorem final : (dats m 0 c).arrAt 3 cfg0.N = result m c := by
  refine (dats m 0 c).arrAt_eq_of_covers 3 _ (by decide +kernel) fun t hf y => ?_
  blk_simp
  rw [after0_3]
  idx_vars y
  rw [out_apply]
  unfold result
  exact congrArg₂ (value m c) (Fin.ext (by blk_simp [row, (idx t).2.2.2]))
    (Fin.ext (by blk_simp [col, (idx t).2.2.2]))

end Cert.LastOutput

end
-- ==== Proof.Last.Equal.lean ====
/- The claim of the last layer's output: the kernel's run and the reference's run end with the same result. -/
module

public import proofs.«01_k».proof.Defs
public import proofs.«01_k».proof.Proof.Last.Array
public import proofs.«01_k».proof.Proof.Gen.LastReferenceIdeal.Read
public import proofs.«01_k».proof.Proof.Gen.LastReferenceIdeal.Run

@[expose] public section

set_option maxRecDepth 16384

noncomputable section

namespace Cert.LastOutput

open Idealize.ShloMosaic Idealize.SL.Sem
open Cert.BlockOutput (output)
open Cert.LastReferenceIdeal Cert.LastReferenceIdeal.Gen Cert.LastReferenceIdeal.Read

theorem output_eq (x : Vec Ideal S8192x1024 .f32) (a : Vec Ideal S8192x2816 .f32) (w : Vec Ideal S2816x1024 .f32) :
    val_main_v1 (F := Ideal) x a w = fun i => output x a w (i 0) (i 1) := by
  funext i
  idx_vars i
  pointwise [val_main_v1, val_main_v0]
  rfl

theorem algebraic : Cert.algebraic_LastKernelIdeal_LastReferenceIdeal
    (hLastKernelIdeal := Cert.LastKernelIdeal.Gen.facts) (hLastReferenceIdeal := Cert.LastReferenceIdeal.Gen.facts) := by
  intro m ρ m' ρ' _ hargs
  refine ⟨fun c => result m c, ?_, ?_⟩
  · refine (θ_run _ _ _).mono (fun r h c => ?_) (Cert.LastKernelIdeal.Value.run_blocks m ρ)
    exact ⟨(h c).1.trans (final m c), (h c).2⟩
  · refine (θ_run _ _ _).mono (fun r h c => ?_) (Cert.LastReferenceIdeal.Value.run m' ρ')
    obtain ⟨a0, a1, a2⟩ := hargs c
    refine ⟨(h c).1.trans ?_, (h c).2⟩
    rw [val_main_v1_eq, output_eq, a0, a1, a2]
    rfl

end Cert.LastOutput

end
-- ==== Proof.Step.lean ====
/- One step of the optimiser at one entry, as formulas over the extended reals. -/
module

public import Idealize.ShloMosaic.Lib.Pointwise

@[expose] public section

noncomputable section

namespace Cert.Step

open Idealize.ShloMosaic

/-- The new running mean of the gradients, from the gradient `g` and the old mean `u`. -/
def mean (g u : EReal) : EReal := Ideal.ofBits .f32 0x3F666666#32 * u + Ideal.ofBits .f32 0x3DCCCCCD#32 * g

/-- The new running mean of their squares, from the gradient `g` and the old mean `v`. -/
def square (g v : EReal) : EReal := Ideal.ofBits .f32 0x3F7FBE77#32 * v + Ideal.ofBits .f32 0x3A83126F#32 * (g * g)

/-- The change of the weight `w`. -/
def change (w g u v : EReal) : EReal :=
  Ideal.ofBits .f32 0xBA83126F#32
    * (Ideal.div (Ideal.div (mean g u) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

end Cert.Step

end
-- ==== Proof.UpStep.Array.lean ====
/- The optimiser's step of the up-projection's weight: the kernel's three result arrays after the run, made up of blocks of 256 rows. -/
module

public import proofs.«01_k».proof.Proof.Gen.UpStepKernelIdeal.Value
public import proofs.«01_k».proof.Proof.Step
public import Idealize.ShloMosaic.Lib.Pipeline.ValueKit
public import Idealize.ShloMosaic.Lib.Pipeline.ReadBack

@[expose] public section

set_option maxRecDepth 16384

noncomputable section

namespace Cert.UpStep

open Idealize.ShloMosaic Idealize.ShloMosaic.TcCoe
open Cert.UpStepKernelIdeal Cert.UpStepKernelIdeal.Gen Cert.UpStepKernelIdeal.Value

variable (m : (ℓ : Loc nD τ sig) → Buf (Elt Ideal) ℓ) (c : Dev nD)

/-- Where each window's block lies at point `t`. -/
theorem idx (t : Fin cfg0.N) : (win0_0.index t = ![t.val, 0] ∧ win0_1.index t = ![t.val, 0]
    ∧ win0_2.index t = ![t.val, 0] ∧ win0_3.index t = ![t.val, 0]) ∧ win0_4.index t = ![t.val, 0]
    ∧ win0_5.index t = ![t.val, 0] ∧ win0_6.index t = ![t.val, 0] :=
  (by decide +kernel : ∀ t : Fin grid0.N, (win0_0.index t = ![t.val, 0] ∧ win0_1.index t = ![t.val, 0]
    ∧ win0_2.index t = ![t.val, 0] ∧ win0_3.index t = ![t.val, 0]) ∧ win0_4.index t = ![t.val, 0]
    ∧ win0_5.index t = ![t.val, 0] ∧ win0_6.index t = ![t.val, 0]) t

/-- Row `a` of the block at point `t`. -/
def row (t : Fin cfg0.N) (a : Fin 256) : Fin 4096 :=
  ⟨t.val * 256 + a.val, by have := lt_of_lt_of_eq t.isLt N_0; omega⟩

theorem weight_apply (t : Fin cfg0.N) (a : Fin 256) (q : Fin 1408) :
    iblk m c 0 t (ix2 a q) = m ((c : Thread nD τ).loc main_arg0) (ix2 (row t a) q) := by
  have e : V m c main_arg0 (ix2 (row t a) q) = m ((c : Thread nD τ).loc main_arg0) (ix2 (row t a) q) := by
    entry_read
    rfl
  rw [← e]
  unfold row
  blk_ext [iblk, (idx t).1.1]

theorem gradient_apply (t : Fin cfg0.N) (a : Fin 256) (q : Fin 1408) :
    iblk m c 1 t (ix2 a q) = m ((c : Thread nD τ).loc main_arg1) (ix2 (row t a) q) := by
  have e : V m c main_arg1 (ix2 (row t a) q) = m ((c : Thread nD τ).loc main_arg1) (ix2 (row t a) q) := by
    entry_read
    rfl
  rw [← e]
  unfold row
  blk_ext [iblk, (idx t).1.2.1]

theorem mean_apply (t : Fin cfg0.N) (a : Fin 256) (q : Fin 1408) :
    iblk m c 2 t (ix2 a q) = m ((c : Thread nD τ).loc main_arg2) (ix2 (row t a) q) := by
  have e : V m c main_arg2 (ix2 (row t a) q) = m ((c : Thread nD τ).loc main_arg2) (ix2 (row t a) q) := by
    entry_read
    rfl
  rw [← e]
  unfold row
  blk_ext [iblk, (idx t).1.2.2.1]

theorem square_apply (t : Fin cfg0.N) (a : Fin 256) (q : Fin 1408) :
    iblk m c 3 t (ix2 a q) = m ((c : Thread nD τ).loc main_arg3) (ix2 (row t a) q) := by
  have e : V m c main_arg3 (ix2 (row t a) q) = m ((c : Thread nD τ).loc main_arg3) (ix2 (row t a) q) := by
    entry_read
    rfl
  rw [← e]
  unfold row
  blk_ext [iblk, (idx t).1.2.2.2]

/-- The weight's change, from the arrays the launch begins with. -/
def changeValue (k : Fin 4096) (q : Fin 1408) : EReal :=
  Step.change (m ((c : Thread nD τ).loc main_arg0) (ix2 k q)) (m ((c : Thread nD τ).loc main_arg1) (ix2 k q))
    (m ((c : Thread nD τ).loc main_arg2) (ix2 k q)) (m ((c : Thread nD τ).loc main_arg3) (ix2 k q))

/-- The gradients' new running mean. -/
def meanValue (k : Fin 4096) (q : Fin 1408) : EReal :=
  Step.mean (m ((c : Thread nD τ).loc main_arg1) (ix2 k q)) (m ((c : Thread nD τ).loc main_arg2) (ix2 k q))

/-- The new running mean of their squares. -/
def squareValue (k : Fin 4096) (q : Fin 1408) : EReal :=
  Step.square (m ((c : Thread nD τ).loc main_arg1) (ix2 k q)) (m ((c : Thread nD τ).loc main_arg3) (ix2 k q))

/-- What the kernel leaves in its three results. -/
def changeResult : Buf (Elt Ideal) ((c : Thread nD τ).loc main_v0_0) := fun i => changeValue m c (i 0) (i 1)

def meanResult : Buf (Elt Ideal) ((c : Thread nD τ).loc main_v0_1) := fun i => meanValue m c (i 0) (i 1)

def squareResult : Buf (Elt Ideal) ((c : Thread nD τ).loc main_v0_2) := fun i => squareValue m c (i 0) (i 1)

theorem change_out (t : Fin cfg0.N) (a : Fin 256) (q : Fin 1408) :
    out0_4 (iblk m c 0 t) (iblk m c 1 t) (iblk m c 2 t) (iblk m c 3 t) (ix2 a q)
      = changeValue m c (row t a) q := by
  unfold changeValue
  rw [← weight_apply m c, ← gradient_apply m c, ← mean_apply m c, ← square_apply m c]
  frame_out
  unfold_payloads
  pointwise [Step.change, Step.mean, Step.square]

theorem mean_out (t : Fin cfg0.N) (a : Fin 256) (q : Fin 1408) :
    out0_5 (iblk m c 0 t) (iblk m c 1 t) (iblk m c 2 t) (iblk m c 3 t) (ix2 a q)
      = meanValue m c (row t a) q := by
  unfold meanValue
  rw [← gradient_apply m c, ← mean_apply m c]
  frame_out
  unfold_payloads
  pointwise [Step.mean]

theorem square_out (t : Fin cfg0.N) (a : Fin 256) (q : Fin 1408) :
    out0_6 (iblk m c 0 t) (iblk m c 1 t) (iblk m c 2 t) (iblk m c 3 t) (ix2 a q)
      = squareValue m c (row t a) q := by
  unfold squareValue
  rw [← gradient_apply m c, ← square_apply m c]
  frame_out
  unfold_payloads
  pointwise [Step.square]

theorem final_change : (dats m 0 c).arrAt 4 cfg0.N = changeResult m c := by
  refine (dats m 0 c).arrAt_eq_of_covers 4 _ (by decide +kernel) fun t hf y => ?_
  blk_simp
  rw [after0_4]
  idx_vars y
  rw [change_out]
  unfold changeResult
  exact congrArg₂ (changeValue m c) (Fin.ext (by blk_simp [row, (idx t).2.1]))
    (Fin.ext (by blk_simp [(idx t).2.1]))

theorem final_mean : (dats m 0 c).arrAt 5 cfg0.N = meanResult m c := by
  refine (dats m 0 c).arrAt_eq_of_covers 5 _ (by decide +kernel) fun t hf y => ?_
  blk_simp
  rw [after0_5]
  idx_vars y
  rw [mean_out]
  unfold meanResult
  exact congrArg₂ (meanValue m c) (Fin.ext (by blk_simp [row, (idx t).2.2.1]))
    (Fin.ext (by blk_simp [(idx t).2.2.1]))

theorem final_square : (dats m 0 c).arrAt 6 cfg0.N = squareResult m c := by
  refine (dats m 0 c).arrAt_eq_of_covers 6 _ (by decide +kernel) fun t hf y => ?_
  blk_simp
  rw [after0_6]
  idx_vars y
  rw [square_out]
  unfold squareResult
  exact congrArg₂ (squareValue m c) (Fin.ext (by blk_simp [row, (idx t).2.2.2]))
    (Fin.ext (by blk_simp [(idx t).2.2.2]))

end Cert.UpStep

end
-- ==== Proof.UpStep.Equal.lean ====
/- The claim of the optimiser's step of the up-projection's weight: the kernel's run and the reference's run end with the same three
   results. -/
module

public import proofs.«01_k».proof.Defs
public import proofs.«01_k».proof.Proof.UpStep.Array
public import proofs.«01_k».proof.Proof.Gen.UpStepReferenceIdeal.Read
public import proofs.«01_k».proof.Proof.Gen.UpStepReferenceIdeal.Run

@[expose] public section

set_option maxRecDepth 16384

noncomputable section

namespace Cert.UpStep

open Idealize.ShloMosaic Idealize.SL.Sem
open Cert.UpStepReferenceIdeal Cert.UpStepReferenceIdeal.Gen Cert.UpStepReferenceIdeal.Read

theorem mean_eq (g u : Vec Ideal S4096x1408 .f32) :
    val_main_v4 (F := Ideal) g u = fun i => Step.mean (g (ix2 (i 0) (i 1))) (u (ix2 (i 0) (i 1))) := by
  funext i
  idx_vars i
  pointwise [val_main_v4, val_main_v3, val_main_v2, val_main_v1, val_main_v0, val_main_cst, val_main_cst_0, Step.mean]

theorem square_eq (g v : Vec Ideal S4096x1408 .f32) :
    val_main_v10 (F := Ideal) g v = fun i => Step.square (g (ix2 (i 0) (i 1))) (v (ix2 (i 0) (i 1))) := by
  funext i
  idx_vars i
  pointwise [val_main_v10, val_main_v9, val_main_v8, val_main_v7, val_main_v6, val_main_v5, val_main_cst_1,
    val_main_cst_2, Step.square]

theorem change_eq (w g u v : Vec Ideal S4096x1408 .f32) :
    val_main_v23 (F := Ideal) w g u v = fun i =>
      Step.change (w (ix2 (i 0) (i 1))) (g (ix2 (i 0) (i 1))) (u (ix2 (i 0) (i 1))) (v (ix2 (i 0) (i 1))) := by
  funext i
  idx_vars i
  pointwise [val_main_v23, val_main_v22, val_main_v21, val_main_v20, val_main_v19, val_main_v18, val_main_v17,
    val_main_v16, val_main_v15, val_main_v14, val_main_v13, val_main_v12, val_main_v11, val_main_cst_3,
    val_main_cst_4, val_main_cst_5, val_main_cst_6, val_main_cst_7, mean_eq, square_eq, Step.change]

theorem algebraic : Cert.algebraic_UpStepKernelIdeal_UpStepReferenceIdeal
    (hUpStepKernelIdeal := Cert.UpStepKernelIdeal.Gen.facts)
    (hUpStepReferenceIdeal := Cert.UpStepReferenceIdeal.Gen.facts) := by
  intro m ρ m' ρ' _ hargs
  refine ⟨fun c => changeResult m c, fun c => meanResult m c, fun c => squareResult m c, ?_, ?_⟩
  · refine (θ_run _ _ _).mono (fun r h c => ?_) (Cert.UpStepKernelIdeal.Value.run_blocks m ρ)
    exact ⟨(h c).1.trans (final_change m c), (h c).2.1.trans (final_mean m c),
      (h c).2.2.1.trans (final_square m c), (h c).2.2.2⟩
  · refine (θ_run _ _ _).mono (fun r h c => ?_) (Cert.UpStepReferenceIdeal.Value.run m' ρ')
    obtain ⟨a0, a1, a2, a3⟩ := hargs c
    refine ⟨(h c).1.trans ?_, (h c).2.1.trans ?_, (h c).2.2.1.trans ?_, (h c).2.2.2⟩
    · rw [val_main_v23_eq, change_eq, a0, a1, a2, a3]
      rfl
    · refine (val_main_v4_eq _ _).trans ?_
      rw [mean_eq, a1, a2]
      rfl
    · refine (val_main_v10_eq _ _).trans ?_
      rw [square_eq, a1, a3]
      rfl

end Cert.UpStep

end
-- ==== Proof.DownStep.Array.lean ====
/- The optimiser's step of the down-projection's weight: the kernel's three result arrays after the run, made up of blocks of 256 rows. -/
module

public import proofs.«01_k».proof.Proof.Gen.DownStepKernelIdeal.Value
public import proofs.«01_k».proof.Proof.Step
public import Idealize.ShloMosaic.Lib.Pipeline.ValueKit
public import Idealize.ShloMosaic.Lib.Pipeline.ReadBack

@[expose] public section

set_option maxRecDepth 16384

noncomputable section

namespace Cert.DownStep

open Idealize.ShloMosaic Idealize.ShloMosaic.TcCoe
open Cert.DownStepKernelIdeal Cert.DownStepKernelIdeal.Gen Cert.DownStepKernelIdeal.Value

variable (m : (ℓ : Loc nD τ sig) → Buf (Elt Ideal) ℓ) (c : Dev nD)

/-- Where each window's block lies at point `t`. -/
theorem idx (t : Fin cfg0.N) : (win0_0.index t = ![t.val, 0] ∧ win0_1.index t = ![t.val, 0]
    ∧ win0_2.index t = ![t.val, 0] ∧ win0_3.index t = ![t.val, 0]) ∧ win0_4.index t = ![t.val, 0]
    ∧ win0_5.index t = ![t.val, 0] ∧ win0_6.index t = ![t.val, 0] :=
  (by decide +kernel : ∀ t : Fin grid0.N, (win0_0.index t = ![t.val, 0] ∧ win0_1.index t = ![t.val, 0]
    ∧ win0_2.index t = ![t.val, 0] ∧ win0_3.index t = ![t.val, 0]) ∧ win0_4.index t = ![t.val, 0]
    ∧ win0_5.index t = ![t.val, 0] ∧ win0_6.index t = ![t.val, 0]) t

/-- Row `a` of the block at point `t`. -/
def row (t : Fin cfg0.N) (a : Fin 256) : Fin 2816 :=
  ⟨t.val * 256 + a.val, by have := lt_of_lt_of_eq t.isLt N_0; omega⟩

theorem weight_apply (t : Fin cfg0.N) (a : Fin 256) (q : Fin 1024) :
    iblk m c 0 t (ix2 a q) = m ((c : Thread nD τ).loc main_arg0) (ix2 (row t a) q) := by
  have e : V m c main_arg0 (ix2 (row t a) q) = m ((c : Thread nD τ).loc main_arg0) (ix2 (row t a) q) := by
    entry_read
    rfl
  rw [← e]
  unfold row
  blk_ext [iblk, (idx t).1.1]

theorem gradient_apply (t : Fin cfg0.N) (a : Fin 256) (q : Fin 1024) :
    iblk m c 1 t (ix2 a q) = m ((c : Thread nD τ).loc main_arg1) (ix2 (row t a) q) := by
  have e : V m c main_arg1 (ix2 (row t a) q) = m ((c : Thread nD τ).loc main_arg1) (ix2 (row t a) q) := by
    entry_read
    rfl
  rw [← e]
  unfold row
  blk_ext [iblk, (idx t).1.2.1]

theorem mean_apply (t : Fin cfg0.N) (a : Fin 256) (q : Fin 1024) :
    iblk m c 2 t (ix2 a q) = m ((c : Thread nD τ).loc main_arg2) (ix2 (row t a) q) := by
  have e : V m c main_arg2 (ix2 (row t a) q) = m ((c : Thread nD τ).loc main_arg2) (ix2 (row t a) q) := by
    entry_read
    rfl
  rw [← e]
  unfold row
  blk_ext [iblk, (idx t).1.2.2.1]

theorem square_apply (t : Fin cfg0.N) (a : Fin 256) (q : Fin 1024) :
    iblk m c 3 t (ix2 a q) = m ((c : Thread nD τ).loc main_arg3) (ix2 (row t a) q) := by
  have e : V m c main_arg3 (ix2 (row t a) q) = m ((c : Thread nD τ).loc main_arg3) (ix2 (row t a) q) := by
    entry_read
    rfl
  rw [← e]
  unfold row
  blk_ext [iblk, (idx t).1.2.2.2]

/-- The weight's change, from the arrays the launch begins with. -/
def changeValue (k : Fin 2816) (q : Fin 1024) : EReal :=
  Step.change (m ((c : Thread nD τ).loc main_arg0) (ix2 k q)) (m ((c : Thread nD τ).loc main_arg1) (ix2 k q))
    (m ((c : Thread nD τ).loc main_arg2) (ix2 k q)) (m ((c : Thread nD τ).loc main_arg3) (ix2 k q))

/-- The gradients' new running mean. -/
def meanValue (k : Fin 2816) (q : Fin 1024) : EReal :=
  Step.mean (m ((c : Thread nD τ).loc main_arg1) (ix2 k q)) (m ((c : Thread nD τ).loc main_arg2) (ix2 k q))

/-- The new running mean of their squares. -/
def squareValue (k : Fin 2816) (q : Fin 1024) : EReal :=
  Step.square (m ((c : Thread nD τ).loc main_arg1) (ix2 k q)) (m ((c : Thread nD τ).loc main_arg3) (ix2 k q))

/-- What the kernel leaves in its three results. -/
def changeResult : Buf (Elt Ideal) ((c : Thread nD τ).loc main_v0_0) := fun i => changeValue m c (i 0) (i 1)

def meanResult : Buf (Elt Ideal) ((c : Thread nD τ).loc main_v0_1) := fun i => meanValue m c (i 0) (i 1)

def squareResult : Buf (Elt Ideal) ((c : Thread nD τ).loc main_v0_2) := fun i => squareValue m c (i 0) (i 1)

theorem change_out (t : Fin cfg0.N) (a : Fin 256) (q : Fin 1024) :
    out0_4 (iblk m c 0 t) (iblk m c 1 t) (iblk m c 2 t) (iblk m c 3 t) (ix2 a q)
      = changeValue m c (row t a) q := by
  unfold changeValue
  rw [← weight_apply m c, ← gradient_apply m c, ← mean_apply m c, ← square_apply m c]
  frame_out
  unfold_payloads
  pointwise [Step.change, Step.mean, Step.square]

theorem mean_out (t : Fin cfg0.N) (a : Fin 256) (q : Fin 1024) :
    out0_5 (iblk m c 0 t) (iblk m c 1 t) (iblk m c 2 t) (iblk m c 3 t) (ix2 a q)
      = meanValue m c (row t a) q := by
  unfold meanValue
  rw [← gradient_apply m c, ← mean_apply m c]
  frame_out
  unfold_payloads
  pointwise [Step.mean]

theorem square_out (t : Fin cfg0.N) (a : Fin 256) (q : Fin 1024) :
    out0_6 (iblk m c 0 t) (iblk m c 1 t) (iblk m c 2 t) (iblk m c 3 t) (ix2 a q)
      = squareValue m c (row t a) q := by
  unfold squareValue
  rw [← gradient_apply m c, ← square_apply m c]
  frame_out
  unfold_payloads
  pointwise [Step.square]

theorem final_change : (dats m 0 c).arrAt 4 cfg0.N = changeResult m c := by
  refine (dats m 0 c).arrAt_eq_of_covers 4 _ (by decide +kernel) fun t hf y => ?_
  blk_simp
  rw [after0_4]
  idx_vars y
  rw [change_out]
  unfold changeResult
  exact congrArg₂ (changeValue m c) (Fin.ext (by blk_simp [row, (idx t).2.1]))
    (Fin.ext (by blk_simp [(idx t).2.1]))

theorem final_mean : (dats m 0 c).arrAt 5 cfg0.N = meanResult m c := by
  refine (dats m 0 c).arrAt_eq_of_covers 5 _ (by decide +kernel) fun t hf y => ?_
  blk_simp
  rw [after0_5]
  idx_vars y
  rw [mean_out]
  unfold meanResult
  exact congrArg₂ (meanValue m c) (Fin.ext (by blk_simp [row, (idx t).2.2.1]))
    (Fin.ext (by blk_simp [(idx t).2.2.1]))

theorem final_square : (dats m 0 c).arrAt 6 cfg0.N = squareResult m c := by
  refine (dats m 0 c).arrAt_eq_of_covers 6 _ (by decide +kernel) fun t hf y => ?_
  blk_simp
  rw [after0_6]
  idx_vars y
  rw [square_out]
  unfold squareResult
  exact congrArg₂ (squareValue m c) (Fin.ext (by blk_simp [row, (idx t).2.2.2]))
    (Fin.ext (by blk_simp [(idx t).2.2.2]))

end Cert.DownStep

end
-- ==== Proof.DownStep.Equal.lean ====
/- The claim of the optimiser's step of the down-projection's weight: the kernel's run and the reference's run end with the same three
   results. -/
module

public import proofs.«01_k».proof.Defs
public import proofs.«01_k».proof.Proof.DownStep.Array
public import proofs.«01_k».proof.Proof.Gen.DownStepReferenceIdeal.Read
public import proofs.«01_k».proof.Proof.Gen.DownStepReferenceIdeal.Run

@[expose] public section

set_option maxRecDepth 16384

noncomputable section

namespace Cert.DownStep

open Idealize.ShloMosaic Idealize.SL.Sem
open Cert.DownStepReferenceIdeal Cert.DownStepReferenceIdeal.Gen Cert.DownStepReferenceIdeal.Read

theorem mean_eq (g u : Vec Ideal S2816x1024 .f32) :
    val_main_v4 (F := Ideal) g u = fun i => Step.mean (g (ix2 (i 0) (i 1))) (u (ix2 (i 0) (i 1))) := by
  funext i
  idx_vars i
  pointwise [val_main_v4, val_main_v3, val_main_v2, val_main_v1, val_main_v0, val_main_cst, val_main_cst_0, Step.mean]

theorem square_eq (g v : Vec Ideal S2816x1024 .f32) :
    val_main_v10 (F := Ideal) g v = fun i => Step.square (g (ix2 (i 0) (i 1))) (v (ix2 (i 0) (i 1))) := by
  funext i
  idx_vars i
  pointwise [val_main_v10, val_main_v9, val_main_v8, val_main_v7, val_main_v6, val_main_v5, val_main_cst_1,
    val_main_cst_2, Step.square]

theorem change_eq (w g u v : Vec Ideal S2816x1024 .f32) :
    val_main_v23 (F := Ideal) w g u v = fun i =>
      Step.change (w (ix2 (i 0) (i 1))) (g (ix2 (i 0) (i 1))) (u (ix2 (i 0) (i 1))) (v (ix2 (i 0) (i 1))) := by
  funext i
  idx_vars i
  pointwise [val_main_v23, val_main_v22, val_main_v21, val_main_v20, val_main_v19, val_main_v18, val_main_v17,
    val_main_v16, val_main_v15, val_main_v14, val_main_v13, val_main_v12, val_main_v11, val_main_cst_3,
    val_main_cst_4, val_main_cst_5, val_main_cst_6, val_main_cst_7, mean_eq, square_eq, Step.change]

theorem algebraic : Cert.algebraic_DownStepKernelIdeal_DownStepReferenceIdeal
    (hDownStepKernelIdeal := Cert.DownStepKernelIdeal.Gen.facts)
    (hDownStepReferenceIdeal := Cert.DownStepReferenceIdeal.Gen.facts) := by
  intro m ρ m' ρ' _ hargs
  refine ⟨fun c => changeResult m c, fun c => meanResult m c, fun c => squareResult m c, ?_, ?_⟩
  · refine (θ_run _ _ _).mono (fun r h c => ?_) (Cert.DownStepKernelIdeal.Value.run_blocks m ρ)
    exact ⟨(h c).1.trans (final_change m c), (h c).2.1.trans (final_mean m c),
      (h c).2.2.1.trans (final_square m c), (h c).2.2.2⟩
  · refine (θ_run _ _ _).mono (fun r h c => ?_) (Cert.DownStepReferenceIdeal.Value.run m' ρ')
    obtain ⟨a0, a1, a2, a3⟩ := hargs c
    refine ⟨(h c).1.trans ?_, (h c).2.1.trans ?_, (h c).2.2.1.trans ?_, (h c).2.2.2⟩
    · rw [val_main_v23_eq, change_eq, a0, a1, a2, a3]
      rfl
    · refine (val_main_v4_eq _ _).trans ?_
      rw [mean_eq, a1, a2]
      rfl
    · refine (val_main_v10_eq _ _).trans ?_
      rw [square_eq, a1, a3]
      rfl

end Cert.DownStep

end
-- ==== Proof.FirstConvInput.Point.lean ====
/- One point of the grid of the gradient through the first convolution layer's first projection: 256 rows of the normalised
   activations' gradient, 512 columns from each of four owners. The product is the second layer's, and what follows it the
   up-projection's, so the facts about them are taken from there. -/
module

public import proofs.«01_k».proof.Proof.Gen.FirstConvInputKernelIdeal.Value
public import proofs.«01_k».proof.Proof.Input.Point
public import proofs.«01_k».proof.Proof.ConvInput.Point

@[expose] public section

set_option maxRecDepth 16384

noncomputable section

namespace Cert.FirstConvolutionInput

open Idealize.ShloMosaic Cert.FirstConvInputKernelIdeal Cert.FirstConvInputKernelIdeal.Gen Cert.FirstConvInputKernelIdeal.Value Idealize.ShloMosaic.TcCoe
open Cert.InputGradient (block rowGradient share)
open Cert.ConvolutionInput (products products_apply)

variable (m : (ℓ : Loc nD τ sig) → Buf (Elt Ideal) ℓ) (c : Dev nD)

/-- The input's gradient at any point. -/
theorem out_row (t : Fin cfg0.N) (a : Fin 256) (r : Fin 1024) :
    (outsAt0 m c t.val t.isLt).1 (ix2 a r)
      = rowGradient (fun q => iblk m c 2 t (ix2 a q)) (fun q => iblk m c 3 t (ix2 0 q))
          (block (iblk m c 0 t) (iblk m c 1 t) (by decide) a) (iblk m c 4 t (ix2 a r)) r := by
  have e : (fun q => products (iblk m c 0 t) (iblk m c 1 t) (ix2 a q)) = block (iblk m c 0 t) (iblk m c 1 t) (by decide) a :=
    funext fun q => products_apply _ _ a q
  rw [← e]
  by_cases h0 : t.val % 32 = 0
  · rw [outsAt0_A m c t h0]
    frame_out
    exact InputGradient.Point.row_apply _ _ _ _ a r
  · rw [outsAt0_B m c t h0]
    frame_out
    exact InputGradient.Point.row_apply _ _ _ _ a r

/-- The low-precision copy is the same over the extended reals. -/
theorem out_low (t : Fin cfg0.N) (a : Fin 256) (r : Fin 1024) :
    (outsAt0 m c t.val t.isLt).2.1 (ix2 a r) = (outsAt0 m c t.val t.isLt).1 (ix2 a r) := by
  by_cases h0 : t.val % 32 = 0
  · rw [outsAt0_A m c t h0]
    frame_out
    exact InputGradient.Point.low_apply _ _ _ _ a r
  · rw [outsAt0_B m c t h0]
    frame_out
    exact InputGradient.Point.low_apply _ _ _ _ a r

/-- The first point leaves its own rows' share of the norm's gradient. -/
theorem gain_first (t : Fin cfg0.N) (h0 : t.val % 32 = 0) (a : Fin 1) (r : Fin 1024) :
    (outsAt0 m c t.val t.isLt).2.2 (ix2 a r)
      = 0 + share (products (iblk m c 0 t) (iblk m c 1 t)) (iblk m c 2 t) r := by
  rw [outsAt0_A m c t h0]
  frame_out
  refine (InputGradient.Point.share_apply _ _ _ a r).trans ?_
  rw [show k0_pay10 (F := Ideal) (ix2 a r) = 0 from InputGradient.Point.zero_apply a r]
  rfl

/-- A later point adds its own rows' share. -/
theorem gain_next (t : Fin cfg0.N) (h0 : ¬ t.val % 32 = 0) (a : Fin 1) (r : Fin 1024) :
    (outsAt0 m c t.val t.isLt).2.2 (ix2 a r)
      = (outsAt0 m c (t.val - 1) (Nat.lt_of_le_of_lt (Nat.sub_le _ _) t.isLt)).2.2 (ix2 a r)
        + share (products (iblk m c 0 t) (iblk m c 1 t)) (iblk m c 2 t) r := by
  rw [outsAt0_B m c t h0]
  frame_out
  exact InputGradient.Point.share_apply _ _ _ a r

end Cert.FirstConvolutionInput

end
-- ==== Proof.FirstConvInput.Array.lean ====
/- The three result arrays of the gradient through the first convolution layer's first projection: the input's gradient row block by row block, its low-precision copy,
   and the gradient of the norm's weights summed over all 8192 rows. -/
module

public import proofs.«01_k».proof.Proof.FirstConvInput.Point
public import proofs.«01_k».proof.Proof.Layer

@[expose] public section

set_option maxRecDepth 16384

noncomputable section

namespace Cert.FirstConvolutionInput

open Cert.FirstConvInputKernelIdeal Cert.FirstConvInputKernelIdeal.Gen Cert.FirstConvInputKernelIdeal.Value Idealize.ShloMosaic Idealize.ShloMosaic.TcCoe
open Cert.ConvolutionInput (products products_apply)
open Cert.InputGradient (block rowGradient share scale normedGradient inputGradient gainTerm gainGradient)

variable (m : (ℓ : Loc nD τ sig) → Buf (Elt Ideal) ℓ) (c : Dev nD)

/-- Where each window's block lies at point `t`. -/
theorem idx (t : Fin cfg0.N) : (win0_0.index t = ![t.val, 0] ∧ win0_1.index t = ![0, 0, 0, 0]
    ∧ win0_2.index t = ![t.val, 0] ∧ win0_3.index t = ![0, 0]) ∧ win0_4.index t = ![t.val, 0]
    ∧ win0_5.index t = ![t.val, 0] ∧ win0_6.index t = ![t.val, 0] ∧ win0_7.index t = ![0, 0] :=
  (by decide +kernel : ∀ t : Fin grid0.N, (win0_0.index t = ![t.val, 0] ∧ win0_1.index t = ![0, 0, 0, 0]
    ∧ win0_2.index t = ![t.val, 0] ∧ win0_3.index t = ![0, 0]) ∧ win0_4.index t = ![t.val, 0]
    ∧ win0_5.index t = ![t.val, 0] ∧ win0_6.index t = ![t.val, 0] ∧ win0_7.index t = ![0, 0]) t

/-- Row `a` of the block at point `t`. -/
def row (t : Fin cfg0.N) (a : Fin 256) : Fin 8192 :=
  ⟨t.val * 256 + a.val, by have := lt_of_lt_of_eq t.isLt N_0; omega⟩

/-- The incoming gradient's array when the launch begins. -/
theorem incoming_entry (k : Fin 8192) (l : Fin 2048) :
    V m c main_v0 (ix2 k l) = m ((c : Thread nD τ).loc main_arg4) (ix2 k l) := by
  entry_read
  pointwise

/-- The sirst layer's weight when the launch begins: its columns lie by owner. -/
theorem weight_entry (p : Fin 4) (r : Fin 1024) (l : Fin 512) :
    V m c main_v3 (ix4 0 p r l) = m ((c : Thread nD τ).loc main_arg2) (ix3 0 r (column p l)) := by
  entry_read
  pointwise
  rfl

/-- The norm's weights when the launch begins. -/
theorem gain_entry (r : Fin 1024) :
    V m c main_v4 (ix2 0 r) = m ((c : Thread nD τ).loc main_arg1) (ix1 r) := by
  entry_read
  pointwise

theorem incoming_apply (t : Fin cfg0.N) (a : Fin 256) (l : Fin 2048) :
    iblk m c 0 t (ix2 a l) = m ((c : Thread nD τ).loc main_arg4) (ix2 (row t a) l) := by
  rw [← incoming_entry m c]
  unfold row
  blk_ext [iblk, (idx t).1.1]

theorem weight_apply (t : Fin cfg0.N) (p : Fin 4) (r : Fin 1024) (l : Fin 512) :
    iblk m c 1 t (ix4 0 p r l) = m ((c : Thread nD τ).loc main_arg2) (ix3 0 r (column p l)) := by
  rw [← weight_entry m c]
  blk_ext [iblk, (idx t).1.2.1]

theorem input_apply (t : Fin cfg0.N) (a : Fin 256) (q : Fin 1024) :
    iblk m c 2 t (ix2 a q) = m ((c : Thread nD τ).loc main_arg0) (ix2 (row t a) q) := by
  have e : V m c main_arg0 (ix2 (row t a) q) = m ((c : Thread nD τ).loc main_arg0) (ix2 (row t a) q) := by
    entry_read
    rfl
  rw [← e]
  unfold row
  blk_ext [iblk, (idx t).1.2.2.1]

theorem gain_apply (t : Fin cfg0.N) (q : Fin 1024) :
    iblk m c 3 t (ix2 0 q) = m ((c : Thread nD τ).loc main_arg1) (ix1 q) := by
  rw [← gain_entry m c]
  blk_ext [iblk, (idx t).1.2.2.2]

theorem residual_apply (t : Fin cfg0.N) (a : Fin 256) (q : Fin 1024) :
    iblk m c 4 t (ix2 a q) = m ((c : Thread nD τ).loc main_arg3) (ix2 (row t a) q) := by
  have e : V m c main_arg3 (ix2 (row t a) q) = m ((c : Thread nD τ).loc main_arg3) (ix2 (row t a) q) := by
    entry_read
    rfl
  rw [← e]
  unfold row
  blk_ext [iblk, (idx t).2.1]

/-- The four owners' parts make up the whole product. -/
theorem block_apply (t : Fin cfg0.N) (a : Fin 256) :
    block (iblk m c 0 t) (iblk m c 1 t) (by decide) a
      = normedGradient (m ((c : Thread nD τ).loc main_arg4)) (layer 0 (m ((c : Thread nD τ).loc main_arg2))) (row t a) := by
  funext r
  unfold block normedGradient
  refine Fin.sum_mul_add_congr fun p l hl => ?_
  rw [incoming_apply, weight_apply]
  rfl

/-- The input's gradient of the arrays the launch begins with. -/
def value (k : Fin 8192) (r : Fin 1024) : EReal :=
  inputGradient (m ((c : Thread nD τ).loc main_arg0)) (m ((c : Thread nD τ).loc main_arg1))
    (layer 0 (m ((c : Thread nD τ).loc main_arg2))) (m ((c : Thread nD τ).loc main_arg3))
    (m ((c : Thread nD τ).loc main_arg4)) k r

/-- What the kernel leaves in its first result. -/
def inputResult : Buf (Elt Ideal) ((c : Thread nD τ).loc main_v5_0) := fun i => value m c (i 0) (i 1)

/-- What it leaves in its second. -/
def lowResult : Buf (Elt Ideal) ((c : Thread nD τ).loc main_v5_1) := fun i => value m c (i 0) (i 1)

/-- What it leaves in its third. -/
def gainResult : Buf (Elt Ideal) ((c : Thread nD τ).loc main_v5_2) := fun i =>
  gainGradient (m ((c : Thread nD τ).loc main_arg0)) (layer 0 (m ((c : Thread nD τ).loc main_arg2)))
    (m ((c : Thread nD τ).loc main_arg4)) (i 1)

/-- A point's block of the first result. -/
theorem out_apply (t : Fin cfg0.N) (a : Fin 256) (r : Fin 1024) :
    (outsAt0 m c t.val t.isLt).1 (ix2 a r) = value m c (row t a) r := by
  rw [out_row, block_apply, residual_apply]
  simp only [input_apply, gain_apply]
  rfl

theorem final_input : (dats m 0 c).arrAt 5 cfg0.N = inputResult m c := by
  refine (dats m 0 c).arrAt_eq_of_covers 5 _ (by decide +kernel) fun t hf y => ?_
  blk_simp
  rw [after0_5]
  idx_vars y
  rw [out_apply]
  unfold inputResult
  exact congrArg₂ (value m c) (Fin.ext (by blk_simp [row, (idx t).2.2.1])) (Fin.ext (by blk_simp [(idx t).2.2.1]))

theorem final_low : (dats m 0 c).arrAt 6 cfg0.N = lowResult m c := by
  refine (dats m 0 c).arrAt_eq_of_covers 6 _ (by decide +kernel) fun t hf y => ?_
  blk_simp
  rw [after0_6]
  idx_vars y
  rw [out_low, out_apply]
  unfold lowResult
  exact congrArg₂ (value m c) (Fin.ext (by blk_simp [row, (idx t).2.2.2.1])) (Fin.ext (by blk_simp [(idx t).2.2.2.1]))

/-- One point's share of the norm's gradient, as rows of the whole arrays. -/
theorem share_eq (t : Fin cfg0.N) (r : Fin 1024) :
    share (products (iblk m c 0 t) (iblk m c 1 t)) (iblk m c 2 t) r
      = ∑ k : Fin 256, gainTerm (m ((c : Thread nD τ).loc main_arg0)) (layer 0 (m ((c : Thread nD τ).loc main_arg2)))
          (m ((c : Thread nD τ).loc main_arg4)) (row t k) r := by
  unfold share gainTerm
  refine Finset.sum_congr rfl fun k _ => ?_
  rw [products_apply, block_apply]
  simp only [input_apply]

/-- After the last point the norm's gradient holds all points' shares. -/
theorem gain_last (t : Fin cfg0.N) (h : t.val % 32 = 31) (a : Fin 1) (r : Fin 1024) :
    (outsAt0 m c t.val t.isLt).2.2 (ix2 a r)
      = gainGradient (m ((c : Thread nD τ).loc main_arg0)) (layer 0 (m ((c : Thread nD τ).loc main_arg2)))
          (m ((c : Thread nD τ).loc main_arg4)) r := by
  refine (Pipeline.eq_sum_fin_of_reset_step_of_flush (fun n h => (outsAt0 m c n h).2.2 (ix2 a r)) 32 0
    (fun t => share (products (iblk m c 0 t) (iblk m c 1 t)) (iblk m c 2 t) r)
    (fun t h => gain_first m c t h a r) (fun t h => gain_next m c t h a r) t h).trans ?_
  rw [zero_add]
  unfold gainGradient
  simp only [share_eq]
  refine Fin.sum_mul_add_congr fun s k hk => ?_
  have e : row ⟨32 * (t.val / 32) + s.val, Pipeline.run_point_lt_of_flush t h s⟩ k = ⟨s.val * 256 + k.val, hk⟩ := by
    have := lt_of_lt_of_eq t.isLt N_0
    apply Fin.ext
    show (32 * (t.val / 32) + s.val) * 256 + k.val = s.val * 256 + k.val
    omega
  rw [e]

theorem final_gain : (dats m 0 c).arrAt 7 cfg0.N = gainResult m c := by
  refine (dats m 0 c).arrAt_eq_of_covers 7 _ (by decide +kernel) fun t hf y => ?_
  blk_simp
  rw [after0_7]
  have h := (flush0_7 t).mp hf
  idx_vars y
  rw [gain_last m c t h]
  unfold gainResult
  congr 1 <;> (apply Fin.ext; blk_simp [(idx t).2.2.2.2])

end Cert.FirstConvolutionInput

end
-- ==== Proof.FirstConvInput.Equal.lean ====
/- The claim for the gradient through the first convolution layer's first projection: the kernel's run and the reference's run end with the same three results. -/
module

public import proofs.«01_k».proof.Defs
public import proofs.«01_k».proof.Proof.FirstConvInput.Array
public import proofs.«01_k».proof.Proof.Gen.FirstConvInputReferenceIdeal.Run
public import proofs.«01_k».proof.Proof.Gen.FirstConvInputReferenceIdeal.Read

@[expose] public section

set_option maxRecDepth 16384

noncomputable section

namespace Cert.FirstConvolutionInput

open Idealize.ShloMosaic Idealize.SL.Sem
open Cert.FirstConvInputReferenceIdeal Cert.FirstConvInputReferenceIdeal.Gen Cert.FirstConvInputReferenceIdeal.Read
open Cert.InputGradient (inputGradient gainGradient)

theorem reference_input (x : Vec Ideal S8192x1024 .f32) (g : Vec Ideal S1024 .f32) (w : Vec Ideal S2x1024x2048 .f32)
    (e : Vec Ideal S8192x1024 .f32) (d : Vec Ideal S8192x2048 .f32) (k : Fin 8192) (r : Fin 1024) :
    val_main_v42 (F := Ideal) x g w e d (ix2 k r) = inputGradient x g (layer 0 w) e d k r := by
  pointwise [val_main_v42, val_main_v41, val_main_v40, val_main_v39, val_main_v38, val_main_v37, val_main_v36,
    val_main_v35, val_main_v34, val_main_v33, val_main_v32, val_main_v31, val_main_v30, val_main_v29, val_main_v28,
    val_main_v26, val_main_v25, val_main_v21, val_main_v15, val_main_v12, val_main_v11, val_main_v10, val_main_v9,
    val_main_v8, val_main_v7, val_main_v6, val_main_v5, val_main_v4, val_main_v3, val_main_v2, val_main_v1, val_main_v0,
    val_main_cst, val_main_cst_0, val_main_cst_1, val_main_cst_2, val_main_cst_5, val_main_cst_6, val_main_cst_7]
  simp only [Fintype.sum_unique]
  rfl

theorem reference_low (x : Vec Ideal S8192x1024 .f32) (g : Vec Ideal S1024 .f32) (w : Vec Ideal S2x1024x2048 .f32)
    (e : Vec Ideal S8192x1024 .f32) (d : Vec Ideal S8192x2048 .f32) (k : Fin 8192) (r : Fin 1024) :
    val_main_v43 (F := Ideal) x g w e d (ix2 k r) = inputGradient x g (layer 0 w) e d k r :=
  reference_input x g w e d k r

theorem reference_gain (x : Vec Ideal S8192x1024 .f32) (w : Vec Ideal S2x1024x2048 .f32)
    (d : Vec Ideal S8192x2048 .f32) (a : Fin 1) (r : Fin 1024) :
    val_main_v44 (F := Ideal) x w d (ix2 a r) = gainGradient x (layer 0 w) d r := by
  pointwise [val_main_v44, val_main_v27, val_main_v24, val_main_v23, val_main_v22, val_main_v21, val_main_v14,
    val_main_v13, val_main_v9,
    val_main_v8, val_main_v7, val_main_v6, val_main_v5, val_main_v4, val_main_v3, val_main_v2, val_main_v1, val_main_v0,
    val_main_cst, val_main_cst_0, val_main_cst_1, val_main_cst_3, val_main_cst_4]
  simp only [Fintype.sum_unique]
  rfl

theorem input_eq (x : Vec Ideal S8192x1024 .f32) (g : Vec Ideal S1024 .f32) (w : Vec Ideal S2x1024x2048 .f32)
    (e : Vec Ideal S8192x1024 .f32) (d : Vec Ideal S8192x2048 .f32) :
    val_main_v42 (F := Ideal) x g w e d = fun i => inputGradient x g (layer 0 w) e d (i 0) (i 1) := by
  funext i
  idx_vars i
  exact reference_input x g w e d _ _

theorem low_eq (x : Vec Ideal S8192x1024 .f32) (g : Vec Ideal S1024 .f32) (w : Vec Ideal S2x1024x2048 .f32)
    (e : Vec Ideal S8192x1024 .f32) (d : Vec Ideal S8192x2048 .f32) :
    val_main_v43 (F := Ideal) x g w e d = fun i => inputGradient x g (layer 0 w) e d (i 0) (i 1) := by
  funext i
  idx_vars i
  exact reference_low x g w e d _ _

theorem gain_eq (x : Vec Ideal S8192x1024 .f32) (w : Vec Ideal S2x1024x2048 .f32) (d : Vec Ideal S8192x2048 .f32) :
    val_main_v44 (F := Ideal) x w d = fun i => gainGradient x (layer 0 w) d (i 1) := by
  funext i
  idx_vars i
  exact reference_gain x w d _ _

theorem algebraic : Cert.algebraic_FirstConvInputKernelIdeal_FirstConvInputReferenceIdeal
    (hFirstConvInputKernelIdeal := Cert.FirstConvInputKernelIdeal.Gen.facts) (hFirstConvInputReferenceIdeal := Cert.FirstConvInputReferenceIdeal.Gen.facts) := by
  intro m ρ m' ρ' _ hargs
  refine ⟨fun c => inputResult m c, fun c => lowResult m c, fun c => gainResult m c, ?_, ?_⟩
  · refine (θ_run _ _ _).mono (fun r h c => ?_) (Cert.FirstConvInputKernelIdeal.Value.run_blocks m ρ)
    exact ⟨(h c).1.trans (final_input m c), (h c).2.1.trans (final_low m c),
      (h c).2.2.1.trans (final_gain m c), (h c).2.2.2⟩
  · refine (θ_run _ _ _).mono (fun r h c => ?_) (Cert.FirstConvInputReferenceIdeal.Value.run m' ρ')
    obtain ⟨a0, a1, a2, a3, a4⟩ := hargs c
    refine ⟨(h c).1.trans ?_, (h c).2.1.trans ?_, (h c).2.2.1.trans ?_, (h c).2.2.2⟩
    · rw [val_main_v42_eq, input_eq, a0, a1, a2, a3, a4]
      rfl
    · rw [val_main_v43_eq, low_eq, a0, a1, a2, a3, a4]
      rfl
    · refine (val_main_v44_eq _ _ _).trans ?_
      rw [gain_eq, a0, a2, a4]
      rfl

end Cert.FirstConvolutionInput

end
-- ==== Proof.FirstAttnBack.Array.lean ====
/- The gradient the first attention layer's output projection passes back to the heads' outputs: the kernel's result array
   after the run, made up of blocks of 512 rows. -/
module

public import proofs.«01_k».proof.Proof.Gen.FirstAttnBackKernelIdeal.Value
public import proofs.«01_k».proof.Proof.Down.Array
public import proofs.«01_k».proof.Proof.Layer
public import proofs.«01_k».proof.Proof.AttnBack.Array

@[expose] public section

set_option maxRecDepth 16384

noncomputable section

namespace Cert.FirstAttentionBack

open Idealize.ShloMosaic Idealize.ShloMosaic.TcCoe

open Cert.DownGradient (gradient)
open Cert.FirstAttnBackKernelIdeal Cert.FirstAttnBackKernelIdeal.Gen Cert.FirstAttnBackKernelIdeal.Value

variable (m : (ℓ : Loc nD τ sig) → Buf (Elt Ideal) ℓ) (c : Dev nD)

/-- Where each window's block lies at point `t`: the weight is the sirst layer's. -/
theorem idx (t : Fin cfg0.N) : win0_0.index t = ![t.val, 0] ∧ win0_1.index t = ![0, 0, 0, 0]
    ∧ win0_2.index t = ![t.val, 0] :=
  (by decide +kernel : ∀ t : Fin grid0.N, win0_0.index t = ![t.val, 0] ∧ win0_1.index t = ![0, 0, 0, 0]
    ∧ win0_2.index t = ![t.val, 0]) t

/-- Row `a` of the block at point `t`. -/
def row (t : Fin cfg0.N) (a : Fin 512) : Fin 8192 :=
  ⟨t.val * 512 + a.val, by have := lt_of_lt_of_eq t.isLt N_0; omega⟩

/-- One point's block of the result. -/
theorem block_apply (D : Vec Ideal S512x1024 .bf16) (W : Vec Ideal S1x1x1024x1024 .bf16) (a : Fin 512) (l : Fin 1024) :
    out0_2 (F := Ideal) D W (ix2 a l) = ∑ r : Fin 1024, D (ix2 a r) * W (ix4 0 0 l r) :=
  AttentionBack.block_apply D W a l

/-- The incoming gradient's array when the launch begins. -/
theorem incoming_entry (k : Fin 8192) (r : Fin 1024) :
    V m c main_v0 (ix2 k r) = m ((c : Thread nD τ).loc main_arg1) (ix2 k r) := by
  entry_read
  pointwise

/-- The sirst layer's weight when the launch begins. -/
theorem weight_entry (l : Fin 1024) (r : Fin 1024) :
    V m c main_v2 (ix4 0 0 l r) = m ((c : Thread nD τ).loc main_arg0) (ix3 0 l r) := by
  entry_read
  pointwise

theorem incoming_apply (t : Fin cfg0.N) (a : Fin 512) (r : Fin 1024) :
    iblk m c 0 t (ix2 a r) = m ((c : Thread nD τ).loc main_arg1) (ix2 (row t a) r) := by
  rw [← incoming_entry m c]
  unfold row
  blk_ext [iblk, (idx t).1]

theorem weight_apply (t : Fin cfg0.N) (l : Fin 1024) (r : Fin 1024) :
    iblk m c 1 t (ix4 0 0 l r) = m ((c : Thread nD τ).loc main_arg0) (ix3 0 l r) := by
  rw [← weight_entry m c]
  blk_ext [iblk, (idx t).2.1]

/-- The gradient of the arrays the launch begins with. -/
def value (k : Fin 8192) (l : Fin 1024) : EReal :=
  gradient (layer 0 (m ((c : Thread nD τ).loc main_arg0))) (m ((c : Thread nD τ).loc main_arg1)) k l

/-- What the kernel leaves in its result. -/
def result : Buf (Elt Ideal) ((c : Thread nD τ).loc main_v3) := fun i => value m c (i 0) (i 1)

theorem out_apply (t : Fin cfg0.N) (a : Fin 512) (l : Fin 1024) :
    out0_2 (iblk m c 0 t) (iblk m c 1 t) (ix2 a l) = value m c (row t a) l := by
  refine (block_apply _ _ a l).trans ?_
  unfold value gradient
  exact Finset.sum_congr rfl fun r _ => congrArg₂ (· * ·) (incoming_apply m c t a r) (weight_apply m c t l r)

theorem final : (dats m 0 c).arrAt 2 cfg0.N = result m c := by
  refine (dats m 0 c).arrAt_eq_of_covers 2 _ (by decide +kernel) fun t hf y => ?_
  blk_simp
  rw [after0_2]
  idx_vars y
  rw [out_apply]
  unfold result
  exact congrArg₂ (value m c) (Fin.ext (by blk_simp [row, (idx t).2.2])) (Fin.ext (by blk_simp [(idx t).2.2]))

end Cert.FirstAttentionBack

end
-- ==== Proof.FirstAttnBack.Equal.lean ====
/- The claim of the gradient through the first attention layer's output projection: the kernel's run and the reference's run end with the same result. -/
module

public import proofs.«01_k».proof.Defs
public import proofs.«01_k».proof.Proof.FirstAttnBack.Array
public import proofs.«01_k».proof.Proof.Gen.FirstAttnBackReferenceIdeal.Read
public import proofs.«01_k».proof.Proof.Gen.FirstAttnBackReferenceIdeal.Run

@[expose] public section

set_option maxRecDepth 16384

noncomputable section

namespace Cert.FirstAttentionBack

open Idealize.ShloMosaic Idealize.SL.Sem
open Cert.DownGradient (gradient)
open Cert.FirstAttnBackReferenceIdeal Cert.FirstAttnBackReferenceIdeal.Gen Cert.FirstAttnBackReferenceIdeal.Read

/-- The reference's whole result. -/
theorem reference_eq (w : Vec Ideal S2x1024x1024 .f32) (d : Vec Ideal S8192x1024 .f32) :
    val_main_v4 (F := Ideal) w d = fun i => gradient (layer 0 w) d (i 0) (i 1) := by
  funext i
  idx_vars i
  pointwise [val_main_v4, val_main_v2, val_main_v1]
  rfl

theorem algebraic : Cert.algebraic_FirstAttnBackKernelIdeal_FirstAttnBackReferenceIdeal
    (hFirstAttnBackKernelIdeal := Cert.FirstAttnBackKernelIdeal.Gen.facts) (hFirstAttnBackReferenceIdeal := Cert.FirstAttnBackReferenceIdeal.Gen.facts) := by
  intro m ρ m' ρ' _ hargs
  refine ⟨fun c => result m c, ?_, ?_⟩
  · refine (θ_run _ _ _).mono (fun r h c => ?_) (Cert.FirstAttnBackKernelIdeal.Value.run_blocks m ρ)
    exact ⟨(h c).1.trans (final m c), (h c).2⟩
  · refine (θ_run _ _ _).mono (fun r h c => ?_) (Cert.FirstAttnBackReferenceIdeal.Value.run m' ρ')
    refine ⟨(h c).1.trans ?_, (h c).2⟩
    rw [val_main_v4_eq, reference_eq, (hargs c).1, (hargs c).2]
    rfl

end Cert.FirstAttentionBack

end
-- ==== Proof.FirstConvBack.Array.lean ====
/- The gradient the first convolution layer's second projection passes back to the gated activations: the kernel's result array
   after the run, made up of blocks of 512 rows. -/
module

public import proofs.«01_k».proof.Proof.Gen.FirstConvBackKernelIdeal.Value
public import proofs.«01_k».proof.Proof.Down.Array
public import proofs.«01_k».proof.Proof.Layer
public import proofs.«01_k».proof.Proof.ConvBack.Array

@[expose] public section

set_option maxRecDepth 16384

noncomputable section

namespace Cert.FirstConvolutionBack

open Idealize.ShloMosaic Idealize.ShloMosaic.TcCoe

open Cert.DownGradient (gradient)
open Cert.FirstConvBackKernelIdeal Cert.FirstConvBackKernelIdeal.Gen Cert.FirstConvBackKernelIdeal.Value

variable (m : (ℓ : Loc nD τ sig) → Buf (Elt Ideal) ℓ) (c : Dev nD)

/-- Where each window's block lies at point `t`: the weight is the sirst layer's. -/
theorem idx (t : Fin cfg0.N) : win0_0.index t = ![t.val, 0] ∧ win0_1.index t = ![0, 0, 0, 0]
    ∧ win0_2.index t = ![t.val, 0] :=
  (by decide +kernel : ∀ t : Fin grid0.N, win0_0.index t = ![t.val, 0] ∧ win0_1.index t = ![0, 0, 0, 0]
    ∧ win0_2.index t = ![t.val, 0]) t

/-- Row `a` of the block at point `t`. -/
def row (t : Fin cfg0.N) (a : Fin 512) : Fin 8192 :=
  ⟨t.val * 512 + a.val, by have := lt_of_lt_of_eq t.isLt N_0; omega⟩

/-- One point's block of the result. -/
theorem block_apply (D : Vec Ideal S512x1024 .bf16) (W : Vec Ideal S1x1x1024x1024 .bf16) (a : Fin 512) (l : Fin 1024) :
    out0_2 (F := Ideal) D W (ix2 a l) = ∑ r : Fin 1024, D (ix2 a r) * W (ix4 0 0 l r) :=
  ConvolutionBack.block_apply D W a l

/-- The incoming gradient's array when the launch begins. -/
theorem incoming_entry (k : Fin 8192) (r : Fin 1024) :
    V m c main_v0 (ix2 k r) = m ((c : Thread nD τ).loc main_arg1) (ix2 k r) := by
  entry_read
  pointwise

/-- The sirst layer's weight when the launch begins. -/
theorem weight_entry (l : Fin 1024) (r : Fin 1024) :
    V m c main_v2 (ix4 0 0 l r) = m ((c : Thread nD τ).loc main_arg0) (ix3 0 l r) := by
  entry_read
  pointwise

theorem incoming_apply (t : Fin cfg0.N) (a : Fin 512) (r : Fin 1024) :
    iblk m c 0 t (ix2 a r) = m ((c : Thread nD τ).loc main_arg1) (ix2 (row t a) r) := by
  rw [← incoming_entry m c]
  unfold row
  blk_ext [iblk, (idx t).1]

theorem weight_apply (t : Fin cfg0.N) (l : Fin 1024) (r : Fin 1024) :
    iblk m c 1 t (ix4 0 0 l r) = m ((c : Thread nD τ).loc main_arg0) (ix3 0 l r) := by
  rw [← weight_entry m c]
  blk_ext [iblk, (idx t).2.1]

/-- The gradient of the arrays the launch begins with. -/
def value (k : Fin 8192) (l : Fin 1024) : EReal :=
  gradient (layer 0 (m ((c : Thread nD τ).loc main_arg0))) (m ((c : Thread nD τ).loc main_arg1)) k l

/-- What the kernel leaves in its result. -/
def result : Buf (Elt Ideal) ((c : Thread nD τ).loc main_v3) := fun i => value m c (i 0) (i 1)

theorem out_apply (t : Fin cfg0.N) (a : Fin 512) (l : Fin 1024) :
    out0_2 (iblk m c 0 t) (iblk m c 1 t) (ix2 a l) = value m c (row t a) l := by
  refine (block_apply _ _ a l).trans ?_
  unfold value gradient
  exact Finset.sum_congr rfl fun r _ => congrArg₂ (· * ·) (incoming_apply m c t a r) (weight_apply m c t l r)

theorem final : (dats m 0 c).arrAt 2 cfg0.N = result m c := by
  refine (dats m 0 c).arrAt_eq_of_covers 2 _ (by decide +kernel) fun t hf y => ?_
  blk_simp
  rw [after0_2]
  idx_vars y
  rw [out_apply]
  unfold result
  exact congrArg₂ (value m c) (Fin.ext (by blk_simp [row, (idx t).2.2])) (Fin.ext (by blk_simp [(idx t).2.2]))

end Cert.FirstConvolutionBack

end
-- ==== Proof.FirstConvBack.Equal.lean ====
/- The claim of the gradient through the first convolution layer's second projection: the kernel's run and the reference's run end with the same result. -/
module

public import proofs.«01_k».proof.Defs
public import proofs.«01_k».proof.Proof.FirstConvBack.Array
public import proofs.«01_k».proof.Proof.Gen.FirstConvBackReferenceIdeal.Read
public import proofs.«01_k».proof.Proof.Gen.FirstConvBackReferenceIdeal.Run

@[expose] public section

set_option maxRecDepth 16384

noncomputable section

namespace Cert.FirstConvolutionBack

open Idealize.ShloMosaic Idealize.SL.Sem
open Cert.DownGradient (gradient)
open Cert.FirstConvBackReferenceIdeal Cert.FirstConvBackReferenceIdeal.Gen Cert.FirstConvBackReferenceIdeal.Read

/-- The reference's whole result. -/
theorem reference_eq (w : Vec Ideal S2x1024x1024 .f32) (d : Vec Ideal S8192x1024 .f32) :
    val_main_v5 (F := Ideal) w d = fun i => gradient (layer 0 w) d (i 0) (i 1) := by
  funext i
  idx_vars i
  pointwise [val_main_v5, val_main_v4, val_main_v2, val_main_v1]
  rfl

theorem algebraic : Cert.algebraic_FirstConvBackKernelIdeal_FirstConvBackReferenceIdeal
    (hFirstConvBackKernelIdeal := Cert.FirstConvBackKernelIdeal.Gen.facts) (hFirstConvBackReferenceIdeal := Cert.FirstConvBackReferenceIdeal.Gen.facts) := by
  intro m ρ m' ρ' _ hargs
  refine ⟨fun c => result m c, ?_, ?_⟩
  · refine (θ_run _ _ _).mono (fun r h c => ?_) (Cert.FirstConvBackKernelIdeal.Value.run_blocks m ρ)
    exact ⟨(h c).1.trans (final m c), (h c).2⟩
  · refine (θ_run _ _ _).mono (fun r h c => ?_) (Cert.FirstConvBackReferenceIdeal.Value.run m' ρ')
    refine ⟨(h c).1.trans ?_, (h c).2⟩
    rw [val_main_v5_eq, reference_eq, (hargs c).1, (hargs c).2]
    rfl

end Cert.FirstConvolutionBack

end
-- ==== Proof.FirstConvIn.Array.lean ====
/- The first convolution layer's first projection with its bias: the kernel's result array after the run, made up of blocks of 1024 rows and
   one owner's 512 columns. -/
module

public import proofs.«01_k».proof.Proof.Gen.FirstConvInKernelIdeal.Value
public import proofs.«01_k».proof.Proof.Columns
public import proofs.«01_k».proof.Proof.Layer
public import proofs.«01_k».proof.Proof.Up.Array
public import proofs.«01_k».proof.Proof.ConvIn.Array

@[expose] public section

set_option maxRecDepth 16384

noncomputable section

namespace Cert.FirstConvolutionIn

open Idealize.ShloMosaic Idealize.ShloMosaic.TcCoe

open Cert.UpProjection (projection)
open Cert.ConvolutionIn (biased)
open Cert.FirstConvInKernelIdeal Cert.FirstConvInKernelIdeal.Gen Cert.FirstConvInKernelIdeal.Value

variable (m : (ℓ : Loc nD τ sig) → Buf (Elt Ideal) ℓ) (c : Dev nD)

/-- Where each window's block lies at point `t`: the owners' parts run fastest, and the weight is the sirst layer's. -/
theorem idx (t : Fin cfg0.N) : win0_0.index t = ![t.val / 4, 0] ∧ win0_1.index t = ![0, t.val % 4, 0, 0]
    ∧ win0_2.index t = ![0, t.val % 4] ∧ win0_3.index t = ![t.val / 4, t.val % 4] :=
  (by decide +kernel : ∀ t : Fin grid0.N, win0_0.index t = ![t.val / 4, 0] ∧ win0_1.index t = ![0, t.val % 4, 0, 0]
    ∧ win0_2.index t = ![0, t.val % 4] ∧ win0_3.index t = ![t.val / 4, t.val % 4]) t

/-- Row `a` of the block at point `t`. -/
def row (t : Fin cfg0.N) (a : Fin 1024) : Fin 8192 :=
  ⟨t.val / 4 * 1024 + a.val, by have := lt_of_lt_of_eq t.isLt N_0; omega⟩

/-- The owner at point `t`. -/
def owner (t : Fin cfg0.N) : Fin 4 := ⟨t.val % 4, by omega⟩

/-- One point's block of the result. -/
theorem block_apply (H : Vec Ideal S1024x1024 .bf16) (W : Vec Ideal S1x1x1024x512 .bf16) (B : Vec Ideal S1x512 .f32)
    (a : Fin 1024) (l : Fin 512) :
    out0_3 (F := Ideal) H W B (ix2 a l) = (∑ r : Fin 1024, H (ix2 a r) * W (ix4 0 0 r l)) + B (ix2 0 l) :=
  ConvolutionIn.block_apply H W B a l

/-- The activations' array when the launch begins. -/
theorem activation_entry (k : Fin 8192) (r : Fin 1024) :
    V m c main_v0 (ix2 k r) = m ((c : Thread nD τ).loc main_arg0) (ix2 k r) := by
  entry_read
  pointwise

/-- The sirst layer's weight when the launch begins: its columns lie by owner. -/
theorem weight_entry (p : Fin 4) (r : Fin 1024) (l : Fin 512) :
    V m c main_v3 (ix4 0 p r l) = m ((c : Thread nD τ).loc main_arg1) (ix3 0 r (column p l)) := by
  entry_read
  pointwise
  rfl

/-- The bias when the launch begins. -/
theorem bias_entry (l : Fin 2048) : V m c main_v4 (ix2 0 l) = m ((c : Thread nD τ).loc main_arg2) (ix1 l) := by
  entry_read
  pointwise

theorem activation_apply (t : Fin cfg0.N) (a r : Fin 1024) :
    iblk m c 0 t (ix2 a r) = m ((c : Thread nD τ).loc main_arg0) (ix2 (row t a) r) := by
  rw [← activation_entry m c]
  unfold row
  blk_ext [iblk, (idx t).1]

theorem weight_apply (t : Fin cfg0.N) (r : Fin 1024) (l : Fin 512) :
    iblk m c 1 t (ix4 0 0 r l) = m ((c : Thread nD τ).loc main_arg1) (ix3 0 r (column (owner t) l)) := by
  rw [← weight_entry m c]
  unfold owner
  blk_ext [iblk, (idx t).2.1]

theorem bias_apply (t : Fin cfg0.N) (l : Fin 512) :
    iblk m c 2 t (ix2 0 l) = m ((c : Thread nD τ).loc main_arg2) (ix1 (column (owner t) l)) := by
  rw [← bias_entry m c]
  unfold owner column
  blk_ext [iblk, (idx t).2.2.1]

/-- The projection with its bias, of the arrays the launch begins with. -/
def value (k : Fin 8192) (l : Fin 2048) : EReal :=
  biased 0 (m ((c : Thread nD τ).loc main_arg0)) (m ((c : Thread nD τ).loc main_arg1))
    (m ((c : Thread nD τ).loc main_arg2)) k l

/-- What the kernel leaves in its result. -/
def result : Buf (Elt Ideal) ((c : Thread nD τ).loc main_v5) := fun i => value m c (i 0) (i 1)

theorem out_apply (t : Fin cfg0.N) (a : Fin 1024) (l : Fin 512) :
    out0_3 (iblk m c 0 t) (iblk m c 1 t) (iblk m c 2 t) (ix2 a l) = value m c (row t a) (column (owner t) l) := by
  refine (block_apply _ _ _ a l).trans ?_
  unfold value biased projection
  exact congrArg₂ (· + ·)
    (Finset.sum_congr rfl fun r _ => congrArg₂ (· * ·) (activation_apply m c t a r) (weight_apply m c t r l))
    (bias_apply m c t l)

theorem final : (dats m 0 c).arrAt 3 cfg0.N = result m c := by
  refine (dats m 0 c).arrAt_eq_of_covers 3 _ (by decide +kernel) fun t hf y => ?_
  blk_simp
  rw [after0_3]
  idx_vars y
  rw [out_apply]
  unfold result
  exact congrArg₂ (value m c) (Fin.ext (by blk_simp [row, (idx t).2.2.2]))
    (Fin.ext (by blk_simp [column, owner, (idx t).2.2.2]))

end Cert.FirstConvolutionIn

end
-- ==== Proof.FirstConvIn.Equal.lean ====
/- The claim of the first convolution layer's first projection: the kernel's run and the reference's run end with the same result. -/
module

public import proofs.«01_k».proof.Defs
public import proofs.«01_k».proof.Proof.FirstConvIn.Array
public import proofs.«01_k».proof.Proof.Gen.FirstConvInReferenceIdeal.Read
public import proofs.«01_k».proof.Proof.Gen.FirstConvInReferenceIdeal.Run

@[expose] public section

set_option maxRecDepth 16384

noncomputable section

namespace Cert.FirstConvolutionIn

open Idealize.ShloMosaic Idealize.SL.Sem
open Cert.UpProjection (projection)
open Cert.ConvolutionIn (biased)
open Cert.FirstConvInReferenceIdeal Cert.FirstConvInReferenceIdeal.Gen Cert.FirstConvInReferenceIdeal.Read

/-- The reference's whole result. -/
theorem reference_eq (h : Vec Ideal S8192x1024 .f32) (w : Vec Ideal S2x1024x2048 .f32) (b : Vec Ideal S2048 .f32) :
    val_main_v6 (F := Ideal) h w b = fun i => biased 0 h w b (i 0) (i 1) := by
  funext i
  idx_vars i
  pointwise [val_main_v6, val_main_v5, val_main_v4, val_main_v3, val_main_v2, val_main_v1, val_main_v0]
  rfl

theorem algebraic : Cert.algebraic_FirstConvInKernelIdeal_FirstConvInReferenceIdeal
    (hFirstConvInKernelIdeal := Cert.FirstConvInKernelIdeal.Gen.facts)
    (hFirstConvInReferenceIdeal := Cert.FirstConvInReferenceIdeal.Gen.facts) := by
  intro m ρ m' ρ' _ hargs
  refine ⟨fun c => result m c, ?_, ?_⟩
  · refine (θ_run _ _ _).mono (fun r h c => ?_) (Cert.FirstConvInKernelIdeal.Value.run_blocks m ρ)
    exact ⟨(h c).1.trans (final m c), (h c).2⟩
  · refine (θ_run _ _ _).mono (fun r h c => ?_) (Cert.FirstConvInReferenceIdeal.Value.run m' ρ')
    obtain ⟨a0, a1, a2⟩ := hargs c
    refine ⟨(h c).1.trans ?_, (h c).2⟩
    rw [val_main_v6_eq, reference_eq, a0, a1, a2]
    rfl

end Cert.FirstConvolutionIn

end
-- ==== Proof.FirstAttnOut.Array.lean ====
/- The first attention layer's output projection with its residual and the norm that follows: the kernel's two result arrays
   after the run, made up of blocks of 512 rows. -/
module

public import proofs.«01_k».proof.Proof.Gen.FirstAttnOutKernelIdeal.Value
public import proofs.«01_k».proof.Proof.Out.Array
public import proofs.«01_k».proof.Proof.Layer
public import proofs.«01_k».proof.Proof.AttnOut.Array

@[expose] public section

set_option maxRecDepth 16384

noncomputable section

namespace Cert.FirstAttentionOut

open Idealize.ShloMosaic Idealize.ShloMosaic.TcCoe

open Cert.BlockOutput (output normed)
open Cert.AttentionOut (block)
open Cert.FirstAttnOutKernelIdeal Cert.FirstAttnOutKernelIdeal.Gen Cert.FirstAttnOutKernelIdeal.Value

variable (m : (ℓ : Loc nD τ sig) → Buf (Elt Ideal) ℓ) (c : Dev nD)

/-- Where each window's block lies at point `t`: the weight is the sirst layer's. -/
theorem idx (t : Fin cfg0.N) : (win0_0.index t = ![t.val, 0] ∧ win0_1.index t = ![0, 0, 0, 0]
    ∧ win0_2.index t = ![t.val, 0]) ∧ win0_3.index t = ![0, 0] ∧ win0_4.index t = ![t.val, 0]
    ∧ win0_5.index t = ![t.val, 0] :=
  (by decide +kernel : ∀ t : Fin grid0.N, (win0_0.index t = ![t.val, 0] ∧ win0_1.index t = ![0, 0, 0, 0]
    ∧ win0_2.index t = ![t.val, 0]) ∧ win0_3.index t = ![0, 0] ∧ win0_4.index t = ![t.val, 0]
    ∧ win0_5.index t = ![t.val, 0]) t

/-- Row `a` of the block at point `t`. -/
def row (t : Fin cfg0.N) (a : Fin 512) : Fin 8192 :=
  ⟨t.val * 512 + a.val, by have := lt_of_lt_of_eq t.isLt N_0; omega⟩

theorem block_apply (A : Vec Ideal S512x1024 .bf16) (W : Vec Ideal S1x1x1024x1024 .bf16) (X : Vec Ideal S512x1024 .f32)
    (a : Fin 512) (r : Fin 1024) : k0_pay1 (F := Ideal) A W X (ix2 a r) = block A W X a r :=
  AttentionOut.block_apply A W X a r

theorem normed_apply (A : Vec Ideal S512x1024 .bf16) (W : Vec Ideal S1x1x1024x1024 .bf16) (X : Vec Ideal S512x1024 .f32)
    (G : Vec Ideal S1x1024 .f32) (a : Fin 512) (r : Fin 1024) :
    k0_pay2 (F := Ideal) A W X G (ix2 a r) = normed (block A W X a) (fun q => G (ix2 0 q)) r :=
  AttentionOut.normed_apply A W X G a r

/-- The activations' array when the launch begins. -/
theorem activation_entry (k : Fin 8192) (l : Fin 1024) :
    V m c main_v0 (ix2 k l) = m ((c : Thread nD τ).loc main_arg1) (ix2 k l) := by
  entry_read
  pointwise

/-- The sirst layer's weight when the launch begins. -/
theorem weight_entry (l : Fin 1024) (r : Fin 1024) :
    V m c main_v2 (ix4 0 0 l r) = m ((c : Thread nD τ).loc main_arg2) (ix3 0 l r) := by
  entry_read
  pointwise

theorem gain_entry (q : Fin 1024) : V m c main_v3 (ix2 0 q) = m ((c : Thread nD τ).loc main_arg3) (ix1 q) := by
  entry_read
  pointwise

theorem activation_apply (t : Fin cfg0.N) (a : Fin 512) (l : Fin 1024) :
    iblk m c 0 t (ix2 a l) = m ((c : Thread nD τ).loc main_arg1) (ix2 (row t a) l) := by
  rw [← activation_entry m c]
  unfold row
  blk_ext [iblk, (idx t).1.1]

theorem weight_apply (t : Fin cfg0.N) (l : Fin 1024) (r : Fin 1024) :
    iblk m c 1 t (ix4 0 0 l r) = m ((c : Thread nD τ).loc main_arg2) (ix3 0 l r) := by
  rw [← weight_entry m c]
  blk_ext [iblk, (idx t).1.2.1]

theorem residual_apply (t : Fin cfg0.N) (a : Fin 512) (r : Fin 1024) :
    iblk m c 2 t (ix2 a r) = m ((c : Thread nD τ).loc main_arg0) (ix2 (row t a) r) := by
  have e : V m c main_arg0 (ix2 (row t a) r) = m ((c : Thread nD τ).loc main_arg0) (ix2 (row t a) r) := by
    entry_read
    rfl
  rw [← e]
  unfold row
  blk_ext [iblk, (idx t).1.2.2]

theorem gain_apply (t : Fin cfg0.N) (q : Fin 1024) :
    iblk m c 3 t (ix2 0 q) = m ((c : Thread nD τ).loc main_arg3) (ix1 q) := by
  rw [← gain_entry m c]
  blk_ext [iblk, (idx t).2.1]

/-- The output of the arrays the launch begins with. -/
def value (k : Fin 8192) (r : Fin 1024) : EReal :=
  output (m ((c : Thread nD τ).loc main_arg0)) (m ((c : Thread nD τ).loc main_arg1))
    (layer 0 (m ((c : Thread nD τ).loc main_arg2))) k r

/-- The normed output of the arrays the launch begins with. -/
def normedValue (k : Fin 8192) (r : Fin 1024) : EReal :=
  normed (value m c k) (fun q => m ((c : Thread nD τ).loc main_arg3) (ix1 q)) r

theorem block_eq (t : Fin cfg0.N) (a : Fin 512) :
    block (iblk m c 0 t) (iblk m c 1 t) (iblk m c 2 t) a = value m c (row t a) := by
  funext r
  unfold block value output
  exact congrArg₂ (· + ·) (residual_apply m c t a r)
    (Finset.sum_congr rfl fun l _ => congrArg₂ (· * ·) (activation_apply m c t a l) (weight_apply m c t l r))

/-- What the kernel leaves in its first result. -/
def outputResult : Buf (Elt Ideal) ((c : Thread nD τ).loc main_v4_0) := fun i => value m c (i 0) (i 1)

/-- What it leaves in its second. -/
def normedResult : Buf (Elt Ideal) ((c : Thread nD τ).loc main_v4_1) := fun i => normedValue m c (i 0) (i 1)

theorem out_apply (t : Fin cfg0.N) (a : Fin 512) (r : Fin 1024) :
    out0_4 (iblk m c 0 t) (iblk m c 1 t) (iblk m c 2 t) (iblk m c 3 t) (ix2 a r) = value m c (row t a) r := by
  frame_out
  exact (block_apply _ _ _ a r).trans (congrFun (block_eq m c t a) r)

theorem normed_out_apply (t : Fin cfg0.N) (a : Fin 512) (r : Fin 1024) :
    out0_5 (iblk m c 0 t) (iblk m c 1 t) (iblk m c 2 t) (iblk m c 3 t) (ix2 a r) = normedValue m c (row t a) r := by
  frame_out
  refine (normed_apply _ _ _ _ a r).trans ?_
  rw [block_eq]
  simp only [gain_apply]
  rfl

theorem final_output : (dats m 0 c).arrAt 4 cfg0.N = outputResult m c := by
  refine (dats m 0 c).arrAt_eq_of_covers 4 _ (by decide +kernel) fun t hf y => ?_
  blk_simp
  rw [after0_4]
  idx_vars y
  rw [out_apply]
  unfold outputResult
  exact congrArg₂ (value m c) (Fin.ext (by blk_simp [row, (idx t).2.2.1])) (Fin.ext (by blk_simp [(idx t).2.2.1]))

theorem final_normed : (dats m 0 c).arrAt 5 cfg0.N = normedResult m c := by
  refine (dats m 0 c).arrAt_eq_of_covers 5 _ (by decide +kernel) fun t hf y => ?_
  blk_simp
  rw [after0_5]
  idx_vars y
  rw [normed_out_apply]
  unfold normedResult
  exact congrArg₂ (normedValue m c) (Fin.ext (by blk_simp [row, (idx t).2.2.2]))
    (Fin.ext (by blk_simp [(idx t).2.2.2]))

end Cert.FirstAttentionOut

end
-- ==== Proof.FirstAttnOut.Equal.lean ====
/- The claim of the first attention layer's output projection: the kernel's run and the reference's run end with the same output and the same
   normed output. -/
module

public import proofs.«01_k».proof.Defs
public import proofs.«01_k».proof.Proof.FirstAttnOut.Array
public import proofs.«01_k».proof.Proof.Gen.FirstAttnOutReferenceIdeal.Read
public import proofs.«01_k».proof.Proof.Gen.FirstAttnOutReferenceIdeal.Run

@[expose] public section

set_option maxRecDepth 16384

noncomputable section

namespace Cert.FirstAttentionOut

open Idealize.ShloMosaic Idealize.SL.Sem
open Cert.BlockOutput (output normed)
open Cert.FirstAttnOutReferenceIdeal Cert.FirstAttnOutReferenceIdeal.Gen Cert.FirstAttnOutReferenceIdeal.Read

theorem output_eq (x : Vec Ideal S8192x1024 .f32) (a : Vec Ideal S8192x1024 .f32) (w : Vec Ideal S2x1024x1024 .f32) :
    val_main_v3 (F := Ideal) x a w = fun i => output x a (layer 0 w) (i 0) (i 1) := by
  funext i
  idx_vars i
  pointwise [val_main_v3, val_main_v2, val_main_v1, val_main_v0]
  rfl

theorem normed_eq (x : Vec Ideal S8192x1024 .f32) (a : Vec Ideal S8192x1024 .f32) (w : Vec Ideal S2x1024x1024 .f32)
    (g : Vec Ideal S1024 .f32) :
    val_main_v17 (F := Ideal) x a w g = fun i => normed (output x a (layer 0 w) (i 0)) (fun q => g (ix1 q)) (i 1) := by
  funext i
  idx_vars i
  pointwise [val_main_v17, val_main_v16, val_main_v15, val_main_v14, val_main_v13, val_main_v12, val_main_v11, val_main_v10, val_main_v9,
    val_main_v8, val_main_v7, val_main_v6, val_main_v5, val_main_v4, val_main_cst,
    val_main_cst_0, val_main_cst_1, output_eq]
  rfl

theorem algebraic : Cert.algebraic_FirstAttnOutKernelIdeal_FirstAttnOutReferenceIdeal
    (hFirstAttnOutKernelIdeal := Cert.FirstAttnOutKernelIdeal.Gen.facts) (hFirstAttnOutReferenceIdeal := Cert.FirstAttnOutReferenceIdeal.Gen.facts) := by
  intro m ρ m' ρ' _ hargs
  refine ⟨fun c => outputResult m c, fun c => normedResult m c, ?_, ?_⟩
  · refine (θ_run _ _ _).mono (fun r h c => ?_) (Cert.FirstAttnOutKernelIdeal.Value.run_blocks m ρ)
    exact ⟨(h c).1.trans (final_output m c), (h c).2.1.trans (final_normed m c), (h c).2.2⟩
  · refine (θ_run _ _ _).mono (fun r h c => ?_) (Cert.FirstAttnOutReferenceIdeal.Value.run m' ρ')
    obtain ⟨a0, a1, a2, a3⟩ := hargs c
    refine ⟨(h c).1.trans ?_, (h c).2.1.trans ?_, (h c).2.2⟩
    · rw [val_main_v3_eq, output_eq, a0, a1, a2]
      rfl
    · rw [val_main_v17_eq, normed_eq, a0, a1, a2, a3]
      rfl

end Cert.FirstAttentionOut

end
-- ==== Proof.FirstConvOut.Array.lean ====
/- The first convolution layer's second projection with its bias, its residual and the norm that follows: the kernel's two result arrays
   after the run, made up of blocks of 512 rows. -/
module

public import proofs.«01_k».proof.Proof.Gen.FirstConvOutKernelIdeal.Value
public import proofs.«01_k».proof.Proof.Out.Array
public import proofs.«01_k».proof.Proof.Layer
public import proofs.«01_k».proof.Proof.ConvOut.Array

@[expose] public section

set_option maxRecDepth 16384

noncomputable section

namespace Cert.FirstConvolutionOut

open Idealize.ShloMosaic Idealize.ShloMosaic.TcCoe

open Cert.BlockOutput (normed)
open Cert.ConvolutionOut (block biased)

open Cert.FirstConvOutKernelIdeal Cert.FirstConvOutKernelIdeal.Gen Cert.FirstConvOutKernelIdeal.Value

variable (m : (ℓ : Loc nD τ sig) → Buf (Elt Ideal) ℓ) (c : Dev nD)

/-- Where each window's block lies at point `t`: the weight is the sirst layer's. -/
theorem idx (t : Fin cfg0.N) : (win0_0.index t = ![t.val, 0] ∧ win0_1.index t = ![0, 0, 0, 0]
    ∧ win0_2.index t = ![0, 0] ∧ win0_3.index t = ![t.val, 0]) ∧ win0_4.index t = ![0, 0]
    ∧ win0_5.index t = ![t.val, 0] ∧ win0_6.index t = ![t.val, 0] :=
  (by decide +kernel : ∀ t : Fin grid0.N, (win0_0.index t = ![t.val, 0] ∧ win0_1.index t = ![0, 0, 0, 0]
    ∧ win0_2.index t = ![0, 0] ∧ win0_3.index t = ![t.val, 0]) ∧ win0_4.index t = ![0, 0]
    ∧ win0_5.index t = ![t.val, 0] ∧ win0_6.index t = ![t.val, 0]) t

/-- Row `a` of the block at point `t`. -/
def row (t : Fin cfg0.N) (a : Fin 512) : Fin 8192 :=
  ⟨t.val * 512 + a.val, by have := lt_of_lt_of_eq t.isLt N_0; omega⟩

theorem block_apply (A : Vec Ideal S512x1024 .bf16) (W : Vec Ideal S1x1x1024x1024 .bf16) (B : Vec Ideal S1x1024 .f32)
    (X : Vec Ideal S512x1024 .f32) (a : Fin 512) (r : Fin 1024) :
    k0_pay1 (F := Ideal) A W B X (ix2 a r) = block A W B X a r :=
  ConvolutionOut.block_apply A W B X a r

theorem normed_apply (A : Vec Ideal S512x1024 .bf16) (W : Vec Ideal S1x1x1024x1024 .bf16) (B : Vec Ideal S1x1024 .f32)
    (X : Vec Ideal S512x1024 .f32) (G : Vec Ideal S1x1024 .f32) (a : Fin 512) (r : Fin 1024) :
    k0_pay2 (F := Ideal) A W B X G (ix2 a r) = normed (block A W B X a) (fun q => G (ix2 0 q)) r :=
  ConvolutionOut.normed_apply A W B X G a r

/-- The activations' array when the launch begins. -/
theorem activation_entry (k : Fin 8192) (l : Fin 1024) :
    V m c main_v0 (ix2 k l) = m ((c : Thread nD τ).loc main_arg1) (ix2 k l) := by
  entry_read
  pointwise

/-- The sirst layer's weight when the launch begins. -/
theorem weight_entry (l : Fin 1024) (r : Fin 1024) :
    V m c main_v2 (ix4 0 0 l r) = m ((c : Thread nD τ).loc main_arg2) (ix3 0 l r) := by
  entry_read
  pointwise

theorem bias_entry (q : Fin 1024) : V m c main_v3 (ix2 0 q) = m ((c : Thread nD τ).loc main_arg3) (ix1 q) := by
  entry_read
  pointwise

theorem gain_entry (q : Fin 1024) : V m c main_v4 (ix2 0 q) = m ((c : Thread nD τ).loc main_arg4) (ix1 q) := by
  entry_read
  pointwise

theorem activation_apply (t : Fin cfg0.N) (a : Fin 512) (l : Fin 1024) :
    iblk m c 0 t (ix2 a l) = m ((c : Thread nD τ).loc main_arg1) (ix2 (row t a) l) := by
  rw [← activation_entry m c]
  unfold row
  blk_ext [iblk, (idx t).1.1]

theorem weight_apply (t : Fin cfg0.N) (l : Fin 1024) (r : Fin 1024) :
    iblk m c 1 t (ix4 0 0 l r) = m ((c : Thread nD τ).loc main_arg2) (ix3 0 l r) := by
  rw [← weight_entry m c]
  blk_ext [iblk, (idx t).1.2.1]

theorem residual_apply (t : Fin cfg0.N) (a : Fin 512) (r : Fin 1024) :
    iblk m c 3 t (ix2 a r) = m ((c : Thread nD τ).loc main_arg0) (ix2 (row t a) r) := by
  have e : V m c main_arg0 (ix2 (row t a) r) = m ((c : Thread nD τ).loc main_arg0) (ix2 (row t a) r) := by
    entry_read
    rfl
  rw [← e]
  unfold row
  blk_ext [iblk, (idx t).1.2.2.2]

theorem bias_apply (t : Fin cfg0.N) (q : Fin 1024) :
    iblk m c 2 t (ix2 0 q) = m ((c : Thread nD τ).loc main_arg3) (ix1 q) := by
  rw [← bias_entry m c]
  blk_ext [iblk, (idx t).1.2.2.1]

theorem gain_apply (t : Fin cfg0.N) (q : Fin 1024) :
    iblk m c 4 t (ix2 0 q) = m ((c : Thread nD τ).loc main_arg4) (ix1 q) := by
  rw [← gain_entry m c]
  blk_ext [iblk, (idx t).2.1]

/-- The output of the arrays the launch begins with. -/
def value (k : Fin 8192) (r : Fin 1024) : EReal :=
  biased 0 (m ((c : Thread nD τ).loc main_arg0)) (m ((c : Thread nD τ).loc main_arg1))
    (m ((c : Thread nD τ).loc main_arg2)) (m ((c : Thread nD τ).loc main_arg3)) k r

/-- The normed output of the arrays the launch begins with. -/
def normedValue (k : Fin 8192) (r : Fin 1024) : EReal :=
  normed (value m c k) (fun q => m ((c : Thread nD τ).loc main_arg4) (ix1 q)) r

theorem block_eq (t : Fin cfg0.N) (a : Fin 512) :
    block (iblk m c 0 t) (iblk m c 1 t) (iblk m c 2 t) (iblk m c 3 t) a = value m c (row t a) := by
  funext r
  unfold block value biased
  exact congrArg₂ (· + ·) (residual_apply m c t a r)
    (congrArg₂ (· + ·)
      (Finset.sum_congr rfl fun l _ => congrArg₂ (· * ·) (activation_apply m c t a l) (weight_apply m c t l r))
      (bias_apply m c t r))

/-- What the kernel leaves in its first result. -/
def outputResult : Buf (Elt Ideal) ((c : Thread nD τ).loc main_v5_0) := fun i => value m c (i 0) (i 1)

/-- What it leaves in its second. -/
def normedResult : Buf (Elt Ideal) ((c : Thread nD τ).loc main_v5_1) := fun i => normedValue m c (i 0) (i 1)

theorem out_apply (t : Fin cfg0.N) (a : Fin 512) (r : Fin 1024) :
    out0_5 (iblk m c 0 t) (iblk m c 1 t) (iblk m c 2 t) (iblk m c 3 t) (iblk m c 4 t)
      (ix2 a r) = value m c (row t a) r := by
  frame_out
  exact (block_apply _ _ _ _ a r).trans (congrFun (block_eq m c t a) r)

theorem normed_out_apply (t : Fin cfg0.N) (a : Fin 512) (r : Fin 1024) :
    out0_6 (iblk m c 0 t) (iblk m c 1 t) (iblk m c 2 t) (iblk m c 3 t) (iblk m c 4 t)
      (ix2 a r) = normedValue m c (row t a) r := by
  frame_out
  refine (normed_apply _ _ _ _ _ a r).trans ?_
  rw [block_eq]
  simp only [gain_apply]
  rfl

theorem final_output : (dats m 0 c).arrAt 5 cfg0.N = outputResult m c := by
  refine (dats m 0 c).arrAt_eq_of_covers 5 _ (by decide +kernel) fun t hf y => ?_
  blk_simp
  rw [after0_5]
  idx_vars y
  rw [out_apply]
  unfold outputResult
  exact congrArg₂ (value m c) (Fin.ext (by blk_simp [row, (idx t).2.2.1])) (Fin.ext (by blk_simp [(idx t).2.2.1]))

theorem final_normed : (dats m 0 c).arrAt 6 cfg0.N = normedResult m c := by
  refine (dats m 0 c).arrAt_eq_of_covers 6 _ (by decide +kernel) fun t hf y => ?_
  blk_simp
  rw [after0_6]
  idx_vars y
  rw [normed_out_apply]
  unfold normedResult
  exact congrArg₂ (normedValue m c) (Fin.ext (by blk_simp [row, (idx t).2.2.2]))
    (Fin.ext (by blk_simp [(idx t).2.2.2]))

end Cert.FirstConvolutionOut

end
-- ==== Proof.FirstConvOut.Equal.lean ====
/- The claim of the first convolution layer's second projection: the kernel's run and the reference's run end with the same output and the same
   normed output. -/
module

public import proofs.«01_k».proof.Defs
public import proofs.«01_k».proof.Proof.FirstConvOut.Array
public import proofs.«01_k».proof.Proof.Gen.FirstConvOutReferenceIdeal.Read
public import proofs.«01_k».proof.Proof.Gen.FirstConvOutReferenceIdeal.Run

@[expose] public section

set_option maxRecDepth 16384

noncomputable section

namespace Cert.FirstConvolutionOut

open Idealize.ShloMosaic Idealize.SL.Sem
open Cert.BlockOutput (normed)
open Cert.ConvolutionOut (biased)
open Cert.FirstConvOutReferenceIdeal Cert.FirstConvOutReferenceIdeal.Gen Cert.FirstConvOutReferenceIdeal.Read

theorem output_eq (x : Vec Ideal S8192x1024 .f32) (a : Vec Ideal S8192x1024 .f32) (w : Vec Ideal S2x1024x1024 .f32)
    (b : Vec Ideal S1024 .f32) :
    val_main_v6 (F := Ideal) x a w b = fun i => biased 0 x a w b (i 0) (i 1) := by
  funext i
  idx_vars i
  pointwise [val_main_v6, val_main_v5, val_main_v4, val_main_v3, val_main_v2, val_main_v1, val_main_v0]
  rfl

theorem normed_eq (x : Vec Ideal S8192x1024 .f32) (a : Vec Ideal S8192x1024 .f32) (w : Vec Ideal S2x1024x1024 .f32)
    (b g : Vec Ideal S1024 .f32) :
    val_main_v20 (F := Ideal) x a w b g = fun i => normed (biased 0 x a w b (i 0)) (fun q => g (ix1 q)) (i 1) := by
  funext i
  idx_vars i
  pointwise [val_main_v20, val_main_v19, val_main_v18, val_main_v17, val_main_v16, val_main_v15, val_main_v14, val_main_v13, val_main_v12, val_main_v11, val_main_v10, val_main_v9,
    val_main_v8, val_main_v7, val_main_cst,
    val_main_cst_0, val_main_cst_1, output_eq]
  rfl

theorem algebraic : Cert.algebraic_FirstConvOutKernelIdeal_FirstConvOutReferenceIdeal
    (hFirstConvOutKernelIdeal := Cert.FirstConvOutKernelIdeal.Gen.facts) (hFirstConvOutReferenceIdeal := Cert.FirstConvOutReferenceIdeal.Gen.facts) := by
  intro m ρ m' ρ' _ hargs
  refine ⟨fun c => outputResult m c, fun c => normedResult m c, ?_, ?_⟩
  · refine (θ_run _ _ _).mono (fun r h c => ?_) (Cert.FirstConvOutKernelIdeal.Value.run_blocks m ρ)
    exact ⟨(h c).1.trans (final_output m c), (h c).2.1.trans (final_normed m c), (h c).2.2⟩
  · refine (θ_run _ _ _).mono (fun r h c => ?_) (Cert.FirstConvOutReferenceIdeal.Value.run m' ρ')
    obtain ⟨a0, a1, a2, a3, a4⟩ := hargs c
    refine ⟨(h c).1.trans ?_, (h c).2.1.trans ?_, (h c).2.2⟩
    · rw [val_main_v6_eq, output_eq, a0, a1, a2, a3]
      rfl
    · rw [val_main_v20_eq, normed_eq, a0, a1, a2, a3, a4]
      rfl

end Cert.FirstConvolutionOut

end
-- ==== Proof.MixStep.Array.lean ====
/- The optimiser's step of the attention layers' input projections' weights: the kernel's three result arrays after the run, made up of blocks of 256 rows. -/
module

public import proofs.«01_k».proof.Proof.Gen.MixStepKernelIdeal.Value
public import proofs.«01_k».proof.Proof.Step
public import Idealize.ShloMosaic.Lib.Pipeline.ValueKit
public import Idealize.ShloMosaic.Lib.Pipeline.ReadBack

@[expose] public section

set_option maxRecDepth 16384

noncomputable section

namespace Cert.MixStep

open Idealize.ShloMosaic Idealize.ShloMosaic.TcCoe
open Cert.MixStepKernelIdeal Cert.MixStepKernelIdeal.Gen Cert.MixStepKernelIdeal.Value

variable (m : (ℓ : Loc nD τ sig) → Buf (Elt Ideal) ℓ) (c : Dev nD)

/-- Where each window's block lies at point `t`. -/
theorem idx (t : Fin cfg0.N) : (win0_0.index t = ![t.val, 0] ∧ win0_1.index t = ![t.val, 0]
    ∧ win0_2.index t = ![t.val, 0] ∧ win0_3.index t = ![t.val, 0]) ∧ win0_4.index t = ![t.val, 0]
    ∧ win0_5.index t = ![t.val, 0] ∧ win0_6.index t = ![t.val, 0] :=
  (by decide +kernel : ∀ t : Fin grid0.N, (win0_0.index t = ![t.val, 0] ∧ win0_1.index t = ![t.val, 0]
    ∧ win0_2.index t = ![t.val, 0] ∧ win0_3.index t = ![t.val, 0]) ∧ win0_4.index t = ![t.val, 0]
    ∧ win0_5.index t = ![t.val, 0] ∧ win0_6.index t = ![t.val, 0]) t

/-- Row `a` of the block at point `t`. -/
def row (t : Fin cfg0.N) (a : Fin 256) : Fin 2048 :=
  ⟨t.val * 256 + a.val, by have := lt_of_lt_of_eq t.isLt N_0; omega⟩

theorem weight_apply (t : Fin cfg0.N) (a : Fin 256) (q : Fin 640) :
    iblk m c 0 t (ix2 a q) = m ((c : Thread nD τ).loc main_arg0) (ix2 (row t a) q) := by
  have e : V m c main_arg0 (ix2 (row t a) q) = m ((c : Thread nD τ).loc main_arg0) (ix2 (row t a) q) := by
    entry_read
    rfl
  rw [← e]
  unfold row
  blk_ext [iblk, (idx t).1.1]

theorem gradient_apply (t : Fin cfg0.N) (a : Fin 256) (q : Fin 640) :
    iblk m c 1 t (ix2 a q) = m ((c : Thread nD τ).loc main_arg1) (ix2 (row t a) q) := by
  have e : V m c main_arg1 (ix2 (row t a) q) = m ((c : Thread nD τ).loc main_arg1) (ix2 (row t a) q) := by
    entry_read
    rfl
  rw [← e]
  unfold row
  blk_ext [iblk, (idx t).1.2.1]

theorem mean_apply (t : Fin cfg0.N) (a : Fin 256) (q : Fin 640) :
    iblk m c 2 t (ix2 a q) = m ((c : Thread nD τ).loc main_arg2) (ix2 (row t a) q) := by
  have e : V m c main_arg2 (ix2 (row t a) q) = m ((c : Thread nD τ).loc main_arg2) (ix2 (row t a) q) := by
    entry_read
    rfl
  rw [← e]
  unfold row
  blk_ext [iblk, (idx t).1.2.2.1]

theorem square_apply (t : Fin cfg0.N) (a : Fin 256) (q : Fin 640) :
    iblk m c 3 t (ix2 a q) = m ((c : Thread nD τ).loc main_arg3) (ix2 (row t a) q) := by
  have e : V m c main_arg3 (ix2 (row t a) q) = m ((c : Thread nD τ).loc main_arg3) (ix2 (row t a) q) := by
    entry_read
    rfl
  rw [← e]
  unfold row
  blk_ext [iblk, (idx t).1.2.2.2]

/-- The weight's change, from the arrays the launch begins with. -/
def changeValue (k : Fin 2048) (q : Fin 640) : EReal :=
  Step.change (m ((c : Thread nD τ).loc main_arg0) (ix2 k q)) (m ((c : Thread nD τ).loc main_arg1) (ix2 k q))
    (m ((c : Thread nD τ).loc main_arg2) (ix2 k q)) (m ((c : Thread nD τ).loc main_arg3) (ix2 k q))

/-- The gradients' new running mean. -/
def meanValue (k : Fin 2048) (q : Fin 640) : EReal :=
  Step.mean (m ((c : Thread nD τ).loc main_arg1) (ix2 k q)) (m ((c : Thread nD τ).loc main_arg2) (ix2 k q))

/-- The new running mean of their squares. -/
def squareValue (k : Fin 2048) (q : Fin 640) : EReal :=
  Step.square (m ((c : Thread nD τ).loc main_arg1) (ix2 k q)) (m ((c : Thread nD τ).loc main_arg3) (ix2 k q))

/-- What the kernel leaves in its three results. -/
def changeResult : Buf (Elt Ideal) ((c : Thread nD τ).loc main_v0_0) := fun i => changeValue m c (i 0) (i 1)

def meanResult : Buf (Elt Ideal) ((c : Thread nD τ).loc main_v0_1) := fun i => meanValue m c (i 0) (i 1)

def squareResult : Buf (Elt Ideal) ((c : Thread nD τ).loc main_v0_2) := fun i => squareValue m c (i 0) (i 1)

theorem change_out (t : Fin cfg0.N) (a : Fin 256) (q : Fin 640) :
    out0_4 (iblk m c 0 t) (iblk m c 1 t) (iblk m c 2 t) (iblk m c 3 t) (ix2 a q)
      = changeValue m c (row t a) q := by
  unfold changeValue
  rw [← weight_apply m c, ← gradient_apply m c, ← mean_apply m c, ← square_apply m c]
  frame_out
  unfold_payloads
  pointwise [Step.change, Step.mean, Step.square]

theorem mean_out (t : Fin cfg0.N) (a : Fin 256) (q : Fin 640) :
    out0_5 (iblk m c 0 t) (iblk m c 1 t) (iblk m c 2 t) (iblk m c 3 t) (ix2 a q)
      = meanValue m c (row t a) q := by
  unfold meanValue
  rw [← gradient_apply m c, ← mean_apply m c]
  frame_out
  unfold_payloads
  pointwise [Step.mean]

theorem square_out (t : Fin cfg0.N) (a : Fin 256) (q : Fin 640) :
    out0_6 (iblk m c 0 t) (iblk m c 1 t) (iblk m c 2 t) (iblk m c 3 t) (ix2 a q)
      = squareValue m c (row t a) q := by
  unfold squareValue
  rw [← gradient_apply m c, ← square_apply m c]
  frame_out
  unfold_payloads
  pointwise [Step.square]

theorem final_change : (dats m 0 c).arrAt 4 cfg0.N = changeResult m c := by
  refine (dats m 0 c).arrAt_eq_of_covers 4 _ (by decide +kernel) fun t hf y => ?_
  blk_simp
  rw [after0_4]
  idx_vars y
  rw [change_out]
  unfold changeResult
  exact congrArg₂ (changeValue m c) (Fin.ext (by blk_simp [row, (idx t).2.1]))
    (Fin.ext (by blk_simp [(idx t).2.1]))

theorem final_mean : (dats m 0 c).arrAt 5 cfg0.N = meanResult m c := by
  refine (dats m 0 c).arrAt_eq_of_covers 5 _ (by decide +kernel) fun t hf y => ?_
  blk_simp
  rw [after0_5]
  idx_vars y
  rw [mean_out]
  unfold meanResult
  exact congrArg₂ (meanValue m c) (Fin.ext (by blk_simp [row, (idx t).2.2.1]))
    (Fin.ext (by blk_simp [(idx t).2.2.1]))

theorem final_square : (dats m 0 c).arrAt 6 cfg0.N = squareResult m c := by
  refine (dats m 0 c).arrAt_eq_of_covers 6 _ (by decide +kernel) fun t hf y => ?_
  blk_simp
  rw [after0_6]
  idx_vars y
  rw [square_out]
  unfold squareResult
  exact congrArg₂ (squareValue m c) (Fin.ext (by blk_simp [row, (idx t).2.2.2]))
    (Fin.ext (by blk_simp [(idx t).2.2.2]))

end Cert.MixStep

end
-- ==== Proof.MixStep.Equal.lean ====
/- The claim of the optimiser's step of the attention layers' input projections' weights: the kernel's run and the reference's run end with the same three
   results. -/
module

public import proofs.«01_k».proof.Defs
public import proofs.«01_k».proof.Proof.MixStep.Array
public import proofs.«01_k».proof.Proof.Gen.MixStepReferenceIdeal.Read
public import proofs.«01_k».proof.Proof.Gen.MixStepReferenceIdeal.Run

@[expose] public section

set_option maxRecDepth 16384

noncomputable section

namespace Cert.MixStep

open Idealize.ShloMosaic Idealize.SL.Sem
open Cert.MixStepReferenceIdeal Cert.MixStepReferenceIdeal.Gen Cert.MixStepReferenceIdeal.Read

theorem mean_eq (g u : Vec Ideal S2048x640 .f32) :
    val_main_v4 (F := Ideal) g u = fun i => Step.mean (g (ix2 (i 0) (i 1))) (u (ix2 (i 0) (i 1))) := by
  funext i
  idx_vars i
  pointwise [val_main_v4, val_main_v3, val_main_v2, val_main_v1, val_main_v0, val_main_cst, val_main_cst_0, Step.mean]

theorem square_eq (g v : Vec Ideal S2048x640 .f32) :
    val_main_v10 (F := Ideal) g v = fun i => Step.square (g (ix2 (i 0) (i 1))) (v (ix2 (i 0) (i 1))) := by
  funext i
  idx_vars i
  pointwise [val_main_v10, val_main_v9, val_main_v8, val_main_v7, val_main_v6, val_main_v5, val_main_cst_1,
    val_main_cst_2, Step.square]

theorem change_eq (w g u v : Vec Ideal S2048x640 .f32) :
    val_main_v23 (F := Ideal) w g u v = fun i =>
      Step.change (w (ix2 (i 0) (i 1))) (g (ix2 (i 0) (i 1))) (u (ix2 (i 0) (i 1))) (v (ix2 (i 0) (i 1))) := by
  funext i
  idx_vars i
  pointwise [val_main_v23, val_main_v22, val_main_v21, val_main_v20, val_main_v19, val_main_v18, val_main_v17,
    val_main_v16, val_main_v15, val_main_v14, val_main_v13, val_main_v12, val_main_v11, val_main_cst_3,
    val_main_cst_4, val_main_cst_5, val_main_cst_6, val_main_cst_7, mean_eq, square_eq, Step.change]

theorem algebraic : Cert.algebraic_MixStepKernelIdeal_MixStepReferenceIdeal
    (hMixStepKernelIdeal := Cert.MixStepKernelIdeal.Gen.facts)
    (hMixStepReferenceIdeal := Cert.MixStepReferenceIdeal.Gen.facts) := by
  intro m ρ m' ρ' _ hargs
  refine ⟨fun c => changeResult m c, fun c => meanResult m c, fun c => squareResult m c, ?_, ?_⟩
  · refine (θ_run _ _ _).mono (fun r h c => ?_) (Cert.MixStepKernelIdeal.Value.run_blocks m ρ)
    exact ⟨(h c).1.trans (final_change m c), (h c).2.1.trans (final_mean m c),
      (h c).2.2.1.trans (final_square m c), (h c).2.2.2⟩
  · refine (θ_run _ _ _).mono (fun r h c => ?_) (Cert.MixStepReferenceIdeal.Value.run m' ρ')
    obtain ⟨a0, a1, a2, a3⟩ := hargs c
    refine ⟨(h c).1.trans ?_, (h c).2.1.trans ?_, (h c).2.2.1.trans ?_, (h c).2.2.2⟩
    · rw [val_main_v23_eq, change_eq, a0, a1, a2, a3]
      rfl
    · refine (val_main_v4_eq _ _).trans ?_
      rw [mean_eq, a1, a2]
      rfl
    · refine (val_main_v10_eq _ _).trans ?_
      rw [square_eq, a1, a3]
      rfl

end Cert.MixStep

end
-- ==== Proof.ConvStep.Array.lean ====
/- The optimiser's step of the convolution layers' first projections' weights: the kernel's three result arrays after the run, made up of blocks of 256 rows. -/
module

public import proofs.«01_k».proof.Proof.Gen.ConvStepKernelIdeal.Value
public import proofs.«01_k».proof.Proof.Step
public import Idealize.ShloMosaic.Lib.Pipeline.ValueKit
public import Idealize.ShloMosaic.Lib.Pipeline.ReadBack

@[expose] public section

set_option maxRecDepth 16384

noncomputable section

namespace Cert.ConvStep

open Idealize.ShloMosaic Idealize.ShloMosaic.TcCoe
open Cert.ConvStepKernelIdeal Cert.ConvStepKernelIdeal.Gen Cert.ConvStepKernelIdeal.Value

variable (m : (ℓ : Loc nD τ sig) → Buf (Elt Ideal) ℓ) (c : Dev nD)

/-- Where each window's block lies at point `t`. -/
theorem idx (t : Fin cfg0.N) : (win0_0.index t = ![t.val, 0] ∧ win0_1.index t = ![t.val, 0]
    ∧ win0_2.index t = ![t.val, 0] ∧ win0_3.index t = ![t.val, 0]) ∧ win0_4.index t = ![t.val, 0]
    ∧ win0_5.index t = ![t.val, 0] ∧ win0_6.index t = ![t.val, 0] :=
  (by decide +kernel : ∀ t : Fin grid0.N, (win0_0.index t = ![t.val, 0] ∧ win0_1.index t = ![t.val, 0]
    ∧ win0_2.index t = ![t.val, 0] ∧ win0_3.index t = ![t.val, 0]) ∧ win0_4.index t = ![t.val, 0]
    ∧ win0_5.index t = ![t.val, 0] ∧ win0_6.index t = ![t.val, 0]) t

/-- Row `a` of the block at point `t`. -/
def row (t : Fin cfg0.N) (a : Fin 256) : Fin 2048 :=
  ⟨t.val * 256 + a.val, by have := lt_of_lt_of_eq t.isLt N_0; omega⟩

theorem weight_apply (t : Fin cfg0.N) (a : Fin 256) (q : Fin 512) :
    iblk m c 0 t (ix2 a q) = m ((c : Thread nD τ).loc main_arg0) (ix2 (row t a) q) := by
  have e : V m c main_arg0 (ix2 (row t a) q) = m ((c : Thread nD τ).loc main_arg0) (ix2 (row t a) q) := by
    entry_read
    rfl
  rw [← e]
  unfold row
  blk_ext [iblk, (idx t).1.1]

theorem gradient_apply (t : Fin cfg0.N) (a : Fin 256) (q : Fin 512) :
    iblk m c 1 t (ix2 a q) = m ((c : Thread nD τ).loc main_arg1) (ix2 (row t a) q) := by
  have e : V m c main_arg1 (ix2 (row t a) q) = m ((c : Thread nD τ).loc main_arg1) (ix2 (row t a) q) := by
    entry_read
    rfl
  rw [← e]
  unfold row
  blk_ext [iblk, (idx t).1.2.1]

theorem mean_apply (t : Fin cfg0.N) (a : Fin 256) (q : Fin 512) :
    iblk m c 2 t (ix2 a q) = m ((c : Thread nD τ).loc main_arg2) (ix2 (row t a) q) := by
  have e : V m c main_arg2 (ix2 (row t a) q) = m ((c : Thread nD τ).loc main_arg2) (ix2 (row t a) q) := by
    entry_read
    rfl
  rw [← e]
  unfold row
  blk_ext [iblk, (idx t).1.2.2.1]

theorem square_apply (t : Fin cfg0.N) (a : Fin 256) (q : Fin 512) :
    iblk m c 3 t (ix2 a q) = m ((c : Thread nD τ).loc main_arg3) (ix2 (row t a) q) := by
  have e : V m c main_arg3 (ix2 (row t a) q) = m ((c : Thread nD τ).loc main_arg3) (ix2 (row t a) q) := by
    entry_read
    rfl
  rw [← e]
  unfold row
  blk_ext [iblk, (idx t).1.2.2.2]

/-- The weight's change, from the arrays the launch begins with. -/
def changeValue (k : Fin 2048) (q : Fin 512) : EReal :=
  Step.change (m ((c : Thread nD τ).loc main_arg0) (ix2 k q)) (m ((c : Thread nD τ).loc main_arg1) (ix2 k q))
    (m ((c : Thread nD τ).loc main_arg2) (ix2 k q)) (m ((c : Thread nD τ).loc main_arg3) (ix2 k q))

/-- The gradients' new running mean. -/
def meanValue (k : Fin 2048) (q : Fin 512) : EReal :=
  Step.mean (m ((c : Thread nD τ).loc main_arg1) (ix2 k q)) (m ((c : Thread nD τ).loc main_arg2) (ix2 k q))

/-- The new running mean of their squares. -/
def squareValue (k : Fin 2048) (q : Fin 512) : EReal :=
  Step.square (m ((c : Thread nD τ).loc main_arg1) (ix2 k q)) (m ((c : Thread nD τ).loc main_arg3) (ix2 k q))

/-- What the kernel leaves in its three results. -/
def changeResult : Buf (Elt Ideal) ((c : Thread nD τ).loc main_v0_0) := fun i => changeValue m c (i 0) (i 1)

def meanResult : Buf (Elt Ideal) ((c : Thread nD τ).loc main_v0_1) := fun i => meanValue m c (i 0) (i 1)

def squareResult : Buf (Elt Ideal) ((c : Thread nD τ).loc main_v0_2) := fun i => squareValue m c (i 0) (i 1)

theorem change_out (t : Fin cfg0.N) (a : Fin 256) (q : Fin 512) :
    out0_4 (iblk m c 0 t) (iblk m c 1 t) (iblk m c 2 t) (iblk m c 3 t) (ix2 a q)
      = changeValue m c (row t a) q := by
  unfold changeValue
  rw [← weight_apply m c, ← gradient_apply m c, ← mean_apply m c, ← square_apply m c]
  frame_out
  unfold_payloads
  pointwise [Step.change, Step.mean, Step.square]

theorem mean_out (t : Fin cfg0.N) (a : Fin 256) (q : Fin 512) :
    out0_5 (iblk m c 0 t) (iblk m c 1 t) (iblk m c 2 t) (iblk m c 3 t) (ix2 a q)
      = meanValue m c (row t a) q := by
  unfold meanValue
  rw [← gradient_apply m c, ← mean_apply m c]
  frame_out
  unfold_payloads
  pointwise [Step.mean]

theorem square_out (t : Fin cfg0.N) (a : Fin 256) (q : Fin 512) :
    out0_6 (iblk m c 0 t) (iblk m c 1 t) (iblk m c 2 t) (iblk m c 3 t) (ix2 a q)
      = squareValue m c (row t a) q := by
  unfold squareValue
  rw [← gradient_apply m c, ← square_apply m c]
  frame_out
  unfold_payloads
  pointwise [Step.square]

theorem final_change : (dats m 0 c).arrAt 4 cfg0.N = changeResult m c := by
  refine (dats m 0 c).arrAt_eq_of_covers 4 _ (by decide +kernel) fun t hf y => ?_
  blk_simp
  rw [after0_4]
  idx_vars y
  rw [change_out]
  unfold changeResult
  exact congrArg₂ (changeValue m c) (Fin.ext (by blk_simp [row, (idx t).2.1]))
    (Fin.ext (by blk_simp [(idx t).2.1]))

theorem final_mean : (dats m 0 c).arrAt 5 cfg0.N = meanResult m c := by
  refine (dats m 0 c).arrAt_eq_of_covers 5 _ (by decide +kernel) fun t hf y => ?_
  blk_simp
  rw [after0_5]
  idx_vars y
  rw [mean_out]
  unfold meanResult
  exact congrArg₂ (meanValue m c) (Fin.ext (by blk_simp [row, (idx t).2.2.1]))
    (Fin.ext (by blk_simp [(idx t).2.2.1]))

theorem final_square : (dats m 0 c).arrAt 6 cfg0.N = squareResult m c := by
  refine (dats m 0 c).arrAt_eq_of_covers 6 _ (by decide +kernel) fun t hf y => ?_
  blk_simp
  rw [after0_6]
  idx_vars y
  rw [square_out]
  unfold squareResult
  exact congrArg₂ (squareValue m c) (Fin.ext (by blk_simp [row, (idx t).2.2.2]))
    (Fin.ext (by blk_simp [(idx t).2.2.2]))

end Cert.ConvStep

end
-- ==== Proof.ConvStep.Equal.lean ====
/- The claim of the optimiser's step of the convolution layers' first projections' weights: the kernel's run and the reference's run end with the same three
   results. -/
module

public import proofs.«01_k».proof.Defs
public import proofs.«01_k».proof.Proof.ConvStep.Array
public import proofs.«01_k».proof.Proof.Gen.ConvStepReferenceIdeal.Read
public import proofs.«01_k».proof.Proof.Gen.ConvStepReferenceIdeal.Run

@[expose] public section

set_option maxRecDepth 16384

noncomputable section

namespace Cert.ConvStep

open Idealize.ShloMosaic Idealize.SL.Sem
open Cert.ConvStepReferenceIdeal Cert.ConvStepReferenceIdeal.Gen Cert.ConvStepReferenceIdeal.Read

theorem mean_eq (g u : Vec Ideal S2048x512 .f32) :
    val_main_v4 (F := Ideal) g u = fun i => Step.mean (g (ix2 (i 0) (i 1))) (u (ix2 (i 0) (i 1))) := by
  funext i
  idx_vars i
  pointwise [val_main_v4, val_main_v3, val_main_v2, val_main_v1, val_main_v0, val_main_cst, val_main_cst_0, Step.mean]

theorem square_eq (g v : Vec Ideal S2048x512 .f32) :
    val_main_v10 (F := Ideal) g v = fun i => Step.square (g (ix2 (i 0) (i 1))) (v (ix2 (i 0) (i 1))) := by
  funext i
  idx_vars i
  pointwise [val_main_v10, val_main_v9, val_main_v8, val_main_v7, val_main_v6, val_main_v5, val_main_cst_1,
    val_main_cst_2, Step.square]

theorem change_eq (w g u v : Vec Ideal S2048x512 .f32) :
    val_main_v23 (F := Ideal) w g u v = fun i =>
      Step.change (w (ix2 (i 0) (i 1))) (g (ix2 (i 0) (i 1))) (u (ix2 (i 0) (i 1))) (v (ix2 (i 0) (i 1))) := by
  funext i
  idx_vars i
  pointwise [val_main_v23, val_main_v22, val_main_v21, val_main_v20, val_main_v19, val_main_v18, val_main_v17,
    val_main_v16, val_main_v15, val_main_v14, val_main_v13, val_main_v12, val_main_v11, val_main_cst_3,
    val_main_cst_4, val_main_cst_5, val_main_cst_6, val_main_cst_7, mean_eq, square_eq, Step.change]

theorem algebraic : Cert.algebraic_ConvStepKernelIdeal_ConvStepReferenceIdeal
    (hConvStepKernelIdeal := Cert.ConvStepKernelIdeal.Gen.facts)
    (hConvStepReferenceIdeal := Cert.ConvStepReferenceIdeal.Gen.facts) := by
  intro m ρ m' ρ' _ hargs
  refine ⟨fun c => changeResult m c, fun c => meanResult m c, fun c => squareResult m c, ?_, ?_⟩
  · refine (θ_run _ _ _).mono (fun r h c => ?_) (Cert.ConvStepKernelIdeal.Value.run_blocks m ρ)
    exact ⟨(h c).1.trans (final_change m c), (h c).2.1.trans (final_mean m c),
      (h c).2.2.1.trans (final_square m c), (h c).2.2.2⟩
  · refine (θ_run _ _ _).mono (fun r h c => ?_) (Cert.ConvStepReferenceIdeal.Value.run m' ρ')
    obtain ⟨a0, a1, a2, a3⟩ := hargs c
    refine ⟨(h c).1.trans ?_, (h c).2.1.trans ?_, (h c).2.2.1.trans ?_, (h c).2.2.2⟩
    · rw [val_main_v23_eq, change_eq, a0, a1, a2, a3]
      rfl
    · refine (val_main_v4_eq _ _).trans ?_
      rw [mean_eq, a1, a2]
      rfl
    · refine (val_main_v10_eq _ _).trans ?_
      rw [square_eq, a1, a3]
      rfl

end Cert.ConvStep

end
-- ==== Proof.SquareStep.Array.lean ====
/- The optimiser's step of the weights of one kind of mixer's output projections: the kernel's three result arrays after the run, made up of blocks of 256 rows. -/
module

public import proofs.«01_k».proof.Proof.Gen.SquareStepKernelIdeal.Value
public import proofs.«01_k».proof.Proof.Step
public import Idealize.ShloMosaic.Lib.Pipeline.ValueKit
public import Idealize.ShloMosaic.Lib.Pipeline.ReadBack

@[expose] public section

set_option maxRecDepth 16384

noncomputable section

namespace Cert.SquareStep

open Idealize.ShloMosaic Idealize.ShloMosaic.TcCoe
open Cert.SquareStepKernelIdeal Cert.SquareStepKernelIdeal.Gen Cert.SquareStepKernelIdeal.Value

variable (m : (ℓ : Loc nD τ sig) → Buf (Elt Ideal) ℓ) (c : Dev nD)

/-- Where each window's block lies at point `t`. -/
theorem idx (t : Fin cfg0.N) : (win0_0.index t = ![t.val, 0] ∧ win0_1.index t = ![t.val, 0]
    ∧ win0_2.index t = ![t.val, 0] ∧ win0_3.index t = ![t.val, 0]) ∧ win0_4.index t = ![t.val, 0]
    ∧ win0_5.index t = ![t.val, 0] ∧ win0_6.index t = ![t.val, 0] :=
  (by decide +kernel : ∀ t : Fin grid0.N, (win0_0.index t = ![t.val, 0] ∧ win0_1.index t = ![t.val, 0]
    ∧ win0_2.index t = ![t.val, 0] ∧ win0_3.index t = ![t.val, 0]) ∧ win0_4.index t = ![t.val, 0]
    ∧ win0_5.index t = ![t.val, 0] ∧ win0_6.index t = ![t.val, 0]) t

/-- Row `a` of the block at point `t`. -/
def row (t : Fin cfg0.N) (a : Fin 256) : Fin 512 :=
  ⟨t.val * 256 + a.val, by have := lt_of_lt_of_eq t.isLt N_0; omega⟩

theorem weight_apply (t : Fin cfg0.N) (a : Fin 256) (q : Fin 1024) :
    iblk m c 0 t (ix2 a q) = m ((c : Thread nD τ).loc main_arg0) (ix2 (row t a) q) := by
  have e : V m c main_arg0 (ix2 (row t a) q) = m ((c : Thread nD τ).loc main_arg0) (ix2 (row t a) q) := by
    entry_read
    rfl
  rw [← e]
  unfold row
  blk_ext [iblk, (idx t).1.1]

theorem gradient_apply (t : Fin cfg0.N) (a : Fin 256) (q : Fin 1024) :
    iblk m c 1 t (ix2 a q) = m ((c : Thread nD τ).loc main_arg1) (ix2 (row t a) q) := by
  have e : V m c main_arg1 (ix2 (row t a) q) = m ((c : Thread nD τ).loc main_arg1) (ix2 (row t a) q) := by
    entry_read
    rfl
  rw [← e]
  unfold row
  blk_ext [iblk, (idx t).1.2.1]

theorem mean_apply (t : Fin cfg0.N) (a : Fin 256) (q : Fin 1024) :
    iblk m c 2 t (ix2 a q) = m ((c : Thread nD τ).loc main_arg2) (ix2 (row t a) q) := by
  have e : V m c main_arg2 (ix2 (row t a) q) = m ((c : Thread nD τ).loc main_arg2) (ix2 (row t a) q) := by
    entry_read
    rfl
  rw [← e]
  unfold row
  blk_ext [iblk, (idx t).1.2.2.1]

theorem square_apply (t : Fin cfg0.N) (a : Fin 256) (q : Fin 1024) :
    iblk m c 3 t (ix2 a q) = m ((c : Thread nD τ).loc main_arg3) (ix2 (row t a) q) := by
  have e : V m c main_arg3 (ix2 (row t a) q) = m ((c : Thread nD τ).loc main_arg3) (ix2 (row t a) q) := by
    entry_read
    rfl
  rw [← e]
  unfold row
  blk_ext [iblk, (idx t).1.2.2.2]

/-- The weight's change, from the arrays the launch begins with. -/
def changeValue (k : Fin 512) (q : Fin 1024) : EReal :=
  Step.change (m ((c : Thread nD τ).loc main_arg0) (ix2 k q)) (m ((c : Thread nD τ).loc main_arg1) (ix2 k q))
    (m ((c : Thread nD τ).loc main_arg2) (ix2 k q)) (m ((c : Thread nD τ).loc main_arg3) (ix2 k q))

/-- The gradients' new running mean. -/
def meanValue (k : Fin 512) (q : Fin 1024) : EReal :=
  Step.mean (m ((c : Thread nD τ).loc main_arg1) (ix2 k q)) (m ((c : Thread nD τ).loc main_arg2) (ix2 k q))

/-- The new running mean of their squares. -/
def squareValue (k : Fin 512) (q : Fin 1024) : EReal :=
  Step.square (m ((c : Thread nD τ).loc main_arg1) (ix2 k q)) (m ((c : Thread nD τ).loc main_arg3) (ix2 k q))

/-- What the kernel leaves in its three results. -/
def changeResult : Buf (Elt Ideal) ((c : Thread nD τ).loc main_v0_0) := fun i => changeValue m c (i 0) (i 1)

def meanResult : Buf (Elt Ideal) ((c : Thread nD τ).loc main_v0_1) := fun i => meanValue m c (i 0) (i 1)

def squareResult : Buf (Elt Ideal) ((c : Thread nD τ).loc main_v0_2) := fun i => squareValue m c (i 0) (i 1)

theorem change_out (t : Fin cfg0.N) (a : Fin 256) (q : Fin 1024) :
    out0_4 (iblk m c 0 t) (iblk m c 1 t) (iblk m c 2 t) (iblk m c 3 t) (ix2 a q)
      = changeValue m c (row t a) q := by
  unfold changeValue
  rw [← weight_apply m c, ← gradient_apply m c, ← mean_apply m c, ← square_apply m c]
  frame_out
  unfold_payloads
  pointwise [Step.change, Step.mean, Step.square]

theorem mean_out (t : Fin cfg0.N) (a : Fin 256) (q : Fin 1024) :
    out0_5 (iblk m c 0 t) (iblk m c 1 t) (iblk m c 2 t) (iblk m c 3 t) (ix2 a q)
      = meanValue m c (row t a) q := by
  unfold meanValue
  rw [← gradient_apply m c, ← mean_apply m c]
  frame_out
  unfold_payloads
  pointwise [Step.mean]

theorem square_out (t : Fin cfg0.N) (a : Fin 256) (q : Fin 1024) :
    out0_6 (iblk m c 0 t) (iblk m c 1 t) (iblk m c 2 t) (iblk m c 3 t) (ix2 a q)
      = squareValue m c (row t a) q := by
  unfold squareValue
  rw [← gradient_apply m c, ← square_apply m c]
  frame_out
  unfold_payloads
  pointwise [Step.square]

theorem final_change : (dats m 0 c).arrAt 4 cfg0.N = changeResult m c := by
  refine (dats m 0 c).arrAt_eq_of_covers 4 _ (by decide +kernel) fun t hf y => ?_
  blk_simp
  rw [after0_4]
  idx_vars y
  rw [change_out]
  unfold changeResult
  exact congrArg₂ (changeValue m c) (Fin.ext (by blk_simp [row, (idx t).2.1]))
    (Fin.ext (by blk_simp [(idx t).2.1]))

theorem final_mean : (dats m 0 c).arrAt 5 cfg0.N = meanResult m c := by
  refine (dats m 0 c).arrAt_eq_of_covers 5 _ (by decide +kernel) fun t hf y => ?_
  blk_simp
  rw [after0_5]
  idx_vars y
  rw [mean_out]
  unfold meanResult
  exact congrArg₂ (meanValue m c) (Fin.ext (by blk_simp [row, (idx t).2.2.1]))
    (Fin.ext (by blk_simp [(idx t).2.2.1]))

theorem final_square : (dats m 0 c).arrAt 6 cfg0.N = squareResult m c := by
  refine (dats m 0 c).arrAt_eq_of_covers 6 _ (by decide +kernel) fun t hf y => ?_
  blk_simp
  rw [after0_6]
  idx_vars y
  rw [square_out]
  unfold squareResult
  exact congrArg₂ (squareValue m c) (Fin.ext (by blk_simp [row, (idx t).2.2.2]))
    (Fin.ext (by blk_simp [(idx t).2.2.2]))

end Cert.SquareStep

end
-- ==== Proof.SquareStep.Equal.lean ====
/- The claim of the optimiser's step of the weights of one kind of mixer's output projections: the kernel's run and the reference's run end with the same three
   results. -/
module

public import proofs.«01_k».proof.Defs
public import proofs.«01_k».proof.Proof.SquareStep.Array
public import proofs.«01_k».proof.Proof.Gen.SquareStepReferenceIdeal.Read
public import proofs.«01_k».proof.Proof.Gen.SquareStepReferenceIdeal.Run

@[expose] public section

set_option maxRecDepth 16384

noncomputable section

namespace Cert.SquareStep

open Idealize.ShloMosaic Idealize.SL.Sem
open Cert.SquareStepReferenceIdeal Cert.SquareStepReferenceIdeal.Gen Cert.SquareStepReferenceIdeal.Read

theorem mean_eq (g u : Vec Ideal S512x1024 .f32) :
    val_main_v4 (F := Ideal) g u = fun i => Step.mean (g (ix2 (i 0) (i 1))) (u (ix2 (i 0) (i 1))) := by
  funext i
  idx_vars i
  pointwise [val_main_v4, val_main_v3, val_main_v2, val_main_v1, val_main_v0, val_main_cst, val_main_cst_0, Step.mean]

theorem square_eq (g v : Vec Ideal S512x1024 .f32) :
    val_main_v10 (F := Ideal) g v = fun i => Step.square (g (ix2 (i 0) (i 1))) (v (ix2 (i 0) (i 1))) := by
  funext i
  idx_vars i
  pointwise [val_main_v10, val_main_v9, val_main_v8, val_main_v7, val_main_v6, val_main_v5, val_main_cst_1,
    val_main_cst_2, Step.square]

theorem change_eq (w g u v : Vec Ideal S512x1024 .f32) :
    val_main_v23 (F := Ideal) w g u v = fun i =>
      Step.change (w (ix2 (i 0) (i 1))) (g (ix2 (i 0) (i 1))) (u (ix2 (i 0) (i 1))) (v (ix2 (i 0) (i 1))) := by
  funext i
  idx_vars i
  pointwise [val_main_v23, val_main_v22, val_main_v21, val_main_v20, val_main_v19, val_main_v18, val_main_v17,
    val_main_v16, val_main_v15, val_main_v14, val_main_v13, val_main_v12, val_main_v11, val_main_cst_3,
    val_main_cst_4, val_main_cst_5, val_main_cst_6, val_main_cst_7, mean_eq, square_eq, Step.change]

theorem algebraic : Cert.algebraic_SquareStepKernelIdeal_SquareStepReferenceIdeal
    (hSquareStepKernelIdeal := Cert.SquareStepKernelIdeal.Gen.facts)
    (hSquareStepReferenceIdeal := Cert.SquareStepReferenceIdeal.Gen.facts) := by
  intro m ρ m' ρ' _ hargs
  refine ⟨fun c => changeResult m c, fun c => meanResult m c, fun c => squareResult m c, ?_, ?_⟩
  · refine (θ_run _ _ _).mono (fun r h c => ?_) (Cert.SquareStepKernelIdeal.Value.run_blocks m ρ)
    exact ⟨(h c).1.trans (final_change m c), (h c).2.1.trans (final_mean m c),
      (h c).2.2.1.trans (final_square m c), (h c).2.2.2⟩
  · refine (θ_run _ _ _).mono (fun r h c => ?_) (Cert.SquareStepReferenceIdeal.Value.run m' ρ')
    obtain ⟨a0, a1, a2, a3⟩ := hargs c
    refine ⟨(h c).1.trans ?_, (h c).2.1.trans ?_, (h c).2.2.1.trans ?_, (h c).2.2.2⟩
    · rw [val_main_v23_eq, change_eq, a0, a1, a2, a3]
      rfl
    · refine (val_main_v4_eq _ _).trans ?_
      rw [mean_eq, a1, a2]
      rfl
    · refine (val_main_v10_eq _ _).trans ?_
      rw [square_eq, a1, a3]
      rfl

end Cert.SquareStep

end
-- ==== Proof.Norm.Array.lean ====
/- The first layer's norm of the input: the kernel's result array after the run, made up of blocks of 512 rows. -/
module

public import proofs.«01_k».proof.Proof.Gen.NormKernelIdeal.Value
public import proofs.«01_k».proof.Proof.Out.Array

@[expose] public section

set_option maxRecDepth 16384

noncomputable section

namespace Cert.Norm

open Idealize.ShloMosaic Idealize.ShloMosaic.TcCoe

open Cert.BlockOutput (normed)
open Cert.NormKernelIdeal Cert.NormKernelIdeal.Gen Cert.NormKernelIdeal.Value

variable (m : (ℓ : Loc nD τ sig) → Buf (Elt Ideal) ℓ) (c : Dev nD)

/-- Where each window's block lies at point `t`. -/
theorem idx (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0]
    ∧ win0_2.index t = ![t.val, 0]) t

/-- Row `a` of the block at point `t`. -/
def row (t : Fin cfg0.N) (a : Fin 512) : Fin 8192 :=
  ⟨t.val * 512 + a.val, by have := lt_of_lt_of_eq t.isLt N_0; omega⟩

theorem normed_apply (X : Vec Ideal S512x1024 .f32) (G : Vec Ideal S1x1024 .f32) (a : Fin 512) (r : Fin 1024) :
    k0_pay1 (F := Ideal) X G (ix2 a r) = normed (fun q => X (ix2 a q)) (fun q => G (ix2 0 q)) r := by
  unfold_payloads
  pointwise [normed]

theorem input_apply (t : Fin cfg0.N) (a : Fin 512) (r : Fin 1024) :
    iblk m c 0 t (ix2 a r) = m ((c : Thread nD τ).loc main_arg0) (ix2 (row t a) r) := by
  have e : V m c main_arg0 (ix2 (row t a) r) = m ((c : Thread nD τ).loc main_arg0) (ix2 (row t a) r) := by
    entry_read
    rfl
  rw [← e]
  unfold row
  blk_ext [iblk, (idx t).1]

theorem gain_entry (q : Fin 1024) : V m c main_v0 (ix2 0 q) = m ((c : Thread nD τ).loc main_arg1) (ix1 q) := by
  entry_read
  pointwise

theorem gain_apply (t : Fin cfg0.N) (q : Fin 1024) :
    iblk m c 1 t (ix2 0 q) = m ((c : Thread nD τ).loc main_arg1) (ix1 q) := by
  rw [← gain_entry m c]
  blk_ext [iblk, (idx t).2.1]

/-- The normed input of the arrays the launch begins with. -/
def value (k : Fin 8192) (r : Fin 1024) : EReal :=
  normed (fun q => m ((c : Thread nD τ).loc main_arg0) (ix2 k q)) (fun q => m ((c : Thread nD τ).loc main_arg1) (ix1 q)) r

/-- What the kernel leaves in its result. -/
def result : Buf (Elt Ideal) ((c : Thread nD τ).loc main_v1) := fun i => value m c (i 0) (i 1)

theorem out_apply (t : Fin cfg0.N) (a : Fin 512) (r : Fin 1024) :
    out0_2 (iblk m c 0 t) (iblk m c 1 t) (ix2 a r) = value m c (row t a) r := by
  frame_out
  refine (normed_apply _ _ a r).trans ?_
  simp only [input_apply, gain_apply]
  rfl

theorem final : (dats m 0 c).arrAt 2 cfg0.N = result m c := by
  refine (dats m 0 c).arrAt_eq_of_covers 2 _ (by decide +kernel) fun t hf y => ?_
  blk_simp
  rw [after0_2]
  idx_vars y
  rw [out_apply]
  unfold result
  exact congrArg₂ (value m c) (Fin.ext (by blk_simp [row, (idx t).2.2])) (Fin.ext (by blk_simp [(idx t).2.2]))

end Cert.Norm

end
-- ==== Proof.Norm.Equal.lean ====
/- The claim of the first layer's norm of the input: the kernel's run and the reference's run end with the same result. -/
module

public import proofs.«01_k».proof.Defs
public import proofs.«01_k».proof.Proof.Norm.Array
public import proofs.«01_k».proof.Proof.Gen.NormReferenceIdeal.Read
public import proofs.«01_k».proof.Proof.Gen.NormReferenceIdeal.Run

@[expose] public section

set_option maxRecDepth 16384

noncomputable section

namespace Cert.Norm

open Idealize.ShloMosaic Idealize.SL.Sem
open Cert.BlockOutput (normed)
open Cert.NormReferenceIdeal Cert.NormReferenceIdeal.Gen Cert.NormReferenceIdeal.Read

theorem normed_eq (x : Vec Ideal S8192x1024 .f32) (g : Vec Ideal S1024 .f32) :
    val_main_v13 (F := Ideal) x g = fun i => normed (fun q => x (ix2 (i 0) q)) (fun q => g (ix1 q)) (i 1) := by
  funext i
  idx_vars i
  pointwise [val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1, normed]

theorem algebraic : Cert.algebraic_NormKernelIdeal_NormReferenceIdeal
    (hNormKernelIdeal := Cert.NormKernelIdeal.Gen.facts)
    (hNormReferenceIdeal := Cert.NormReferenceIdeal.Gen.facts) := by
  intro m ρ m' ρ' _ hargs
  refine ⟨fun c => result m c, ?_, ?_⟩
  · refine (θ_run _ _ _).mono (fun r h c => ?_) (Cert.NormKernelIdeal.Value.run_blocks m ρ)
    exact ⟨(h c).1.trans (final m c), (h c).2⟩
  · refine (θ_run _ _ _).mono (fun r h c => ?_) (Cert.NormReferenceIdeal.Value.run m' ρ')
    obtain ⟨a0, a1⟩ := hargs c
    refine ⟨(h c).1.trans ?_, (h c).2⟩
    refine (val_main_v13_eq _ _).trans ?_
    rw [normed_eq, a0, a1]
    rfl

end Cert.Norm

end
-- ==== Proof.Loss.Array.lean ====
/- One device's loss and its gradient: the kernel's three result arrays after the run. The gradient and its low-precision
   copy are made up of blocks of 512 rows; the loss is summed over all 8192 rows, block after block. -/
module

public import proofs.«01_k».proof.Proof.Gen.LossKernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Loss

open Idealize.ShloMosaic Idealize.ShloMosaic.TcCoe

/-- The constant one half. -/
def half : EReal := Ideal.ofBits .f32 0x3F000000#32

/-- The constant one over the number of columns. -/
def perColumn : EReal := Ideal.ofBits .f32 0x3A800000#32

theorem half_eq : half = ((1 / 2 : ℝ) : EReal) := by
  unfold half
  simp [Ideal.ofBits, Ideal.ieee, -EReal.coe_mul]
  norm_num

theorem perColumn_eq : perColumn = ((1 / 1024 : ℝ) : EReal) := by
  unfold perColumn
  simp [Ideal.ofBits, Ideal.ieee, -EReal.coe_mul]
  norm_num

/-- The half of a sum is the sum of the halves, infinite summands included. -/
theorem half_sum {n : ℕ} (f : Fin n → EReal) : half * ∑ k : Fin n, f k = ∑ k : Fin n, half * f k := by
  have h0 : 0 ≤ half := by
    rw [half_eq]
    exact_mod_cast (by norm_num : (0 : ℝ) ≤ 1 / 2)
  have ht : half ≠ ⊤ := by
    rw [half_eq]
    exact EReal.coe_ne_top _
  let φ : EReal →+ EReal := ⟨⟨fun x => half * x, mul_zero _⟩, fun x y => EReal.left_distrib_of_nonneg_of_ne_top h0 ht x y⟩
  exact map_sum φ f Finset.univ

/-- The mean of one row's squared errors. -/
def rowMean (y t : Fin 1024 → EReal) : EReal := (∑ q : Fin 1024, (y q - t q) * (y q - t q)) * perColumn

/-- The gradient at one entry. -/
def gradient (y t : EReal) : EReal := (y - t) * perColumn

open Cert.LossKernelIdeal Cert.LossKernelIdeal.Gen Cert.LossKernelIdeal.Value

/-- A block's share of the loss. -/
def share (Y T : S512x1024.Idx → EReal) : EReal :=
  half * ∑ a : Fin 512, rowMean (fun q => Y (ix2 a q)) (fun q => T (ix2 a q))

theorem gradient_apply (Y T : Vec Ideal S512x1024 .f32) (a : Fin 512) (r : Fin 1024) :
    k0_pay2 (F := Ideal) Y T (ix2 a r) = gradient (Y (ix2 a r)) (T (ix2 a r)) := by
  unfold_payloads
  pointwise [gradient, perColumn]

theorem low_apply (Y T : Vec Ideal S512x1024 .f32) (a : Fin 512) (r : Fin 1024) :
    k0_pay3 (F := Ideal) Y T (ix2 a r) = gradient (Y (ix2 a r)) (T (ix2 a r)) := by
  unfold_payloads
  pointwise [gradient, perColumn]

theorem share_apply (Y T : Vec Ideal S512x1024 .f32) (A : Vec Ideal S1x128 .f32) (a : Fin 1) (r : Fin 128) :
    k0_pay5 (F := Ideal) Y T A (ix2 a r) = A (ix2 a r) + share Y T := by
  unfold_payloads
  pointwise [share, rowMean, half, perColumn]

theorem zero_apply (a : Fin 1) (r : Fin 128) : k0_pay4 (F := Ideal) (ix2 a r) = 0 := by
  unfold_payloads
  pointwise

variable (m : (ℓ : Loc nD τ sig) → Buf (Elt Ideal) ℓ) (c : Dev nD)

/-- Where each window's block lies at point `t`. -/
theorem idx (t : Fin cfg0.N) : (win0_0.index t = ![t.val, 0] ∧ win0_1.index t = ![t.val, 0]) ∧ win0_2.index t = ![0, 0]
    ∧ win0_3.index t = ![t.val, 0] ∧ win0_4.index t = ![t.val, 0] :=
  (by decide +kernel : ∀ t : Fin grid0.N, (win0_0.index t = ![t.val, 0] ∧ win0_1.index t = ![t.val, 0])
    ∧ win0_2.index t = ![0, 0] ∧ win0_3.index t = ![t.val, 0] ∧ win0_4.index t = ![t.val, 0]) t

/-- Row `a` of the block at point `t`. -/
def row (t : Fin cfg0.N) (a : Fin 512) : Fin 8192 :=
  ⟨t.val * 512 + a.val, by have := lt_of_lt_of_eq t.isLt N_0; omega⟩

theorem output_apply (t : Fin cfg0.N) (a : Fin 512) (r : Fin 1024) :
    iblk m c 0 t (ix2 a r) = m ((c : Thread nD τ).loc main_arg0) (ix2 (row t a) r) := by
  have e : V m c main_arg0 (ix2 (row t a) r) = m ((c : Thread nD τ).loc main_arg0) (ix2 (row t a) r) := by
    entry_read
    rfl
  rw [← e]
  unfold row
  blk_ext [iblk, (idx t).1.1]

theorem target_apply (t : Fin cfg0.N) (a : Fin 512) (r : Fin 1024) :
    iblk m c 1 t (ix2 a r) = m ((c : Thread nD τ).loc main_arg1) (ix2 (row t a) r) := by
  have e : V m c main_arg1 (ix2 (row t a) r) = m ((c : Thread nD τ).loc main_arg1) (ix2 (row t a) r) := by
    entry_read
    rfl
  rw [← e]
  unfold row
  blk_ext [iblk, (idx t).1.2]

/-- The mean squared error of row `k`. -/
def meanValue (k : Fin 8192) : EReal :=
  rowMean (fun q => m ((c : Thread nD τ).loc main_arg0) (ix2 k q)) (fun q => m ((c : Thread nD τ).loc main_arg1) (ix2 k q))

/-- The loss of the arrays the launch begins with. -/
def lossValue : EReal := ∑ k : Fin 8192, half * meanValue m c k

/-- Its gradient. -/
def gradientValue (k : Fin 8192) (r : Fin 1024) : EReal :=
  gradient (m ((c : Thread nD τ).loc main_arg0) (ix2 k r)) (m ((c : Thread nD τ).loc main_arg1) (ix2 k r))

/-- What the kernel leaves in its first result: the loss in every lane. -/
def lossResult : Buf (Elt Ideal) ((c : Thread nD τ).loc main_v0_0) := fun _ => lossValue m c

/-- What it leaves in its second. -/
def gradientResult : Buf (Elt Ideal) ((c : Thread nD τ).loc main_v0_1) := fun i => gradientValue m c (i 0) (i 1)

/-- What it leaves in its third. -/
def lowResult : Buf (Elt Ideal) ((c : Thread nD τ).loc main_v0_2) := fun i => gradientValue m c (i 0) (i 1)

/-- The first point sets its block's share. -/
theorem loss_first (t : Fin cfg0.N) (h0 : t.val % 16 = 0) (a : Fin 1) (r : Fin 128) :
    (outsAt0 m c t.val t.isLt).1 (ix2 a r) = 0 + share (iblk m c 0 t) (iblk m c 1 t) := by
  rw [outsAt0_A m c t h0]
  frame_out
  refine (share_apply _ _ _ a r).trans ?_
  rw [zero_apply]

/-- A later point adds its own. -/
theorem loss_next (t : Fin cfg0.N) (h0 : ¬ t.val % 16 = 0) (a : Fin 1) (r : Fin 128) :
    (outsAt0 m c t.val t.isLt).1 (ix2 a r)
      = (outsAt0 m c (t.val - 1) (Nat.lt_of_le_of_lt (Nat.sub_le _ _) t.isLt)).1 (ix2 a r)
        + share (iblk m c 0 t) (iblk m c 1 t) := by
  rw [outsAt0_B m c t h0]
  frame_out
  exact share_apply _ _ _ a r

/-- A block's share as rows of the whole arrays. -/
theorem share_eq (t : Fin cfg0.N) :
    share (iblk m c 0 t) (iblk m c 1 t) = ∑ a : Fin 512, half * meanValue m c (row t a) := by
  unfold share
  rw [half_sum]
  simp only [output_apply, target_apply]
  rfl

/-- After the last point the loss holds all points' shares. -/
theorem loss_last (t : Fin cfg0.N) (h : t.val % 16 = 15) (a : Fin 1) (r : Fin 128) :
    (outsAt0 m c t.val t.isLt).1 (ix2 a r) = lossValue m c := by
  refine (Pipeline.eq_sum_fin_of_reset_step_of_flush (fun n h => (outsAt0 m c n h).1 (ix2 a r)) 16 0
    (fun t => share (iblk m c 0 t) (iblk m c 1 t))
    (fun t h => loss_first m c t h a r) (fun t h => loss_next m c t h a r) t h).trans ?_
  rw [zero_add]
  unfold lossValue
  simp only [share_eq]
  refine Fin.sum_mul_add_congr fun s k hk => ?_
  have e : row ⟨16 * (t.val / 16) + s.val, Pipeline.run_point_lt_of_flush t h s⟩ k = ⟨s.val * 512 + k.val, hk⟩ := by
    have := lt_of_lt_of_eq t.isLt N_0
    apply Fin.ext
    show (16 * (t.val / 16) + s.val) * 512 + k.val = s.val * 512 + k.val
    omega
  rw [e]

/-- A point's block of the gradient. -/
theorem gradient_out (t : Fin cfg0.N) (a : Fin 512) (r : Fin 1024) :
    (outsAt0 m c t.val t.isLt).2.1 (ix2 a r) = gradientValue m c (row t a) r := by
  unfold gradientValue
  rw [← output_apply m c, ← target_apply m c]
  by_cases h0 : t.val % 16 = 0
  · rw [outsAt0_A m c t h0]
    frame_out
    exact gradient_apply _ _ a r
  · rw [outsAt0_B m c t h0]
    frame_out
    exact gradient_apply _ _ a r

/-- A point's block of its low-precision copy. -/
theorem low_out (t : Fin cfg0.N) (a : Fin 512) (r : Fin 1024) :
    (outsAt0 m c t.val t.isLt).2.2 (ix2 a r) = gradientValue m c (row t a) r := by
  unfold gradientValue
  rw [← output_apply m c, ← target_apply m c]
  by_cases h0 : t.val % 16 = 0
  · rw [outsAt0_A m c t h0]
    frame_out
    exact low_apply _ _ a r
  · rw [outsAt0_B m c t h0]
    frame_out
    exact low_apply _ _ a r

theorem final_loss : (dats m 0 c).arrAt 2 cfg0.N = lossResult m c := by
  refine (dats m 0 c).arrAt_eq_of_covers 2 _ (by decide +kernel) fun t hf y => ?_
  blk_simp
  rw [after0_2]
  have h := (flush0_2 t).mp hf
  idx_vars y
  rw [loss_last m c t h]
  rfl

theorem final_gradient : (dats m 0 c).arrAt 3 cfg0.N = gradientResult m c := by
  refine (dats m 0 c).arrAt_eq_of_covers 3 _ (by decide +kernel) fun t hf y => ?_
  blk_simp
  rw [after0_3]
  idx_vars y
  rw [gradient_out]
  unfold gradientResult
  exact congrArg₂ (gradientValue m c) (Fin.ext (by blk_simp [row, (idx t).2.2.1]))
    (Fin.ext (by blk_simp [(idx t).2.2.1]))

theorem final_low : (dats m 0 c).arrAt 4 cfg0.N = lowResult m c := by
  refine (dats m 0 c).arrAt_eq_of_covers 4 _ (by decide +kernel) fun t hf y => ?_
  blk_simp
  rw [after0_4]
  idx_vars y
  rw [low_out]
  unfold lowResult
  exact congrArg₂ (gradientValue m c) (Fin.ext (by blk_simp [row, (idx t).2.2.2]))
    (Fin.ext (by blk_simp [(idx t).2.2.2]))

end Cert.Loss

end
-- ==== Proof.Loss.Equal.lean ====
/- The claim of one device's loss and its gradient: the kernel's run and the reference's run end with the same three
   results. The reference divides by the number of columns where the kernel multiplies, halves the whole sum where the
   kernel halves each block's, and takes the gradient from the square's. -/
module

public import proofs.«01_k».proof.Defs
public import proofs.«01_k».proof.Proof.Loss.Array
public import proofs.«01_k».proof.Proof.Gen.LossReferenceIdeal.Read
public import proofs.«01_k».proof.Proof.Gen.LossReferenceIdeal.Run

@[expose] public section

set_option maxRecDepth 16384

noncomputable section

namespace Cert.Loss

open Idealize.ShloMosaic Idealize.SL.Sem
open Cert.LossReferenceIdeal Cert.LossReferenceIdeal.Gen Cert.LossReferenceIdeal.Read

theorem columns_eq : Ideal.ofBits .f32 0x44800000#32 = ((1024 : ℝ) : EReal) := by
  simp [Ideal.ofBits, Ideal.ieee, -EReal.coe_mul]
  norm_num

theorem two_eq : Ideal.ofBits .f32 0x40000000#32 = ((2 : ℝ) : EReal) := by
  simp [Ideal.ofBits, Ideal.ieee, -EReal.coe_mul]
  norm_num

/-- Dividing by the number of columns is multiplying by one over it. -/
theorem div_columns (x : EReal) : Ideal.div x (Ideal.ofBits .f32 0x44800000#32) = x * perColumn := by
  rw [columns_eq, perColumn_eq, Ideal.div_coe (by norm_num)]

/-- The gradient through the mean and the square. -/
theorem gradient_through (e : EReal) : half * perColumn * (Ideal.ofBits .f32 0x40000000#32 * e) = e * perColumn := by
  have h : half * Ideal.ofBits .f32 0x40000000#32 = 1 := by
    rw [half_eq, two_eq, ← EReal.coe_mul]
    norm_num
  calc half * perColumn * (Ideal.ofBits .f32 0x40000000#32 * e)
      = half * Ideal.ofBits .f32 0x40000000#32 * (e * perColumn) := by ac_rfl
    _ = e * perColumn := by rw [h, one_mul]

theorem loss_eq (y t : Vec Ideal S8192x1024 .f32) :
    val_main_v15 (F := Ideal) y t = fun _ =>
      ∑ k : Fin 8192, half * rowMean (fun q => y (ix2 k q)) (fun q => t (ix2 k q)) := by
  rw [← half_sum]
  funext i
  idx_vars i
  pointwise [val_main_v15, val_main_v8, val_main_v7, val_main_v6, val_main_v5, val_main_v4, val_main_v1, val_main_v0,
    val_main_cst_0, val_main_cst_1, val_main_cst_2, val_main_cst_3]
  simp only [div_columns]
  rfl

theorem gradient_eq (y t : Vec Ideal S8192x1024 .f32) :
    val_main_v14 (F := Ideal) y t = fun i => gradient (y (ix2 (i 0) (i 1))) (t (ix2 (i 0) (i 1))) := by
  funext i
  idx_vars i
  pointwise [val_main_v14, val_main_v13, val_main_v12, val_main_v11, val_main_v10, val_main_v9, val_main_v3,
    val_main_v2, val_main_v0, val_main_cst, val_main_cst_4, val_main_cst_5, val_main_cst_6]
  rw [div_columns]
  exact gradient_through _

theorem low_eq (y t : Vec Ideal S8192x1024 .f32) :
    val_main_v16 (F := Ideal) y t = fun i => gradient (y (ix2 (i 0) (i 1))) (t (ix2 (i 0) (i 1))) :=
  gradient_eq y t

theorem algebraic : Cert.algebraic_LossKernelIdeal_LossReferenceIdeal
    (hLossKernelIdeal := Cert.LossKernelIdeal.Gen.facts)
    (hLossReferenceIdeal := Cert.LossReferenceIdeal.Gen.facts) := by
  intro m ρ m' ρ' _ hargs
  refine ⟨fun c => lossResult m c, fun c => gradientResult m c, fun c => lowResult m c, ?_, ?_⟩
  · refine (θ_run _ _ _).mono (fun r h c => ?_) (Cert.LossKernelIdeal.Value.run_blocks m ρ)
    exact ⟨(h c).1.trans (final_loss m c), (h c).2.1.trans (final_gradient m c),
      (h c).2.2.1.trans (final_low m c), (h c).2.2.2⟩
  · refine (θ_run _ _ _).mono (fun r h c => ?_) (Cert.LossReferenceIdeal.Value.run m' ρ')
    obtain ⟨a0, a1⟩ := hargs c
    refine ⟨(h c).1.trans ?_, (h c).2.1.trans ?_, (h c).2.2.1.trans ?_, (h c).2.2.2⟩
    · refine (val_main_v15_eq _ _).trans ?_
      rw [loss_eq, a0, a1]
      rfl
    · refine (val_main_v14_eq _ _).trans ?_
      rw [gradient_eq, a0, a1]
      rfl
    · refine (val_main_v16_eq _ _).trans ?_
      rw [low_eq, a0, a1]
      rfl

end Cert.Loss

end
-- ==== Proof.SmallStep.Array.lean ====
/- The optimiser's step of the small weights, packed into one array: the kernel's three result arrays after the run, made up of blocks of 256 rows. -/
module

public import proofs.«01_k».proof.Proof.Gen.SmallStepKernelIdeal.Value
public import proofs.«01_k».proof.Proof.Gen.SmallStepReferenceIdeal.Read
public import proofs.«01_k».proof.Proof.Step
public import Idealize.ShloMosaic.Lib.Pipeline.ValueKit
public import Idealize.ShloMosaic.Lib.Pipeline.ReadBack

@[expose] public section

set_option maxRecDepth 16384

noncomputable section

namespace Cert.SmallStep

open Idealize.ShloMosaic Idealize.ShloMosaic.TcCoe
open Cert.SmallStepKernelIdeal Cert.SmallStepKernelIdeal.Gen Cert.SmallStepKernelIdeal.Value

variable (m : (ℓ : Loc nD τ sig) → Buf (Elt Ideal) ℓ) (c : Dev nD)

/-- Where each window's block lies at point `t`. -/
theorem idx (t : Fin cfg0.N) : (win0_0.index t = ![t.val, 0] ∧ win0_1.index t = ![t.val, 0]
    ∧ win0_2.index t = ![t.val, 0] ∧ win0_3.index t = ![t.val, 0]) ∧ win0_4.index t = ![t.val, 0]
    ∧ win0_5.index t = ![t.val, 0] ∧ win0_6.index t = ![t.val, 0] :=
  (by decide +kernel : ∀ t : Fin grid0.N, (win0_0.index t = ![t.val, 0] ∧ win0_1.index t = ![t.val, 0]
    ∧ win0_2.index t = ![t.val, 0] ∧ win0_3.index t = ![t.val, 0]) ∧ win0_4.index t = ![t.val, 0]
    ∧ win0_5.index t = ![t.val, 0] ∧ win0_6.index t = ![t.val, 0]) t

/-- Row `a` of the block at point `t`. -/
def row (t : Fin cfg0.N) (a : Fin 256) : Fin 2560 :=
  ⟨t.val * 256 + a.val, by have := lt_of_lt_of_eq t.isLt N_0; omega⟩

/-- The packed weights. -/
def weights : Vec Ideal S2560x128 .f32 :=
  Cert.SmallStepReferenceIdeal.Read.val_main_v17 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))
    (m ((c : Thread nD τ).loc main_arg11)) (m ((c : Thread nD τ).loc main_arg12))
    (m ((c : Thread nD τ).loc main_arg13)) (m ((c : Thread nD τ).loc main_arg14))

theorem weights_eq : V m c main_v17 = weights m c := by
  entry_read
  rfl

/-- The packed gradients. -/
def gradients : Vec Ideal S2560x128 .f32 :=
  Cert.SmallStepReferenceIdeal.Read.val_main_v35 (F := Ideal)
    (m ((c : Thread nD τ).loc main_arg15)) (m ((c : Thread nD τ).loc main_arg16))
    (m ((c : Thread nD τ).loc main_arg17)) (m ((c : Thread nD τ).loc main_arg18))
    (m ((c : Thread nD τ).loc main_arg19)) (m ((c : Thread nD τ).loc main_arg20))
    (m ((c : Thread nD τ).loc main_arg21)) (m ((c : Thread nD τ).loc main_arg22))
    (m ((c : Thread nD τ).loc main_arg23)) (m ((c : Thread nD τ).loc main_arg24))
    (m ((c : Thread nD τ).loc main_arg25)) (m ((c : Thread nD τ).loc main_arg26))
    (m ((c : Thread nD τ).loc main_arg27)) (m ((c : Thread nD τ).loc main_arg28))
    (m ((c : Thread nD τ).loc main_arg29))

theorem gradients_eq : V m c main_v35 = gradients m c := by
  entry_read
  rfl

/-- The packed gradients' running means. -/
def means : Vec Ideal S2560x128 .f32 :=
  Cert.SmallStepReferenceIdeal.Read.val_main_v53 (F := Ideal)
    (m ((c : Thread nD τ).loc main_arg30)) (m ((c : Thread nD τ).loc main_arg31))
    (m ((c : Thread nD τ).loc main_arg32)) (m ((c : Thread nD τ).loc main_arg33))
    (m ((c : Thread nD τ).loc main_arg34)) (m ((c : Thread nD τ).loc main_arg35))
    (m ((c : Thread nD τ).loc main_arg36)) (m ((c : Thread nD τ).loc main_arg37))
    (m ((c : Thread nD τ).loc main_arg38)) (m ((c : Thread nD τ).loc main_arg39))
    (m ((c : Thread nD τ).loc main_arg40)) (m ((c : Thread nD τ).loc main_arg41))
    (m ((c : Thread nD τ).loc main_arg42)) (m ((c : Thread nD τ).loc main_arg43))
    (m ((c : Thread nD τ).loc main_arg44))

theorem means_eq : V m c main_v53 = means m c := by
  entry_read
  rfl

/-- The packed running means of their squares. -/
def squares : Vec Ideal S2560x128 .f32 :=
  Cert.SmallStepReferenceIdeal.Read.val_main_v71 (F := Ideal)
    (m ((c : Thread nD τ).loc main_arg45)) (m ((c : Thread nD τ).loc main_arg46))
    (m ((c : Thread nD τ).loc main_arg47)) (m ((c : Thread nD τ).loc main_arg48))
    (m ((c : Thread nD τ).loc main_arg49)) (m ((c : Thread nD τ).loc main_arg50))
    (m ((c : Thread nD τ).loc main_arg51)) (m ((c : Thread nD τ).loc main_arg52))
    (m ((c : Thread nD τ).loc main_arg53)) (m ((c : Thread nD τ).loc main_arg54))
    (m ((c : Thread nD τ).loc main_arg55)) (m ((c : Thread nD τ).loc main_arg56))
    (m ((c : Thread nD τ).loc main_arg57)) (m ((c : Thread nD τ).loc main_arg58))
    (m ((c : Thread nD τ).loc main_arg59))

theorem squares_eq : V m c main_v71 = squares m c := by
  entry_read
  rfl

theorem weight_apply (t : Fin cfg0.N) (a : Fin 256) (q : Fin 128) :
    iblk m c 0 t (ix2 a q) = weights m c (ix2 (row t a) q) := by
  rw [← weights_eq m c]
  unfold row
  blk_ext [iblk, (idx t).1.1]

theorem gradient_apply (t : Fin cfg0.N) (a : Fin 256) (q : Fin 128) :
    iblk m c 1 t (ix2 a q) = gradients m c (ix2 (row t a) q) := by
  rw [← gradients_eq m c]
  unfold row
  blk_ext [iblk, (idx t).1.2.1]

theorem mean_apply (t : Fin cfg0.N) (a : Fin 256) (q : Fin 128) :
    iblk m c 2 t (ix2 a q) = means m c (ix2 (row t a) q) := by
  rw [← means_eq m c]
  unfold row
  blk_ext [iblk, (idx t).1.2.2.1]

theorem square_apply (t : Fin cfg0.N) (a : Fin 256) (q : Fin 128) :
    iblk m c 3 t (ix2 a q) = squares m c (ix2 (row t a) q) := by
  rw [← squares_eq m c]
  unfold row
  blk_ext [iblk, (idx t).1.2.2.2]

/-- The weight's change, from the arrays the launch begins with. -/
def changeValue (k : Fin 2560) (q : Fin 128) : EReal :=
  Step.change (weights m c (ix2 k q)) (gradients m c (ix2 k q))
    (means m c (ix2 k q)) (squares m c (ix2 k q))

/-- The gradients' new running mean. -/
def meanValue (k : Fin 2560) (q : Fin 128) : EReal :=
  Step.mean (gradients m c (ix2 k q)) (means m c (ix2 k q))

/-- The new running mean of their squares. -/
def squareValue (k : Fin 2560) (q : Fin 128) : EReal :=
  Step.square (gradients m c (ix2 k q)) (squares m c (ix2 k q))

/-- What the kernel leaves in its three results. -/
def changeResult : Buf (Elt Ideal) ((c : Thread nD τ).loc main_v72_0) := fun i => changeValue m c (i 0) (i 1)

def meanResult : Buf (Elt Ideal) ((c : Thread nD τ).loc main_v72_1) := fun i => meanValue m c (i 0) (i 1)

def squareResult : Buf (Elt Ideal) ((c : Thread nD τ).loc main_v72_2) := fun i => squareValue m c (i 0) (i 1)

theorem change_out (t : Fin cfg0.N) (a : Fin 256) (q : Fin 128) :
    out0_4 (iblk m c 0 t) (iblk m c 1 t) (iblk m c 2 t) (iblk m c 3 t) (ix2 a q)
      = changeValue m c (row t a) q := by
  unfold changeValue
  rw [← weight_apply m c, ← gradient_apply m c, ← mean_apply m c, ← square_apply m c]
  frame_out
  unfold_payloads
  pointwise [Step.change, Step.mean, Step.square]

theorem mean_out (t : Fin cfg0.N) (a : Fin 256) (q : Fin 128) :
    out0_5 (iblk m c 0 t) (iblk m c 1 t) (iblk m c 2 t) (iblk m c 3 t) (ix2 a q)
      = meanValue m c (row t a) q := by
  unfold meanValue
  rw [← gradient_apply m c, ← mean_apply m c]
  frame_out
  unfold_payloads
  pointwise [Step.mean]

theorem square_out (t : Fin cfg0.N) (a : Fin 256) (q : Fin 128) :
    out0_6 (iblk m c 0 t) (iblk m c 1 t) (iblk m c 2 t) (iblk m c 3 t) (ix2 a q)
      = squareValue m c (row t a) q := by
  unfold squareValue
  rw [← gradient_apply m c, ← square_apply m c]
  frame_out
  unfold_payloads
  pointwise [Step.square]

theorem final_change : (dats m 0 c).arrAt 4 cfg0.N = changeResult m c := by
  refine (dats m 0 c).arrAt_eq_of_covers 4 _ (by decide +kernel) fun t hf y => ?_
  blk_simp
  rw [after0_4]
  idx_vars y
  rw [change_out]
  unfold changeResult
  exact congrArg₂ (changeValue m c) (Fin.ext (by blk_simp [row, (idx t).2.1]))
    (Fin.ext (by blk_simp [(idx t).2.1]))

theorem final_mean : (dats m 0 c).arrAt 5 cfg0.N = meanResult m c := by
  refine (dats m 0 c).arrAt_eq_of_covers 5 _ (by decide +kernel) fun t hf y => ?_
  blk_simp
  rw [after0_5]
  idx_vars y
  rw [mean_out]
  unfold meanResult
  exact congrArg₂ (meanValue m c) (Fin.ext (by blk_simp [row, (idx t).2.2.1]))
    (Fin.ext (by blk_simp [(idx t).2.2.1]))

theorem final_square : (dats m 0 c).arrAt 6 cfg0.N = squareResult m c := by
  refine (dats m 0 c).arrAt_eq_of_covers 6 _ (by decide +kernel) fun t hf y => ?_
  blk_simp
  rw [after0_6]
  idx_vars y
  rw [square_out]
  unfold squareResult
  exact congrArg₂ (squareValue m c) (Fin.ext (by blk_simp [row, (idx t).2.2.2]))
    (Fin.ext (by blk_simp [(idx t).2.2.2]))

end Cert.SmallStep

end
-- ==== Proof.SmallStep.Equal.lean ====
/- The claim of the optimiser's step of the small weights, packed into one array: the kernel's run and the reference's
   run end with the same three results. -/
module

public import proofs.«01_k».proof.Defs
public import proofs.«01_k».proof.Proof.SmallStep.Array
public import proofs.«01_k».proof.Proof.Gen.SmallStepReferenceIdeal.Read
public import proofs.«01_k».proof.Proof.Gen.SmallStepReferenceIdeal.Run

@[expose] public section

set_option maxRecDepth 16384

noncomputable section

namespace Cert.SmallStep

open Idealize.ShloMosaic Idealize.SL.Sem
open Cert.SmallStepReferenceIdeal Cert.SmallStepReferenceIdeal.Gen Cert.SmallStepReferenceIdeal.Read
open Cert.SmallStepReferenceIdeal.Value (res_main_v76 res_main_v82 res_main_v95)

section
variable (m : (ℓ : Loc nD τ sig) → Buf (Elt Ideal) ℓ) (c : Dev nD)

/-- The reference's packed weights. -/
def packedWeights : Vec Ideal S2560x128 .f32 :=
  val_main_v17 (F := Ideal)
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))
    (m ((c.tc : Thread nD τ).loc main_arg14))

/-- The reference's packed gradients. -/
def packedGradients : Vec Ideal S2560x128 .f32 :=
  val_main_v35 (F := Ideal)
    (m ((c.tc : Thread nD τ).loc main_arg15)) (m ((c.tc : Thread nD τ).loc main_arg16))
    (m ((c.tc : Thread nD τ).loc main_arg17)) (m ((c.tc : Thread nD τ).loc main_arg18))
    (m ((c.tc : Thread nD τ).loc main_arg19)) (m ((c.tc : Thread nD τ).loc main_arg20))
    (m ((c.tc : Thread nD τ).loc main_arg21)) (m ((c.tc : Thread nD τ).loc main_arg22))
    (m ((c.tc : Thread nD τ).loc main_arg23)) (m ((c.tc : Thread nD τ).loc main_arg24))
    (m ((c.tc : Thread nD τ).loc main_arg25)) (m ((c.tc : Thread nD τ).loc main_arg26))
    (m ((c.tc : Thread nD τ).loc main_arg27)) (m ((c.tc : Thread nD τ).loc main_arg28))
    (m ((c.tc : Thread nD τ).loc main_arg29))

/-- The reference's packed gradients' running means. -/
def packedMeans : Vec Ideal S2560x128 .f32 :=
  val_main_v53 (F := Ideal)
    (m ((c.tc : Thread nD τ).loc main_arg30)) (m ((c.tc : Thread nD τ).loc main_arg31))
    (m ((c.tc : Thread nD τ).loc main_arg32)) (m ((c.tc : Thread nD τ).loc main_arg33))
    (m ((c.tc : Thread nD τ).loc main_arg34)) (m ((c.tc : Thread nD τ).loc main_arg35))
    (m ((c.tc : Thread nD τ).loc main_arg36)) (m ((c.tc : Thread nD τ).loc main_arg37))
    (m ((c.tc : Thread nD τ).loc main_arg38)) (m ((c.tc : Thread nD τ).loc main_arg39))
    (m ((c.tc : Thread nD τ).loc main_arg40)) (m ((c.tc : Thread nD τ).loc main_arg41))
    (m ((c.tc : Thread nD τ).loc main_arg42)) (m ((c.tc : Thread nD τ).loc main_arg43))
    (m ((c.tc : Thread nD τ).loc main_arg44))

/-- The reference's packed running means of their squares. -/
def packedSquares : Vec Ideal S2560x128 .f32 :=
  val_main_v71 (F := Ideal)
    (m ((c.tc : Thread nD τ).loc main_arg45)) (m ((c.tc : Thread nD τ).loc main_arg46))
    (m ((c.tc : Thread nD τ).loc main_arg47)) (m ((c.tc : Thread nD τ).loc main_arg48))
    (m ((c.tc : Thread nD τ).loc main_arg49)) (m ((c.tc : Thread nD τ).loc main_arg50))
    (m ((c.tc : Thread nD τ).loc main_arg51)) (m ((c.tc : Thread nD τ).loc main_arg52))
    (m ((c.tc : Thread nD τ).loc main_arg53)) (m ((c.tc : Thread nD τ).loc main_arg54))
    (m ((c.tc : Thread nD τ).loc main_arg55)) (m ((c.tc : Thread nD τ).loc main_arg56))
    (m ((c.tc : Thread nD τ).loc main_arg57)) (m ((c.tc : Thread nD τ).loc main_arg58))
    (m ((c.tc : Thread nD τ).loc main_arg59))

theorem mean_eq : res_main_v76 m c = fun i =>
    Step.mean (packedGradients m c (ix2 (i 0) (i 1))) (packedMeans m c (ix2 (i 0) (i 1))) := by
  rw [val_main_v76_eq]
  funext i
  idx_vars i
  pointwise [val_main_v76, val_main_v75, val_main_v74, val_main_v73, val_main_v72, val_main_cst, val_main_cst_3,
    packedGradients, packedMeans, Step.mean]

theorem square_eq : res_main_v82 m c = fun i =>
    Step.square (packedGradients m c (ix2 (i 0) (i 1))) (packedSquares m c (ix2 (i 0) (i 1))) := by
  rw [val_main_v82_eq]
  funext i
  idx_vars i
  pointwise [val_main_v82, val_main_v81, val_main_v80, val_main_v79, val_main_v78, val_main_v77, val_main_cst_4,
    val_main_cst_5, packedGradients, packedSquares, Step.square]

theorem change_eq : res_main_v95 m c = fun i =>
    Step.change (packedWeights m c (ix2 (i 0) (i 1))) (packedGradients m c (ix2 (i 0) (i 1)))
      (packedMeans m c (ix2 (i 0) (i 1))) (packedSquares m c (ix2 (i 0) (i 1))) := by
  have u := mean_eq m c
  have v := square_eq m c
  rw [val_main_v76_eq] at u
  rw [val_main_v82_eq] at v
  rw [val_main_v95_eq]
  funext i
  idx_vars i
  pointwise [val_main_v95, val_main_v94, val_main_v93, val_main_v92, val_main_v91, val_main_v90, val_main_v89,
    val_main_v88, val_main_v87, val_main_v86, val_main_v85, val_main_v84, val_main_v83, val_main_cst_6,
    val_main_cst_7, val_main_cst_8, val_main_cst_9, val_main_cst_10, u, v, packedWeights, Step.change]

end

theorem algebraic : Cert.algebraic_SmallStepKernelIdeal_SmallStepReferenceIdeal
    (hSmallStepKernelIdeal := Cert.SmallStepKernelIdeal.Gen.facts)
    (hSmallStepReferenceIdeal := Cert.SmallStepReferenceIdeal.Gen.facts) := by
  intro m ρ m' ρ' _ hargs
  refine ⟨fun c => changeResult m c, fun c => meanResult m c, fun c => squareResult m c, ?_, ?_⟩
  · refine (θ_run _ _ _).mono (fun r h c => ?_) (Cert.SmallStepKernelIdeal.Value.run_blocks m ρ)
    exact ⟨(h c).1.trans (final_change m c), (h c).2.1.trans (final_mean m c),
      (h c).2.2.1.trans (final_square m c), (h c).2.2.2⟩
  · refine (θ_run _ _ _).mono (fun r h c => ?_) (Cert.SmallStepReferenceIdeal.Value.run m' ρ')
    obtain ⟨a0, a1, a2, a3, a4, a5, a6, a7, a8, a9, a10, a11, a12, a13, a14, a15, a16, a17, a18, a19, a20, a21, a22, a23,
      a24, a25, a26, a27, a28, a29, a30, a31, a32, a33, a34, a35, a36, a37, a38, a39, a40, a41, a42, a43, a44, a45,
      a46, a47, a48, a49, a50, a51, a52, a53, a54, a55, a56, a57, a58, a59⟩ := hargs c
    have w : packedWeights m' c = weights m c := by
      unfold packedWeights
      rw [a0, a1, a2, a3, a4, a5, a6, a7, a8, a9, a10, a11, a12, a13, a14]
      rfl
    have g : packedGradients m' c = gradients m c := by
      unfold packedGradients
      rw [a15, a16, a17, a18, a19, a20, a21, a22, a23, a24, a25, a26, a27, a28, a29]
      rfl
    have m₁ : packedMeans m' c = means m c := by
      unfold packedMeans
      rw [a30, a31, a32, a33, a34, a35, a36, a37, a38, a39, a40, a41, a42, a43, a44]
      rfl
    have s : packedSquares m' c = squares m c := by
      unfold packedSquares
      rw [a45, a46, a47, a48, a49, a50, a51, a52, a53, a54, a55, a56, a57, a58, a59]
      rfl
    refine ⟨(h c).1.trans ?_, (h c).2.1.trans ?_, (h c).2.2.1.trans ?_, (h c).2.2.2⟩
    · rw [change_eq, w, g, m₁, s]
      rfl
    · rw [mean_eq, g, m₁]
      rfl
    · rw [square_eq, g, s]
      rfl

end Cert.SmallStep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.WeightKernel
public import proofs.«01_k».proof.Proof.Gen.WeightKernel.Skeleton
public import proofs.«01_k».proof.Proof.Gen.WeightKernel.Launch
public import proofs.«01_k».proof.Proof.Gen.WeightKernel.Points
public import proofs.«01_k».proof.Proof.Gen.WeightKernel.Frame
public import proofs.«01_k».proof.Proof.Gen.WeightKernelIdeal
public import proofs.«01_k».proof.Proof.Gen.WeightKernelIdeal.Skeleton
public import proofs.«01_k».proof.Proof.Gen.WeightKernelIdeal.Launch
public import proofs.«01_k».proof.Proof.Gen.WeightKernelIdeal.Points
public import proofs.«01_k».proof.Proof.Gen.WeightKernelIdeal.Frame
public import proofs.«01_k».proof.Proof.Gen.WeightReferenceIdeal
public import proofs.«01_k».proof.Proof.Gen.KernelIdeal.Value
public import proofs.«01_k».proof.Proof.Gen.WeightKernelIdeal.Value
public import proofs.«01_k».proof.Proof.Gen.ReferenceIdeal.Run
public import proofs.«01_k».proof.Proof.Gen.ReferenceIdeal.Read
public import proofs.«01_k».proof.Proof.Gen.WeightReferenceIdeal.Run
public import proofs.«01_k».proof.Proof.Gen.WeightReferenceIdeal.Read
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.DownWeightKernel
public import proofs.«01_k».proof.Proof.Gen.DownWeightKernel.Skeleton
public import proofs.«01_k».proof.Proof.Gen.DownWeightKernel.Launch
public import proofs.«01_k».proof.Proof.Gen.DownWeightKernel.Points
public import proofs.«01_k».proof.Proof.Gen.DownWeightKernel.Frame
public import proofs.«01_k».proof.Proof.Gen.DownWeightKernelIdeal
public import proofs.«01_k».proof.Proof.Gen.DownWeightKernelIdeal.Skeleton
public import proofs.«01_k».proof.Proof.Gen.DownWeightKernelIdeal.Launch
public import proofs.«01_k».proof.Proof.Gen.DownWeightKernelIdeal.Points
public import proofs.«01_k».proof.Proof.Gen.DownWeightKernelIdeal.Frame
public import proofs.«01_k».proof.Proof.Gen.DownWeightKernelIdeal.Value
public import proofs.«01_k».proof.Proof.Gen.DownWeightReferenceIdeal
public import proofs.«01_k».proof.Proof.Gen.DownWeightReferenceIdeal.Run
public import proofs.«01_k».proof.Proof.Gen.DownWeightReferenceIdeal.Read
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.ActKernel
public import proofs.«01_k».proof.Proof.Gen.ActKernel.Skeleton
public import proofs.«01_k».proof.Proof.Gen.ActKernel.Launch
public import proofs.«01_k».proof.Proof.Gen.ActKernel.Points
public import proofs.«01_k».proof.Proof.Gen.ActKernel.Frame
public import proofs.«01_k».proof.Proof.Gen.ActKernelIdeal
public import proofs.«01_k».proof.Proof.Gen.ActKernelIdeal.Skeleton
public import proofs.«01_k».proof.Proof.Gen.ActKernelIdeal.Launch
public import proofs.«01_k».proof.Proof.Gen.ActKernelIdeal.Points
public import proofs.«01_k».proof.Proof.Gen.ActKernelIdeal.Frame
public import proofs.«01_k».proof.Proof.Gen.ActKernelIdeal.Value
public import proofs.«01_k».proof.Proof.Gen.ActReferenceIdeal
public import proofs.«01_k».proof.Proof.Gen.ActReferenceIdeal.Run
public import proofs.«01_k».proof.Proof.Gen.ActReferenceIdeal.Read
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.MixWeightKernel
public import proofs.«01_k».proof.Proof.Gen.MixWeightKernel.Skeleton
public import proofs.«01_k».proof.Proof.Gen.MixWeightKernel.Launch
public import proofs.«01_k».proof.Proof.Gen.MixWeightKernel.Points
public import proofs.«01_k».proof.Proof.Gen.MixWeightKernel.Frame
public import proofs.«01_k».proof.Proof.Gen.MixWeightKernelIdeal
public import proofs.«01_k».proof.Proof.Gen.MixWeightKernelIdeal.Skeleton
public import proofs.«01_k».proof.Proof.Gen.MixWeightKernelIdeal.Launch
public import proofs.«01_k».proof.Proof.Gen.MixWeightKernelIdeal.Points
public import proofs.«01_k».proof.Proof.Gen.MixWeightKernelIdeal.Frame
public import proofs.«01_k».proof.Proof.Gen.MixWeightKernelIdeal.Value
public import proofs.«01_k».proof.Proof.Gen.MixWeightReferenceIdeal
public import proofs.«01_k».proof.Proof.Gen.MixWeightReferenceIdeal.Run
public import proofs.«01_k».proof.Proof.Gen.MixWeightReferenceIdeal.Read
public import proofs.«01_k».proof.Proof.Gen.ConvWeightKernel
public import proofs.«01_k».proof.Proof.Gen.ConvWeightKernel.Skeleton
public import proofs.«01_k».proof.Proof.Gen.ConvWeightKernel.Launch
public import proofs.«01_k».proof.Proof.Gen.ConvWeightKernel.Points
public import proofs.«01_k».proof.Proof.Gen.ConvWeightKernel.Frame
public import proofs.«01_k».proof.Proof.Gen.ConvWeightKernelIdeal
public import proofs.«01_k».proof.Proof.Gen.ConvWeightKernelIdeal.Skeleton
public import proofs.«01_k».proof.Proof.Gen.ConvWeightKernelIdeal.Launch
public import proofs.«01_k».proof.Proof.Gen.ConvWeightKernelIdeal.Points
public import proofs.«01_k».proof.Proof.Gen.ConvWeightKernelIdeal.Frame
public import proofs.«01_k».proof.Proof.Gen.ConvWeightKernelIdeal.Value
public import proofs.«01_k».proof.Proof.Gen.ConvWeightReferenceIdeal
public import proofs.«01_k».proof.Proof.Gen.ConvWeightReferenceIdeal.Run
public import proofs.«01_k».proof.Proof.Gen.ConvWeightReferenceIdeal.Read
public import proofs.«01_k».proof.Proof.Gen.SquareWeightKernel
public import proofs.«01_k».proof.Proof.Gen.SquareWeightKernel.Skeleton
public import proofs.«01_k».proof.Proof.Gen.SquareWeightKernel.Launch
public import proofs.«01_k».proof.Proof.Gen.SquareWeightKernel.Points
public import proofs.«01_k».proof.Proof.Gen.SquareWeightKernel.Frame
public import proofs.«01_k».proof.Proof.Gen.SquareWeightKernelIdeal
public import proofs.«01_k».proof.Proof.Gen.SquareWeightKernelIdeal.Skeleton
public import proofs.«01_k».proof.Proof.Gen.SquareWeightKernelIdeal.Launch
public import proofs.«01_k».proof.Proof.Gen.SquareWeightKernelIdeal.Points
public import proofs.«01_k».proof.Proof.Gen.SquareWeightKernelIdeal.Frame
public import proofs.«01_k».proof.Proof.Gen.SquareWeightKernelIdeal.Value
public import proofs.«01_k».proof.Proof.Gen.SquareWeightReferenceIdeal
public import proofs.«01_k».proof.Proof.Gen.SquareWeightReferenceIdeal.Run
public import proofs.«01_k».proof.Proof.Gen.SquareWeightReferenceIdeal.Read
public import proofs.«01_k».proof.Proof.Gen.ConvInputKernel
public import proofs.«01_k».proof.Proof.Gen.ConvInputKernel.Skeleton
public import proofs.«01_k».proof.Proof.Gen.ConvInputKernel.Launch
public import proofs.«01_k».proof.Proof.Gen.ConvInputKernel.Points
public import proofs.«01_k».proof.Proof.Gen.ConvInputKernel.Frame
public import proofs.«01_k».proof.Proof.Gen.ConvInputKernelIdeal
public import proofs.«01_k».proof.Proof.Gen.ConvInputKernelIdeal.Skeleton
public import proofs.«01_k».proof.Proof.Gen.ConvInputKernelIdeal.Launch
public import proofs.«01_k».proof.Proof.Gen.ConvInputKernelIdeal.Points
public import proofs.«01_k».proof.Proof.Gen.ConvInputKernelIdeal.Frame
public import proofs.«01_k».proof.Proof.Gen.ConvInputKernelIdeal.Value
public import proofs.«01_k».proof.Proof.Gen.ConvInputReferenceIdeal
public import proofs.«01_k».proof.Proof.Gen.ConvInputReferenceIdeal.Run
public import proofs.«01_k».proof.Proof.Gen.ConvInputReferenceIdeal.Read
public import proofs.«01_k».proof.Proof.Gen.AttnBackKernel
public import proofs.«01_k».proof.Proof.Gen.AttnBackKernel.Skeleton
public import proofs.«01_k».proof.Proof.Gen.AttnBackKernel.Launch
public import proofs.«01_k».proof.Proof.Gen.AttnBackKernel.Points
public import proofs.«01_k».proof.Proof.Gen.AttnBackKernel.Frame
public import proofs.«01_k».proof.Proof.Gen.AttnBackKernelIdeal
public import proofs.«01_k».proof.Proof.Gen.AttnBackKernelIdeal.Skeleton
public import proofs.«01_k».proof.Proof.Gen.AttnBackKernelIdeal.Launch
public import proofs.«01_k».proof.Proof.Gen.AttnBackKernelIdeal.Points
public import proofs.«01_k».proof.Proof.Gen.AttnBackKernelIdeal.Frame
public import proofs.«01_k».proof.Proof.Gen.AttnBackKernelIdeal.Value
public import proofs.«01_k».proof.Proof.Gen.AttnBackReferenceIdeal
public import proofs.«01_k».proof.Proof.Gen.AttnBackReferenceIdeal.Run
public import proofs.«01_k».proof.Proof.Gen.AttnBackReferenceIdeal.Read
public import proofs.«01_k».proof.Proof.Gen.ConvBackKernel
public import proofs.«01_k».proof.Proof.Gen.ConvBackKernel.Skeleton
public import proofs.«01_k».proof.Proof.Gen.ConvBackKernel.Launch
public import proofs.«01_k».proof.Proof.Gen.ConvBackKernel.Points
public import proofs.«01_k».proof.Proof.Gen.ConvBackKernel.Frame
public import proofs.«01_k».proof.Proof.Gen.ConvBackKernelIdeal
public import proofs.«01_k».proof.Proof.Gen.ConvBackKernelIdeal.Skeleton
public import proofs.«01_k».proof.Proof.Gen.ConvBackKernelIdeal.Launch
public import proofs.«01_k».proof.Proof.Gen.ConvBackKernelIdeal.Points
public import proofs.«01_k».proof.Proof.Gen.ConvBackKernelIdeal.Frame
public import proofs.«01_k».proof.Proof.Gen.ConvBackKernelIdeal.Value
public import proofs.«01_k».proof.Proof.Gen.ConvBackReferenceIdeal
public import proofs.«01_k».proof.Proof.Gen.ConvBackReferenceIdeal.Run
public import proofs.«01_k».proof.Proof.Gen.ConvBackReferenceIdeal.Read
public import proofs.«01_k».proof.Proof.Gen.AttnInKernel
public import proofs.«01_k».proof.Proof.Gen.AttnInKernel.Skeleton
public import proofs.«01_k».proof.Proof.Gen.AttnInKernel.Launch
public import proofs.«01_k».proof.Proof.Gen.AttnInKernel.Points
public import proofs.«01_k».proof.Proof.Gen.AttnInKernel.Frame
public import proofs.«01_k».proof.Proof.Gen.AttnInKernelIdeal
public import proofs.«01_k».proof.Proof.Gen.AttnInKernelIdeal.Skeleton
public import proofs.«01_k».proof.Proof.Gen.AttnInKernelIdeal.Launch
public import proofs.«01_k».proof.Proof.Gen.AttnInKernelIdeal.Points
public import proofs.«01_k».proof.Proof.Gen.AttnInKernelIdeal.Frame
public import proofs.«01_k».proof.Proof.Gen.AttnInKernelIdeal.Value
public import proofs.«01_k».proof.Proof.Gen.AttnInReferenceIdeal
public import proofs.«01_k».proof.Proof.Gen.AttnInReferenceIdeal.Run
public import proofs.«01_k».proof.Proof.Gen.AttnInReferenceIdeal.Read
public import proofs.«01_k».proof.Proof.Gen.ConvInKernel
public import proofs.«01_k».proof.Proof.Gen.ConvInKernel.Skeleton
public import proofs.«01_k».proof.Proof.Gen.ConvInKernel.Launch
public import proofs.«01_k».proof.Proof.Gen.ConvInKernel.Points
public import proofs.«01_k».proof.Proof.Gen.ConvInKernel.Frame
public import proofs.«01_k».proof.Proof.Gen.ConvInKernelIdeal
public import proofs.«01_k».proof.Proof.Gen.ConvInKernelIdeal.Skeleton
public import proofs.«01_k».proof.Proof.Gen.ConvInKernelIdeal.Launch
public import proofs.«01_k».proof.Proof.Gen.ConvInKernelIdeal.Points
public import proofs.«01_k».proof.Proof.Gen.ConvInKernelIdeal.Frame
public import proofs.«01_k».proof.Proof.Gen.ConvInKernelIdeal.Value
public import proofs.«01_k».proof.Proof.Gen.ConvInReferenceIdeal
public import proofs.«01_k».proof.Proof.Gen.ConvInReferenceIdeal.Run
public import proofs.«01_k».proof.Proof.Gen.ConvInReferenceIdeal.Read
public import proofs.«01_k».proof.Proof.Gen.AttnOutKernel
public import proofs.«01_k».proof.Proof.Gen.AttnOutKernel.Skeleton
public import proofs.«01_k».proof.Proof.Gen.AttnOutKernel.Launch
public import proofs.«01_k».proof.Proof.Gen.AttnOutKernel.Points
public import proofs.«01_k».proof.Proof.Gen.AttnOutKernel.Frame
public import proofs.«01_k».proof.Proof.Gen.AttnOutKernelIdeal
public import proofs.«01_k».proof.Proof.Gen.AttnOutKernelIdeal.Skeleton
public import proofs.«01_k».proof.Proof.Gen.AttnOutKernelIdeal.Launch
public import proofs.«01_k».proof.Proof.Gen.AttnOutKernelIdeal.Points
public import proofs.«01_k».proof.Proof.Gen.AttnOutKernelIdeal.Frame
public import proofs.«01_k».proof.Proof.Gen.AttnOutKernelIdeal.Value
public import proofs.«01_k».proof.Proof.Gen.AttnOutReferenceIdeal
public import proofs.«01_k».proof.Proof.Gen.AttnOutReferenceIdeal.Run
public import proofs.«01_k».proof.Proof.Gen.AttnOutReferenceIdeal.Read
public import proofs.«01_k».proof.Proof.Gen.ConvOutKernel
public import proofs.«01_k».proof.Proof.Gen.ConvOutKernel.Skeleton
public import proofs.«01_k».proof.Proof.Gen.ConvOutKernel.Launch
public import proofs.«01_k».proof.Proof.Gen.ConvOutKernel.Points
public import proofs.«01_k».proof.Proof.Gen.ConvOutKernel.Frame
public import proofs.«01_k».proof.Proof.Gen.ConvOutKernelIdeal
public import proofs.«01_k».proof.Proof.Gen.ConvOutKernelIdeal.Skeleton
public import proofs.«01_k».proof.Proof.Gen.ConvOutKernelIdeal.Launch
public import proofs.«01_k».proof.Proof.Gen.ConvOutKernelIdeal.Points
public import proofs.«01_k».proof.Proof.Gen.ConvOutKernelIdeal.Frame
public import proofs.«01_k».proof.Proof.Gen.ConvOutKernelIdeal.Value
public import proofs.«01_k».proof.Proof.Gen.ConvOutReferenceIdeal
public import proofs.«01_k».proof.Proof.Gen.ConvOutReferenceIdeal.Run
public import proofs.«01_k».proof.Proof.Gen.ConvOutReferenceIdeal.Read
public import proofs.«01_k».proof.Proof.Gen.LastKernel
public import proofs.«01_k».proof.Proof.Gen.LastKernel.Skeleton
public import proofs.«01_k».proof.Proof.Gen.LastKernel.Launch
public import proofs.«01_k».proof.Proof.Gen.LastKernel.Points
public import proofs.«01_k».proof.Proof.Gen.LastKernel.Frame
public import proofs.«01_k».proof.Proof.Gen.LastKernelIdeal
public import proofs.«01_k».proof.Proof.Gen.LastKernelIdeal.Skeleton
public import proofs.«01_k».proof.Proof.Gen.LastKernelIdeal.Launch
public import proofs.«01_k».proof.Proof.Gen.LastKernelIdeal.Points
public import proofs.«01_k».proof.Proof.Gen.LastKernelIdeal.Frame
public import proofs.«01_k».proof.Proof.Gen.LastKernelIdeal.Value
public import proofs.«01_k».proof.Proof.Gen.LastReferenceIdeal
public import proofs.«01_k».proof.Proof.Gen.LastReferenceIdeal.Run
public import proofs.«01_k».proof.Proof.Gen.LastReferenceIdeal.Read
public import proofs.«01_k».proof.Proof.Gen.UpStepKernel
public import proofs.«01_k».proof.Proof.Gen.UpStepKernel.Skeleton
public import proofs.«01_k».proof.Proof.Gen.UpStepKernel.Launch
public import proofs.«01_k».proof.Proof.Gen.UpStepKernel.Points
public import proofs.«01_k».proof.Proof.Gen.UpStepKernel.Frame
public import proofs.«01_k».proof.Proof.Gen.UpStepKernelIdeal
public import proofs.«01_k».proof.Proof.Gen.UpStepKernelIdeal.Skeleton
public import proofs.«01_k».proof.Proof.Gen.UpStepKernelIdeal.Launch
public import proofs.«01_k».proof.Proof.Gen.UpStepKernelIdeal.Points
public import proofs.«01_k».proof.Proof.Gen.UpStepKernelIdeal.Frame
public import proofs.«01_k».proof.Proof.Gen.UpStepKernelIdeal.Value
public import proofs.«01_k».proof.Proof.Gen.UpStepReferenceIdeal
public import proofs.«01_k».proof.Proof.Gen.UpStepReferenceIdeal.Run
public import proofs.«01_k».proof.Proof.Gen.UpStepReferenceIdeal.Read
public import proofs.«01_k».proof.Proof.Gen.DownStepKernel
public import proofs.«01_k».proof.Proof.Gen.DownStepKernel.Skeleton
public import proofs.«01_k».proof.Proof.Gen.DownStepKernel.Launch
public import proofs.«01_k».proof.Proof.Gen.DownStepKernel.Points
public import proofs.«01_k».proof.Proof.Gen.DownStepKernel.Frame
public import proofs.«01_k».proof.Proof.Gen.DownStepKernelIdeal
public import proofs.«01_k».proof.Proof.Gen.DownStepKernelIdeal.Skeleton
public import proofs.«01_k».proof.Proof.Gen.DownStepKernelIdeal.Launch
public import proofs.«01_k».proof.Proof.Gen.DownStepKernelIdeal.Points
public import proofs.«01_k».proof.Proof.Gen.DownStepKernelIdeal.Frame
public import proofs.«01_k».proof.Proof.Gen.DownStepKernelIdeal.Value
public import proofs.«01_k».proof.Proof.Gen.DownStepReferenceIdeal
public import proofs.«01_k».proof.Proof.Gen.DownStepReferenceIdeal.Run
public import proofs.«01_k».proof.Proof.Gen.DownStepReferenceIdeal.Read
public import proofs.«01_k».proof.Proof.Gen.FirstConvInputKernel
public import proofs.«01_k».proof.Proof.Gen.FirstConvInputKernel.Skeleton
public import proofs.«01_k».proof.Proof.Gen.FirstConvInputKernel.Launch
public import proofs.«01_k».proof.Proof.Gen.FirstConvInputKernel.Points
public import proofs.«01_k».proof.Proof.Gen.FirstConvInputKernel.Frame
public import proofs.«01_k».proof.Proof.Gen.FirstConvInputKernelIdeal
public import proofs.«01_k».proof.Proof.Gen.FirstConvInputKernelIdeal.Skeleton
public import proofs.«01_k».proof.Proof.Gen.FirstConvInputKernelIdeal.Launch
public import proofs.«01_k».proof.Proof.Gen.FirstConvInputKernelIdeal.Points
public import proofs.«01_k».proof.Proof.Gen.FirstConvInputKernelIdeal.Frame
public import proofs.«01_k».proof.Proof.Gen.FirstConvInputKernelIdeal.Value
public import proofs.«01_k».proof.Proof.Gen.FirstConvInputReferenceIdeal
public import proofs.«01_k».proof.Proof.Gen.FirstConvInputReferenceIdeal.Run
public import proofs.«01_k».proof.Proof.Gen.FirstConvInputReferenceIdeal.Read
public import proofs.«01_k».proof.Proof.Gen.FirstAttnBackKernel
public import proofs.«01_k».proof.Proof.Gen.FirstAttnBackKernel.Skeleton
public import proofs.«01_k».proof.Proof.Gen.FirstAttnBackKernel.Launch
public import proofs.«01_k».proof.Proof.Gen.FirstAttnBackKernel.Points
public import proofs.«01_k».proof.Proof.Gen.FirstAttnBackKernel.Frame
public import proofs.«01_k».proof.Proof.Gen.FirstAttnBackKernelIdeal
public import proofs.«01_k».proof.Proof.Gen.FirstAttnBackKernelIdeal.Skeleton
public import proofs.«01_k».proof.Proof.Gen.FirstAttnBackKernelIdeal.Launch
public import proofs.«01_k».proof.Proof.Gen.FirstAttnBackKernelIdeal.Points
public import proofs.«01_k».proof.Proof.Gen.FirstAttnBackKernelIdeal.Frame
public import proofs.«01_k».proof.Proof.Gen.FirstAttnBackKernelIdeal.Value
public import proofs.«01_k».proof.Proof.Gen.FirstAttnBackReferenceIdeal
public import proofs.«01_k».proof.Proof.Gen.FirstAttnBackReferenceIdeal.Run
public import proofs.«01_k».proof.Proof.Gen.FirstAttnBackReferenceIdeal.Read
public import proofs.«01_k».proof.Proof.Gen.FirstConvBackKernel
public import proofs.«01_k».proof.Proof.Gen.FirstConvBackKernel.Skeleton
public import proofs.«01_k».proof.Proof.Gen.FirstConvBackKernel.Launch
public import proofs.«01_k».proof.Proof.Gen.FirstConvBackKernel.Points
public import proofs.«01_k».proof.Proof.Gen.FirstConvBackKernel.Frame
public import proofs.«01_k».proof.Proof.Gen.FirstConvBackKernelIdeal
public import proofs.«01_k».proof.Proof.Gen.FirstConvBackKernelIdeal.Skeleton
public import proofs.«01_k».proof.Proof.Gen.FirstConvBackKernelIdeal.Launch
public import proofs.«01_k».proof.Proof.Gen.FirstConvBackKernelIdeal.Points
public import proofs.«01_k».proof.Proof.Gen.FirstConvBackKernelIdeal.Frame
public import proofs.«01_k».proof.Proof.Gen.FirstConvBackKernelIdeal.Value
public import proofs.«01_k».proof.Proof.Gen.FirstConvBackReferenceIdeal
public import proofs.«01_k».proof.Proof.Gen.FirstConvBackReferenceIdeal.Run
public import proofs.«01_k».proof.Proof.Gen.FirstConvBackReferenceIdeal.Read
public import proofs.«01_k».proof.Proof.Gen.FirstConvInKernel
public import proofs.«01_k».proof.Proof.Gen.FirstConvInKernel.Skeleton
public import proofs.«01_k».proof.Proof.Gen.FirstConvInKernel.Launch
public import proofs.«01_k».proof.Proof.Gen.FirstConvInKernel.Points
public import proofs.«01_k».proof.Proof.Gen.FirstConvInKernel.Frame
public import proofs.«01_k».proof.Proof.Gen.FirstConvInKernelIdeal
public import proofs.«01_k».proof.Proof.Gen.FirstConvInKernelIdeal.Skeleton
public import proofs.«01_k».proof.Proof.Gen.FirstConvInKernelIdeal.Launch
public import proofs.«01_k».proof.Proof.Gen.FirstConvInKernelIdeal.Points
public import proofs.«01_k».proof.Proof.Gen.FirstConvInKernelIdeal.Frame
public import proofs.«01_k».proof.Proof.Gen.FirstConvInKernelIdeal.Value
public import proofs.«01_k».proof.Proof.Gen.FirstConvInReferenceIdeal
public import proofs.«01_k».proof.Proof.Gen.FirstConvInReferenceIdeal.Run
public import proofs.«01_k».proof.Proof.Gen.FirstConvInReferenceIdeal.Read
public import proofs.«01_k».proof.Proof.Gen.FirstAttnOutKernel
public import proofs.«01_k».proof.Proof.Gen.FirstAttnOutKernel.Skeleton
public import proofs.«01_k».proof.Proof.Gen.FirstAttnOutKernel.Launch
public import proofs.«01_k».proof.Proof.Gen.FirstAttnOutKernel.Points
public import proofs.«01_k».proof.Proof.Gen.FirstAttnOutKernel.Frame
public import proofs.«01_k».proof.Proof.Gen.FirstAttnOutKernelIdeal
public import proofs.«01_k».proof.Proof.Gen.FirstAttnOutKernelIdeal.Skeleton
public import proofs.«01_k».proof.Proof.Gen.FirstAttnOutKernelIdeal.Launch
public import proofs.«01_k».proof.Proof.Gen.FirstAttnOutKernelIdeal.Points
public import proofs.«01_k».proof.Proof.Gen.FirstAttnOutKernelIdeal.Frame
public import proofs.«01_k».proof.Proof.Gen.FirstAttnOutKernelIdeal.Value
public import proofs.«01_k».proof.Proof.Gen.FirstAttnOutReferenceIdeal
public import proofs.«01_k».proof.Proof.Gen.FirstAttnOutReferenceIdeal.Run
public import proofs.«01_k».proof.Proof.Gen.FirstAttnOutReferenceIdeal.Read
public import proofs.«01_k».proof.Proof.Gen.FirstConvOutKernel
public import proofs.«01_k».proof.Proof.Gen.FirstConvOutKernel.Skeleton
public import proofs.«01_k».proof.Proof.Gen.FirstConvOutKernel.Launch
public import proofs.«01_k».proof.Proof.Gen.FirstConvOutKernel.Points
public import proofs.«01_k».proof.Proof.Gen.FirstConvOutKernel.Frame
public import proofs.«01_k».proof.Proof.Gen.FirstConvOutKernelIdeal
public import proofs.«01_k».proof.Proof.Gen.FirstConvOutKernelIdeal.Skeleton
public import proofs.«01_k».proof.Proof.Gen.FirstConvOutKernelIdeal.Launch
public import proofs.«01_k».proof.Proof.Gen.FirstConvOutKernelIdeal.Points
public import proofs.«01_k».proof.Proof.Gen.FirstConvOutKernelIdeal.Frame
public import proofs.«01_k».proof.Proof.Gen.FirstConvOutKernelIdeal.Value
public import proofs.«01_k».proof.Proof.Gen.FirstConvOutReferenceIdeal
public import proofs.«01_k».proof.Proof.Gen.FirstConvOutReferenceIdeal.Run
public import proofs.«01_k».proof.Proof.Gen.FirstConvOutReferenceIdeal.Read
public import proofs.«01_k».proof.Proof.Gen.MixStepKernel
public import proofs.«01_k».proof.Proof.Gen.MixStepKernel.Skeleton
public import proofs.«01_k».proof.Proof.Gen.MixStepKernel.Launch
public import proofs.«01_k».proof.Proof.Gen.MixStepKernel.Points
public import proofs.«01_k».proof.Proof.Gen.MixStepKernel.Frame
public import proofs.«01_k».proof.Proof.Gen.MixStepKernelIdeal
public import proofs.«01_k».proof.Proof.Gen.MixStepKernelIdeal.Skeleton
public import proofs.«01_k».proof.Proof.Gen.MixStepKernelIdeal.Launch
public import proofs.«01_k».proof.Proof.Gen.MixStepKernelIdeal.Points
public import proofs.«01_k».proof.Proof.Gen.MixStepKernelIdeal.Frame
public import proofs.«01_k».proof.Proof.Gen.MixStepKernelIdeal.Value
public import proofs.«01_k».proof.Proof.Gen.MixStepReferenceIdeal
public import proofs.«01_k».proof.Proof.Gen.MixStepReferenceIdeal.Run
public import proofs.«01_k».proof.Proof.Gen.MixStepReferenceIdeal.Read
public import proofs.«01_k».proof.Proof.Gen.ConvStepKernel
public import proofs.«01_k».proof.Proof.Gen.ConvStepKernel.Skeleton
public import proofs.«01_k».proof.Proof.Gen.ConvStepKernel.Launch
public import proofs.«01_k».proof.Proof.Gen.ConvStepKernel.Points
public import proofs.«01_k».proof.Proof.Gen.ConvStepKernel.Frame
public import proofs.«01_k».proof.Proof.Gen.ConvStepKernelIdeal
public import proofs.«01_k».proof.Proof.Gen.ConvStepKernelIdeal.Skeleton
public import proofs.«01_k».proof.Proof.Gen.ConvStepKernelIdeal.Launch
public import proofs.«01_k».proof.Proof.Gen.ConvStepKernelIdeal.Points
public import proofs.«01_k».proof.Proof.Gen.ConvStepKernelIdeal.Frame
public import proofs.«01_k».proof.Proof.Gen.ConvStepKernelIdeal.Value
public import proofs.«01_k».proof.Proof.Gen.ConvStepReferenceIdeal
public import proofs.«01_k».proof.Proof.Gen.ConvStepReferenceIdeal.Run
public import proofs.«01_k».proof.Proof.Gen.ConvStepReferenceIdeal.Read
public import proofs.«01_k».proof.Proof.Gen.SquareStepKernel
public import proofs.«01_k».proof.Proof.Gen.SquareStepKernel.Skeleton
public import proofs.«01_k».proof.Proof.Gen.SquareStepKernel.Launch
public import proofs.«01_k».proof.Proof.Gen.SquareStepKernel.Points
public import proofs.«01_k».proof.Proof.Gen.SquareStepKernel.Frame
public import proofs.«01_k».proof.Proof.Gen.SquareStepKernelIdeal
public import proofs.«01_k».proof.Proof.Gen.SquareStepKernelIdeal.Skeleton
public import proofs.«01_k».proof.Proof.Gen.SquareStepKernelIdeal.Launch
public import proofs.«01_k».proof.Proof.Gen.SquareStepKernelIdeal.Points
public import proofs.«01_k».proof.Proof.Gen.SquareStepKernelIdeal.Frame
public import proofs.«01_k».proof.Proof.Gen.SquareStepKernelIdeal.Value
public import proofs.«01_k».proof.Proof.Gen.SquareStepReferenceIdeal
public import proofs.«01_k».proof.Proof.Gen.SquareStepReferenceIdeal.Run
public import proofs.«01_k».proof.Proof.Gen.SquareStepReferenceIdeal.Read
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormKernelIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.SmallStepKernel
public import proofs.«01_k».proof.Proof.Gen.SmallStepKernel.Skeleton
public import proofs.«01_k».proof.Proof.Gen.SmallStepKernel.Launch
public import proofs.«01_k».proof.Proof.Gen.SmallStepKernel.Points
public import proofs.«01_k».proof.Proof.Gen.SmallStepKernel.Frame
public import proofs.«01_k».proof.Proof.Gen.SmallStepKernelIdeal
public import proofs.«01_k».proof.Proof.Gen.SmallStepKernelIdeal.Skeleton
public import proofs.«01_k».proof.Proof.Gen.SmallStepKernelIdeal.Launch
public import proofs.«01_k».proof.Proof.Gen.SmallStepKernelIdeal.Points
public import proofs.«01_k».proof.Proof.Gen.SmallStepKernelIdeal.Frame
public import proofs.«01_k».proof.Proof.Gen.SmallStepKernelIdeal.Value
public import proofs.«01_k».proof.Proof.Gen.SmallStepReferenceIdeal
public import proofs.«01_k».proof.Proof.Gen.SmallStepReferenceIdeal.Run
public import proofs.«01_k».proof.Proof.Gen.SmallStepReferenceIdeal.Read
public import proofs.«01_k».proof.Proof.Input.Equal
public import proofs.«01_k».proof.Proof.Weight.Equal
public import proofs.«01_k».proof.Proof.Down.Equal
public import proofs.«01_k».proof.Proof.DownWeight.Equal
public import proofs.«01_k».proof.Proof.Up.Equal
public import proofs.«01_k».proof.Proof.Out.Equal
public import proofs.«01_k».proof.Proof.Act.Equal
public import proofs.«01_k».proof.Proof.Mix.Equal
public import proofs.«01_k».proof.Proof.MixWeight.Equal
public import proofs.«01_k».proof.Proof.ConvWeight.Equal
public import proofs.«01_k».proof.Proof.SquareWeight.Equal
public import proofs.«01_k».proof.Proof.ConvInput.Equal
public import proofs.«01_k».proof.Proof.AttnBack.Equal
public import proofs.«01_k».proof.Proof.ConvBack.Equal
public import proofs.«01_k».proof.Proof.AttnIn.Equal
public import proofs.«01_k».proof.Proof.ConvIn.Equal
public import proofs.«01_k».proof.Proof.AttnOut.Equal
public import proofs.«01_k».proof.Proof.ConvOut.Equal
public import proofs.«01_k».proof.Proof.Last.Equal
public import proofs.«01_k».proof.Proof.UpStep.Equal
public import proofs.«01_k».proof.Proof.DownStep.Equal
public import proofs.«01_k».proof.Proof.FirstConvInput.Equal
public import proofs.«01_k».proof.Proof.FirstAttnBack.Equal
public import proofs.«01_k».proof.Proof.FirstConvBack.Equal
public import proofs.«01_k».proof.Proof.FirstConvIn.Equal
public import proofs.«01_k».proof.Proof.FirstAttnOut.Equal
public import proofs.«01_k».proof.Proof.FirstConvOut.Equal
public import proofs.«01_k».proof.Proof.MixStep.Equal
public import proofs.«01_k».proof.Proof.ConvStep.Equal
public import proofs.«01_k».proof.Proof.SquareStep.Equal
public import proofs.«01_k».proof.Proof.Norm.Equal
public import proofs.«01_k».proof.Proof.Loss.Equal
public import proofs.«01_k».proof.Proof.SmallStep.Equal
public import Idealize.ShloMosaic.Adequacy
public import Idealize.ShloMosaic.Init

@[expose] public section

noncomputable section

namespace Cert.Proof

open Idealize.ShloMosaic Idealize.SL.Sem

/-- The input gradient's reference runs to its end, keeps its arguments, and declares no semaphore. -/
theorem frame_reference : Cert.quiescent_ReferenceIdeal (hReferenceIdeal := Cert.ReferenceIdeal.Gen.facts) := by
  intro m ρ _
  exact (θ_run _ _ _).mono (fun r h => ⟨fun c => (h c).2.2.2, sem_eq_zero_of_no_sems (by decide) r.2⟩)
    (Cert.ReferenceIdeal.Value.run m ρ)

/-- Likewise the weight gradient's reference. -/
theorem frame_weightReference :
    Cert.quiescent_WeightReferenceIdeal (hWeightReferenceIdeal := Cert.WeightReferenceIdeal.Gen.facts) := by
  intro m ρ _
  exact (θ_run _ _ _).mono (fun r h => ⟨fun c => (h c).2, sem_eq_zero_of_no_sems (by decide) r.2⟩)
    (Cert.WeightReferenceIdeal.Value.run m ρ)

theorem frame_downReference :
    Cert.quiescent_DownReferenceIdeal (hDownReferenceIdeal := Cert.DownReferenceIdeal.Gen.facts) := by
  intro m ρ _
  exact (θ_run _ _ _).mono (fun r h => ⟨fun c => (h c).2, sem_eq_zero_of_no_sems (by decide) r.2⟩)
    (Cert.DownReferenceIdeal.Value.run m ρ)

theorem frame_downWeightReference :
    Cert.quiescent_DownWeightReferenceIdeal (hDownWeightReferenceIdeal := Cert.DownWeightReferenceIdeal.Gen.facts) := by
  intro m ρ _
  exact (θ_run _ _ _).mono (fun r h => ⟨fun c => (h c).2, sem_eq_zero_of_no_sems (by decide) r.2⟩)
    (Cert.DownWeightReferenceIdeal.Value.run m ρ)

theorem frame_upReference : Cert.quiescent_UpReferenceIdeal (hUpReferenceIdeal := Cert.UpReferenceIdeal.Gen.facts) := by
  intro m ρ _
  exact (θ_run _ _ _).mono (fun r h => ⟨fun c => (h c).2, sem_eq_zero_of_no_sems (by decide) r.2⟩)
    (Cert.UpReferenceIdeal.Value.run m ρ)

theorem frame_outReference :
    Cert.quiescent_OutReferenceIdeal (hOutReferenceIdeal := Cert.OutReferenceIdeal.Gen.facts) := by
  intro m ρ _
  exact (θ_run _ _ _).mono (fun r h => ⟨fun c => (h c).2.2, sem_eq_zero_of_no_sems (by decide) r.2⟩)
    (Cert.OutReferenceIdeal.Value.run m ρ)

theorem frame_actReference : Cert.quiescent_ActReferenceIdeal (hActReferenceIdeal := Cert.ActReferenceIdeal.Gen.facts) := by
  intro m ρ _
  exact (θ_run _ _ _).mono (fun r h => ⟨fun c => (h c).2, sem_eq_zero_of_no_sems (by decide) r.2⟩)
    (Cert.ActReferenceIdeal.Value.run m ρ)

theorem frame_mixReference :
    Cert.quiescent_MixReferenceIdeal (hMixReferenceIdeal := Cert.MixReferenceIdeal.Gen.facts) := by
  intro m ρ _
  exact (θ_run _ _ _).mono (fun r h => ⟨fun c => (h c).2.2.2, sem_eq_zero_of_no_sems (by decide) r.2⟩)
    (Cert.MixReferenceIdeal.Value.run m ρ)

theorem frame_mixWeightReference :
    Cert.quiescent_MixWeightReferenceIdeal (hMixWeightReferenceIdeal := Cert.MixWeightReferenceIdeal.Gen.facts) := by
  intro m ρ _
  exact (θ_run _ _ _).mono (fun r h => ⟨fun c => (h c).2, sem_eq_zero_of_no_sems (by decide) r.2⟩)
    (Cert.MixWeightReferenceIdeal.Value.run m ρ)

theorem frame_convWeightReference :
    Cert.quiescent_ConvWeightReferenceIdeal (hConvWeightReferenceIdeal := Cert.ConvWeightReferenceIdeal.Gen.facts) := by
  intro m ρ _
  exact (θ_run _ _ _).mono (fun r h => ⟨fun c => (h c).2, sem_eq_zero_of_no_sems (by decide) r.2⟩)
    (Cert.ConvWeightReferenceIdeal.Value.run m ρ)

theorem frame_squareWeightReference :
    Cert.quiescent_SquareWeightReferenceIdeal (hSquareWeightReferenceIdeal := Cert.SquareWeightReferenceIdeal.Gen.facts) := by
  intro m ρ _
  exact (θ_run _ _ _).mono (fun r h => ⟨fun c => (h c).2, sem_eq_zero_of_no_sems (by decide) r.2⟩)
    (Cert.SquareWeightReferenceIdeal.Value.run m ρ)

theorem frame_convInputReference :
    Cert.quiescent_ConvInputReferenceIdeal (hConvInputReferenceIdeal := Cert.ConvInputReferenceIdeal.Gen.facts) := by
  intro m ρ _
  exact (θ_run _ _ _).mono (fun r h => ⟨fun c => (h c).2.2.2, sem_eq_zero_of_no_sems (by decide) r.2⟩)
    (Cert.ConvInputReferenceIdeal.Value.run m ρ)

theorem frame_attnBackReference :
    Cert.quiescent_AttnBackReferenceIdeal (hAttnBackReferenceIdeal := Cert.AttnBackReferenceIdeal.Gen.facts) := by
  intro m ρ _
  exact (θ_run _ _ _).mono (fun r h => ⟨fun c => (h c).2, sem_eq_zero_of_no_sems (by decide) r.2⟩)
    (Cert.AttnBackReferenceIdeal.Value.run m ρ)

theorem frame_convBackReference :
    Cert.quiescent_ConvBackReferenceIdeal (hConvBackReferenceIdeal := Cert.ConvBackReferenceIdeal.Gen.facts) := by
  intro m ρ _
  exact (θ_run _ _ _).mono (fun r h => ⟨fun c => (h c).2, sem_eq_zero_of_no_sems (by decide) r.2⟩)
    (Cert.ConvBackReferenceIdeal.Value.run m ρ)

theorem frame_attnInReference :
    Cert.quiescent_AttnInReferenceIdeal (hAttnInReferenceIdeal := Cert.AttnInReferenceIdeal.Gen.facts) := by
  intro m ρ _
  exact (θ_run _ _ _).mono (fun r h => ⟨fun c => (h c).2, sem_eq_zero_of_no_sems (by decide) r.2⟩)
    (Cert.AttnInReferenceIdeal.Value.run m ρ)

theorem frame_convInReference :
    Cert.quiescent_ConvInReferenceIdeal (hConvInReferenceIdeal := Cert.ConvInReferenceIdeal.Gen.facts) := by
  intro m ρ _
  exact (θ_run _ _ _).mono (fun r h => ⟨fun c => (h c).2, sem_eq_zero_of_no_sems (by decide) r.2⟩)
    (Cert.ConvInReferenceIdeal.Value.run m ρ)

theorem frame_attnOutReference :
    Cert.quiescent_AttnOutReferenceIdeal (hAttnOutReferenceIdeal := Cert.AttnOutReferenceIdeal.Gen.facts) := by
  intro m ρ _
  exact (θ_run _ _ _).mono (fun r h => ⟨fun c => (h c).2.2, sem_eq_zero_of_no_sems (by decide) r.2⟩)
    (Cert.AttnOutReferenceIdeal.Value.run m ρ)

theorem frame_convOutReference :
    Cert.quiescent_ConvOutReferenceIdeal (hConvOutReferenceIdeal := Cert.ConvOutReferenceIdeal.Gen.facts) := by
  intro m ρ _
  exact (θ_run _ _ _).mono (fun r h => ⟨fun c => (h c).2.2, sem_eq_zero_of_no_sems (by decide) r.2⟩)
    (Cert.ConvOutReferenceIdeal.Value.run m ρ)

theorem frame_lastReference :
    Cert.quiescent_LastReferenceIdeal (hLastReferenceIdeal := Cert.LastReferenceIdeal.Gen.facts) := by
  intro m ρ _
  exact (θ_run _ _ _).mono (fun r h => ⟨fun c => (h c).2, sem_eq_zero_of_no_sems (by decide) r.2⟩)
    (Cert.LastReferenceIdeal.Value.run m ρ)

theorem frame_upStepReference :
    Cert.quiescent_UpStepReferenceIdeal (hUpStepReferenceIdeal := Cert.UpStepReferenceIdeal.Gen.facts) := by
  intro m ρ _
  exact (θ_run _ _ _).mono (fun r h => ⟨fun c => (h c).2.2.2, sem_eq_zero_of_no_sems (by decide) r.2⟩)
    (Cert.UpStepReferenceIdeal.Value.run m ρ)

theorem frame_downStepReference :
    Cert.quiescent_DownStepReferenceIdeal (hDownStepReferenceIdeal := Cert.DownStepReferenceIdeal.Gen.facts) := by
  intro m ρ _
  exact (θ_run _ _ _).mono (fun r h => ⟨fun c => (h c).2.2.2, sem_eq_zero_of_no_sems (by decide) r.2⟩)
    (Cert.DownStepReferenceIdeal.Value.run m ρ)

theorem frame_firstConvInputReference :
    Cert.quiescent_FirstConvInputReferenceIdeal (hFirstConvInputReferenceIdeal := Cert.FirstConvInputReferenceIdeal.Gen.facts) := by
  intro m ρ _
  exact (θ_run _ _ _).mono (fun r h => ⟨fun c => (h c).2.2.2, sem_eq_zero_of_no_sems (by decide) r.2⟩)
    (Cert.FirstConvInputReferenceIdeal.Value.run m ρ)

theorem frame_firstAttnBackReference :
    Cert.quiescent_FirstAttnBackReferenceIdeal (hFirstAttnBackReferenceIdeal := Cert.FirstAttnBackReferenceIdeal.Gen.facts) := by
  intro m ρ _
  exact (θ_run _ _ _).mono (fun r h => ⟨fun c => (h c).2, sem_eq_zero_of_no_sems (by decide) r.2⟩)
    (Cert.FirstAttnBackReferenceIdeal.Value.run m ρ)

theorem frame_firstConvBackReference :
    Cert.quiescent_FirstConvBackReferenceIdeal (hFirstConvBackReferenceIdeal := Cert.FirstConvBackReferenceIdeal.Gen.facts) := by
  intro m ρ _
  exact (θ_run _ _ _).mono (fun r h => ⟨fun c => (h c).2, sem_eq_zero_of_no_sems (by decide) r.2⟩)
    (Cert.FirstConvBackReferenceIdeal.Value.run m ρ)

theorem frame_firstConvInReference :
    Cert.quiescent_FirstConvInReferenceIdeal (hFirstConvInReferenceIdeal := Cert.FirstConvInReferenceIdeal.Gen.facts) := by
  intro m ρ _
  exact (θ_run _ _ _).mono (fun r h => ⟨fun c => (h c).2, sem_eq_zero_of_no_sems (by decide) r.2⟩)
    (Cert.FirstConvInReferenceIdeal.Value.run m ρ)

theorem frame_firstAttnOutReference :
    Cert.quiescent_FirstAttnOutReferenceIdeal (hFirstAttnOutReferenceIdeal := Cert.FirstAttnOutReferenceIdeal.Gen.facts) := by
  intro m ρ _
  exact (θ_run _ _ _).mono (fun r h => ⟨fun c => (h c).2.2, sem_eq_zero_of_no_sems (by decide) r.2⟩)
    (Cert.FirstAttnOutReferenceIdeal.Value.run m ρ)

theorem frame_firstConvOutReference :
    Cert.quiescent_FirstConvOutReferenceIdeal (hFirstConvOutReferenceIdeal := Cert.FirstConvOutReferenceIdeal.Gen.facts) := by
  intro m ρ _
  exact (θ_run _ _ _).mono (fun r h => ⟨fun c => (h c).2.2, sem_eq_zero_of_no_sems (by decide) r.2⟩)
    (Cert.FirstConvOutReferenceIdeal.Value.run m ρ)

theorem frame_mixStepReference :
    Cert.quiescent_MixStepReferenceIdeal (hMixStepReferenceIdeal := Cert.MixStepReferenceIdeal.Gen.facts) := by
  intro m ρ _
  exact (θ_run _ _ _).mono (fun r h => ⟨fun c => (h c).2.2.2, sem_eq_zero_of_no_sems (by decide) r.2⟩)
    (Cert.MixStepReferenceIdeal.Value.run m ρ)

theorem frame_convStepReference :
    Cert.quiescent_ConvStepReferenceIdeal (hConvStepReferenceIdeal := Cert.ConvStepReferenceIdeal.Gen.facts) := by
  intro m ρ _
  exact (θ_run _ _ _).mono (fun r h => ⟨fun c => (h c).2.2.2, sem_eq_zero_of_no_sems (by decide) r.2⟩)
    (Cert.ConvStepReferenceIdeal.Value.run m ρ)

theorem frame_squareStepReference :
    Cert.quiescent_SquareStepReferenceIdeal (hSquareStepReferenceIdeal := Cert.SquareStepReferenceIdeal.Gen.facts) := by
  intro m ρ _
  exact (θ_run _ _ _).mono (fun r h => ⟨fun c => (h c).2.2.2, sem_eq_zero_of_no_sems (by decide) r.2⟩)
    (Cert.SquareStepReferenceIdeal.Value.run m ρ)

theorem frame_normReference :
    Cert.quiescent_NormReferenceIdeal (hNormReferenceIdeal := Cert.NormReferenceIdeal.Gen.facts) := by
  intro m ρ _
  exact (θ_run _ _ _).mono (fun r h => ⟨fun c => (h c).2, sem_eq_zero_of_no_sems (by decide) r.2⟩)
    (Cert.NormReferenceIdeal.Value.run m ρ)

theorem frame_lossReference :
    Cert.quiescent_LossReferenceIdeal (hLossReferenceIdeal := Cert.LossReferenceIdeal.Gen.facts) := by
  intro m ρ _
  exact (θ_run _ _ _).mono (fun r h => ⟨fun c => (h c).2.2.2, sem_eq_zero_of_no_sems (by decide) r.2⟩)
    (Cert.LossReferenceIdeal.Value.run m ρ)

theorem frame_smallStepReference :
    Cert.quiescent_SmallStepReferenceIdeal (hSmallStepReferenceIdeal := Cert.SmallStepReferenceIdeal.Gen.facts) := by
  intro m ρ _
  exact (θ_run _ _ _).mono (fun r h => ⟨fun c => (h c).2.2.2, sem_eq_zero_of_no_sems (by decide) r.2⟩)
    (Cert.SmallStepReferenceIdeal.Value.run m ρ)

theorem claim : Cert.Claim :=
  ⟨Cert.Kernel.Gen.facts, Cert.KernelIdeal.Gen.facts, Cert.ReferenceIdeal.Gen.facts, Cert.WeightKernel.Gen.facts,
    Cert.WeightKernelIdeal.Gen.facts, Cert.WeightReferenceIdeal.Gen.facts, Cert.DownKernel.Gen.facts,
    Cert.DownKernelIdeal.Gen.facts, Cert.DownReferenceIdeal.Gen.facts, Cert.DownWeightKernel.Gen.facts,
    Cert.DownWeightKernelIdeal.Gen.facts, Cert.DownWeightReferenceIdeal.Gen.facts, Cert.UpKernel.Gen.facts,
    Cert.UpKernelIdeal.Gen.facts, Cert.UpReferenceIdeal.Gen.facts, Cert.OutKernel.Gen.facts,
    Cert.OutKernelIdeal.Gen.facts, Cert.OutReferenceIdeal.Gen.facts, Cert.ActKernel.Gen.facts,
    Cert.ActKernelIdeal.Gen.facts, Cert.ActReferenceIdeal.Gen.facts,
    Cert.MixKernel.Gen.facts, Cert.MixKernelIdeal.Gen.facts, Cert.MixReferenceIdeal.Gen.facts,
    Cert.MixWeightKernel.Gen.facts, Cert.MixWeightKernelIdeal.Gen.facts, Cert.MixWeightReferenceIdeal.Gen.facts,
    Cert.ConvWeightKernel.Gen.facts, Cert.ConvWeightKernelIdeal.Gen.facts, Cert.ConvWeightReferenceIdeal.Gen.facts,
    Cert.SquareWeightKernel.Gen.facts, Cert.SquareWeightKernelIdeal.Gen.facts, Cert.SquareWeightReferenceIdeal.Gen.facts,
    Cert.ConvInputKernel.Gen.facts, Cert.ConvInputKernelIdeal.Gen.facts, Cert.ConvInputReferenceIdeal.Gen.facts,
    Cert.AttnBackKernel.Gen.facts, Cert.AttnBackKernelIdeal.Gen.facts, Cert.AttnBackReferenceIdeal.Gen.facts,
    Cert.ConvBackKernel.Gen.facts, Cert.ConvBackKernelIdeal.Gen.facts, Cert.ConvBackReferenceIdeal.Gen.facts,
    Cert.AttnInKernel.Gen.facts, Cert.AttnInKernelIdeal.Gen.facts, Cert.AttnInReferenceIdeal.Gen.facts,
    Cert.ConvInKernel.Gen.facts, Cert.ConvInKernelIdeal.Gen.facts, Cert.ConvInReferenceIdeal.Gen.facts,
    Cert.AttnOutKernel.Gen.facts, Cert.AttnOutKernelIdeal.Gen.facts, Cert.AttnOutReferenceIdeal.Gen.facts,
    Cert.ConvOutKernel.Gen.facts, Cert.ConvOutKernelIdeal.Gen.facts, Cert.ConvOutReferenceIdeal.Gen.facts,
    Cert.LastKernel.Gen.facts, Cert.LastKernelIdeal.Gen.facts, Cert.LastReferenceIdeal.Gen.facts,
    Cert.UpStepKernel.Gen.facts, Cert.UpStepKernelIdeal.Gen.facts, Cert.UpStepReferenceIdeal.Gen.facts,
    Cert.DownStepKernel.Gen.facts, Cert.DownStepKernelIdeal.Gen.facts, Cert.DownStepReferenceIdeal.Gen.facts,
    Cert.FirstConvInputKernel.Gen.facts, Cert.FirstConvInputKernelIdeal.Gen.facts, Cert.FirstConvInputReferenceIdeal.Gen.facts,
    Cert.FirstAttnBackKernel.Gen.facts, Cert.FirstAttnBackKernelIdeal.Gen.facts, Cert.FirstAttnBackReferenceIdeal.Gen.facts,
    Cert.FirstConvBackKernel.Gen.facts, Cert.FirstConvBackKernelIdeal.Gen.facts, Cert.FirstConvBackReferenceIdeal.Gen.facts,
    Cert.FirstConvInKernel.Gen.facts, Cert.FirstConvInKernelIdeal.Gen.facts, Cert.FirstConvInReferenceIdeal.Gen.facts,
    Cert.FirstAttnOutKernel.Gen.facts, Cert.FirstAttnOutKernelIdeal.Gen.facts, Cert.FirstAttnOutReferenceIdeal.Gen.facts,
    Cert.FirstConvOutKernel.Gen.facts, Cert.FirstConvOutKernelIdeal.Gen.facts, Cert.FirstConvOutReferenceIdeal.Gen.facts,
    Cert.MixStepKernel.Gen.facts, Cert.MixStepKernelIdeal.Gen.facts, Cert.MixStepReferenceIdeal.Gen.facts,
    Cert.ConvStepKernel.Gen.facts, Cert.ConvStepKernelIdeal.Gen.facts, Cert.ConvStepReferenceIdeal.Gen.facts,
    Cert.SquareStepKernel.Gen.facts, Cert.SquareStepKernelIdeal.Gen.facts, Cert.SquareStepReferenceIdeal.Gen.facts,
    Cert.NormKernel.Gen.facts, Cert.NormKernelIdeal.Gen.facts, Cert.NormReferenceIdeal.Gen.facts,
    Cert.LossKernel.Gen.facts, Cert.LossKernelIdeal.Gen.facts, Cert.LossReferenceIdeal.Gen.facts,
    Cert.SmallStepKernel.Gen.facts, Cert.SmallStepKernelIdeal.Gen.facts, Cert.SmallStepReferenceIdeal.Gen.facts,
    fun m ρ _ => Cert.Kernel.Gen.frame m ρ, fun m ρ _ => Cert.KernelIdeal.Gen.frame m ρ, frame_reference,
    fun m ρ _ => Cert.WeightKernel.Gen.frame m ρ, fun m ρ _ => Cert.WeightKernelIdeal.Gen.frame m ρ,
    frame_weightReference,
    fun m ρ _ => Cert.DownKernel.Gen.frame m ρ, fun m ρ _ => Cert.DownKernelIdeal.Gen.frame m ρ, frame_downReference,
    fun m ρ _ => Cert.DownWeightKernel.Gen.frame m ρ, fun m ρ _ => Cert.DownWeightKernelIdeal.Gen.frame m ρ,
    frame_downWeightReference,
    fun m ρ _ => Cert.UpKernel.Gen.frame m ρ, fun m ρ _ => Cert.UpKernelIdeal.Gen.frame m ρ, frame_upReference,
    fun m ρ _ => Cert.OutKernel.Gen.frame m ρ, fun m ρ _ => Cert.OutKernelIdeal.Gen.frame m ρ, frame_outReference,
    fun m ρ _ => Cert.ActKernel.Gen.frame m ρ, fun m ρ _ => Cert.ActKernelIdeal.Gen.frame m ρ, frame_actReference,
    fun m ρ _ => Cert.MixKernel.Gen.frame m ρ, fun m ρ _ => Cert.MixKernelIdeal.Gen.frame m ρ,
    frame_mixReference,
    fun m ρ _ => Cert.MixWeightKernel.Gen.frame m ρ, fun m ρ _ => Cert.MixWeightKernelIdeal.Gen.frame m ρ,
    frame_mixWeightReference,
    fun m ρ _ => Cert.ConvWeightKernel.Gen.frame m ρ, fun m ρ _ => Cert.ConvWeightKernelIdeal.Gen.frame m ρ,
    frame_convWeightReference,
    fun m ρ _ => Cert.SquareWeightKernel.Gen.frame m ρ, fun m ρ _ => Cert.SquareWeightKernelIdeal.Gen.frame m ρ,
    frame_squareWeightReference,
    fun m ρ _ => Cert.ConvInputKernel.Gen.frame m ρ, fun m ρ _ => Cert.ConvInputKernelIdeal.Gen.frame m ρ,
    frame_convInputReference,
    fun m ρ _ => Cert.AttnBackKernel.Gen.frame m ρ, fun m ρ _ => Cert.AttnBackKernelIdeal.Gen.frame m ρ,
    frame_attnBackReference,
    fun m ρ _ => Cert.ConvBackKernel.Gen.frame m ρ, fun m ρ _ => Cert.ConvBackKernelIdeal.Gen.frame m ρ,
    frame_convBackReference,
    fun m ρ _ => Cert.AttnInKernel.Gen.frame m ρ, fun m ρ _ => Cert.AttnInKernelIdeal.Gen.frame m ρ,
    frame_attnInReference,
    fun m ρ _ => Cert.ConvInKernel.Gen.frame m ρ, fun m ρ _ => Cert.ConvInKernelIdeal.Gen.frame m ρ,
    frame_convInReference,
    fun m ρ _ => Cert.AttnOutKernel.Gen.frame m ρ, fun m ρ _ => Cert.AttnOutKernelIdeal.Gen.frame m ρ,
    frame_attnOutReference,
    fun m ρ _ => Cert.ConvOutKernel.Gen.frame m ρ, fun m ρ _ => Cert.ConvOutKernelIdeal.Gen.frame m ρ,
    frame_convOutReference,
    fun m ρ _ => Cert.LastKernel.Gen.frame m ρ, fun m ρ _ => Cert.LastKernelIdeal.Gen.frame m ρ,
    frame_lastReference,
    fun m ρ _ => Cert.UpStepKernel.Gen.frame m ρ, fun m ρ _ => Cert.UpStepKernelIdeal.Gen.frame m ρ,
    frame_upStepReference,
    fun m ρ _ => Cert.DownStepKernel.Gen.frame m ρ, fun m ρ _ => Cert.DownStepKernelIdeal.Gen.frame m ρ,
    frame_downStepReference,
    fun m ρ _ => Cert.FirstConvInputKernel.Gen.frame m ρ, fun m ρ _ => Cert.FirstConvInputKernelIdeal.Gen.frame m ρ,
    frame_firstConvInputReference,
    fun m ρ _ => Cert.FirstAttnBackKernel.Gen.frame m ρ, fun m ρ _ => Cert.FirstAttnBackKernelIdeal.Gen.frame m ρ,
    frame_firstAttnBackReference,
    fun m ρ _ => Cert.FirstConvBackKernel.Gen.frame m ρ, fun m ρ _ => Cert.FirstConvBackKernelIdeal.Gen.frame m ρ,
    frame_firstConvBackReference,
    fun m ρ _ => Cert.FirstConvInKernel.Gen.frame m ρ, fun m ρ _ => Cert.FirstConvInKernelIdeal.Gen.frame m ρ,
    frame_firstConvInReference,
    fun m ρ _ => Cert.FirstAttnOutKernel.Gen.frame m ρ, fun m ρ _ => Cert.FirstAttnOutKernelIdeal.Gen.frame m ρ,
    frame_firstAttnOutReference,
    fun m ρ _ => Cert.FirstConvOutKernel.Gen.frame m ρ, fun m ρ _ => Cert.FirstConvOutKernelIdeal.Gen.frame m ρ,
    frame_firstConvOutReference,
    fun m ρ _ => Cert.MixStepKernel.Gen.frame m ρ, fun m ρ _ => Cert.MixStepKernelIdeal.Gen.frame m ρ,
    frame_mixStepReference,
    fun m ρ _ => Cert.ConvStepKernel.Gen.frame m ρ, fun m ρ _ => Cert.ConvStepKernelIdeal.Gen.frame m ρ,
    frame_convStepReference,
    fun m ρ _ => Cert.SquareStepKernel.Gen.frame m ρ, fun m ρ _ => Cert.SquareStepKernelIdeal.Gen.frame m ρ,
    frame_squareStepReference,
    fun m ρ _ => Cert.NormKernel.Gen.frame m ρ, fun m ρ _ => Cert.NormKernelIdeal.Gen.frame m ρ,
    frame_normReference,
    fun m ρ _ => Cert.LossKernel.Gen.frame m ρ, fun m ρ _ => Cert.LossKernelIdeal.Gen.frame m ρ,
    frame_lossReference,
    fun m ρ _ => Cert.SmallStepKernel.Gen.frame m ρ, fun m ρ _ => Cert.SmallStepKernelIdeal.Gen.frame m ρ,
    frame_smallStepReference,
    trivial, Cert.InputGradient.algebraic, trivial, Cert.WeightGradient.algebraic,
    trivial, Cert.DownGradient.algebraic, trivial, Cert.DownWeightGradient.algebraic,
    trivial, Cert.UpProjection.algebraic, trivial, Cert.BlockOutput.algebraic,
    trivial, Cert.Activation.algebraic,
    trivial, Cert.MixInput.algebraic,
    trivial, Cert.MixWeight.algebraic,
    trivial, Cert.ConvWeight.algebraic,
    trivial, Cert.SquareWeight.algebraic,
    trivial, Cert.ConvolutionInput.algebraic,
    trivial, Cert.AttentionBack.algebraic,
    trivial, Cert.ConvolutionBack.algebraic,
    trivial, Cert.AttentionIn.algebraic,
    trivial, Cert.ConvolutionIn.algebraic,
    trivial, Cert.AttentionOut.algebraic,
    trivial, Cert.ConvolutionOut.algebraic,
    trivial, Cert.LastOutput.algebraic,
    trivial, Cert.UpStep.algebraic,
    trivial, Cert.DownStep.algebraic,
    trivial, Cert.FirstConvolutionInput.algebraic,
    trivial, Cert.FirstAttentionBack.algebraic,
    trivial, Cert.FirstConvolutionBack.algebraic,
    trivial, Cert.FirstConvolutionIn.algebraic,
    trivial, Cert.FirstAttentionOut.algebraic,
    trivial, Cert.FirstConvolutionOut.algebraic,
    trivial, Cert.MixStep.algebraic,
    trivial, Cert.ConvStep.algebraic,
    trivial, Cert.SquareStep.algebraic,
    trivial, Cert.Norm.algebraic,
    trivial, Cert.Loss.algebraic,
    trivial, Cert.SmallStep.algebraic⟩

end Cert.Proof

end
